-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_NormRes (m : (ℓ : Loc Cert.NormRes.nD Cert.NormRes.τ Cert.NormRes.sig) → Buf (Elt Bits) ℓ) : Prop :=
  True

def Pre_NormResIdeal (m : (ℓ : Loc Cert.NormResIdeal.nD Cert.NormResIdeal.τ Cert.NormResIdeal.sig) → Buf (Elt Ideal) ℓ) : Prop :=
  True

def Pre_NormResRefIdeal (m : (ℓ : Loc Cert.NormResRefIdeal.nD Cert.NormResRefIdeal.τ Cert.NormResRefIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_QNorm (m : (ℓ : Loc Cert.QNorm.nD Cert.QNorm.τ Cert.QNorm.sig) → Buf (Elt Bits) ℓ) : Prop :=
  True

def Pre_QNormIdeal (m : (ℓ : Loc Cert.QNormIdeal.nD Cert.QNormIdeal.τ Cert.QNormIdeal.sig) → Buf (Elt Ideal) ℓ) : Prop :=
  True

def Pre_QNormRefIdeal (m : (ℓ : Loc Cert.QNormRefIdeal.nD Cert.QNormRefIdeal.τ Cert.QNormRefIdeal.sig) → Buf (Elt Ideal) ℓ) : Prop :=
  True

def Pre_QkvNorm (m : (ℓ : Loc Cert.QkvNorm.nD Cert.QkvNorm.τ Cert.QkvNorm.sig) → Buf (Elt Bits) ℓ) : Prop :=
  True

def Pre_QkvNormIdeal (m : (ℓ : Loc Cert.QkvNormIdeal.nD Cert.QkvNormIdeal.τ Cert.QkvNormIdeal.sig) → Buf (Elt Ideal) ℓ) : Prop :=
  True

def Pre_QkvNormRefIdeal (m : (ℓ : Loc Cert.QkvNormRefIdeal.nD Cert.QkvNormRefIdeal.τ Cert.QkvNormRefIdeal.sig) → Buf (Elt Ideal) ℓ) : Prop :=
  True

def Pre_UpNorm (m : (ℓ : Loc Cert.UpNorm.nD Cert.UpNorm.τ Cert.UpNorm.sig) → Buf (Elt Bits) ℓ) : Prop :=
  True

def Pre_UpNormIdeal (m : (ℓ : Loc Cert.UpNormIdeal.nD Cert.UpNormIdeal.τ Cert.UpNormIdeal.sig) → Buf (Elt Ideal) ℓ) : Prop :=
  True

def Pre_UpNormRefIdeal (m : (ℓ : Loc Cert.UpNormRefIdeal.nD Cert.UpNormRefIdeal.τ Cert.UpNormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_PoolProj (m : (ℓ : Loc Cert.PoolProj.nD Cert.PoolProj.τ Cert.PoolProj.sig) → Buf (Elt Bits) ℓ) : Prop :=
  True

def Pre_PoolProjIdeal (m : (ℓ : Loc Cert.PoolProjIdeal.nD Cert.PoolProjIdeal.τ Cert.PoolProjIdeal.sig) → Buf (Elt Ideal) ℓ) : Prop :=
  True

def Pre_PoolProjRefIdeal (m : (ℓ : Loc Cert.PoolProjRefIdeal.nD Cert.PoolProjRefIdeal.τ Cert.PoolProjRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_xattn_finite [hPre_xattn_finite : Cert.Pre_xattn_finite.Facts] (m : (ℓ : Loc Cert.XattnIdeal.nD Cert.XattnIdeal.τ Cert.XattnIdeal.sig) → Buf (Elt Ideal) ℓ) : Prop :=
  ∀ c : Dev Cert.XattnIdeal.nD,
    (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).1 = (fun _ => 1#1)
    ∧ (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).2.1 = (fun _ => 1#1)
    ∧ (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).2.2 = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_xattn_finite [hPre_xattn_finite : Cert.Pre_xattn_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))).1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))).2.1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.2 = (fun _ => 1#1)

def Pre_PoolWin (m : (ℓ : Loc Cert.PoolWin.nD Cert.PoolWin.τ Cert.PoolWin.sig) → Buf (Elt Bits) ℓ) : Prop :=
  True

def Pre_PoolWinIdeal (m : (ℓ : Loc Cert.PoolWinIdeal.nD Cert.PoolWinIdeal.τ Cert.PoolWinIdeal.sig) → Buf (Elt Ideal) ℓ) : Prop :=
  True

def Pre_PoolWinIdeal_poolwin_finite [hPre_poolwin_finite : Cert.Pre_poolwin_finite.Facts] (m : (ℓ : Loc Cert.PoolWinIdeal.nD Cert.PoolWinIdeal.τ Cert.PoolWinIdeal.sig) → Buf (Elt Ideal) ℓ) : Prop :=
  ∀ c : Dev Cert.PoolWinIdeal.nD,
    (Cert.Pre_poolwin_finite.fn (F := Ideal) (m ((c.tc : Thread Cert.PoolWinIdeal.nD Cert.PoolWinIdeal.τ).loc Cert.PoolWinIdeal.main_arg0))) = (fun _ => 1#1)

def Pre_PoolWinRefIdeal (m : (ℓ : Loc Cert.PoolWinRefIdeal.nD Cert.PoolWinRefIdeal.τ Cert.PoolWinRefIdeal.sig) → Buf (Elt Ideal) ℓ) : Prop :=
  True

def Pre_PoolWinRefIdeal_poolwin_finite [hPre_poolwin_finite : Cert.Pre_poolwin_finite.Facts] (m : (ℓ : Loc Cert.PoolWinRefIdeal.nD Cert.PoolWinRefIdeal.τ Cert.PoolWinRefIdeal.sig) → Buf (Elt Ideal) ℓ) : Prop :=
  ∀ c : Dev Cert.PoolWinRefIdeal.nD,
    (Cert.Pre_poolwin_finite.fn (F := Ideal) (m ((c.tc : Thread Cert.PoolWinRefIdeal.nD Cert.PoolWinRefIdeal.τ).loc Cert.PoolWinRefIdeal.main_arg0))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ResNorm (m : (ℓ : Loc Cert.ResNorm.nD Cert.ResNorm.τ Cert.ResNorm.sig) → Buf (Elt Bits) ℓ) : Prop :=
  True

def Pre_ResNormIdeal (m : (ℓ : Loc Cert.ResNormIdeal.nD Cert.ResNormIdeal.τ Cert.ResNormIdeal.sig) → Buf (Elt Ideal) ℓ) : Prop :=
  True

def Pre_ResNormRefIdeal (m : (ℓ : Loc Cert.ResNormRefIdeal.nD Cert.ResNormRefIdeal.τ Cert.ResNormRefIdeal.sig) → Buf (Elt Ideal) ℓ) : Prop :=
  True

def Pre_PoolOut (m : (ℓ : Loc Cert.PoolOut.nD Cert.PoolOut.τ Cert.PoolOut.sig) → Buf (Elt Bits) ℓ) : Prop :=
  True

def Pre_PoolOutIdeal (m : (ℓ : Loc Cert.PoolOutIdeal.nD Cert.PoolOutIdeal.τ Cert.PoolOutIdeal.sig) → Buf (Elt Ideal) ℓ) : Prop :=
  True

def Pre_PoolOutRefIdeal (m : (ℓ : Loc Cert.PoolOutRefIdeal.nD Cert.PoolOutRefIdeal.τ Cert.PoolOutRefIdeal.sig) → Buf (Elt Ideal) ℓ) : Prop :=
  True

def Pre_XattnOut (m : (ℓ : Loc Cert.XattnOut.nD Cert.XattnOut.τ Cert.XattnOut.sig) → Buf (Elt Bits) ℓ) : Prop :=
  True

def Pre_XattnOutIdeal (m : (ℓ : Loc Cert.XattnOutIdeal.nD Cert.XattnOutIdeal.τ Cert.XattnOutIdeal.sig) → Buf (Elt Ideal) ℓ) : Prop :=
  True

def Pre_XattnOutIdeal_xattnout_finite [hPre_xattnout_finite : Cert.Pre_xattnout_finite.Facts] (m : (ℓ : Loc Cert.XattnOutIdeal.nD Cert.XattnOutIdeal.τ Cert.XattnOutIdeal.sig) → Buf (Elt Ideal) ℓ) : Prop :=
  ∀ c : Dev Cert.XattnOutIdeal.nD,
    (Cert.Pre_xattnout_finite.fn (F := Ideal) (m ((c.tc : Thread Cert.XattnOutIdeal.nD Cert.XattnOutIdeal.τ).loc Cert.XattnOutIdeal.main_arg0)) (m ((c.tc : Thread Cert.XattnOutIdeal.nD Cert.XattnOutIdeal.τ).loc Cert.XattnOutIdeal.main_arg1))).1 = (fun _ => 1#1)
    ∧ (Cert.Pre_xattnout_finite.fn (F := Ideal) (m ((c.tc : Thread Cert.XattnOutIdeal.nD Cert.XattnOutIdeal.τ).loc Cert.XattnOutIdeal.main_arg0)) (m ((c.tc : Thread Cert.XattnOutIdeal.nD Cert.XattnOutIdeal.τ).loc Cert.XattnOutIdeal.main_arg1))).2 = (fun _ => 1#1)

def Pre_XattnOutRefIdeal (m : (ℓ : Loc Cert.XattnOutRefIdeal.nD Cert.XattnOutRefIdeal.τ Cert.XattnOutRefIdeal.sig) → Buf (Elt Ideal) ℓ) : Prop :=
  True

def Pre_XattnOutRefIdeal_xattnout_finite [hPre_xattnout_finite : Cert.Pre_xattnout_finite.Facts] (m : (ℓ : Loc Cert.XattnOutRefIdeal.nD Cert.XattnOutRefIdeal.τ Cert.XattnOutRefIdeal.sig) → Buf (Elt Ideal) ℓ) : Prop :=
  ∀ c : Dev Cert.XattnOutRefIdeal.nD,
    (Cert.Pre_xattnout_finite.fn (F := Ideal) (m ((c.tc : Thread Cert.XattnOutRefIdeal.nD Cert.XattnOutRefIdeal.τ).loc Cert.XattnOutRefIdeal.main_arg0)) (m ((c.tc : Thread Cert.XattnOutRefIdeal.nD Cert.XattnOutRefIdeal.τ).loc Cert.XattnOutRefIdeal.main_arg1))).1 = (fun _ => 1#1)
    ∧ (Cert.Pre_xattnout_finite.fn (F := Ideal) (m ((c.tc : Thread Cert.XattnOutRefIdeal.nD Cert.XattnOutRefIdeal.τ).loc Cert.XattnOutRefIdeal.main_arg0)) (m ((c.tc : Thread Cert.XattnOutRefIdeal.nD Cert.XattnOutRefIdeal.τ).loc Cert.XattnOutRefIdeal.main_arg1))).2 = (fun _ => 1#1)

def Pre_PoolMean (m : (ℓ : Loc Cert.PoolMean.nD Cert.PoolMean.τ Cert.PoolMean.sig) → Buf (Elt Bits) ℓ) : Prop :=
  True

def Pre_PoolMeanIdeal (m : (ℓ : Loc Cert.PoolMeanIdeal.nD Cert.PoolMeanIdeal.τ Cert.PoolMeanIdeal.sig) → Buf (Elt Ideal) ℓ) : Prop :=
  True

def Pre_PoolMeanIdeal_poolmean_finite [hPre_poolmean_finite : Cert.Pre_poolmean_finite.Facts] (m : (ℓ : Loc Cert.PoolMeanIdeal.nD Cert.PoolMeanIdeal.τ Cert.PoolMeanIdeal.sig) → Buf (Elt Ideal) ℓ) : Prop :=
  ∀ c : Dev Cert.PoolMeanIdeal.nD,
    (Cert.Pre_poolmean_finite.fn (F := Ideal) (m ((c.tc : Thread Cert.PoolMeanIdeal.nD Cert.PoolMeanIdeal.τ).loc Cert.PoolMeanIdeal.main_arg0))) = (fun _ => 1#1)

def Pre_PoolMeanRefIdeal (m : (ℓ : Loc Cert.PoolMeanRefIdeal.nD Cert.PoolMeanRefIdeal.τ Cert.PoolMeanRefIdeal.sig) → Buf (Elt Ideal) ℓ) : Prop :=
  True

def Pre_PoolMeanRefIdeal_poolmean_finite [hPre_poolmean_finite : Cert.Pre_poolmean_finite.Facts] (m : (ℓ : Loc Cert.PoolMeanRefIdeal.nD Cert.PoolMeanRefIdeal.τ Cert.PoolMeanRefIdeal.sig) → Buf (Elt Ideal) ℓ) : Prop :=
  ∀ c : Dev Cert.PoolMeanRefIdeal.nD,
    (Cert.Pre_poolmean_finite.fn (F := Ideal) (m ((c.tc : Thread Cert.PoolMeanRefIdeal.nD Cert.PoolMeanRefIdeal.τ).loc Cert.PoolMeanRefIdeal.main_arg0))) = (fun _ => 1#1)

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_MmNn (m : (ℓ : Loc Cert.MmNn.nD Cert.MmNn.τ Cert.MmNn.sig) → Buf (Elt Bits) ℓ) : Prop :=
  True

def Pre_MmNnIdeal (m : (ℓ : Loc Cert.MmNnIdeal.nD Cert.MmNnIdeal.τ Cert.MmNnIdeal.sig) → Buf (Elt Ideal) ℓ) : Prop :=
  True

def Pre_MmNnRefIdeal (m : (ℓ : Loc Cert.MmNnRefIdeal.nD Cert.MmNnRefIdeal.τ Cert.MmNnRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_MmKv (m : (ℓ : Loc Cert.MmKv.nD Cert.MmKv.τ Cert.MmKv.sig) → Buf (Elt Bits) ℓ) : Prop :=
  True

def Pre_MmKvIdeal (m : (ℓ : Loc Cert.MmKvIdeal.nD Cert.MmKvIdeal.τ Cert.MmKvIdeal.sig) → Buf (Elt Ideal) ℓ) : Prop :=
  True

def Pre_MmKvRefIdeal (m : (ℓ : Loc Cert.MmKvRefIdeal.nD Cert.MmKvRefIdeal.τ Cert.MmKvRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_MmKvDw (m : (ℓ : Loc Cert.MmKvDw.nD Cert.MmKvDw.τ Cert.MmKvDw.sig) → Buf (Elt Bits) ℓ) : Prop :=
  True

def Pre_MmKvDwIdeal (m : (ℓ : Loc Cert.MmKvDwIdeal.nD Cert.MmKvDwIdeal.τ Cert.MmKvDwIdeal.sig) → Buf (Elt Ideal) ℓ) : Prop :=
  True

def Pre_MmKvDwRefIdeal (m : (ℓ : Loc Cert.MmKvDwRefIdeal.nD Cert.MmKvDwRefIdeal.τ Cert.MmKvDwRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_NormRes [hNormRes : Cert.NormRes.Facts] : Prop :=
  ∀ (m : (ℓ : Loc Cert.NormRes.nD Cert.NormRes.τ Cert.NormRes.sig) → Buf (Elt Bits) ℓ) (g : Dev Cert.NormRes.nD → PrngReg), Pre_NormRes m →
    θ_run (Cert.NormRes.defs (F := Bits)) (onTc (τ := Cert.NormRes.τ) (Cert.NormRes.main (F := Bits))) ⟨m, fun _ => 0, g⟩ (fun r => (∀ c : Dev Cert.NormRes.nD,
      r.2.mem ((c.tc : Thread Cert.NormRes.nD Cert.NormRes.τ).loc Cert.NormRes.main_arg0) = m ((c.tc : Thread Cert.NormRes.nD Cert.NormRes.τ).loc Cert.NormRes.main_arg0)
      ∧ r.2.mem ((c.tc : Thread Cert.NormRes.nD Cert.NormRes.τ).loc Cert.NormRes.main_arg1) = m ((c.tc : Thread Cert.NormRes.nD Cert.NormRes.τ).loc Cert.NormRes.main_arg1)
      ∧ r.2.mem ((c.tc : Thread Cert.NormRes.nD Cert.NormRes.τ).loc Cert.NormRes.main_arg2) = m ((c.tc : Thread Cert.NormRes.nD Cert.NormRes.τ).loc Cert.NormRes.main_arg2)
      ∧ r.2.mem ((c.tc : Thread Cert.NormRes.nD Cert.NormRes.τ).loc Cert.NormRes.main_arg3) = m ((c.tc : Thread Cert.NormRes.nD Cert.NormRes.τ).loc Cert.NormRes.main_arg3))
      ∧ r.2.sem = fun _ => 0)

def quiescent_NormResIdeal [hNormResIdeal : Cert.NormResIdeal.Facts] : Prop :=
  ∀ (m : (ℓ : Loc Cert.NormResIdeal.nD Cert.NormResIdeal.τ Cert.NormResIdeal.sig) → Buf (Elt Ideal) ℓ) (g : Dev Cert.NormResIdeal.nD → PrngReg), Pre_NormResIdeal m →
    θ_run (Cert.NormResIdeal.defs (F := Ideal)) (onTc (τ := Cert.NormResIdeal.τ) (Cert.NormResIdeal.main (F := Ideal))) ⟨m, fun _ => 0, g⟩ (fun r => (∀ c : Dev Cert.NormResIdeal.nD,
      r.2.mem ((c.tc : Thread Cert.NormResIdeal.nD Cert.NormResIdeal.τ).loc Cert.NormResIdeal.main_arg0) = m ((c.tc : Thread Cert.NormResIdeal.nD Cert.NormResIdeal.τ).loc Cert.NormResIdeal.main_arg0)
      ∧ r.2.mem ((c.tc : Thread Cert.NormResIdeal.nD Cert.NormResIdeal.τ).loc Cert.NormResIdeal.main_arg1) = m ((c.tc : Thread Cert.NormResIdeal.nD Cert.NormResIdeal.τ).loc Cert.NormResIdeal.main_arg1)
      ∧ r.2.mem ((c.tc : Thread Cert.NormResIdeal.nD Cert.NormResIdeal.τ).loc Cert.NormResIdeal.main_arg2) = m ((c.tc : Thread Cert.NormResIdeal.nD Cert.NormResIdeal.τ).loc Cert.NormResIdeal.main_arg2)
      ∧ r.2.mem ((c.tc : Thread Cert.NormResIdeal.nD Cert.NormResIdeal.τ).loc Cert.NormResIdeal.main_arg3) = m ((c.tc : Thread Cert.NormResIdeal.nD Cert.NormResIdeal.τ).loc Cert.NormResIdeal.main_arg3))
      ∧ r.2.sem = fun _ => 0)

def quiescent_NormResRefIdeal [hNormResRefIdeal : Cert.NormResRefIdeal.Facts] : Prop :=
  ∀ (m : (ℓ : Loc Cert.NormResRefIdeal.nD Cert.NormResRefIdeal.τ Cert.NormResRefIdeal.sig) → Buf (Elt Ideal) ℓ) (g : Dev Cert.NormResRefIdeal.nD → PrngReg), Pre_NormResRefIdeal m →
    θ_run (Cert.NormResRefIdeal.defs (F := Ideal)) (onTc (τ := Cert.NormResRefIdeal.τ) (Cert.NormResRefIdeal.main (F := Ideal))) ⟨m, fun _ => 0, g⟩ (fun r => (∀ c : Dev Cert.NormResRefIdeal.nD,
      r.2.mem ((c.tc : Thread Cert.NormResRefIdeal.nD Cert.NormResRefIdeal.τ).loc Cert.NormResRefIdeal.main_arg0) = m ((c.tc : Thread Cert.NormResRefIdeal.nD Cert.NormResRefIdeal.τ).loc Cert.NormResRefIdeal.main_arg0)
      ∧ r.2.mem ((c.tc : Thread Cert.NormResRefIdeal.nD Cert.NormResRefIdeal.τ).loc Cert.NormResRefIdeal.main_arg1) = m ((c.tc : Thread Cert.NormResRefIdeal.nD Cert.NormResRefIdeal.τ).loc Cert.NormResRefIdeal.main_arg1)
      ∧ r.2.mem ((c.tc : Thread Cert.NormResRefIdeal.nD Cert.NormResRefIdeal.τ).loc Cert.NormResRefIdeal.main_arg2) = m ((c.tc : Thread Cert.NormResRefIdeal.nD Cert.NormResRefIdeal.τ).loc Cert.NormResRefIdeal.main_arg2)
      ∧ r.2.mem ((c.tc : Thread Cert.NormResRefIdeal.nD Cert.NormResRefIdeal.τ).loc Cert.NormResRefIdeal.main_arg3) = m ((c.tc : Thread Cert.NormResRefIdeal.nD Cert.NormResRefIdeal.τ).loc Cert.NormResRefIdeal.main_arg3))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1)
      ∧ r.2.mem ((c.tc : Thread Cert.NormMem.nD Cert.NormMem.τ).loc Cert.NormMem.main_arg2) = m ((c.tc : Thread Cert.NormMem.nD Cert.NormMem.τ).loc Cert.NormMem.main_arg2))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
      ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1)
      ∧ r.2.mem ((c.tc : Thread Cert.NormMemRefIdeal.nD Cert.NormMemRefIdeal.τ).loc Cert.NormMemRefIdeal.main_arg2) = m ((c.tc : Thread Cert.NormMemRefIdeal.nD Cert.NormMemRefIdeal.τ).loc Cert.NormMemRefIdeal.main_arg2))
      ∧ r.2.sem = fun _ => 0)

def quiescent_QNorm [hQNorm : Cert.QNorm.Facts] : Prop :=
  ∀ (m : (ℓ : Loc Cert.QNorm.nD Cert.QNorm.τ Cert.QNorm.sig) → Buf (Elt Bits) ℓ) (g : Dev Cert.QNorm.nD → PrngReg), Pre_QNorm m →
    θ_run (Cert.QNorm.defs (F := Bits)) (onTc (τ := Cert.QNorm.τ) (Cert.QNorm.main (F := Bits))) ⟨m, fun _ => 0, g⟩ (fun r => (∀ c : Dev Cert.QNorm.nD,
      r.2.mem ((c.tc : Thread Cert.QNorm.nD Cert.QNorm.τ).loc Cert.QNorm.main_arg0) = m ((c.tc : Thread Cert.QNorm.nD Cert.QNorm.τ).loc Cert.QNorm.main_arg0)
      ∧ r.2.mem ((c.tc : Thread Cert.QNorm.nD Cert.QNorm.τ).loc Cert.QNorm.main_arg1) = m ((c.tc : Thread Cert.QNorm.nD Cert.QNorm.τ).loc Cert.QNorm.main_arg1)
      ∧ r.2.mem ((c.tc : Thread Cert.QNorm.nD Cert.QNorm.τ).loc Cert.QNorm.main_arg2) = m ((c.tc : Thread Cert.QNorm.nD Cert.QNorm.τ).loc Cert.QNorm.main_arg2)
      ∧ r.2.mem ((c.tc : Thread Cert.QNorm.nD Cert.QNorm.τ).loc Cert.QNorm.main_arg3) = m ((c.tc : Thread Cert.QNorm.nD Cert.QNorm.τ).loc Cert.QNorm.main_arg3)
      ∧ r.2.mem ((c.tc : Thread Cert.QNorm.nD Cert.QNorm.τ).loc Cert.QNorm.main_arg4) = m ((c.tc : Thread Cert.QNorm.nD Cert.QNorm.τ).loc Cert.QNorm.main_arg4))
      ∧ r.2.sem = fun _ => 0)

def quiescent_QNormIdeal [hQNormIdeal : Cert.QNormIdeal.Facts] : Prop :=
  ∀ (m : (ℓ : Loc Cert.QNormIdeal.nD Cert.QNormIdeal.τ Cert.QNormIdeal.sig) → Buf (Elt Ideal) ℓ) (g : Dev Cert.QNormIdeal.nD → PrngReg), Pre_QNormIdeal m →
    θ_run (Cert.QNormIdeal.defs (F := Ideal)) (onTc (τ := Cert.QNormIdeal.τ) (Cert.QNormIdeal.main (F := Ideal))) ⟨m, fun _ => 0, g⟩ (fun r => (∀ c : Dev Cert.QNormIdeal.nD,
      r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
      ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1)
      ∧ r.2.mem ((c.tc : Thread Cert.QNormIdeal.nD Cert.QNormIdeal.τ).loc Cert.QNormIdeal.main_arg2) = m ((c.tc : Thread Cert.QNormIdeal.nD Cert.QNormIdeal.τ).loc Cert.QNormIdeal.main_arg2)
      ∧ r.2.mem ((c.tc : Thread Cert.QNormIdeal.nD Cert.QNormIdeal.τ).loc Cert.QNormIdeal.main_arg3) = m ((c.tc : Thread Cert.QNormIdeal.nD Cert.QNormIdeal.τ).loc Cert.QNormIdeal.main_arg3)
      ∧ r.2.mem ((c.tc : Thread Cert.QNormIdeal.nD Cert.QNormIdeal.τ).loc Cert.QNormIdeal.main_arg4) = m ((c.tc : Thread Cert.QNormIdeal.nD Cert.QNormIdeal.τ).loc Cert.QNormIdeal.main_arg4))
      ∧ r.2.sem = fun _ => 0)

def quiescent_QNormRefIdeal [hQNormRefIdeal : Cert.QNormRefIdeal.Facts] : Prop :=
  ∀ (m : (ℓ : Loc Cert.QNormRefIdeal.nD Cert.QNormRefIdeal.τ Cert.QNormRefIdeal.sig) → Buf (Elt Ideal) ℓ) (g : Dev Cert.QNormRefIdeal.nD → PrngReg), Pre_QNormRefIdeal m →
    θ_run (Cert.QNormRefIdeal.defs (F := Ideal)) (onTc (τ := Cert.QNormRefIdeal.τ) (Cert.QNormRefIdeal.main (F := Ideal))) ⟨m, fun _ => 0, g⟩ (fun r => (∀ c : Dev Cert.QNormRefIdeal.nD,
      r.2.mem ((c.tc : Thread Cert.QNormRefIdeal.nD Cert.QNormRefIdeal.τ).loc Cert.QNormRefIdeal.main_arg0) = m ((c.tc : Thread Cert.QNormRefIdeal.nD Cert.QNormRefIdeal.τ).loc Cert.QNormRefIdeal.main_arg0)
      ∧ r.2.mem ((c.tc : Thread Cert.QNormRefIdeal.nD Cert.QNormRefIdeal.τ).loc Cert.QNormRefIdeal.main_arg1) = m ((c.tc : Thread Cert.QNormRefIdeal.nD Cert.QNormRefIdeal.τ).loc Cert.QNormRefIdeal.main_arg1)
      ∧ r.2.mem ((c.tc : Thread Cert.QNormRefIdeal.nD Cert.QNormRefIdeal.τ).loc Cert.QNormRefIdeal.main_arg2) = m ((c.tc : Thread Cert.QNormRefIdeal.nD Cert.QNormRefIdeal.τ).loc Cert.QNormRefIdeal.main_arg2)
      ∧ r.2.mem ((c.tc : Thread Cert.QNormRefIdeal.nD Cert.QNormRefIdeal.τ).loc Cert.QNormRefIdeal.main_arg3) = m ((c.tc : Thread Cert.QNormRefIdeal.nD Cert.QNormRefIdeal.τ).loc Cert.QNormRefIdeal.main_arg3)
      ∧ r.2.mem ((c.tc : Thread Cert.QNormRefIdeal.nD Cert.QNormRefIdeal.τ).loc Cert.QNormRefIdeal.main_arg4) = m ((c.tc : Thread Cert.QNormRefIdeal.nD Cert.QNormRefIdeal.τ).loc Cert.QNormRefIdeal.main_arg4))
      ∧ r.2.sem = fun _ => 0)

def quiescent_QkvNorm [hQkvNorm : Cert.QkvNorm.Facts] : Prop :=
  ∀ (m : (ℓ : Loc Cert.QkvNorm.nD Cert.QkvNorm.τ Cert.QkvNorm.sig) → Buf (Elt Bits) ℓ) (g : Dev Cert.QkvNorm.nD → PrngReg), Pre_QkvNorm m →
    θ_run (Cert.QkvNorm.defs (F := Bits)) (onTc (τ := Cert.QkvNorm.τ) (Cert.QkvNorm.main (F := Bits))) ⟨m, fun _ => 0, g⟩ (fun r => (∀ c : Dev Cert.QkvNorm.nD,
      r.2.mem ((c.tc : Thread Cert.QkvNorm.nD Cert.QkvNorm.τ).loc Cert.QkvNorm.main_arg0) = m ((c.tc : Thread Cert.QkvNorm.nD Cert.QkvNorm.τ).loc Cert.QkvNorm.main_arg0)
      ∧ r.2.mem ((c.tc : Thread Cert.QkvNorm.nD Cert.QkvNorm.τ).loc Cert.QkvNorm.main_arg1) = m ((c.tc : Thread Cert.QkvNorm.nD Cert.QkvNorm.τ).loc Cert.QkvNorm.main_arg1)
      ∧ r.2.mem ((c.tc : Thread Cert.QkvNorm.nD Cert.QkvNorm.τ).loc Cert.QkvNorm.main_arg2) = m ((c.tc : Thread Cert.QkvNorm.nD Cert.QkvNorm.τ).loc Cert.QkvNorm.main_arg2)
      ∧ r.2.mem ((c.tc : Thread Cert.QkvNorm.nD Cert.QkvNorm.τ).loc Cert.QkvNorm.main_arg3) = m ((c.tc : Thread Cert.QkvNorm.nD Cert.QkvNorm.τ).loc Cert.QkvNorm.main_arg3)
      ∧ r.2.mem ((c.tc : Thread Cert.QkvNorm.nD Cert.QkvNorm.τ).loc Cert.QkvNorm.main_arg4) = m ((c.tc : Thread Cert.QkvNorm.nD Cert.QkvNorm.τ).loc Cert.QkvNorm.main_arg4)
      ∧ r.2.mem ((c.tc : Thread Cert.QkvNorm.nD Cert.QkvNorm.τ).loc Cert.QkvNorm.main_arg5) = m ((c.tc : Thread Cert.QkvNorm.nD Cert.QkvNorm.τ).loc Cert.QkvNorm.main_arg5))
      ∧ r.2.sem = fun _ => 0)

def quiescent_QkvNormIdeal [hQkvNormIdeal : Cert.QkvNormIdeal.Facts] : Prop :=
  ∀ (m : (ℓ : Loc Cert.QkvNormIdeal.nD Cert.QkvNormIdeal.τ Cert.QkvNormIdeal.sig) → Buf (Elt Ideal) ℓ) (g : Dev Cert.QkvNormIdeal.nD → PrngReg), Pre_QkvNormIdeal m →
    θ_run (Cert.QkvNormIdeal.defs (F := Ideal)) (onTc (τ := Cert.QkvNormIdeal.τ) (Cert.QkvNormIdeal.main (F := Ideal))) ⟨m, fun _ => 0, g⟩ (fun r => (∀ c : Dev Cert.QkvNormIdeal.nD,
      r.2.mem ((c.tc : Thread Cert.QkvNormIdeal.nD Cert.QkvNormIdeal.τ).loc Cert.QkvNormIdeal.main_arg0) = m ((c.tc : Thread Cert.QkvNormIdeal.nD Cert.QkvNormIdeal.τ).loc Cert.QkvNormIdeal.main_arg0)
      ∧ r.2.mem ((c.tc : Thread Cert.QkvNormIdeal.nD Cert.QkvNormIdeal.τ).loc Cert.QkvNormIdeal.main_arg1) = m ((c.tc : Thread Cert.QkvNormIdeal.nD Cert.QkvNormIdeal.τ).loc Cert.QkvNormIdeal.main_arg1)
      ∧ r.2.mem ((c.tc : Thread Cert.QkvNormIdeal.nD Cert.QkvNormIdeal.τ).loc Cert.QkvNormIdeal.main_arg2) = m ((c.tc : Thread Cert.QkvNormIdeal.nD Cert.QkvNormIdeal.τ).loc Cert.QkvNormIdeal.main_arg2)
      ∧ r.2.mem ((c.tc : Thread Cert.QkvNormIdeal.nD Cert.QkvNormIdeal.τ).loc Cert.QkvNormIdeal.main_arg3) = m ((c.tc : Thread Cert.QkvNormIdeal.nD Cert.QkvNormIdeal.τ).loc Cert.QkvNormIdeal.main_arg3)
      ∧ r.2.mem ((c.tc : Thread Cert.QkvNormIdeal.nD Cert.QkvNormIdeal.τ).loc Cert.QkvNormIdeal.main_arg4) = m ((c.tc : Thread Cert.QkvNormIdeal.nD Cert.QkvNormIdeal.τ).loc Cert.QkvNormIdeal.main_arg4)
      ∧ r.2.mem ((c.tc : Thread Cert.QkvNormIdeal.nD Cert.QkvNormIdeal.τ).loc Cert.QkvNormIdeal.main_arg5) = m ((c.tc : Thread Cert.QkvNormIdeal.nD Cert.QkvNormIdeal.τ).loc Cert.QkvNormIdeal.main_arg5))
      ∧ r.2.sem = fun _ => 0)

def quiescent_QkvNormRefIdeal [hQkvNormRefIdeal : Cert.QkvNormRefIdeal.Facts] : Prop :=
  ∀ (m : (ℓ : Loc Cert.QkvNormRefIdeal.nD Cert.QkvNormRefIdeal.τ Cert.QkvNormRefIdeal.sig) → Buf (Elt Ideal) ℓ) (g : Dev Cert.QkvNormRefIdeal.nD → PrngReg), Pre_QkvNormRefIdeal m →
    θ_run (Cert.QkvNormRefIdeal.defs (F := Ideal)) (onTc (τ := Cert.QkvNormRefIdeal.τ) (Cert.QkvNormRefIdeal.main (F := Ideal))) ⟨m, fun _ => 0, g⟩ (fun r => (∀ c : Dev Cert.QkvNormRefIdeal.nD,
      r.2.mem ((c.tc : Thread Cert.QkvNormRefIdeal.nD Cert.QkvNormRefIdeal.τ).loc Cert.QkvNormRefIdeal.main_arg0) = m ((c.tc : Thread Cert.QkvNormRefIdeal.nD Cert.QkvNormRefIdeal.τ).loc Cert.QkvNormRefIdeal.main_arg0)
      ∧ r.2.mem ((c.tc : Thread Cert.QkvNormRefIdeal.nD Cert.QkvNormRefIdeal.τ).loc Cert.QkvNormRefIdeal.main_arg1) = m ((c.tc : Thread Cert.QkvNormRefIdeal.nD Cert.QkvNormRefIdeal.τ).loc Cert.QkvNormRefIdeal.main_arg1)
      ∧ r.2.mem ((c.tc : Thread Cert.QkvNormRefIdeal.nD Cert.QkvNormRefIdeal.τ).loc Cert.QkvNormRefIdeal.main_arg2) = m ((c.tc : Thread Cert.QkvNormRefIdeal.nD Cert.QkvNormRefIdeal.τ).loc Cert.QkvNormRefIdeal.main_arg2)
      ∧ r.2.mem ((c.tc : Thread Cert.QkvNormRefIdeal.nD Cert.QkvNormRefIdeal.τ).loc Cert.QkvNormRefIdeal.main_arg3) = m ((c.tc : Thread Cert.QkvNormRefIdeal.nD Cert.QkvNormRefIdeal.τ).loc Cert.QkvNormRefIdeal.main_arg3)
      ∧ r.2.mem ((c.tc : Thread Cert.QkvNormRefIdeal.nD Cert.QkvNormRefIdeal.τ).loc Cert.QkvNormRefIdeal.main_arg4) = m ((c.tc : Thread Cert.QkvNormRefIdeal.nD Cert.QkvNormRefIdeal.τ).loc Cert.QkvNormRefIdeal.main_arg4)
      ∧ r.2.mem ((c.tc : Thread Cert.QkvNormRefIdeal.nD Cert.QkvNormRefIdeal.τ).loc Cert.QkvNormRefIdeal.main_arg5) = m ((c.tc : Thread Cert.QkvNormRefIdeal.nD Cert.QkvNormRefIdeal.τ).loc Cert.QkvNormRefIdeal.main_arg5))
      ∧ r.2.sem = fun _ => 0)

def quiescent_UpNorm [hUpNorm : Cert.UpNorm.Facts] : Prop :=
  ∀ (m : (ℓ : Loc Cert.UpNorm.nD Cert.UpNorm.τ Cert.UpNorm.sig) → Buf (Elt Bits) ℓ) (g : Dev Cert.UpNorm.nD → PrngReg), Pre_UpNorm m →
    θ_run (Cert.UpNorm.defs (F := Bits)) (onTc (τ := Cert.UpNorm.τ) (Cert.UpNorm.main (F := Bits))) ⟨m, fun _ => 0, g⟩ (fun r => (∀ c : Dev Cert.UpNorm.nD,
      r.2.mem ((c.tc : Thread Cert.UpNorm.nD Cert.UpNorm.τ).loc Cert.UpNorm.main_arg0) = m ((c.tc : Thread Cert.UpNorm.nD Cert.UpNorm.τ).loc Cert.UpNorm.main_arg0)
      ∧ r.2.mem ((c.tc : Thread Cert.UpNorm.nD Cert.UpNorm.τ).loc Cert.UpNorm.main_arg1) = m ((c.tc : Thread Cert.UpNorm.nD Cert.UpNorm.τ).loc Cert.UpNorm.main_arg1)
      ∧ r.2.mem ((c.tc : Thread Cert.UpNorm.nD Cert.UpNorm.τ).loc Cert.UpNorm.main_arg2) = m ((c.tc : Thread Cert.UpNorm.nD Cert.UpNorm.τ).loc Cert.UpNorm.main_arg2)
      ∧ r.2.mem ((c.tc : Thread Cert.UpNorm.nD Cert.UpNorm.τ).loc Cert.UpNorm.main_arg3) = m ((c.tc : Thread Cert.UpNorm.nD Cert.UpNorm.τ).loc Cert.UpNorm.main_arg3)
      ∧ r.2.mem ((c.tc : Thread Cert.UpNorm.nD Cert.UpNorm.τ).loc Cert.UpNorm.main_arg4) = m ((c.tc : Thread Cert.UpNorm.nD Cert.UpNorm.τ).loc Cert.UpNorm.main_arg4))
      ∧ r.2.sem = fun _ => 0)

def quiescent_UpNormIdeal [hUpNormIdeal : Cert.UpNormIdeal.Facts] : Prop :=
  ∀ (m : (ℓ : Loc Cert.UpNormIdeal.nD Cert.UpNormIdeal.τ Cert.UpNormIdeal.sig) → Buf (Elt Ideal) ℓ) (g : Dev Cert.UpNormIdeal.nD → PrngReg), Pre_UpNormIdeal m →
    θ_run (Cert.UpNormIdeal.defs (F := Ideal)) (onTc (τ := Cert.UpNormIdeal.τ) (Cert.UpNormIdeal.main (F := Ideal))) ⟨m, fun _ => 0, g⟩ (fun r => (∀ c : Dev Cert.UpNormIdeal.nD,
      r.2.mem ((c.tc : Thread Cert.UpNormIdeal.nD Cert.UpNormIdeal.τ).loc Cert.UpNormIdeal.main_arg0) = m ((c.tc : Thread Cert.UpNormIdeal.nD Cert.UpNormIdeal.τ).loc Cert.UpNormIdeal.main_arg0)
      ∧ r.2.mem ((c.tc : Thread Cert.UpNormIdeal.nD Cert.UpNormIdeal.τ).loc Cert.UpNormIdeal.main_arg1) = m ((c.tc : Thread Cert.UpNormIdeal.nD Cert.UpNormIdeal.τ).loc Cert.UpNormIdeal.main_arg1)
      ∧ r.2.mem ((c.tc : Thread Cert.UpNormIdeal.nD Cert.UpNormIdeal.τ).loc Cert.UpNormIdeal.main_arg2) = m ((c.tc : Thread Cert.UpNormIdeal.nD Cert.UpNormIdeal.τ).loc Cert.UpNormIdeal.main_arg2)
      ∧ r.2.mem ((c.tc : Thread Cert.UpNormIdeal.nD Cert.UpNormIdeal.τ).loc Cert.UpNormIdeal.main_arg3) = m ((c.tc : Thread Cert.UpNormIdeal.nD Cert.UpNormIdeal.τ).loc Cert.UpNormIdeal.main_arg3)
      ∧ r.2.mem ((c.tc : Thread Cert.UpNormIdeal.nD Cert.UpNormIdeal.τ).loc Cert.UpNormIdeal.main_arg4) = m ((c.tc : Thread Cert.UpNormIdeal.nD Cert.UpNormIdeal.τ).loc Cert.UpNormIdeal.main_arg4))
      ∧ r.2.sem = fun _ => 0)

def quiescent_UpNormRefIdeal [hUpNormRefIdeal : Cert.UpNormRefIdeal.Facts] : Prop :=
  ∀ (m : (ℓ : Loc Cert.UpNormRefIdeal.nD Cert.UpNormRefIdeal.τ Cert.UpNormRefIdeal.sig) → Buf (Elt Ideal) ℓ) (g : Dev Cert.UpNormRefIdeal.nD → PrngReg), Pre_UpNormRefIdeal m →
    θ_run (Cert.UpNormRefIdeal.defs (F := Ideal)) (onTc (τ := Cert.UpNormRefIdeal.τ) (Cert.UpNormRefIdeal.main (F := Ideal))) ⟨m, fun _ => 0, g⟩ (fun r => (∀ c : Dev Cert.UpNormRefIdeal.nD,
      r.2.mem ((c.tc : Thread Cert.UpNormRefIdeal.nD Cert.UpNormRefIdeal.τ).loc Cert.UpNormRefIdeal.main_arg0) = m ((c.tc : Thread Cert.UpNormRefIdeal.nD Cert.UpNormRefIdeal.τ).loc Cert.UpNormRefIdeal.main_arg0)
      ∧ r.2.mem ((c.tc : Thread Cert.UpNormRefIdeal.nD Cert.UpNormRefIdeal.τ).loc Cert.UpNormRefIdeal.main_arg1) = m ((c.tc : Thread Cert.UpNormRefIdeal.nD Cert.UpNormRefIdeal.τ).loc Cert.UpNormRefIdeal.main_arg1)
      ∧ r.2.mem ((c.tc : Thread Cert.UpNormRefIdeal.nD Cert.UpNormRefIdeal.τ).loc Cert.UpNormRefIdeal.main_arg2) = m ((c.tc : Thread Cert.UpNormRefIdeal.nD Cert.UpNormRefIdeal.τ).loc Cert.UpNormRefIdeal.main_arg2)
      ∧ r.2.mem ((c.tc : Thread Cert.UpNormRefIdeal.nD Cert.UpNormRefIdeal.τ).loc Cert.UpNormRefIdeal.main_arg3) = m ((c.tc : Thread Cert.UpNormRefIdeal.nD Cert.UpNormRefIdeal.τ).loc Cert.UpNormRefIdeal.main_arg3)
      ∧ r.2.mem ((c.tc : Thread Cert.UpNormRefIdeal.nD Cert.UpNormRefIdeal.τ).loc Cert.UpNormRefIdeal.main_arg4) = m ((c.tc : Thread Cert.UpNormRefIdeal.nD Cert.UpNormRefIdeal.τ).loc Cert.UpNormRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_PoolProj [hPoolProj : Cert.PoolProj.Facts] : Prop :=
  ∀ (m : (ℓ : Loc Cert.PoolProj.nD Cert.PoolProj.τ Cert.PoolProj.sig) → Buf (Elt Bits) ℓ) (g : Dev Cert.PoolProj.nD → PrngReg), Pre_PoolProj m →
    θ_run (Cert.PoolProj.defs (F := Bits)) (onTc (τ := Cert.PoolProj.τ) (Cert.PoolProj.main (F := Bits))) ⟨m, fun _ => 0, g⟩ (fun r => (∀ c : Dev Cert.PoolProj.nD,
      r.2.mem ((c.tc : Thread Cert.PoolProj.nD Cert.PoolProj.τ).loc Cert.PoolProj.main_arg0) = m ((c.tc : Thread Cert.PoolProj.nD Cert.PoolProj.τ).loc Cert.PoolProj.main_arg0)
      ∧ r.2.mem ((c.tc : Thread Cert.PoolProj.nD Cert.PoolProj.τ).loc Cert.PoolProj.main_arg1) = m ((c.tc : Thread Cert.PoolProj.nD Cert.PoolProj.τ).loc Cert.PoolProj.main_arg1)
      ∧ r.2.mem ((c.tc : Thread Cert.PoolProj.nD Cert.PoolProj.τ).loc Cert.PoolProj.main_arg2) = m ((c.tc : Thread Cert.PoolProj.nD Cert.PoolProj.τ).loc Cert.PoolProj.main_arg2)
      ∧ r.2.mem ((c.tc : Thread Cert.PoolProj.nD Cert.PoolProj.τ).loc Cert.PoolProj.main_arg3) = m ((c.tc : Thread Cert.PoolProj.nD Cert.PoolProj.τ).loc Cert.PoolProj.main_arg3))
      ∧ r.2.sem = fun _ => 0)

def quiescent_PoolProjIdeal [hPoolProjIdeal : Cert.PoolProjIdeal.Facts] : Prop :=
  ∀ (m : (ℓ : Loc Cert.PoolProjIdeal.nD Cert.PoolProjIdeal.τ Cert.PoolProjIdeal.sig) → Buf (Elt Ideal) ℓ) (g : Dev Cert.PoolProjIdeal.nD → PrngReg), Pre_PoolProjIdeal m →
    θ_run (Cert.PoolProjIdeal.defs (F := Ideal)) (onTc (τ := Cert.PoolProjIdeal.τ) (Cert.PoolProjIdeal.main (F := Ideal))) ⟨m, fun _ => 0, g⟩ (fun r => (∀ c : Dev Cert.PoolProjIdeal.nD,
      r.2.mem ((c.tc : Thread Cert.PoolProjIdeal.nD Cert.PoolProjIdeal.τ).loc Cert.PoolProjIdeal.main_arg0) = m ((c.tc : Thread Cert.PoolProjIdeal.nD Cert.PoolProjIdeal.τ).loc Cert.PoolProjIdeal.main_arg0)
      ∧ r.2.mem ((c.tc : Thread Cert.PoolProjIdeal.nD Cert.PoolProjIdeal.τ).loc Cert.PoolProjIdeal.main_arg1) = m ((c.tc : Thread Cert.PoolProjIdeal.nD Cert.PoolProjIdeal.τ).loc Cert.PoolProjIdeal.main_arg1)
      ∧ r.2.mem ((c.tc : Thread Cert.PoolProjIdeal.nD Cert.PoolProjIdeal.τ).loc Cert.PoolProjIdeal.main_arg2) = m ((c.tc : Thread Cert.PoolProjIdeal.nD Cert.PoolProjIdeal.τ).loc Cert.PoolProjIdeal.main_arg2)
      ∧ r.2.mem ((c.tc : Thread Cert.PoolProjIdeal.nD Cert.PoolProjIdeal.τ).loc Cert.PoolProjIdeal.main_arg3) = m ((c.tc : Thread Cert.PoolProjIdeal.nD Cert.PoolProjIdeal.τ).loc Cert.PoolProjIdeal.main_arg3))
      ∧ r.2.sem = fun _ => 0)

def quiescent_PoolProjRefIdeal [hPoolProjRefIdeal : Cert.PoolProjRefIdeal.Facts] : Prop :=
  ∀ (m : (ℓ : Loc Cert.PoolProjRefIdeal.nD Cert.PoolProjRefIdeal.τ Cert.PoolProjRefIdeal.sig) → Buf (Elt Ideal) ℓ) (g : Dev Cert.PoolProjRefIdeal.nD → PrngReg), Pre_PoolProjRefIdeal m →
    θ_run (Cert.PoolProjRefIdeal.defs (F := Ideal)) (onTc (τ := Cert.PoolProjRefIdeal.τ) (Cert.PoolProjRefIdeal.main (F := Ideal))) ⟨m, fun _ => 0, g⟩ (fun r => (∀ c : Dev Cert.PoolProjRefIdeal.nD,
      r.2.mem ((c.tc : Thread Cert.PoolProjRefIdeal.nD Cert.PoolProjRefIdeal.τ).loc Cert.PoolProjRefIdeal.main_arg0) = m ((c.tc : Thread Cert.PoolProjRefIdeal.nD Cert.PoolProjRefIdeal.τ).loc Cert.PoolProjRefIdeal.main_arg0)
      ∧ r.2.mem ((c.tc : Thread Cert.PoolProjRefIdeal.nD Cert.PoolProjRefIdeal.τ).loc Cert.PoolProjRefIdeal.main_arg1) = m ((c.tc : Thread Cert.PoolProjRefIdeal.nD Cert.PoolProjRefIdeal.τ).loc Cert.PoolProjRefIdeal.main_arg1)
      ∧ r.2.mem ((c.tc : Thread Cert.PoolProjRefIdeal.nD Cert.PoolProjRefIdeal.τ).loc Cert.PoolProjRefIdeal.main_arg2) = m ((c.tc : Thread Cert.PoolProjRefIdeal.nD Cert.PoolProjRefIdeal.τ).loc Cert.PoolProjRefIdeal.main_arg2)
      ∧ r.2.mem ((c.tc : Thread Cert.PoolProjRefIdeal.nD Cert.PoolProjRefIdeal.τ).loc Cert.PoolProjRefIdeal.main_arg3) = m ((c.tc : Thread Cert.PoolProjRefIdeal.nD Cert.PoolProjRefIdeal.τ).loc Cert.PoolProjRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnIdeal_pre_xattn_finite [hXattnIdeal : Cert.XattnIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_xattn_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_XattnRefIdeal_pre_xattn_finite [hXattnRefIdeal : Cert.XattnRefIdeal.Facts] [hPre_xattn_finite : Cert.Pre_xattn_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_xattn_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_PoolWin [hPoolWin : Cert.PoolWin.Facts] : Prop :=
  ∀ (m : (ℓ : Loc Cert.PoolWin.nD Cert.PoolWin.τ Cert.PoolWin.sig) → Buf (Elt Bits) ℓ) (g : Dev Cert.PoolWin.nD → PrngReg), Pre_PoolWin m →
    θ_run (Cert.PoolWin.defs (F := Bits)) (onTc (τ := Cert.PoolWin.τ) (Cert.PoolWin.main (F := Bits))) ⟨m, fun _ => 0, g⟩ (fun r => (∀ c : Dev Cert.PoolWin.nD,
      r.2.mem ((c.tc : Thread Cert.PoolWin.nD Cert.PoolWin.τ).loc Cert.PoolWin.main_arg0) = m ((c.tc : Thread Cert.PoolWin.nD Cert.PoolWin.τ).loc Cert.PoolWin.main_arg0))
      ∧ r.2.sem = fun _ => 0)

def quiescent_PoolWinIdeal [hPoolWinIdeal : Cert.PoolWinIdeal.Facts] : Prop :=
  ∀ (m : (ℓ : Loc Cert.PoolWinIdeal.nD Cert.PoolWinIdeal.τ Cert.PoolWinIdeal.sig) → Buf (Elt Ideal) ℓ) (g : Dev Cert.PoolWinIdeal.nD → PrngReg), Pre_PoolWinIdeal m →
    θ_run (Cert.PoolWinIdeal.defs (F := Ideal)) (onTc (τ := Cert.PoolWinIdeal.τ) (Cert.PoolWinIdeal.main (F := Ideal))) ⟨m, fun _ => 0, g⟩ (fun r => (∀ c : Dev Cert.PoolWinIdeal.nD,
      r.2.mem ((c.tc : Thread Cert.PoolWinIdeal.nD Cert.PoolWinIdeal.τ).loc Cert.PoolWinIdeal.main_arg0) = m ((c.tc : Thread Cert.PoolWinIdeal.nD Cert.PoolWinIdeal.τ).loc Cert.PoolWinIdeal.main_arg0))
      ∧ r.2.sem = fun _ => 0)

def quiescent_PoolWinIdeal_pre_poolwin_finite [hPoolWinIdeal : Cert.PoolWinIdeal.Facts] [hPre_poolwin_finite : Cert.Pre_poolwin_finite.Facts] : Prop :=
  ∀ (m : (ℓ : Loc Cert.PoolWinIdeal.nD Cert.PoolWinIdeal.τ Cert.PoolWinIdeal.sig) → Buf (Elt Ideal) ℓ) (g : Dev Cert.PoolWinIdeal.nD → PrngReg), Pre_PoolWinIdeal_poolwin_finite m →
    θ_run (Cert.PoolWinIdeal.defs (F := Ideal)) (onTc (τ := Cert.PoolWinIdeal.τ) (Cert.PoolWinIdeal.main (F := Ideal))) ⟨m, fun _ => 0, g⟩ (fun r => (∀ c : Dev Cert.PoolWinIdeal.nD,
      r.2.mem ((c.tc : Thread Cert.PoolWinIdeal.nD Cert.PoolWinIdeal.τ).loc Cert.PoolWinIdeal.main_arg0) = m ((c.tc : Thread Cert.PoolWinIdeal.nD Cert.PoolWinIdeal.τ).loc Cert.PoolWinIdeal.main_arg0))
      ∧ r.2.sem = fun _ => 0)

def quiescent_PoolWinRefIdeal [hPoolWinRefIdeal : Cert.PoolWinRefIdeal.Facts] : Prop :=
  ∀ (m : (ℓ : Loc Cert.PoolWinRefIdeal.nD Cert.PoolWinRefIdeal.τ Cert.PoolWinRefIdeal.sig) → Buf (Elt Ideal) ℓ) (g : Dev Cert.PoolWinRefIdeal.nD → PrngReg), Pre_PoolWinRefIdeal m →
    θ_run (Cert.PoolWinRefIdeal.defs (F := Ideal)) (onTc (τ := Cert.PoolWinRefIdeal.τ) (Cert.PoolWinRefIdeal.main (F := Ideal))) ⟨m, fun _ => 0, g⟩ (fun r => (∀ c : Dev Cert.PoolWinRefIdeal.nD,
      r.2.mem ((c.tc : Thread Cert.PoolWinRefIdeal.nD Cert.PoolWinRefIdeal.τ).loc Cert.PoolWinRefIdeal.main_arg0) = m ((c.tc : Thread Cert.PoolWinRefIdeal.nD Cert.PoolWinRefIdeal.τ).loc Cert.PoolWinRefIdeal.main_arg0))
      ∧ r.2.sem = fun _ => 0)

def quiescent_PoolWinRefIdeal_pre_poolwin_finite [hPoolWinRefIdeal : Cert.PoolWinRefIdeal.Facts] [hPre_poolwin_finite : Cert.Pre_poolwin_finite.Facts] : Prop :=
  ∀ (m : (ℓ : Loc Cert.PoolWinRefIdeal.nD Cert.PoolWinRefIdeal.τ Cert.PoolWinRefIdeal.sig) → Buf (Elt Ideal) ℓ) (g : Dev Cert.PoolWinRefIdeal.nD → PrngReg), Pre_PoolWinRefIdeal_poolwin_finite m →
    θ_run (Cert.PoolWinRefIdeal.defs (F := Ideal)) (onTc (τ := Cert.PoolWinRefIdeal.τ) (Cert.PoolWinRefIdeal.main (F := Ideal))) ⟨m, fun _ => 0, g⟩ (fun r => (∀ c : Dev Cert.PoolWinRefIdeal.nD,
      r.2.mem ((c.tc : Thread Cert.PoolWinRefIdeal.nD Cert.PoolWinRefIdeal.τ).loc Cert.PoolWinRefIdeal.main_arg0) = m ((c.tc : Thread Cert.PoolWinRefIdeal.nD Cert.PoolWinRefIdeal.τ).loc Cert.PoolWinRefIdeal.main_arg0))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_ResNorm [hResNorm : Cert.ResNorm.Facts] : Prop :=
  ∀ (m : (ℓ : Loc Cert.ResNorm.nD Cert.ResNorm.τ Cert.ResNorm.sig) → Buf (Elt Bits) ℓ) (g : Dev Cert.ResNorm.nD → PrngReg), Pre_ResNorm m →
    θ_run (Cert.ResNorm.defs (F := Bits)) (onTc (τ := Cert.ResNorm.τ) (Cert.ResNorm.main (F := Bits))) ⟨m, fun _ => 0, g⟩ (fun r => (∀ c : Dev Cert.ResNorm.nD,
      r.2.mem ((c.tc : Thread Cert.ResNorm.nD Cert.ResNorm.τ).loc Cert.ResNorm.main_arg0) = m ((c.tc : Thread Cert.ResNorm.nD Cert.ResNorm.τ).loc Cert.ResNorm.main_arg0)
      ∧ r.2.mem ((c.tc : Thread Cert.ResNorm.nD Cert.ResNorm.τ).loc Cert.ResNorm.main_arg1) = m ((c.tc : Thread Cert.ResNorm.nD Cert.ResNorm.τ).loc Cert.ResNorm.main_arg1)
      ∧ r.2.mem ((c.tc : Thread Cert.ResNorm.nD Cert.ResNorm.τ).loc Cert.ResNorm.main_arg2) = m ((c.tc : Thread Cert.ResNorm.nD Cert.ResNorm.τ).loc Cert.ResNorm.main_arg2)
      ∧ r.2.mem ((c.tc : Thread Cert.ResNorm.nD Cert.ResNorm.τ).loc Cert.ResNorm.main_arg3) = m ((c.tc : Thread Cert.ResNorm.nD Cert.ResNorm.τ).loc Cert.ResNorm.main_arg3))
      ∧ r.2.sem = fun _ => 0)

def quiescent_ResNormIdeal [hResNormIdeal : Cert.ResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg), Pre_ResNormIdeal m →
    θ_run (Cert.ResNormIdeal.defs (F := Ideal)) (onTc (τ := Cert.ResNormIdeal.τ) (Cert.ResNormIdeal.main (F := Ideal))) ⟨m, fun _ => 0, g⟩ (fun r => (∀ c : Dev Cert.ResNormIdeal.nD,
      r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
      ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
      ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
      ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ r.2.sem = fun _ => 0)

def quiescent_ResNormRefIdeal [hResNormRefIdeal : Cert.ResNormRefIdeal.Facts] : Prop :=
  ∀ (m : (ℓ : Loc Cert.ResNormRefIdeal.nD Cert.ResNormRefIdeal.τ Cert.ResNormRefIdeal.sig) → Buf (Elt Ideal) ℓ) (g : Dev Cert.ResNormRefIdeal.nD → PrngReg), Pre_ResNormRefIdeal m →
    θ_run (Cert.ResNormRefIdeal.defs (F := Ideal)) (onTc (τ := Cert.ResNormRefIdeal.τ) (Cert.ResNormRefIdeal.main (F := Ideal))) ⟨m, fun _ => 0, g⟩ (fun r => (∀ c : Dev Cert.ResNormRefIdeal.nD,
      r.2.mem ((c.tc : Thread Cert.ResNormRefIdeal.nD Cert.ResNormRefIdeal.τ).loc Cert.ResNormRefIdeal.main_arg0) = m ((c.tc : Thread Cert.ResNormRefIdeal.nD Cert.ResNormRefIdeal.τ).loc Cert.ResNormRefIdeal.main_arg0)
      ∧ r.2.mem ((c.tc : Thread Cert.ResNormRefIdeal.nD Cert.ResNormRefIdeal.τ).loc Cert.ResNormRefIdeal.main_arg1) = m ((c.tc : Thread Cert.ResNormRefIdeal.nD Cert.ResNormRefIdeal.τ).loc Cert.ResNormRefIdeal.main_arg1)
      ∧ r.2.mem ((c.tc : Thread Cert.ResNormRefIdeal.nD Cert.ResNormRefIdeal.τ).loc Cert.ResNormRefIdeal.main_arg2) = m ((c.tc : Thread Cert.ResNormRefIdeal.nD Cert.ResNormRefIdeal.τ).loc Cert.ResNormRefIdeal.main_arg2)
      ∧ r.2.mem ((c.tc : Thread Cert.ResNormRefIdeal.nD Cert.ResNormRefIdeal.τ).loc Cert.ResNormRefIdeal.main_arg3) = m ((c.tc : Thread Cert.ResNormRefIdeal.nD Cert.ResNormRefIdeal.τ).loc Cert.ResNormRefIdeal.main_arg3))
      ∧ r.2.sem = fun _ => 0)

def quiescent_PoolOut [hPoolOut : Cert.PoolOut.Facts] : Prop :=
  ∀ (m : (ℓ : Loc Cert.PoolOut.nD Cert.PoolOut.τ Cert.PoolOut.sig) → Buf (Elt Bits) ℓ) (g : Dev Cert.PoolOut.nD → PrngReg), Pre_PoolOut m →
    θ_run (Cert.PoolOut.defs (F := Bits)) (onTc (τ := Cert.PoolOut.τ) (Cert.PoolOut.main (F := Bits))) ⟨m, fun _ => 0, g⟩ (fun r => (∀ c : Dev Cert.PoolOut.nD,
      r.2.mem ((c.tc : Thread Cert.PoolOut.nD Cert.PoolOut.τ).loc Cert.PoolOut.main_arg0) = m ((c.tc : Thread Cert.PoolOut.nD Cert.PoolOut.τ).loc Cert.PoolOut.main_arg0)
      ∧ r.2.mem ((c.tc : Thread Cert.PoolOut.nD Cert.PoolOut.τ).loc Cert.PoolOut.main_arg1) = m ((c.tc : Thread Cert.PoolOut.nD Cert.PoolOut.τ).loc Cert.PoolOut.main_arg1)
      ∧ r.2.mem ((c.tc : Thread Cert.PoolOut.nD Cert.PoolOut.τ).loc Cert.PoolOut.main_arg2) = m ((c.tc : Thread Cert.PoolOut.nD Cert.PoolOut.τ).loc Cert.PoolOut.main_arg2)
      ∧ r.2.mem ((c.tc : Thread Cert.PoolOut.nD Cert.PoolOut.τ).loc Cert.PoolOut.main_arg3) = m ((c.tc : Thread Cert.PoolOut.nD Cert.PoolOut.τ).loc Cert.PoolOut.main_arg3))
      ∧ r.2.sem = fun _ => 0)

def quiescent_PoolOutIdeal [hPoolOutIdeal : Cert.PoolOutIdeal.Facts] : Prop :=
  ∀ (m : (ℓ : Loc Cert.PoolOutIdeal.nD Cert.PoolOutIdeal.τ Cert.PoolOutIdeal.sig) → Buf (Elt Ideal) ℓ) (g : Dev Cert.PoolOutIdeal.nD → PrngReg), Pre_PoolOutIdeal m →
    θ_run (Cert.PoolOutIdeal.defs (F := Ideal)) (onTc (τ := Cert.PoolOutIdeal.τ) (Cert.PoolOutIdeal.main (F := Ideal))) ⟨m, fun _ => 0, g⟩ (fun r => (∀ c : Dev Cert.PoolOutIdeal.nD,
      r.2.mem ((c.tc : Thread Cert.PoolOutIdeal.nD Cert.PoolOutIdeal.τ).loc Cert.PoolOutIdeal.main_arg0) = m ((c.tc : Thread Cert.PoolOutIdeal.nD Cert.PoolOutIdeal.τ).loc Cert.PoolOutIdeal.main_arg0)
      ∧ r.2.mem ((c.tc : Thread Cert.PoolOutIdeal.nD Cert.PoolOutIdeal.τ).loc Cert.PoolOutIdeal.main_arg1) = m ((c.tc : Thread Cert.PoolOutIdeal.nD Cert.PoolOutIdeal.τ).loc Cert.PoolOutIdeal.main_arg1)
      ∧ r.2.mem ((c.tc : Thread Cert.PoolOutIdeal.nD Cert.PoolOutIdeal.τ).loc Cert.PoolOutIdeal.main_arg2) = m ((c.tc : Thread Cert.PoolOutIdeal.nD Cert.PoolOutIdeal.τ).loc Cert.PoolOutIdeal.main_arg2)
      ∧ r.2.mem ((c.tc : Thread Cert.PoolOutIdeal.nD Cert.PoolOutIdeal.τ).loc Cert.PoolOutIdeal.main_arg3) = m ((c.tc : Thread Cert.PoolOutIdeal.nD Cert.PoolOutIdeal.τ).loc Cert.PoolOutIdeal.main_arg3))
      ∧ r.2.sem = fun _ => 0)

def quiescent_PoolOutRefIdeal [hPoolOutRefIdeal : Cert.PoolOutRefIdeal.Facts] : Prop :=
  ∀ (m : (ℓ : Loc Cert.PoolOutRefIdeal.nD Cert.PoolOutRefIdeal.τ Cert.PoolOutRefIdeal.sig) → Buf (Elt Ideal) ℓ) (g : Dev Cert.PoolOutRefIdeal.nD → PrngReg), Pre_PoolOutRefIdeal m →
    θ_run (Cert.PoolOutRefIdeal.defs (F := Ideal)) (onTc (τ := Cert.PoolOutRefIdeal.τ) (Cert.PoolOutRefIdeal.main (F := Ideal))) ⟨m, fun _ => 0, g⟩ (fun r => (∀ c : Dev Cert.PoolOutRefIdeal.nD,
      r.2.mem ((c.tc : Thread Cert.PoolOutRefIdeal.nD Cert.PoolOutRefIdeal.τ).loc Cert.PoolOutRefIdeal.main_arg0) = m ((c.tc : Thread Cert.PoolOutRefIdeal.nD Cert.PoolOutRefIdeal.τ).loc Cert.PoolOutRefIdeal.main_arg0)
      ∧ r.2.mem ((c.tc : Thread Cert.PoolOutRefIdeal.nD Cert.PoolOutRefIdeal.τ).loc Cert.PoolOutRefIdeal.main_arg1) = m ((c.tc : Thread Cert.PoolOutRefIdeal.nD Cert.PoolOutRefIdeal.τ).loc Cert.PoolOutRefIdeal.main_arg1)
      ∧ r.2.mem ((c.tc : Thread Cert.PoolOutRefIdeal.nD Cert.PoolOutRefIdeal.τ).loc Cert.PoolOutRefIdeal.main_arg2) = m ((c.tc : Thread Cert.PoolOutRefIdeal.nD Cert.PoolOutRefIdeal.τ).loc Cert.PoolOutRefIdeal.main_arg2)
      ∧ r.2.mem ((c.tc : Thread Cert.PoolOutRefIdeal.nD Cert.PoolOutRefIdeal.τ).loc Cert.PoolOutRefIdeal.main_arg3) = m ((c.tc : Thread Cert.PoolOutRefIdeal.nD Cert.PoolOutRefIdeal.τ).loc Cert.PoolOutRefIdeal.main_arg3))
      ∧ r.2.sem = fun _ => 0)

def quiescent_XattnOut [hXattnOut : Cert.XattnOut.Facts] : Prop :=
  ∀ (m : (ℓ : Loc Cert.XattnOut.nD Cert.XattnOut.τ Cert.XattnOut.sig) → Buf (Elt Bits) ℓ) (g : Dev Cert.XattnOut.nD → PrngReg), Pre_XattnOut m →
    θ_run (Cert.XattnOut.defs (F := Bits)) (onTc (τ := Cert.XattnOut.τ) (Cert.XattnOut.main (F := Bits))) ⟨m, fun _ => 0, g⟩ (fun r => (∀ c : Dev Cert.XattnOut.nD,
      r.2.mem ((c.tc : Thread Cert.XattnOut.nD Cert.XattnOut.τ).loc Cert.XattnOut.main_arg0) = m ((c.tc : Thread Cert.XattnOut.nD Cert.XattnOut.τ).loc Cert.XattnOut.main_arg0)
      ∧ r.2.mem ((c.tc : Thread Cert.XattnOut.nD Cert.XattnOut.τ).loc Cert.XattnOut.main_arg1) = m ((c.tc : Thread Cert.XattnOut.nD Cert.XattnOut.τ).loc Cert.XattnOut.main_arg1))
      ∧ r.2.sem = fun _ => 0)

def quiescent_XattnOutIdeal [hXattnOutIdeal : Cert.XattnOutIdeal.Facts] : Prop :=
  ∀ (m : (ℓ : Loc Cert.XattnOutIdeal.nD Cert.XattnOutIdeal.τ Cert.XattnOutIdeal.sig) → Buf (Elt Ideal) ℓ) (g : Dev Cert.XattnOutIdeal.nD → PrngReg), Pre_XattnOutIdeal m →
    θ_run (Cert.XattnOutIdeal.defs (F := Ideal)) (onTc (τ := Cert.XattnOutIdeal.τ) (Cert.XattnOutIdeal.main (F := Ideal))) ⟨m, fun _ => 0, g⟩ (fun r => (∀ c : Dev Cert.XattnOutIdeal.nD,
      r.2.mem ((c.tc : Thread Cert.XattnOutIdeal.nD Cert.XattnOutIdeal.τ).loc Cert.XattnOutIdeal.main_arg0) = m ((c.tc : Thread Cert.XattnOutIdeal.nD Cert.XattnOutIdeal.τ).loc Cert.XattnOutIdeal.main_arg0)
      ∧ r.2.mem ((c.tc : Thread Cert.XattnOutIdeal.nD Cert.XattnOutIdeal.τ).loc Cert.XattnOutIdeal.main_arg1) = m ((c.tc : Thread Cert.XattnOutIdeal.nD Cert.XattnOutIdeal.τ).loc Cert.XattnOutIdeal.main_arg1))
      ∧ r.2.sem = fun _ => 0)

def quiescent_XattnOutIdeal_pre_xattnout_finite [hXattnOutIdeal : Cert.XattnOutIdeal.Facts] [hPre_xattnout_finite : Cert.Pre_xattnout_finite.Facts] : Prop :=
  ∀ (m : (ℓ : Loc Cert.XattnOutIdeal.nD Cert.XattnOutIdeal.τ Cert.XattnOutIdeal.sig) → Buf (Elt Ideal) ℓ) (g : Dev Cert.XattnOutIdeal.nD → PrngReg), Pre_XattnOutIdeal_xattnout_finite m →
    θ_run (Cert.XattnOutIdeal.defs (F := Ideal)) (onTc (τ := Cert.XattnOutIdeal.τ) (Cert.XattnOutIdeal.main (F := Ideal))) ⟨m, fun _ => 0, g⟩ (fun r => (∀ c : Dev Cert.XattnOutIdeal.nD,
      r.2.mem ((c.tc : Thread Cert.XattnOutIdeal.nD Cert.XattnOutIdeal.τ).loc Cert.XattnOutIdeal.main_arg0) = m ((c.tc : Thread Cert.XattnOutIdeal.nD Cert.XattnOutIdeal.τ).loc Cert.XattnOutIdeal.main_arg0)
      ∧ r.2.mem ((c.tc : Thread Cert.XattnOutIdeal.nD Cert.XattnOutIdeal.τ).loc Cert.XattnOutIdeal.main_arg1) = m ((c.tc : Thread Cert.XattnOutIdeal.nD Cert.XattnOutIdeal.τ).loc Cert.XattnOutIdeal.main_arg1))
      ∧ r.2.sem = fun _ => 0)

def quiescent_XattnOutRefIdeal [hXattnOutRefIdeal : Cert.XattnOutRefIdeal.Facts] : Prop :=
  ∀ (m : (ℓ : Loc Cert.XattnOutRefIdeal.nD Cert.XattnOutRefIdeal.τ Cert.XattnOutRefIdeal.sig) → Buf (Elt Ideal) ℓ) (g : Dev Cert.XattnOutRefIdeal.nD → PrngReg), Pre_XattnOutRefIdeal m →
    θ_run (Cert.XattnOutRefIdeal.defs (F := Ideal)) (onTc (τ := Cert.XattnOutRefIdeal.τ) (Cert.XattnOutRefIdeal.main (F := Ideal))) ⟨m, fun _ => 0, g⟩ (fun r => (∀ c : Dev Cert.XattnOutRefIdeal.nD,
      r.2.mem ((c.tc : Thread Cert.XattnOutRefIdeal.nD Cert.XattnOutRefIdeal.τ).loc Cert.XattnOutRefIdeal.main_arg0) = m ((c.tc : Thread Cert.XattnOutRefIdeal.nD Cert.XattnOutRefIdeal.τ).loc Cert.XattnOutRefIdeal.main_arg0)
      ∧ r.2.mem ((c.tc : Thread Cert.XattnOutRefIdeal.nD Cert.XattnOutRefIdeal.τ).loc Cert.XattnOutRefIdeal.main_arg1) = m ((c.tc : Thread Cert.XattnOutRefIdeal.nD Cert.XattnOutRefIdeal.τ).loc Cert.XattnOutRefIdeal.main_arg1))
      ∧ r.2.sem = fun _ => 0)

def quiescent_XattnOutRefIdeal_pre_xattnout_finite [hXattnOutRefIdeal : Cert.XattnOutRefIdeal.Facts] [hPre_xattnout_finite : Cert.Pre_xattnout_finite.Facts] : Prop :=
  ∀ (m : (ℓ : Loc Cert.XattnOutRefIdeal.nD Cert.XattnOutRefIdeal.τ Cert.XattnOutRefIdeal.sig) → Buf (Elt Ideal) ℓ) (g : Dev Cert.XattnOutRefIdeal.nD → PrngReg), Pre_XattnOutRefIdeal_xattnout_finite m →
    θ_run (Cert.XattnOutRefIdeal.defs (F := Ideal)) (onTc (τ := Cert.XattnOutRefIdeal.τ) (Cert.XattnOutRefIdeal.main (F := Ideal))) ⟨m, fun _ => 0, g⟩ (fun r => (∀ c : Dev Cert.XattnOutRefIdeal.nD,
      r.2.mem ((c.tc : Thread Cert.XattnOutRefIdeal.nD Cert.XattnOutRefIdeal.τ).loc Cert.XattnOutRefIdeal.main_arg0) = m ((c.tc : Thread Cert.XattnOutRefIdeal.nD Cert.XattnOutRefIdeal.τ).loc Cert.XattnOutRefIdeal.main_arg0)
      ∧ r.2.mem ((c.tc : Thread Cert.XattnOutRefIdeal.nD Cert.XattnOutRefIdeal.τ).loc Cert.XattnOutRefIdeal.main_arg1) = m ((c.tc : Thread Cert.XattnOutRefIdeal.nD Cert.XattnOutRefIdeal.τ).loc Cert.XattnOutRefIdeal.main_arg1))
      ∧ r.2.sem = fun _ => 0)

def quiescent_PoolMean [hPoolMean : Cert.PoolMean.Facts] : Prop :=
  ∀ (m : (ℓ : Loc Cert.PoolMean.nD Cert.PoolMean.τ Cert.PoolMean.sig) → Buf (Elt Bits) ℓ) (g : Dev Cert.PoolMean.nD → PrngReg), Pre_PoolMean m →
    θ_run (Cert.PoolMean.defs (F := Bits)) (onTc (τ := Cert.PoolMean.τ) (Cert.PoolMean.main (F := Bits))) ⟨m, fun _ => 0, g⟩ (fun r => (∀ c : Dev Cert.PoolMean.nD,
      r.2.mem ((c.tc : Thread Cert.PoolMean.nD Cert.PoolMean.τ).loc Cert.PoolMean.main_arg0) = m ((c.tc : Thread Cert.PoolMean.nD Cert.PoolMean.τ).loc Cert.PoolMean.main_arg0))
      ∧ r.2.sem = fun _ => 0)

def quiescent_PoolMeanIdeal [hPoolMeanIdeal : Cert.PoolMeanIdeal.Facts] : Prop :=
  ∀ (m : (ℓ : Loc Cert.PoolMeanIdeal.nD Cert.PoolMeanIdeal.τ Cert.PoolMeanIdeal.sig) → Buf (Elt Ideal) ℓ) (g : Dev Cert.PoolMeanIdeal.nD → PrngReg), Pre_PoolMeanIdeal m →
    θ_run (Cert.PoolMeanIdeal.defs (F := Ideal)) (onTc (τ := Cert.PoolMeanIdeal.τ) (Cert.PoolMeanIdeal.main (F := Ideal))) ⟨m, fun _ => 0, g⟩ (fun r => (∀ c : Dev Cert.PoolMeanIdeal.nD,
      r.2.mem ((c.tc : Thread Cert.PoolMeanIdeal.nD Cert.PoolMeanIdeal.τ).loc Cert.PoolMeanIdeal.main_arg0) = m ((c.tc : Thread Cert.PoolMeanIdeal.nD Cert.PoolMeanIdeal.τ).loc Cert.PoolMeanIdeal.main_arg0))
      ∧ r.2.sem = fun _ => 0)

def quiescent_PoolMeanIdeal_pre_poolmean_finite [hPoolMeanIdeal : Cert.PoolMeanIdeal.Facts] [hPre_poolmean_finite : Cert.Pre_poolmean_finite.Facts] : Prop :=
  ∀ (m : (ℓ : Loc Cert.PoolMeanIdeal.nD Cert.PoolMeanIdeal.τ Cert.PoolMeanIdeal.sig) → Buf (Elt Ideal) ℓ) (g : Dev Cert.PoolMeanIdeal.nD → PrngReg), Pre_PoolMeanIdeal_poolmean_finite m →
    θ_run (Cert.PoolMeanIdeal.defs (F := Ideal)) (onTc (τ := Cert.PoolMeanIdeal.τ) (Cert.PoolMeanIdeal.main (F := Ideal))) ⟨m, fun _ => 0, g⟩ (fun r => (∀ c : Dev Cert.PoolMeanIdeal.nD,
      r.2.mem ((c.tc : Thread Cert.PoolMeanIdeal.nD Cert.PoolMeanIdeal.τ).loc Cert.PoolMeanIdeal.main_arg0) = m ((c.tc : Thread Cert.PoolMeanIdeal.nD Cert.PoolMeanIdeal.τ).loc Cert.PoolMeanIdeal.main_arg0))
      ∧ r.2.sem = fun _ => 0)

def quiescent_PoolMeanRefIdeal [hPoolMeanRefIdeal : Cert.PoolMeanRefIdeal.Facts] : Prop :=
  ∀ (m : (ℓ : Loc Cert.PoolMeanRefIdeal.nD Cert.PoolMeanRefIdeal.τ Cert.PoolMeanRefIdeal.sig) → Buf (Elt Ideal) ℓ) (g : Dev Cert.PoolMeanRefIdeal.nD → PrngReg), Pre_PoolMeanRefIdeal m →
    θ_run (Cert.PoolMeanRefIdeal.defs (F := Ideal)) (onTc (τ := Cert.PoolMeanRefIdeal.τ) (Cert.PoolMeanRefIdeal.main (F := Ideal))) ⟨m, fun _ => 0, g⟩ (fun r => (∀ c : Dev Cert.PoolMeanRefIdeal.nD,
      r.2.mem ((c.tc : Thread Cert.PoolMeanRefIdeal.nD Cert.PoolMeanRefIdeal.τ).loc Cert.PoolMeanRefIdeal.main_arg0) = m ((c.tc : Thread Cert.PoolMeanRefIdeal.nD Cert.PoolMeanRefIdeal.τ).loc Cert.PoolMeanRefIdeal.main_arg0))
      ∧ r.2.sem = fun _ => 0)

def quiescent_PoolMeanRefIdeal_pre_poolmean_finite [hPoolMeanRefIdeal : Cert.PoolMeanRefIdeal.Facts] [hPre_poolmean_finite : Cert.Pre_poolmean_finite.Facts] : Prop :=
  ∀ (m : (ℓ : Loc Cert.PoolMeanRefIdeal.nD Cert.PoolMeanRefIdeal.τ Cert.PoolMeanRefIdeal.sig) → Buf (Elt Ideal) ℓ) (g : Dev Cert.PoolMeanRefIdeal.nD → PrngReg), Pre_PoolMeanRefIdeal_poolmean_finite m →
    θ_run (Cert.PoolMeanRefIdeal.defs (F := Ideal)) (onTc (τ := Cert.PoolMeanRefIdeal.τ) (Cert.PoolMeanRefIdeal.main (F := Ideal))) ⟨m, fun _ => 0, g⟩ (fun r => (∀ c : Dev Cert.PoolMeanRefIdeal.nD,
      r.2.mem ((c.tc : Thread Cert.PoolMeanRefIdeal.nD Cert.PoolMeanRefIdeal.τ).loc Cert.PoolMeanRefIdeal.main_arg0) = m ((c.tc : Thread Cert.PoolMeanRefIdeal.nD Cert.PoolMeanRefIdeal.τ).loc Cert.PoolMeanRefIdeal.main_arg0))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_MmNn [hMmNn : Cert.MmNn.Facts] : Prop :=
  ∀ (m : (ℓ : Loc Cert.MmNn.nD Cert.MmNn.τ Cert.MmNn.sig) → Buf (Elt Bits) ℓ) (g : Dev Cert.MmNn.nD → PrngReg), Pre_MmNn m →
    θ_run (Cert.MmNn.defs (F := Bits)) (onTc (τ := Cert.MmNn.τ) (Cert.MmNn.main (F := Bits))) ⟨m, fun _ => 0, g⟩ (fun r => (∀ c : Dev Cert.MmNn.nD,
      r.2.mem ((c.tc : Thread Cert.MmNn.nD Cert.MmNn.τ).loc Cert.MmNn.main_arg0) = m ((c.tc : Thread Cert.MmNn.nD Cert.MmNn.τ).loc Cert.MmNn.main_arg0)
      ∧ r.2.mem ((c.tc : Thread Cert.MmNn.nD Cert.MmNn.τ).loc Cert.MmNn.main_arg1) = m ((c.tc : Thread Cert.MmNn.nD Cert.MmNn.τ).loc Cert.MmNn.main_arg1))
      ∧ r.2.sem = fun _ => 0)

def quiescent_MmNnIdeal [hMmNnIdeal : Cert.MmNnIdeal.Facts] : Prop :=
  ∀ (m : (ℓ : Loc Cert.MmNnIdeal.nD Cert.MmNnIdeal.τ Cert.MmNnIdeal.sig) → Buf (Elt Ideal) ℓ) (g : Dev Cert.MmNnIdeal.nD → PrngReg), Pre_MmNnIdeal m →
    θ_run (Cert.MmNnIdeal.defs (F := Ideal)) (onTc (τ := Cert.MmNnIdeal.τ) (Cert.MmNnIdeal.main (F := Ideal))) ⟨m, fun _ => 0, g⟩ (fun r => (∀ c : Dev Cert.MmNnIdeal.nD,
      r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
      ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ r.2.sem = fun _ => 0)

def quiescent_MmNnRefIdeal [hMmNnRefIdeal : Cert.MmNnRefIdeal.Facts] : Prop :=
  ∀ (m : (ℓ : Loc Cert.MmNnRefIdeal.nD Cert.MmNnRefIdeal.τ Cert.MmNnRefIdeal.sig) → Buf (Elt Ideal) ℓ) (g : Dev Cert.MmNnRefIdeal.nD → PrngReg), Pre_MmNnRefIdeal m →
    θ_run (Cert.MmNnRefIdeal.defs (F := Ideal)) (onTc (τ := Cert.MmNnRefIdeal.τ) (Cert.MmNnRefIdeal.main (F := Ideal))) ⟨m, fun _ => 0, g⟩ (fun r => (∀ c : Dev Cert.MmNnRefIdeal.nD,
      r.2.mem ((c.tc : Thread Cert.MmNnRefIdeal.nD Cert.MmNnRefIdeal.τ).loc Cert.MmNnRefIdeal.main_arg0) = m ((c.tc : Thread Cert.MmNnRefIdeal.nD Cert.MmNnRefIdeal.τ).loc Cert.MmNnRefIdeal.main_arg0)
      ∧ r.2.mem ((c.tc : Thread Cert.MmNnRefIdeal.nD Cert.MmNnRefIdeal.τ).loc Cert.MmNnRefIdeal.main_arg1) = m ((c.tc : Thread Cert.MmNnRefIdeal.nD Cert.MmNnRefIdeal.τ).loc Cert.MmNnRefIdeal.main_arg1))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1))
      ∧ r.2.sem = fun _ => 0)

def quiescent_MmKv [hMmKv : Cert.MmKv.Facts] : Prop :=
  ∀ (m : (ℓ : Loc Cert.MmKv.nD Cert.MmKv.τ Cert.MmKv.sig) → Buf (Elt Bits) ℓ) (g : Dev Cert.MmKv.nD → PrngReg), Pre_MmKv m →
    θ_run (Cert.MmKv.defs (F := Bits)) (onTc (τ := Cert.MmKv.τ) (Cert.MmKv.main (F := Bits))) ⟨m, fun _ => 0, g⟩ (fun r => (∀ c : Dev Cert.MmKv.nD,
      r.2.mem ((c.tc : Thread Cert.MmKv.nD Cert.MmKv.τ).loc Cert.MmKv.main_arg0) = m ((c.tc : Thread Cert.MmKv.nD Cert.MmKv.τ).loc Cert.MmKv.main_arg0)
      ∧ r.2.mem ((c.tc : Thread Cert.MmKv.nD Cert.MmKv.τ).loc Cert.MmKv.main_arg1) = m ((c.tc : Thread Cert.MmKv.nD Cert.MmKv.τ).loc Cert.MmKv.main_arg1))
      ∧ r.2.sem = fun _ => 0)

def quiescent_MmKvIdeal [hMmKvIdeal : Cert.MmKvIdeal.Facts] : Prop :=
  ∀ (m : (ℓ : Loc Cert.MmKvIdeal.nD Cert.MmKvIdeal.τ Cert.MmKvIdeal.sig) → Buf (Elt Ideal) ℓ) (g : Dev Cert.MmKvIdeal.nD → PrngReg), Pre_MmKvIdeal m →
    θ_run (Cert.MmKvIdeal.defs (F := Ideal)) (onTc (τ := Cert.MmKvIdeal.τ) (Cert.MmKvIdeal.main (F := Ideal))) ⟨m, fun _ => 0, g⟩ (fun r => (∀ c : Dev Cert.MmKvIdeal.nD,
      r.2.mem ((c.tc : Thread Cert.MmKvIdeal.nD Cert.MmKvIdeal.τ).loc Cert.MmKvIdeal.main_arg0) = m ((c.tc : Thread Cert.MmKvIdeal.nD Cert.MmKvIdeal.τ).loc Cert.MmKvIdeal.main_arg0)
      ∧ r.2.mem ((c.tc : Thread Cert.MmKvIdeal.nD Cert.MmKvIdeal.τ).loc Cert.MmKvIdeal.main_arg1) = m ((c.tc : Thread Cert.MmKvIdeal.nD Cert.MmKvIdeal.τ).loc Cert.MmKvIdeal.main_arg1))
      ∧ r.2.sem = fun _ => 0)

def quiescent_MmKvRefIdeal [hMmKvRefIdeal : Cert.MmKvRefIdeal.Facts] : Prop :=
  ∀ (m : (ℓ : Loc Cert.MmKvRefIdeal.nD Cert.MmKvRefIdeal.τ Cert.MmKvRefIdeal.sig) → Buf (Elt Ideal) ℓ) (g : Dev Cert.MmKvRefIdeal.nD → PrngReg), Pre_MmKvRefIdeal m →
    θ_run (Cert.MmKvRefIdeal.defs (F := Ideal)) (onTc (τ := Cert.MmKvRefIdeal.τ) (Cert.MmKvRefIdeal.main (F := Ideal))) ⟨m, fun _ => 0, g⟩ (fun r => (∀ c : Dev Cert.MmKvRefIdeal.nD,
      r.2.mem ((c.tc : Thread Cert.MmKvRefIdeal.nD Cert.MmKvRefIdeal.τ).loc Cert.MmKvRefIdeal.main_arg0) = m ((c.tc : Thread Cert.MmKvRefIdeal.nD Cert.MmKvRefIdeal.τ).loc Cert.MmKvRefIdeal.main_arg0)
      ∧ r.2.mem ((c.tc : Thread Cert.MmKvRefIdeal.nD Cert.MmKvRefIdeal.τ).loc Cert.MmKvRefIdeal.main_arg1) = m ((c.tc : Thread Cert.MmKvRefIdeal.nD Cert.MmKvRefIdeal.τ).loc Cert.MmKvRefIdeal.main_arg1))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1)
      ∧ r.2.mem ((c.tc : Thread Cert.MmDown.nD Cert.MmDown.τ).loc Cert.MmDown.main_arg2) = m ((c.tc : Thread Cert.MmDown.nD Cert.MmDown.τ).loc Cert.MmDown.main_arg2))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
      ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1)
      ∧ r.2.mem ((c.tc : Thread Cert.MmDownRefIdeal.nD Cert.MmDownRefIdeal.τ).loc Cert.MmDownRefIdeal.main_arg2) = m ((c.tc : Thread Cert.MmDownRefIdeal.nD Cert.MmDownRefIdeal.τ).loc Cert.MmDownRefIdeal.main_arg2))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_MmKvDw [hMmKvDw : Cert.MmKvDw.Facts] : Prop :=
  ∀ (m : (ℓ : Loc Cert.MmKvDw.nD Cert.MmKvDw.τ Cert.MmKvDw.sig) → Buf (Elt Bits) ℓ) (g : Dev Cert.MmKvDw.nD → PrngReg), Pre_MmKvDw m →
    θ_run (Cert.MmKvDw.defs (F := Bits)) (onTc (τ := Cert.MmKvDw.τ) (Cert.MmKvDw.main (F := Bits))) ⟨m, fun _ => 0, g⟩ (fun r => (∀ c : Dev Cert.MmKvDw.nD,
      r.2.mem ((c.tc : Thread Cert.MmKvDw.nD Cert.MmKvDw.τ).loc Cert.MmKvDw.main_arg0) = m ((c.tc : Thread Cert.MmKvDw.nD Cert.MmKvDw.τ).loc Cert.MmKvDw.main_arg0)
      ∧ r.2.mem ((c.tc : Thread Cert.MmKvDw.nD Cert.MmKvDw.τ).loc Cert.MmKvDw.main_arg1) = m ((c.tc : Thread Cert.MmKvDw.nD Cert.MmKvDw.τ).loc Cert.MmKvDw.main_arg1))
      ∧ r.2.sem = fun _ => 0)

def quiescent_MmKvDwIdeal [hMmKvDwIdeal : Cert.MmKvDwIdeal.Facts] : Prop :=
  ∀ (m : (ℓ : Loc Cert.MmKvDwIdeal.nD Cert.MmKvDwIdeal.τ Cert.MmKvDwIdeal.sig) → Buf (Elt Ideal) ℓ) (g : Dev Cert.MmKvDwIdeal.nD → PrngReg), Pre_MmKvDwIdeal m →
    θ_run (Cert.MmKvDwIdeal.defs (F := Ideal)) (onTc (τ := Cert.MmKvDwIdeal.τ) (Cert.MmKvDwIdeal.main (F := Ideal))) ⟨m, fun _ => 0, g⟩ (fun r => (∀ c : Dev Cert.MmKvDwIdeal.nD,
      r.2.mem ((c.tc : Thread Cert.MmKvDwIdeal.nD Cert.MmKvDwIdeal.τ).loc Cert.MmKvDwIdeal.main_arg0) = m ((c.tc : Thread Cert.MmKvDwIdeal.nD Cert.MmKvDwIdeal.τ).loc Cert.MmKvDwIdeal.main_arg0)
      ∧ r.2.mem ((c.tc : Thread Cert.MmKvDwIdeal.nD Cert.MmKvDwIdeal.τ).loc Cert.MmKvDwIdeal.main_arg1) = m ((c.tc : Thread Cert.MmKvDwIdeal.nD Cert.MmKvDwIdeal.τ).loc Cert.MmKvDwIdeal.main_arg1))
      ∧ r.2.sem = fun _ => 0)

def quiescent_MmKvDwRefIdeal [hMmKvDwRefIdeal : Cert.MmKvDwRefIdeal.Facts] : Prop :=
  ∀ (m : (ℓ : Loc Cert.MmKvDwRefIdeal.nD Cert.MmKvDwRefIdeal.τ Cert.MmKvDwRefIdeal.sig) → Buf (Elt Ideal) ℓ) (g : Dev Cert.MmKvDwRefIdeal.nD → PrngReg), Pre_MmKvDwRefIdeal m →
    θ_run (Cert.MmKvDwRefIdeal.defs (F := Ideal)) (onTc (τ := Cert.MmKvDwRefIdeal.τ) (Cert.MmKvDwRefIdeal.main (F := Ideal))) ⟨m, fun _ => 0, g⟩ (fun r => (∀ c : Dev Cert.MmKvDwRefIdeal.nD,
      r.2.mem ((c.tc : Thread Cert.MmKvDwRefIdeal.nD Cert.MmKvDwRefIdeal.τ).loc Cert.MmKvDwRefIdeal.main_arg0) = m ((c.tc : Thread Cert.MmKvDwRefIdeal.nD Cert.MmKvDwRefIdeal.τ).loc Cert.MmKvDwRefIdeal.main_arg0)
      ∧ r.2.mem ((c.tc : Thread Cert.MmKvDwRefIdeal.nD Cert.MmKvDwRefIdeal.τ).loc Cert.MmKvDwRefIdeal.main_arg1) = m ((c.tc : Thread Cert.MmKvDwRefIdeal.nD Cert.MmKvDwRefIdeal.τ).loc Cert.MmKvDwRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v4_0)) (v1 : (c : Dev Cert.AttnIdeal.nD) → Buf (Elt Ideal) ((c.tc : Thread Cert.AttnIdeal.nD Cert.AttnIdeal.τ).loc Cert.AttnIdeal.main_v7_0)) (v2 : (c : Dev Cert.AttnIdeal.nD) → Buf (Elt Ideal) ((c.tc : Thread Cert.AttnIdeal.nD Cert.AttnIdeal.τ).loc Cert.AttnIdeal.main_v7_1)) (v3 : (c : Dev Cert.AttnIdeal.nD) → Buf (Elt Ideal) ((c.tc : Thread Cert.AttnIdeal.nD Cert.AttnIdeal.τ).loc Cert.AttnIdeal.main_v7_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4_0) = v0 c
          ∧ r.2.mem ((c.tc : Thread Cert.AttnIdeal.nD Cert.AttnIdeal.τ).loc Cert.AttnIdeal.main_v7_0) = v1 c
          ∧ r.2.mem ((c.tc : Thread Cert.AttnIdeal.nD Cert.AttnIdeal.τ).loc Cert.AttnIdeal.main_v7_1) = v2 c
          ∧ r.2.mem ((c.tc : Thread Cert.AttnIdeal.nD Cert.AttnIdeal.τ).loc Cert.AttnIdeal.main_v7_2) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v65) = v0 c
          ∧ r.2.mem ((c.tc : Thread Cert.AttnRefIdeal.nD Cert.AttnRefIdeal.τ).loc Cert.AttnRefIdeal.main_v66) = v1 c
          ∧ r.2.mem ((c.tc : Thread Cert.AttnRefIdeal.nD Cert.AttnRefIdeal.τ).loc Cert.AttnRefIdeal.main_v67) = v2 c
          ∧ r.2.mem ((c.tc : Thread Cert.AttnRefIdeal.nD Cert.AttnRefIdeal.τ).loc Cert.AttnRefIdeal.main_v68) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_NormRes_NormResIdeal : Prop :=
  True

def algebraic_NormResIdeal_NormResRefIdeal [hNormResIdeal : Cert.NormResIdeal.Facts] [hNormResRefIdeal : Cert.NormResRefIdeal.Facts] : Prop :=
  ∀ (m : (ℓ : Loc Cert.NormResIdeal.nD Cert.NormResIdeal.τ Cert.NormResIdeal.sig) → Buf (Elt Ideal) ℓ) (g : Dev Cert.NormResIdeal.nD → PrngReg)
    (m' : (ℓ : Loc Cert.NormResRefIdeal.nD Cert.NormResRefIdeal.τ Cert.NormResRefIdeal.sig) → Buf (Elt Ideal) ℓ) (g' : Dev Cert.NormResRefIdeal.nD → PrngReg), Pre_NormResIdeal m →
    (∀ c : Dev Cert.NormResIdeal.nD,
      m' ((c.tc : Thread Cert.NormResRefIdeal.nD Cert.NormResRefIdeal.τ).loc Cert.NormResRefIdeal.main_arg0) = m ((c.tc : Thread Cert.NormResIdeal.nD Cert.NormResIdeal.τ).loc Cert.NormResIdeal.main_arg0)
      ∧ m' ((c.tc : Thread Cert.NormResRefIdeal.nD Cert.NormResRefIdeal.τ).loc Cert.NormResRefIdeal.main_arg1) = m ((c.tc : Thread Cert.NormResIdeal.nD Cert.NormResIdeal.τ).loc Cert.NormResIdeal.main_arg1)
      ∧ m' ((c.tc : Thread Cert.NormResRefIdeal.nD Cert.NormResRefIdeal.τ).loc Cert.NormResRefIdeal.main_arg2) = m ((c.tc : Thread Cert.NormResIdeal.nD Cert.NormResIdeal.τ).loc Cert.NormResIdeal.main_arg2)
      ∧ m' ((c.tc : Thread Cert.NormResRefIdeal.nD Cert.NormResRefIdeal.τ).loc Cert.NormResRefIdeal.main_arg3) = m ((c.tc : Thread Cert.NormResIdeal.nD Cert.NormResIdeal.τ).loc Cert.NormResIdeal.main_arg3)) →
    ∃ (v0 : (c : Dev Cert.NormResIdeal.nD) → Buf (Elt Ideal) ((c.tc : Thread Cert.NormResIdeal.nD Cert.NormResIdeal.τ).loc Cert.NormResIdeal.main_v0_0)) (v1 : (c : Dev Cert.NormResIdeal.nD) → Buf (Elt Ideal) ((c.tc : Thread Cert.NormResIdeal.nD Cert.NormResIdeal.τ).loc Cert.NormResIdeal.main_v0_1)),
      θ_run (Cert.NormResIdeal.defs (F := Ideal)) (onTc (τ := Cert.NormResIdeal.τ) (Cert.NormResIdeal.main (F := Ideal))) ⟨m, fun _ => 0, g⟩ (fun r => ∀ c : Dev Cert.NormResIdeal.nD,
          r.2.mem ((c.tc : Thread Cert.NormResIdeal.nD Cert.NormResIdeal.τ).loc Cert.NormResIdeal.main_v0_0) = v0 c
          ∧ r.2.mem ((c.tc : Thread Cert.NormResIdeal.nD Cert.NormResIdeal.τ).loc Cert.NormResIdeal.main_v0_1) = v1 c
          ∧ r.2.mem ((c.tc : Thread Cert.NormResIdeal.nD Cert.NormResIdeal.τ).loc Cert.NormResIdeal.main_arg0) = m ((c.tc : Thread Cert.NormResIdeal.nD Cert.NormResIdeal.τ).loc Cert.NormResIdeal.main_arg0)
          ∧ r.2.mem ((c.tc : Thread Cert.NormResIdeal.nD Cert.NormResIdeal.τ).loc Cert.NormResIdeal.main_arg1) = m ((c.tc : Thread Cert.NormResIdeal.nD Cert.NormResIdeal.τ).loc Cert.NormResIdeal.main_arg1)
          ∧ r.2.mem ((c.tc : Thread Cert.NormResIdeal.nD Cert.NormResIdeal.τ).loc Cert.NormResIdeal.main_arg2) = m ((c.tc : Thread Cert.NormResIdeal.nD Cert.NormResIdeal.τ).loc Cert.NormResIdeal.main_arg2)
          ∧ r.2.mem ((c.tc : Thread Cert.NormResIdeal.nD Cert.NormResIdeal.τ).loc Cert.NormResIdeal.main_arg3) = m ((c.tc : Thread Cert.NormResIdeal.nD Cert.NormResIdeal.τ).loc Cert.NormResIdeal.main_arg3))
      ∧ θ_run (Cert.NormResRefIdeal.defs (F := Ideal)) (onTc (τ := Cert.NormResRefIdeal.τ) (Cert.NormResRefIdeal.main (F := Ideal))) ⟨m', fun _ => 0, g'⟩ (fun r => ∀ c : Dev Cert.NormResRefIdeal.nD,
          r.2.mem ((c.tc : Thread Cert.NormResRefIdeal.nD Cert.NormResRefIdeal.τ).loc Cert.NormResRefIdeal.main_v37) = v0 c
          ∧ r.2.mem ((c.tc : Thread Cert.NormResRefIdeal.nD Cert.NormResRefIdeal.τ).loc Cert.NormResRefIdeal.main_v38) = v1 c
          ∧ r.2.mem ((c.tc : Thread Cert.NormResRefIdeal.nD Cert.NormResRefIdeal.τ).loc Cert.NormResRefIdeal.main_arg0) = m' ((c.tc : Thread Cert.NormResRefIdeal.nD Cert.NormResRefIdeal.τ).loc Cert.NormResRefIdeal.main_arg0)
          ∧ r.2.mem ((c.tc : Thread Cert.NormResRefIdeal.nD Cert.NormResRefIdeal.τ).loc Cert.NormResRefIdeal.main_arg1) = m' ((c.tc : Thread Cert.NormResRefIdeal.nD Cert.NormResRefIdeal.τ).loc Cert.NormResRefIdeal.main_arg1)
          ∧ r.2.mem ((c.tc : Thread Cert.NormResRefIdeal.nD Cert.NormResRefIdeal.τ).loc Cert.NormResRefIdeal.main_arg2) = m' ((c.tc : Thread Cert.NormResRefIdeal.nD Cert.NormResRefIdeal.τ).loc Cert.NormResRefIdeal.main_arg2)
          ∧ r.2.mem ((c.tc : Thread Cert.NormResRefIdeal.nD Cert.NormResRefIdeal.τ).loc Cert.NormResRefIdeal.main_arg3) = m' ((c.tc : Thread Cert.NormResRefIdeal.nD Cert.NormResRefIdeal.τ).loc Cert.NormResRefIdeal.main_arg3))

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)
      ∧ m' ((c.tc : Thread Cert.NormMemRefIdeal.nD Cert.NormMemRefIdeal.τ).loc Cert.NormMemRefIdeal.main_arg2) = m ((c.tc : Thread Cert.NormMemIdeal.nD Cert.NormMemIdeal.τ).loc Cert.NormMemIdeal.main_arg2)) →
    ∃ (v0 : (c : Dev Cert.NormMemIdeal.nD) → Buf (Elt Ideal) ((c.tc : Thread Cert.NormMemIdeal.nD Cert.NormMemIdeal.τ).loc Cert.NormMemIdeal.main_v0_0)) (v1 : (c : Dev Cert.NormMemIdeal.nD) → Buf (Elt Ideal) ((c.tc : Thread Cert.NormMemIdeal.nD Cert.NormMemIdeal.τ).loc Cert.NormMemIdeal.main_v0_1)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v0_0) = v0 c
          ∧ r.2.mem ((c.tc : Thread Cert.NormMemIdeal.nD Cert.NormMemIdeal.τ).loc Cert.NormMemIdeal.main_v0_1) = v1 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
          ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v36) = v0 c
          ∧ r.2.mem ((c.tc : Thread Cert.NormMemRefIdeal.nD Cert.NormMemRefIdeal.τ).loc Cert.NormMemRefIdeal.main_v37) = v1 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1)
          ∧ r.2.mem ((c.tc : Thread Cert.NormMemRefIdeal.nD Cert.NormMemRefIdeal.τ).loc Cert.NormMemRefIdeal.main_arg2) = m' ((c.tc : Thread Cert.NormMemRefIdeal.nD Cert.NormMemRefIdeal.τ).loc Cert.NormMemRefIdeal.main_arg2))

def preserves_QNorm_QNormIdeal : Prop :=
  True

def algebraic_QNormIdeal_QNormRefIdeal [hQNormIdeal : Cert.QNormIdeal.Facts] [hQNormRefIdeal : Cert.QNormRefIdeal.Facts] : Prop :=
  ∀ (m : (ℓ : Loc Cert.QNormIdeal.nD Cert.QNormIdeal.τ Cert.QNormIdeal.sig) → Buf (Elt Ideal) ℓ) (g : Dev Cert.QNormIdeal.nD → PrngReg)
    (m' : (ℓ : Loc Cert.QNormRefIdeal.nD Cert.QNormRefIdeal.τ Cert.QNormRefIdeal.sig) → Buf (Elt Ideal) ℓ) (g' : Dev Cert.QNormRefIdeal.nD → PrngReg), Pre_QNormIdeal m →
    (∀ c : Dev Cert.QNormIdeal.nD,
      m' ((c.tc : Thread Cert.QNormRefIdeal.nD Cert.QNormRefIdeal.τ).loc Cert.QNormRefIdeal.main_arg0) = m ((c.tc : Thread Cert.QNormIdeal.nD Cert.QNormIdeal.τ).loc Cert.QNormIdeal.main_arg0)
      ∧ m' ((c.tc : Thread Cert.QNormRefIdeal.nD Cert.QNormRefIdeal.τ).loc Cert.QNormRefIdeal.main_arg1) = m ((c.tc : Thread Cert.QNormIdeal.nD Cert.QNormIdeal.τ).loc Cert.QNormIdeal.main_arg1)
      ∧ m' ((c.tc : Thread Cert.QNormRefIdeal.nD Cert.QNormRefIdeal.τ).loc Cert.QNormRefIdeal.main_arg2) = m ((c.tc : Thread Cert.QNormIdeal.nD Cert.QNormIdeal.τ).loc Cert.QNormIdeal.main_arg2)
      ∧ m' ((c.tc : Thread Cert.QNormRefIdeal.nD Cert.QNormRefIdeal.τ).loc Cert.QNormRefIdeal.main_arg3) = m ((c.tc : Thread Cert.QNormIdeal.nD Cert.QNormIdeal.τ).loc Cert.QNormIdeal.main_arg3)
      ∧ m' ((c.tc : Thread Cert.QNormRefIdeal.nD Cert.QNormRefIdeal.τ).loc Cert.QNormRefIdeal.main_arg4) = m ((c.tc : Thread Cert.QNormIdeal.nD Cert.QNormIdeal.τ).loc Cert.QNormIdeal.main_arg4)) →
    ∃ (v0 : (c : Dev Cert.QNormIdeal.nD) → Buf (Elt Ideal) ((c.tc : Thread Cert.QNormIdeal.nD Cert.QNormIdeal.τ).loc Cert.QNormIdeal.main_v0_0)) (v1 : (c : Dev Cert.QNormIdeal.nD) → Buf (Elt Ideal) ((c.tc : Thread Cert.QNormIdeal.nD Cert.QNormIdeal.τ).loc Cert.QNormIdeal.main_v0_1)),
      θ_run (Cert.QNormIdeal.defs (F := Ideal)) (onTc (τ := Cert.QNormIdeal.τ) (Cert.QNormIdeal.main (F := Ideal))) ⟨m, fun _ => 0, g⟩ (fun r => ∀ c : Dev Cert.QNormIdeal.nD,
          r.2.mem ((c.tc : Thread Cert.QNormIdeal.nD Cert.QNormIdeal.τ).loc Cert.QNormIdeal.main_v0_0) = v0 c
          ∧ r.2.mem ((c.tc : Thread Cert.QNormIdeal.nD Cert.QNormIdeal.τ).loc Cert.QNormIdeal.main_v0_1) = v1 c
          ∧ r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
          ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1)
          ∧ r.2.mem ((c.tc : Thread Cert.QNormIdeal.nD Cert.QNormIdeal.τ).loc Cert.QNormIdeal.main_arg2) = m ((c.tc : Thread Cert.QNormIdeal.nD Cert.QNormIdeal.τ).loc Cert.QNormIdeal.main_arg2)
          ∧ r.2.mem ((c.tc : Thread Cert.QNormIdeal.nD Cert.QNormIdeal.τ).loc Cert.QNormIdeal.main_arg3) = m ((c.tc : Thread Cert.QNormIdeal.nD Cert.QNormIdeal.τ).loc Cert.QNormIdeal.main_arg3)
          ∧ r.2.mem ((c.tc : Thread Cert.QNormIdeal.nD Cert.QNormIdeal.τ).loc Cert.QNormIdeal.main_arg4) = m ((c.tc : Thread Cert.QNormIdeal.nD Cert.QNormIdeal.τ).loc Cert.QNormIdeal.main_arg4))
      ∧ θ_run (Cert.QNormRefIdeal.defs (F := Ideal)) (onTc (τ := Cert.QNormRefIdeal.τ) (Cert.QNormRefIdeal.main (F := Ideal))) ⟨m', fun _ => 0, g'⟩ (fun r => ∀ c : Dev Cert.QNormRefIdeal.nD,
          r.2.mem ((c.tc : Thread Cert.QNormRefIdeal.nD Cert.QNormRefIdeal.τ).loc Cert.QNormRefIdeal.main_v41) = v0 c
          ∧ r.2.mem ((c.tc : Thread Cert.QNormRefIdeal.nD Cert.QNormRefIdeal.τ).loc Cert.QNormRefIdeal.main_v42) = v1 c
          ∧ r.2.mem ((c.tc : Thread Cert.QNormRefIdeal.nD Cert.QNormRefIdeal.τ).loc Cert.QNormRefIdeal.main_arg0) = m' ((c.tc : Thread Cert.QNormRefIdeal.nD Cert.QNormRefIdeal.τ).loc Cert.QNormRefIdeal.main_arg0)
          ∧ r.2.mem ((c.tc : Thread Cert.QNormRefIdeal.nD Cert.QNormRefIdeal.τ).loc Cert.QNormRefIdeal.main_arg1) = m' ((c.tc : Thread Cert.QNormRefIdeal.nD Cert.QNormRefIdeal.τ).loc Cert.QNormRefIdeal.main_arg1)
          ∧ r.2.mem ((c.tc : Thread Cert.QNormRefIdeal.nD Cert.QNormRefIdeal.τ).loc Cert.QNormRefIdeal.main_arg2) = m' ((c.tc : Thread Cert.QNormRefIdeal.nD Cert.QNormRefIdeal.τ).loc Cert.QNormRefIdeal.main_arg2)
          ∧ r.2.mem ((c.tc : Thread Cert.QNormRefIdeal.nD Cert.QNormRefIdeal.τ).loc Cert.QNormRefIdeal.main_arg3) = m' ((c.tc : Thread Cert.QNormRefIdeal.nD Cert.QNormRefIdeal.τ).loc Cert.QNormRefIdeal.main_arg3)
          ∧ r.2.mem ((c.tc : Thread Cert.QNormRefIdeal.nD Cert.QNormRefIdeal.τ).loc Cert.QNormRefIdeal.main_arg4) = m' ((c.tc : Thread Cert.QNormRefIdeal.nD Cert.QNormRefIdeal.τ).loc Cert.QNormRefIdeal.main_arg4))

def preserves_QkvNorm_QkvNormIdeal : Prop :=
  True

def algebraic_QkvNormIdeal_QkvNormRefIdeal [hQkvNormIdeal : Cert.QkvNormIdeal.Facts] [hQkvNormRefIdeal : Cert.QkvNormRefIdeal.Facts] : Prop :=
  ∀ (m : (ℓ : Loc Cert.QkvNormIdeal.nD Cert.QkvNormIdeal.τ Cert.QkvNormIdeal.sig) → Buf (Elt Ideal) ℓ) (g : Dev Cert.QkvNormIdeal.nD → PrngReg)
    (m' : (ℓ : Loc Cert.QkvNormRefIdeal.nD Cert.QkvNormRefIdeal.τ Cert.QkvNormRefIdeal.sig) → Buf (Elt Ideal) ℓ) (g' : Dev Cert.QkvNormRefIdeal.nD → PrngReg), Pre_QkvNormIdeal m →
    (∀ c : Dev Cert.QkvNormIdeal.nD,
      m' ((c.tc : Thread Cert.QkvNormRefIdeal.nD Cert.QkvNormRefIdeal.τ).loc Cert.QkvNormRefIdeal.main_arg0) = m ((c.tc : Thread Cert.QkvNormIdeal.nD Cert.QkvNormIdeal.τ).loc Cert.QkvNormIdeal.main_arg0)
      ∧ m' ((c.tc : Thread Cert.QkvNormRefIdeal.nD Cert.QkvNormRefIdeal.τ).loc Cert.QkvNormRefIdeal.main_arg1) = m ((c.tc : Thread Cert.QkvNormIdeal.nD Cert.QkvNormIdeal.τ).loc Cert.QkvNormIdeal.main_arg1)
      ∧ m' ((c.tc : Thread Cert.QkvNormRefIdeal.nD Cert.QkvNormRefIdeal.τ).loc Cert.QkvNormRefIdeal.main_arg2) = m ((c.tc : Thread Cert.QkvNormIdeal.nD Cert.QkvNormIdeal.τ).loc Cert.QkvNormIdeal.main_arg2)
      ∧ m' ((c.tc : Thread Cert.QkvNormRefIdeal.nD Cert.QkvNormRefIdeal.τ).loc Cert.QkvNormRefIdeal.main_arg3) = m ((c.tc : Thread Cert.QkvNormIdeal.nD Cert.QkvNormIdeal.τ).loc Cert.QkvNormIdeal.main_arg3)
      ∧ m' ((c.tc : Thread Cert.QkvNormRefIdeal.nD Cert.QkvNormRefIdeal.τ).loc Cert.QkvNormRefIdeal.main_arg4) = m ((c.tc : Thread Cert.QkvNormIdeal.nD Cert.QkvNormIdeal.τ).loc Cert.QkvNormIdeal.main_arg4)
      ∧ m' ((c.tc : Thread Cert.QkvNormRefIdeal.nD Cert.QkvNormRefIdeal.τ).loc Cert.QkvNormRefIdeal.main_arg5) = m ((c.tc : Thread Cert.QkvNormIdeal.nD Cert.QkvNormIdeal.τ).loc Cert.QkvNormIdeal.main_arg5)) →
    ∃ (v0 : (c : Dev Cert.QkvNormIdeal.nD) → Buf (Elt Ideal) ((c.tc : Thread Cert.QkvNormIdeal.nD Cert.QkvNormIdeal.τ).loc Cert.QkvNormIdeal.main_v0_0)) (v1 : (c : Dev Cert.QkvNormIdeal.nD) → Buf (Elt Ideal) ((c.tc : Thread Cert.QkvNormIdeal.nD Cert.QkvNormIdeal.τ).loc Cert.QkvNormIdeal.main_v0_1)),
      θ_run (Cert.QkvNormIdeal.defs (F := Ideal)) (onTc (τ := Cert.QkvNormIdeal.τ) (Cert.QkvNormIdeal.main (F := Ideal))) ⟨m, fun _ => 0, g⟩ (fun r => ∀ c : Dev Cert.QkvNormIdeal.nD,
          r.2.mem ((c.tc : Thread Cert.QkvNormIdeal.nD Cert.QkvNormIdeal.τ).loc Cert.QkvNormIdeal.main_v0_0) = v0 c
          ∧ r.2.mem ((c.tc : Thread Cert.QkvNormIdeal.nD Cert.QkvNormIdeal.τ).loc Cert.QkvNormIdeal.main_v0_1) = v1 c
          ∧ r.2.mem ((c.tc : Thread Cert.QkvNormIdeal.nD Cert.QkvNormIdeal.τ).loc Cert.QkvNormIdeal.main_arg0) = m ((c.tc : Thread Cert.QkvNormIdeal.nD Cert.QkvNormIdeal.τ).loc Cert.QkvNormIdeal.main_arg0)
          ∧ r.2.mem ((c.tc : Thread Cert.QkvNormIdeal.nD Cert.QkvNormIdeal.τ).loc Cert.QkvNormIdeal.main_arg1) = m ((c.tc : Thread Cert.QkvNormIdeal.nD Cert.QkvNormIdeal.τ).loc Cert.QkvNormIdeal.main_arg1)
          ∧ r.2.mem ((c.tc : Thread Cert.QkvNormIdeal.nD Cert.QkvNormIdeal.τ).loc Cert.QkvNormIdeal.main_arg2) = m ((c.tc : Thread Cert.QkvNormIdeal.nD Cert.QkvNormIdeal.τ).loc Cert.QkvNormIdeal.main_arg2)
          ∧ r.2.mem ((c.tc : Thread Cert.QkvNormIdeal.nD Cert.QkvNormIdeal.τ).loc Cert.QkvNormIdeal.main_arg3) = m ((c.tc : Thread Cert.QkvNormIdeal.nD Cert.QkvNormIdeal.τ).loc Cert.QkvNormIdeal.main_arg3)
          ∧ r.2.mem ((c.tc : Thread Cert.QkvNormIdeal.nD Cert.QkvNormIdeal.τ).loc Cert.QkvNormIdeal.main_arg4) = m ((c.tc : Thread Cert.QkvNormIdeal.nD Cert.QkvNormIdeal.τ).loc Cert.QkvNormIdeal.main_arg4)
          ∧ r.2.mem ((c.tc : Thread Cert.QkvNormIdeal.nD Cert.QkvNormIdeal.τ).loc Cert.QkvNormIdeal.main_arg5) = m ((c.tc : Thread Cert.QkvNormIdeal.nD Cert.QkvNormIdeal.τ).loc Cert.QkvNormIdeal.main_arg5))
      ∧ θ_run (Cert.QkvNormRefIdeal.defs (F := Ideal)) (onTc (τ := Cert.QkvNormRefIdeal.τ) (Cert.QkvNormRefIdeal.main (F := Ideal))) ⟨m', fun _ => 0, g'⟩ (fun r => ∀ c : Dev Cert.QkvNormRefIdeal.nD,
          r.2.mem ((c.tc : Thread Cert.QkvNormRefIdeal.nD Cert.QkvNormRefIdeal.τ).loc Cert.QkvNormRefIdeal.main_v41) = v0 c
          ∧ r.2.mem ((c.tc : Thread Cert.QkvNormRefIdeal.nD Cert.QkvNormRefIdeal.τ).loc Cert.QkvNormRefIdeal.main_v42) = v1 c
          ∧ r.2.mem ((c.tc : Thread Cert.QkvNormRefIdeal.nD Cert.QkvNormRefIdeal.τ).loc Cert.QkvNormRefIdeal.main_arg0) = m' ((c.tc : Thread Cert.QkvNormRefIdeal.nD Cert.QkvNormRefIdeal.τ).loc Cert.QkvNormRefIdeal.main_arg0)
          ∧ r.2.mem ((c.tc : Thread Cert.QkvNormRefIdeal.nD Cert.QkvNormRefIdeal.τ).loc Cert.QkvNormRefIdeal.main_arg1) = m' ((c.tc : Thread Cert.QkvNormRefIdeal.nD Cert.QkvNormRefIdeal.τ).loc Cert.QkvNormRefIdeal.main_arg1)
          ∧ r.2.mem ((c.tc : Thread Cert.QkvNormRefIdeal.nD Cert.QkvNormRefIdeal.τ).loc Cert.QkvNormRefIdeal.main_arg2) = m' ((c.tc : Thread Cert.QkvNormRefIdeal.nD Cert.QkvNormRefIdeal.τ).loc Cert.QkvNormRefIdeal.main_arg2)
          ∧ r.2.mem ((c.tc : Thread Cert.QkvNormRefIdeal.nD Cert.QkvNormRefIdeal.τ).loc Cert.QkvNormRefIdeal.main_arg3) = m' ((c.tc : Thread Cert.QkvNormRefIdeal.nD Cert.QkvNormRefIdeal.τ).loc Cert.QkvNormRefIdeal.main_arg3)
          ∧ r.2.mem ((c.tc : Thread Cert.QkvNormRefIdeal.nD Cert.QkvNormRefIdeal.τ).loc Cert.QkvNormRefIdeal.main_arg4) = m' ((c.tc : Thread Cert.QkvNormRefIdeal.nD Cert.QkvNormRefIdeal.τ).loc Cert.QkvNormRefIdeal.main_arg4)
          ∧ r.2.mem ((c.tc : Thread Cert.QkvNormRefIdeal.nD Cert.QkvNormRefIdeal.τ).loc Cert.QkvNormRefIdeal.main_arg5) = m' ((c.tc : Thread Cert.QkvNormRefIdeal.nD Cert.QkvNormRefIdeal.τ).loc Cert.QkvNormRefIdeal.main_arg5))

def preserves_UpNorm_UpNormIdeal : Prop :=
  True

def algebraic_UpNormIdeal_UpNormRefIdeal [hUpNormIdeal : Cert.UpNormIdeal.Facts] [hUpNormRefIdeal : Cert.UpNormRefIdeal.Facts] : Prop :=
  ∀ (m : (ℓ : Loc Cert.UpNormIdeal.nD Cert.UpNormIdeal.τ Cert.UpNormIdeal.sig) → Buf (Elt Ideal) ℓ) (g : Dev Cert.UpNormIdeal.nD → PrngReg)
    (m' : (ℓ : Loc Cert.UpNormRefIdeal.nD Cert.UpNormRefIdeal.τ Cert.UpNormRefIdeal.sig) → Buf (Elt Ideal) ℓ) (g' : Dev Cert.UpNormRefIdeal.nD → PrngReg), Pre_UpNormIdeal m →
    (∀ c : Dev Cert.UpNormIdeal.nD,
      m' ((c.tc : Thread Cert.UpNormRefIdeal.nD Cert.UpNormRefIdeal.τ).loc Cert.UpNormRefIdeal.main_arg0) = m ((c.tc : Thread Cert.UpNormIdeal.nD Cert.UpNormIdeal.τ).loc Cert.UpNormIdeal.main_arg0)
      ∧ m' ((c.tc : Thread Cert.UpNormRefIdeal.nD Cert.UpNormRefIdeal.τ).loc Cert.UpNormRefIdeal.main_arg1) = m ((c.tc : Thread Cert.UpNormIdeal.nD Cert.UpNormIdeal.τ).loc Cert.UpNormIdeal.main_arg1)
      ∧ m' ((c.tc : Thread Cert.UpNormRefIdeal.nD Cert.UpNormRefIdeal.τ).loc Cert.UpNormRefIdeal.main_arg2) = m ((c.tc : Thread Cert.UpNormIdeal.nD Cert.UpNormIdeal.τ).loc Cert.UpNormIdeal.main_arg2)
      ∧ m' ((c.tc : Thread Cert.UpNormRefIdeal.nD Cert.UpNormRefIdeal.τ).loc Cert.UpNormRefIdeal.main_arg3) = m ((c.tc : Thread Cert.UpNormIdeal.nD Cert.UpNormIdeal.τ).loc Cert.UpNormIdeal.main_arg3)
      ∧ m' ((c.tc : Thread Cert.UpNormRefIdeal.nD Cert.UpNormRefIdeal.τ).loc Cert.UpNormRefIdeal.main_arg4) = m ((c.tc : Thread Cert.UpNormIdeal.nD Cert.UpNormIdeal.τ).loc Cert.UpNormIdeal.main_arg4)) →
    ∃ (v0 : (c : Dev Cert.UpNormIdeal.nD) → Buf (Elt Ideal) ((c.tc : Thread Cert.UpNormIdeal.nD Cert.UpNormIdeal.τ).loc Cert.UpNormIdeal.main_v4_0)) (v1 : (c : Dev Cert.UpNormIdeal.nD) → Buf (Elt Ideal) ((c.tc : Thread Cert.UpNormIdeal.nD Cert.UpNormIdeal.τ).loc Cert.UpNormIdeal.main_v4_1)),
      θ_run (Cert.UpNormIdeal.defs (F := Ideal)) (onTc (τ := Cert.UpNormIdeal.τ) (Cert.UpNormIdeal.main (F := Ideal))) ⟨m, fun _ => 0, g⟩ (fun r => ∀ c : Dev Cert.UpNormIdeal.nD,
          r.2.mem ((c.tc : Thread Cert.UpNormIdeal.nD Cert.UpNormIdeal.τ).loc Cert.UpNormIdeal.main_v4_0) = v0 c
          ∧ r.2.mem ((c.tc : Thread Cert.UpNormIdeal.nD Cert.UpNormIdeal.τ).loc Cert.UpNormIdeal.main_v4_1) = v1 c
          ∧ r.2.mem ((c.tc : Thread Cert.UpNormIdeal.nD Cert.UpNormIdeal.τ).loc Cert.UpNormIdeal.main_arg0) = m ((c.tc : Thread Cert.UpNormIdeal.nD Cert.UpNormIdeal.τ).loc Cert.UpNormIdeal.main_arg0)
          ∧ r.2.mem ((c.tc : Thread Cert.UpNormIdeal.nD Cert.UpNormIdeal.τ).loc Cert.UpNormIdeal.main_arg1) = m ((c.tc : Thread Cert.UpNormIdeal.nD Cert.UpNormIdeal.τ).loc Cert.UpNormIdeal.main_arg1)
          ∧ r.2.mem ((c.tc : Thread Cert.UpNormIdeal.nD Cert.UpNormIdeal.τ).loc Cert.UpNormIdeal.main_arg2) = m ((c.tc : Thread Cert.UpNormIdeal.nD Cert.UpNormIdeal.τ).loc Cert.UpNormIdeal.main_arg2)
          ∧ r.2.mem ((c.tc : Thread Cert.UpNormIdeal.nD Cert.UpNormIdeal.τ).loc Cert.UpNormIdeal.main_arg3) = m ((c.tc : Thread Cert.UpNormIdeal.nD Cert.UpNormIdeal.τ).loc Cert.UpNormIdeal.main_arg3)
          ∧ r.2.mem ((c.tc : Thread Cert.UpNormIdeal.nD Cert.UpNormIdeal.τ).loc Cert.UpNormIdeal.main_arg4) = m ((c.tc : Thread Cert.UpNormIdeal.nD Cert.UpNormIdeal.τ).loc Cert.UpNormIdeal.main_arg4))
      ∧ θ_run (Cert.UpNormRefIdeal.defs (F := Ideal)) (onTc (τ := Cert.UpNormRefIdeal.τ) (Cert.UpNormRefIdeal.main (F := Ideal))) ⟨m', fun _ => 0, g'⟩ (fun r => ∀ c : Dev Cert.UpNormRefIdeal.nD,
          r.2.mem ((c.tc : Thread Cert.UpNormRefIdeal.nD Cert.UpNormRefIdeal.τ).loc Cert.UpNormRefIdeal.main_v43) = v0 c
          ∧ r.2.mem ((c.tc : Thread Cert.UpNormRefIdeal.nD Cert.UpNormRefIdeal.τ).loc Cert.UpNormRefIdeal.main_v44) = v1 c
          ∧ r.2.mem ((c.tc : Thread Cert.UpNormRefIdeal.nD Cert.UpNormRefIdeal.τ).loc Cert.UpNormRefIdeal.main_arg0) = m' ((c.tc : Thread Cert.UpNormRefIdeal.nD Cert.UpNormRefIdeal.τ).loc Cert.UpNormRefIdeal.main_arg0)
          ∧ r.2.mem ((c.tc : Thread Cert.UpNormRefIdeal.nD Cert.UpNormRefIdeal.τ).loc Cert.UpNormRefIdeal.main_arg1) = m' ((c.tc : Thread Cert.UpNormRefIdeal.nD Cert.UpNormRefIdeal.τ).loc Cert.UpNormRefIdeal.main_arg1)
          ∧ r.2.mem ((c.tc : Thread Cert.UpNormRefIdeal.nD Cert.UpNormRefIdeal.τ).loc Cert.UpNormRefIdeal.main_arg2) = m' ((c.tc : Thread Cert.UpNormRefIdeal.nD Cert.UpNormRefIdeal.τ).loc Cert.UpNormRefIdeal.main_arg2)
          ∧ r.2.mem ((c.tc : Thread Cert.UpNormRefIdeal.nD Cert.UpNormRefIdeal.τ).loc Cert.UpNormRefIdeal.main_arg3) = m' ((c.tc : Thread Cert.UpNormRefIdeal.nD Cert.UpNormRefIdeal.τ).loc Cert.UpNormRefIdeal.main_arg3)
          ∧ r.2.mem ((c.tc : Thread Cert.UpNormRefIdeal.nD Cert.UpNormRefIdeal.τ).loc Cert.UpNormRefIdeal.main_arg4) = m' ((c.tc : Thread Cert.UpNormRefIdeal.nD Cert.UpNormRefIdeal.τ).loc Cert.UpNormRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v27) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_PoolProj_PoolProjIdeal : Prop :=
  True

def algebraic_PoolProjIdeal_PoolProjRefIdeal [hPoolProjIdeal : Cert.PoolProjIdeal.Facts] [hPoolProjRefIdeal : Cert.PoolProjRefIdeal.Facts] : Prop :=
  ∀ (m : (ℓ : Loc Cert.PoolProjIdeal.nD Cert.PoolProjIdeal.τ Cert.PoolProjIdeal.sig) → Buf (Elt Ideal) ℓ) (g : Dev Cert.PoolProjIdeal.nD → PrngReg)
    (m' : (ℓ : Loc Cert.PoolProjRefIdeal.nD Cert.PoolProjRefIdeal.τ Cert.PoolProjRefIdeal.sig) → Buf (Elt Ideal) ℓ) (g' : Dev Cert.PoolProjRefIdeal.nD → PrngReg), Pre_PoolProjIdeal m →
    (∀ c : Dev Cert.PoolProjIdeal.nD,
      m' ((c.tc : Thread Cert.PoolProjRefIdeal.nD Cert.PoolProjRefIdeal.τ).loc Cert.PoolProjRefIdeal.main_arg0) = m ((c.tc : Thread Cert.PoolProjIdeal.nD Cert.PoolProjIdeal.τ).loc Cert.PoolProjIdeal.main_arg0)
      ∧ m' ((c.tc : Thread Cert.PoolProjRefIdeal.nD Cert.PoolProjRefIdeal.τ).loc Cert.PoolProjRefIdeal.main_arg1) = m ((c.tc : Thread Cert.PoolProjIdeal.nD Cert.PoolProjIdeal.τ).loc Cert.PoolProjIdeal.main_arg1)
      ∧ m' ((c.tc : Thread Cert.PoolProjRefIdeal.nD Cert.PoolProjRefIdeal.τ).loc Cert.PoolProjRefIdeal.main_arg2) = m ((c.tc : Thread Cert.PoolProjIdeal.nD Cert.PoolProjIdeal.τ).loc Cert.PoolProjIdeal.main_arg2)
      ∧ m' ((c.tc : Thread Cert.PoolProjRefIdeal.nD Cert.PoolProjRefIdeal.τ).loc Cert.PoolProjRefIdeal.main_arg3) = m ((c.tc : Thread Cert.PoolProjIdeal.nD Cert.PoolProjIdeal.τ).loc Cert.PoolProjIdeal.main_arg3)) →
    ∃ (v0 : (c : Dev Cert.PoolProjIdeal.nD) → Buf (Elt Ideal) ((c.tc : Thread Cert.PoolProjIdeal.nD Cert.PoolProjIdeal.τ).loc Cert.PoolProjIdeal.main_v0_0)) (v1 : (c : Dev Cert.PoolProjIdeal.nD) → Buf (Elt Ideal) ((c.tc : Thread Cert.PoolProjIdeal.nD Cert.PoolProjIdeal.τ).loc Cert.PoolProjIdeal.main_v0_1)) (v2 : (c : Dev Cert.PoolProjIdeal.nD) → Buf (Elt Ideal) ((c.tc : Thread Cert.PoolProjIdeal.nD Cert.PoolProjIdeal.τ).loc Cert.PoolProjIdeal.main_v0_2)),
      θ_run (Cert.PoolProjIdeal.defs (F := Ideal)) (onTc (τ := Cert.PoolProjIdeal.τ) (Cert.PoolProjIdeal.main (F := Ideal))) ⟨m, fun _ => 0, g⟩ (fun r => ∀ c : Dev Cert.PoolProjIdeal.nD,
          r.2.mem ((c.tc : Thread Cert.PoolProjIdeal.nD Cert.PoolProjIdeal.τ).loc Cert.PoolProjIdeal.main_v0_0) = v0 c
          ∧ r.2.mem ((c.tc : Thread Cert.PoolProjIdeal.nD Cert.PoolProjIdeal.τ).loc Cert.PoolProjIdeal.main_v0_1) = v1 c
          ∧ r.2.mem ((c.tc : Thread Cert.PoolProjIdeal.nD Cert.PoolProjIdeal.τ).loc Cert.PoolProjIdeal.main_v0_2) = v2 c
          ∧ r.2.mem ((c.tc : Thread Cert.PoolProjIdeal.nD Cert.PoolProjIdeal.τ).loc Cert.PoolProjIdeal.main_arg0) = m ((c.tc : Thread Cert.PoolProjIdeal.nD Cert.PoolProjIdeal.τ).loc Cert.PoolProjIdeal.main_arg0)
          ∧ r.2.mem ((c.tc : Thread Cert.PoolProjIdeal.nD Cert.PoolProjIdeal.τ).loc Cert.PoolProjIdeal.main_arg1) = m ((c.tc : Thread Cert.PoolProjIdeal.nD Cert.PoolProjIdeal.τ).loc Cert.PoolProjIdeal.main_arg1)
          ∧ r.2.mem ((c.tc : Thread Cert.PoolProjIdeal.nD Cert.PoolProjIdeal.τ).loc Cert.PoolProjIdeal.main_arg2) = m ((c.tc : Thread Cert.PoolProjIdeal.nD Cert.PoolProjIdeal.τ).loc Cert.PoolProjIdeal.main_arg2)
          ∧ r.2.mem ((c.tc : Thread Cert.PoolProjIdeal.nD Cert.PoolProjIdeal.τ).loc Cert.PoolProjIdeal.main_arg3) = m ((c.tc : Thread Cert.PoolProjIdeal.nD Cert.PoolProjIdeal.τ).loc Cert.PoolProjIdeal.main_arg3))
      ∧ θ_run (Cert.PoolProjRefIdeal.defs (F := Ideal)) (onTc (τ := Cert.PoolProjRefIdeal.τ) (Cert.PoolProjRefIdeal.main (F := Ideal))) ⟨m', fun _ => 0, g'⟩ (fun r => ∀ c : Dev Cert.PoolProjRefIdeal.nD,
          r.2.mem ((c.tc : Thread Cert.PoolProjRefIdeal.nD Cert.PoolProjRefIdeal.τ).loc Cert.PoolProjRefIdeal.main_v19) = v0 c
          ∧ r.2.mem ((c.tc : Thread Cert.PoolProjRefIdeal.nD Cert.PoolProjRefIdeal.τ).loc Cert.PoolProjRefIdeal.main_v18) = v1 c
          ∧ r.2.mem ((c.tc : Thread Cert.PoolProjRefIdeal.nD Cert.PoolProjRefIdeal.τ).loc Cert.PoolProjRefIdeal.main_v10) = v2 c
          ∧ r.2.mem ((c.tc : Thread Cert.PoolProjRefIdeal.nD Cert.PoolProjRefIdeal.τ).loc Cert.PoolProjRefIdeal.main_arg0) = m' ((c.tc : Thread Cert.PoolProjRefIdeal.nD Cert.PoolProjRefIdeal.τ).loc Cert.PoolProjRefIdeal.main_arg0)
          ∧ r.2.mem ((c.tc : Thread Cert.PoolProjRefIdeal.nD Cert.PoolProjRefIdeal.τ).loc Cert.PoolProjRefIdeal.main_arg1) = m' ((c.tc : Thread Cert.PoolProjRefIdeal.nD Cert.PoolProjRefIdeal.τ).loc Cert.PoolProjRefIdeal.main_arg1)
          ∧ r.2.mem ((c.tc : Thread Cert.PoolProjRefIdeal.nD Cert.PoolProjRefIdeal.τ).loc Cert.PoolProjRefIdeal.main_arg2) = m' ((c.tc : Thread Cert.PoolProjRefIdeal.nD Cert.PoolProjRefIdeal.τ).loc Cert.PoolProjRefIdeal.main_arg2)
          ∧ r.2.mem ((c.tc : Thread Cert.PoolProjRefIdeal.nD Cert.PoolProjRefIdeal.τ).loc Cert.PoolProjRefIdeal.main_arg3) = m' ((c.tc : Thread Cert.PoolProjRefIdeal.nD Cert.PoolProjRefIdeal.τ).loc Cert.PoolProjRefIdeal.main_arg3))

def preserves_Xattn_XattnIdeal : Prop :=
  True

def algebraic_XattnIdeal_XattnRefIdeal_pre_xattn_finite [hXattnIdeal : Cert.XattnIdeal.Facts] [hXattnRefIdeal : Cert.XattnRefIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_xattn_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)) →
    ∃ (v0 : (c : Dev Cert.XattnIdeal.nD) → Buf (Elt Ideal) ((c.tc : Thread Cert.XattnIdeal.nD Cert.XattnIdeal.τ).loc Cert.XattnIdeal.main_v2_0)) (v1 : (c : Dev Cert.XattnIdeal.nD) → Buf (Elt Ideal) ((c.tc : Thread Cert.XattnIdeal.nD Cert.XattnIdeal.τ).loc Cert.XattnIdeal.main_v2_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v2_0) = v0 c
          ∧ r.2.mem ((c.tc : Thread Cert.XattnIdeal.nD Cert.XattnIdeal.τ).loc Cert.XattnIdeal.main_v2_1) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v71) = v0 c
          ∧ r.2.mem ((c.tc : Thread Cert.XattnRefIdeal.nD Cert.XattnRefIdeal.τ).loc Cert.XattnRefIdeal.main_v73) = v1 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v82) = v0 c
          ∧ r.2.mem ((c.tc : Thread Cert.FfnRefIdeal.nD Cert.FfnRefIdeal.τ).loc Cert.FfnRefIdeal.main_v84) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_PoolWin_PoolWinIdeal : Prop :=
  True

def algebraic_PoolWinIdeal_PoolWinRefIdeal_pre_poolwin_finite [hPoolWinIdeal : Cert.PoolWinIdeal.Facts] [hPoolWinRefIdeal : Cert.PoolWinRefIdeal.Facts] [hPre_poolwin_finite : Cert.Pre_poolwin_finite.Facts] : Prop :=
  ∀ (m : (ℓ : Loc Cert.PoolWinIdeal.nD Cert.PoolWinIdeal.τ Cert.PoolWinIdeal.sig) → Buf (Elt Ideal) ℓ) (g : Dev Cert.PoolWinIdeal.nD → PrngReg)
    (m' : (ℓ : Loc Cert.PoolWinRefIdeal.nD Cert.PoolWinRefIdeal.τ Cert.PoolWinRefIdeal.sig) → Buf (Elt Ideal) ℓ) (g' : Dev Cert.PoolWinRefIdeal.nD → PrngReg), Pre_PoolWinIdeal_poolwin_finite m →
    (∀ c : Dev Cert.PoolWinIdeal.nD,
      m' ((c.tc : Thread Cert.PoolWinRefIdeal.nD Cert.PoolWinRefIdeal.τ).loc Cert.PoolWinRefIdeal.main_arg0) = m ((c.tc : Thread Cert.PoolWinIdeal.nD Cert.PoolWinIdeal.τ).loc Cert.PoolWinIdeal.main_arg0)) →
    ∃ (v0 : (c : Dev Cert.PoolWinIdeal.nD) → Buf (Elt Ideal) ((c.tc : Thread Cert.PoolWinIdeal.nD Cert.PoolWinIdeal.τ).loc Cert.PoolWinIdeal.main_v0)),
      θ_run (Cert.PoolWinIdeal.defs (F := Ideal)) (onTc (τ := Cert.PoolWinIdeal.τ) (Cert.PoolWinIdeal.main (F := Ideal))) ⟨m, fun _ => 0, g⟩ (fun r => ∀ c : Dev Cert.PoolWinIdeal.nD,
          r.2.mem ((c.tc : Thread Cert.PoolWinIdeal.nD Cert.PoolWinIdeal.τ).loc Cert.PoolWinIdeal.main_v0) = v0 c
          ∧ r.2.mem ((c.tc : Thread Cert.PoolWinIdeal.nD Cert.PoolWinIdeal.τ).loc Cert.PoolWinIdeal.main_arg0) = m ((c.tc : Thread Cert.PoolWinIdeal.nD Cert.PoolWinIdeal.τ).loc Cert.PoolWinIdeal.main_arg0))
      ∧ θ_run (Cert.PoolWinRefIdeal.defs (F := Ideal)) (onTc (τ := Cert.PoolWinRefIdeal.τ) (Cert.PoolWinRefIdeal.main (F := Ideal))) ⟨m', fun _ => 0, g'⟩ (fun r => ∀ c : Dev Cert.PoolWinRefIdeal.nD,
          r.2.mem ((c.tc : Thread Cert.PoolWinRefIdeal.nD Cert.PoolWinRefIdeal.τ).loc Cert.PoolWinRefIdeal.main_v212) = v0 c
          ∧ r.2.mem ((c.tc : Thread Cert.PoolWinRefIdeal.nD Cert.PoolWinRefIdeal.τ).loc Cert.PoolWinRefIdeal.main_arg0) = m' ((c.tc : Thread Cert.PoolWinRefIdeal.nD Cert.PoolWinRefIdeal.τ).loc Cert.PoolWinRefIdeal.main_arg0))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_ResNorm_ResNormIdeal : Prop :=
  True

def algebraic_ResNormIdeal_ResNormRefIdeal [hResNormIdeal : Cert.ResNormIdeal.Facts] [hResNormRefIdeal : Cert.ResNormRefIdeal.Facts] : Prop :=
  ∀ (m : (ℓ : Loc Cert.ResNormIdeal.nD Cert.ResNormIdeal.τ Cert.ResNormIdeal.sig) → Buf (Elt Ideal) ℓ) (g : Dev Cert.ResNormIdeal.nD → PrngReg)
    (m' : (ℓ : Loc Cert.ResNormRefIdeal.nD Cert.ResNormRefIdeal.τ Cert.ResNormRefIdeal.sig) → Buf (Elt Ideal) ℓ) (g' : Dev Cert.ResNormRefIdeal.nD → PrngReg), Pre_ResNormIdeal m →
    (∀ c : Dev Cert.ResNormIdeal.nD,
      m' ((c.tc : Thread Cert.ResNormRefIdeal.nD Cert.ResNormRefIdeal.τ).loc Cert.ResNormRefIdeal.main_arg0) = m ((c.tc : Thread Cert.ResNormIdeal.nD Cert.ResNormIdeal.τ).loc Cert.ResNormIdeal.main_arg0)
      ∧ m' ((c.tc : Thread Cert.ResNormRefIdeal.nD Cert.ResNormRefIdeal.τ).loc Cert.ResNormRefIdeal.main_arg1) = m ((c.tc : Thread Cert.ResNormIdeal.nD Cert.ResNormIdeal.τ).loc Cert.ResNormIdeal.main_arg1)
      ∧ m' ((c.tc : Thread Cert.ResNormRefIdeal.nD Cert.ResNormRefIdeal.τ).loc Cert.ResNormRefIdeal.main_arg2) = m ((c.tc : Thread Cert.ResNormIdeal.nD Cert.ResNormIdeal.τ).loc Cert.ResNormIdeal.main_arg2)
      ∧ m' ((c.tc : Thread Cert.ResNormRefIdeal.nD Cert.ResNormRefIdeal.τ).loc Cert.ResNormRefIdeal.main_arg3) = m ((c.tc : Thread Cert.ResNormIdeal.nD Cert.ResNormIdeal.τ).loc Cert.ResNormIdeal.main_arg3)) →
    ∃ (v0 : (c : Dev Cert.ResNormIdeal.nD) → Buf (Elt Ideal) ((c.tc : Thread Cert.ResNormIdeal.nD Cert.ResNormIdeal.τ).loc Cert.ResNormIdeal.main_v0_0)) (v1 : (c : Dev Cert.ResNormIdeal.nD) → Buf (Elt Ideal) ((c.tc : Thread Cert.ResNormIdeal.nD Cert.ResNormIdeal.τ).loc Cert.ResNormIdeal.main_v0_1)),
      θ_run (Cert.ResNormIdeal.defs (F := Ideal)) (onTc (τ := Cert.ResNormIdeal.τ) (Cert.ResNormIdeal.main (F := Ideal))) ⟨m, fun _ => 0, g⟩ (fun r => ∀ c : Dev Cert.ResNormIdeal.nD,
          r.2.mem ((c.tc : Thread Cert.ResNormIdeal.nD Cert.ResNormIdeal.τ).loc Cert.ResNormIdeal.main_v0_0) = v0 c
          ∧ r.2.mem ((c.tc : Thread Cert.ResNormIdeal.nD Cert.ResNormIdeal.τ).loc Cert.ResNormIdeal.main_v0_1) = v1 c
          ∧ r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
          ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
          ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
          ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ θ_run (Cert.ResNormRefIdeal.defs (F := Ideal)) (onTc (τ := Cert.ResNormRefIdeal.τ) (Cert.ResNormRefIdeal.main (F := Ideal))) ⟨m', fun _ => 0, g'⟩ (fun r => ∀ c : Dev Cert.ResNormRefIdeal.nD,
          r.2.mem ((c.tc : Thread Cert.ResNormRefIdeal.nD Cert.ResNormRefIdeal.τ).loc Cert.ResNormRefIdeal.main_v3) = v0 c
          ∧ r.2.mem ((c.tc : Thread Cert.ResNormRefIdeal.nD Cert.ResNormRefIdeal.τ).loc Cert.ResNormRefIdeal.main_v18) = v1 c
          ∧ r.2.mem ((c.tc : Thread Cert.ResNormRefIdeal.nD Cert.ResNormRefIdeal.τ).loc Cert.ResNormRefIdeal.main_arg0) = m' ((c.tc : Thread Cert.ResNormRefIdeal.nD Cert.ResNormRefIdeal.τ).loc Cert.ResNormRefIdeal.main_arg0)
          ∧ r.2.mem ((c.tc : Thread Cert.ResNormRefIdeal.nD Cert.ResNormRefIdeal.τ).loc Cert.ResNormRefIdeal.main_arg1) = m' ((c.tc : Thread Cert.ResNormRefIdeal.nD Cert.ResNormRefIdeal.τ).loc Cert.ResNormRefIdeal.main_arg1)
          ∧ r.2.mem ((c.tc : Thread Cert.ResNormRefIdeal.nD Cert.ResNormRefIdeal.τ).loc Cert.ResNormRefIdeal.main_arg2) = m' ((c.tc : Thread Cert.ResNormRefIdeal.nD Cert.ResNormRefIdeal.τ).loc Cert.ResNormRefIdeal.main_arg2)
          ∧ r.2.mem ((c.tc : Thread Cert.ResNormRefIdeal.nD Cert.ResNormRefIdeal.τ).loc Cert.ResNormRefIdeal.main_arg3) = m' ((c.tc : Thread Cert.ResNormRefIdeal.nD Cert.ResNormRefIdeal.τ).loc Cert.ResNormRefIdeal.main_arg3))

def preserves_PoolOut_PoolOutIdeal : Prop :=
  True

def algebraic_PoolOutIdeal_PoolOutRefIdeal [hPoolOutIdeal : Cert.PoolOutIdeal.Facts] [hPoolOutRefIdeal : Cert.PoolOutRefIdeal.Facts] : Prop :=
  ∀ (m : (ℓ : Loc Cert.PoolOutIdeal.nD Cert.PoolOutIdeal.τ Cert.PoolOutIdeal.sig) → Buf (Elt Ideal) ℓ) (g : Dev Cert.PoolOutIdeal.nD → PrngReg)
    (m' : (ℓ : Loc Cert.PoolOutRefIdeal.nD Cert.PoolOutRefIdeal.τ Cert.PoolOutRefIdeal.sig) → Buf (Elt Ideal) ℓ) (g' : Dev Cert.PoolOutRefIdeal.nD → PrngReg), Pre_PoolOutIdeal m →
    (∀ c : Dev Cert.PoolOutIdeal.nD,
      m' ((c.tc : Thread Cert.PoolOutRefIdeal.nD Cert.PoolOutRefIdeal.τ).loc Cert.PoolOutRefIdeal.main_arg0) = m ((c.tc : Thread Cert.PoolOutIdeal.nD Cert.PoolOutIdeal.τ).loc Cert.PoolOutIdeal.main_arg0)
      ∧ m' ((c.tc : Thread Cert.PoolOutRefIdeal.nD Cert.PoolOutRefIdeal.τ).loc Cert.PoolOutRefIdeal.main_arg1) = m ((c.tc : Thread Cert.PoolOutIdeal.nD Cert.PoolOutIdeal.τ).loc Cert.PoolOutIdeal.main_arg1)
      ∧ m' ((c.tc : Thread Cert.PoolOutRefIdeal.nD Cert.PoolOutRefIdeal.τ).loc Cert.PoolOutRefIdeal.main_arg2) = m ((c.tc : Thread Cert.PoolOutIdeal.nD Cert.PoolOutIdeal.τ).loc Cert.PoolOutIdeal.main_arg2)
      ∧ m' ((c.tc : Thread Cert.PoolOutRefIdeal.nD Cert.PoolOutRefIdeal.τ).loc Cert.PoolOutRefIdeal.main_arg3) = m ((c.tc : Thread Cert.PoolOutIdeal.nD Cert.PoolOutIdeal.τ).loc Cert.PoolOutIdeal.main_arg3)) →
    ∃ (v0 : (c : Dev Cert.PoolOutIdeal.nD) → Buf (Elt Ideal) ((c.tc : Thread Cert.PoolOutIdeal.nD Cert.PoolOutIdeal.τ).loc Cert.PoolOutIdeal.main_v0)),
      θ_run (Cert.PoolOutIdeal.defs (F := Ideal)) (onTc (τ := Cert.PoolOutIdeal.τ) (Cert.PoolOutIdeal.main (F := Ideal))) ⟨m, fun _ => 0, g⟩ (fun r => ∀ c : Dev Cert.PoolOutIdeal.nD,
          r.2.mem ((c.tc : Thread Cert.PoolOutIdeal.nD Cert.PoolOutIdeal.τ).loc Cert.PoolOutIdeal.main_v0) = v0 c
          ∧ r.2.mem ((c.tc : Thread Cert.PoolOutIdeal.nD Cert.PoolOutIdeal.τ).loc Cert.PoolOutIdeal.main_arg0) = m ((c.tc : Thread Cert.PoolOutIdeal.nD Cert.PoolOutIdeal.τ).loc Cert.PoolOutIdeal.main_arg0)
          ∧ r.2.mem ((c.tc : Thread Cert.PoolOutIdeal.nD Cert.PoolOutIdeal.τ).loc Cert.PoolOutIdeal.main_arg1) = m ((c.tc : Thread Cert.PoolOutIdeal.nD Cert.PoolOutIdeal.τ).loc Cert.PoolOutIdeal.main_arg1)
          ∧ r.2.mem ((c.tc : Thread Cert.PoolOutIdeal.nD Cert.PoolOutIdeal.τ).loc Cert.PoolOutIdeal.main_arg2) = m ((c.tc : Thread Cert.PoolOutIdeal.nD Cert.PoolOutIdeal.τ).loc Cert.PoolOutIdeal.main_arg2)
          ∧ r.2.mem ((c.tc : Thread Cert.PoolOutIdeal.nD Cert.PoolOutIdeal.τ).loc Cert.PoolOutIdeal.main_arg3) = m ((c.tc : Thread Cert.PoolOutIdeal.nD Cert.PoolOutIdeal.τ).loc Cert.PoolOutIdeal.main_arg3))
      ∧ θ_run (Cert.PoolOutRefIdeal.defs (F := Ideal)) (onTc (τ := Cert.PoolOutRefIdeal.τ) (Cert.PoolOutRefIdeal.main (F := Ideal))) ⟨m', fun _ => 0, g'⟩ (fun r => ∀ c : Dev Cert.PoolOutRefIdeal.nD,
          r.2.mem ((c.tc : Thread Cert.PoolOutRefIdeal.nD Cert.PoolOutRefIdeal.τ).loc Cert.PoolOutRefIdeal.main_v8) = v0 c
          ∧ r.2.mem ((c.tc : Thread Cert.PoolOutRefIdeal.nD Cert.PoolOutRefIdeal.τ).loc Cert.PoolOutRefIdeal.main_arg0) = m' ((c.tc : Thread Cert.PoolOutRefIdeal.nD Cert.PoolOutRefIdeal.τ).loc Cert.PoolOutRefIdeal.main_arg0)
          ∧ r.2.mem ((c.tc : Thread Cert.PoolOutRefIdeal.nD Cert.PoolOutRefIdeal.τ).loc Cert.PoolOutRefIdeal.main_arg1) = m' ((c.tc : Thread Cert.PoolOutRefIdeal.nD Cert.PoolOutRefIdeal.τ).loc Cert.PoolOutRefIdeal.main_arg1)
          ∧ r.2.mem ((c.tc : Thread Cert.PoolOutRefIdeal.nD Cert.PoolOutRefIdeal.τ).loc Cert.PoolOutRefIdeal.main_arg2) = m' ((c.tc : Thread Cert.PoolOutRefIdeal.nD Cert.PoolOutRefIdeal.τ).loc Cert.PoolOutRefIdeal.main_arg2)
          ∧ r.2.mem ((c.tc : Thread Cert.PoolOutRefIdeal.nD Cert.PoolOutRefIdeal.τ).loc Cert.PoolOutRefIdeal.main_arg3) = m' ((c.tc : Thread Cert.PoolOutRefIdeal.nD Cert.PoolOutRefIdeal.τ).loc Cert.PoolOutRefIdeal.main_arg3))

def preserves_XattnOut_XattnOutIdeal : Prop :=
  True

def algebraic_XattnOutIdeal_XattnOutRefIdeal_pre_xattnout_finite [hXattnOutIdeal : Cert.XattnOutIdeal.Facts] [hXattnOutRefIdeal : Cert.XattnOutRefIdeal.Facts] [hPre_xattnout_finite : Cert.Pre_xattnout_finite.Facts] : Prop :=
  ∀ (m : (ℓ : Loc Cert.XattnOutIdeal.nD Cert.XattnOutIdeal.τ Cert.XattnOutIdeal.sig) → Buf (Elt Ideal) ℓ) (g : Dev Cert.XattnOutIdeal.nD → PrngReg)
    (m' : (ℓ : Loc Cert.XattnOutRefIdeal.nD Cert.XattnOutRefIdeal.τ Cert.XattnOutRefIdeal.sig) → Buf (Elt Ideal) ℓ) (g' : Dev Cert.XattnOutRefIdeal.nD → PrngReg), Pre_XattnOutIdeal_xattnout_finite m →
    (∀ c : Dev Cert.XattnOutIdeal.nD,
      m' ((c.tc : Thread Cert.XattnOutRefIdeal.nD Cert.XattnOutRefIdeal.τ).loc Cert.XattnOutRefIdeal.main_arg0) = m ((c.tc : Thread Cert.XattnOutIdeal.nD Cert.XattnOutIdeal.τ).loc Cert.XattnOutIdeal.main_arg0)
      ∧ m' ((c.tc : Thread Cert.XattnOutRefIdeal.nD Cert.XattnOutRefIdeal.τ).loc Cert.XattnOutRefIdeal.main_arg1) = m ((c.tc : Thread Cert.XattnOutIdeal.nD Cert.XattnOutIdeal.τ).loc Cert.XattnOutIdeal.main_arg1)) →
    ∃ (v0 : (c : Dev Cert.XattnOutIdeal.nD) → Buf (Elt Ideal) ((c.tc : Thread Cert.XattnOutIdeal.nD Cert.XattnOutIdeal.τ).loc Cert.XattnOutIdeal.main_v2)),
      θ_run (Cert.XattnOutIdeal.defs (F := Ideal)) (onTc (τ := Cert.XattnOutIdeal.τ) (Cert.XattnOutIdeal.main (F := Ideal))) ⟨m, fun _ => 0, g⟩ (fun r => ∀ c : Dev Cert.XattnOutIdeal.nD,
          r.2.mem ((c.tc : Thread Cert.XattnOutIdeal.nD Cert.XattnOutIdeal.τ).loc Cert.XattnOutIdeal.main_v2) = v0 c
          ∧ r.2.mem ((c.tc : Thread Cert.XattnOutIdeal.nD Cert.XattnOutIdeal.τ).loc Cert.XattnOutIdeal.main_arg0) = m ((c.tc : Thread Cert.XattnOutIdeal.nD Cert.XattnOutIdeal.τ).loc Cert.XattnOutIdeal.main_arg0)
          ∧ r.2.mem ((c.tc : Thread Cert.XattnOutIdeal.nD Cert.XattnOutIdeal.τ).loc Cert.XattnOutIdeal.main_arg1) = m ((c.tc : Thread Cert.XattnOutIdeal.nD Cert.XattnOutIdeal.τ).loc Cert.XattnOutIdeal.main_arg1))
      ∧ θ_run (Cert.XattnOutRefIdeal.defs (F := Ideal)) (onTc (τ := Cert.XattnOutRefIdeal.τ) (Cert.XattnOutRefIdeal.main (F := Ideal))) ⟨m', fun _ => 0, g'⟩ (fun r => ∀ c : Dev Cert.XattnOutRefIdeal.nD,
          r.2.mem ((c.tc : Thread Cert.XattnOutRefIdeal.nD Cert.XattnOutRefIdeal.τ).loc Cert.XattnOutRefIdeal.main_v24) = v0 c
          ∧ r.2.mem ((c.tc : Thread Cert.XattnOutRefIdeal.nD Cert.XattnOutRefIdeal.τ).loc Cert.XattnOutRefIdeal.main_arg0) = m' ((c.tc : Thread Cert.XattnOutRefIdeal.nD Cert.XattnOutRefIdeal.τ).loc Cert.XattnOutRefIdeal.main_arg0)
          ∧ r.2.mem ((c.tc : Thread Cert.XattnOutRefIdeal.nD Cert.XattnOutRefIdeal.τ).loc Cert.XattnOutRefIdeal.main_arg1) = m' ((c.tc : Thread Cert.XattnOutRefIdeal.nD Cert.XattnOutRefIdeal.τ).loc Cert.XattnOutRefIdeal.main_arg1))

def preserves_PoolMean_PoolMeanIdeal : Prop :=
  True

def algebraic_PoolMeanIdeal_PoolMeanRefIdeal_pre_poolmean_finite [hPoolMeanIdeal : Cert.PoolMeanIdeal.Facts] [hPoolMeanRefIdeal : Cert.PoolMeanRefIdeal.Facts] [hPre_poolmean_finite : Cert.Pre_poolmean_finite.Facts] : Prop :=
  ∀ (m : (ℓ : Loc Cert.PoolMeanIdeal.nD Cert.PoolMeanIdeal.τ Cert.PoolMeanIdeal.sig) → Buf (Elt Ideal) ℓ) (g : Dev Cert.PoolMeanIdeal.nD → PrngReg)
    (m' : (ℓ : Loc Cert.PoolMeanRefIdeal.nD Cert.PoolMeanRefIdeal.τ Cert.PoolMeanRefIdeal.sig) → Buf (Elt Ideal) ℓ) (g' : Dev Cert.PoolMeanRefIdeal.nD → PrngReg), Pre_PoolMeanIdeal_poolmean_finite m →
    (∀ c : Dev Cert.PoolMeanIdeal.nD,
      m' ((c.tc : Thread Cert.PoolMeanRefIdeal.nD Cert.PoolMeanRefIdeal.τ).loc Cert.PoolMeanRefIdeal.main_arg0) = m ((c.tc : Thread Cert.PoolMeanIdeal.nD Cert.PoolMeanIdeal.τ).loc Cert.PoolMeanIdeal.main_arg0)) →
    ∃ (v0 : (c : Dev Cert.PoolMeanIdeal.nD) → Buf (Elt Ideal) ((c.tc : Thread Cert.PoolMeanIdeal.nD Cert.PoolMeanIdeal.τ).loc Cert.PoolMeanIdeal.main_v0)),
      θ_run (Cert.PoolMeanIdeal.defs (F := Ideal)) (onTc (τ := Cert.PoolMeanIdeal.τ) (Cert.PoolMeanIdeal.main (F := Ideal))) ⟨m, fun _ => 0, g⟩ (fun r => ∀ c : Dev Cert.PoolMeanIdeal.nD,
          r.2.mem ((c.tc : Thread Cert.PoolMeanIdeal.nD Cert.PoolMeanIdeal.τ).loc Cert.PoolMeanIdeal.main_v0) = v0 c
          ∧ r.2.mem ((c.tc : Thread Cert.PoolMeanIdeal.nD Cert.PoolMeanIdeal.τ).loc Cert.PoolMeanIdeal.main_arg0) = m ((c.tc : Thread Cert.PoolMeanIdeal.nD Cert.PoolMeanIdeal.τ).loc Cert.PoolMeanIdeal.main_arg0))
      ∧ θ_run (Cert.PoolMeanRefIdeal.defs (F := Ideal)) (onTc (τ := Cert.PoolMeanRefIdeal.τ) (Cert.PoolMeanRefIdeal.main (F := Ideal))) ⟨m', fun _ => 0, g'⟩ (fun r => ∀ c : Dev Cert.PoolMeanRefIdeal.nD,
          r.2.mem ((c.tc : Thread Cert.PoolMeanRefIdeal.nD Cert.PoolMeanRefIdeal.τ).loc Cert.PoolMeanRefIdeal.main_v162) = v0 c
          ∧ r.2.mem ((c.tc : Thread Cert.PoolMeanRefIdeal.nD Cert.PoolMeanRefIdeal.τ).loc Cert.PoolMeanRefIdeal.main_arg0) = m' ((c.tc : Thread Cert.PoolMeanRefIdeal.nD Cert.PoolMeanRefIdeal.τ).loc Cert.PoolMeanRefIdeal.main_arg0))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)) →
    ∃ (v0 : (c : Dev Cert.FfnActIdeal.nD) → Buf (Elt Ideal) ((c.tc : Thread Cert.FfnActIdeal.nD Cert.FfnActIdeal.τ).loc Cert.FfnActIdeal.main_v5_0)) (v1 : (c : Dev Cert.FfnActIdeal.nD) → Buf (Elt Ideal) ((c.tc : Thread Cert.FfnActIdeal.nD Cert.FfnActIdeal.τ).loc Cert.FfnActIdeal.main_v5_1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v5_0) = v0 c
          ∧ r.2.mem ((c.tc : Thread Cert.FfnActIdeal.nD Cert.FfnActIdeal.τ).loc Cert.FfnActIdeal.main_v5_1) = v1 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v32) = v0 c
          ∧ r.2.mem ((c.tc : Thread Cert.FfnActRefIdeal.nD Cert.FfnActRefIdeal.τ).loc Cert.FfnActRefIdeal.main_v35) = v1 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3))

def preserves_MmNn_MmNnIdeal : Prop :=
  True

def algebraic_MmNnIdeal_MmNnRefIdeal [hMmNnIdeal : Cert.MmNnIdeal.Facts] [hMmNnRefIdeal : Cert.MmNnRefIdeal.Facts] : Prop :=
  ∀ (m : (ℓ : Loc Cert.MmNnIdeal.nD Cert.MmNnIdeal.τ Cert.MmNnIdeal.sig) → Buf (Elt Ideal) ℓ) (g : Dev Cert.MmNnIdeal.nD → PrngReg)
    (m' : (ℓ : Loc Cert.MmNnRefIdeal.nD Cert.MmNnRefIdeal.τ Cert.MmNnRefIdeal.sig) → Buf (Elt Ideal) ℓ) (g' : Dev Cert.MmNnRefIdeal.nD → PrngReg), Pre_MmNnIdeal m →
    (∀ c : Dev Cert.MmNnIdeal.nD,
      m' ((c.tc : Thread Cert.MmNnRefIdeal.nD Cert.MmNnRefIdeal.τ).loc Cert.MmNnRefIdeal.main_arg0) = m ((c.tc : Thread Cert.MmNnIdeal.nD Cert.MmNnIdeal.τ).loc Cert.MmNnIdeal.main_arg0)
      ∧ m' ((c.tc : Thread Cert.MmNnRefIdeal.nD Cert.MmNnRefIdeal.τ).loc Cert.MmNnRefIdeal.main_arg1) = m ((c.tc : Thread Cert.MmNnIdeal.nD Cert.MmNnIdeal.τ).loc Cert.MmNnIdeal.main_arg1)) →
    ∃ (v0 : (c : Dev Cert.MmNnIdeal.nD) → Buf (Elt Ideal) ((c.tc : Thread Cert.MmNnIdeal.nD Cert.MmNnIdeal.τ).loc Cert.MmNnIdeal.main_v0)),
      θ_run (Cert.MmNnIdeal.defs (F := Ideal)) (onTc (τ := Cert.MmNnIdeal.τ) (Cert.MmNnIdeal.main (F := Ideal))) ⟨m, fun _ => 0, g⟩ (fun r => ∀ c : Dev Cert.MmNnIdeal.nD,
          r.2.mem ((c.tc : Thread Cert.MmNnIdeal.nD Cert.MmNnIdeal.τ).loc Cert.MmNnIdeal.main_v0) = v0 c
          ∧ r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
          ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ θ_run (Cert.MmNnRefIdeal.defs (F := Ideal)) (onTc (τ := Cert.MmNnRefIdeal.τ) (Cert.MmNnRefIdeal.main (F := Ideal))) ⟨m', fun _ => 0, g'⟩ (fun r => ∀ c : Dev Cert.MmNnRefIdeal.nD,
          r.2.mem ((c.tc : Thread Cert.MmNnRefIdeal.nD Cert.MmNnRefIdeal.τ).loc Cert.MmNnRefIdeal.main_v2) = v0 c
          ∧ r.2.mem ((c.tc : Thread Cert.MmNnRefIdeal.nD Cert.MmNnRefIdeal.τ).loc Cert.MmNnRefIdeal.main_arg0) = m' ((c.tc : Thread Cert.MmNnRefIdeal.nD Cert.MmNnRefIdeal.τ).loc Cert.MmNnRefIdeal.main_arg0)
          ∧ r.2.mem ((c.tc : Thread Cert.MmNnRefIdeal.nD Cert.MmNnRefIdeal.τ).loc Cert.MmNnRefIdeal.main_arg1) = m' ((c.tc : Thread Cert.MmNnRefIdeal.nD Cert.MmNnRefIdeal.τ).loc Cert.MmNnRefIdeal.main_arg1))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)) →
    ∃ (v0 : (c : Dev Cert.MmNtIdeal.nD) → Buf (Elt Ideal) ((c.tc : Thread Cert.MmNtIdeal.nD Cert.MmNtIdeal.τ).loc Cert.MmNtIdeal.main_v0)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v0) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v4) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1))

def preserves_MmKv_MmKvIdeal : Prop :=
  True

def algebraic_MmKvIdeal_MmKvRefIdeal [hMmKvIdeal : Cert.MmKvIdeal.Facts] [hMmKvRefIdeal : Cert.MmKvRefIdeal.Facts] : Prop :=
  ∀ (m : (ℓ : Loc Cert.MmKvIdeal.nD Cert.MmKvIdeal.τ Cert.MmKvIdeal.sig) → Buf (Elt Ideal) ℓ) (g : Dev Cert.MmKvIdeal.nD → PrngReg)
    (m' : (ℓ : Loc Cert.MmKvRefIdeal.nD Cert.MmKvRefIdeal.τ Cert.MmKvRefIdeal.sig) → Buf (Elt Ideal) ℓ) (g' : Dev Cert.MmKvRefIdeal.nD → PrngReg), Pre_MmKvIdeal m →
    (∀ c : Dev Cert.MmKvIdeal.nD,
      m' ((c.tc : Thread Cert.MmKvRefIdeal.nD Cert.MmKvRefIdeal.τ).loc Cert.MmKvRefIdeal.main_arg0) = m ((c.tc : Thread Cert.MmKvIdeal.nD Cert.MmKvIdeal.τ).loc Cert.MmKvIdeal.main_arg0)
      ∧ m' ((c.tc : Thread Cert.MmKvRefIdeal.nD Cert.MmKvRefIdeal.τ).loc Cert.MmKvRefIdeal.main_arg1) = m ((c.tc : Thread Cert.MmKvIdeal.nD Cert.MmKvIdeal.τ).loc Cert.MmKvIdeal.main_arg1)) →
    ∃ (v0 : (c : Dev Cert.MmKvIdeal.nD) → Buf (Elt Ideal) ((c.tc : Thread Cert.MmKvIdeal.nD Cert.MmKvIdeal.τ).loc Cert.MmKvIdeal.main_v2)),
      θ_run (Cert.MmKvIdeal.defs (F := Ideal)) (onTc (τ := Cert.MmKvIdeal.τ) (Cert.MmKvIdeal.main (F := Ideal))) ⟨m, fun _ => 0, g⟩ (fun r => ∀ c : Dev Cert.MmKvIdeal.nD,
          r.2.mem ((c.tc : Thread Cert.MmKvIdeal.nD Cert.MmKvIdeal.τ).loc Cert.MmKvIdeal.main_v2) = v0 c
          ∧ r.2.mem ((c.tc : Thread Cert.MmKvIdeal.nD Cert.MmKvIdeal.τ).loc Cert.MmKvIdeal.main_arg0) = m ((c.tc : Thread Cert.MmKvIdeal.nD Cert.MmKvIdeal.τ).loc Cert.MmKvIdeal.main_arg0)
          ∧ r.2.mem ((c.tc : Thread Cert.MmKvIdeal.nD Cert.MmKvIdeal.τ).loc Cert.MmKvIdeal.main_arg1) = m ((c.tc : Thread Cert.MmKvIdeal.nD Cert.MmKvIdeal.τ).loc Cert.MmKvIdeal.main_arg1))
      ∧ θ_run (Cert.MmKvRefIdeal.defs (F := Ideal)) (onTc (τ := Cert.MmKvRefIdeal.τ) (Cert.MmKvRefIdeal.main (F := Ideal))) ⟨m', fun _ => 0, g'⟩ (fun r => ∀ c : Dev Cert.MmKvRefIdeal.nD,
          r.2.mem ((c.tc : Thread Cert.MmKvRefIdeal.nD Cert.MmKvRefIdeal.τ).loc Cert.MmKvRefIdeal.main_v5) = v0 c
          ∧ r.2.mem ((c.tc : Thread Cert.MmKvRefIdeal.nD Cert.MmKvRefIdeal.τ).loc Cert.MmKvRefIdeal.main_arg0) = m' ((c.tc : Thread Cert.MmKvRefIdeal.nD Cert.MmKvRefIdeal.τ).loc Cert.MmKvRefIdeal.main_arg0)
          ∧ r.2.mem ((c.tc : Thread Cert.MmKvRefIdeal.nD Cert.MmKvRefIdeal.τ).loc Cert.MmKvRefIdeal.main_arg1) = m' ((c.tc : Thread Cert.MmKvRefIdeal.nD Cert.MmKvRefIdeal.τ).loc Cert.MmKvRefIdeal.main_arg1))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)
      ∧ m' ((c.tc : Thread Cert.MmDownRefIdeal.nD Cert.MmDownRefIdeal.τ).loc Cert.MmDownRefIdeal.main_arg2) = m ((c.tc : Thread Cert.MmDownIdeal.nD Cert.MmDownIdeal.τ).loc Cert.MmDownIdeal.main_arg2)) →
    ∃ (v0 : (c : Dev Cert.MmDownIdeal.nD) → Buf (Elt Ideal) ((c.tc : Thread Cert.MmDownIdeal.nD Cert.MmDownIdeal.τ).loc Cert.MmDownIdeal.main_v2)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v2) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
          ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v3) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1)
          ∧ r.2.mem ((c.tc : Thread Cert.MmDownRefIdeal.nD Cert.MmDownRefIdeal.τ).loc Cert.MmDownRefIdeal.main_arg2) = m' ((c.tc : Thread Cert.MmDownRefIdeal.nD Cert.MmDownRefIdeal.τ).loc Cert.MmDownRefIdeal.main_arg2))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v0)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v0) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v5) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_MmKvDw_MmKvDwIdeal : Prop :=
  True

def algebraic_MmKvDwIdeal_MmKvDwRefIdeal [hMmKvDwIdeal : Cert.MmKvDwIdeal.Facts] [hMmKvDwRefIdeal : Cert.MmKvDwRefIdeal.Facts] : Prop :=
  ∀ (m : (ℓ : Loc Cert.MmKvDwIdeal.nD Cert.MmKvDwIdeal.τ Cert.MmKvDwIdeal.sig) → Buf (Elt Ideal) ℓ) (g : Dev Cert.MmKvDwIdeal.nD → PrngReg)
    (m' : (ℓ : Loc Cert.MmKvDwRefIdeal.nD Cert.MmKvDwRefIdeal.τ Cert.MmKvDwRefIdeal.sig) → Buf (Elt Ideal) ℓ) (g' : Dev Cert.MmKvDwRefIdeal.nD → PrngReg), Pre_MmKvDwIdeal m →
    (∀ c : Dev Cert.MmKvDwIdeal.nD,
      m' ((c.tc : Thread Cert.MmKvDwRefIdeal.nD Cert.MmKvDwRefIdeal.τ).loc Cert.MmKvDwRefIdeal.main_arg0) = m ((c.tc : Thread Cert.MmKvDwIdeal.nD Cert.MmKvDwIdeal.τ).loc Cert.MmKvDwIdeal.main_arg0)
      ∧ m' ((c.tc : Thread Cert.MmKvDwRefIdeal.nD Cert.MmKvDwRefIdeal.τ).loc Cert.MmKvDwRefIdeal.main_arg1) = m ((c.tc : Thread Cert.MmKvDwIdeal.nD Cert.MmKvDwIdeal.τ).loc Cert.MmKvDwIdeal.main_arg1)) →
    ∃ (v0 : (c : Dev Cert.MmKvDwIdeal.nD) → Buf (Elt Ideal) ((c.tc : Thread Cert.MmKvDwIdeal.nD Cert.MmKvDwIdeal.τ).loc Cert.MmKvDwIdeal.main_v2)),
      θ_run (Cert.MmKvDwIdeal.defs (F := Ideal)) (onTc (τ := Cert.MmKvDwIdeal.τ) (Cert.MmKvDwIdeal.main (F := Ideal))) ⟨m, fun _ => 0, g⟩ (fun r => ∀ c : Dev Cert.MmKvDwIdeal.nD,
          r.2.mem ((c.tc : Thread Cert.MmKvDwIdeal.nD Cert.MmKvDwIdeal.τ).loc Cert.MmKvDwIdeal.main_v2) = v0 c
          ∧ r.2.mem ((c.tc : Thread Cert.MmKvDwIdeal.nD Cert.MmKvDwIdeal.τ).loc Cert.MmKvDwIdeal.main_arg0) = m ((c.tc : Thread Cert.MmKvDwIdeal.nD Cert.MmKvDwIdeal.τ).loc Cert.MmKvDwIdeal.main_arg0)
          ∧ r.2.mem ((c.tc : Thread Cert.MmKvDwIdeal.nD Cert.MmKvDwIdeal.τ).loc Cert.MmKvDwIdeal.main_arg1) = m ((c.tc : Thread Cert.MmKvDwIdeal.nD Cert.MmKvDwIdeal.τ).loc Cert.MmKvDwIdeal.main_arg1))
      ∧ θ_run (Cert.MmKvDwRefIdeal.defs (F := Ideal)) (onTc (τ := Cert.MmKvDwRefIdeal.τ) (Cert.MmKvDwRefIdeal.main (F := Ideal))) ⟨m', fun _ => 0, g'⟩ (fun r => ∀ c : Dev Cert.MmKvDwRefIdeal.nD,
          r.2.mem ((c.tc : Thread Cert.MmKvDwRefIdeal.nD Cert.MmKvDwRefIdeal.τ).loc Cert.MmKvDwRefIdeal.main_v7) = v0 c
          ∧ r.2.mem ((c.tc : Thread Cert.MmKvDwRefIdeal.nD Cert.MmKvDwRefIdeal.τ).loc Cert.MmKvDwRefIdeal.main_arg0) = m' ((c.tc : Thread Cert.MmKvDwRefIdeal.nD Cert.MmKvDwRefIdeal.τ).loc Cert.MmKvDwRefIdeal.main_arg0)
          ∧ r.2.mem ((c.tc : Thread Cert.MmKvDwRefIdeal.nD Cert.MmKvDwRefIdeal.τ).loc Cert.MmKvDwRefIdeal.main_arg1) = m' ((c.tc : Thread Cert.MmKvDwRefIdeal.nD Cert.MmKvDwRefIdeal.τ).loc Cert.MmKvDwRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def Claim : Prop :=
  ∃ (hAttn : Cert.Attn.Facts) (hAttnIdeal : Cert.AttnIdeal.Facts) (hAttnRefIdeal : Cert.AttnRefIdeal.Facts) (hNormRes : Cert.NormRes.Facts) (hNormResIdeal : Cert.NormResIdeal.Facts) (hNormResRefIdeal : Cert.NormResRefIdeal.Facts) (hNormMem : Cert.NormMem.Facts) (hNormMemIdeal : Cert.NormMemIdeal.Facts) (hNormMemRefIdeal : Cert.NormMemRefIdeal.Facts) (hQNorm : Cert.QNorm.Facts) (hQNormIdeal : Cert.QNormIdeal.Facts) (hQNormRefIdeal : Cert.QNormRefIdeal.Facts) (hQkvNorm : Cert.QkvNorm.Facts) (hQkvNormIdeal : Cert.QkvNormIdeal.Facts) (hQkvNormRefIdeal : Cert.QkvNormRefIdeal.Facts) (hUpNorm : Cert.UpNorm.Facts) (hUpNormIdeal : Cert.UpNormIdeal.Facts) (hUpNormRefIdeal : Cert.UpNormRefIdeal.Facts) (hLoss : Cert.Loss.Facts) (hLossIdeal : Cert.LossIdeal.Facts) (hLossRefIdeal : Cert.LossRefIdeal.Facts) (hPoolProj : Cert.PoolProj.Facts) (hPoolProjIdeal : Cert.PoolProjIdeal.Facts) (hPoolProjRefIdeal : Cert.PoolProjRefIdeal.Facts) (hXattn : Cert.Xattn.Facts) (hXattnIdeal : Cert.XattnIdeal.Facts) (hXattnRefIdeal : Cert.XattnRefIdeal.Facts) (hFfn : Cert.Ffn.Facts) (hFfnIdeal : Cert.FfnIdeal.Facts) (hFfnRefIdeal : Cert.FfnRefIdeal.Facts) (hPoolWin : Cert.PoolWin.Facts) (hPoolWinIdeal : Cert.PoolWinIdeal.Facts) (hPoolWinRefIdeal : Cert.PoolWinRefIdeal.Facts) (hNormFwd : Cert.NormFwd.Facts) (hNormFwdIdeal : Cert.NormFwdIdeal.Facts) (hNormFwdRefIdeal : Cert.NormFwdRefIdeal.Facts) (hResNorm : Cert.ResNorm.Facts) (hResNormIdeal : Cert.ResNormIdeal.Facts) (hResNormRefIdeal : Cert.ResNormRefIdeal.Facts) (hPoolOut : Cert.PoolOut.Facts) (hPoolOutIdeal : Cert.PoolOutIdeal.Facts) (hPoolOutRefIdeal : Cert.PoolOutRefIdeal.Facts) (hXattnOut : Cert.XattnOut.Facts) (hXattnOutIdeal : Cert.XattnOutIdeal.Facts) (hXattnOutRefIdeal : Cert.XattnOutRefIdeal.Facts) (hPoolMean : Cert.PoolMean.Facts) (hPoolMeanIdeal : Cert.PoolMeanIdeal.Facts) (hPoolMeanRefIdeal : Cert.PoolMeanRefIdeal.Facts) (hFfnAct : Cert.FfnAct.Facts) (hFfnActIdeal : Cert.FfnActIdeal.Facts) (hFfnActRefIdeal : Cert.FfnActRefIdeal.Facts) (hMmNn : Cert.MmNn.Facts) (hMmNnIdeal : Cert.MmNnIdeal.Facts) (hMmNnRefIdeal : Cert.MmNnRefIdeal.Facts) (hMmNt : Cert.MmNt.Facts) (hMmNtIdeal : Cert.MmNtIdeal.Facts) (hMmNtRefIdeal : Cert.MmNtRefIdeal.Facts) (hMmKv : Cert.MmKv.Facts) (hMmKvIdeal : Cert.MmKvIdeal.Facts) (hMmKvRefIdeal : Cert.MmKvRefIdeal.Facts) (hMmDown : Cert.MmDown.Facts) (hMmDownIdeal : Cert.MmDownIdeal.Facts) (hMmDownRefIdeal : Cert.MmDownRefIdeal.Facts) (hMmTn : Cert.MmTn.Facts) (hMmTnIdeal : Cert.MmTnIdeal.Facts) (hMmTnRefIdeal : Cert.MmTnRefIdeal.Facts) (hMmKvDw : Cert.MmKvDw.Facts) (hMmKvDwIdeal : Cert.MmKvDwIdeal.Facts) (hMmKvDwRefIdeal : Cert.MmKvDwRefIdeal.Facts) (hAdamW : Cert.AdamW.Facts) (hAdamWIdeal : Cert.AdamWIdeal.Facts) (hAdamWRefIdeal : Cert.AdamWRefIdeal.Facts) (hPre_attn_finite : Cert.Pre_attn_finite.Facts) (hPre_xattn_finite : Cert.Pre_xattn_finite.Facts) (hPre_ffn_finite : Cert.Pre_ffn_finite.Facts) (hPre_poolwin_finite : Cert.Pre_poolwin_finite.Facts) (hPre_xattnout_finite : Cert.Pre_xattnout_finite.Facts) (hPre_poolmean_finite : Cert.Pre_poolmean_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_NormRes (hNormRes := hNormRes)
    ∧ quiescent_NormResIdeal (hNormResIdeal := hNormResIdeal)
    ∧ quiescent_NormResRefIdeal (hNormResRefIdeal := hNormResRefIdeal)
    ∧ quiescent_NormMem (hNormMem := hNormMem)
    ∧ quiescent_NormMemIdeal (hNormMemIdeal := hNormMemIdeal)
    ∧ quiescent_NormMemRefIdeal (hNormMemRefIdeal := hNormMemRefIdeal)
    ∧ quiescent_QNorm (hQNorm := hQNorm)
    ∧ quiescent_QNormIdeal (hQNormIdeal := hQNormIdeal)
    ∧ quiescent_QNormRefIdeal (hQNormRefIdeal := hQNormRefIdeal)
    ∧ quiescent_QkvNorm (hQkvNorm := hQkvNorm)
    ∧ quiescent_QkvNormIdeal (hQkvNormIdeal := hQkvNormIdeal)
    ∧ quiescent_QkvNormRefIdeal (hQkvNormRefIdeal := hQkvNormRefIdeal)
    ∧ quiescent_UpNorm (hUpNorm := hUpNorm)
    ∧ quiescent_UpNormIdeal (hUpNormIdeal := hUpNormIdeal)
    ∧ quiescent_UpNormRefIdeal (hUpNormRefIdeal := hUpNormRefIdeal)
    ∧ quiescent_Loss (hLoss := hLoss)
    ∧ quiescent_LossIdeal (hLossIdeal := hLossIdeal)
    ∧ quiescent_LossRefIdeal (hLossRefIdeal := hLossRefIdeal)
    ∧ quiescent_PoolProj (hPoolProj := hPoolProj)
    ∧ quiescent_PoolProjIdeal (hPoolProjIdeal := hPoolProjIdeal)
    ∧ quiescent_PoolProjRefIdeal (hPoolProjRefIdeal := hPoolProjRefIdeal)
    ∧ quiescent_Xattn (hXattn := hXattn)
    ∧ quiescent_XattnIdeal (hXattnIdeal := hXattnIdeal)
    ∧ quiescent_XattnIdeal_pre_xattn_finite (hXattnIdeal := hXattnIdeal) (hPre_xattn_finite := hPre_xattn_finite)
    ∧ quiescent_XattnRefIdeal (hXattnRefIdeal := hXattnRefIdeal)
    ∧ quiescent_XattnRefIdeal_pre_xattn_finite (hXattnRefIdeal := hXattnRefIdeal) (hPre_xattn_finite := hPre_xattn_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_PoolWin (hPoolWin := hPoolWin)
    ∧ quiescent_PoolWinIdeal (hPoolWinIdeal := hPoolWinIdeal)
    ∧ quiescent_PoolWinIdeal_pre_poolwin_finite (hPoolWinIdeal := hPoolWinIdeal) (hPre_poolwin_finite := hPre_poolwin_finite)
    ∧ quiescent_PoolWinRefIdeal (hPoolWinRefIdeal := hPoolWinRefIdeal)
    ∧ quiescent_PoolWinRefIdeal_pre_poolwin_finite (hPoolWinRefIdeal := hPoolWinRefIdeal) (hPre_poolwin_finite := hPre_poolwin_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ResNorm (hResNorm := hResNorm)
    ∧ quiescent_ResNormIdeal (hResNormIdeal := hResNormIdeal)
    ∧ quiescent_ResNormRefIdeal (hResNormRefIdeal := hResNormRefIdeal)
    ∧ quiescent_PoolOut (hPoolOut := hPoolOut)
    ∧ quiescent_PoolOutIdeal (hPoolOutIdeal := hPoolOutIdeal)
    ∧ quiescent_PoolOutRefIdeal (hPoolOutRefIdeal := hPoolOutRefIdeal)
    ∧ quiescent_XattnOut (hXattnOut := hXattnOut)
    ∧ quiescent_XattnOutIdeal (hXattnOutIdeal := hXattnOutIdeal)
    ∧ quiescent_XattnOutIdeal_pre_xattnout_finite (hXattnOutIdeal := hXattnOutIdeal) (hPre_xattnout_finite := hPre_xattnout_finite)
    ∧ quiescent_XattnOutRefIdeal (hXattnOutRefIdeal := hXattnOutRefIdeal)
    ∧ quiescent_XattnOutRefIdeal_pre_xattnout_finite (hXattnOutRefIdeal := hXattnOutRefIdeal) (hPre_xattnout_finite := hPre_xattnout_finite)
    ∧ quiescent_PoolMean (hPoolMean := hPoolMean)
    ∧ quiescent_PoolMeanIdeal (hPoolMeanIdeal := hPoolMeanIdeal)
    ∧ quiescent_PoolMeanIdeal_pre_poolmean_finite (hPoolMeanIdeal := hPoolMeanIdeal) (hPre_poolmean_finite := hPre_poolmean_finite)
    ∧ quiescent_PoolMeanRefIdeal (hPoolMeanRefIdeal := hPoolMeanRefIdeal)
    ∧ quiescent_PoolMeanRefIdeal_pre_poolmean_finite (hPoolMeanRefIdeal := hPoolMeanRefIdeal) (hPre_poolmean_finite := hPre_poolmean_finite)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_MmNn (hMmNn := hMmNn)
    ∧ quiescent_MmNnIdeal (hMmNnIdeal := hMmNnIdeal)
    ∧ quiescent_MmNnRefIdeal (hMmNnRefIdeal := hMmNnRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_MmKv (hMmKv := hMmKv)
    ∧ quiescent_MmKvIdeal (hMmKvIdeal := hMmKvIdeal)
    ∧ quiescent_MmKvRefIdeal (hMmKvRefIdeal := hMmKvRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_MmKvDw (hMmKvDw := hMmKvDw)
    ∧ quiescent_MmKvDwIdeal (hMmKvDwIdeal := hMmKvDwIdeal)
    ∧ quiescent_MmKvDwRefIdeal (hMmKvDwRefIdeal := hMmKvDwRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_NormRes_NormResIdeal
    ∧ algebraic_NormResIdeal_NormResRefIdeal (hNormResIdeal := hNormResIdeal) (hNormResRefIdeal := hNormResRefIdeal)
    ∧ preserves_NormMem_NormMemIdeal
    ∧ algebraic_NormMemIdeal_NormMemRefIdeal (hNormMemIdeal := hNormMemIdeal) (hNormMemRefIdeal := hNormMemRefIdeal)
    ∧ preserves_QNorm_QNormIdeal
    ∧ algebraic_QNormIdeal_QNormRefIdeal (hQNormIdeal := hQNormIdeal) (hQNormRefIdeal := hQNormRefIdeal)
    ∧ preserves_QkvNorm_QkvNormIdeal
    ∧ algebraic_QkvNormIdeal_QkvNormRefIdeal (hQkvNormIdeal := hQkvNormIdeal) (hQkvNormRefIdeal := hQkvNormRefIdeal)
    ∧ preserves_UpNorm_UpNormIdeal
    ∧ algebraic_UpNormIdeal_UpNormRefIdeal (hUpNormIdeal := hUpNormIdeal) (hUpNormRefIdeal := hUpNormRefIdeal)
    ∧ preserves_Loss_LossIdeal
    ∧ algebraic_LossIdeal_LossRefIdeal (hLossIdeal := hLossIdeal) (hLossRefIdeal := hLossRefIdeal)
    ∧ preserves_PoolProj_PoolProjIdeal
    ∧ algebraic_PoolProjIdeal_PoolProjRefIdeal (hPoolProjIdeal := hPoolProjIdeal) (hPoolProjRefIdeal := hPoolProjRefIdeal)
    ∧ preserves_Xattn_XattnIdeal
    ∧ algebraic_XattnIdeal_XattnRefIdeal_pre_xattn_finite (hXattnIdeal := hXattnIdeal) (hXattnRefIdeal := hXattnRefIdeal) (hPre_xattn_finite := hPre_xattn_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_PoolWin_PoolWinIdeal
    ∧ algebraic_PoolWinIdeal_PoolWinRefIdeal_pre_poolwin_finite (hPoolWinIdeal := hPoolWinIdeal) (hPoolWinRefIdeal := hPoolWinRefIdeal) (hPre_poolwin_finite := hPre_poolwin_finite)
    ∧ preserves_NormFwd_NormFwdIdeal
    ∧ algebraic_NormFwdIdeal_NormFwdRefIdeal (hNormFwdIdeal := hNormFwdIdeal) (hNormFwdRefIdeal := hNormFwdRefIdeal)
    ∧ preserves_ResNorm_ResNormIdeal
    ∧ algebraic_ResNormIdeal_ResNormRefIdeal (hResNormIdeal := hResNormIdeal) (hResNormRefIdeal := hResNormRefIdeal)
    ∧ preserves_PoolOut_PoolOutIdeal
    ∧ algebraic_PoolOutIdeal_PoolOutRefIdeal (hPoolOutIdeal := hPoolOutIdeal) (hPoolOutRefIdeal := hPoolOutRefIdeal)
    ∧ preserves_XattnOut_XattnOutIdeal
    ∧ algebraic_XattnOutIdeal_XattnOutRefIdeal_pre_xattnout_finite (hXattnOutIdeal := hXattnOutIdeal) (hXattnOutRefIdeal := hXattnOutRefIdeal) (hPre_xattnout_finite := hPre_xattnout_finite)
    ∧ preserves_PoolMean_PoolMeanIdeal
    ∧ algebraic_PoolMeanIdeal_PoolMeanRefIdeal_pre_poolmean_finite (hPoolMeanIdeal := hPoolMeanIdeal) (hPoolMeanRefIdeal := hPoolMeanRefIdeal) (hPre_poolmean_finite := hPre_poolmean_finite)
    ∧ preserves_FfnAct_FfnActIdeal
    ∧ algebraic_FfnActIdeal_FfnActRefIdeal (hFfnActIdeal := hFfnActIdeal) (hFfnActRefIdeal := hFfnActRefIdeal)
    ∧ preserves_MmNn_MmNnIdeal
    ∧ algebraic_MmNnIdeal_MmNnRefIdeal (hMmNnIdeal := hMmNnIdeal) (hMmNnRefIdeal := hMmNnRefIdeal)
    ∧ preserves_MmNt_MmNtIdeal
    ∧ algebraic_MmNtIdeal_MmNtRefIdeal (hMmNtIdeal := hMmNtIdeal) (hMmNtRefIdeal := hMmNtRefIdeal)
    ∧ preserves_MmKv_MmKvIdeal
    ∧ algebraic_MmKvIdeal_MmKvRefIdeal (hMmKvIdeal := hMmKvIdeal) (hMmKvRefIdeal := hMmKvRefIdeal)
    ∧ preserves_MmDown_MmDownIdeal
    ∧ algebraic_MmDownIdeal_MmDownRefIdeal (hMmDownIdeal := hMmDownIdeal) (hMmDownRefIdeal := hMmDownRefIdeal)
    ∧ preserves_MmTn_MmTnIdeal
    ∧ algebraic_MmTnIdeal_MmTnRefIdeal (hMmTnIdeal := hMmTnIdeal) (hMmTnRefIdeal := hMmTnRefIdeal)
    ∧ preserves_MmKvDw_MmKvDwIdeal
    ∧ algebraic_MmKvDwIdeal_MmKvDwRefIdeal (hMmKvDwIdeal := hMmKvDwIdeal) (hMmKvDwRefIdeal := hMmKvDwRefIdeal)
    ∧ preserves_AdamW_AdamWIdeal
    ∧ algebraic_AdamWIdeal_AdamWRefIdeal (hAdamWIdeal := hAdamWIdeal) (hAdamWRefIdeal := hAdamWRefIdeal)
-- ==== Pre_attn_finite.lean ====
abbrev S4096x16x64 : Shape := ⟨3, ![4096, 16, 64]⟩
abbrev S4096x4x64 : Shape := ⟨3, ![4096, 4, 64]⟩
abbrev S4096x1024 : Shape := ⟨2, ![4096, 1024]⟩
abbrev S_ : Shape := ⟨0, ![]⟩

class Facts : Prop where
  bitsLt_bf16_f32 : FTy.bits .bf16 < FTy.bits .f32
  bcast_S_S4096x16x64 : S_.BroadcastsInDim S4096x16x64 (![] : Fin 0 → Fin S4096x16x64.rank)
  bcast_S_S4096x4x64 : S_.BroadcastsInDim S4096x4x64 (![] : Fin 0 → Fin S4096x4x64.rank)
  bcast_S_S4096x1024 : S_.BroadcastsInDim S4096x1024 (![] : Fin 0 → Fin S4096x1024.rank)

variable [Facts]

def fn {F : FTy → Type} [FloatOps F] (main_arg0 : FVec F S4096x16x64 .bf16) (main_arg1 : FVec F S4096x4x64 .bf16) (main_arg2 : FVec F S4096x4x64 .bf16) (main_arg3 : FVec F S4096x1024 .bf16) : IVec S4096x16x64 1 × IVec S4096x4x64 1 × IVec S4096x4x64 1 × IVec S4096x1024 1 :=
  let main_v0 : FVec F S4096x16x64 .f32 := (extf .f32 · bitsLt_bf16_f32) main_arg0
  let main_v1 : FVec F S4096x16x64 .f32 := Host.absf main_v0
  let main_cst : FVec F S_ .f32 := constant S_ .f32 0x7F800000#32
  let main_v2 : FVec F S4096x16x64 .f32 := broadcastInDim S4096x16x64 ![] bcast_S_S4096x16x64 main_cst
  let main_v3 : IVec S4096x16x64 1 := cmpf .olt main_v1 main_v2
  let main_v4 : FVec F S4096x4x64 .f32 := (extf .f32 · bitsLt_bf16_f32) main_arg1
  let main_v5 : FVec F S4096x4x64 .f32 := Host.absf main_v4
  let main_cst_0 : FVec F S_ .f32 := constant S_ .f32 0x7F800000#32
  let main_v6 : FVec F S4096x4x64 .f32 := broadcastInDim S4096x4x64 ![] bcast_S_S4096x4x64 main_cst_0
  let main_v7 : IVec S4096x4x64 1 := cmpf .olt main_v5 main_v6
  let main_v8 : FVec F S4096x4x64 .f32 := (extf .f32 · bitsLt_bf16_f32) main_arg2
  let main_v9 : FVec F S4096x4x64 .f32 := Host.absf main_v8
  let main_cst_1 : FVec F S_ .f32 := constant S_ .f32 0x7F800000#32
  let main_v10 : FVec F S4096x4x64 .f32 := broadcastInDim S4096x4x64 ![] bcast_S_S4096x4x64 main_cst_1
  let main_v11 : IVec S4096x4x64 1 := cmpf .olt main_v9 main_v10
  let main_v12 : FVec F S4096x1024 .f32 := (extf .f32 · bitsLt_bf16_f32) main_arg3
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  (main_v3, main_v7, main_v11, main_v15)
-- ==== Pre_ffn_finite.lean ====
abbrev S4096x5632 : Shape := ⟨2, ![4096, 5632]⟩
abbrev S3x5632 : Shape := ⟨2, ![3, 5632]⟩
abbrev S5632 : Shape := ⟨1, ![5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  bcast_S_S3x5632 : S_.BroadcastsInDim S3x5632 (![] : Fin 0 → Fin S3x5632.rank)
  bcast_S_S5632 : S_.BroadcastsInDim S5632 (![] : Fin 0 → Fin S5632.rank)
  bitsLt_bf16_f32 : FTy.bits .bf16 < FTy.bits .f32
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x5632 .f32) (main_arg1 : FVec F S3x5632 .f32) (main_arg2 : FVec F S5632 .f32) (main_arg3 : FVec F S2816x1024 .bf16) (main_arg4 : FVec F S4096x1024 .f32) : IVec S4096x5632 1 × IVec S3x5632 1 × IVec S5632 1 × IVec S2816x1024 1 × IVec S4096x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S5632 .f32 := Host.absf main_arg2
  let main_cst_1 : FVec F S_ .f32 := constant S_ .f32 0x7F800000#32
  let main_v7 : FVec F S5632 .f32 := broadcastInDim S5632 ![] bcast_S_S5632 main_cst_1
  let main_v8 : IVec S5632 1 := cmpf .olt main_v6 main_v7
  let main_v9 : FVec F S2816x1024 .f32 := (extf .f32 · bitsLt_bf16_f32) main_arg3
  let main_v10 : FVec F S2816x1024 .f32 := Host.absf main_v9
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_v13 : FVec F S4096x1024 .f32 := Host.absf main_arg4
  let main_cst_3 : FVec F S_ .f32 := constant S_ .f32 0x7F800000#32
  let main_v14 : FVec F S4096x1024 .f32 := broadcastInDim S4096x1024 ![] bcast_S_S4096x1024 main_cst_3
  let main_v15 : IVec S4096x1024 1 := cmpf .olt main_v13 main_v14
  (main_v2, main_v5, main_v8, main_v12, main_v15)
-- ==== Pre_poolmean_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  main_v2
-- ==== Pre_poolwin_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  main_v2
-- ==== Pre_xattn_finite.lean ====
abbrev S4096x1024 : Shape := ⟨2, ![4096, 1024]⟩
abbrev S256x2048 : Shape := ⟨2, ![256, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S256x2048 : S_.BroadcastsInDim S256x2048 (![] : Fin 0 → Fin S256x2048.rank)

variable [Facts]

def fn {F : FTy → Type} [FloatOps F] (main_arg0 : FVec F S4096x1024 .bf16) (main_arg1 : FVec F S256x2048 .bf16) (main_arg2 : FVec F S4096x1024 .bf16) : IVec S4096x1024 1 × IVec S256x2048 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S256x2048 .f32 := (extf .f32 · bitsLt_bf16_f32) main_arg1
  let main_v5 : FVec F S256x2048 .f32 := Host.absf main_v4
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  (main_v3, main_v7, main_v11)
-- ==== Pre_xattnout_finite.lean ====
abbrev S4096x1024 : Shape := ⟨2, ![4096, 1024]⟩
abbrev S256x2048 : Shape := ⟨2, ![256, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S256x2048 : S_.BroadcastsInDim S256x2048 (![] : Fin 0 → Fin S256x2048.rank)

variable [Facts]

def fn {F : FTy → Type} [FloatOps F] (main_arg0 : FVec F S4096x1024 .bf16) (main_arg1 : FVec F S256x2048 .bf16) : IVec S4096x1024 1 × IVec S256x2048 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S256x2048 .f32 := (extf .f32 · bitsLt_bf16_f32) main_arg1
  let main_v5 : FVec F S256x2048 .f32 := Host.absf main_v4
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  (main_v3, main_v7)
-- ==== Attn.lean ====
abbrev S4096x16x64 : Shape := ⟨3, ![4096, 16, 64]⟩
abbrev S4096x4x64 : Shape := ⟨3, ![4096, 4, 64]⟩
abbrev S4096x1024 : Shape := ⟨2, ![4096, 1024]⟩
abbrev S16x4096x64 : Shape := ⟨3, ![16, 4096, 64]⟩
abbrev S4x4096x64 : Shape := ⟨3, ![4, 4096, 64]⟩
abbrev S24x4096x64 : Shape := ⟨3, ![24, 4096, 64]⟩
abbrev S16x4096x1 : Shape := ⟨3, ![16, 4096, 1]⟩
abbrev S4x256x64 : Shape := ⟨3, ![4, 256, 64]⟩
abbrev S1x4096x64 : Shape := ⟨3, ![1, 4096, 64]⟩
abbrev S4x256x1 : Shape := ⟨3, ![4, 256, 1]⟩
abbrev S1024x64 : Shape := ⟨2, ![1024, 64]⟩
abbrev S1024x1 : Shape := ⟨2, ![1024, 1]⟩
abbrev S1x1024x64 : Shape := ⟨3, ![1, 1024, 64]⟩
abbrev S1024x1024 : Shape := ⟨2, ![1024, 1024]⟩
abbrev S1024 : Shape := ⟨1, ![1024]⟩
abbrev S4x128x64 : Shape := ⟨3, ![4, 128, 64]⟩
abbrev S4x128x1 : Shape := ⟨3, ![4, 128, 1]⟩
abbrev S4096x64 : Shape := ⟨2, ![4096, 64]⟩
abbrev S512x64 : Shape := ⟨2, ![512, 64]⟩
abbrev S512 : Shape := ⟨1, ![512]⟩
abbrev S512x1 : Shape := ⟨2, ![512, 1]⟩
abbrev S512x1024 : Shape := ⟨2, ![512, 1024]⟩

abbrev nBuf : Space → Nat
  | .hbm => 15
  | .vmem => 28
  | .smem => 0
  | _ => 0

abbrev bufTy : (tb : Table) → Fin (tcTables nBuf tb) → BufTy
  | .hbm, ⟨0, _⟩ => ⟨S4096x16x64, .bf16⟩
  | .hbm, ⟨1, _⟩ => ⟨S4096x4x64, .bf16⟩
  | .hbm, ⟨2, _⟩ => ⟨S4096x4x64, .bf16⟩
  | .hbm, ⟨3, _⟩ => ⟨S4096x1024, .bf16⟩
  | .hbm, ⟨4, _⟩ => ⟨S16x4096x64, .bf16⟩
  | .hbm, ⟨5, _⟩ => ⟨S4x4096x64, .bf16⟩
  | .hbm, ⟨6, _⟩ => ⟨S4x4096x64, .bf16⟩
  | .hbm, ⟨7, _⟩ => ⟨S24x4096x64, .bf16⟩
  | .hbm, ⟨8, _⟩ => ⟨S16x4096x64, .bf16⟩
  | .hbm, ⟨9, _⟩ => ⟨S16x4096x1, .f32⟩
  | .hbm, ⟨10, _⟩ => ⟨S4096x16x64, .bf16⟩
  | .hbm, ⟨11, _⟩ => ⟨S16x4096x64, .bf16⟩
  | .hbm, ⟨12, _⟩ => ⟨S16x4096x64, .f32⟩
  | .hbm, ⟨13, _⟩ => ⟨S4x4096x64, .f32⟩
  | .hbm, ⟨14, _⟩ => ⟨S4x4096x64, .f32⟩
  | .local _ .vmem, ⟨0, _⟩ => ⟨S4x256x64, .bf16⟩
  | .local _ .vmem, ⟨1, _⟩ => ⟨S4x256x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S4x256x64, .bf16⟩
  | .local _ .vmem, ⟨7, _⟩ => ⟨S4x256x64, .bf16⟩
  | .local _ .vmem, ⟨8, _⟩ => ⟨S4x256x1, .f32⟩
  | .local _ .vmem, ⟨9, _⟩ => ⟨S4x256x1, .f32⟩
  | .local _ .vmem, ⟨10, _⟩ => ⟨S4x128x64, .bf16⟩
  | .local _ .vmem, ⟨11, _⟩ => ⟨S4x128x64, .bf16⟩
  | .local _ .vmem, ⟨12, _⟩ => ⟨S1x4096x64, .bf16⟩
  | .local _ .vmem, ⟨13, _⟩ => ⟨S1x4096x64, .bf16⟩
  | .local _ .vmem, ⟨14, _⟩ => ⟨S1x4096x64, .bf16⟩
  | .local _ .vmem, ⟨15, _⟩ => ⟨S1x4096x64, .bf16⟩
  | .local _ .vmem, ⟨16, _⟩ => ⟨S4x128x64, .bf16⟩
  | .local _ .vmem, ⟨17, _⟩ => ⟨S4x128x64, .bf16⟩
  | .local _ .vmem, ⟨18, _⟩ => ⟨S4x128x1, .f32⟩
  | .local _ .vmem, ⟨19, _⟩ => ⟨S4x128x1, .f32⟩
  | .local _ .vmem, ⟨20, _⟩ => ⟨S4x128x64, .bf16⟩
  | .local _ .vmem, ⟨21, _⟩ => ⟨S4x128x64, .bf16⟩
  | .local _ .vmem, ⟨22, _⟩ => ⟨S4x128x64, .f32⟩
  | .local _ .vmem, ⟨23, _⟩ => ⟨S4x128x64, .f32⟩
  | .local _ .vmem, ⟨24, _⟩ => ⟨S1x4096x64, .f32⟩
  | .local _ .vmem, ⟨25, _⟩ => ⟨S1x4096x64, .f32⟩
  | .local _ .vmem, ⟨26, _⟩ => ⟨S1x4096x64, .f32⟩
  | .local _ .vmem, ⟨27, _⟩ => ⟨S1x4096x64, .f32⟩
  | _, _ => ⟨S4096x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4x128x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x128x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4x128x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4x128x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x4096x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x4096x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== AttnRefIdeal.lean ====
abbrev S4096x16x64 : Shape := ⟨3, ![4096, 16, 64]⟩
abbrev S4096x4x64 : Shape := ⟨3, ![4096, 4, 64]⟩
abbrev S4096x1024 : Shape := ⟨2, ![4096, 1024]⟩
abbrev S4096x4x4x64 : Shape := ⟨4, ![4096, 4, 4, 64]⟩
abbrev S4x4x4096x64 : Shape := ⟨4, ![4, 4, 4096, 64]⟩
abbrev S4x4096x64 : Shape := ⟨3, ![4, 4096, 64]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x64x4096 : Shape := ⟨3, ![4, 64, 4096]⟩
abbrev S16x4096x64 : Shape := ⟨3, ![16, 4096, 64]⟩

abbrev nBuf : Space → Nat
  | .hbm => 85
  | .vmem => 0
  | .smem => 0
  | _ => 0

abbrev bufTy : (tb : Table) → Fin (tcTables nBuf tb) → BufTy
  | .hbm, ⟨0, _⟩ => ⟨S4096x16x64, .bf16⟩
  | .hbm, ⟨1, _⟩ => ⟨S4096x4x64, .bf16⟩
  | .hbm, ⟨2, _⟩ => ⟨S4096x4x64, .bf16⟩
  | .hbm, ⟨3, _⟩ => ⟨S4096x1024, .bf16⟩
  | .hbm, ⟨4, _⟩ => ⟨S4096x16x64, .f32⟩
  | .hbm, ⟨5, _⟩ => ⟨S4096x4x64, .f32⟩
  | .hbm, ⟨6, _⟩ => ⟨S4096x4x64, .f32⟩
  | .hbm, ⟨7, _⟩ => ⟨S4096x4x4x64, .f32⟩
  | .hbm, ⟨8, _⟩ => ⟨S4x4x4096x64, .f32⟩
  | .hbm, ⟨9, _⟩ => ⟨S4x4096x64, .f32⟩
  | .hbm, ⟨10, _⟩ => ⟨S4x4096x64, .f32⟩
  | .hbm, ⟨11, _⟩ => ⟨S4x4x4096x4096, .f32⟩
  | .hbm, ⟨12, _⟩ => ⟨S_, .f32⟩
  | .hbm, ⟨13, _⟩ => ⟨S4x4x4096, .f32⟩
  | .hbm, ⟨14, _⟩ => ⟨S4x4x4096x1, .f32⟩
  | .hbm, ⟨15, _⟩ => ⟨S4x4x4096x4096, .f32⟩
  | .hbm, ⟨16, _⟩ => ⟨S4x4x4096x4096, .i1⟩
  | .hbm, ⟨17, _⟩ => ⟨S4x4x4096x4096, .f32⟩
  | .hbm, ⟨18, _⟩ => ⟨S_, .f32⟩
  | .hbm, ⟨19, _⟩ => ⟨S4x4x4096, .f32⟩
  | .hbm, ⟨20, _⟩ => ⟨S_, .f32⟩
  | .hbm, ⟨21, _⟩ => ⟨S4x4x4096, .f32⟩
  | .hbm, ⟨22, _⟩ => ⟨S4x4x4096, .f32⟩
  | .hbm, ⟨23, _⟩ => ⟨S_, .f32⟩
  | .hbm, ⟨24, _⟩ => ⟨S4x4x4096, .f32⟩
  | .hbm, ⟨25, _⟩ => ⟨S4x4x4096, .i1⟩
  | .hbm, ⟨26, _⟩ => ⟨S_, .f32⟩
  | .hbm, ⟨27, _⟩ => ⟨S4x4x4096, .f32⟩
  | .hbm, ⟨28, _⟩ => ⟨S4x4x4096, .i1⟩
  | .hbm, ⟨29, _⟩ => ⟨S_, .f32⟩
  | .hbm, ⟨30, _⟩ => ⟨S4x4x4096, .f32⟩
  | .hbm, ⟨31, _⟩ => ⟨S_, .f32⟩
  | .hbm, ⟨32, _⟩ => ⟨S4x4x4096, .f32⟩
  | .hbm, ⟨33, _⟩ => ⟨S_, .f32⟩
  | .hbm, ⟨34, _⟩ => ⟨S4x4x4096, .f32⟩
  | .hbm, ⟨35, _⟩ => ⟨S4x4x4096, .f32⟩
  | .hbm, ⟨36, _⟩ => ⟨S4x4x4096, .f32⟩
  | .hbm, ⟨37, _⟩ => ⟨S4x4x4096x1, .f32⟩
  | .hbm, ⟨38, _⟩ => ⟨S4x4x4096x4096, .f32⟩
  | .hbm, ⟨39, _⟩ => ⟨S4x4x4096x4096, .f32⟩
  | .hbm, ⟨40, _⟩ => ⟨S4x4x4096x4096, .f32⟩
  | .hbm, ⟨41, _⟩ => ⟨S_, .f32⟩
  | .hbm, ⟨42, _⟩ => ⟨S4x4x4096, .f32⟩
  | .hbm, ⟨43, _⟩ => ⟨S4x4x4096x1, .f32⟩
  | .hbm, ⟨44, _⟩ => ⟨S4x4x4096x4096, .f32⟩
  | .hbm, ⟨45, _⟩ => ⟨S4x4x4096x4096, .f32⟩
  | .hbm, ⟨46, _⟩ => ⟨S4x4x4096x1, .f32⟩
  | .hbm, ⟨47, _⟩ => ⟨S_, .f32⟩
  | .hbm, ⟨48, _⟩ => ⟨S4x4x4096x1, .f32⟩
  | .hbm, ⟨49, _⟩ => ⟨S4x4x4096x1, .f32⟩
  | .hbm, ⟨50, _⟩ => ⟨S4x4x4096x64, .f32⟩
  | .hbm, ⟨51, _⟩ => ⟨S4096x4x4x64, .f32⟩
  | .hbm, ⟨52, _⟩ => ⟨S4096x1024, .f32⟩
  | .hbm, ⟨53, _⟩ => ⟨S4096x1024, .f32⟩
  | .hbm, ⟨54, _⟩ => ⟨S4096x4x4x64, .f32⟩
  | .hbm, ⟨55, _⟩ => ⟨S4x4x4096x64, .f32⟩
  | .hbm, ⟨56, _⟩ => ⟨S4x64x4096, .f32⟩
  | .hbm, ⟨57, _⟩ => ⟨S4x4096x64, .f32⟩
  | .hbm, ⟨58, _⟩ => ⟨S4x4x4096x4096, .f32⟩
  | .hbm, ⟨59, _⟩ => ⟨S4x4x4096x4096, .f32⟩
  | .hbm, ⟨60, _⟩ => ⟨S4x4x4096x4096, .f32⟩
  | .hbm, ⟨61, _⟩ => ⟨S4x4x4096x4096, .f32⟩
  | .hbm, ⟨62, _⟩ => ⟨S_, .f32⟩
  | .hbm, ⟨63, _⟩ => ⟨S4x4x4096, .f32⟩
  | .hbm, ⟨64, _⟩ => ⟨S4x4x4096x1, .f32⟩
  | .hbm, ⟨65, _⟩ => ⟨S4x4x4096x1, .f32⟩
  | .hbm, ⟨66, _⟩ => ⟨S4x4x4096x4096, .f32⟩
  | .hbm, ⟨67, _⟩ => ⟨S4x4x4096x4096, .f32⟩
  | .hbm, ⟨68, _⟩ => ⟨S_, .f32⟩
  | .hbm, ⟨69, _⟩ => ⟨S4x4x4096, .f32⟩
  | .hbm, ⟨70, _⟩ => ⟨S4x4x4096x4096, .f32⟩
  | .hbm, ⟨71, _⟩ => ⟨S4x4x4096x4096, .f32⟩
  | .hbm, ⟨72, _⟩ => ⟨S4x4x4096x4096, .f32⟩
  | .hbm, ⟨73, _⟩ => ⟨S4x4096x64, .f32⟩
  | .hbm, ⟨74, _⟩ => ⟨S4x4x4096x64, .f32⟩
  | .hbm, ⟨75, _⟩ => ⟨S4096x4x64, .f32⟩
  | .hbm, ⟨76, _⟩ => ⟨S4096x4x64, .f32⟩
  | .hbm, ⟨77, _⟩ => ⟨S4096x4x4x64, .f32⟩
  | .hbm, ⟨78, _⟩ => ⟨S4096x16x64, .f32⟩
  | .hbm, ⟨79, _⟩ => ⟨S4096x16x64, .f32⟩
  | .hbm, ⟨80, _⟩ => ⟨S16x4096x64, .f32⟩
  | .hbm, ⟨81, _⟩ => ⟨S16x4096x64, .bf16⟩
  | .hbm, ⟨82, _⟩ => ⟨S16x4096x64, .f32⟩
  | .hbm, ⟨83, _⟩ => ⟨S4x4096x64, .f32⟩
  | .hbm, ⟨84, _⟩ => ⟨S4x4096x64, .f32⟩
  | _, _ => ⟨S4096x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== NormRes.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormResRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormMemRefIdeal.lean ====
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 50
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S1024, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S256x1024, .f32⟩
  | .hbm, ⟨37, _⟩ => ⟨S256x1024, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== QNorm.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== QNormRefIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== QkvNorm.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S8x128 : Shape := ⟨2, ![8, 128]⟩
abbrev S1024x768 : Shape := ⟨2, ![1024, 768]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x128, .f32⟩
  | .hbm, ⟨6, _⟩ => ⟨S4096x1024, .f32⟩
  | .hbm, ⟨7, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 2], ![false, false, false]⟩

def k0_cond4 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_9 : BitVec 32 := 0#32
  let v16 : BitVec 1 := Scalar.cmpi .ne v15 c0_i32_9
  v16

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg2 : BitVec 32 := BitVec.ofNat 32 (i 2).val
  let c0_i32_3 : BitVec 32 := 0#32
  let v4 : BitVec 1 := Scalar.cmpi .eq arg2 c0_i32_3
  let v5 : BitVec 1 := Scalar.andi v3 v4
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== QkvNormRefIdeal.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S8x128 : Shape := ⟨2, ![8, 128]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x128, .f32⟩
  | .hbm, ⟨6, _⟩ => ⟨S1024x1536, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1536, .f32⟩
  | .hbm, ⟨29, _⟩ => ⟨S4096x1536, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== UpNorm.lean ====
abbrev S4096x5632 : Shape := ⟨2, ![4096, 5632]⟩
abbrev S2x1024x5632 : Shape := ⟨3, ![2, 1024, 5632]⟩
abbrev S4096x1024 : Shape := ⟨2, ![4096, 1024]⟩
abbrev S1x1024 : Shape := ⟨2, ![1, 1024]⟩
abbrev S2048x8x704 : Shape := ⟨3, ![2048, 8, 704]⟩
abbrev S8x2048x704 : Shape := ⟨3, ![8, 2048, 704]⟩
abbrev S4096x8x704 : Shape := ⟨3, ![4096, 8, 704]⟩
abbrev S8x4096x704 : Shape := ⟨3, ![8, 4096, 704]⟩
abbrev S2x1024x704 : Shape := ⟨3, ![2, 1024, 704]⟩
abbrev S1024x1024 : Shape := ⟨2, ![1024, 1024]⟩
abbrev S1x1024x704 : Shape := ⟨3, ![1, 1024, 704]⟩
abbrev S1024x704 : Shape := ⟨2, ![1024, 704]⟩
abbrev S1024 : Shape := ⟨1, ![1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S2x1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S2048x8x704, .bf16⟩
  | .hbm, ⟨6, _⟩ => ⟨S8x2048x704, .bf16⟩
  | .hbm, ⟨7, _⟩ => ⟨S4096x8x704, .bf16⟩
  | .hbm, ⟨8, _⟩ => ⟨S8x4096x704, .bf16⟩
  | .hbm, ⟨9, _⟩ => ⟨S4096x1024, .f32⟩
  | .hbm, ⟨10, _⟩ => ⟨S1x1024, .f32⟩
  | .local _ .vmem, ⟨0, _⟩ => ⟨S2x1024x704, .bf16⟩
  | .local _ .vmem, ⟨1, _⟩ => ⟨S2x1024x704, .bf16⟩
  | .local _ .vmem, ⟨2, _⟩ => ⟨S2x1024x704, .bf16⟩
  | .local _ .vmem, ⟨3, _⟩ => ⟨S2x1024x704, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond4 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_18 : BitVec 32 := 0#32
  let v26 : BitVec 1 := Scalar.cmpi .ne v25 c0_i32_18
  v26

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let arg2 : BitVec 32 := BitVec.ofNat 32 (i 2).val
  let c0_i32_12 : BitVec 32 := 0#32
  let v14 : BitVec 1 := Scalar.cmpi .eq arg2 c0_i32_12
  let v15 : BitVec 1 := Scalar.andi v13 v14
  let v16 : BitVec 32 := Scalar.extui v15
  let c0_i32_13 : BitVec 32 := 0#32
  let v17 : BitVec 1 := Scalar.cmpi .ne v16 c0_i32_13
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpNormRefIdeal.lean ====
abbrev S4096x5632 : Shape := ⟨2, ![4096, 5632]⟩
abbrev S2x1024x5632 : Shape := ⟨3, ![2, 1024, 5632]⟩
abbrev S4096x1024 : Shape := ⟨2, ![4096, 1024]⟩
abbrev S1x1024 : Shape := ⟨2, ![1, 1024]⟩
abbrev S1x1024x5632 : Shape := ⟨3, ![1, 1024, 5632]⟩
abbrev S1024x5632 : Shape := ⟨2, ![1024, 5632]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2x1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024x5632, .bf16⟩
  | .hbm, ⟨6, _⟩ => ⟨S1024x5632, .bf16⟩
  | .hbm, ⟨7, _⟩ => ⟨S1024x5632, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x5632, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_cst_11 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_12 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_cst_14 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_cst_16 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== PoolProj.lean ====
abbrev S4096x1024 : Shape := ⟨2, ![4096, 1024]⟩
abbrev S4x256x256 : Shape := ⟨3, ![4, 256, 256]⟩
abbrev S1x1024 : Shape := ⟨2, ![1, 1024]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4x256x256, .bf16⟩
  | .hbm, ⟨3, _⟩ => ⟨S1x1024, .f32⟩
  | .hbm, ⟨4, _⟩ => ⟨S4096x1024, .f32⟩
  | .hbm, ⟨5, _⟩ => ⟨S4x256x256, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S4x256x256, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S4x256x256, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolProjRefIdeal.lean ====
abbrev S4096x1024 : Shape := ⟨2, ![4096, 1024]⟩
abbrev S4x256x256 : Shape := ⟨3, ![4, 256, 256]⟩
abbrev S1x1024 : Shape := ⟨2, ![1, 1024]⟩
abbrev S4096x4x256 : Shape := ⟨3, ![4096, 4, 256]⟩
abbrev S4x256x4096 : Shape := ⟨3, ![4, 256, 4096]⟩
abbrev S_ : Shape := ⟨0, ![]⟩
abbrev S1024 : Shape := ⟨1, ![1024]⟩
abbrev S4x4096x256 : Shape := ⟨3, ![4, 4096, 256]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4x256x256, .bf16⟩
  | .hbm, ⟨3, _⟩ => ⟨S1x1024, .f32⟩
  | .hbm, ⟨4, _⟩ => ⟨S4096x1024, .f32⟩
  | .hbm, ⟨5, _⟩ => ⟨S4096x4x256, .f32⟩
  | .hbm, ⟨6, _⟩ => ⟨S4x256x256, .f32⟩
  | .hbm, ⟨7, _⟩ => ⟨S4x256x4096, .f32⟩
  | .hbm, ⟨8, _⟩ => ⟨S4096x4x256, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x4x256, .f32⟩
  | .hbm, ⟨19, _⟩ => ⟨S4x256x4096, .f32⟩
  | .hbm, ⟨20, _⟩ => ⟨S4x4096x256, .f32⟩
  | .hbm, ⟨21, _⟩ => ⟨S4096x4x256, .f32⟩
  | .hbm, ⟨22, _⟩ => ⟨S4x256x256, .f32⟩
  | .hbm, ⟨23, _⟩ => ⟨S4x256x256, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Xattn.lean ====
abbrev S4096x1024 : Shape := ⟨2, ![4096, 1024]⟩
abbrev S256x2048 : Shape := ⟨2, ![256, 2048]⟩
abbrev S256x8x256 : Shape := ⟨3, ![256, 8, 256]⟩
abbrev S8x256x256 : Shape := ⟨3, ![8, 256, 256]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S256x8x256, .bf16⟩
  | .hbm, ⟨4, _⟩ => ⟨S8x256x256, .bf16⟩
  | .hbm, ⟨5, _⟩ => ⟨S4096x1024, .bf16⟩
  | .hbm, ⟨6, _⟩ => ⟨S8x256x256, .f32⟩
  | .local _ .vmem, ⟨0, _⟩ => ⟨S512x1024, .bf16⟩
  | .local _ .vmem, ⟨1, _⟩ => ⟨S512x1024, .bf16⟩
  | .local _ .vmem, ⟨2, _⟩ => ⟨S8x256x256, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S8x256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== XattnRefIdeal.lean ====
abbrev S4096x1024 : Shape := ⟨2, ![4096, 1024]⟩
abbrev S256x2048 : Shape := ⟨2, ![256, 2048]⟩
abbrev S4096x4x256 : Shape := ⟨3, ![4096, 4, 256]⟩
abbrev S_ : Shape := ⟨0, ![]⟩
abbrev S256x1024 : Shape := ⟨2, ![256, 1024]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S256x8x256 : Shape := ⟨3, ![256, 8, 256]⟩
abbrev S8x256x256 : Shape := ⟨3, ![8, 256, 256]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .f32⟩
  | .hbm, ⟨4, _⟩ => ⟨S256x2048, .f32⟩
  | .hbm, ⟨5, _⟩ => ⟨S4096x1024, .f32⟩
  | .hbm, ⟨6, _⟩ => ⟨S4096x4x256, .f32⟩
  | .hbm, ⟨7, _⟩ => ⟨S_, .f32⟩
  | .hbm, ⟨8, _⟩ => ⟨S4096x4x256, .f32⟩
  | .hbm, ⟨9, _⟩ => ⟨S4096x4x256, .f32⟩
  | .hbm, ⟨10, _⟩ => ⟨S256x1024, .f32⟩
  | .hbm, ⟨11, _⟩ => ⟨S256x4x256, .f32⟩
  | .hbm, ⟨12, _⟩ => ⟨S256x1024, .f32⟩
  | .hbm, ⟨13, _⟩ => ⟨S256x4x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x256x4096, .f32⟩
  | .hbm, ⟨54, _⟩ => ⟨S4096x4x256, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S4x256x256, .f32⟩
  | .hbm, ⟨76, _⟩ => ⟨S256x4x256, .f32⟩
  | .hbm, ⟨77, _⟩ => ⟨S4x4096x256, .f32⟩
  | .hbm, ⟨78, _⟩ => ⟨S4096x4x256, .f32⟩
  | .hbm, ⟨79, _⟩ => ⟨S256x1024, .f32⟩
  | .hbm, ⟨80, _⟩ => ⟨S_, .f32⟩
  | .hbm, ⟨81, _⟩ => ⟨S256x2048, .f32⟩
  | .hbm, ⟨82, _⟩ => ⟨S256x1024, .f32⟩
  | .hbm, ⟨83, _⟩ => ⟨S_, .f32⟩
  | .hbm, ⟨84, _⟩ => ⟨S256x2048, .f32⟩
  | .hbm, ⟨85, _⟩ => ⟨S256x2048, .f32⟩
  | .hbm, ⟨86, _⟩ => ⟨S_, .f32⟩
  | .hbm, ⟨87, _⟩ => ⟨S4096x4x256, .f32⟩
  | .hbm, ⟨88, _⟩ => ⟨S4096x4x256, .f32⟩
  | .hbm, ⟨89, _⟩ => ⟨S4096x1024, .f32⟩
  | .hbm, ⟨90, _⟩ => ⟨S4096x1024, .bf16⟩
  | .hbm, ⟨91, _⟩ => ⟨S256x8x256, .f32⟩
  | .hbm, ⟨92, _⟩ => ⟨S8x256x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== Ffn.lean ====
abbrev S4096x5632 : Shape := ⟨2, ![4096, 5632]⟩
abbrev S3x5632 : Shape := ⟨2, ![3, 5632]⟩
abbrev S5632 : Shape := ⟨1, ![5632]⟩
abbrev S2816x1024 : Shape := ⟨2, ![2816, 1024]⟩
abbrev S4096x1024 : Shape := ⟨2, ![4096, 1024]⟩
abbrev S4096x2x4x704 : Shape := ⟨4, ![4096, 2, 4, 704]⟩
abbrev S2x4x4096x704 : Shape := ⟨4, ![2, 4, 4096, 704]⟩
abbrev S3x2x4x704 : Shape := ⟨4, ![3, 2, 4, 704]⟩
abbrev S2x4x3x704 : Shape := ⟨4, ![2, 4, 3, 704]⟩
abbrev S2x4x1x704 : Shape := ⟨4, ![2, 4, 1, 704]⟩
abbrev S2x4x8x704 : Shape := ⟨4, ![2, 4, 8, 704]⟩
abbrev S2x1x512x704 : Shape := ⟨4, ![2, 1, 512, 704]⟩
abbrev S2x1x8x704 : Shape := ⟨4, ![2, 1, 8, 704]⟩
abbrev S512x1024 : Shape := ⟨2, ![512, 1024]⟩
abbrev S8x1024 : Shape := ⟨2, ![8, 1024]⟩
abbrev S704x1024 : Shape := ⟨2, ![704, 1024]⟩
abbrev S2x1x3x704 : Shape := ⟨4, ![2, 1, 3, 704]⟩
abbrev S2x1x1x704 : Shape := ⟨4, ![2, 1, 1, 704]⟩
abbrev S2x8x704 : Shape := ⟨3, ![2, 8, 704]⟩
abbrev S528x1024 : Shape := ⟨2, ![528, 1024]⟩
abbrev S528x704 : Shape := ⟨2, ![528, 704]⟩
abbrev S1x1x8x704 : Shape := ⟨4, ![1, 1, 8, 704]⟩
abbrev S8x704 : Shape := ⟨2, ![8, 704]⟩
abbrev S1x1x512x704 : Shape := ⟨4, ![1, 1, 512, 704]⟩
abbrev S512x704 : Shape := ⟨2, ![512, 704]⟩
abbrev S1x1x3x704 : Shape := ⟨4, ![1, 1, 3, 704]⟩
abbrev S3x704 : Shape := ⟨2, ![3, 704]⟩
abbrev S1x704 : Shape := ⟨2, ![1, 704]⟩
abbrev S1x1x1x704 : Shape := ⟨4, ![1, 1, 1, 704]⟩
abbrev S704 : Shape := ⟨1, ![704]⟩

abbrev nBuf : Space → Nat
  | .hbm => 12
  | .vmem => 22
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S2816x1024, .bf16⟩
  | .hbm, ⟨4, _⟩ => ⟨S4096x1024, .f32⟩
  | .hbm, ⟨5, _⟩ => ⟨S4096x2x4x704, .f32⟩
  | .hbm, ⟨6, _⟩ => ⟨S2x4x4096x704, .f32⟩
  | .hbm, ⟨7, _⟩ => ⟨S3x2x4x704, .f32⟩
  | .hbm, ⟨8, _⟩ => ⟨S2x4x3x704, .f32⟩
  | .hbm, ⟨9, _⟩ => ⟨S2x4x1x704, .f32⟩
  | .hbm, ⟨10, _⟩ => ⟨S2x4x4096x704, .bf16⟩
  | .hbm, ⟨11, _⟩ => ⟨S2x4x8x704, .f32⟩
  | .local _ .vmem, ⟨0, _⟩ => ⟨S2x1x512x704, .f32⟩
  | .local _ .vmem, ⟨1, _⟩ => ⟨S2x1x512x704, .f32⟩
  | .local _ .vmem, ⟨2, _⟩ => ⟨S2x1x8x704, .f32⟩
  | .local _ .vmem, ⟨3, _⟩ => ⟨S2x1x8x704, .f32⟩
  | .local _ .vmem, ⟨4, _⟩ => ⟨S2x1x8x704, .f32⟩
  | .local _ .vmem, ⟨5, _⟩ => ⟨S2x1x8x704, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S704x1024, .bf16⟩
  | .local _ .vmem, ⟨13, _⟩ => ⟨S704x1024, .bf16⟩
  | .local _ .vmem, ⟨14, _⟩ => ⟨S2x1x3x704, .f32⟩
  | .local _ .vmem, ⟨15, _⟩ => ⟨S2x1x3x704, .f32⟩
  | .local _ .vmem, ⟨16, _⟩ => ⟨S2x1x1x704, .f32⟩
  | .local _ .vmem, ⟨17, _⟩ => ⟨S2x1x1x704, .f32⟩
  | .local _ .vmem, ⟨18, _⟩ => ⟨S2x1x512x704, .bf16⟩
  | .local _ .vmem, ⟨19, _⟩ => ⟨S2x1x512x704, .bf16⟩
  | .local _ .vmem, ⟨20, _⟩ => ⟨S2x1x8x704, .f32⟩
  | .local _ .vmem, ⟨21, _⟩ => ⟨S2x1x8x704, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, arg0.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  let c0_i32_1 : BitVec 32 := 0#32
  ![c0_i32.toNat, arg0.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x1x512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x8x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x8x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x3x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x1x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x8x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnRefIdeal.lean ====
abbrev S4096x5632 : Shape := ⟨2, ![4096, 5632]⟩
abbrev S3x5632 : Shape := ⟨2, ![3, 5632]⟩
abbrev S5632 : Shape := ⟨1, ![5632]⟩
abbrev S2816x1024 : Shape := ⟨2, ![2816, 1024]⟩
abbrev S4096x1024 : Shape := ⟨2, ![4096, 1024]⟩
abbrev S_ : Shape := ⟨0, ![]⟩
abbrev S1x5632 : Shape := ⟨2, ![1, 5632]⟩
abbrev S4098x5632 : Shape := ⟨2, ![4098, 5632]⟩
abbrev S4096x2816 : Shape := ⟨2, ![4096, 2816]⟩
abbrev S4x5632 : Shape := ⟨2, ![4, 5632]⟩
abbrev S8x5632 : Shape := ⟨2, ![8, 5632]⟩
abbrev S4096x2x4x704 : Shape := ⟨4, ![4096, 2, 4, 704]⟩
abbrev S2x4x4096x704 : Shape := ⟨4, ![2, 4, 4096, 704]⟩
abbrev S8x2x4x704 : Shape := ⟨4, ![8, 2, 4, 704]⟩
abbrev S2x4x8x704 : Shape := ⟨4, ![2, 4, 8, 704]⟩

abbrev nBuf : Space → Nat
  | .hbm => 125
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S2816x1024, .bf16⟩
  | .hbm, ⟨4, _⟩ => ⟨S4096x1024, .f32⟩
  | .hbm, ⟨5, _⟩ => ⟨S2816x1024, .f32⟩
  | .hbm, ⟨6, _⟩ => ⟨S_, .f32⟩
  | .hbm, ⟨7, _⟩ => ⟨S1x5632, .f32⟩
  | .hbm, ⟨8, _⟩ => ⟨S4098x5632, .f32⟩
  | .hbm, ⟨9, _⟩ => ⟨S_, .f32⟩
  | .hbm, ⟨10, _⟩ => ⟨S1x5632, .f32⟩
  | .hbm, ⟨11, _⟩ => ⟨S_, .f32⟩
  | .hbm, ⟨12, _⟩ => ⟨S1x5632, .f32⟩
  | .hbm, ⟨13, _⟩ => ⟨S4096x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S1x5632, .f32⟩
  | .hbm, ⟨34, _⟩ => ⟨S4096x5632, .f32⟩
  | .hbm, ⟨35, _⟩ => ⟨S4096x5632, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x1024, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S_, .f32⟩
  | .hbm, ⟨61, _⟩ => ⟨S4096x5632, .f32⟩
  | .hbm, ⟨62, _⟩ => ⟨S_, .f32⟩
  | .hbm, ⟨63, _⟩ => ⟨S4096x5632, .f32⟩
  | .hbm, ⟨64, _⟩ => ⟨S4096x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S_, .f32⟩
  | .hbm, ⟨69, _⟩ => ⟨S5632, .f32⟩
  | .hbm, ⟨70, _⟩ => ⟨S4096x5632, .f32⟩
  | .hbm, ⟨71, _⟩ => ⟨S_, .f32⟩
  | .hbm, ⟨72, _⟩ => ⟨S5632, .f32⟩
  | .hbm, ⟨73, _⟩ => ⟨S1x5632, .f32⟩
  | .hbm, ⟨74, _⟩ => ⟨S4096x5632, .f32⟩
  | .hbm, ⟨75, _⟩ => ⟨S4096x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S_, .f32⟩
  | .hbm, ⟨80, _⟩ => ⟨S3x5632, .f32⟩
  | .hbm, ⟨81, _⟩ => ⟨S_, .f32⟩
  | .hbm, ⟨82, _⟩ => ⟨S4098x5632, .f32⟩
  | .hbm, ⟨83, _⟩ => ⟨S4096x5632, .f32⟩
  | .hbm, ⟨84, _⟩ => ⟨S_, .f32⟩
  | .hbm, ⟨85, _⟩ => ⟨S5632, .f32⟩
  | .hbm, ⟨86, _⟩ => ⟨S1x5632, .f32⟩
  | .hbm, ⟨87, _⟩ => ⟨S4096x5632, .f32⟩
  | .hbm, ⟨88, _⟩ => ⟨S4096x5632, .f32⟩
  | .hbm, ⟨89, _⟩ => ⟨S_, .f32⟩
  | .hbm, ⟨90, _⟩ => ⟨S5632, .f32⟩
  | .hbm, ⟨91, _⟩ => ⟨S1x5632, .f32⟩
  | .hbm, ⟨92, _⟩ => ⟨S_, .f32⟩
  | .hbm, ⟨93, _⟩ => ⟨S3x5632, .f32⟩
  | .hbm, ⟨94, _⟩ => ⟨S3x5632, .f32⟩
  | .hbm, ⟨95, _⟩ => ⟨S_, .f32⟩
  | .hbm, ⟨96, _⟩ => ⟨S4098x5632, .f32⟩
  | .hbm, ⟨97, _⟩ => ⟨S4098x5632, .f32⟩
  | .hbm, ⟨98, _⟩ => ⟨S4096x5632, .f32⟩
  | .hbm, ⟨99, _⟩ => ⟨S_, .f32⟩
  | .hbm, ⟨100, _⟩ => ⟨S5632, .f32⟩
  | .hbm, ⟨101, _⟩ => ⟨S1x5632, .f32⟩
  | .hbm, ⟨102, _⟩ => ⟨S4096x5632, .f32⟩
  | .hbm, ⟨103, _⟩ => ⟨S4096x5632, .f32⟩
  | .hbm, ⟨104, _⟩ => ⟨S_, .f32⟩
  | .hbm, ⟨105, _⟩ => ⟨S5632, .f32⟩
  | .hbm, ⟨106, _⟩ => ⟨S1x5632, .f32⟩
  | .hbm, ⟨107, _⟩ => ⟨S_, .f32⟩
  | .hbm, ⟨108, _⟩ => ⟨S3x5632, .f32⟩
  | .hbm, ⟨109, _⟩ => ⟨S3x5632, .f32⟩
  | .hbm, ⟨110, _⟩ => ⟨S_, .f32⟩
  | .hbm, ⟨111, _⟩ => ⟨S4098x5632, .f32⟩
  | .hbm, ⟨112, _⟩ => ⟨S4098x5632, .f32⟩
  | .hbm, ⟨113, _⟩ => ⟨S1x5632, .f32⟩
  | .hbm, ⟨114, _⟩ => ⟨S4096x5632, .f32⟩
  | .hbm, ⟨115, _⟩ => ⟨S1x5632, .f32⟩
  | .hbm, ⟨116, _⟩ => ⟨S1x5632, .f32⟩
  | .hbm, ⟨117, _⟩ => ⟨S_, .f32⟩
  | .hbm, ⟨118, _⟩ => ⟨S4x5632, .f32⟩
  | .hbm, ⟨119, _⟩ => ⟨S8x5632, .f32⟩
  | .hbm, ⟨120, _⟩ => ⟨S4096x5632, .bf16⟩
  | .hbm, ⟨121, _⟩ => ⟨S4096x2x4x704, .bf16⟩
  | .hbm, ⟨122, _⟩ => ⟨S2x4x4096x704, .bf16⟩
  | .hbm, ⟨123, _⟩ => ⟨S8x2x4x704, .f32⟩
  | .hbm, ⟨124, _⟩ => ⟨S2x4x8x704, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v30_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v30_1 : Ref sig .tc := ⟨.hbm, 49, rfl⟩
abbrev main_v30_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v36 : Ref sig .tc := ⟨.hbm, 59, rfl⟩
abbrev main_cst_2 : Ref sig .tc := ⟨.hbm, 60, rfl⟩
abbrev main_v37 : Ref sig .tc := ⟨.hbm, 61, rfl⟩
abbrev main_cst_3 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_v59 : Ref sig .tc := ⟨.hbm, 93, rfl⟩
abbrev main_v60 : Ref sig .tc := ⟨.hbm, 94, rfl⟩
abbrev main_cst_13 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_14 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_cst_16 : Ref sig .tc := ⟨.hbm, 107, rfl⟩
abbrev main_v70 : Ref sig .tc := ⟨.hbm, 108, rfl⟩
abbrev main_v71 : Ref sig .tc := ⟨.hbm, 109, rfl⟩
abbrev main_cst_17 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_18 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩

abbrev nD : Nat := 1
abbrev τ : Topo := Topo.v7x

variable {F : FTy → Type} [FloatOps F]
-- ==== PoolWin.lean ====
abbrev S4096x1024 : Shape := ⟨2, ![4096, 1024]⟩
abbrev S4096x128 : Shape := ⟨2, ![4096, 128]⟩
abbrev S4128x128 : Shape := ⟨2, ![4128, 128]⟩
abbrev S16x128 : Shape := ⟨2, ![16, 128]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_7 : BitVec 32 := 0#32
  let v26 : BitVec 1 := Scalar.cmpi .eq v16 c0_i32_7
  let v27 : BitVec 32 := Scalar.extui v26
  let c0_i32_8 : BitVec 32 := 0#32
  let v28 : BitVec 1 := Scalar.cmpi .ne v27 c0_i32_8
  v28

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_9 : BitVec 32 := 1#32
  let v29 : BitVec 1 := Scalar.cmpi .eq v16 c1_i32_9
  let v30 : BitVec 32 := Scalar.extui v29
  let c0_i32_10 : BitVec 32 := 0#32
  let v31 : BitVec 1 := Scalar.cmpi .ne v30 c0_i32_10
  v31

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_11 : BitVec 32 := 2#32
  let v32 : BitVec 1 := Scalar.cmpi .eq v16 c2_i32_11
  let v33 : BitVec 32 := Scalar.extui v32
  let c0_i32_12 : BitVec 32 := 0#32
  let v34 : BitVec 1 := Scalar.cmpi .ne v33 c0_i32_12
  v34

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v35 : BitVec 1 := Scalar.cmpi .eq v16 c3_i32
  let v36 : BitVec 32 := Scalar.extui v35
  let c0_i32_13 : BitVec 32 := 0#32
  let v37 : BitVec 1 := Scalar.cmpi .ne v36 c0_i32_13
  v37

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PoolWinRefIdeal.lean ====
abbrev S4096x1024 : Shape := ⟨2, ![4096, 1024]⟩
abbrev S_ : Shape := ⟨0, ![]⟩
abbrev S4096x4x256 : Shape := ⟨3, ![4096, 4, 256]⟩
abbrev S1x4x256 : Shape := ⟨3, ![1, 4, 256]⟩
abbrev S4097x4x256 : Shape := ⟨3, ![4097, 4, 256]⟩
abbrev S4096 : Shape := ⟨1, ![4096]⟩
abbrev S4096x1 : Shape := ⟨2, ![4096, 1]⟩
abbrev S4096x4 : Shape := ⟨2, ![4096, 4]⟩
abbrev S4096x2 : Shape := ⟨2, ![4096, 2]⟩
abbrev S4096x256 : Shape := ⟨2, ![4096, 256]⟩
abbrev S4096x1x256 : Shape := ⟨3, ![4096, 1, 256]⟩
abbrev S4096x4x1 : Shape := ⟨3, ![4096, 4, 1]⟩

abbrev nBuf : Space → Nat
  | .hbm => 321
  | .vmem => 0
  | .smem => 0
  | _ => 0

abbrev hbmTy0_0 (i : Nat) : BufTy := match i % 128 with
  | 0 => ⟨S4096x1024, .f32⟩
  | 1 => ⟨S_, .f32⟩
  | 2 => ⟨S4096x1024, .f32⟩
  | 3 => ⟨S4096x4x256, .f32⟩
  | 4 => ⟨S_, .f32⟩
  | 5 => ⟨S1x4x256, .f32⟩
  | 6 => ⟨S_, .f32⟩
  | 7 => ⟨S_, .f32⟩
  | 8 => ⟨S4096x4x256, .f32⟩
  | 9 => ⟨S4097x4x256, .f32⟩
  | 10 => ⟨S_, .f32⟩
  | 11 => ⟨S1x4x256, .f32⟩
  | 12 => ⟨S4096, .i32⟩
  | 13 => ⟨S4096x1, .i32⟩
  | 14 => ⟨S_, .i32⟩
  | 15 => ⟨S4096x1, .i32⟩
  | 16 => ⟨S4096x1, .i32⟩
  | 17 => ⟨S_, .i32⟩
  | 18 => ⟨S_, .i32⟩
  | 19 => ⟨S_, .i32⟩
  | 20 => ⟨S4096x1, .i32⟩
  | 21 => ⟨S4096x1, .i32⟩
  | 22 => ⟨S_, .i32⟩
  | 23 => ⟨S4096x1, .i32⟩
  | 24 => ⟨S4096x1, .i32⟩
  | 25 => ⟨S_, .i32⟩
  | 26 => ⟨S4096x1, .i32⟩
  | 27 => ⟨S4096x1, .i32⟩
  | 28 => ⟨S_, .i32⟩
  | 29 => ⟨S_, .i32⟩
  | 30 => ⟨S_, .i32⟩
  | 31 => ⟨S4096x1, .i32⟩
  | 32 => ⟨S4096x1, .i32⟩
  | 33 => ⟨S_, .i32⟩
  | 34 => ⟨S4096x1, .i32⟩
  | 35 => ⟨S4096x1, .i32⟩
  | 36 => ⟨S_, .i32⟩
  | 37 => ⟨S4096x1, .i32⟩
  | 38 => ⟨S4096x1, .i32⟩
  | 39 => ⟨S_, .i32⟩
  | 40 => ⟨S_, .i32⟩
  | 41 => ⟨S_, .i32⟩
  | 42 => ⟨S4096x1, .i32⟩
  | 43 => ⟨S4096x1, .i32⟩
  | 44 => ⟨S_, .i32⟩
  | 45 => ⟨S4096x1, .i32⟩
  | 46 => ⟨S4096x1, .i32⟩
  | 47 => ⟨S_, .i32⟩
  | 48 => ⟨S4096x1, .i32⟩
  | 49 => ⟨S4096x1, .i32⟩
  | 50 => ⟨S_, .i32⟩
  | 51 => ⟨S_, .i32⟩
  | 52 => ⟨S_, .i32⟩
  | 53 => ⟨S4096x1, .i32⟩
  | 54 => ⟨S4096x1, .i32⟩
  | 55 => ⟨S_, .i32⟩
  | 56 => ⟨S4096x1, .i32⟩
  | 57 => ⟨S4096x1, .i32⟩
  | 58 => ⟨S4096x4, .i32⟩
  | 59 => ⟨S_, .i32⟩
  | 60 => ⟨S4096x1, .i32⟩
  | 61 => ⟨S4096x1, .i32⟩
  | 62 => ⟨S_, .i32⟩
  | 63 => ⟨S4096x1, .i32⟩
  | 64 => ⟨S4096x1, .i32⟩
  | 65 => ⟨S_, .i32⟩
  | 66 => ⟨S_, .i32⟩
  | 67 => ⟨S_, .i32⟩
  | 68 => ⟨S4096x1, .i32⟩
  | 69 => ⟨S4096x1, .i32⟩
  | 70 => ⟨S_, .i32⟩
  | 71 => ⟨S4096x1, .i32⟩
  | 72 => ⟨S4096x1, .i32⟩
  | 73 => ⟨S_, .i32⟩
  | 74 => ⟨S4096x1, .i32⟩
  | 75 => ⟨S4096x1, .i32⟩
  | 76 => ⟨S_, .i32⟩
  | 77 => ⟨S4096x1, .i32⟩
  | 78 => ⟨S4096x1, .i32⟩
  | 79 => ⟨S_, .i32⟩
  | 80 => ⟨S_, .i32⟩
  | 81 => ⟨S_, .i32⟩
  | 82 => ⟨S4096x1, .i32⟩
  | 83 => ⟨S4096x1, .i32⟩
  | 84 => ⟨S_, .i32⟩
  | 85 => ⟨S4096x1, .i32⟩
  | 86 => ⟨S4096x1, .i32⟩
  | 87 => ⟨S_, .i32⟩
  | 88 => ⟨S4096x1, .i32⟩
  | 89 => ⟨S4096x1, .i32⟩
  | 90 => ⟨S_, .i32⟩
  | 91 => ⟨S4096x1, .i32⟩
  | 92 => ⟨S4096x1, .i32⟩
  | 93 => ⟨S_, .i32⟩
  | 94 => ⟨S_, .i32⟩
  | 95 => ⟨S_, .i32⟩
  | 96 => ⟨S4096x1, .i32⟩
  | 97 => ⟨S4096x1, .i32⟩
  | 98 => ⟨S_, .i32⟩
  | 99 => ⟨S4096x1, .i32⟩
  | 100 => ⟨S4096x1, .i32⟩
  | 101 => ⟨S_, .i32⟩
  | 102 => ⟨S4096x1, .i32⟩
  | 103 => ⟨S4096x1, .i32⟩
  | 104 => ⟨S_, .i32⟩
  | 105 => ⟨S4096x1, .i32⟩
  | 106 => ⟨S4096x1, .i32⟩
  | 107 => ⟨S_, .i32⟩
  | 108 => ⟨S_, .i32⟩
  | 109 => ⟨S_, .i32⟩
  | 110 => ⟨S4096x1, .i32⟩
  | 111 => ⟨S4096x1, .i32⟩
  | 112 => ⟨S_, .i32⟩
  | 113 => ⟨S4096x1, .i32⟩
  | 114 => ⟨S4096x1, .i32⟩
  | 115 => ⟨S4096x4, .i32⟩
  | 116 => ⟨S4096x1, .i32⟩
  | 117 => ⟨S4096, .i32⟩
  | 118 => ⟨S_, .i32⟩
  | 119 => ⟨S4096, .i32⟩
  | 120 => ⟨S4096, .i1⟩
  | 121 => ⟨S_, .i32⟩
  | 122 => ⟨S4096, .i32⟩
  | 123 => ⟨S4096, .i32⟩
  | 124 => ⟨S4096, .i32⟩
  | 125 => ⟨S_, .i32⟩
  | 126 => ⟨S4096, .i32⟩
  | 127 => ⟨S4096, .i32⟩
  | _ => ⟨S4096x1024, .f32⟩

abbrev hbmTy0_1 (i : Nat) : BufTy := match i % 128 with
  | 0 => ⟨S4096x1, .i32⟩
  | 1 => ⟨S4096x1, .i32⟩
  | 2 => ⟨S4096x2, .i32⟩
  | 3 => ⟨S4096x256, .f32⟩
  | 4 => ⟨S4096x1, .i32⟩
  | 5 => ⟨S4096, .i32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i32⟩
  | 16 => ⟨S4096x1, .i32⟩
  | 17 => ⟨S4096x1, .i32⟩
  | 18 => ⟨S4096x2, .i32⟩
  | 19 => ⟨S4096x256, .f32⟩
  | 20 => ⟨S4096x1, .i32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S_, .i32⟩
  | 30 => ⟨S4096, .i32⟩
  | 31 => ⟨S4096, .i32⟩
  | 32 => ⟨S4096x1, .i32⟩
  | 33 => ⟨S4096x1, .i32⟩
  | 34 => ⟨S4096x2, .i32⟩
  | 35 => ⟨S4096x256, .f32⟩
  | 36 => ⟨S4096x1, .i32⟩
  | 37 => ⟨S4096, .i32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S_, .i32⟩
  | 46 => ⟨S4096, .i32⟩
  | 47 => ⟨S4096, .i32⟩
  | 48 => ⟨S4096x1, .i32⟩
  | 49 => ⟨S4096x1, .i32⟩
  | 50 => ⟨S4096x2, .i32⟩
  | 51 => ⟨S4096x256, .f32⟩
  | 52 => ⟨S4096x1x256, .f32⟩
  | 53 => ⟨S4096x1x256, .f32⟩
  | 54 => ⟨S4096x1x256, .f32⟩
  | 55 => ⟨S4096x1x256, .f32⟩
  | 56 => ⟨S4096x4x256, .f32⟩
  | 57 => ⟨S4096x1, .i32⟩
  | 58 => ⟨S4096, .i32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S_, .i32⟩
  | 67 => ⟨S4096, .i32⟩
  | 68 => ⟨S4096, .i32⟩
  | 69 => ⟨S4096x1, .i32⟩
  | 70 => ⟨S4096x1, .i32⟩
  | 71 => ⟨S4096x2, .i32⟩
  | 72 => ⟨S4096x256, .f32⟩
  | 73 => ⟨S4096x1, .i32⟩
  | 74 => ⟨S4096, .i32⟩
  | 75 => ⟨S_, .i32⟩
  | 76 => ⟨S4096, .i32⟩
  | 77 => ⟨S4096, .i1⟩
  | 78 => ⟨S_, .i32⟩
  | 79 => ⟨S4096, .i32⟩
  | 80 => ⟨S4096, .i32⟩
  | 81 => ⟨S4096, .i32⟩
  | 82 => ⟨S_, .i32⟩
  | 83 => ⟨S4096, .i32⟩
  | 84 => ⟨S4096, .i32⟩
  | 85 => ⟨S4096x1, .i32⟩
  | 86 => ⟨S4096x1, .i32⟩
  | 87 => ⟨S4096x2, .i32⟩
  | 88 => ⟨S4096x256, .f32⟩
  | 89 => ⟨S4096x1, .i32⟩
  | 90 => ⟨S4096, .i32⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S_, .i32⟩
  | 99 => ⟨S4096, .i32⟩
  | 100 => ⟨S4096, .i32⟩
  | 101 => ⟨S4096x1, .i32⟩
  | 102 => ⟨S4096x1, .i32⟩
  | 103 => ⟨S4096x2, .i32⟩
  | 104 => ⟨S4096x256, .f32⟩
  | 105 => ⟨S4096x1, .i32⟩
  | 106 => ⟨S4096, .i32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S_, .i32⟩
  | 115 => ⟨S4096, .i32⟩
  | 116 => ⟨S4096, .i32⟩
  | 117 => ⟨S4096x1, .i32⟩
  | 118 => ⟨S4096x1, .i32⟩
  | 119 => ⟨S4096x2, .i32⟩
  | 120 => ⟨S4096x256, .f32⟩
  | 121 => ⟨S4096x1x256, .f32⟩
  | 122 => ⟨S4096x1x256, .f32⟩
  | 123 => ⟨S4096x1x256, .f32⟩
  | 124 => ⟨S4096x1x256, .f32⟩
  | 125 => ⟨S4096x4x256, .f32⟩
  | 126 => ⟨S4096x4, .i32⟩
  | 127 => ⟨S4096x4, .f32⟩
  | _ => ⟨S4096x1024, .f32⟩

abbrev hbmTy0_2 (i : Nat) : BufTy := match i % 128 with
  | 0 => ⟨S4096x4x1, .f32⟩
  | 1 => ⟨S4096x4x256, .f32⟩
  | 2 => ⟨S4096x4x256, .f32⟩
  | 3 => ⟨S4096x4x256, .f32⟩
  | 4 => ⟨S4096x4x256, .f32⟩
  | 5 => ⟨S4096x1024, .f32⟩
  | 6 => ⟨S4096x4x256, .f32⟩
  | 7 => ⟨S4096x4x256, .f32⟩
  | 8 => ⟨S4096x4x256, .f32⟩
  | 9 => ⟨S4096x4x256, .f32⟩
  | 10 => ⟨S4096x4x256, .f32⟩
  | 11 => ⟨S4096x1x256, .f32⟩
  | 12 => ⟨S4096x256, .f32⟩
  | 13 => ⟨S4096x1x256, .f32⟩
  | 14 => ⟨S4096x256, .f32⟩
  | 15 => ⟨S4096x1x256, .f32⟩
  | 16 => ⟨S4096x256, .f32⟩
  | 17 => ⟨S4096x1x256, .f32⟩
  | 18 => ⟨S4096x256, .f32⟩
  | 19 => ⟨S_, .f32⟩
  | 20 => ⟨S4097x4x256, .f32⟩
  | 21 => ⟨S4097x4x256, .f32⟩
  | 22 => ⟨S_, .f32⟩
  | 23 => ⟨S4097x4x256, .f32⟩
  | 24 => ⟨S4097x4x256, .f32⟩
  | 25 => ⟨S4097x4x256, .f32⟩
  | 26 => ⟨S_, .f32⟩
  | 27 => ⟨S4097x4x256, .f32⟩
  | 28 => ⟨S4097x4x256, .f32⟩
  | 29 => ⟨S4097x4x256, .f32⟩
  | 30 => ⟨S_, .f32⟩
  | 31 => ⟨S4097x4x256, .f32⟩
  | 32 => ⟨S4097x4x256, .f32⟩
  | 33 => ⟨S4097x4x256, .f32⟩
  | 34 => ⟨S4096x1x256, .f32⟩
  | 35 => ⟨S4096x256, .f32⟩
  | 36 => ⟨S4096x1x256, .f32⟩
  | 37 => ⟨S4096x256, .f32⟩
  | 38 => ⟨S4096x1x256, .f32⟩
  | 39 => ⟨S4096x256, .f32⟩
  | 40 => ⟨S4096x1x256, .f32⟩
  | 41 => ⟨S4096x256, .f32⟩
  | 42 => ⟨S_, .f32⟩
  | 43 => ⟨S4097x4x256, .f32⟩
  | 44 => ⟨S4097x4x256, .f32⟩
  | 45 => ⟨S4097x4x256, .f32⟩
  | 46 => ⟨S_, .f32⟩
  | 47 => ⟨S4097x4x256, .f32⟩
  | 48 => ⟨S4097x4x256, .f32⟩
  | 49 => ⟨S4097x4x256, .f32⟩
  | 50 => ⟨S_, .f32⟩
  | 51 => ⟨S4097x4x256, .f32⟩
  | 52 => ⟨S4097x4x256, .f32⟩
  | 53 => ⟨S4097x4x256, .f32⟩
  | 54 => ⟨S_, .f32⟩
  | 55 => ⟨S4097x4x256, .f32⟩
  | 56 => ⟨S4097x4x256, .f32⟩
  | 57 => ⟨S4097x4x256, .f32⟩
  | 58 => ⟨S1x4x256, .f32⟩
  | 59 => ⟨S4096x4x256, .f32⟩
  | 60 => ⟨S_, .f32⟩
  | 61 => ⟨S_, .f32⟩
  | 62 => ⟨S4096x4x256, .f32⟩
  | 63 => ⟨S4096x4x256, .f32⟩
  | 64 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_c_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_c_6 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v13 : Ref sig .tc := ⟨.hbm, 35, rfl⟩
abbrev main_c_7 : Ref sig .tc := ⟨.hbm, 36, rfl⟩
abbrev main_v14 : Ref sig .tc := ⟨.hbm, 37, rfl⟩
abbrev main_v15 : Ref sig .tc := ⟨.hbm, 38, rfl⟩
abbrev main_c_8 : Ref sig .tc := ⟨.hbm, 39, rfl⟩
abbrev main_c_9 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v16 : Ref sig .tc := ⟨.hbm, 46, rfl⟩
abbrev main_c_10 : Ref sig .tc := ⟨.hbm, 47, rfl⟩
abbrev main_v17 : Ref sig .tc := ⟨.hbm, 48, rfl⟩
abbrev main_v18 : Ref sig .tc := ⟨.hbm, 49, rfl⟩
abbrev main_c_11 : Ref sig .tc := ⟨.hbm, 50, rfl⟩
abbrev main_c_12 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_v19 : Ref sig .tc := ⟨.hbm, 57, rfl⟩
abbrev main_v20 : Ref sig .tc := ⟨.hbm, 58, rfl⟩
abbrev main_c_13 : Ref sig .tc := ⟨.hbm, 59, rfl⟩
abbrev main_v21 : Ref sig .tc := ⟨.hbm, 60, rfl⟩
abbrev main_v22 : Ref sig .tc := ⟨.hbm, 61, rfl⟩
abbrev main_c_14 : Ref sig .tc := ⟨.hbm, 62, rfl⟩
abbrev main_v23 : Ref sig .tc := ⟨.hbm, 63, rfl⟩
abbrev main_v24 : Ref sig .tc := ⟨.hbm, 64, rfl⟩
abbrev main_c_15 : Ref sig .tc := ⟨.hbm, 65, rfl⟩
abbrev main_c_16 : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_v25 : Ref sig .tc := ⟨.hbm, 72, rfl⟩
abbrev main_c_17 : Ref sig .tc := ⟨.hbm, 73, rfl⟩
abbrev main_v26 : Ref sig .tc := ⟨.hbm, 74, rfl⟩
abbrev main_v27 : Ref sig .tc := ⟨.hbm, 75, rfl⟩
abbrev main_c_18 : Ref sig .tc := ⟨.hbm, 76, rfl⟩
abbrev main_v28 : Ref sig .tc := ⟨.hbm, 77, rfl⟩
abbrev main_v29 : Ref sig .tc := ⟨.hbm, 78, rfl⟩
abbrev main_c_19 : Ref sig .tc := ⟨.hbm, 79, rfl⟩
abbrev main_c_20 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_v30 : Ref sig .tc := ⟨.hbm, 86, rfl⟩
abbrev main_c_21 : Ref sig .tc := ⟨.hbm, 87, rfl⟩
abbrev main_v31 : Ref sig .tc := ⟨.hbm, 88, rfl⟩
abbrev main_v32 : Ref sig .tc := ⟨.hbm, 89, rfl⟩
abbrev main_c_22 : Ref sig .tc := ⟨.hbm, 90, rfl⟩
abbrev main_v33 : Ref sig .tc := ⟨.hbm, 91, rfl⟩
abbrev main_v34 : Ref sig .tc := ⟨.hbm, 92, rfl⟩
abbrev main_c_23 : Ref sig .tc := ⟨.hbm, 93, rfl⟩
abbrev main_c_24 : Ref sig .tc := ⟨.hbm, 94, rfl⟩
abbrev main_call7_v0 : Ref sig .tc := ⟨.hbm, 95, rfl⟩
abbrev main_call7_v1 : Ref sig .tc := ⟨.hbm, 96, rfl⟩
abbrev main_call7_v2 : Ref sig .tc := ⟨.hbm, 97, rfl⟩
abbrev main_call7_v3 : Ref sig .tc := ⟨.hbm, 98, rfl⟩
abbrev main_call7_v4 : Ref sig .tc := ⟨.hbm, 99, rfl⟩
abbrev main_v35 : Ref sig .tc := ⟨.hbm, 100, rfl⟩
abbrev main_c_25 : Ref sig .tc := ⟨.hbm, 101, rfl⟩
abbrev main_v36 : Ref sig .tc := ⟨.hbm, 102, rfl⟩
abbrev main_v37 : Ref sig .tc := ⟨.hbm, 103, rfl⟩
abbrev main_c_26 : Ref sig .tc := ⟨.hbm, 104, rfl⟩
abbrev main_v38 : Ref sig .tc := ⟨.hbm, 105, rfl⟩
abbrev main_v39 : Ref sig .tc := ⟨.hbm, 106, rfl⟩
abbrev main_c_27 : Ref sig .tc := ⟨.hbm, 107, rfl⟩
abbrev main_c_28 : Ref sig .tc := ⟨.hbm, 108, rfl⟩
abbrev main_call8_v0 : Ref sig .tc := ⟨.hbm, 109, rfl⟩
abbrev main_call8_v1 : Ref sig .tc := ⟨.hbm, 110, rfl⟩
abbrev main_call8_v2 : Ref sig .tc := ⟨.hbm, 111, rfl⟩
abbrev main_call8_v3 : Ref sig .tc := ⟨.hbm, 112, rfl⟩
abbrev main_call8_v4 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_c_29 : Ref sig .tc := ⟨.hbm, 118, rfl⟩
abbrev main_v44 : Ref sig .tc := ⟨.hbm, 119, rfl⟩
abbrev main_v45 : Ref sig .tc := ⟨.hbm, 120, rfl⟩
abbrev main_c_30 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_c_31 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_c_32 : Ref sig .tc := ⟨.hbm, 134, rfl⟩
abbrev main_v57 : Ref sig .tc := ⟨.hbm, 135, rfl⟩
abbrev main_v58 : Ref sig .tc := ⟨.hbm, 136, rfl⟩
abbrev main_c_33 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_c_34 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_c_35 : Ref sig .tc := ⟨.hbm, 150, rfl⟩
abbrev main_v70 : Ref sig .tc := ⟨.hbm, 151, rfl⟩
abbrev main_v71 : Ref sig .tc := ⟨.hbm, 152, rfl⟩
abbrev main_c_36 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_c_37 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_c_38 : Ref sig .tc := ⟨.hbm, 166, rfl⟩
abbrev main_v83 : Ref sig .tc := ⟨.hbm, 167, rfl⟩
abbrev main_v84 : Ref sig .tc := ⟨.hbm, 168, rfl⟩
abbrev main_c_39 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_c_40 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_c_41 : Ref sig .tc := ⟨.hbm, 187, rfl⟩
abbrev main_v101 : Ref sig .tc := ⟨.hbm, 188, rfl⟩
abbrev main_v102 : Ref sig .tc := ⟨.hbm, 189, rfl⟩
abbrev main_c_42 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_c_43 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_c_44 : Ref sig .tc := ⟨.hbm, 203, rfl⟩
abbrev main_v114 : Ref sig .tc := ⟨.hbm, 204, rfl⟩
abbrev main_v115 : Ref sig .tc := ⟨.hbm, 205, rfl⟩
abbrev main_c_45 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_c_46 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_c_47 : Ref sig .tc := ⟨.hbm, 219, rfl⟩
abbrev main_v127 : Ref sig .tc := ⟨.hbm, 220, rfl⟩
abbrev main_v128 : Ref sig .tc := ⟨.hbm, 221, rfl⟩
abbrev main_c_48 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_c_49 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_c_50 : Ref sig .tc := ⟨.hbm, 235, rfl⟩
abbrev main_v140 : Ref sig .tc := ⟨.hbm, 236, rfl⟩
abbrev main_v141 : Ref sig .tc := ⟨.hbm, 237, rfl⟩
abbrev main_c_51 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_c_52 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_cst_53 : Ref sig .tc := ⟨.hbm, 275, rfl⟩
abbrev main_v177 : Ref sig .tc := ⟨.hbm, 276, rfl⟩
abbrev main_v178 : Ref sig .tc := ⟨.hbm, 277, rfl⟩
abbrev main_cst_54 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_cst_55 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_cst_56 : Ref sig .tc := ⟨.hbm, 286, rfl⟩
abbrev main_v185 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_cst_57 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_cst_58 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_cst_59 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_cst_60 : Ref sig .tc := ⟨.hbm, 310, rfl⟩
abbrev main_v205 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_call9_call0_cst : Ref sig .tc := ⟨.hbm, 316, rfl⟩
abbrev main_call9_call0_v0 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩

abbrev nD : Nat := 1
abbrev τ : Topo := Topo.v7x

variable {F : FTy → Type} [FloatOps F]
-- ==== NormFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ResNorm.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResNormRefIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== PoolOut.lean ====
abbrev S4096x1024 : Shape := ⟨2, ![4096, 1024]⟩
abbrev S4x256x256 : Shape := ⟨3, ![4, 256, 256]⟩
abbrev S1x1024 : Shape := ⟨2, ![1, 1024]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x256x256, .bf16⟩
  | .hbm, ⟨2, _⟩ => ⟨S1x1024, .f32⟩
  | .hbm, ⟨3, _⟩ => ⟨S4096x1024, .f32⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S4x256x256, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolOutRefIdeal.lean ====
abbrev S4096x1024 : Shape := ⟨2, ![4096, 1024]⟩
abbrev S4x256x256 : Shape := ⟨3, ![4, 256, 256]⟩
abbrev S1x1024 : Shape := ⟨2, ![1, 1024]⟩
abbrev S4096x4x256 : Shape := ⟨3, ![4096, 4, 256]⟩
abbrev S4x256x4096 : Shape := ⟨3, ![4, 256, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x256, .bf16⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x4x256, .f32⟩
  | .hbm, ⟨6, _⟩ => ⟨S4x256x256, .f32⟩
  | .hbm, ⟨7, _⟩ => ⟨S4x256x4096, .f32⟩
  | .hbm, ⟨8, _⟩ => ⟨S4096x4x256, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== XattnOut.lean ====
abbrev S4096x1024 : Shape := ⟨2, ![4096, 1024]⟩
abbrev S256x2048 : Shape := ⟨2, ![256, 2048]⟩
abbrev S256x8x256 : Shape := ⟨3, ![256, 8, 256]⟩
abbrev S8x256x256 : Shape := ⟨3, ![8, 256, 256]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S256x8x256, .bf16⟩
  | .hbm, ⟨3, _⟩ => ⟨S8x256x256, .bf16⟩
  | .hbm, ⟨4, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S8x256x256, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XattnOutRefIdeal.lean ====
abbrev S4096x1024 : Shape := ⟨2, ![4096, 1024]⟩
abbrev S256x2048 : Shape := ⟨2, ![256, 2048]⟩
abbrev S4096x4x256 : Shape := ⟨3, ![4096, 4, 256]⟩
abbrev S_ : Shape := ⟨0, ![]⟩
abbrev S256x1024 : Shape := ⟨2, ![256, 1024]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S256x2048, .f32⟩
  | .hbm, ⟨4, _⟩ => ⟨S4096x4x256, .f32⟩
  | .hbm, ⟨5, _⟩ => ⟨S_, .f32⟩
  | .hbm, ⟨6, _⟩ => ⟨S4096x4x256, .f32⟩
  | .hbm, ⟨7, _⟩ => ⟨S4096x4x256, .f32⟩
  | .hbm, ⟨8, _⟩ => ⟨S256x1024, .f32⟩
  | .hbm, ⟨9, _⟩ => ⟨S256x4x256, .f32⟩
  | .hbm, ⟨10, _⟩ => ⟨S256x1024, .f32⟩
  | .hbm, ⟨11, _⟩ => ⟨S256x4x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x256x4096, .f32⟩
  | .hbm, ⟨28, _⟩ => ⟨S4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== PoolMean.lean ====
abbrev S4096x1024 : Shape := ⟨2, ![4096, 1024]⟩
abbrev S4096x128 : Shape := ⟨2, ![4096, 128]⟩
abbrev S4128x128 : Shape := ⟨2, ![4128, 128]⟩
abbrev S16x128 : Shape := ⟨2, ![16, 128]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S4096x128, .f32⟩
  | .local _ .vmem, ⟨1, _⟩ => ⟨S4096x128, .f32⟩
  | .local _ .vmem, ⟨2, _⟩ => ⟨S4096x128, .bf16⟩
  | .local _ .vmem, ⟨3, _⟩ => ⟨S4096x128, .bf16⟩
  | .local _ .vmem, ⟨4, _⟩ => ⟨S4128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_7 : BitVec 32 := 0#32
  let v26 : BitVec 1 := Scalar.cmpi .eq v16 c0_i32_7
  let v27 : BitVec 32 := Scalar.extui v26
  let c0_i32_8 : BitVec 32 := 0#32
  let v28 : BitVec 1 := Scalar.cmpi .ne v27 c0_i32_8
  v28

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_9 : BitVec 32 := 1#32
  let v29 : BitVec 1 := Scalar.cmpi .eq v16 c1_i32_9
  let v30 : BitVec 32 := Scalar.extui v29
  let c0_i32_10 : BitVec 32 := 0#32
  let v31 : BitVec 1 := Scalar.cmpi .ne v30 c0_i32_10
  v31

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_11 : BitVec 32 := 2#32
  let v32 : BitVec 1 := Scalar.cmpi .eq v16 c2_i32_11
  let v33 : BitVec 32 := Scalar.extui v32
  let c0_i32_12 : BitVec 32 := 0#32
  let v34 : BitVec 1 := Scalar.cmpi .ne v33 c0_i32_12
  v34

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v35 : BitVec 1 := Scalar.cmpi .eq v16 c3_i32
  let v36 : BitVec 32 := Scalar.extui v35
  let c0_i32_13 : BitVec 32 := 0#32
  let v37 : BitVec 1 := Scalar.cmpi .ne v36 c0_i32_13
  v37

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PoolMeanRefIdeal.lean ====
abbrev S4096x1024 : Shape := ⟨2, ![4096, 1024]⟩
abbrev S4096x4x256 : Shape := ⟨3, ![4096, 4, 256]⟩
abbrev S_ : Shape := ⟨0, ![]⟩
abbrev S1x4x256 : Shape := ⟨3, ![1, 4, 256]⟩
abbrev S4097x4x256 : Shape := ⟨3, ![4097, 4, 256]⟩
abbrev S4096 : Shape := ⟨1, ![4096]⟩
abbrev S4096x1 : Shape := ⟨2, ![4096, 1]⟩
abbrev S4096x4 : Shape := ⟨2, ![4096, 4]⟩
abbrev S4096x2 : Shape := ⟨2, ![4096, 2]⟩
abbrev S4096x256 : Shape := ⟨2, ![4096, 256]⟩
abbrev S4096x1x256 : Shape := ⟨3, ![4096, 1, 256]⟩
abbrev S4096x4x1 : Shape := ⟨3, ![4096, 4, 1]⟩

abbrev nBuf : Space → Nat
  | .hbm => 259
  | .vmem => 0
  | .smem => 0
  | _ => 0

abbrev hbmTy0_0 (i : Nat) : BufTy := match i % 128 with
  | 0 => ⟨S4096x1024, .f32⟩
  | 1 => ⟨S4096x4x256, .f32⟩
  | 2 => ⟨S_, .f32⟩
  | 3 => ⟨S1x4x256, .f32⟩
  | 4 => ⟨S_, .f32⟩
  | 5 => ⟨S_, .f32⟩
  | 6 => ⟨S4096x4x256, .f32⟩
  | 7 => ⟨S4097x4x256, .f32⟩
  | 8 => ⟨S4096, .i32⟩
  | 9 => ⟨S4096x1, .i32⟩
  | 10 => ⟨S_, .i32⟩
  | 11 => ⟨S4096x1, .i32⟩
  | 12 => ⟨S4096x1, .i32⟩
  | 13 => ⟨S_, .i32⟩
  | 14 => ⟨S_, .i32⟩
  | 15 => ⟨S_, .i32⟩
  | 16 => ⟨S4096x1, .i32⟩
  | 17 => ⟨S4096x1, .i32⟩
  | 18 => ⟨S_, .i32⟩
  | 19 => ⟨S4096x1, .i32⟩
  | 20 => ⟨S4096x1, .i32⟩
  | 21 => ⟨S_, .i32⟩
  | 22 => ⟨S4096x1, .i32⟩
  | 23 => ⟨S4096x1, .i32⟩
  | 24 => ⟨S_, .i32⟩
  | 25 => ⟨S_, .i32⟩
  | 26 => ⟨S_, .i32⟩
  | 27 => ⟨S4096x1, .i32⟩
  | 28 => ⟨S4096x1, .i32⟩
  | 29 => ⟨S_, .i32⟩
  | 30 => ⟨S4096x1, .i32⟩
  | 31 => ⟨S4096x1, .i32⟩
  | 32 => ⟨S_, .i32⟩
  | 33 => ⟨S4096x1, .i32⟩
  | 34 => ⟨S4096x1, .i32⟩
  | 35 => ⟨S_, .i32⟩
  | 36 => ⟨S_, .i32⟩
  | 37 => ⟨S_, .i32⟩
  | 38 => ⟨S4096x1, .i32⟩
  | 39 => ⟨S4096x1, .i32⟩
  | 40 => ⟨S_, .i32⟩
  | 41 => ⟨S4096x1, .i32⟩
  | 42 => ⟨S4096x1, .i32⟩
  | 43 => ⟨S_, .i32⟩
  | 44 => ⟨S4096x1, .i32⟩
  | 45 => ⟨S4096x1, .i32⟩
  | 46 => ⟨S_, .i32⟩
  | 47 => ⟨S_, .i32⟩
  | 48 => ⟨S_, .i32⟩
  | 49 => ⟨S4096x1, .i32⟩
  | 50 => ⟨S4096x1, .i32⟩
  | 51 => ⟨S_, .i32⟩
  | 52 => ⟨S4096x1, .i32⟩
  | 53 => ⟨S4096x1, .i32⟩
  | 54 => ⟨S4096x4, .i32⟩
  | 55 => ⟨S_, .i32⟩
  | 56 => ⟨S4096x1, .i32⟩
  | 57 => ⟨S4096x1, .i32⟩
  | 58 => ⟨S_, .i32⟩
  | 59 => ⟨S4096x1, .i32⟩
  | 60 => ⟨S4096x1, .i32⟩
  | 61 => ⟨S_, .i32⟩
  | 62 => ⟨S_, .i32⟩
  | 63 => ⟨S_, .i32⟩
  | 64 => ⟨S4096x1, .i32⟩
  | 65 => ⟨S4096x1, .i32⟩
  | 66 => ⟨S_, .i32⟩
  | 67 => ⟨S4096x1, .i32⟩
  | 68 => ⟨S4096x1, .i32⟩
  | 69 => ⟨S_, .i32⟩
  | 70 => ⟨S4096x1, .i32⟩
  | 71 => ⟨S4096x1, .i32⟩
  | 72 => ⟨S_, .i32⟩
  | 73 => ⟨S4096x1, .i32⟩
  | 74 => ⟨S4096x1, .i32⟩
  | 75 => ⟨S_, .i32⟩
  | 76 => ⟨S_, .i32⟩
  | 77 => ⟨S_, .i32⟩
  | 78 => ⟨S4096x1, .i32⟩
  | 79 => ⟨S4096x1, .i32⟩
  | 80 => ⟨S_, .i32⟩
  | 81 => ⟨S4096x1, .i32⟩
  | 82 => ⟨S4096x1, .i32⟩
  | 83 => ⟨S_, .i32⟩
  | 84 => ⟨S4096x1, .i32⟩
  | 85 => ⟨S4096x1, .i32⟩
  | 86 => ⟨S_, .i32⟩
  | 87 => ⟨S4096x1, .i32⟩
  | 88 => ⟨S4096x1, .i32⟩
  | 89 => ⟨S_, .i32⟩
  | 90 => ⟨S_, .i32⟩
  | 91 => ⟨S_, .i32⟩
  | 92 => ⟨S4096x1, .i32⟩
  | 93 => ⟨S4096x1, .i32⟩
  | 94 => ⟨S_, .i32⟩
  | 95 => ⟨S4096x1, .i32⟩
  | 96 => ⟨S4096x1, .i32⟩
  | 97 => ⟨S_, .i32⟩
  | 98 => ⟨S4096x1, .i32⟩
  | 99 => ⟨S4096x1, .i32⟩
  | 100 => ⟨S_, .i32⟩
  | 101 => ⟨S4096x1, .i32⟩
  | 102 => ⟨S4096x1, .i32⟩
  | 103 => ⟨S_, .i32⟩
  | 104 => ⟨S_, .i32⟩
  | 105 => ⟨S_, .i32⟩
  | 106 => ⟨S4096x1, .i32⟩
  | 107 => ⟨S4096x1, .i32⟩
  | 108 => ⟨S_, .i32⟩
  | 109 => ⟨S4096x1, .i32⟩
  | 110 => ⟨S4096x1, .i32⟩
  | 111 => ⟨S4096x4, .i32⟩
  | 112 => ⟨S4096x1, .i32⟩
  | 113 => ⟨S4096, .i32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S_, .i32⟩
  | 122 => ⟨S4096, .i32⟩
  | 123 => ⟨S4096, .i32⟩
  | 124 => ⟨S4096x1, .i32⟩
  | 125 => ⟨S4096x1, .i32⟩
  | 126 => ⟨S4096x2, .i32⟩
  | 127 => ⟨S4096x256, .f32⟩
  | _ => ⟨S4096x1024, .f32⟩

abbrev hbmTy0_1 (i : Nat) : BufTy := match i % 128 with
  | 0 => ⟨S4096x1, .i32⟩
  | 1 => ⟨S4096, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S_, .i32⟩
  | 10 => ⟨S4096, .i32⟩
  | 11 => ⟨S4096, .i32⟩
  | 12 => ⟨S4096x1, .i32⟩
  | 13 => ⟨S4096x1, .i32⟩
  | 14 => ⟨S4096x2, .i32⟩
  | 15 => ⟨S4096x256, .f32⟩
  | 16 => ⟨S4096x1, .i32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S_, .i32⟩
  | 26 => ⟨S4096, .i32⟩
  | 27 => ⟨S4096, .i32⟩
  | 28 => ⟨S4096x1, .i32⟩
  | 29 => ⟨S4096x1, .i32⟩
  | 30 => ⟨S4096x2, .i32⟩
  | 31 => ⟨S4096x256, .f32⟩
  | 32 => ⟨S4096x1, .i32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i32⟩
  | 40 => ⟨S4096, .i32⟩
  | 41 => ⟨S_, .i32⟩
  | 42 => ⟨S4096, .i32⟩
  | 43 => ⟨S4096, .i32⟩
  | 44 => ⟨S4096x1, .i32⟩
  | 45 => ⟨S4096x1, .i32⟩
  | 46 => ⟨S4096x2, .i32⟩
  | 47 => ⟨S4096x256, .f32⟩
  | 48 => ⟨S4096x1x256, .f32⟩
  | 49 => ⟨S4096x1x256, .f32⟩
  | 50 => ⟨S4096x1x256, .f32⟩
  | 51 => ⟨S4096x1x256, .f32⟩
  | 52 => ⟨S4096x4x256, .f32⟩
  | 53 => ⟨S4096x1, .i32⟩
  | 54 => ⟨S4096, .i32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S_, .i32⟩
  | 63 => ⟨S4096, .i32⟩
  | 64 => ⟨S4096, .i32⟩
  | 65 => ⟨S4096x1, .i32⟩
  | 66 => ⟨S4096x1, .i32⟩
  | 67 => ⟨S4096x2, .i32⟩
  | 68 => ⟨S4096x256, .f32⟩
  | 69 => ⟨S4096x1, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S_, .i32⟩
  | 79 => ⟨S4096, .i32⟩
  | 80 => ⟨S4096, .i32⟩
  | 81 => ⟨S4096x1, .i32⟩
  | 82 => ⟨S4096x1, .i32⟩
  | 83 => ⟨S4096x2, .i32⟩
  | 84 => ⟨S4096x256, .f32⟩
  | 85 => ⟨S4096x1, .i32⟩
  | 86 => ⟨S4096, .i32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S_, .i32⟩
  | 95 => ⟨S4096, .i32⟩
  | 96 => ⟨S4096, .i32⟩
  | 97 => ⟨S4096x1, .i32⟩
  | 98 => ⟨S4096x1, .i32⟩
  | 99 => ⟨S4096x2, .i32⟩
  | 100 => ⟨S4096x256, .f32⟩
  | 101 => ⟨S4096x1, .i32⟩
  | 102 => ⟨S4096, .i32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S_, .i32⟩
  | 111 => ⟨S4096, .i32⟩
  | 112 => ⟨S4096, .i32⟩
  | 113 => ⟨S4096x1, .i32⟩
  | 114 => ⟨S4096x1, .i32⟩
  | 115 => ⟨S4096x2, .i32⟩
  | 116 => ⟨S4096x256, .f32⟩
  | 117 => ⟨S4096x1x256, .f32⟩
  | 118 => ⟨S4096x1x256, .f32⟩
  | 119 => ⟨S4096x1x256, .f32⟩
  | 120 => ⟨S4096x1x256, .f32⟩
  | 121 => ⟨S4096x4x256, .f32⟩
  | 122 => ⟨S4096x4, .i32⟩
  | 123 => ⟨S4096x4, .f32⟩
  | 124 => ⟨S4096x4x1, .f32⟩
  | 125 => ⟨S4096x4x256, .f32⟩
  | 126 => ⟨S4096x4x256, .f32⟩
  | 127 => ⟨S4096x4x256, .f32⟩
  | _ => ⟨S4096x1024, .f32⟩

abbrev hbmTy0_2 (i : Nat) : BufTy := match i % 128 with
  | 0 => ⟨S4096x4x256, .f32⟩
  | 1 => ⟨S4096x1024, .f32⟩
  | 2 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_call0_cst : Ref sig .tc := ⟨.hbm, 4, rfl⟩
abbrev main_call0_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_c_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v11 : Ref sig .tc := ⟨.hbm, 31, rfl⟩
abbrev main_c_5 : Ref sig .tc := ⟨.hbm, 32, rfl⟩
abbrev main_v12 : Ref sig .tc := ⟨.hbm, 33, rfl⟩
abbrev main_v13 : Ref sig .tc := ⟨.hbm, 34, rfl⟩
abbrev main_c_6 : Ref sig .tc := ⟨.hbm, 35, rfl⟩
abbrev main_c_7 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v14 : Ref sig .tc := ⟨.hbm, 42, rfl⟩
abbrev main_c_8 : Ref sig .tc := ⟨.hbm, 43, rfl⟩
abbrev main_v15 : Ref sig .tc := ⟨.hbm, 44, rfl⟩
abbrev main_v16 : Ref sig .tc := ⟨.hbm, 45, rfl⟩
abbrev main_c_9 : Ref sig .tc := ⟨.hbm, 46, rfl⟩
abbrev main_c_10 : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_v17 : Ref sig .tc := ⟨.hbm, 53, rfl⟩
abbrev main_v18 : Ref sig .tc := ⟨.hbm, 54, rfl⟩
abbrev main_c_11 : Ref sig .tc := ⟨.hbm, 55, rfl⟩
abbrev main_v19 : Ref sig .tc := ⟨.hbm, 56, rfl⟩
abbrev main_v20 : Ref sig .tc := ⟨.hbm, 57, rfl⟩
abbrev main_c_12 : Ref sig .tc := ⟨.hbm, 58, rfl⟩
abbrev main_v21 : Ref sig .tc := ⟨.hbm, 59, rfl⟩
abbrev main_v22 : Ref sig .tc := ⟨.hbm, 60, rfl⟩
abbrev main_c_13 : Ref sig .tc := ⟨.hbm, 61, rfl⟩
abbrev main_c_14 : Ref sig .tc := ⟨.hbm, 62, rfl⟩
abbrev main_call5_v0 : Ref sig .tc := ⟨.hbm, 63, rfl⟩
abbrev main_call5_v1 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_v23 : Ref sig .tc := ⟨.hbm, 68, rfl⟩
abbrev main_c_15 : Ref sig .tc := ⟨.hbm, 69, rfl⟩
abbrev main_v24 : Ref sig .tc := ⟨.hbm, 70, rfl⟩
abbrev main_v25 : Ref sig .tc := ⟨.hbm, 71, rfl⟩
abbrev main_c_16 : Ref sig .tc := ⟨.hbm, 72, rfl⟩
abbrev main_v26 : Ref sig .tc := ⟨.hbm, 73, rfl⟩
abbrev main_v27 : Ref sig .tc := ⟨.hbm, 74, rfl⟩
abbrev main_c_17 : Ref sig .tc := ⟨.hbm, 75, rfl⟩
abbrev main_c_18 : Ref sig .tc := ⟨.hbm, 76, rfl⟩
abbrev main_call6_v0 : Ref sig .tc := ⟨.hbm, 77, rfl⟩
abbrev main_call6_v1 : Ref sig .tc := ⟨.hbm, 78, rfl⟩
abbrev main_call6_v2 : Ref sig .tc := ⟨.hbm, 79, rfl⟩
abbrev main_call6_v3 : Ref sig .tc := ⟨.hbm, 80, rfl⟩
abbrev main_call6_v4 : Ref sig .tc := ⟨.hbm, 81, rfl⟩
abbrev main_v28 : Ref sig .tc := ⟨.hbm, 82, rfl⟩
abbrev main_c_19 : Ref sig .tc := ⟨.hbm, 83, rfl⟩
abbrev main_v29 : Ref sig .tc := ⟨.hbm, 84, rfl⟩
abbrev main_v30 : Ref sig .tc := ⟨.hbm, 85, rfl⟩
abbrev main_c_20 : Ref sig .tc := ⟨.hbm, 86, rfl⟩
abbrev main_v31 : Ref sig .tc := ⟨.hbm, 87, rfl⟩
abbrev main_v32 : Ref sig .tc := ⟨.hbm, 88, rfl⟩
abbrev main_c_21 : Ref sig .tc := ⟨.hbm, 89, rfl⟩
abbrev main_c_22 : Ref sig .tc := ⟨.hbm, 90, rfl⟩
abbrev main_call7_v0 : Ref sig .tc := ⟨.hbm, 91, rfl⟩
abbrev main_call7_v1 : Ref sig .tc := ⟨.hbm, 92, rfl⟩
abbrev main_call7_v2 : Ref sig .tc := ⟨.hbm, 93, rfl⟩
abbrev main_call7_v3 : Ref sig .tc := ⟨.hbm, 94, rfl⟩
abbrev main_call7_v4 : Ref sig .tc := ⟨.hbm, 95, rfl⟩
abbrev main_v33 : Ref sig .tc := ⟨.hbm, 96, rfl⟩
abbrev main_c_23 : Ref sig .tc := ⟨.hbm, 97, rfl⟩
abbrev main_v34 : Ref sig .tc := ⟨.hbm, 98, rfl⟩
abbrev main_v35 : Ref sig .tc := ⟨.hbm, 99, rfl⟩
abbrev main_c_24 : Ref sig .tc := ⟨.hbm, 100, rfl⟩
abbrev main_v36 : Ref sig .tc := ⟨.hbm, 101, rfl⟩
abbrev main_v37 : Ref sig .tc := ⟨.hbm, 102, rfl⟩
abbrev main_c_25 : Ref sig .tc := ⟨.hbm, 103, rfl⟩
abbrev main_c_26 : Ref sig .tc := ⟨.hbm, 104, rfl⟩
abbrev main_call8_v0 : Ref sig .tc := ⟨.hbm, 105, rfl⟩
abbrev main_call8_v1 : Ref sig .tc := ⟨.hbm, 106, rfl⟩
abbrev main_call8_v2 : Ref sig .tc := ⟨.hbm, 107, rfl⟩
abbrev main_call8_v3 : Ref sig .tc := ⟨.hbm, 108, rfl⟩
abbrev main_call8_v4 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_c_27 : Ref sig .tc := ⟨.hbm, 114, rfl⟩
abbrev main_v42 : Ref sig .tc := ⟨.hbm, 115, rfl⟩
abbrev main_v43 : Ref sig .tc := ⟨.hbm, 116, rfl⟩
abbrev main_c_28 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_c_29 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_c_30 : Ref sig .tc := ⟨.hbm, 130, rfl⟩
abbrev main_v55 : Ref sig .tc := ⟨.hbm, 131, rfl⟩
abbrev main_v56 : Ref sig .tc := ⟨.hbm, 132, rfl⟩
abbrev main_c_31 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_c_32 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_c_33 : Ref sig .tc := ⟨.hbm, 146, rfl⟩
abbrev main_v68 : Ref sig .tc := ⟨.hbm, 147, rfl⟩
abbrev main_v69 : Ref sig .tc := ⟨.hbm, 148, rfl⟩
abbrev main_c_34 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_c_35 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_c_36 : Ref sig .tc := ⟨.hbm, 162, rfl⟩
abbrev main_v81 : Ref sig .tc := ⟨.hbm, 163, rfl⟩
abbrev main_v82 : Ref sig .tc := ⟨.hbm, 164, rfl⟩
abbrev main_c_37 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_c_38 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_c_39 : Ref sig .tc := ⟨.hbm, 183, rfl⟩
abbrev main_v99 : Ref sig .tc := ⟨.hbm, 184, rfl⟩
abbrev main_v100 : Ref sig .tc := ⟨.hbm, 185, rfl⟩
abbrev main_c_40 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_c_41 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_c_42 : Ref sig .tc := ⟨.hbm, 199, rfl⟩
abbrev main_v112 : Ref sig .tc := ⟨.hbm, 200, rfl⟩
abbrev main_v113 : Ref sig .tc := ⟨.hbm, 201, rfl⟩
abbrev main_c_43 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_c_44 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_c_45 : Ref sig .tc := ⟨.hbm, 215, rfl⟩
abbrev main_v125 : Ref sig .tc := ⟨.hbm, 216, rfl⟩
abbrev main_v126 : Ref sig .tc := ⟨.hbm, 217, rfl⟩
abbrev main_c_46 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_c_47 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_c_48 : Ref sig .tc := ⟨.hbm, 231, rfl⟩
abbrev main_v138 : Ref sig .tc := ⟨.hbm, 232, rfl⟩
abbrev main_v139 : Ref sig .tc := ⟨.hbm, 233, rfl⟩
abbrev main_c_49 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_c_50 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩

abbrev nD : Nat := 1
abbrev τ : Topo := Topo.v7x

variable {F : FTy → Type} [FloatOps F]
-- ==== FfnAct.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S1024x2x4x704 : Shape := ⟨4, ![1024, 2, 4, 704]⟩
abbrev S2x4x1024x704 : Shape := ⟨4, ![2, 4, 1024, 704]⟩
abbrev S3x2x4x704 : Shape := ⟨4, ![3, 2, 4, 704]⟩
abbrev S2x4x3x704 : Shape := ⟨4, ![2, 4, 3, 704]⟩
abbrev S2x4x1x704 : Shape := ⟨4, ![2, 4, 1, 704]⟩
abbrev S2x4x4096x704 : Shape := ⟨4, ![2, 4, 4096, 704]⟩
abbrev S4x4096x704 : Shape := ⟨3, ![4, 4096, 704]⟩
abbrev S512x1024 : Shape := ⟨2, ![512, 1024]⟩
abbrev S16x1024 : Shape := ⟨2, ![16, 1024]⟩
abbrev S2x1x1024x704 : Shape := ⟨4, ![2, 1, 1024, 704]⟩
abbrev S2x1x3x704 : Shape := ⟨4, ![2, 1, 3, 704]⟩
abbrev S2x1x1x704 : Shape := ⟨4, ![2, 1, 1, 704]⟩
abbrev S2x1x512x704 : Shape := ⟨4, ![2, 1, 512, 704]⟩
abbrev S1x512x704 : Shape := ⟨3, ![1, 512, 704]⟩
abbrev S544x1024 : Shape := ⟨2, ![544, 1024]⟩
abbrev S1x1x1024x704 : Shape := ⟨4, ![1, 1, 1024, 704]⟩
abbrev S1024x704 : Shape := ⟨2, ![1024, 704]⟩
abbrev S544x704 : Shape := ⟨2, ![544, 704]⟩
abbrev S512x704 : Shape := ⟨2, ![512, 704]⟩
abbrev S1x1x512x704 : Shape := ⟨4, ![1, 1, 512, 704]⟩
abbrev S1x1x3x704 : Shape := ⟨4, ![1, 1, 3, 704]⟩
abbrev S3x704 : Shape := ⟨2, ![3, 704]⟩
abbrev S1x704 : Shape := ⟨2, ![1, 704]⟩
abbrev S1x1x1x704 : Shape := ⟨4, ![1, 1, 1, 704]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S3x5632, .f32⟩
  | .hbm, ⟨3, _⟩ => ⟨S5632, .f32⟩
  | .hbm, ⟨4, _⟩ => ⟨S1024x2x4x704, .bf16⟩
  | .hbm, ⟨5, _⟩ => ⟨S2x4x1024x704, .bf16⟩
  | .hbm, ⟨6, _⟩ => ⟨S3x2x4x704, .f32⟩
  | .hbm, ⟨7, _⟩ => ⟨S2x4x3x704, .f32⟩
  | .hbm, ⟨8, _⟩ => ⟨S2x4x1x704, .f32⟩
  | .hbm, ⟨9, _⟩ => ⟨S2x4x4096x704, .f32⟩
  | .hbm, ⟨10, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S2x1x1024x704, .bf16⟩
  | .local _ .vmem, ⟨7, _⟩ => ⟨S2x1x1024x704, .bf16⟩
  | .local _ .vmem, ⟨8, _⟩ => ⟨S2x1x3x704, .f32⟩
  | .local _ .vmem, ⟨9, _⟩ => ⟨S2x1x3x704, .f32⟩
  | .local _ .vmem, ⟨10, _⟩ => ⟨S2x1x1x704, .f32⟩
  | .local _ .vmem, ⟨11, _⟩ => ⟨S2x1x1x704, .f32⟩
  | .local _ .vmem, ⟨12, _⟩ => ⟨S2x1x512x704, .f32⟩
  | .local _ .vmem, ⟨13, _⟩ => ⟨S2x1x512x704, .f32⟩
  | .local _ .vmem, ⟨14, _⟩ => ⟨S1x512x704, .bf16⟩
  | .local _ .vmem, ⟨15, _⟩ => ⟨S1x512x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x1x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnActRefIdeal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S4096x5632 : Shape := ⟨2, ![4096, 5632]⟩
abbrev S_ : Shape := ⟨0, ![]⟩
abbrev S4098x5632 : Shape := ⟨2, ![4098, 5632]⟩
abbrev S1x5632 : Shape := ⟨2, ![1, 5632]⟩
abbrev S4096x2816 : Shape := ⟨2, ![4096, 2816]⟩
abbrev S4096x2x4x704 : Shape := ⟨4, ![4096, 2, 4, 704]⟩
abbrev S2x4x4096x704 : Shape := ⟨4, ![2, 4, 4096, 704]⟩
abbrev S4096x4x704 : Shape := ⟨3, ![4096, 4, 704]⟩
abbrev S4x4096x704 : Shape := ⟨3, ![4, 4096, 704]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S3x5632, .f32⟩
  | .hbm, ⟨3, _⟩ => ⟨S5632, .f32⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S_, .i32⟩
  | .hbm, ⟨8, _⟩ => ⟨S_, .f32⟩
  | .hbm, ⟨9, _⟩ => ⟨S4098x5632, .f32⟩
  | .hbm, ⟨10, _⟩ => ⟨S4096x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2x4x704, .f32⟩
  | .hbm, ⟨46, _⟩ => ⟨S2x4x4096x704, .f32⟩
  | .hbm, ⟨47, _⟩ => ⟨S4096x2816, .bf16⟩
  | .hbm, ⟨48, _⟩ => ⟨S4096x4x704, .bf16⟩
  | .hbm, ⟨49, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== MmNn.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmNnRefIdeal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmNt.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmNtRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmKv.lean ====
abbrev S256x1024 : Shape := ⟨2, ![256, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S8x256x256 : Shape := ⟨3, ![8, 256, 256]⟩
abbrev S1x1024x256 : Shape := ⟨3, ![1, 1024, 256]⟩
abbrev S1x256x256 : Shape := ⟨3, ![1, 256, 256]⟩
abbrev S1024x256 : Shape := ⟨2, ![1024, 256]⟩
abbrev S256x256 : Shape := ⟨2, ![256, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S1024x8x256, .bf16⟩
  | .hbm, ⟨3, _⟩ => ⟨S8x1024x256, .bf16⟩
  | .hbm, ⟨4, _⟩ => ⟨S8x256x256, .bf16⟩
  | .local _ .vmem, ⟨0, _⟩ => ⟨S256x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x256x256, .bf16⟩
  | .local _ .vmem, ⟨4, _⟩ => ⟨S1x256x256, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmKvRefIdeal.lean ====
abbrev S256x1024 : Shape := ⟨2, ![256, 1024]⟩
abbrev S1024x2048 : Shape := ⟨2, ![1024, 2048]⟩
abbrev S256x2048 : Shape := ⟨2, ![256, 2048]⟩
abbrev S256x8x256 : Shape := ⟨3, ![256, 8, 256]⟩
abbrev S8x256x256 : Shape := ⟨3, ![8, 256, 256]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x1024, .f32⟩
  | .hbm, ⟨3, _⟩ => ⟨S1024x2048, .f32⟩
  | .hbm, ⟨4, _⟩ => ⟨S256x2048, .f32⟩
  | .hbm, ⟨5, _⟩ => ⟨S256x2048, .bf16⟩
  | .hbm, ⟨6, _⟩ => ⟨S256x8x256, .bf16⟩
  | .hbm, ⟨7, _⟩ => ⟨S8x256x256, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MmDown.lean ====
abbrev S4096x2816 : Shape := ⟨2, ![4096, 2816]⟩
abbrev S2816x1024 : Shape := ⟨2, ![2816, 1024]⟩
abbrev S4096x1024 : Shape := ⟨2, ![4096, 1024]⟩
abbrev S4096x4x704 : Shape := ⟨3, ![4096, 4, 704]⟩
abbrev S4x4096x704 : Shape := ⟨3, ![4, 4096, 704]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S704x1024 : Shape := ⟨2, ![704, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x4x704, .bf16⟩
  | .hbm, ⟨4, _⟩ => ⟨S4x4096x704, .bf16⟩
  | .hbm, ⟨5, _⟩ => ⟨S4096x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmDownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MmTn.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MmTnRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MmKvDw.lean ====
abbrev S256x1024 : Shape := ⟨2, ![256, 1024]⟩
abbrev S256x2048 : Shape := ⟨2, ![256, 2048]⟩
abbrev S256x8x256 : Shape := ⟨3, ![256, 8, 256]⟩
abbrev S8x256x256 : Shape := ⟨3, ![8, 256, 256]⟩
abbrev S8x1024x256 : Shape := ⟨3, ![8, 1024, 256]⟩
abbrev S1x256x256 : Shape := ⟨3, ![1, 256, 256]⟩
abbrev S1x1024x256 : Shape := ⟨3, ![1, 1024, 256]⟩
abbrev S256x256 : Shape := ⟨2, ![256, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S256x8x256, .bf16⟩
  | .hbm, ⟨3, _⟩ => ⟨S8x256x256, .bf16⟩
  | .hbm, ⟨4, _⟩ => ⟨S8x1024x256, .f32⟩
  | .local _ .vmem, ⟨0, _⟩ => ⟨S256x1024, .bf16⟩
  | .local _ .vmem, ⟨1, _⟩ => ⟨S1x256x256, .bf16⟩
  | .local _ .vmem, ⟨2, _⟩ => ⟨S1x256x256, .bf16⟩
  | .local _ .vmem, ⟨3, _⟩ => ⟨S1x1024x256, .f32⟩
  | .local _ .vmem, ⟨4, _⟩ => ⟨S1x1024x256, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmKvDwRefIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S256x1024, .f32⟩
  | .hbm, ⟨3, _⟩ => ⟨S_, .f32⟩
  | .hbm, ⟨4, _⟩ => ⟨S1024x2048, .f32⟩
  | .hbm, ⟨5, _⟩ => ⟨S256x2048, .f32⟩
  | .hbm, ⟨6, _⟩ => ⟨S256x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AdamW.lean ====
abbrev S1024x192 : Shape := ⟨2, ![1024, 192]⟩
abbrev S512x192 : Shape := ⟨2, ![512, 192]⟩

abbrev nBuf : Space → Nat
  | .hbm => 7
  | .vmem => 14
  | .smem => 0
  | _ => 0

abbrev bufTy : (tb : Table) → Fin (tcTables nBuf tb) → BufTy
  | .hbm, ⟨0, _⟩ => ⟨S1024x192, .f32⟩
  | .hbm, ⟨1, _⟩ => ⟨S1024x192, .f32⟩
  | .hbm, ⟨2, _⟩ => ⟨S1024x192, .f32⟩
  | .hbm, ⟨3, _⟩ => ⟨S1024x192, .f32⟩
  | .hbm, ⟨4, _⟩ => ⟨S1024x192, .f32⟩
  | .hbm, ⟨5, _⟩ => ⟨S1024x192, .f32⟩
  | .hbm, ⟨6, _⟩ => ⟨S1024x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | _, _ => ⟨S1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWRefIdeal.lean ====
abbrev S1024x192 : Shape := ⟨2, ![1024, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x192, .f32⟩
  | .hbm, ⟨1, _⟩ => ⟨S1024x192, .f32⟩
  | .hbm, ⟨2, _⟩ => ⟨S1024x192, .f32⟩
  | .hbm, ⟨3, _⟩ => ⟨S1024x192, .f32⟩
  | .hbm, ⟨4, _⟩ => ⟨S_, .f32⟩
  | .hbm, ⟨5, _⟩ => ⟨S1024x192, .f32⟩
  | .hbm, ⟨6, _⟩ => ⟨S1024x192, .f32⟩
  | .hbm, ⟨7, _⟩ => ⟨S_, .f32⟩
  | .hbm, ⟨8, _⟩ => ⟨S1024x192, .f32⟩
  | .hbm, ⟨9, _⟩ => ⟨S1024x192, .f32⟩
  | .hbm, ⟨10, _⟩ => ⟨S1024x192, .f32⟩
  | .hbm, ⟨11, _⟩ => ⟨S_, .f32⟩
  | .hbm, ⟨12, _⟩ => ⟨S1024x192, .f32⟩
  | .hbm, ⟨13, _⟩ => ⟨S1024x192, .f32⟩
  | .hbm, ⟨14, _⟩ => ⟨S1024x192, .f32⟩
  | .hbm, ⟨15, _⟩ => ⟨S_, .f32⟩
  | .hbm, ⟨16, _⟩ => ⟨S1024x192, .f32⟩
  | .hbm, ⟨17, _⟩ => ⟨S1024x192, .f32⟩
  | .hbm, ⟨18, _⟩ => ⟨S1024x192, .f32⟩
  | .hbm, ⟨19, _⟩ => ⟨S_, .f32⟩
  | .hbm, ⟨20, _⟩ => ⟨S1024x192, .f32⟩
  | .hbm, ⟨21, _⟩ => ⟨S1024x192, .f32⟩
  | .hbm, ⟨22, _⟩ => ⟨S_, .f32⟩
  | .hbm, ⟨23, _⟩ => ⟨S1024x192, .f32⟩
  | .hbm, ⟨24, _⟩ => ⟨S1024x192, .f32⟩
  | .hbm, ⟨25, _⟩ => ⟨S1024x192, .f32⟩
  | .hbm, ⟨26, _⟩ => ⟨S_, .f32⟩
  | .hbm, ⟨27, _⟩ => ⟨S1024x192, .f32⟩
  | .hbm, ⟨28, _⟩ => ⟨S1024x192, .f32⟩
  | .hbm, ⟨29, _⟩ => ⟨S1024x192, .f32⟩
  | .hbm, ⟨30, _⟩ => ⟨S_, .f32⟩
  | .hbm, ⟨31, _⟩ => ⟨S1024x192, .f32⟩
  | .hbm, ⟨32, _⟩ => ⟨S1024x192, .f32⟩
  | .hbm, ⟨33, _⟩ => ⟨S1024x192, .f32⟩
  | .hbm, ⟨34, _⟩ => ⟨S_, .f32⟩
  | .hbm, ⟨35, _⟩ => ⟨S1024x192, .f32⟩
  | .hbm, ⟨36, _⟩ => ⟨S1024x192, .f32⟩
  | _, _ => ⟨S1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.SoftmaxReal.lean ====
module

public import Idealize.ShloMosaic.Lib.Pointwise

/-
  A row of exponentials summed chunk by chunk against a running maximum, over the reals: what the running sums hold after
  each chunk does not depend on the maximum they are scaled by.
-/

@[expose] public section

noncomputable section

namespace SoftmaxReal

open Idealize.ShloMosaic
open scoped BigOperators

/-- A sum of reals is real. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The larger of two reals is real. -/
theorem coe_max (a b : ℝ) : max (a : EReal) b = ((max a b : ℝ) : EReal) := (EReal.coe_strictMono.monotone.map_max).symm

/-- The largest of finitely many reals is real. -/
theorem fold_max {ι : Type*} (f : ι → EReal) (σ : ι → ℝ) (h : ∀ j, f j = σ j) (s : Finset ι) (hs : s.Nonempty) :
    ∃ M : ℝ, s.fold max ⊥ f = M := by
  classical
  induction hs using Finset.Nonempty.cons_induction with
  | singleton a => exact ⟨σ a, by rw [Finset.fold_singleton, h]; simp⟩
  | cons a s ha hs ih =>
    obtain ⟨M, hM⟩ := ih
    exact ⟨max (σ a) M, by rw [Finset.fold_cons, hM, h, coe_max]⟩

/-- A real divided by a nonzero real. -/
theorem div_real (x : ℝ) {y : ℝ} (hy : y ≠ 0) : Ideal.div x y = ((x / y : ℝ) : EReal) := by
  rw [Ideal.div_coe hy, ← EReal.coe_mul, mul_one_div]

/-- The logarithm of a positive real. -/
theorem log_real {x : ℝ} (hx : 0 < x) : Ideal.log x = (Real.log x : EReal) := by
  rw [Ideal.log_coe, if_neg (not_le.mpr hx)]

/-- The exponential of a difference of reals. -/
theorem exp_sub (a b : ℝ) : Ideal.exp ((a : EReal) - b) = (Real.exp (a - b) : EReal) := by
  rw [← EReal.coe_sub, Ideal.exp_coe]

variable {n : ℕ}

/-- The weighted sum, scaled against the maximum so far: from one chunk to the next. -/
theorem step_mul (M M' A : ℝ) (σ w : Fin n → ℝ) :
    Ideal.exp ((M : EReal) - M') * ((Real.exp (-M) * A : ℝ) : EReal) + ∑ j, Ideal.exp ((σ j : EReal) - M') * (w j : EReal)
      = ((Real.exp (-M') * (A + ∑ j, Real.exp (σ j) * w j) : ℝ) : EReal) := by
  simp only [exp_sub, ← EReal.coe_mul, ← coe_sum, ← EReal.coe_add]
  congr 1
  rw [mul_add, ← mul_assoc, ← Real.exp_add, Finset.mul_sum]
  refine congrArg₂ _ (by ring_nf) (Finset.sum_congr rfl fun j _ => ?_)
  rw [← mul_assoc, ← Real.exp_add]
  ring_nf

/-- The plain sum likewise. -/
theorem step_sum (M M' E : ℝ) (σ : Fin n → ℝ) :
    Ideal.exp ((M : EReal) - M') * ((Real.exp (-M) * E : ℝ) : EReal) + ∑ j, Ideal.exp ((σ j : EReal) - M')
      = ((Real.exp (-M') * (E + ∑ j, Real.exp (σ j)) : ℝ) : EReal) := by
  have h := step_mul M M' E σ fun _ => 1
  simpa using h

/-- The log of the sum of exponentials, from the scaled sum and its maximum. -/
theorem lse_real (M : ℝ) {E : ℝ} (hE : 0 < E) : (M : EReal) + Ideal.log ((Real.exp (-M) * E : ℝ) : EReal) = (Real.log E : EReal) := by
  rw [log_real (mul_pos (Real.exp_pos _) hE), ← EReal.coe_add, Real.log_mul (Real.exp_pos _).ne' hE.ne', Real.log_exp]
  congr 1
  ring

/-- The quotient of two scaled sums. -/
theorem quot_real (M A : ℝ) {E : ℝ} (hE : 0 < E) :
    Ideal.div ((Real.exp (-M) * A : ℝ) : EReal) ((Real.exp (-M) * E : ℝ) : EReal) = ((A / E : ℝ) : EReal) := by
  rw [div_real _ (mul_pos (Real.exp_pos _) hE).ne', mul_div_mul_left _ _ (Real.exp_pos _).ne']

/-- A row of weights from the log of the sum of their exponentials. -/
theorem weight_real (s : ℝ) {E : ℝ} (hE : 0 < E) : Ideal.exp ((s : EReal) - (Real.log E : EReal)) = ((Real.exp s / E : ℝ) : EReal) := by
  rw [exp_sub, Real.exp_sub, Real.exp_log hE]

/-- A sum of exponentials is positive. -/
theorem sum_exp_pos {ι : Type*} [Fintype ι] [Nonempty ι] (s : ι → ℝ) : 0 < ∑ j, Real.exp (s j) :=
  Finset.sum_pos (fun j _ => Real.exp_pos (s j)) Finset.univ_nonempty

end SoftmaxReal
-- ==== Proof.AttnRow.lean ====
module

public import proofs.«01_k».proof.Proof.Gen.AttnIdeal.Frame
public import Idealize.ShloMosaic.Lib.Pipeline.ValueKit
public import proofs.«01_k».proof.Proof.SoftmaxReal

/-
  The forward kernel's row reductions: a row's sum, and that a row of reals has a real maximum.
-/

@[expose] public section

set_option maxRecDepth 16384
set_option maxHeartbeats 2000000

noncomputable section

namespace Cert.AttnIdeal.Hand

open Cert.AttnIdeal Cert.AttnIdeal.Gen Idealize.ShloMosaic Idealize.ShloMosaic.TcCoe Idealize.SL.Sem
open scoped BigOperators

/-- A vector of row values as a column. -/
theorem col (u : Vec Ideal S1024 .f32) (r : Fin 1024) : (shapeCast S1024x1 u shapeCasts_S1024_S1024x1 : FVec Ideal S1024x1 .f32) (ix2 r 0) = u (ix1 r) := by
  pointwise []

/-- The entry of a row at a place along the axis reduced. -/
theorem lift_row (r j : Fin 1024) : reduces_S1024x1024_S1024.lift (ix1 r) j = ix2 r j := by
  funext a
  fin_cases a <;> rfl

/-- A row's sum. -/
theorem red_add (v : Vec Ideal S1024x1024 .f32) (r : Fin 1024) :
    (shapeCast S1024x1 (multiReduction (F := Ideal) (φ := .f32) .add [1] S1024 v 0x00000000#32 reduces_S1024x1024_S1024 (.inl rfl) rfl) shapeCasts_S1024_S1024x1 : FVec Ideal S1024x1 .f32) (ix2 r 0) = ∑ j : Fin 1024, v (ix2 r j) := by
  refine (col _ r).trans ((Ideal.multiReduction_add_single v 0x00000000#32 reduces_S1024x1024_S1024 (.inl rfl) rfl (ix1 r)).trans ?_)
  exact Finset.sum_congr rfl fun j _ => congrArg v (lift_row r j)

/-- The word the maximum starts from is minus infinity. -/
theorem word_bot : (FloatOps.ofBits (F := Ideal) FTy.f32 0xFF800000#32 : EReal) = ⊥ := by
  simp [Ideal.ofBits, Ideal.ieee]

/-- A row's maximum, as a fold. -/
theorem red_fold (v : Vec Ideal S1024x1024 .f32) (r : Fin 1024) :
    (multiReduction (F := Ideal) (φ := .f32) .maximumf [1] S1024 v 0xFF800000#32 reduces_S1024x1024_S1024 (.inl rfl) rfl : FVec Ideal S1024 .f32) (ix1 r)
      = Finset.fold (α := Fin 1024) (β := EReal) max (FloatOps.ofBits (F := Ideal) FTy.f32 0xFF800000#32 : EReal) (fun j => (v (ix2 r j) : EReal)) Finset.univ := by
  have h := Ideal.multiReduction_maximumf_single (φ := .f32) v 0xFF800000#32 reduces_S1024x1024_S1024 (.inl rfl) rfl (ix1 r)
  have e : v ∘ reduces_S1024x1024_S1024.lift (ix1 r) = fun j => v (ix2 r j) := funext fun j => congrArg v (lift_row r j)
  rw [e] at h
  exact h

/-- A row of reals has a real maximum. -/
theorem red_max (v : Vec Ideal S1024x1024 .f32) (r : Fin 1024) (σ : Fin 1024 → ℝ) (h : ∀ j, v (ix2 r j) = σ j) :
    ∃ M : ℝ, (shapeCast S1024x1 (multiReduction (F := Ideal) (φ := .f32) .maximumf [1] S1024 v 0xFF800000#32 reduces_S1024x1024_S1024 (.inl rfl) rfl) shapeCasts_S1024_S1024x1 : FVec Ideal S1024x1 .f32) (ix2 r 0) = M := by
  obtain ⟨M, hM⟩ := SoftmaxReal.fold_max (ι := Fin 1024) (fun j => v (ix2 r j)) σ h Finset.univ Finset.univ_nonempty
  refine ⟨M, ?_⟩
  rw [col, red_fold, word_bot]
  exact hM

end Cert.AttnIdeal.Hand
-- ==== Proof.AttnFwd.lean ====
module

public import proofs.«01_k».proof.Proof.AttnRow

/-
  The forward kernel's block: of four heads and 256 queries, keys met in four chunks of 1024 against a running maximum. At finite
  arguments the state kept after each chunk is the plain sums over the keys so far, scaled by the exponential of minus the maximum.
-/

@[expose] public section

set_option maxRecDepth 16384
set_option maxHeartbeats 2000000

noncomputable section

namespace Cert.AttnIdeal.Hand

open Cert.AttnIdeal Cert.AttnIdeal.Gen Idealize.ShloMosaic Idealize.ShloMosaic.TcCoe Idealize.SL.Sem
open scoped BigOperators

/-- The state of a row: the maximum, the sum and the weighted sums, the last two as sums over the keys so far scaled against the first. -/
def At (r : Fin 1024) (m l : Vec Ideal S1024x1 .f32) (a : Vec Ideal S1024x64 .f32) (E : ℝ) (A : Fin 64 → ℝ) : Prop :=
  ∃ M : ℝ, m (ix2 r 0) = M ∧ l (ix2 r 0) = ((Real.exp (-M) * E : ℝ) : EReal) ∧ ∀ d, a (ix2 r d) = ((Real.exp (-M) * A d : ℝ) : EReal)

/-- A new maximum is real. -/
theorem max_real {r : Fin 1024} {m : Vec Ideal S1024x1 .f32} {M : ℝ} (h : m (ix2 r 0) = M) {v : Vec Ideal S1024x1 .f32} (hv : ∃ N : ℝ, v (ix2 r 0) = N) :
    ∃ M' : ℝ, max (m (ix2 r 0)) (v (ix2 r 0)) = M' := by
  obtain ⟨N, hN⟩ := hv
  exact ⟨max M N, by rw [h, hN, SoftmaxReal.coe_max]⟩

section Chunk

variable (q : Vec Ideal S4x256x64 .bf16) (k1 v1 k2 v2 k3 v3 k4 v4 : Vec Ideal S1x1024x64 .bf16) (r : Fin 1024)

theorem score1 (j : Fin 1024) : k0_pay9 q k1 (ix2 r j) = ∑ d : Fin 64, q (ix3 ⟨r.val / 256, by omega⟩ ⟨r.val % 256, by omega⟩ d) * k1 (ix3 0 j d) := by
  pointwise [k0_pay9, k0_pay7]

theorem score2 (j : Fin 1024) : k0_pay15 q k2 (ix2 r j) = ∑ d : Fin 64, q (ix3 ⟨r.val / 256, by omega⟩ ⟨r.val % 256, by omega⟩ d) * k2 (ix3 0 j d) := by
  pointwise [k0_pay15, k0_pay7]

theorem score3 (j : Fin 1024) : k0_pay20 (k0_pay7 q) k3 (ix2 r j) = ∑ d : Fin 64, q (ix3 ⟨r.val / 256, by omega⟩ ⟨r.val % 256, by omega⟩ d) * k3 (ix3 0 j d) := by
  pointwise [k0_pay20, k0_pay7]

theorem score4 (j : Fin 1024) : k0_pay26 (k0_pay7 q) k4 (ix2 r j) = ∑ d : Fin 64, q (ix3 ⟨r.val / 256, by omega⟩ ⟨r.val % 256, by omega⟩ d) * k4 (ix3 0 j d) := by
  pointwise [k0_pay26, k0_pay7]

/-- The stand-in for minus infinity the maximum starts from is a real. -/
theorem start_real : ∃ M : ℝ, k0_pay8 (F := Ideal) (ix2 r 0) = M := by
  refine ⟨-1000000015047466219876688855040, ?_⟩
  pointwise [k0_pay8]
  simp [Ideal.ofBits, Ideal.ieee, -EReal.coe_mul, -EReal.coe_neg]
  norm_num

variable {σ1 σ2 σ3 σ4 : Fin 1024 → ℝ} {w1 w2 w3 w4 : Fin 1024 → Fin 64 → ℝ}

/-- After the first chunk. -/
theorem chunk1 (hs : ∀ j, k0_pay9 q k1 (ix2 r j) = σ1 j) (hw : ∀ j d, v1 (ix3 0 j d) = w1 j d) :
    At r (k0_pay10 q k1) (k0_pay13 q k1) (k0_pay14 q k1 v1) (∑ j, Real.exp (σ1 j)) (fun d => ∑ j, Real.exp (σ1 j) * w1 j d) := by
  obtain ⟨S, hS⟩ := start_real r
  obtain ⟨M, hM⟩ : ∃ M : ℝ, k0_pay10 q k1 (ix2 r 0) = M := max_real hS (red_max _ r σ1 hs)
  have ha : k0_pay11 q k1 (ix2 r 0) = Ideal.exp (k0_pay8 (F := Ideal) (ix2 r 0) - k0_pay10 q k1 (ix2 r 0)) := by
    pointwise [k0_pay11]
  have hp (j : Fin 1024) : k0_pay12 q k1 (ix2 r j) = Ideal.exp (k0_pay9 q k1 (ix2 r j) - k0_pay10 q k1 (ix2 r 0)) := by
    pointwise [k0_pay12]
  refine ⟨M, hM, ?_, fun d => ?_⟩
  · have h := SoftmaxReal.step_sum S M 0 σ1
    have e : k0_pay13 q k1 (ix2 r 0) = k0_pay11 q k1 (ix2 r 0) * 0 + ∑ j, k0_pay12 q k1 (ix2 r j) := by
      unfold k0_pay13
      refine congrArg₂ (· + ·) (congrArg (k0_pay11 q k1 (ix2 r 0) * ·) ?_) (red_add _ r)
      exact Ideal.ofBits_zero_f32
    rw [e, ha, hS, hM]
    simp only [hp, hs, hM]
    simpa using h
  · have h := SoftmaxReal.step_mul S M 0 σ1 (fun j => w1 j d)
    have e : k0_pay14 q k1 v1 (ix2 r d) = k0_pay11 q k1 (ix2 r 0) * 0 + ∑ j, k0_pay12 q k1 (ix2 r j) * v1 (ix3 0 j d) := by
      pointwise [k0_pay14]
    rw [e, ha, hS, hM]
    simp only [hp, hs, hM, hw]
    simpa using h

/-- After the third chunk, from the first chunk's state. -/
theorem chunk23 {E : ℝ} {A : Fin 64 → ℝ} {l : Vec Ideal S1024x1 .f32} {a : Vec Ideal S1024x64 .f32} (h : At r (k0_pay10 q k1) l a E A)
    (hs2 : ∀ j, k0_pay15 q k2 (ix2 r j) = σ2 j) (hw2 : ∀ j d, v2 (ix3 0 j d) = w2 j d)
    (hs3 : ∀ j, k0_pay20 (k0_pay7 q) k3 (ix2 r j) = σ3 j) (hw3 : ∀ j d, v3 (ix3 0 j d) = w3 j d) :
    At r (k0_pay21 (k0_pay7 q) (k0_pay16 q k1 k2) k3)
      (k0_pay24 (k0_pay7 q) l (k0_pay15 q k2) (k0_pay16 q k1 k2) (k0_pay17 q k1 k2) (k0_pay18 q k1 k2) k3)
      (k0_pay25 (k0_pay7 q) a (k0_pay15 q k2) (k0_pay16 q k1 k2) (k0_pay17 q k1 k2) (k0_pay18 q k1 k2) v2 k3 v3)
      (E + ∑ j, Real.exp (σ2 j) + ∑ j, Real.exp (σ3 j))
      (fun d => A d + ∑ j, Real.exp (σ2 j) * w2 j d + ∑ j, Real.exp (σ3 j) * w3 j d) := by
  obtain ⟨M, hM, hl, ha⟩ := h
  obtain ⟨N, hN⟩ : ∃ N : ℝ, k0_pay16 q k1 k2 (ix2 r 0) = N := max_real hM (red_max _ r σ2 hs2)
  obtain ⟨L, hL⟩ : ∃ L : ℝ, k0_pay21 (k0_pay7 q) (k0_pay16 q k1 k2) k3 (ix2 r 0) = L := max_real hN (red_max _ r σ3 hs3)
  have e17 : k0_pay17 q k1 k2 (ix2 r 0) = Ideal.exp ((M : EReal) - N) := by
    rw [← hM, ← hN]
    pointwise [k0_pay17]
  have e22 : k0_pay22 (k0_pay7 q) (k0_pay16 q k1 k2) k3 (ix2 r 0) = Ideal.exp ((N : EReal) - L) := by
    rw [← hN, ← hL]
    pointwise [k0_pay22]
  have p2 (j : Fin 1024) : k0_pay19 (k0_pay15 q k2) (k0_pay18 q k1 k2) (ix2 r j) = Ideal.exp ((σ2 j : EReal) - N) := by
    rw [← hs2, ← hN]
    pointwise [k0_pay19, k0_pay18]
  have p3 (j : Fin 1024) : k0_pay23 (k0_pay7 q) (k0_pay16 q k1 k2) k3 (ix2 r j) = Ideal.exp ((σ3 j : EReal) - L) := by
    rw [← hs3, ← hL]
    pointwise [k0_pay23]
  refine ⟨L, hL, ?_, fun d => ?_⟩
  · have e : k0_pay24 (k0_pay7 q) l (k0_pay15 q k2) (k0_pay16 q k1 k2) (k0_pay17 q k1 k2) (k0_pay18 q k1 k2) k3 (ix2 r 0)
        = k0_pay22 (k0_pay7 q) (k0_pay16 q k1 k2) k3 (ix2 r 0) * (k0_pay17 q k1 k2 (ix2 r 0) * l (ix2 r 0)
          + ∑ j, k0_pay19 (k0_pay15 q k2) (k0_pay18 q k1 k2) (ix2 r j)) + ∑ j, k0_pay23 (k0_pay7 q) (k0_pay16 q k1 k2) k3 (ix2 r j) := by
      unfold k0_pay24
      exact congrArg₂ (· + ·) (congrArg (k0_pay22 (k0_pay7 q) (k0_pay16 q k1 k2) k3 (ix2 r 0) * ·)
        (congrArg (k0_pay17 q k1 k2 (ix2 r 0) * l (ix2 r 0) + ·) (red_add _ r))) (red_add _ r)
    rw [e, e17, e22, hl]
    simp only [p2, p3]
    rw [SoftmaxReal.step_sum, SoftmaxReal.step_sum]
  · have e : k0_pay25 (k0_pay7 q) a (k0_pay15 q k2) (k0_pay16 q k1 k2) (k0_pay17 q k1 k2) (k0_pay18 q k1 k2) v2 k3 v3 (ix2 r d)
        = k0_pay22 (k0_pay7 q) (k0_pay16 q k1 k2) k3 (ix2 r 0) * (k0_pay17 q k1 k2 (ix2 r 0) * a (ix2 r d)
          + ∑ j, k0_pay19 (k0_pay15 q k2) (k0_pay18 q k1 k2) (ix2 r j) * v2 (ix3 0 j d))
          + ∑ j, k0_pay23 (k0_pay7 q) (k0_pay16 q k1 k2) k3 (ix2 r j) * v3 (ix3 0 j d) := by
      pointwise [k0_pay25]
    rw [e, e17, e22, ha]
    simp only [p2, p3, hw2, hw3]
    rw [SoftmaxReal.step_mul, SoftmaxReal.step_mul]

/-- After the last chunk: the output and the log of the sum of exponentials. -/
theorem chunk4 {E : ℝ} {A : Fin 64 → ℝ} {m l : Vec Ideal S1024x1 .f32} {a : Vec Ideal S1024x64 .f32} (hE : 0 ≤ E) (g : Fin 4) (i : Fin 256)
    (hr : r = ⟨g.val * 256 + i.val, by omega⟩) (h : At r m l a E A)
    (hs : ∀ j, k0_pay26 (k0_pay7 q) k4 (ix2 r j) = σ4 j) (hw : ∀ j d, v4 (ix3 0 j d) = w4 j d) :
    k0_pay6 m l (k0_pay26 (k0_pay7 q) k4) (k0_pay27 (k0_pay7 q) k4) (ix3 g i 0) = (Real.log (E + ∑ j, Real.exp (σ4 j)) : EReal)
    ∧ ∀ d, k0_pay5 m l a (k0_pay26 (k0_pay7 q) k4) (k0_pay27 (k0_pay7 q) k4) v4 (ix3 g i d)
      = (((A d + ∑ j, Real.exp (σ4 j) * w4 j d) / (E + ∑ j, Real.exp (σ4 j)) : ℝ) : EReal) := by
  obtain ⟨M, hM, hl, ha⟩ := h
  obtain ⟨N, hN⟩ : ∃ N : ℝ, k0_pay1 m (k0_pay27 (k0_pay7 q) k4) (ix2 r 0) = N := max_real hM (red_max _ r σ4 hs)
  have hpos : 0 < E + ∑ j, Real.exp (σ4 j) := add_pos_of_nonneg_of_pos hE (SoftmaxReal.sum_exp_pos σ4)
  have e2 : k0_pay2 m (k0_pay27 (k0_pay7 q) k4) (ix2 r 0) = Ideal.exp ((M : EReal) - N) := by
    rw [← hM, ← hN]
    pointwise [k0_pay2]
  have p4 (j : Fin 1024) : k0_pay3 m (k0_pay26 (k0_pay7 q) k4) (k0_pay27 (k0_pay7 q) k4) (ix2 r j) = Ideal.exp ((σ4 j : EReal) - N) := by
    rw [← hs, ← hN]
    pointwise [k0_pay3]
  have e4 : k0_pay4 m l (k0_pay26 (k0_pay7 q) k4) (k0_pay27 (k0_pay7 q) k4) (ix2 r 0) = ((Real.exp (-N) * (E + ∑ j, Real.exp (σ4 j)) : ℝ) : EReal) := by
    have e : k0_pay4 m l (k0_pay26 (k0_pay7 q) k4) (k0_pay27 (k0_pay7 q) k4) (ix2 r 0)
        = k0_pay2 m (k0_pay27 (k0_pay7 q) k4) (ix2 r 0) * l (ix2 r 0)
          + ∑ j, k0_pay3 m (k0_pay26 (k0_pay7 q) k4) (k0_pay27 (k0_pay7 q) k4) (ix2 r j) := by
      unfold k0_pay4
      exact congrArg (k0_pay2 m (k0_pay27 (k0_pay7 q) k4) (ix2 r 0) * l (ix2 r 0) + ·) (red_add _ r)
    rw [e, e2, hl]
    simp only [p4]
    rw [SoftmaxReal.step_sum]
  refine ⟨?_, fun d => ?_⟩
  · have e : k0_pay6 m l (k0_pay26 (k0_pay7 q) k4) (k0_pay27 (k0_pay7 q) k4) (ix3 g i 0)
        = k0_pay1 m (k0_pay27 (k0_pay7 q) k4) (ix2 r 0) + Ideal.log (k0_pay4 m l (k0_pay26 (k0_pay7 q) k4) (k0_pay27 (k0_pay7 q) k4) (ix2 r 0)) := by
      rw [hr]
      pointwise [k0_pay6]
    rw [e, e4, hN, SoftmaxReal.lse_real _ hpos]
  · have e : k0_pay5 m l a (k0_pay26 (k0_pay7 q) k4) (k0_pay27 (k0_pay7 q) k4) v4 (ix3 g i d)
        = Ideal.div (k0_pay2 m (k0_pay27 (k0_pay7 q) k4) (ix2 r 0) * a (ix2 r d)
          + ∑ j, k0_pay3 m (k0_pay26 (k0_pay7 q) k4) (k0_pay27 (k0_pay7 q) k4) (ix2 r j) * v4 (ix3 0 j d))
          (k0_pay4 m l (k0_pay26 (k0_pay7 q) k4) (k0_pay27 (k0_pay7 q) k4) (ix2 r 0)) := by
      rw [hr]
      pointwise [k0_pay5]
    rw [e, e2, ha, e4]
    simp only [p4, hw]
    rw [SoftmaxReal.step_mul, SoftmaxReal.quot_real _ _ hpos]

end Chunk

end Cert.AttnIdeal.Hand
-- ==== Proof.AttnBlocks.lean ====
/-
  The attention's gradient (`Attn`), one grid point: what the body of the second call leaves in its three result blocks,
  entry by entry, from the blocks it reads. A point holds 4 heads of 128 queries — 512 rows — and all 4096 keys of their
  group, taken in four chunks of 1024.
-/
module

public import proofs.«01_k».proof.Proof.Gen.AttnIdeal.Frame
public import Idealize.ShloMosaic.Lib.Pointwise
public import Idealize.ShloMosaic.Lib.Pipeline.ValueKit
public import Idealize.ShloMosaic.Lib.Pipeline.ReadBack

@[expose] public section

set_option maxRecDepth 16384
set_option maxHeartbeats 2000000

noncomputable section

namespace Cert.AttnIdeal.Hand

open Cert.AttnIdeal Cert.AttnIdeal.Gen Idealize.ShloMosaic Idealize.ShloMosaic.TcCoe Idealize.SL.Sem
open scoped BigOperators

/-- A row's head in its group, and its query in the block. -/
abbrev hd (r : Fin 512) : Fin 4 := ⟨r.val / 128, by omega⟩
abbrev qr (r : Fin 512) : Fin 128 := ⟨r.val % 128, by omega⟩

section Block

variable (q : Vec Ideal S4x128x64 .bf16) (k v : Vec Ideal S1x4096x64 .bf16) (o : Vec Ideal S4x128x64 .bf16)
  (lse : Vec Ideal S4x128x1 .f32) (do_ : Vec Ideal S4x128x64 .bf16)

/-- A row's weight on a key. -/
def prob (g : Fin 4) (i : Fin 128) (j : Fin 4096) : EReal :=
  Ideal.exp (∑ d : Fin 64, q (ix3 g i d) * k (ix3 0 j d) - lse (ix3 g i 0))

/-- The gradient of a row's score on a key. -/
def dscore (g : Fin 4) (i : Fin 128) (j : Fin 4096) : EReal :=
  prob q k lse g i j * (∑ d : Fin 64, do_ (ix3 g i d) * v (ix3 0 j d) - ∑ d : Fin 64, do_ (ix3 g i d) * o (ix3 g i d))

/-- The keys' gradient after the point, from the one before it. -/
def dkStep (acc : Vec Ideal S1x4096x64 .f32) : Vec Ideal S1x4096x64 .f32 := fun y =>
  acc y + ∑ r : Fin 512, dscore q k v o lse do_ (hd r) (qr r) (y 1) * q (ix3 (hd r) (qr r) (y 2))

/-- The values' gradient after the point, from the one before it. -/
def dvStep (acc : Vec Ideal S1x4096x64 .f32) : Vec Ideal S1x4096x64 .f32 := fun y =>
  acc y + ∑ r : Fin 512, prob q k lse (hd r) (qr r) (y 1) * do_ (ix3 (hd r) (qr r) (y 2))

/-- The queries' gradient of the point. -/
def dqBlock : Vec Ideal S4x128x64 .f32 := fun y =>
  ∑ j : Fin 4096, dscore q k v o lse do_ (y 0) (y 1) j * k (ix3 0 j (y 2))

end Block

variable (V : (c : Dev nD) → (b : Ref sig .tc) → Buf (Elt Ideal) ((c : Thread nD τ).loc b))

/-- Row `j` of the chunk of keys that starts at `n`. -/
theorem emb_key (n : ℕ) (inb) (z : Fin 1) (j : Fin 1024) (d : Fin 64) (h : n + j.val < 4096) :
    (Rect.unit (s := S1x4096x64) ![0, n, 0] ![1, 1024, 64] inb).emb (ix3 z j d) = ix3 0 ⟨n + j.val, h⟩ d := by
  funext a
  refine Fin.ext ?_
  rw [ValueKit.rect_emb_unit_val]
  fin_cases a
  · simp
  · rfl
  · exact Nat.zero_add _

/-- A sum over the keys, chunk by chunk. -/
theorem sum_keys (f : Fin 4096 → EReal) : ∑ j, f j = ((∑ j : Fin 1024, f ⟨0 + j.val, by omega⟩) + ∑ j : Fin 1024, f ⟨1024 + j.val, by omega⟩)
    + (∑ j : Fin 1024, f ⟨2048 + j.val, by omega⟩) + ∑ j : Fin 1024, f ⟨3072 + j.val, by omega⟩ := by
  rw [Fin.sum_univ_add (a := 3072) (b := 1024) f, Fin.sum_univ_add (a := 2048) (b := 1024) _,
    Fin.sum_univ_add (a := 1024) (b := 1024) _]
  refine congrArg₂ _ (congrArg₂ _ (congrArg₂ _ (Finset.sum_congr rfl fun j _ => congrArg f (Fin.ext ?_)) ?_) ?_) ?_
  · simp
  all_goals rfl

/-- The first point of a group starts the keys' gradient from zero. -/
theorem dk_A (c : Dev nD) (t : Fin cfg1.N) (h0 : t.val % 32 = 0) : (outsAt1 V c t.val t.isLt).2.1
    = dkStep (iblk1 V c 0 t) (iblk1 V c 1 t) (iblk1 V c 2 t) (iblk1 V c 3 t) (iblk1 V c 4 t) (iblk1 V c 5 t) (fun _ => 0) := by
  rw [outsAt1_A V c t h0]
  dsimp only
  frame_out
  repeat first | rw [View.readCov_skip (h := by decide)] | rw [View.readCov_fill (h := by decide)]
  refine funext fun y => View.canon_append_of_piecesOf _ [_] [_, _, _, _] ⟨fun x => ?_, fun x => ?_, fun x => ?_, fun x => ?_, trivial⟩ y
    (View.cover_of_tiled _ ![1, 1024, 64] (by rfl) y)
  all_goals
    obtain ⟨z, j, d, rfl⟩ : ∃ (z : Fin 1) (j : Fin 1024) (d : Fin 64), x = ix3 z j d := ⟨x 0, x 1, x 2, eq_ix3 x⟩
    dsimp only
    rw [emb_key _ _ _ _ _ (by omega)]
    unfold dkStep
    pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, prob, dscore]

/-- Every other point adds to the keys' gradient. -/
theorem dk_B (c : Dev nD) (t : Fin cfg1.N) (h0 : ¬t.val % 32 = 0) : (outsAt1 V c t.val t.isLt).2.1
    = dkStep (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 := by
  rw [outsAt1_B V c t h0]
  dsimp only
  frame_out
  refine funext fun y => View.canon_append_of_piecesOf _ [] [_, _, _, _] ⟨fun x => ?_, fun x => ?_, fun x => ?_, fun x => ?_, trivial⟩ y
    (View.cover_of_tiled _ ![1, 1024, 64] (by rfl) y)
  all_goals
    obtain ⟨z, j, d, rfl⟩ : ∃ (z : Fin 1) (j : Fin 1024) (d : Fin 64), x = ix3 z j d := ⟨x 0, x 1, x 2, eq_ix3 x⟩
    dsimp only
    rw [emb_key _ _ _ _ _ (by omega)]
    unfold dkStep
    pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, prob, dscore]

/-- The first point of a group starts the values' gradient from zero. -/
theorem dv_A (c : Dev nD) (t : Fin cfg1.N) (h0 : t.val % 32 = 0) : (outsAt1 V c t.val t.isLt).2.2
    = dvStep (iblk1 V c 0 t) (iblk1 V c 1 t) (iblk1 V c 4 t) (iblk1 V c 5 t) (fun _ => 0) := by
  rw [outsAt1_A V c t h0]
  dsimp only
  frame_out
  repeat first | rw [View.readCov_skip (h := by decide)] | rw [View.readCov_fill (h := by decide)]
  refine funext fun y => View.canon_append_of_piecesOf _ [_] [_, _, _, _] ⟨fun x => ?_, fun x => ?_, fun x => ?_, fun x => ?_, trivial⟩ y
    (View.cover_of_tiled _ ![1, 1024, 64] (by rfl) y)
  all_goals
    obtain ⟨z, j, d, rfl⟩ : ∃ (z : Fin 1) (j : Fin 1024) (d : Fin 64), x = ix3 z j d := ⟨x 0, x 1, x 2, eq_ix3 x⟩
    dsimp only
    rw [emb_key _ _ _ _ _ (by omega)]
    unfold dvStep
    pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, prob, dscore]

/-- Every other point adds to the values' gradient. -/
theorem dv_B (c : Dev nD) (t : Fin cfg1.N) (h0 : ¬t.val % 32 = 0) : (outsAt1 V c t.val t.isLt).2.2
    = dvStep (iblk1 V c 0 t) (iblk1 V c 1 t) (iblk1 V c 4 t) (iblk1 V c 5 t) (outsAt1 V c (t.val - 1) (Nat.lt_of_le_of_lt (Nat.sub_le _ _) t.isLt)).2.2 := by
  rw [outsAt1_B V c t h0]
  dsimp only
  frame_out
  refine funext fun y => View.canon_append_of_piecesOf _ [] [_, _, _, _] ⟨fun x => ?_, fun x => ?_, fun x => ?_, fun x => ?_, trivial⟩ y
    (View.cover_of_tiled _ ![1, 1024, 64] (by rfl) y)
  all_goals
    obtain ⟨z, j, d, rfl⟩ : ∃ (z : Fin 1) (j : Fin 1024) (d : Fin 64), x = ix3 z j d := ⟨x 0, x 1, x 2, eq_ix3 x⟩
    dsimp only
    rw [emb_key _ _ _ _ _ (by omega)]
    unfold dvStep
    pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, prob, dscore]

/-- The queries' gradient is the point's own. -/
theorem dq_A (c : Dev nD) (t : Fin cfg1.N) (h0 : t.val % 32 = 0) : (outsAt1 V c t.val t.isLt).1
    = dqBlock (iblk1 V c 0 t) (iblk1 V c 1 t) (iblk1 V c 2 t) (iblk1 V c 3 t) (iblk1 V c 4 t) (iblk1 V c 5 t) := by
  rw [outsAt1_A V c t h0]
  dsimp only
  frame_out
  refine funext fun y => ?_
  obtain ⟨g, i, d, rfl⟩ : ∃ (g : Fin 4) (i : Fin 128) (d : Fin 64), y = ix3 g i d := ⟨y 0, y 1, y 2, eq_ix3 y⟩
  unfold dqBlock
  rw [sum_keys]
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, prob, dscore]

/-- The queries' gradient is the point's own. -/
theorem dq_B (c : Dev nD) (t : Fin cfg1.N) (h0 : ¬t.val % 32 = 0) : (outsAt1 V c t.val t.isLt).1
    = dqBlock (iblk1 V c 0 t) (iblk1 V c 1 t) (iblk1 V c 2 t) (iblk1 V c 3 t) (iblk1 V c 4 t) (iblk1 V c 5 t) := by
  rw [outsAt1_B V c t h0]
  dsimp only
  frame_out
  refine funext fun y => ?_
  obtain ⟨g, i, d, rfl⟩ : ∃ (g : Fin 4) (i : Fin 128) (d : Fin 64), y = ix3 g i d := ⟨y 0, y 1, y 2, eq_ix3 y⟩
  unfold dqBlock
  rw [sum_keys]
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, prob, dscore]

end Cert.AttnIdeal.Hand
-- ==== Proof.AttnBack.lean ====
/-
  The attention's gradient (`Attn`), the second call: its three result arrays as functions of the arrays it reads — the
  roped queries, keys and values side by side (`x`: 16 query heads, 4 key heads, 4 value heads), the saved output, the saved
  log-sum-exp and the output's cotangent.
-/
module

public import proofs.«01_k».proof.Proof.AttnBlocks

@[expose] public section

set_option maxRecDepth 16384
set_option maxHeartbeats 2000000

noncomputable section

namespace Cert.AttnIdeal.Hand

open Cert.AttnIdeal Cert.AttnIdeal.Gen Idealize.ShloMosaic Idealize.ShloMosaic.TcCoe Idealize.SL.Sem
open scoped BigOperators

/-- The query, key and value head that query head `h` reads, in the joint array. -/
abbrev qh (h : Fin 16) : Fin 24 := ⟨h.val, by omega⟩
abbrev kh (h : Fin 16) : Fin 24 := ⟨16 + h.val / 4, by omega⟩
abbrev vh (h : Fin 16) : Fin 24 := ⟨20 + h.val / 4, by omega⟩

section Arrays

variable (x : Vec Ideal S24x4096x64 .bf16) (o : Vec Ideal S16x4096x64 .bf16) (lse : Vec Ideal S16x4096x1 .f32)
  (do_ : Vec Ideal S16x4096x64 .bf16)

/-- The weight of query `i` of head `h` on key `j`. -/
def P (h : Fin 16) (i j : Fin 4096) : EReal :=
  Ideal.exp (∑ d : Fin 64, x (ix3 (qh h) i d) * x (ix3 (kh h) j d) - lse (ix3 h i 0))

/-- The gradient of that weight's score. -/
def DS (h : Fin 16) (i j : Fin 4096) : EReal :=
  P x lse h i j * (∑ d : Fin 64, do_ (ix3 h i d) * x (ix3 (vh h) j d) - ∑ d : Fin 64, do_ (ix3 h i d) * o (ix3 h i d))

/-- The queries' gradient. -/
def DQ : Vec Ideal S16x4096x64 .f32 := fun y => ∑ j : Fin 4096, DS x o lse do_ (y 0) (y 1) j * x (ix3 (kh (y 0)) j (y 2))

/-- Row `r` of point `s` of group `g`: its head and its query. -/
abbrev rowH (g : Fin 4) (r : Fin 512) : Fin 16 := ⟨4 * g.val + r.val / 128, by omega⟩
abbrev rowI (s : Fin 32) (r : Fin 512) : Fin 4096 := ⟨128 * s.val + r.val % 128, by omega⟩

/-- The keys' gradient, point by point and row by row. -/
def DK : Vec Ideal S4x4096x64 .f32 := fun y => ∑ s : Fin 32, ∑ r : Fin 512,
  DS x o lse do_ (rowH (y 0) r) (rowI s r) (y 1) * x (ix3 (qh (rowH (y 0) r)) (rowI s r) (y 2))

/-- The values' gradient, point by point and row by row. -/
def DV : Vec Ideal S4x4096x64 .f32 := fun y => ∑ s : Fin 32, ∑ r : Fin 512,
  P x lse (rowH (y 0) r) (rowI s r) (y 1) * do_ (ix3 (rowH (y 0) r) (rowI s r) (y 2))

end Arrays

theorem idx : ∀ t : Fin cfg1.N, win1_0.index t = ![t.val / 32, t.val % 32, 0] ∧ win1_1.index t = ![16 + t.val / 32, 0, 0]
    ∧ win1_2.index t = ![20 + t.val / 32, 0, 0] ∧ win1_3.index t = ![t.val / 32, t.val % 32, 0]
    ∧ win1_4.index t = ![t.val / 32, t.val % 32, 0] ∧ win1_5.index t = ![t.val / 32, t.val % 32, 0]
    ∧ win1_6.index t = ![t.val / 32, t.val % 32, 0] ∧ win1_7.index t = ![t.val / 32, 0, 0]
    ∧ win1_8.index t = ![t.val / 32, 0, 0] := by decide +kernel

variable (V : (c : Dev nD) → (b : Ref sig .tc) → Buf (Elt Ideal) ((c : Thread nD τ).loc b))

theorem dq_array (c : Dev nD) : (dat1 V c).arrAt 6 cfg1.N = DQ (V c main_v3) (V c main_v4_0) (V c main_v4_1) (V c main_v6) := by
  refine (dat1 V c).arrAt_eq_of_covers 6 _ (by decide +kernel) fun t hf (y : S4x128x64.Idx) => ?_
  blk_simp
  rw [after1_6]
  have e : (outsAt1 V c t.val t.isLt).1 = dqBlock (iblk1 V c 0 t) (iblk1 V c 1 t) (iblk1 V c 2 t) (iblk1 V c 3 t) (iblk1 V c 4 t)
      (iblk1 V c 5 t) := by
    by_cases h : t.val % 32 = 0
    · exact dq_A V c t h
    · exact dq_B V c t h
  rw [e]
  unfold DQ DS P dqBlock dscore prob
  blk_point [iblk1, idx t]
  all_goals (blk_simp [idx t] <;> omega)

theorem dk_array (c : Dev nD) : (dat1 V c).arrAt 7 cfg1.N = DK (V c main_v3) (V c main_v4_0) (V c main_v4_1) (V c main_v6) := by
  refine (dat1 V c).arrAt_eq_of_covers 7 _ (by decide +kernel) fun t hf (y : S1x4096x64.Idx) => ?_
  blk_simp
  rw [after1_7, Pipeline.eq_sum_fin_of_reset_step_apply_of_flush (fun n h => (outsAt1 V c n h).2.1) 32 (fun _ => 0) _
    (fun t h j => by rw [dk_A V c t h]; rfl) (fun t h j => by rw [dk_B V c t h]; rfl) t ((flush1_7 t).mp hf) _, zero_add]
  unfold DK DS P
  refine Fin.sum_fin_congr fun s => Fin.sum_fin_congr fun r => ?_
  unfold dscore prob
  blk_point [iblk1, idx t, idx ⟨_, Pipeline.run_point_lt_of_flush t ((flush1_7 t).mp hf) s⟩]
  all_goals (blk_simp [idx t] <;> omega)

theorem dv_array (c : Dev nD) : (dat1 V c).arrAt 8 cfg1.N = DV (V c main_v3) (V c main_v4_1) (V c main_v6) := by
  refine (dat1 V c).arrAt_eq_of_covers 8 _ (by decide +kernel) fun t hf (y : S1x4096x64.Idx) => ?_
  blk_simp
  rw [after1_8, Pipeline.eq_sum_fin_of_reset_step_apply_of_flush (fun n h => (outsAt1 V c n h).2.2) 32 (fun _ => 0) _
    (fun t h j => by rw [dv_A V c t h]; rfl) (fun t h j => by rw [dv_B V c t h]; rfl) t ((flush1_8 t).mp hf) _, zero_add]
  unfold DV P
  refine Fin.sum_fin_congr fun s => Fin.sum_fin_congr fun r => ?_
  unfold prob
  blk_point [iblk1, idx t, idx ⟨_, Pipeline.run_point_lt_of_flush t ((flush1_8 t).mp hf) s⟩]
  all_goals (blk_simp [idx t] <;> omega)

end Cert.AttnIdeal.Hand
-- ==== Proof.AttnOut.lean ====
module

public import proofs.«01_k».proof.Proof.AttnFwd
public import proofs.«01_k».proof.Proof.AttnBack

/-
  The forward kernel's arrays at finite arguments: the attention output and the log of each query's sum of exponentials, as real sums
  over all the keys.
-/

@[expose] public section

set_option maxRecDepth 16384
set_option maxHeartbeats 2000000

noncomputable section

namespace Cert.AttnIdeal.Hand

open Cert.AttnIdeal Cert.AttnIdeal.Gen Idealize.ShloMosaic Idealize.ShloMosaic.TcCoe Idealize.SL.Sem
open scoped BigOperators

/-- A real sum over the keys, chunk by chunk. -/
theorem sum_keys_real (f : Fin 4096 → ℝ) : ∑ j, f j = (∑ j : Fin 1024, f ⟨0 + j.val, by omega⟩) + (∑ j : Fin 1024, f ⟨1024 + j.val, by omega⟩)
    + (∑ j : Fin 1024, f ⟨2048 + j.val, by omega⟩) + ∑ j : Fin 1024, f ⟨3072 + j.val, by omega⟩ := by
  have h := sum_keys fun j => (f j : EReal)
  simp only [← SoftmaxReal.coe_sum, ← EReal.coe_add] at h
  exact EReal.coe_injective h

/-- A chunk of a block's keys, entry by entry. -/
theorem ld_key (k : Vec Ideal S1x4096x64 .bf16) (n : ℕ) (inb) (j : Fin 1024) (d : Fin 64) (h : n + j.val < 4096) :
    View.ld k (Rect.unit (s := S1x4096x64) ![0, n, 0] ![1, 1024, 64] inb) (ix3 0 j d) = k (ix3 0 ⟨n + j.val, h⟩ d) :=
  congrArg k (emb_key n inb 0 j d h)

section Block

variable (q : Vec Ideal S4x256x64 .bf16) (k v : Vec Ideal S1x4096x64 .bf16) {Q : Fin 4 → Fin 256 → Fin 64 → ℝ} {K W : Fin 4096 → Fin 64 → ℝ}

/-- The block's two results at a row, from real queries, keys and values. -/
theorem fwd_block (hq : ∀ g i d, q (ix3 g i d) = Q g i d) (hk : ∀ j d, k (ix3 0 j d) = K j d) (hv : ∀ j d, v (ix3 0 j d) = W j d) (g : Fin 4) (i : Fin 256) :
    out0_4 q k v (ix3 g i 0) = (Real.log (∑ j, Real.exp (∑ d, Q g i d * K j d)) : EReal)
    ∧ ∀ d, out0_3 q k v (ix3 g i d)
      = (((∑ j, Real.exp (∑ d, Q g i d * K j d) * W j d) / ∑ j, Real.exp (∑ d, Q g i d * K j d) : ℝ) : EReal) := by
  obtain ⟨r, hre⟩ : ∃ r : Fin 1024, r = ⟨g.val * 256 + i.val, by omega⟩ := ⟨_, rfl⟩
  have hrv : r.val = g.val * 256 + i.val := congrArg Fin.val hre
  have hg : (⟨r.val / 256, by omega⟩ : Fin 4) = g := Fin.ext (by dsimp only; omega)
  have hi : (⟨r.val % 256, by omega⟩ : Fin 256) = i := Fin.ext (by dsimp only; omega)
  have sc (kc : Vec Ideal S1x1024x64 .bf16) (κ : Fin 1024 → Fin 64 → ℝ) (h : ∀ j d, kc (ix3 0 j d) = κ j d) (j : Fin 1024) :
      ∑ d : Fin 64, q (ix3 ⟨r.val / 256, by omega⟩ ⟨r.val % 256, by omega⟩ d) * kc (ix3 0 j d) = ((∑ d, Q g i d * κ j d : ℝ) : EReal) := by
    rw [hg, hi, SoftmaxReal.coe_sum]
    exact Finset.sum_congr rfl fun d _ => by rw [hq, h, EReal.coe_mul]
  have kc (n : ℕ) (inb) (hn : n ≤ 3072) (j : Fin 1024) (d : Fin 64) :
      View.ld k (Rect.unit (s := S1x4096x64) ![0, n, 0] ![1, 1024, 64] inb) (ix3 0 j d) = (K ⟨n + j.val, by omega⟩ d : EReal) :=
    (ld_key k n inb j d (by omega)).trans (hk _ _)
  have vc (n : ℕ) (inb) (hn : n ≤ 3072) (j : Fin 1024) (d : Fin 64) :
      View.ld v (Rect.unit (s := S1x4096x64) ![0, n, 0] ![1, 1024, 64] inb) (ix3 0 j d) = (W ⟨n + j.val, by omega⟩ d : EReal) :=
    (ld_key v n inb j d (by omega)).trans (hv _ _)
  have h1 := chunk1 q (View.ld k r0_1) (View.ld v r0_1) r (fun j => (score1 q _ r j).trans (sc _ _ (kc 0 _ (by omega)) j)) (vc 0 _ (by omega))
  have h3 := chunk23 q _ (View.ld k r0_2) (View.ld v r0_2) (View.ld k r0_3) (View.ld v r0_3) r h1
    (fun j => (score2 q _ r j).trans (sc _ _ (kc 1024 _ (by omega)) j)) (vc 1024 _ (by omega))
    (fun j => (score3 q _ r j).trans (sc _ _ (kc 2048 _ (by omega)) j)) (vc 2048 _ (by omega))
  have h4 := chunk4 q (View.ld k r0_4) (View.ld v r0_4) r
    (add_nonneg (add_nonneg (SoftmaxReal.sum_exp_pos _).le (SoftmaxReal.sum_exp_pos _).le) (SoftmaxReal.sum_exp_pos _).le) g i hre h3
    (fun j => (score4 q _ r j).trans (sc _ _ (kc 3072 _ (by omega)) j)) (vc 3072 _ (by omega))
  have hz : View.ld q r0_0 = q := by frame_out
  refine ⟨?_, fun d => ?_⟩
  · rw [sum_keys_real]
    refine Eq.trans ?_ h4.1
    unfold_out out0_4
    frame_out
  · rw [sum_keys_real, sum_keys_real]
    refine Eq.trans ?_ (h4.2 d)
    unfold_out out0_3
    frame_out

end Block

section Real

variable (X : S24x4096x64.Idx → ℝ)

/-- A query's score on a key. -/
def score (h : Fin 16) (i j : Fin 4096) : ℝ := ∑ d : Fin 64, X (ix3 (qh h) i d) * X (ix3 (kh h) j d)

/-- A query's sum of exponentials. -/
def expsum (h : Fin 16) (i : Fin 4096) : ℝ := ∑ j, Real.exp (score X h i j)

/-- A query's output. -/
def mean (h : Fin 16) (i : Fin 4096) (d : Fin 64) : ℝ := (∑ j, Real.exp (score X h i j) * X (ix3 (vh h) j d)) / expsum X h i

theorem expsum_pos (h : Fin 16) (i : Fin 4096) : 0 < expsum X h i := SoftmaxReal.sum_exp_pos _

end Real

theorem idx0 : ∀ t : Fin cfg0.N, win0_0.index t = ![t.val / 16, t.val % 16, 0] ∧ win0_1.index t = ![16 + t.val / 16, 0, 0]
    ∧ win0_2.index t = ![20 + t.val / 16, 0, 0] ∧ win0_3.index t = ![t.val / 16, t.val % 16, 0]
    ∧ win0_4.index t = ![t.val / 16, t.val % 16, 0] := by decide +kernel

variable (V : (c : Dev nD) → (b : Ref sig .tc) → Buf (Elt Ideal) ((c : Thread nD τ).loc b)) (c : Dev nD)

/-- The block of a point, at real queries, keys and values. -/
theorem fwd_point (X : S24x4096x64.Idx → ℝ) (hX : ∀ y : S24x4096x64.Idx, V c main_v3 y = (X y : EReal)) (t : Fin cfg0.N) (g : Fin 4) (i : Fin 256)
    (h : Fin 16) (p : Fin 4096) (hh : h.val = t.val / 16 * 4 + g.val) (hp : p.val = t.val % 16 * 256 + i.val) :
    out0_4 (iblk0 V c 0 t) (iblk0 V c 1 t) (iblk0 V c 2 t) (ix3 g i 0) = (Real.log (expsum X h p) : EReal)
    ∧ ∀ d, out0_3 (iblk0 V c 0 t) (iblk0 V c 1 t) (iblk0 V c 2 t) (ix3 g i d) = (mean X h p d : EReal) := by
  have ht : t.val < 64 := t.isLt
  have b := fwd_block (iblk0 V c 0 t) (iblk0 V c 1 t) (iblk0 V c 2 t)
    (Q := fun g i d => X (ix3 ⟨t.val / 16 * 4 + g.val, by omega⟩ ⟨t.val % 16 * 256 + i.val, by omega⟩ d))
    (K := fun j d => X (ix3 ⟨16 + t.val / 16, by omega⟩ j d)) (W := fun j d => X (ix3 ⟨20 + t.val / 16, by omega⟩ j d))
    (fun g i d => by rw [← hX]; blk_point [iblk0, idx0 t]) (fun j d => by rw [← hX]; blk_point [iblk0, idx0 t])
    (fun j d => by rw [← hX]; blk_point [iblk0, idx0 t]) g i
  have e1 : (⟨t.val / 16 * 4 + g.val, by omega⟩ : Fin 24) = qh h := Fin.ext (by dsimp only; omega)
  have e2 : (⟨16 + t.val / 16, by omega⟩ : Fin 24) = kh h := Fin.ext (by dsimp only; omega)
  have e3 : (⟨20 + t.val / 16, by omega⟩ : Fin 24) = vh h := Fin.ext (by dsimp only; omega)
  have e4 : (⟨t.val % 16 * 256 + i.val, by omega⟩ : Fin 4096) = p := Fin.ext (by dsimp only; omega)
  simp only [e1, e2, e3, e4] at b
  exact b

/-- The attention output, and each query's log of the sum of exponentials. -/
def OUT (X : S24x4096x64.Idx → ℝ) : Vec Ideal S16x4096x64 .bf16 := fun y => (mean X (y 0) (y 1) (y 2) : EReal)
def LSE (X : S24x4096x64.Idx → ℝ) : Vec Ideal S16x4096x1 .f32 := fun y => (Real.log (expsum X (y 0) (y 1)) : EReal)

theorem o_array (X : S24x4096x64.Idx → ℝ) (hX : ∀ y : S24x4096x64.Idx, V c main_v3 y = (X y : EReal)) :
    (dat0 V c).arrAt 3 cfg0.N = OUT X := by
  refine (dat0 V c).arrAt_eq_of_covers 3 _ (by decide +kernel) fun t hf (y : S4x256x64.Idx) => ?_
  obtain ⟨g, i, d, rfl⟩ : ∃ (g : Fin 4) (i : Fin 256) (d : Fin 64), y = ix3 g i d := ⟨y 0, y 1, y 2, eq_ix3 y⟩
  have ht : t.val < 64 := t.isLt
  blk_simp
  rw [after0_3]
  have e0 : ((win0_3.blk t).view.emb (ix3 g i d) 0).val = t.val / 16 * 4 + g.val := by blk_simp [idx0 t] <;> omega
  have e1 : ((win0_3.blk t).view.emb (ix3 g i d) 1).val = t.val % 16 * 256 + i.val := by blk_simp [idx0 t] <;> omega
  have e2 : ((win0_3.blk t).view.emb (ix3 g i d) 2).val = d.val := by blk_simp [idx0 t] <;> omega
  refine ((fwd_point V c X hX t g i ((win0_3.blk t).view.emb (ix3 g i d) 0) ((win0_3.blk t).view.emb (ix3 g i d) 1) e0 e1).2 d).trans ?_
  exact congrArg (fun e : Fin 64 => (mean X ((win0_3.blk t).view.emb (ix3 g i d) 0) ((win0_3.blk t).view.emb (ix3 g i d) 1) e : EReal)) (Fin.ext e2.symm)

theorem lse_array (X : S24x4096x64.Idx → ℝ) (hX : ∀ y : S24x4096x64.Idx, V c main_v3 y = (X y : EReal)) :
    (dat0 V c).arrAt 4 cfg0.N = LSE X := by
  refine (dat0 V c).arrAt_eq_of_covers 4 _ (by decide +kernel) fun t hf (y : S4x256x1.Idx) => ?_
  obtain ⟨g, i, d, rfl⟩ : ∃ (g : Fin 4) (i : Fin 256) (d : Fin 1), y = ix3 g i d := ⟨y 0, y 1, y 2, eq_ix3 y⟩
  obtain rfl : d = 0 := Subsingleton.elim _ _
  have ht : t.val < 64 := t.isLt
  blk_simp
  rw [after0_4]
  have e0 : ((win0_4.blk t).view.emb (ix3 g i 0) 0).val = t.val / 16 * 4 + g.val := by blk_simp [idx0 t] <;> omega
  have e1 : ((win0_4.blk t).view.emb (ix3 g i 0) 1).val = t.val % 16 * 256 + i.val := by blk_simp [idx0 t] <;> omega
  exact (fwd_point V c X hX t g i ((win0_4.blk t).view.emb (ix3 g i 0) 0) ((win0_4.blk t).view.emb (ix3 g i 0) 1) e0 e1).1

end Cert.AttnIdeal.Hand
-- ==== Proof.AttnRun.lean ====
module

public import proofs.«01_k».proof.Proof.AttnOut
public import Idealize.ShloMosaic.Lib.Pipeline.ReadBack

/-
  The run of both kernels with what it leaves in the four results, and the arrays the kernels meet, read from the arguments.
-/

@[expose] public section

set_option maxRecDepth 16384
set_option maxHeartbeats 2000000

noncomputable section

namespace Cert.AttnIdeal.Hand

open Cert.AttnIdeal Cert.AttnIdeal.Gen Idealize.ShloMosaic Idealize.ShloMosaic.TcCoe Idealize.ShloMosaic.Tactic
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer outside the kernels ends as the last state of the segments has it. -/
theorem run_buffers : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

variable (c : Dev nD)

/-- The two host stretches leave the queries', keys' and values' heads one after another, and the cotangent head by head. -/
theorem qkv_eq (h : Fin 24) (i : Fin 4096) (d : Fin 64) : V1 m ρ c main_v3 (ix3 h i d)
    = if h16 : h.val < 16 then m ((c : Thread nD τ).loc main_arg0) (ix3 i ⟨h.val, h16⟩ d)
      else if h20 : h.val < 20 then m ((c : Thread nD τ).loc main_arg1) (ix3 i ⟨h.val - 16, by omega⟩ d)
      else m ((c : Thread nD τ).loc main_arg2) (ix3 i ⟨h.val - 20, by omega⟩ d) := by
  have e : V1 m ρ c main_v3 = StableHlo.after hostOps0 (W0 m ρ c) (Proc.devRef .tc main_v3) := rfl
  rw [e]
  after_results_simp
  pointwise []
  by_cases h1 : h.val < 16
  · rw [dif_pos h1, dif_pos h1]
    exact congrArg (m ((c : Thread nD τ).loc main_arg0)) (by ext a; fin_cases a <;> rfl)
  rw [dif_neg h1, dif_neg h1]
  by_cases h2 : h.val < 20
  · rw [dif_pos h2, dif_pos (show h.val - 16 < 4 by omega)]
    exact congrArg (m ((c : Thread nD τ).loc main_arg1)) (by ext a; fin_cases a <;> rfl)
  rw [dif_neg h2, dif_neg (show ¬ h.val - 16 < 4 by omega)]
  exact congrArg (m ((c : Thread nD τ).loc main_arg2)) (by
    ext a; fin_cases a <;> first | rfl | exact Nat.sub_sub ..)

/-- The cotangent reaches the second kernel head by head. -/
theorem do_eq (h : Fin 16) (i : Fin 4096) (d : Fin 64) : V3 m ρ c main_v6 (ix3 h i d)
    = m ((c : Thread nD τ).loc main_arg3) (ix2 i ⟨h.val * 64 + d.val, by omega⟩) := by
  have e : V3 m ρ c main_v6 = StableHlo.after hostOps1 (W2 m ρ c) (Proc.devRef .tc main_v6) := rfl
  rw [e]
  after_results_simp
  pointwise []
  exact congrFun (W2_args m ρ c main_arg3 (by decide)) _

/-- The joint array of heads meets the second kernel as it met the first. -/
theorem x_eq : V3 m ρ c main_v3 = V1 m ρ c main_v3 :=
  (W3_of m ρ c main_v3 (by decide)).trans (W2_of m ρ c main_v3 (by decide))

variable (X : S24x4096x64.Idx → ℝ) (hX : ∀ y : S24x4096x64.Idx, V1 m ρ c main_v3 y = (X y : EReal))

include hX in
theorem o_eq : V3 m ρ c main_v4_0 = OUT X :=
  (W3_of m ρ c main_v4_0 (by decide)).trans ((W2_arr m ρ c 3).trans (o_array (V1 m ρ) c X hX))

include hX in
theorem lse_eq : V3 m ρ c main_v4_1 = LSE X :=
  (W3_of m ρ c main_v4_1 (by decide)).trans ((W2_arr m ρ c 4).trans (lse_array (V1 m ρ) c X hX))

include hX in
/-- The four results, and the arguments as they were, at the end of the run. -/
theorem results_eq (r : (ℓ : Loc nD τ sig) → Buf (Elt Ideal) ℓ)
    (h : ∀ b ∈ Pipeline.ucRefs τ sig, r (((c : Thread nD τ)).1, b) = W4 m ρ c b) :
    r ((c : Thread nD τ).loc main_v4_0) = OUT X
    ∧ r ((c : Thread nD τ).loc main_v7_0) = DQ (V1 m ρ c main_v3) (OUT X) (LSE X) (V3 m ρ c main_v6)
    ∧ r ((c : Thread nD τ).loc main_v7_1) = DK (V1 m ρ c main_v3) (OUT X) (LSE X) (V3 m ρ c main_v6)
    ∧ r ((c : Thread nD τ).loc main_v7_2) = DV (V1 m ρ c main_v3) (LSE X) (V3 m ρ c main_v6)
    ∧ r ((c : Thread nD τ).loc main_arg0) = m ((c : Thread nD τ).loc main_arg0)
    ∧ r ((c : Thread nD τ).loc main_arg1) = m ((c : Thread nD τ).loc main_arg1)
    ∧ r ((c : Thread nD τ).loc main_arg2) = m ((c : Thread nD τ).loc main_arg2)
    ∧ r ((c : Thread nD τ).loc main_arg3) = m ((c : Thread nD τ).loc main_arg3) := by
  have ho := o_eq m ρ c X hX
  have hl := lse_eq m ρ c X hX
  have hx := x_eq m ρ c
  refine ⟨?_, ?_, ?_, ?_, (h _ (mem_uc main_arg0 (by decide))).trans (W4_main_arg0 m ρ c), (h _ (mem_uc main_arg1 (by decide))).trans (W4_main_arg1 m ρ c),
    (h _ (mem_uc main_arg2 (by decide))).trans (W4_main_arg2 m ρ c), (h _ (mem_uc main_arg3 (by decide))).trans (W4_main_arg3 m ρ c)⟩
  · exact (h _ (mem_uc main_v4_0 (by decide))).trans ((W4_of m ρ c main_v4_0 (by decide)).trans ho)
  · refine (h _ (mem_uc main_v7_0 (by decide))).trans ((W4_arr m ρ c 6).trans ((dq_array (V3 m ρ) c).trans ?_))
    rw [hx, ho, hl]
  · refine (h _ (mem_uc main_v7_1 (by decide))).trans ((W4_arr m ρ c 7).trans ((dk_array (V3 m ρ) c).trans ?_))
    rw [hx, ho, hl]
  · refine (h _ (mem_uc main_v7_2 (by decide))).trans ((W4_arr m ρ c 8).trans ((dv_array (V3 m ρ) c).trans ?_))
    rw [hx, hl]

end Cert.AttnIdeal.Hand
-- ==== Proof.AttnReal.lean ====
module

public import proofs.«01_k».proof.Proof.SoftmaxReal

/-
  Attention over the reals: 4096 queries of 16 heads, 4 heads to a group of keys and values, every query on every key. The output and
  the gradients, written head by head (`x` of 4) within a group (`g` of 4).
-/

@[expose] public section

noncomputable section

namespace AttnReal

open Idealize.ShloMosaic
open scoped BigOperators

/-- Head `x` of group `g`, and its column `d` among the columns of all heads. -/
abbrev hx (g x : Fin 4) : Fin 16 := ⟨g.val * 4 + x.val, by omega⟩
abbrev cx (g x : Fin 4) (d : Fin 64) : Fin 1024 := ⟨g.val * 256 + x.val * 64 + d.val, by omega⟩

variable (q : Fin 4096 → Fin 16 → Fin 64 → ℝ) (k v : Fin 4096 → Fin 4 → Fin 64 → ℝ) (ct : Fin 4096 → Fin 1024 → ℝ)

/-- A query's score on a key. -/
def s (g x : Fin 4) (i j : Fin 4096) : ℝ := ∑ d, q i (hx g x) d * k j g d

/-- A query's sum of exponentials. -/
def es (g x : Fin 4) (i : Fin 4096) : ℝ := ∑ j, Real.exp (s q k g x i j)

/-- A query's weight on a key. -/
def w (g x : Fin 4) (i j : Fin 4096) : ℝ := Real.exp (s q k g x i j) / es q k g x i

/-- The output. -/
def out (g x : Fin 4) (i : Fin 4096) (d : Fin 64) : ℝ := ∑ j, w q k g x i j * v j g d

/-- A weight's gradient. -/
def dw (g x : Fin 4) (i j : Fin 4096) : ℝ := ∑ d, ct i (cx g x d) * v j g d

/-- A score's gradient. -/
def ds (g x : Fin 4) (i j : Fin 4096) : ℝ := w q k g x i j * (dw v ct g x i j - ∑ j', w q k g x i j' * dw v ct g x i j')

/-- The gradients of the queries, the keys and the values. -/
def dq (g x : Fin 4) (i : Fin 4096) (d : Fin 64) : ℝ := ∑ j, ds q k v ct g x i j * k j g d
def dk (g : Fin 4) (j : Fin 4096) (d : Fin 64) : ℝ := ∑ x, ∑ i, ds q k v ct g x i j * q i (hx g x) d
def dv (g : Fin 4) (j : Fin 4096) (d : Fin 64) : ℝ := ∑ x, ∑ i, w q k g x i j * ct i (cx g x d)

theorem es_pos (g x : Fin 4) (i : Fin 4096) : 0 < es q k g x i := SoftmaxReal.sum_exp_pos _

/-- The row's sum of weights times their gradients is the output's product with the cotangent. -/
theorem sum_w_dw (g x : Fin 4) (i : Fin 4096) :
    ∑ j, w q k g x i j * dw v ct g x i j = ∑ d, ct i (cx g x d) * out q k v g x i d := by
  simp only [dw, out, Finset.mul_sum]
  rw [Finset.sum_comm]
  exact Finset.sum_congr rfl fun d _ => Finset.sum_congr rfl fun j _ => by ring

/-- The weight from exponentials shifted by any number. -/
theorem w_shift (M : ℝ) (g x : Fin 4) (i j : Fin 4096) :
    Real.exp (s q k g x i j - M) / ∑ j', Real.exp (s q k g x i j' - M) = w q k g x i j := by
  simp only [Real.exp_sub, ← Finset.sum_div]
  exact div_div_div_cancel_right₀ (Real.exp_pos M).ne' _ _

/-- The score's gradient as the quotient rule gives it from shifted exponentials. -/
theorem ds_shift (M : ℝ) (g x : Fin 4) (i j : Fin 4096) :
    (dw v ct g x i j / ∑ j', Real.exp (s q k g x i j' - M)
      + -∑ j', dw v ct g x i j' * (1 / ((∑ j', Real.exp (s q k g x i j' - M)) * ∑ j', Real.exp (s q k g x i j' - M))) * Real.exp (s q k g x i j' - M))
      * Real.exp (s q k g x i j - M) = ds q k v ct g x i j := by
  unfold ds
  simp only [← w_shift q k M]
  have hL : ∑ j', Real.exp (s q k g x i j' - M) ≠ 0 := (SoftmaxReal.sum_exp_pos _).ne'
  generalize ∑ j', Real.exp (s q k g x i j' - M) = L at hL ⊢
  have e : ∑ j', dw v ct g x i j' * (1 / (L * L)) * Real.exp (s q k g x i j' - M)
      = (∑ j', Real.exp (s q k g x i j' - M) / L * dw v ct g x i j') / L := by
    rw [Finset.sum_div]
    exact Finset.sum_congr rfl fun j' _ => by field_simp
  rw [e]
  field_simp
  ring

end AttnReal
-- ==== Proof.AttnKerReal.lean ====
/-
  What the kernels leave, over real arguments: the real attention and its gradients.
-/
module

public import proofs.«01_k».proof.Proof.AttnOut
public import proofs.«01_k».proof.Proof.AttnReal

@[expose] public section

set_option maxRecDepth 16384
set_option maxHeartbeats 1000000

noncomputable section

namespace Cert.AttnIdeal.Hand

open Cert.AttnIdeal Cert.AttnIdeal.Gen Idealize.ShloMosaic Idealize.ShloMosaic.TcCoe Idealize.SL.Sem
open scoped BigOperators

variable (q : Fin 4096 → Fin 16 → Fin 64 → ℝ) (k v : Fin 4096 → Fin 4 → Fin 64 → ℝ) (ct : Fin 4096 → Fin 1024 → ℝ)

/-- The group of a head and its place in the group. -/
abbrev gh (h : Fin 16) : Fin 4 := ⟨h.val / 4, by omega⟩
abbrev xh (h : Fin 16) : Fin 4 := ⟨h.val % 4, by omega⟩

theorem hx_gh (h : Fin 16) : AttnReal.hx (gh h) (xh h) = h := Fin.ext (by dsimp only; omega)

/-- The joint array of heads. -/
def heads : S24x4096x64.Idx → ℝ := fun y =>
  if h16 : (y 0).val < 16 then q (y 1) ⟨(y 0).val, h16⟩ (y 2)
  else if h20 : (y 0).val < 20 then k (y 1) ⟨(y 0).val - 16, by omega⟩ (y 2)
  else v (y 1) ⟨(y 0).val - 20, by have : (y 0).val < 24 := (y 0).isLt; omega⟩ (y 2)

theorem heads_q (h : Fin 16) (i : Fin 4096) (d : Fin 64) : heads q k v (ix3 (qh h) i d) = q i h d := dif_pos h.isLt

theorem heads_k (h : Fin 16) (i : Fin 4096) (d : Fin 64) : heads q k v (ix3 (kh h) i d) = k i (gh h) d := by
  refine (dif_neg (show ¬ (16 + h.val / 4 < 16) by omega)).trans ((dif_pos (show 16 + h.val / 4 < 20 by omega)).trans ?_)
  exact congrArg (fun g => k i g d) (Fin.ext (Nat.add_sub_cancel_left ..))

theorem heads_v (h : Fin 16) (i : Fin 4096) (d : Fin 64) : heads q k v (ix3 (vh h) i d) = v i (gh h) d := by
  refine (dif_neg (show ¬ (20 + h.val / 4 < 16) by omega)).trans ((dif_neg (show ¬ (20 + h.val / 4 < 20) by omega)).trans ?_)
  exact congrArg (fun g => v i g d) (Fin.ext (Nat.add_sub_cancel_left ..))

theorem score_eq (h : Fin 16) (i j : Fin 4096) : score (heads q k v) h i j = AttnReal.s q k (gh h) (xh h) i j := by
  unfold score AttnReal.s
  simp only [heads_q, heads_k, hx_gh]

theorem expsum_eq (h : Fin 16) (i : Fin 4096) : expsum (heads q k v) h i = AttnReal.es q k (gh h) (xh h) i := by
  unfold expsum AttnReal.es
  simp only [score_eq]

theorem mean_eq (h : Fin 16) (i : Fin 4096) (d : Fin 64) : mean (heads q k v) h i d = AttnReal.out q k v (gh h) (xh h) i d := by
  unfold mean AttnReal.out AttnReal.w
  simp only [score_eq, expsum_eq, heads_v, Finset.sum_div, div_mul_eq_mul_div]

section Back

variable {q k v ct} {x : Vec Ideal S24x4096x64 .bf16} {do_ : Vec Ideal S16x4096x64 .bf16}
  (hx : ∀ y : S24x4096x64.Idx, x y = (heads q k v y : EReal))
  (hdo : ∀ (h : Fin 16) (i : Fin 4096) (d : Fin 64), do_ (ix3 h i d) = (ct i (AttnReal.cx (gh h) (xh h) d) : EReal))

include hx in
theorem P_eq (h : Fin 16) (i j : Fin 4096) :
    P x (LSE (heads q k v)) h i j = (AttnReal.w q k (gh h) (xh h) i j : EReal) := by
  unfold P
  simp only [hx, ← EReal.coe_mul, ← SoftmaxReal.coe_sum]
  refine (SoftmaxReal.weight_real (score (heads q k v) h i j) (expsum_pos (heads q k v) h i)).trans ?_
  rw [score_eq, expsum_eq]
  rfl

include hx hdo in
theorem DS_eq (h : Fin 16) (i j : Fin 4096) : DS x (OUT (heads q k v)) (LSE (heads q k v)) do_ h i j
    = (AttnReal.ds q k v ct (gh h) (xh h) i j : EReal) := by
  have ho : ∀ d : Fin 64, OUT (heads q k v) (ix3 h i d) = (AttnReal.out q k v (gh h) (xh h) i d : EReal) := fun d =>
    congrArg (fun r : ℝ => (r : EReal)) (mean_eq q k v h i d)
  unfold DS
  rw [P_eq hx]
  simp only [hx, hdo, ho, heads_v, ← EReal.coe_mul, ← SoftmaxReal.coe_sum, ← EReal.coe_sub]
  rw [← AttnReal.sum_w_dw]
  rfl

include hx hdo in
theorem DQ_eq (h : Fin 16) (i : Fin 4096) (d : Fin 64) : DQ x (OUT (heads q k v)) (LSE (heads q k v)) do_ (ix3 h i d)
    = (AttnReal.dq q k v ct (gh h) (xh h) i d : EReal) := by
  refine (Finset.sum_congr rfl fun j _ => ?_ : _ = ∑ j, ((AttnReal.ds q k v ct (gh h) (xh h) i j * k j (gh h) d : ℝ) : EReal)).trans
    (SoftmaxReal.coe_sum _ _).symm
  exact (congrArg₂ (· * ·) (DS_eq hx hdo h i j) ((hx _).trans (congrArg (fun r : ℝ => (r : EReal)) (heads_k q k v h j d)))).trans
    (EReal.coe_mul _ _).symm

theorem gh_rowH (g : Fin 4) (r : Fin 512) : gh (rowH g r) = g := Fin.ext (by dsimp only; omega)
theorem xh_rowH (g : Fin 4) (r : Fin 512) : xh (rowH g r) = hd r := Fin.ext (by dsimp only; omega)

/-- The points' rows are the group's heads and queries. -/
theorem sum_rows (f : Fin 4 → Fin 4096 → ℝ) : ∑ s : Fin 32, ∑ r : Fin 512, f (hd r) (rowI s r) = ∑ x, ∑ i, f x i := by
  have h : ∀ s : Fin 32, ∑ r : Fin 512, f (hd r) (rowI s r) = ∑ x : Fin 4, ∑ p : Fin 128, f x ⟨128 * s.val + p.val, by omega⟩ :=
    fun s => Fin.sum_divmod_congr fun r _ _ => rfl
  rw [Finset.sum_congr rfl fun s _ => h s, Finset.sum_comm]
  exact Finset.sum_congr rfl fun x _ => Fin.sum_mul_add_congr fun s p _ =>
    congrArg (f x) (Fin.ext (by dsimp only; omega))

include hx hdo in
theorem DK_eq (g : Fin 4) (j : Fin 4096) (d : Fin 64) : DK x (OUT (heads q k v)) (LSE (heads q k v)) do_ (ix3 g j d)
    = (AttnReal.dk q k v ct g j d : EReal) := by
  have h : ∀ (s : Fin 32) (r : Fin 512), DS x (OUT (heads q k v)) (LSE (heads q k v)) do_ (rowH g r) (rowI s r) j
      * x (ix3 (qh (rowH g r)) (rowI s r) d)
      = ((AttnReal.ds q k v ct g (hd r) (rowI s r) j * q (rowI s r) (AttnReal.hx g (hd r)) d : ℝ) : EReal) := fun s r => by
    rw [DS_eq hx hdo, hx, heads_q, gh_rowH, xh_rowH, ← EReal.coe_mul]
    rw [show AttnReal.hx g (hd r) = rowH g r from Fin.ext (by dsimp only; omega)]
  refine (Finset.sum_congr rfl fun s _ => (Finset.sum_congr rfl fun r _ => h s r).trans (SoftmaxReal.coe_sum _ _).symm).trans ?_
  refine (SoftmaxReal.coe_sum _ _).symm.trans (congrArg (fun r : ℝ => (r : EReal)) ?_)
  exact sum_rows fun x i => AttnReal.ds q k v ct g x i j * q i (AttnReal.hx g x) d

include hx hdo in
theorem DV_eq (g : Fin 4) (j : Fin 4096) (d : Fin 64) : DV x (LSE (heads q k v)) do_ (ix3 g j d)
    = (AttnReal.dv q k ct g j d : EReal) := by
  have h : ∀ (s : Fin 32) (r : Fin 512), P x (LSE (heads q k v)) (rowH g r) (rowI s r) j * do_ (ix3 (rowH g r) (rowI s r) d)
      = ((AttnReal.w q k g (hd r) (rowI s r) j * ct (rowI s r) (AttnReal.cx g (hd r) d) : ℝ) : EReal) := fun s r => by
    rw [P_eq hx, hdo, gh_rowH, xh_rowH, ← EReal.coe_mul]
  refine (Finset.sum_congr rfl fun s _ => (Finset.sum_congr rfl fun r _ => h s r).trans (SoftmaxReal.coe_sum _ _).symm).trans ?_
  refine (SoftmaxReal.coe_sum _ _).symm.trans (congrArg (fun r : ℝ => (r : EReal)) ?_)
  exact sum_rows fun x i => AttnReal.w q k g x i j * ct i (AttnReal.cx g x d)

end Back

end Cert.AttnIdeal.Hand

end
-- ==== Proof.AttnRefReal.lean ====
module

public import proofs.«01_k».proof.Proof.Gen.AttnRefIdeal.Read
public import proofs.«01_k».proof.Proof.AttnReal

/-
  The reference at finite arguments: its softmax, its output and its three gradients are those of `AttnReal`.
-/

@[expose] public section

set_option maxRecDepth 16384
set_option maxHeartbeats 2000000

noncomputable section

namespace Cert.AttnRefIdeal.Hand

open Cert.AttnRefIdeal Cert.AttnRefIdeal.Gen Cert.AttnRefIdeal.Read Idealize.ShloMosaic Idealize.ShloMosaic.TcCoe Idealize.SL.Sem
open scoped BigOperators

variable {x0 : Vec Ideal S4096x16x64 .bf16} {x1 x2 : Vec Ideal S4096x4x64 .bf16} {x3 : Vec Ideal S4096x1024 .bf16}
  {q : Fin 4096 → Fin 16 → Fin 64 → ℝ} {k v : Fin 4096 → Fin 4 → Fin 64 → ℝ} {ct : Fin 4096 → Fin 1024 → ℝ}

theorem score_real (hq : ∀ i h d, x0 (ix3 i h d) = q i h d) (hk : ∀ j g d, x1 (ix3 j g d) = k j g d) (g x : Fin 4) (i j : Fin 4096) :
    val_main_v7 x0 x1 (ix4 g x i j) = (AttnReal.s q k g x i j : EReal) := by
  pointwise [val_main_v7, val_main_v4, val_main_v3, val_main_v0, val_main_v5, val_main_v1]
  simp only [hq, hk, ← EReal.coe_mul, ← SoftmaxReal.coe_sum]
  rfl

/-- The maximum over the keys, as a fold. -/
theorem fold_keys (y : Vec Ideal S4x4x4096x4096 .f32) (z : Vec Ideal S_ .f32) (g x : Fin 4) (i : Fin 4096) :
    (Host.reduce (FloatOps.maximumf (F := Ideal) (φ := .f32)) y z reducesTo_S4x4x4096x4096_S4x4x4096_d3 h_S_ : FVec Ideal S4x4x4096 .f32) (ix3 g x i)
      = Finset.fold (α := Fin 4096) (β := EReal) max (z (Shape.Idx.first h_S_) : EReal) (fun j => (y (ix4 g x i j) : EReal)) Finset.univ := by
  have h : S4x4x4096x4096.Reduces [3] S4x4x4096 := by decide
  have e : (fun j => y (h.lift (ix3 g x i) j)) = fun j => y (ix4 g x i j) :=
    funext fun j => congrArg y (funext fun a => Fin.ext (by match a with | ⟨0, _⟩ => rfl | ⟨1, _⟩ => rfl | ⟨2, _⟩ => rfl | ⟨3, _⟩ => rfl))
  have r := Host.reduce_eq_fold_single (FloatOps.maximumf (F := Ideal) (φ := .f32)) y z reducesTo_S4x4x4096x4096_S4x4x4096_d3 h h_S_ (ix3 g x i)
  exact r.trans (congrArg (fun f => Finset.fold (α := Fin 4096) (β := EReal) max (z (Shape.Idx.first h_S_) : EReal) f Finset.univ) e)

/-- The row's maximum is some real. -/
theorem top_real (hq : ∀ i h d, x0 (ix3 i h d) = q i h d) (hk : ∀ j g d, x1 (ix3 j g d) = k j g d) (g x : Fin 4) (i : Fin 4096) :
    ∃ M : ℝ, val_main_v8 x0 x1 (ix3 g x i) = M := by
  obtain ⟨M, hM⟩ := SoftmaxReal.fold_max (ι := Fin 4096) (fun j => val_main_v7 x0 x1 (ix4 g x i j)) (fun j => AttnReal.s q k g x i j)
    (score_real hq hk g x i) Finset.univ Finset.univ_nonempty
  have hbot : val_main_cst (F := Ideal) (Shape.Idx.first h_S_) = (⊥ : EReal) := by
    unfold val_main_cst
    pointwise []
    simp [Ideal.ofBits, Ideal.ieee]
  refine ⟨M, ?_⟩
  unfold val_main_v8
  rw [fold_keys, hbot]
  exact hM

theorem max_real (hq : ∀ i h d, x0 (ix3 i h d) = q i h d) (hk : ∀ j g d, x1 (ix3 j g d) = k j g d) (g x : Fin 4) (i : Fin 4096) :
    ∃ M : ℝ, val_main_v15 x0 x1 (ix3 g x i) = M := by
  obtain ⟨M, hM⟩ := top_real hq hk g x i
  have hbot : (Ideal.ofBits FTy.f32 0xFF800000#32 : EReal) = ⊥ := by simp [Ideal.ofBits, Ideal.ieee]
  refine ⟨M, ?_⟩
  rw [val_main_v15_apply, hM, val_main_v14_apply, val_main_cst_1_apply]
  exact (congrArg (max · (M : EReal)) hbot).trans (max_eq_right bot_le)

/-- The exponentials, shifted by one real for the row. -/
theorem exp_real (hq : ∀ i h d, x0 (ix3 i h d) = q i h d) (hk : ∀ j g d, x1 (ix3 j g d) = k j g d) (g x : Fin 4) (i : Fin 4096) :
    ∃ M : ℝ, (∀ j, val_main_v28 x0 x1 (ix4 g x i j) = (Real.exp (AttnReal.s q k g x i j - M) : EReal))
      ∧ val_main_v30 x0 x1 (ix4 g x i 0) = ((∑ j, Real.exp (AttnReal.s q k g x i j - M) : ℝ) : EReal) := by
  obtain ⟨M, hM⟩ := max_real hq hk g x i
  have h (j : Fin 4096) : val_main_v28 x0 x1 (ix4 g x i j) = (Real.exp (AttnReal.s q k g x i j - M) : EReal) := by
    rw [← SoftmaxReal.exp_sub, ← hM, ← score_real hq hk]
    pointwise [val_main_v28, val_main_v27, val_main_v26, val_main_v25]
  refine ⟨M, h, ?_⟩
  pointwise [val_main_v30, val_main_v29, val_main_cst_7]
  simp only [h, ← SoftmaxReal.coe_sum, Ideal.ofBits_zero_f32, zero_add]

theorem weight_real (hq : ∀ i h d, x0 (ix3 i h d) = q i h d) (hk : ∀ j g d, x1 (ix3 j g d) = k j g d) (g x : Fin 4) (i j : Fin 4096) :
    val_main_v32 x0 x1 (ix4 g x i j) = (AttnReal.w q k g x i j : EReal) := by
  obtain ⟨M, he, hl⟩ := exp_real hq hk g x i
  rw [← AttnReal.w_shift q k M, ← SoftmaxReal.div_real _ (SoftmaxReal.sum_exp_pos _).ne', ← hl, ← he]
  pointwise [val_main_v32, val_main_v31]

theorem ct_real (hc : ∀ i d, x3 (ix2 i d) = ct i d) (g x : Fin 4) (i : Fin 4096) (d : Fin 64) :
    val_main_v41 x3 (ix4 g x i d) = (ct i (AttnReal.cx g x d) : EReal) := by
  rw [← hc]
  pointwise [val_main_v41, val_main_v40, val_main_v39]

theorem dw_real (hv : ∀ j g d, x2 (ix3 j g d) = v j g d) (hc : ∀ i d, x3 (ix2 i d) = ct i d) (g x : Fin 4) (i j : Fin 4096) :
    val_main_v44 x2 x3 (ix4 g x i j) = (AttnReal.dw v ct g x i j : EReal) := by
  pointwise [val_main_v44, val_main_v6, val_main_v2]
  simp only [hv, ct_real hc, ← EReal.coe_mul, ← SoftmaxReal.coe_sum]
  rfl

/-- The score's gradient. -/
theorem ds_real (hq : ∀ i h d, x0 (ix3 i h d) = q i h d) (hk : ∀ j g d, x1 (ix3 j g d) = k j g d) (hv : ∀ j g d, x2 (ix3 j g d) = v j g d)
    (hc : ∀ i d, x3 (ix2 i d) = ct i d) (g x : Fin 4) (i j : Fin 4096) :
    val_main_v56 x0 x1 x2 x3 (ix4 g x i j) = (AttnReal.ds q k v ct g x i j : EReal) := by
  obtain ⟨M, he, hl⟩ := exp_real hq hk g x i
  have hL := (SoftmaxReal.sum_exp_pos fun j => AttnReal.s q k g x i j - M).ne'
  rw [← AttnReal.ds_shift q k v ct M]
  pointwise [val_main_v56, val_main_v55, val_main_v54, val_main_v53, val_main_v52, val_main_v51, val_main_v50, val_main_v49, val_main_v48, val_main_v47, val_main_v46, val_main_v45, val_main_v35, val_main_v34, val_main_v33, val_main_cst_8, val_main_cst_9, val_main_cst_10]
  simp only [he, hl, dw_real hv hc, Ideal.ofBits_zero_f32, Ideal.ofBits_one_f32, zero_add, Finset.univ_unique, Finset.sum_singleton, ← EReal.coe_mul]
  rw [← EReal.coe_one]
  simp only [SoftmaxReal.div_real _ hL, SoftmaxReal.div_real _ (mul_ne_zero hL hL), ← EReal.coe_mul, ← SoftmaxReal.coe_sum, ← EReal.coe_neg, ← EReal.coe_add]

/-- The four results. -/
theorem out_real (hq : ∀ i h d, x0 (ix3 i h d) = q i h d) (hk : ∀ j g d, x1 (ix3 j g d) = k j g d) (hv : ∀ j g d, x2 (ix3 j g d) = v j g d)
    (h : Fin 16) (i : Fin 4096) (d : Fin 64) :
    val_main_v65 x0 x1 x2 (ix3 h i d) = (AttnReal.out q k v ⟨h.val / 4, by omega⟩ ⟨h.val % 4, by omega⟩ i d : EReal) := by
  pointwise [val_main_v65, val_main_v64, val_main_v63, val_main_v38, val_main_v37, val_main_v36, val_main_v6, val_main_v2]
  simp only [weight_real hq hk, hv, ← EReal.coe_mul, ← SoftmaxReal.coe_sum]
  rfl

theorem dq_real (hq : ∀ i h d, x0 (ix3 i h d) = q i h d) (hk : ∀ j g d, x1 (ix3 j g d) = k j g d) (hv : ∀ j g d, x2 (ix3 j g d) = v j g d)
    (hc : ∀ i d, x3 (ix2 i d) = ct i d) (h : Fin 16) (i : Fin 4096) (d : Fin 64) :
    val_main_v66 x0 x1 x2 x3 (ix3 h i d) = (AttnReal.dq q k v ct ⟨h.val / 4, by omega⟩ ⟨h.val % 4, by omega⟩ i d : EReal) := by
  pointwise [val_main_v66, val_main_v62, val_main_v61, val_main_v58, val_main_v5, val_main_v1]
  simp only [ds_real hq hk hv hc, hk, ← EReal.coe_mul, ← SoftmaxReal.coe_sum]
  rfl

theorem dk_real (hq : ∀ i h d, x0 (ix3 i h d) = q i h d) (hk : ∀ j g d, x1 (ix3 j g d) = k j g d) (hv : ∀ j g d, x2 (ix3 j g d) = v j g d)
    (hc : ∀ i d, x3 (ix2 i d) = ct i d) (g : Fin 4) (j : Fin 4096) (d : Fin 64) :
    val_main_v67 x0 x1 x2 x3 (ix3 g j d) = (AttnReal.dk q k v ct g j d : EReal) := by
  pointwise [val_main_v67, val_main_v60, val_main_v57, val_main_v4, val_main_v3, val_main_v0]
  simp only [ds_real hq hk hv hc, hq, ← EReal.coe_mul, ← SoftmaxReal.coe_sum]
  rfl

theorem dv_real (hq : ∀ i h d, x0 (ix3 i h d) = q i h d) (hk : ∀ j g d, x1 (ix3 j g d) = k j g d)
    (hc : ∀ i d, x3 (ix2 i d) = ct i d) (g : Fin 4) (j : Fin 4096) (d : Fin 64) :
    val_main_v68 x0 x1 x3 (ix3 g j d) = (AttnReal.dv q k ct g j d : EReal) := by
  pointwise [val_main_v68, val_main_v59, val_main_v43, val_main_v42]
  simp only [weight_real hq hk, ct_real hc, ← EReal.coe_mul, ← SoftmaxReal.coe_sum]
  unfold AttnReal.dv
  simp only [mul_comm]

end Cert.AttnRefIdeal.Hand
-- ==== Proof.FiniteReal.lean ====
/-
  A number whose size is below the word of infinity is real.
-/
module

public import Idealize.ShloMosaic.Lib.Pointwise

@[expose] public section

namespace FiniteReal

open Idealize.ShloMosaic

/-- The word of infinity is infinity. -/
theorem word_top : Ideal.ofBits .f32 0x7F800000#32 = (⊤ : EReal) := by
  simp [Ideal.ofBits, Ideal.ieee]

theorem real_of_lt {x : EReal} (h : max x (-x) < ⊤) : ∃ r : ℝ, x = r := by
  induction x with
  | bot => simp at h
  | top => simp at h
  | coe r => exact ⟨r, rfl⟩

theorem real_of_cmp {x : EReal} (h : Ideal.cmp .olt (max x (-x)) (Ideal.ofBits .f32 0x7F800000#32) = 1#1) : ∃ r : ℝ, x = r := by
  rw [word_top] at h
  by_contra hn
  have hx : ¬ max x (-x) < ⊤ := fun hl => hn (real_of_lt hl)
  simp [Ideal.cmp, hx] at h

end FiniteReal
-- ==== Proof.AttnClaim.lean ====
/-
  The claims about the self-attention: forward and backward kernel together, at finite arguments.
-/
module

public import proofs.«01_k».proof.Defs
public import proofs.«01_k».proof.Proof.Gen.Attn.Frame
public import proofs.«01_k».proof.Proof.Gen.AttnRefIdeal.Run
public import proofs.«01_k».proof.Proof.AttnRun
public import proofs.«01_k».proof.Proof.AttnKerReal
public import proofs.«01_k».proof.Proof.AttnRefReal
public import proofs.«01_k».proof.Proof.FiniteReal
public import Idealize.ShloMosaic.Lib.Quiescent

@[expose] public section

set_option maxRecDepth 16384
set_option maxHeartbeats 1000000

noncomputable section

namespace Cert.Proof.Attn

open Idealize.ShloMosaic Idealize.ShloMosaic.TcCoe Idealize.SL.Sem

theorem pre_facts : Cert.Pre_attn_finite.Facts where
  bitsLt_bf16_f32 := by decide
  bcast_S_S4096x16x64 := by decide
  bcast_S_S4096x4x64 := by decide
  bcast_S_S4096x1024 := by decide

theorem frame : Cert.quiescent_Attn := fun m ρ _ => Cert.Attn.Gen.frame m ρ
theorem frameIdeal : Cert.quiescent_AttnIdeal := fun m ρ _ => Cert.AttnIdeal.Gen.frame m ρ
theorem frameIdealPre : Cert.quiescent_AttnIdeal_pre_attn_finite (hPre_attn_finite := pre_facts) := fun m ρ _ => Cert.AttnIdeal.Gen.frame m ρ
theorem frameRef : Cert.quiescent_AttnRefIdeal := fun m ρ _ =>
  (θ_run Cert.AttnRefIdeal.defs _ _).mono (fun r h => ⟨fun c => (h c).2.2.2.2, sem_eq_zero_of_no_sems (by decide) r.2⟩)
    (Cert.AttnRefIdeal.Value.run (F := Ideal) m ρ)
theorem frameRefPre : Cert.quiescent_AttnRefIdeal_pre_attn_finite (hPre_attn_finite := pre_facts) := fun m ρ _ => frameRef m ρ trivial
theorem preserves : Cert.preserves_Attn_AttnIdeal := trivial

section Finite

open Cert.AttnIdeal

variable (m : (ℓ : Loc nD τ sig) → Buf (Elt Ideal) ℓ) (c : Dev nD)

/-- The precondition says that every entry of the four arguments is real. -/
theorem reals (h : Cert.Pre_AttnIdeal_attn_finite (hPre_attn_finite := pre_facts) m) :
    ∃ (q : Fin 4096 → Fin 16 → Fin 64 → ℝ) (k v : Fin 4096 → Fin 4 → Fin 64 → ℝ) (ct : Fin 4096 → Fin 1024 → ℝ),
      (∀ i h d, m ((c : Thread nD τ).loc main_arg0) (ix3 i h d) = (q i h d : EReal))
      ∧ (∀ i g d, m ((c : Thread nD τ).loc main_arg1) (ix3 i g d) = (k i g d : EReal))
      ∧ (∀ i g d, m ((c : Thread nD τ).loc main_arg2) (ix3 i g d) = (v i g d : EReal))
      ∧ ∀ i d, m ((c : Thread nD τ).loc main_arg3) (ix2 i d) = (ct i d : EReal) := by
  obtain ⟨h0, h1, h2, h3⟩ := h c
  have r0 : ∀ y, ∃ r : ℝ, m ((c : Thread nD τ).loc main_arg0) y = (r : EReal) := fun y => FiniteReal.real_of_cmp (congrFun h0 y)
  have r1 : ∀ y, ∃ r : ℝ, m ((c : Thread nD τ).loc main_arg1) y = (r : EReal) := fun y => FiniteReal.real_of_cmp (congrFun h1 y)
  have r2 : ∀ y, ∃ r : ℝ, m ((c : Thread nD τ).loc main_arg2) y = (r : EReal) := fun y => FiniteReal.real_of_cmp (congrFun h2 y)
  have r3 : ∀ y, ∃ r : ℝ, m ((c : Thread nD τ).loc main_arg3) y = (r : EReal) := fun y => FiniteReal.real_of_cmp (congrFun h3 y)
  choose q hq using r0
  choose k hk using r1
  choose v hv using r2
  choose ct hct using r3
  exact ⟨fun i h d => q (ix3 i h d), fun i g d => k (ix3 i g d), fun i g d => v (ix3 i g d), fun i d => ct (ix2 i d),
    fun i h d => hq _, fun i g d => hk _, fun i g d => hv _, fun i d => hct _⟩

end Finite

section Run

open Cert.AttnIdeal Cert.AttnIdeal.Gen Cert.AttnIdeal.Hand

variable {m : (ℓ : Loc nD τ sig) → Buf (Elt Ideal) ℓ} (ρ : Dev nD → PrngReg) {c : Dev nD}
  {q : Fin 4096 → Fin 16 → Fin 64 → ℝ} {k v : Fin 4096 → Fin 4 → Fin 64 → ℝ} {ct : Fin 4096 → Fin 1024 → ℝ}

/-- The joint array of heads holds the queries, the keys and the values. -/
theorem heads_eq (hq : ∀ i h d, m ((c : Thread nD τ).loc main_arg0) (ix3 i h d) = (q i h d : EReal))
    (hk : ∀ i g d, m ((c : Thread nD τ).loc main_arg1) (ix3 i g d) = (k i g d : EReal))
    (hv : ∀ i g d, m ((c : Thread nD τ).loc main_arg2) (ix3 i g d) = (v i g d : EReal)) (y : S24x4096x64.Idx) :
    V1 m ρ c main_v3 y = (heads q k v y : EReal) := by
  obtain ⟨h, i, d, rfl⟩ : ∃ (h : Fin 24) (i : Fin 4096) (d : Fin 64), y = ix3 h i d := ⟨y 0, y 1, y 2, eq_ix3 y⟩
  refine (qkv_eq m ρ c h i d).trans ?_
  by_cases h1 : h.val < 16
  · rw [dif_pos h1, hq]
    have e : heads q k v (ix3 h i d) = q i ⟨h.val, h1⟩ d := dif_pos h1
    rw [e]
  rw [dif_neg h1]
  by_cases h2 : h.val < 20
  · rw [dif_pos h2, hk]
    have e : heads q k v (ix3 h i d) = k i ⟨h.val - 16, by omega⟩ d := (dif_neg h1).trans (dif_pos h2)
    rw [e]
  rw [dif_neg h2, hv]
  have e : heads q k v (ix3 h i d) = v i ⟨h.val - 20, by omega⟩ d := (dif_neg h1).trans (dif_neg h2)
  rw [e]

/-- The second kernel's cotangent, head by head. -/
theorem cot_eq (hc : ∀ i d, m ((c : Thread nD τ).loc main_arg3) (ix2 i d) = (ct i d : EReal)) (h : Fin 16) (i : Fin 4096) (d : Fin 64) :
    V3 m ρ c main_v6 (ix3 h i d) = (ct i (AttnReal.cx (gh h) (xh h) d) : EReal) :=
  (do_eq m ρ c h i d).trans ((hc i _).trans (congrArg (fun r => ((ct i r : ℝ) : EReal)) (Fin.ext (by dsimp only; omega))))

end Run

open Cert.AttnIdeal.Hand Cert.AttnRefIdeal.Hand in
theorem algebraic : Cert.algebraic_AttnIdeal_AttnRefIdeal_pre_attn_finite (hPre_attn_finite := pre_facts) := by
  intro m ρ m' ρ' hpre hagree
  choose q k v ct hq hk hv hc using fun c => reals m c hpre
  have hX := fun c => heads_eq ρ (hq c) (hk c) (hv c)
  have hd := fun c => cot_eq ρ (hc c)
  refine ⟨fun c => OUT (heads (q c) (k c) (v c)), fun c => DQ _ (OUT (heads (q c) (k c) (v c))) (LSE (heads (q c) (k c) (v c))) _,
    fun c => DK _ (OUT (heads (q c) (k c) (v c))) (LSE (heads (q c) (k c) (v c))) _, fun c => DV _ (LSE (heads (q c) (k c) (v c))) _,
    (θ_run Cert.AttnIdeal.defs _ _).mono (fun r h c => results_eq m ρ c _ (hX c) r.2.mem (h c)) (run_buffers m ρ),
    (θ_run Cert.AttnRefIdeal.defs _ _).mono (fun _ h c => ⟨(h c).1.trans ?_, (h c).2.1.trans ?_, (h c).2.2.1.trans ?_, (h c).2.2.2.1.trans ?_, (h c).2.2.2.2⟩)
      (Cert.AttnRefIdeal.Value.run (F := Ideal) m' ρ')⟩
  · rw [Cert.AttnRefIdeal.Read.val_main_v65_eq, (hagree c).1, (hagree c).2.1, (hagree c).2.2.1]
    refine funext fun (y : Cert.AttnRefIdeal.S16x4096x64.Idx) => ?_
    obtain ⟨h, i, d, rfl⟩ : ∃ (h : Fin 16) (i : Fin 4096) (d : Fin 64), y = ix3 h i d := ⟨y 0, y 1, y 2, eq_ix3 y⟩
    exact (out_real (hq c) (hk c) (hv c) h i d).trans (congrArg (fun r : ℝ => (r : EReal)) (mean_eq (q c) (k c) (v c) h i d).symm)
  · rw [Cert.AttnRefIdeal.Read.val_main_v66_eq, (hagree c).1, (hagree c).2.1, (hagree c).2.2.1, (hagree c).2.2.2]
    refine funext fun (y : Cert.AttnRefIdeal.S16x4096x64.Idx) => ?_
    obtain ⟨h, i, d, rfl⟩ : ∃ (h : Fin 16) (i : Fin 4096) (d : Fin 64), y = ix3 h i d := ⟨y 0, y 1, y 2, eq_ix3 y⟩
    exact (dq_real (hq c) (hk c) (hv c) (hc c) h i d).trans (DQ_eq (hX c) (hd c) h i d).symm
  · rw [Cert.AttnRefIdeal.Read.val_main_v67_eq, (hagree c).1, (hagree c).2.1, (hagree c).2.2.1, (hagree c).2.2.2]
    refine funext fun (y : Cert.AttnRefIdeal.S4x4096x64.Idx) => ?_
    obtain ⟨g, j, d, rfl⟩ : ∃ (g : Fin 4) (j : Fin 4096) (d : Fin 64), y = ix3 g j d := ⟨y 0, y 1, y 2, eq_ix3 y⟩
    exact (dk_real (hq c) (hk c) (hv c) (hc c) g j d).trans (DK_eq (hX c) (hd c) g j d).symm
  · rw [Cert.AttnRefIdeal.Read.val_main_v68_eq, (hagree c).1, (hagree c).2.1, (hagree c).2.2.2]
    refine funext fun (y : Cert.AttnRefIdeal.S4x4096x64.Idx) => ?_
    obtain ⟨g, j, d, rfl⟩ : ∃ (g : Fin 4) (j : Fin 4096) (d : Fin 64), y = ix3 g j d := ⟨y 0, y 1, y 2, eq_ix3 y⟩
    exact (dv_real (hq c) (hk c) (hc c) g j d).trans (DV_eq (hX c) (hd c) g j d).symm

end Cert.Proof.Attn

end
-- ==== Proof.RmsGrad.lean ====
/-
  The gradient of the root-mean-square norm, over the extended reals.

  A row `x` is scaled by `ρ = rsqrt (mean(x²) + ε)` and multiplied by a gain. Of the cotangent times the gain, `D`, the
  kernels form `ρ·(D − x·ρ·mean(D·(x·ρ)))`; differentiating the norm's own lines gives
  `D·ρ + x·T + T·x` with `T = (Σ x·D)·(−½·ρ/(mean(x²)+ε)) / n`.
  The two agree for EVERY row and cotangent, infinite entries included: a row with an infinite entry has `ρ = 0`
  and both sides are zero, and for a row of reals everything multiplied into the cotangent's sum is a real.
  No program is named here.
-/
module

public import Idealize.ShloMosaic.Lib.IdealHost
public import Idealize.ShloMosaic.PureOps.Ideal
public import Mathlib.Data.EReal.Inv

@[expose] public section

noncomputable section

namespace Cert.RmsGrad

open Idealize.ShloMosaic
open scoped BigOperators

/-- 1024.0 -/
theorem word_1024 : Ideal.ofBits .f32 1149239296#32 = ((1024 : ℝ) : EReal) := by
  simp [Ideal.ofBits, Ideal.ieee, -EReal.coe_mul]; norm_num

/-- −0.5 -/
theorem word_neg_half : Ideal.ofBits .f32 3204448256#32 = ((-(1 / 2) : ℝ) : EReal) := by
  simp [Ideal.ofBits, Ideal.ieee, -EReal.coe_mul, -EReal.coe_neg]; norm_num

/-- The word of 1e-6 is a positive real. -/
theorem word_eps : ∃ e : ℝ, 0 < e ∧ Ideal.ofBits .f32 897988541#32 = (e : EReal) := by
  refine ⟨_, ?_, by simp [Ideal.ofBits, Ideal.ieee, -EReal.coe_mul]; rfl⟩
  norm_num

/-- A nonnegative real factor goes into a sum, whatever the summands. -/
theorem coe_mul_sum {ι : Type*} (s : Finset ι) {r : ℝ} (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, ← ih,
      EReal.left_distrib_of_nonneg_of_ne_top (EReal.coe_nonneg.mpr hr) (EReal.coe_ne_top r)]

/-- Twice a real multiple of an extended real. -/
theorem coe_mul_twice (a : ℝ) (s : EReal) : (a : EReal) * s + (a : EReal) * s = ((2 * a : ℝ) : EReal) * s := by
  rcases le_total 0 a with h | h
  · rw [← EReal.right_distrib_of_nonneg (EReal.coe_nonneg.mpr h) (EReal.coe_nonneg.mpr h), ← EReal.coe_add, two_mul]
  · have h' : 0 ≤ -a := by linarith
    have e := EReal.right_distrib_of_nonneg (c := -s) (EReal.coe_nonneg.mpr h') (EReal.coe_nonneg.mpr h')
    rw [← EReal.coe_add] at e
    simp only [EReal.coe_neg, neg_mul_neg] at e
    rw [← e, show (-a + -a : ℝ) = -(2 * a) by ring, EReal.coe_neg, neg_mul_neg]

variable {n : ℕ}

/-- The row's mean square plus ε: the argument of the reciprocal root. -/
def msq (c e : EReal) (x : Fin n → EReal) : EReal := Ideal.div (∑ k, x k * x k) c + e

/-- A square is never −∞, and it is real only when its root is. -/
theorem sq_cases (y : EReal) : y * y = ⊤ ∨ ∃ r : ℝ, y = r := by
  induction y with
  | bot => left; rfl
  | top => left; rfl
  | coe r => exact .inr ⟨r, rfl⟩

theorem sq_nonneg (y : EReal) : 0 ≤ y * y := by
  rcases le_total 0 y with h | h
  · exact mul_nonneg h h
  · have := mul_nonneg (EReal.neg_nonneg.mpr h) (EReal.neg_nonneg.mpr h)
    rwa [neg_mul_neg] at this

/-- Either the mean square is +∞, or the row is of reals and it is a positive real. -/
theorem msq_cases {C e : ℝ} (hC : 0 < C) (he : 0 < e) (x : Fin n → EReal) :
    msq (C : EReal) (e : EReal) x = ⊤ ∨ ∃ (X : Fin n → ℝ) (M : ℝ), (∀ k, x k = (X k : EReal)) ∧ 0 < M ∧ msq (C : EReal) (e : EReal) x = (M : EReal) := by
  by_cases hx : ∃ k, x k * x k = ⊤
  · left
    obtain ⟨k, hk⟩ := hx
    have hs : ∑ k, x k * x k = ⊤ := by
      refine top_le_iff.mp ?_
      rw [← hk]
      exact Finset.single_le_sum (f := fun k => x k * x k) (fun i _ => sq_nonneg (x i)) (Finset.mem_univ k)
    rw [msq, hs, Ideal.div_coe hC.ne', EReal.top_mul_coe_of_pos (by positivity)]
    rfl
  · right
    have hx' : ∀ k, ∃ r : ℝ, x k = r := fun k => (sq_cases (x k)).resolve_left fun h => hx ⟨k, h⟩
    choose X hX using hx'
    refine ⟨X, (∑ k, X k * X k) * (1 / C) + e, hX, ?_, ?_⟩
    · have : 0 ≤ ∑ k, X k * X k := Finset.sum_nonneg fun k _ => mul_self_nonneg (X k)
      positivity
    · have hs : ∑ k, x k * x k = ((∑ k, X k * X k : ℝ) : EReal) := by
        simp only [hX, ← EReal.coe_mul]
        exact (map_sum (⟨⟨((↑) : ℝ → EReal), EReal.coe_zero⟩, EReal.coe_add⟩ : ℝ →+ EReal) _ _).symm
      rw [msq, hs, Ideal.div_coe hC.ne', ← EReal.coe_mul, ← EReal.coe_add]

/-- The reciprocal root of a row, as both programs spell it at 1024 columns. -/
def inv (x : Fin n → EReal) : EReal :=
  Ideal.rsqrt (Ideal.div (∑ k, x k * x k) (Ideal.ofBits .f32 1149239296#32) + Ideal.ofBits .f32 897988541#32)

/-- The kernels' gradient at one entry of a row, of the cotangent times the gain `D`. -/
def dx (x D : Fin n → EReal) (l : Fin n) : EReal :=
  inv x * (D l - x l * inv x * Ideal.div (∑ k, D k * (x k * inv x)) (Ideal.ofBits .f32 1149239296#32))

/-- What differentiating the mean square contributes, once for each of the two factors of a square. -/
def half (x D : Fin n → EReal) : EReal :=
  Ideal.div ((∑ k, x k * D k) * (Ideal.ofBits .f32 3204448256#32 * Ideal.div (inv x)
    (Ideal.div (∑ k, x k * x k) (Ideal.ofBits .f32 1149239296#32) + Ideal.ofBits .f32 897988541#32)))
    (Ideal.ofBits .f32 1149239296#32)

/-- The norm's gradient at one entry of a row: what the kernels compute is the derivative of the norm's lines. -/
theorem dx_eq (x D : Fin n → EReal) (l : Fin n) :
    dx x D l = D l * inv x + x l * half x D + half x D * x l := by
  obtain ⟨e, he, hw⟩ := word_eps
  have hC : (0 : ℝ) < 1024 := by norm_num
  generalize hCe : (1024 : ℝ) = C at hC
  have hm : Ideal.div (∑ k, x k * x k) (Ideal.ofBits .f32 1149239296#32) + Ideal.ofBits .f32 897988541#32
      = msq (C : EReal) (e : EReal) x := by rw [word_1024, hw, hCe, msq]
  rw [dx, half, inv, hm, word_1024, word_neg_half, hCe]
  rcases msq_cases hC he x with h | ⟨X, M, hX, hM, h⟩
  · simp [h, Ideal.div_coe hC.ne', Ideal.div, hC.ne']
  · set S : EReal := ∑ k, x k * D k with hS
    set R : ℝ := (Real.sqrt M)⁻¹ with hR
    have hRpos : 0 < R := by rw [hR]; positivity
    have hr : Ideal.rsqrt (M : EReal) = (R : EReal) := by
      rw [Ideal.rsqrt_coe, if_neg (not_lt.mpr hM.le), if_neg hM.ne']
    have hRM : R * R * M = 1 := by
      rw [hR]; rw [← mul_inv, Real.mul_self_sqrt hM.le]; field_simp
    have hsum : ∑ k, D k * (x k * (R : EReal)) = (R : EReal) * S := by
      rw [hS, coe_mul_sum _ hRpos.le]
      exact Finset.sum_congr rfl fun k _ => by rw [← mul_assoc, mul_comm (D k * x k), mul_comm (D k)]
    rw [h, hr, hsum, Ideal.div_coe hC.ne', Ideal.div_coe hC.ne', Ideal.div_coe hM.ne', hX l, sub_eq_add_neg,
      EReal.left_distrib_of_nonneg_of_ne_top (EReal.coe_nonneg.mpr hRpos.le) (EReal.coe_ne_top R), mul_comm (D l), add_assoc]
    congr 1
    have hl : (X l : EReal) * (S * (((-(1 / 2) : ℝ) : EReal) * ((R : EReal) * ((1 / M : ℝ) : EReal))) * ((1 / C : ℝ) : EReal))
        = ((X l * (-(1 / 2)) * R * (1 / M) * (1 / C) : ℝ) : EReal) * S := by
      push_cast; ac_rfl
    have hk : (R : EReal) * -((X l : EReal) * (R : EReal) * ((R : EReal) * S * ((1 / C : ℝ) : EReal)))
        = ((-(R * X l * R * R * (1 / C)) : ℝ) : EReal) * S := by
      rw [mul_neg, EReal.coe_neg, EReal.neg_mul]
      congr 1
      push_cast; ac_rfl
    rw [mul_comm (S * _ * _) (X l : EReal), hl, coe_mul_twice, hk]
    congr 2
    have : 1 / M = R * R := by rw [← hRM]; field_simp
    rw [this]; ring

/-- The same with the residual's gradient beside it. -/
theorem dx_add (x D : Fin n → EReal) (l : Fin n) (d : EReal) :
    dx x D l + d = d + D l * inv x + x l * half x D + half x D * x l := by
  rw [dx_eq, add_comm _ d, ← add_assoc, ← add_assoc]

end Cert.RmsGrad

end
-- ==== Proof.NormResValue.lean ====
/-
  The pooling layer's norm gradient (`NormRes`): what the kernel leaves in its two result arrays, and that the
  reference computes the same. The gradient of the rows is written block by block; the gradient of the gain is
  accumulated over the eight row blocks. No precondition: `RmsGrad.dx_eq` holds of every row.
-/
module

public import proofs.«01_k».proof.Proof.Gen.NormResIdeal.Value
public import proofs.«01_k».proof.Proof.Gen.NormResRefIdeal.Run
public import proofs.«01_k».proof.Proof.RmsGrad
public import Idealize.ShloMosaic.Lib.Pointwise
public import Idealize.ShloMosaic.Lib.Pipeline.ValueKit

@[expose] public section

set_option maxRecDepth 16384

noncomputable section

namespace Cert.NormResIdeal.Hand

open Cert.NormResIdeal Cert.NormResIdeal.Gen Idealize.ShloMosaic Idealize.ShloMosaic.TcCoe Idealize.SL.Sem
open scoped BigOperators

/-- The gradient of the rows: the norm's own gradient plus the residual's cotangent. -/
def DX (x : Vec Ideal S4096x1024 .f32) (g : Vec Ideal S1x1024 .f32) (dh dres : Vec Ideal S4096x1024 .f32) :
    Vec Ideal S4096x1024 .f32 := fun i =>
  RmsGrad.dx (fun k : Fin 1024 => x (ix2 (i 0) k)) (fun k => dh (ix2 (i 0) k) * g (ix2 0 k)) (i 1) + dres i

/-- The gradient of the gain: over all rows, the cotangent times the scaled row. -/
def DG (x dh : Vec Ideal S4096x1024 .f32) : Vec Ideal S1x1024 .f32 := fun i =>
  ∑ r : Fin 4096, dh (ix2 r (i 1)) * (x (ix2 r (i 1)) * RmsGrad.inv fun k : Fin 1024 => x (ix2 r k))

/-- An entry of `DX` as the chain rule of the norm's lines spells it. -/
theorem DX_apply (x : Vec Ideal S4096x1024 .f32) (g : Vec Ideal S1x1024 .f32) (dh dres : Vec Ideal S4096x1024 .f32)
    (r : Fin 4096) (l : Fin 1024) : DX x g dh dres (ix2 r l)
      = dres (ix2 r l) + dh (ix2 r l) * g (ix2 0 l) * RmsGrad.inv (fun k : Fin 1024 => x (ix2 r k))
        + x (ix2 r l) * RmsGrad.half (fun k : Fin 1024 => x (ix2 r k)) (fun k => dh (ix2 r k) * g (ix2 0 k))
        + RmsGrad.half (fun k : Fin 1024 => x (ix2 r k)) (fun k => dh (ix2 r k) * g (ix2 0 k)) * x (ix2 r l) :=
  RmsGrad.dx_add (fun k : Fin 1024 => x (ix2 r k)) (fun k => dh (ix2 r k) * g (ix2 0 k)) l (dres (ix2 r l))

variable (m : (ℓ : Loc nD τ sig) → Buf (Elt Ideal) ℓ)

theorem idx : ∀ t, win0_0.index t = ![t.val, 0] ∧ win0_1.index t = ![0, 0] ∧ win0_2.index t = ![t.val, 0]
    ∧ win0_3.index t = ![t.val, 0] ∧ win0_4.index t = ![t.val, 0] ∧ win0_5.index t = ![0, 0] := by decide +kernel

theorem pay_dx (x dh : Vec Ideal S512x1024 .f32) (g : Vec Ideal S1x1024 .f32) (dres : Vec Ideal S512x1024 .f32) (r : Fin 512) (l : Fin 1024) :
    k0_pay5 x dh g dres (ix2 r l)
      = RmsGrad.dx (fun k : Fin 1024 => x (ix2 r k)) (fun k => dh (ix2 r k) * g (ix2 0 k)) l + dres (ix2 r l) := by
  pointwise [k0_pay5, k0_pay2, k0_pay1]
  rfl

theorem pay_dg (x dh : Vec Ideal S512x1024 .f32) (acc : Vec Ideal S1x1024 .f32) (y : S1x1024.Idx) :
    k0_pay4 x dh acc y
      = acc y + ∑ r : Fin 512, dh (ix2 r (y 1)) * (x (ix2 r (y 1)) * RmsGrad.inv fun k : Fin 1024 => x (ix2 r k)) := by
  pointwise [k0_pay4, k0_pay2, k0_pay1]
  rfl

theorem dx_array (c : Dev nD) : (dats m 0 c).arrAt 4 cfg0.N
    = DX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf (y : S512x1024.Idx) => ?_
  blk_simp
  rw [after0_4]
  have e : (outsAt0 m c t.val t.isLt).1 = k0_pay5 (iblk m c 0 t) (iblk m c 2 t) (iblk m c 1 t) (iblk m c 3 t) := by
    by_cases h : t.val % 8 = 0
    · rw [outsAt0_A m c t h]; frame_out
    · rw [outsAt0_B m c t h]; frame_out
  obtain ⟨r, l, rfl⟩ : ∃ (r : Fin 512) (l : Fin 1024), y = ix2 r l := ⟨y 0, y 1, eq_ix2 y⟩
  rw [e, pay_dx]
  unfold DX
  blk_point [iblk, V, idx t]

theorem dg_array (c : Dev nD) : (dats m 0 c).arrAt 5 cfg0.N
    = DG (m ((c : Thread nD τ).loc main_arg0)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0) _
      (fun t h j => by rw [outsAt0_A m c t h]; frame_out; rw [pay_dg]; pointwise [k0_pay3]; rfl)
      (fun t h j => by rw [outsAt0_B m c t h]; frame_out; rw [pay_dg])
      (le_of_eq N_0) t0_7 rfl j, zero_add]
  unfold DG
  refine Fin.sum_mul_add_congr (S := 8) (n := 512) fun t r ht => ?_
  blk_point [iblk, V, idx t]

end Cert.NormResIdeal.Hand

end
-- ==== Proof.NormResClaim.lean ====
/-
  The claims about the pooling layer's norm gradient.
-/
module

public import proofs.«01_k».proof.Defs
public import proofs.«01_k».proof.Proof.Gen.NormRes.Frame
public import proofs.«01_k».proof.Proof.NormResValue
public import Idealize.ShloMosaic.Lib.Quiescent

@[expose] public section

set_option maxRecDepth 16384

noncomputable section

namespace Cert.NormResRefIdeal.Hand

open Cert.NormResRefIdeal Cert.NormResRefIdeal.Value Idealize.ShloMosaic Idealize.ShloMosaic.TcCoe Idealize.SL.Sem

/-- The reference's rows: the derivative of the norm's lines, read entry by entry. -/
theorem dx_result (m : (ℓ : Loc nD τ sig) → Buf (Elt Ideal) ℓ) (c : Dev nD) : res_main_v37 m c
    = NormResIdeal.Hand.DX (m ((c : Thread nD τ).loc main_arg0)) (m ((c : Thread nD τ).loc main_arg1)) (m ((c : Thread nD τ).loc main_arg2)) (m ((c : Thread nD τ).loc main_arg3)) := by
  refine funext fun (i : S4096x1024.Idx) => ?_
  obtain ⟨r, l, rfl⟩ : ∃ (r : Fin 4096) (l : Fin 1024), i = ix2 r l := ⟨i 0, i 1, eq_ix2 i⟩
  rw [NormResIdeal.Hand.DX_apply]
  unfold res_main_v37
  pointwise
  simp only [Finset.univ_unique, Finset.sum_singleton]
  rfl

end Cert.NormResRefIdeal.Hand

namespace Cert.Proof.NormRes

open Idealize.ShloMosaic Idealize.ShloMosaic.TcCoe Idealize.SL.Sem

theorem frame : Cert.quiescent_NormRes := fun m ρ _ => Cert.NormRes.Gen.frame m ρ
theorem frameIdeal : Cert.quiescent_NormResIdeal := fun m ρ _ => Cert.NormResIdeal.Gen.frame m ρ
theorem frameRef : Cert.quiescent_NormResRefIdeal := fun m ρ _ =>
  (θ_run Cert.NormResRefIdeal.defs _ _).mono (fun r h => ⟨fun c => (h c).2.2, sem_eq_zero_of_no_sems (by decide) r.2⟩)
    (Cert.NormResRefIdeal.Value.run (F := Ideal) m ρ)
theorem preserves : Cert.preserves_NormRes_NormResIdeal := trivial

theorem algebraic : Cert.algebraic_NormResIdeal_NormResRefIdeal := by
  intro m ρ m' ρ' _ hagree
  refine ⟨fun c => Cert.NormResIdeal.Hand.DX _ _ _ _, fun c => Cert.NormResIdeal.Hand.DG _ _,
    (θ_run Cert.NormResIdeal.defs _ _).mono (fun _ h c => ⟨(h c).1.trans (Cert.NormResIdeal.Hand.dx_array m c),
      (h c).2.1.trans (Cert.NormResIdeal.Hand.dg_array m c), (h c).2.2⟩) (Cert.NormResIdeal.Value.run_blocks (F := Ideal) m ρ),
    (θ_run Cert.NormResRefIdeal.defs _ _).mono (fun _ h c => ⟨(h c).1.trans ?_, (h c).2.1.trans ?_, (h c).2.2⟩)
      (Cert.NormResRefIdeal.Value.run (F := Ideal) m' ρ')⟩
  · rw [Cert.NormResRefIdeal.Hand.dx_result, (hagree c).1, (hagree c).2.1, (hagree c).2.2.1, (hagree c).2.2.2]
  · rw [(hagree c).1, (hagree c).2.2.1]
    refine funext fun (i : Cert.NormResRefIdeal.S1x1024.Idx) => ?_
    unfold Cert.NormResIdeal.Hand.DG
    pointwise
    simp only [Finset.univ_unique, Finset.sum_singleton]
    exact Finset.sum_congr rfl fun r _ => mul_comm _ _

end Cert.Proof.NormRes

end
-- ==== Proof.NormMemValue.lean ====
/-
  The memory's norm gradient (`NormMem`): one block holds the whole memory, so what the kernel leaves is what its one
  point stores. No precondition: `RmsGrad.dx_eq` holds of every row.
-/
module

public import proofs.«01_k».proof.Proof.Gen.NormMemIdeal.Value
public import proofs.«01_k».proof.Proof.Gen.NormMemRefIdeal.Run
public import proofs.«01_k».proof.Proof.RmsGrad
public import Idealize.ShloMosaic.Lib.Pointwise
public import Idealize.ShloMosaic.Lib.Pipeline.ValueKit

@[expose] public section

set_option maxRecDepth 16384

noncomputable section

namespace Cert.NormMemIdeal.Hand

open Cert.NormMemIdeal Cert.NormMemIdeal.Gen Idealize.ShloMosaic Idealize.ShloMosaic.TcCoe Idealize.SL.Sem
open scoped BigOperators

/-- The gradient of the memory's rows. -/
def DX (x : Vec Ideal S256x1024 .f32) (g : Vec Ideal S1x1024 .f32) (dh : Vec Ideal S256x1024 .f32) : Vec Ideal S256x1024 .f32 :=
  fun i => RmsGrad.dx (fun k : Fin 1024 => x (ix2 (i 0) k)) (fun k => dh (ix2 (i 0) k) * g (ix2 0 k)) (i 1)

/-- The gradient of the gain. -/
def DG (x dh : Vec Ideal S256x1024 .f32) : Vec Ideal S1x1024 .f32 := fun i =>
  ∑ r : Fin 256, dh (ix2 r (i 1)) * (x (ix2 r (i 1)) * RmsGrad.inv fun k : Fin 1024 => x (ix2 r k))

/-- An entry of `DX` as the chain rule of the norm's lines spells it. -/
theorem DX_apply (x : Vec Ideal S256x1024 .f32) (g : Vec Ideal S1x1024 .f32) (dh : Vec Ideal S256x1024 .f32)
    (r : Fin 256) (l : Fin 1024) : DX x g dh (ix2 r l)
      = dh (ix2 r l) * g (ix2 0 l) * RmsGrad.inv (fun k : Fin 1024 => x (ix2 r k))
        + x (ix2 r l) * RmsGrad.half (fun k : Fin 1024 => x (ix2 r k)) (fun k => dh (ix2 r k) * g (ix2 0 k))
        + RmsGrad.half (fun k : Fin 1024 => x (ix2 r k)) (fun k => dh (ix2 r k) * g (ix2 0 k)) * x (ix2 r l) :=
  RmsGrad.dx_eq (fun k : Fin 1024 => x (ix2 r k)) (fun k => dh (ix2 r k) * g (ix2 0 k)) l

variable (m : (ℓ : Loc nD τ sig) → Buf (Elt Ideal) ℓ)

theorem idx : ∀ t, win0_0.index t = ![0, 0] ∧ win0_1.index t = ![0, 0] ∧ win0_2.index t = ![0, 0]
    ∧ win0_3.index t = ![0, 0] ∧ win0_4.index t = ![0, 0] := by decide +kernel

theorem pay_dx (x dh : Vec Ideal S256x1024 .f32) (g : Vec Ideal S1x1024 .f32) (r : Fin 256) (l : Fin 1024) :
    k0_pay5 x dh g (ix2 r l) = RmsGrad.dx (fun k : Fin 1024 => x (ix2 r k)) (fun k => dh (ix2 r k) * g (ix2 0 k)) l := by
  pointwise [k0_pay5, k0_pay2, k0_pay1]
  rfl

theorem pay_dg (x dh : Vec Ideal S256x1024 .f32) (y : S1x1024.Idx) :
    k0_pay4 x dh (k0_pay3 (F := Ideal)) y = ∑ r : Fin 256, dh (ix2 r (y 1)) * (x (ix2 r (y 1)) * RmsGrad.inv fun k : Fin 1024 => x (ix2 r k)) := by
  pointwise [k0_pay4, k0_pay2, k0_pay1, k0_pay3]
  rfl

theorem dx_array (c : Dev nD) : (dats m 0 c).arrAt 3 cfg0.N
    = DX (m ((c : Thread nD τ).loc main_arg0)) (m ((c : Thread nD τ).loc main_arg1)) (m ((c : Thread nD τ).loc main_arg2)) := by
  refine (dats m 0 c).arrAt_eq_of_covers 3 _ (by decide +kernel) fun t hf (y : S256x1024.Idx) => ?_
  blk_simp
  rw [after0_3]
  have e : (outsAt0 m c t).1 = k0_pay5 (iblk m c 0 t) (iblk m c 2 t) (iblk m c 1 t) := by unfold outsAt0; frame_out
  obtain ⟨r, l, rfl⟩ : ∃ (r : Fin 256) (l : Fin 1024), y = ix2 r l := ⟨y 0, y 1, eq_ix2 y⟩
  rw [e, pay_dx]
  unfold DX
  blk_point [iblk, V, idx t]

theorem dg_array (c : Dev nD) : (dats m 0 c).arrAt 4 cfg0.N
    = DG (m ((c : Thread nD τ).loc main_arg0)) (m ((c : Thread nD τ).loc main_arg2)) := by
  refine (dats m 0 c).arrAt_eq_of_covers 4 _ (by decide +kernel) fun t hf (y : S1x1024.Idx) => ?_
  blk_simp
  rw [after0_4]
  have e : (outsAt0 m c t).2 = k0_pay4 (iblk m c 0 t) (iblk m c 2 t) (k0_pay3 (F := Ideal)) := by unfold outsAt0; frame_out
  rw [e, pay_dg]
  unfold DG
  blk_point [iblk, V, idx t]

end Cert.NormMemIdeal.Hand

end
-- ==== Proof.NormMemClaim.lean ====
/-
  The claims about the memory's norm gradient.
-/
module

public import proofs.«01_k».proof.Defs
public import proofs.«01_k».proof.Proof.Gen.NormMem.Frame
public import proofs.«01_k».proof.Proof.NormMemValue
public import Idealize.ShloMosaic.Lib.Quiescent

@[expose] public section

set_option maxRecDepth 16384

noncomputable section

namespace Cert.Proof.NormMem

open Idealize.ShloMosaic Idealize.ShloMosaic.TcCoe Idealize.SL.Sem

theorem frame : Cert.quiescent_NormMem := fun m ρ _ => Cert.NormMem.Gen.frame m ρ
theorem frameIdeal : Cert.quiescent_NormMemIdeal := fun m ρ _ => Cert.NormMemIdeal.Gen.frame m ρ
theorem frameRef : Cert.quiescent_NormMemRefIdeal := fun m ρ _ =>
  (θ_run Cert.NormMemRefIdeal.defs _ _).mono (fun r h => ⟨fun c => (h c).2.2, sem_eq_zero_of_no_sems (by decide) r.2⟩)
    (Cert.NormMemRefIdeal.Value.run (F := Ideal) m ρ)
theorem preserves : Cert.preserves_NormMem_NormMemIdeal := trivial

theorem algebraic : Cert.algebraic_NormMemIdeal_NormMemRefIdeal := by
  intro m ρ m' ρ' _ hagree
  refine ⟨fun c => Cert.NormMemIdeal.Hand.DX _ _ _, fun c => Cert.NormMemIdeal.Hand.DG _ _,
    (θ_run Cert.NormMemIdeal.defs _ _).mono (fun _ h c => ⟨(h c).1.trans (Cert.NormMemIdeal.Hand.dx_array m c),
      (h c).2.1.trans (Cert.NormMemIdeal.Hand.dg_array m c), (h c).2.2⟩) (Cert.NormMemIdeal.Value.run_blocks (F := Ideal) m ρ),
    (θ_run Cert.NormMemRefIdeal.defs _ _).mono (fun _ h c => ⟨(h c).1.trans ?_, (h c).2.1.trans ?_, (h c).2.2⟩)
      (Cert.NormMemRefIdeal.Value.run (F := Ideal) m' ρ')⟩
  · rw [(hagree c).1, (hagree c).2.1, (hagree c).2.2]
    refine funext fun (i : Cert.NormMemRefIdeal.S256x1024.Idx) => ?_
    obtain ⟨r, l, rfl⟩ : ∃ (r : Fin 256) (l : Fin 1024), i = ix2 r l := ⟨i 0, i 1, eq_ix2 i⟩
    beta_reduce
    rw [NormMemIdeal.Hand.DX_apply]
    pointwise
    simp only [Finset.univ_unique, Finset.sum_singleton]
    rfl
  · rw [(hagree c).1, (hagree c).2.2]
    refine funext fun (i : Cert.NormMemRefIdeal.S1x1024.Idx) => ?_
    unfold Cert.NormMemIdeal.Hand.DG
    pointwise
    simp only [Finset.univ_unique, Finset.sum_singleton]
    exact Finset.sum_congr rfl fun r _ => mul_comm _ _

end Cert.Proof.NormMem

end
-- ==== Proof.QNormValue.lean ====
/-
  The cross-attention's norm gradient with the query projection's product (`QNorm`): what the kernel leaves in its two
  result arrays. The cotangent of the normed rows is the product of a block of `dq` with the weight; the gradient of the
  gain is accumulated over the four row blocks. No precondition: `RmsGrad.dx_eq` holds of every row.
-/
module

public import proofs.«01_k».proof.Proof.Gen.QNormIdeal.Value
public import proofs.«01_k».proof.Proof.Gen.QNormRefIdeal.Run
public import proofs.«01_k».proof.Proof.RmsGrad
public import Idealize.ShloMosaic.Lib.Pointwise
public import Idealize.ShloMosaic.Lib.Pipeline.ValueKit

@[expose] public section

set_option maxRecDepth 16384

noncomputable section

namespace Cert.QNormIdeal.Hand

open Cert.QNormIdeal Cert.QNormIdeal.Gen Idealize.ShloMosaic Idealize.ShloMosaic.TcCoe Idealize.SL.Sem
open scoped BigOperators

/-- The cotangent of the normed rows. -/
def DH (dq : Vec Ideal S4096x1024 .bf16) (w : Vec Ideal S1024x1024 .bf16) (r : Fin 4096) (k : Fin 1024) : EReal :=
  ∑ j : Fin 1024, dq (ix2 r j) * w (ix2 k j)

/-- The gradient of the rows: the norm's own gradient plus the residual's cotangent. -/
def DX (dq : Vec Ideal S4096x1024 .bf16) (w : Vec Ideal S1024x1024 .bf16) (x : Vec Ideal S4096x1024 .f32)
    (g : Vec Ideal S1x1024 .f32) (dres : Vec Ideal S4096x1024 .f32) : Vec Ideal S4096x1024 .f32 := fun i =>
  RmsGrad.dx (fun k : Fin 1024 => x (ix2 (i 0) k)) (fun k => DH dq w (i 0) k * g (ix2 0 k)) (i 1) + dres i

/-- The gradient of the gain: over all rows, the cotangent times the scaled row. -/
def DG (dq : Vec Ideal S4096x1024 .bf16) (w : Vec Ideal S1024x1024 .bf16) (x : Vec Ideal S4096x1024 .f32) :
    Vec Ideal S1x1024 .f32 := fun i =>
  ∑ r : Fin 4096, DH dq w r (i 1) * (x (ix2 r (i 1)) * RmsGrad.inv fun k : Fin 1024 => x (ix2 r k))

/-- An entry of `DX` as the chain rule of the norm's lines spells it. -/
theorem DX_apply (dq : Vec Ideal S4096x1024 .bf16) (w : Vec Ideal S1024x1024 .bf16) (x : Vec Ideal S4096x1024 .f32)
    (g : Vec Ideal S1x1024 .f32) (dres : Vec Ideal S4096x1024 .f32) (r : Fin 4096) (l : Fin 1024) :
    DX dq w x g dres (ix2 r l)
      = dres (ix2 r l) + DH dq w r l * g (ix2 0 l) * RmsGrad.inv (fun k : Fin 1024 => x (ix2 r k))
        + x (ix2 r l) * RmsGrad.half (fun k : Fin 1024 => x (ix2 r k)) (fun k => DH dq w r k * g (ix2 0 k))
        + RmsGrad.half (fun k : Fin 1024 => x (ix2 r k)) (fun k => DH dq w r k * g (ix2 0 k)) * x (ix2 r l) :=
  RmsGrad.dx_add (fun k : Fin 1024 => x (ix2 r k)) (fun k => DH dq w r k * g (ix2 0 k)) l (dres (ix2 r l))

variable (m : (ℓ : Loc nD τ sig) → Buf (Elt Ideal) ℓ)

theorem idx : ∀ t, win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![0, 0] := by decide +kernel

/-- What a point stores into the rows' gradient. -/
def rows (a b : Vec Ideal S1024x1024 .bf16) (x : Vec Ideal S1024x1024 .f32) (g : Vec Ideal S1x1024 .f32)
    (dres : Vec Ideal S1024x1024 .f32) : FVec Ideal S1024x1024 .f32 :=
  k0_pay1 (k0_pay4 x) (k0_pay5 x) (k0_pay7 a b g) (k0_pay8 a b x g) k0_pay9 dres

theorem pay_dx (a b : Vec Ideal S1024x1024 .bf16) (x : Vec Ideal S1024x1024 .f32) (g : Vec Ideal S1x1024 .f32)
    (dres : Vec Ideal S1024x1024 .f32) (r l : Fin 1024) : rows a b x g dres (ix2 r l)
      = RmsGrad.dx (fun k : Fin 1024 => x (ix2 r k)) (fun k => (∑ j : Fin 1024, a (ix2 r j) * b (ix2 k j)) * g (ix2 0 k)) l
        + dres (ix2 r l) := by
  pointwise [rows, k0_pay1, k0_pay2, k0_pay4, k0_pay5, k0_pay7, k0_pay8, k0_pay9]
  rfl

theorem pay_dg (a b : Vec Ideal S1024x1024 .bf16) (x : Vec Ideal S1024x1024 .f32) (acc : Vec Ideal S1x1024 .f32) (y : S1x1024.Idx) :
    k0_pay6 a b x acc y = acc y + ∑ r : Fin 1024, (∑ j : Fin 1024, a (ix2 r j) * b (ix2 (y 1) j))
      * (x (ix2 r (y 1)) * RmsGrad.inv fun k : Fin 1024 => x (ix2 r k)) := by
  pointwise [k0_pay2, k0_pay4, k0_pay5, k0_pay6]
  rfl

theorem dx_array (c : Dev nD) : (dats m 0 c).arrAt 5 cfg0.N
    = DX (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf (y : S1024x1024.Idx) => ?_
  blk_simp
  rw [after0_5]
  have e : (outsAt0 m c t.val t.isLt).1
      = rows (iblk m c 0 t) (iblk m c 1 t) (iblk m c 2 t) (iblk m c 3 t) (iblk m c 4 t) := by
    by_cases h : t.val % 4 = 0
    · rw [outsAt0_A m c t h]; frame_out; rfl
    · rw [outsAt0_B m c t h]; frame_out; rfl
  obtain ⟨r, l, rfl⟩ : ∃ (r l : Fin 1024), y = ix2 r l := ⟨y 0, y 1, eq_ix2 y⟩
  rw [e, pay_dx]
  unfold DX DH
  blk_point [iblk, V, idx t]

theorem dg_array (c : Dev nD) : (dats m 0 c).arrAt 6 cfg0.N
    = DG (m ((c : Thread nD τ).loc main_arg0)) (m ((c : Thread nD τ).loc main_arg1)) (m ((c : Thread nD τ).loc main_arg2)) := by
  refine (dats m 0 c).arrAt_eq_of_after_last 6 t0_3 (by decide +kernel) _ fun j => ?_
  blk_simp
  rw [after0_6, Pipeline.eq_sum_fin_of_reset_step_apply_last (fun n h => (outsAt0 m c n h).2) 4 (fun _ => 0) _
      (fun t h j => by rw [outsAt0_A m c t h]; frame_out; rw [pay_dg]; pointwise [k0_pay3]; rfl)
      (fun t h j => by rw [outsAt0_B m c t h]; frame_out; rw [pay_dg])
      (le_of_eq N_0) t0_3 rfl j, zero_add]
  unfold DG DH
  refine Fin.sum_mul_add_congr (S := 4) (n := 1024) fun t r ht => ?_
  blk_point [iblk, V, idx t]

end Cert.QNormIdeal.Hand

end
-- ==== Proof.QNormClaim.lean ====
/-
  The claims about the cross-attention's norm gradient with the query projection's product.
-/
module

public import proofs.«01_k».proof.Defs
public import proofs.«01_k».proof.Proof.Gen.QNorm.Frame
public import proofs.«01_k».proof.Proof.QNormValue
public import Idealize.ShloMosaic.Lib.Quiescent

@[expose] public section

set_option maxRecDepth 16384

noncomputable section

namespace Cert.QNormRefIdeal.Hand

open Cert.QNormRefIdeal Cert.QNormRefIdeal.Value Idealize.ShloMosaic Idealize.ShloMosaic.TcCoe Idealize.SL.Sem

/-- The reference's rows: the derivative of the norm's lines, read entry by entry. -/
theorem dx_result (m : (ℓ : Loc nD τ sig) → Buf (Elt Ideal) ℓ) (c : Dev nD) : res_main_v41 m c
    = QNormIdeal.Hand.DX (m ((c : Thread nD τ).loc main_arg0)) (m ((c : Thread nD τ).loc main_arg1)) (m ((c : Thread nD τ).loc main_arg2)) (m ((c : Thread nD τ).loc main_arg3)) (m ((c : Thread nD τ).loc main_arg4)) := by
  refine funext fun (i : S4096x1024.Idx) => ?_
  obtain ⟨r, l, rfl⟩ : ∃ (r : Fin 4096) (l : Fin 1024), i = ix2 r l := ⟨i 0, i 1, eq_ix2 i⟩
  rw [QNormIdeal.Hand.DX_apply]
  unfold res_main_v41
  pointwise
  simp only [Finset.univ_unique, Finset.sum_singleton]
  rfl

end Cert.QNormRefIdeal.Hand

namespace Cert.Proof.QNorm

open Idealize.ShloMosaic Idealize.ShloMosaic.TcCoe Idealize.SL.Sem

theorem frame : Cert.quiescent_QNorm := fun m ρ _ => Cert.QNorm.Gen.frame m ρ
theorem frameIdeal : Cert.quiescent_QNormIdeal := fun m ρ _ => Cert.QNormIdeal.Gen.frame m ρ
theorem frameRef : Cert.quiescent_QNormRefIdeal := fun m ρ _ =>
  (θ_run Cert.QNormRefIdeal.defs _ _).mono (fun r h => ⟨fun c => (h c).2.2, sem_eq_zero_of_no_sems (by decide) r.2⟩)
    (Cert.QNormRefIdeal.Value.run (F := Ideal) m ρ)
theorem preserves : Cert.preserves_QNorm_QNormIdeal := trivial

theorem algebraic : Cert.algebraic_QNormIdeal_QNormRefIdeal := by
  intro m ρ m' ρ' _ hagree
  refine ⟨fun c => Cert.QNormIdeal.Hand.DX _ _ _ _ _, fun c => Cert.QNormIdeal.Hand.DG _ _ _,
    (θ_run Cert.QNormIdeal.defs _ _).mono (fun _ h c => ⟨(h c).1.trans (Cert.QNormIdeal.Hand.dx_array m c),
      (h c).2.1.trans (Cert.QNormIdeal.Hand.dg_array m c), (h c).2.2⟩) (Cert.QNormIdeal.Value.run_blocks (F := Ideal) m ρ),
    (θ_run Cert.QNormRefIdeal.defs _ _).mono (fun _ h c => ⟨(h c).1.trans ?_, (h c).2.1.trans ?_, (h c).2.2⟩)
      (Cert.QNormRefIdeal.Value.run (F := Ideal) m' ρ')⟩
  · rw [Cert.QNormRefIdeal.Hand.dx_result, (hagree c).1, (hagree c).2.1, (hagree c).2.2.1, (hagree c).2.2.2.1, (hagree c).2.2.2.2]
  · rw [(hagree c).1, (hagree c).2.1, (hagree c).2.2.1]
    refine funext fun (i : Cert.QNormRefIdeal.S1x1024.Idx) => ?_
    unfold Cert.QNormIdeal.Hand.DG Cert.QNormIdeal.Hand.DH
    pointwise
    simp only [Finset.univ_unique, Finset.sum_singleton]
    exact Finset.sum_congr rfl fun r _ => mul_comm _ _

end Cert.Proof.QNorm

end
-- ==== Proof.QkvNormValue.lean ====
/-
  The attention's norm gradient with the qkv projection's product (`QkvNorm`): what the kernel leaves in its two result
  arrays. The cotangent of the normed rows is summed over two halves of the projection's columns in a scratch, and the
  second half finishes the row block; the gradient of the gain is accumulated over the four row blocks.
-/
module

public import proofs.«01_k».proof.Proof.Gen.QkvNormIdeal.Value
public import proofs.«01_k».proof.Proof.Gen.QkvNormRefIdeal.Run
public import proofs.«01_k».proof.Proof.RmsGrad
public import Idealize.ShloMosaic.Lib.Pointwise
public import Idealize.ShloMosaic.Lib.Pipeline.ValueKit

@[expose] public section

set_option maxRecDepth 16384

noncomputable section

namespace Cert.QkvNormIdeal.Hand

open Cert.QkvNormIdeal Cert.QkvNormIdeal.Gen Idealize.ShloMosaic Idealize.ShloMosaic.TcCoe Idealize.SL.Sem
open scoped BigOperators

/-- The cotangent of the normed rows. -/
def DH (dq : Vec Ideal S4096x1536 .bf16) (w : Vec Ideal S1024x1536 .bf16) (r : Fin 4096) (k : Fin 1024) : EReal :=
  ∑ j : Fin 1536, dq (ix2 r j) * w (ix2 k j)

/-- The gradient of the rows: the norm's own gradient plus the residual's cotangent. -/
def DX (dq : Vec Ideal S4096x1536 .bf16) (w : Vec Ideal S1024x1536 .bf16) (x : Vec Ideal S4096x1024 .f32)
    (g : Vec Ideal S1x1024 .f32) (dres : Vec Ideal S4096x1024 .f32) : Vec Ideal S4096x1024 .f32 := fun i =>
  RmsGrad.dx (fun k : Fin 1024 => x (ix2 (i 0) k)) (fun k => DH dq w (i 0) k * g (ix2 0 k)) (i 1) + dres i

/-- A row's part of the gain's gradient. -/
def rowG (dq : Vec Ideal S4096x1536 .bf16) (w : Vec Ideal S1024x1536 .bf16) (x : Vec Ideal S4096x1024 .f32) (k : Fin 1024) (r : Fin 4096) : EReal :=
  DH dq w r k * (x (ix2 r k) * RmsGrad.inv fun k : Fin 1024 => x (ix2 r k))

/-- The gradient of the gain: over all rows, the cotangent times the scaled row. -/
def DG (dq : Vec Ideal S4096x1536 .bf16) (w : Vec Ideal S1024x1536 .bf16) (x : Vec Ideal S4096x1024 .f32) :
    Vec Ideal S1x1024 .f32 := fun i =>
  ∑ r : Fin 4096, rowG dq w x (i 1) r

/-- An entry of `DX` as the chain rule of the norm's lines spells it. -/
theorem DX_apply (dq : Vec Ideal S4096x1536 .bf16) (w : Vec Ideal S1024x1536 .bf16) (x : Vec Ideal S4096x1024 .f32)
    (g : Vec Ideal S1x1024 .f32) (dres : Vec Ideal S4096x1024 .f32) (r : Fin 4096) (l : Fin 1024) :
    DX dq w x g dres (ix2 r l)
      = dres (ix2 r l) + DH dq w r l * g (ix2 0 l) * RmsGrad.inv (fun k : Fin 1024 => x (ix2 r k))
        + x (ix2 r l) * RmsGrad.half (fun k : Fin 1024 => x (ix2 r k)) (fun k => DH dq w r k * g (ix2 0 k))
        + RmsGrad.half (fun k : Fin 1024 => x (ix2 r k)) (fun k => DH dq w r k * g (ix2 0 k)) * x (ix2 r l) :=
  RmsGrad.dx_add (fun k : Fin 1024 => x (ix2 r k)) (fun k => DH dq w r k * g (ix2 0 k)) l (dres (ix2 r l))

variable (m : (ℓ : Loc nD τ sig) → Buf (Elt Ideal) ℓ)

theorem idx : ∀ t, win0_0.index t = ![t.val / 2, t.val % 2] ∧ win0_1.index t = ![0, t.val % 2] ∧ win0_2.index t = ![t.val / 2, 0]
    ∧ win0_3.index t = ![0, 0] ∧ win0_4.index t = ![t.val / 2, 0] ∧ win0_5.index t = ![t.val / 2, 0]
    ∧ win0_6.index t = ![0, 0] := by decide +kernel

/-- A point's part of the product. -/
def part (a b : Vec Ideal S1024x768 .bf16) : Vec Ideal S1024x1024 .f32 := fun y => ∑ j : Fin 768, a (ix2 (y 0) j) * b (ix2 (y 1) j)

/-- A row block's part of the gain's gradient. -/
def gain (h x : Vec Ideal S1024x1024 .f32) : Vec Ideal S1x1024 .f32 := fun y =>
  ∑ r : Fin 1024, h (ix2 r (y 1)) * (x (ix2 r (y 1)) * RmsGrad.inv fun k : Fin 1024 => x (ix2 r k))

theorem pay_set (a b : Vec Ideal S1024x768 .bf16) (y : S1024x1024.Idx) : k0_pay3 a b y = part a b y := by
  pointwise [k0_pay1, k0_pay3, part]

theorem pay_add (a b : Vec Ideal S1024x768 .bf16) (acc : Vec Ideal S1024x1024 .f32) (y : S1024x1024.Idx) :
    k0_pay4 a b acc y = acc y + part a b y := by
  pointwise [k0_pay1, k0_pay4, part]

theorem pay_dx (h x : Vec Ideal S1024x1024 .f32) (g : Vec Ideal S1x1024 .f32) (dres : Vec Ideal S1024x1024 .f32) (r l : Fin 1024) :
    k0_pay8 h x g dres (ix2 r l)
      = RmsGrad.dx (fun k : Fin 1024 => x (ix2 r k)) (fun k => h (ix2 r k) * g (ix2 0 k)) l + dres (ix2 r l) := by
  pointwise [k0_pay5, k0_pay6, k0_pay8]
  rfl

theorem pay_dg (h x : Vec Ideal S1024x1024 .f32) (acc : Vec Ideal S1x1024 .f32) (y : S1x1024.Idx) :
    k0_pay7 h x acc y = acc y + gain h x y := by
  pointwise [k0_pay5, k0_pay6, k0_pay7]
  rfl

theorem pay_zero (y : S1x1024.Idx) : (k0_pay2 (F := Ideal)) y = 0 := by
  pointwise [k0_pay2]

variable (c : Dev nD)

/-- A point that finishes a row block does so from the scratch it leaves. -/
theorem finish (t : Fin cfg0.N) (h : t.val % 2 = 1) :
    (outsAt0 m c t.val t.isLt).1 = k0_pay8 (outsAt0 m c t.val t.isLt).2.2 (iblk m c 2 t) (iblk m c 3 t) (iblk m c 4 t)
    ∧ ∀ y, (outsAt0 m c t.val t.isLt).2.1 y
      = (outsAt0 m c (t.val - 1) (Nat.lt_of_le_of_lt (Nat.sub_le _ _) t.isLt)).2.1 y + gain (outsAt0 m c t.val t.isLt).2.2 (iblk m c 2 t) y := by
  rw [outsAt0_B m c t (by omega) (by omega) h h]
  frame_out
  exact ⟨trivial, fun y => by rw [pay_dg]⟩

/-- The point's blocks of the product's operands. -/
theorem entry (t : Fin cfg0.N) (s : Fin 2) (p : Fin 4096) (r k : Fin 1024) (j : Fin 768) (hs : s.val * 768 + j.val < 1536)
    (hp : p.val = t.val / 2 * 1024 + r.val) (ht : t.val % 2 = s.val) :
    iblk m c 0 t (ix2 r j) = m ((c : Thread nD τ).loc main_arg0) (ix2 p ⟨s.val * 768 + j.val, hs⟩)
    ∧ iblk m c 1 t (ix2 k j) = m ((c : Thread nD τ).loc main_arg1) (ix2 k ⟨s.val * 768 + j.val, hs⟩) := by
  constructor
  · blk_point [iblk, V, idx t]
  · blk_point [iblk, V, idx t]

/-- The scratch at the end of a row block: the cotangent of its normed rows. -/
theorem acc_point (t : Fin cfg0.N) (h : t.val % 2 = 1) (r k : Fin 1024) (p : Fin 4096) (hp : p.val = t.val / 2 * 1024 + r.val) :
    (outsAt0 m c t.val t.isLt).2.2 (ix2 r k)
      = DH (m ((c : Thread nD τ).loc main_arg0)) (m ((c : Thread nD τ).loc main_arg1)) p k := by
  rw [Pipeline.eq_sum_fin_of_reset_step_apply_of_flush (fun n h => (outsAt0 m c n h).2.2) 2 (fun _ => 0)
      (fun t => part (iblk m c 0 t) (iblk m c 1 t))
      (fun t h y => by
        by_cases h8 : t.val % 8 = 0
        · rw [outsAt0_A m c t h8 h (by omega) (by omega)]; frame_out; rw [pay_set, zero_add]
        · rw [outsAt0_C m c t h8 h (by omega) (by omega)]; frame_out; rw [pay_set, zero_add])
      (fun t h y => by rw [outsAt0_B m c t (by omega) h (by omega) (by omega)]; frame_out; rw [pay_add]; exact congrArg (· + _) (congrFun (Memref.IsWhole.read_unread _ _) y)) t h (ix2 r k), zero_add]
  unfold DH
  refine Fin.sum_mul_add_congr (S := 2) (n := 768) fun s j hs => ?_
  have e := entry m c ⟨2 * (t.val / 2) + s.val, by have := t.isLt; have := s.isLt; omega⟩ s p r k j hs (by dsimp only; omega) (by dsimp only; omega)
  exact congrArg₂ (fun a b : EReal => a * b) e.1 e.2

/-- The rows' gradient. -/
theorem dx_array : (dats m 0 c).arrAt 5 cfg0.N
    = DX (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf (y : S1024x1024.Idx) => ?_
  have hm : t.val % 2 = 1 := (flush0_5 t).mp hf
  blk_simp
  rw [after0_5, (finish m c t hm).1]
  obtain ⟨r, l, rfl⟩ : ∃ (r l : Fin 1024), y = ix2 r l := ⟨y 0, y 1, eq_ix2 y⟩
  have ht := lt_of_lt_of_eq t.isLt (show cfg0.N = 8 from N_0)
  rw [pay_dx]
  simp only [acc_point m c t hm r _ ⟨t.val / 2 * 1024 + r.val, by omega⟩ rfl]
  unfold DX
  blk_point [iblk, V, idx t]

theorem gain_point (t : Fin cfg0.N) (h : t.val % 2 = 1) (y : S1x1024.Idx) : gain (outsAt0 m c t.val t.isLt).2.2 (iblk m c 2 t) y
    = ∑ r : Fin 1024, rowG (m ((c : Thread nD τ).loc main_arg0)) (m ((c : Thread nD τ).loc main_arg1)) (m ((c : Thread nD τ).loc main_arg2)) (y 1)
        ⟨t.val / 2 * 1024 + r.val, by have := lt_of_lt_of_eq t.isLt (show cfg0.N = 8 from N_0); omega⟩ := by
  have ht := lt_of_lt_of_eq t.isLt (show cfg0.N = 8 from N_0)
  unfold gain rowG
  refine Finset.sum_congr rfl fun r _ => ?_
  rw [acc_point m c t h r (y 1) ⟨t.val / 2 * 1024 + r.val, by omega⟩ rfl]
  blk_point [iblk, V, idx t]

/-- The row blocks' sums, at every second point, are the sum over the rows. -/
theorem sum_blocks {N : ℕ} (F : Fin N → EReal) (f : Fin 4096 → EReal) (hN : N = 8)
    (h : ∀ t : Fin N, t.val % 2 = 1 → F t = ∑ r : Fin 1024, f ⟨t.val / 2 * 1024 + r.val, by omega⟩) :
    ∑ t : Fin N, (if t.val % 2 = 1 then F t else 0) = ∑ p, f p := by
  refine (Fin.sum_divmod_congr (A := 4) (S := 2) (f := fun a s => if s.val = 1 then ∑ r : Fin 1024, f ⟨a.val * 1024 + r.val, by omega⟩ else 0)
    (fun t ha hs => ?_) hN).trans ?_
  · by_cases h2 : t.val % 2 = 1
    · rw [if_pos h2, if_pos h2, h t h2]
    · rw [if_neg h2, if_neg h2]
  · simp only [Fin.sum_univ_two, Fin.val_zero, Fin.val_one, zero_ne_one, if_false, if_true, zero_add]
    exact Fin.sum_mul_add_congr (S := 4) (n := 1024) fun a r h => rfl

/-- The gain's gradient. -/
theorem dg_array : (dats m 0 c).arrAt 6 cfg0.N
    = DG (m ((c : Thread nD τ).loc main_arg0)) (m ((c : Thread nD τ).loc main_arg1)) (m ((c : Thread nD τ).loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0)
      (fun t y => if t.val % 2 = 1 then gain (outsAt0 m c t.val t.isLt).2.2 (iblk m c 2 t) y else 0)
      (fun t h y => by
        rw [if_neg (by omega), outsAt0_A m c t h (by omega) (by omega) (by omega)]; frame_out; rw [pay_zero, add_zero])
      (fun t h y => by
        by_cases h2 : t.val % 2 = 1
        · rw [if_pos h2]; exact (finish m c t h2).2 y
        · rw [if_neg h2, outsAt0_C m c t h (by omega) h2 h2]; frame_out; exact (add_zero _).symm)
      (le_of_eq N_0) t0_7 rfl j, zero_add]
  exact sum_blocks _ _ N_0 fun t h => gain_point m c t h j

end Cert.QkvNormIdeal.Hand

end
-- ==== Proof.QkvNormClaim.lean ====
/-
  The claims about the attention's norm gradient with the qkv projection's product.
-/
module

public import proofs.«01_k».proof.Defs
public import proofs.«01_k».proof.Proof.Gen.QkvNorm.Frame
public import proofs.«01_k».proof.Proof.QkvNormValue
public import Idealize.ShloMosaic.Lib.Quiescent

@[expose] public section

set_option maxRecDepth 16384

noncomputable section

namespace Cert.QkvNormRefIdeal.Hand

open Cert.QkvNormRefIdeal Cert.QkvNormRefIdeal.Value Idealize.ShloMosaic Idealize.ShloMosaic.TcCoe Idealize.SL.Sem

/-- The reference's rows: the derivative of the norm's lines, read entry by entry. -/
theorem dx_result (m : (ℓ : Loc nD τ sig) → Buf (Elt Ideal) ℓ) (c : Dev nD) : res_main_v41 m c
    = QkvNormIdeal.Hand.DX (m ((c : Thread nD τ).loc main_arg0)) (m ((c : Thread nD τ).loc main_arg1)) (m ((c : Thread nD τ).loc main_arg2)) (m ((c : Thread nD τ).loc main_arg3)) (m ((c : Thread nD τ).loc main_arg4)) := by
  refine funext fun (i : S4096x1024.Idx) => ?_
  obtain ⟨r, l, rfl⟩ : ∃ (r : Fin 4096) (l : Fin 1024), i = ix2 r l := ⟨i 0, i 1, eq_ix2 i⟩
  rw [QkvNormIdeal.Hand.DX_apply]
  unfold res_main_v41
  pointwise
  simp only [Finset.univ_unique, Finset.sum_singleton]
  rfl

end Cert.QkvNormRefIdeal.Hand

namespace Cert.Proof.QkvNorm

open Idealize.ShloMosaic Idealize.ShloMosaic.TcCoe Idealize.SL.Sem

theorem frame : Cert.quiescent_QkvNorm := fun m ρ _ => Cert.QkvNorm.Gen.frame m ρ
theorem frameIdeal : Cert.quiescent_QkvNormIdeal := fun m ρ _ => Cert.QkvNormIdeal.Gen.frame m ρ
theorem frameRef : Cert.quiescent_QkvNormRefIdeal := fun m ρ _ =>
  (θ_run Cert.QkvNormRefIdeal.defs _ _).mono (fun r h => ⟨fun c => (h c).2.2, sem_eq_zero_of_no_sems (by decide) r.2⟩)
    (Cert.QkvNormRefIdeal.Value.run (F := Ideal) m ρ)
theorem preserves : Cert.preserves_QkvNorm_QkvNormIdeal := trivial

theorem algebraic : Cert.algebraic_QkvNormIdeal_QkvNormRefIdeal := by
  intro m ρ m' ρ' _ hagree
  refine ⟨fun c => Cert.QkvNormIdeal.Hand.DX _ _ _ _ _, fun c => Cert.QkvNormIdeal.Hand.DG _ _ _,
    (θ_run Cert.QkvNormIdeal.defs _ _).mono (fun _ h c => ⟨(h c).1.trans (Cert.QkvNormIdeal.Hand.dx_array m c),
      (h c).2.1.trans (Cert.QkvNormIdeal.Hand.dg_array m c), (h c).2.2⟩) (Cert.QkvNormIdeal.Value.run_blocks (F := Ideal) m ρ),
    (θ_run Cert.QkvNormRefIdeal.defs _ _).mono (fun _ h c => ⟨(h c).1.trans ?_, (h c).2.1.trans ?_, (h c).2.2⟩)
      (Cert.QkvNormRefIdeal.Value.run (F := Ideal) m' ρ')⟩
  · rw [Cert.QkvNormRefIdeal.Hand.dx_result, (hagree c).1, (hagree c).2.1, (hagree c).2.2.1, (hagree c).2.2.2.1, (hagree c).2.2.2.2.1]
  · rw [(hagree c).1, (hagree c).2.1, (hagree c).2.2.1]
    refine funext fun (i : Cert.QkvNormRefIdeal.S1x1024.Idx) => ?_
    unfold Cert.QkvNormIdeal.Hand.DG Cert.QkvNormIdeal.Hand.rowG Cert.QkvNormIdeal.Hand.DH
    pointwise
    simp only [Finset.univ_unique, Finset.sum_singleton]
    exact Finset.sum_congr rfl fun r _ => mul_comm _ _

end Cert.Proof.QkvNorm

end
-- ==== Proof.UpNormValue.lean ====
/-
  The feed-forward layer's norm gradient with the up projection's product (`UpNorm`): what the kernel leaves in its two
  result arrays. The cotangent of the normed rows is summed over four stretches of two column blocks in a scratch, and the
  last finishes the row block; the gradient of the gain is accumulated over the four row blocks.
-/
module

public import proofs.«01_k».proof.Proof.Gen.UpNormIdeal.Value
public import proofs.«01_k».proof.Proof.Gen.UpNormRefIdeal.Run
public import proofs.«01_k».proof.Proof.RmsGrad
public import Idealize.ShloMosaic.Lib.Pointwise
public import Idealize.ShloMosaic.Lib.Pipeline.ValueKit

@[expose] public section

set_option maxRecDepth 16384

noncomputable section

namespace Cert.UpNormIdeal.Hand

open Cert.UpNormIdeal Cert.UpNormIdeal.Gen Idealize.ShloMosaic Idealize.ShloMosaic.TcCoe Idealize.SL.Sem
open scoped BigOperators

/-- A term of the product with the second matrix of the pair. -/
def DHterm (du : Vec Ideal S4096x5632 .bf16) (w : Vec Ideal S2x1024x5632 .bf16) (r : Fin 4096) (k : Fin 1024) (j : Fin 5632) : EReal :=
  du (ix2 r j) * w (ix3 1 k j)

/-- The cotangent of the normed rows: the product with the second matrix of the pair. -/
def DH (du : Vec Ideal S4096x5632 .bf16) (w : Vec Ideal S2x1024x5632 .bf16) (r : Fin 4096) (k : Fin 1024) : EReal :=
  ∑ j : Fin 5632, DHterm du w r k j

/-- The gradient of the rows: the norm's own gradient plus the residual's cotangent. -/
def DX (du : Vec Ideal S4096x5632 .bf16) (w : Vec Ideal S2x1024x5632 .bf16) (x : Vec Ideal S4096x1024 .f32)
    (g : Vec Ideal S1x1024 .f32) (dres : Vec Ideal S4096x1024 .f32) : Vec Ideal S4096x1024 .f32 := fun i =>
  RmsGrad.dx (fun k : Fin 1024 => x (ix2 (i 0) k)) (fun k => DH du w (i 0) k * g (ix2 0 k)) (i 1) + dres i

/-- A row's part of the gain's gradient. -/
def rowG (du : Vec Ideal S4096x5632 .bf16) (w : Vec Ideal S2x1024x5632 .bf16) (x : Vec Ideal S4096x1024 .f32) (k : Fin 1024) (r : Fin 4096) : EReal :=
  DH du w r k * (x (ix2 r k) * RmsGrad.inv fun k : Fin 1024 => x (ix2 r k))

/-- The gradient of the gain: over all rows, the cotangent times the scaled row. -/
def DG (du : Vec Ideal S4096x5632 .bf16) (w : Vec Ideal S2x1024x5632 .bf16) (x : Vec Ideal S4096x1024 .f32) :
    Vec Ideal S1x1024 .f32 := fun i => ∑ r : Fin 4096, rowG du w x (i 1) r

/-- An entry of `DX` as the chain rule of the norm's lines spells it. -/
theorem DX_apply (du : Vec Ideal S4096x5632 .bf16) (w : Vec Ideal S2x1024x5632 .bf16) (x : Vec Ideal S4096x1024 .f32)
    (g : Vec Ideal S1x1024 .f32) (dres : Vec Ideal S4096x1024 .f32) (r : Fin 4096) (l : Fin 1024) :
    DX du w x g dres (ix2 r l)
      = dres (ix2 r l) + DH du w r l * g (ix2 0 l) * RmsGrad.inv (fun k : Fin 1024 => x (ix2 r k))
        + x (ix2 r l) * RmsGrad.half (fun k : Fin 1024 => x (ix2 r k)) (fun k => DH du w r k * g (ix2 0 k))
        + RmsGrad.half (fun k : Fin 1024 => x (ix2 r k)) (fun k => DH du w r k * g (ix2 0 k)) * x (ix2 r l) :=
  RmsGrad.dx_add (fun k : Fin 1024 => x (ix2 r k)) (fun k => DH du w r k * g (ix2 0 k)) l (dres (ix2 r l))

variable (m : (ℓ : Loc nD τ sig) → Buf (Elt Ideal) ℓ)

theorem idx : ∀ t, win0_0.index t = ![t.val % 4, t.val / 4, 0] ∧ win0_1.index t = ![t.val % 4, 1, 0] ∧ win0_2.index t = ![t.val / 4, 0]
    ∧ win0_3.index t = ![0, 0] ∧ win0_4.index t = ![t.val / 4, 0] ∧ win0_5.index t = ![t.val / 4, 0]
    ∧ win0_6.index t = ![0, 0] := by decide +kernel

/-- A point's part of the product: over its two column blocks. -/
def part (a b : Vec Ideal S2x1024x704 .bf16) : Vec Ideal S1024x1024 .f32 := fun y =>
  ∑ s : Fin 2, ∑ j : Fin 704, a (ix3 s (y 0) j) * b (ix3 s (y 1) j)

/-- One column block of the two. -/
abbrev half (a : Vec Ideal S2x1024x704 .bf16) (s : Fin 2) : Vec Ideal S1x1024x704 .bf16 := fun y => a (ix3 s (y 1) (y 2))

/-- A row block's part of the gain's gradient. -/
def gain (h x : Vec Ideal S1024x1024 .f32) : Vec Ideal S1x1024 .f32 := fun y =>
  ∑ r : Fin 1024, h (ix2 r (y 1)) * (x (ix2 r (y 1)) * RmsGrad.inv fun k : Fin 1024 => x (ix2 r k))

theorem pay_set (a b : Vec Ideal S2x1024x704 .bf16) (y : S1024x1024.Idx) : k0_pay3 (half a 0) (half b 0) (half a 1) (half b 1) y = part a b y := by
  pointwise [k0_pay1, k0_pay3, part]
  rw [Fin.sum_univ_two]
  rfl

theorem pay_add (a b : Vec Ideal S2x1024x704 .bf16) (acc : Vec Ideal S1024x1024 .f32) (y : S1024x1024.Idx) :
    k0_pay4 (half a 0) (half b 0) (half a 1) (half b 1) acc y = acc y + part a b y := by
  pointwise [k0_pay1, k0_pay4, part]
  rw [Fin.sum_univ_two]
  rfl

theorem pay_dx (h x : Vec Ideal S1024x1024 .f32) (g : Vec Ideal S1x1024 .f32) (dres : Vec Ideal S1024x1024 .f32) (r l : Fin 1024) :
    k0_pay8 h x g dres (ix2 r l)
      = RmsGrad.dx (fun k : Fin 1024 => x (ix2 r k)) (fun k => h (ix2 r k) * g (ix2 0 k)) l + dres (ix2 r l) := by
  pointwise [k0_pay5, k0_pay6, k0_pay8]
  rfl

theorem pay_dg (h x : Vec Ideal S1024x1024 .f32) (acc : Vec Ideal S1x1024 .f32) (y : S1x1024.Idx) :
    k0_pay7 h x acc y = acc y + gain h x y := by
  pointwise [k0_pay5, k0_pay6, k0_pay7]
  rfl

theorem pay_zero (y : S1x1024.Idx) : (k0_pay2 (F := Ideal)) y = 0 := by
  pointwise [k0_pay2]

/-- A column block of a point's block, as the body loads it. -/
theorem ld_half (a : Vec Ideal S2x1024x704 .bf16) (n : ℕ) (s : Fin 2) (hn : n = s.val) (inb) :
    View.ld a (Rect.unit (s := S2x1024x704) ![n, 0, 0] ![1, 1024, 704] inb) = half a s := by
  refine funext fun (y : S1x1024x704.Idx) => congrArg a ?_
  obtain ⟨z, i, j, rfl⟩ : ∃ (z : Fin 1) (i : Fin 1024) (j : Fin 704), y = ix3 z i j := ⟨y 0, y 1, y 2, eq_ix3 y⟩
  funext q
  apply Fin.ext
  have e := ValueKit.rect_emb_unit_val (s := S2x1024x704) (off := ![n, 0, 0]) (size := ![1, 1024, 704]) inb (ix3 z i j) q
  refine e.trans ?_
  fin_cases q <;> simp <;> omega

variable (c : Dev nD)

/-- A point that finishes a row block does so from the scratch it leaves. -/
theorem finish (t : Fin cfg0.N) (h : t.val % 4 = 3) :
    (outsAt0 m c t.val t.isLt).1 = k0_pay8 (outsAt0 m c t.val t.isLt).2.2 (iblk m c 2 t) (iblk m c 3 t) (iblk m c 4 t)
    ∧ ∀ y, (outsAt0 m c t.val t.isLt).2.1 y
      = (outsAt0 m c (t.val - 1) (Nat.lt_of_le_of_lt (Nat.sub_le _ _) t.isLt)).2.1 y + gain (outsAt0 m c t.val t.isLt).2.2 (iblk m c 2 t) y := by
  rw [outsAt0_C m c t (by omega) (by omega) (by omega) h]
  frame_out
  exact ⟨trivial, fun y => by rw [pay_dg]⟩

/-- The first operand's array: the cotangent's column blocks, one after another. -/
theorem du_eq (b : Fin 8) (r : Fin 4096) (j : Fin 704) : V m c main_v3 (ix3 b r j)
    = m ((c : Thread nD τ).loc main_arg0) (ix2 r ⟨b.val * 704 + j.val, by omega⟩) := by
  have e : V m c main_v3 = StableHlo.after hostOps0 (fun b => m (c, b)) (Proc.devRef .tc main_v3) := rfl
  rw [e]
  after_results_simp
  pointwise []

/-- The second operand's array: both matrices' column blocks, one after another. -/
theorem w_eq (b : Fin 8) (k : Fin 1024) (j : Fin 704) : V m c main_v1 (ix3 b ⟨1024 + k.val, by omega⟩ j)
    = m ((c : Thread nD τ).loc main_arg1) (ix3 1 k ⟨b.val * 704 + j.val, by omega⟩) := by
  have e : V m c main_v1 = StableHlo.after hostOps0 (fun b => m (c, b)) (Proc.devRef .tc main_v1) := rfl
  rw [e]
  after_results_simp
  pointwise []
  exact congrArg (m ((c : Thread nD τ).loc main_arg1)) (by
    ext a; fin_cases a
    · exact (by omega : (1024 + k.val) / 1024 = 1)
    · exact (by omega : (1024 + k.val) % 1024 = k.val)
    · rfl)

/-- The point's blocks of the product's operands. -/
theorem entry (t : Fin cfg0.N) (q : Fin 4) (s : Fin 2) (p : Fin 4096) (r k : Fin 1024) (j : Fin 704) (hs : (q.val * 2 + s.val) * 704 + j.val < 5632)
    (hp : p.val = t.val / 4 * 1024 + r.val) (ht : t.val % 4 = q.val) :
    iblk m c 0 t (ix3 s r j) = m ((c : Thread nD τ).loc main_arg0) (ix2 p ⟨(q.val * 2 + s.val) * 704 + j.val, hs⟩)
    ∧ iblk m c 1 t (ix3 s k j) = m ((c : Thread nD τ).loc main_arg1) (ix3 1 k ⟨(q.val * 2 + s.val) * 704 + j.val, hs⟩) := by
  constructor
  · refine Eq.trans ?_ (du_eq m c ⟨q.val * 2 + s.val, by omega⟩ p j)
    blk_point [iblk, idx t]
  · refine Eq.trans ?_ (w_eq m c ⟨q.val * 2 + s.val, by omega⟩ k j)
    blk_point [iblk, idx t]

/-- The scratch at the end of a row block: the cotangent of its normed rows. -/
theorem acc_point (t : Fin cfg0.N) (h : t.val % 4 = 3) (r k : Fin 1024) (p : Fin 4096) (hp : p.val = t.val / 4 * 1024 + r.val) :
    (outsAt0 m c t.val t.isLt).2.2 (ix2 r k)
      = DH (m ((c : Thread nD τ).loc main_arg0)) (m ((c : Thread nD τ).loc main_arg1)) p k := by
  rw [Pipeline.eq_sum_fin_of_reset_step_apply_of_flush (fun n h => (outsAt0 m c n h).2.2) 4 (fun _ => 0)
      (fun t => part (iblk m c 0 t) (iblk m c 1 t))
      (fun t h y => by
        by_cases h8 : t.val % 16 = 0
        · rw [outsAt0_A m c t h8 h (by omega) (by omega)]; frame_out
          rw [ld_half _ 0 0 rfl, ld_half _ 0 0 rfl, ld_half _ 1 1 rfl, ld_half _ 1 1 rfl, pay_set, zero_add]
        · rw [outsAt0_D m c t h8 h (by omega) (by omega)]; frame_out
          rw [ld_half _ 0 0 rfl, ld_half _ 0 0 rfl, ld_half _ 1 1 rfl, ld_half _ 1 1 rfl, pay_set, zero_add])
      (fun t h y => by
        by_cases h3 : t.val % 4 = 3
        · rw [outsAt0_C m c t (by omega) h (by omega) h3]; frame_out
          rw [ld_half _ 0 0 rfl, ld_half _ 0 0 rfl, ld_half _ 1 1 rfl, ld_half _ 1 1 rfl, pay_add]
          exact congrArg (· + _) (congrFun (Memref.IsWhole.read_unread _ _) y)
        · rw [outsAt0_B m c t (by omega) h (by omega) h3]; frame_out
          rw [ld_half _ 0 0 rfl, ld_half _ 0 0 rfl, ld_half _ 1 1 rfl, ld_half _ 1 1 rfl, pay_add]
          exact congrArg (· + _) (congrFun (Memref.IsWhole.read_unread _ _) y)) t h (ix2 r k), zero_add]
  unfold DH
  let F : Fin 5632 → EReal := DHterm (m ((c : Thread nD τ).loc main_arg0)) (m ((c : Thread nD τ).loc main_arg1)) p k
  let G : Fin 8 → EReal := fun b => ∑ j : Fin 704, F ⟨b.val * 704 + j.val, by omega⟩
  refine (Finset.sum_congr rfl fun q _ => ?_ : _ = ∑ q : Fin 4, ∑ s : Fin 2, G ⟨q.val * 2 + s.val, by omega⟩).trans ?_
  · refine Finset.sum_congr rfl fun s _ => Finset.sum_congr rfl fun j _ => ?_
    have e := entry m c ⟨4 * (t.val / 4) + q.val, by have := t.isLt; have := q.isLt; omega⟩ q s p r k j (by omega) (by dsimp only; omega) (by dsimp only; omega)
    exact congrArg₂ (fun a b : EReal => a * b) e.1 e.2
  · exact (Fin.sum_mul_add_fin 4 2 G).trans (Fin.sum_mul_add_fin 8 704 F)

/-- The rows' gradient. -/
theorem dx_array : (dats m 0 c).arrAt 5 cfg0.N
    = DX (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf (y : S1024x1024.Idx) => ?_
  have hm : t.val % 4 = 3 := (flush0_5 t).mp hf
  blk_simp
  rw [after0_5, (finish m c t hm).1]
  obtain ⟨r, l, rfl⟩ : ∃ (r l : Fin 1024), y = ix2 r l := ⟨y 0, y 1, eq_ix2 y⟩
  have ht := lt_of_lt_of_eq t.isLt (show cfg0.N = 16 from N_0)
  rw [pay_dx]
  simp only [acc_point m c t hm r _ ⟨t.val / 4 * 1024 + r.val, by omega⟩ rfl]
  unfold DX
  blk_point [iblk, V, idx t]

theorem gain_point (t : Fin cfg0.N) (h : t.val % 4 = 3) (y : S1x1024.Idx) : gain (outsAt0 m c t.val t.isLt).2.2 (iblk m c 2 t) y
    = ∑ r : Fin 1024, rowG (m ((c : Thread nD τ).loc main_arg0)) (m ((c : Thread nD τ).loc main_arg1)) (m ((c : Thread nD τ).loc main_arg2)) (y 1)
        ⟨t.val / 4 * 1024 + r.val, by have := lt_of_lt_of_eq t.isLt (show cfg0.N = 16 from N_0); omega⟩ := by
  have ht := lt_of_lt_of_eq t.isLt (show cfg0.N = 16 from N_0)
  unfold gain rowG
  refine Finset.sum_congr rfl fun r _ => ?_
  rw [acc_point m c t h r (y 1) ⟨t.val / 4 * 1024 + r.val, by omega⟩ rfl]
  blk_point [iblk, V, idx t]

/-- The row blocks' sums, at every fourth point, are the sum over the rows. -/
theorem sum_blocks {N : ℕ} (F : Fin N → EReal) (f : Fin 4096 → EReal) (hN : N = 16)
    (h : ∀ t : Fin N, t.val % 4 = 3 → F t = ∑ r : Fin 1024, f ⟨t.val / 4 * 1024 + r.val, by omega⟩) :
    ∑ t : Fin N, (if t.val % 4 = 3 then F t else 0) = ∑ p, f p := by
  refine (Fin.sum_divmod_congr (A := 4) (S := 4) (f := fun a s => if s.val = 3 then ∑ r : Fin 1024, f ⟨a.val * 1024 + r.val, by omega⟩ else 0)
    (fun t ha hs => ?_) hN).trans ?_
  · by_cases h2 : t.val % 4 = 3
    · rw [if_pos h2, if_pos h2, h t h2]
    · rw [if_neg h2, if_neg h2]
  · refine (Finset.sum_congr rfl fun a _ => ?_ :
      _ = ∑ a : Fin 4, ∑ r : Fin 1024, f ⟨a.val * 1024 + r.val, by omega⟩).trans ?_
    · refine (Fin.sum_univ_four _).trans ?_
      rw [if_neg (by decide), if_neg (by decide), if_neg (by decide), if_pos (by decide), add_zero, add_zero, zero_add]
    exact Fin.sum_mul_add_congr (S := 4) (n := 1024) fun a r h => rfl

/-- The gain's gradient. -/
theorem dg_array : (dats m 0 c).arrAt 6 cfg0.N
    = DG (m ((c : Thread nD τ).loc main_arg0)) (m ((c : Thread nD τ).loc main_arg1)) (m ((c : Thread nD τ).loc main_arg2)) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0)
      (fun t y => if t.val % 4 = 3 then gain (outsAt0 m c t.val t.isLt).2.2 (iblk m c 2 t) y else 0)
      (fun t h y => by
        rw [if_neg (by omega), outsAt0_A m c t h (by omega) (by omega) (by omega)]; frame_out; rw [pay_zero, add_zero])
      (fun t h y => by
        by_cases h2 : t.val % 4 = 3
        · rw [if_pos h2]; exact (finish m c t h2).2 y
        · by_cases h4 : t.val % 4 = 0
          · rw [if_neg h2, outsAt0_D m c t h h4 (by omega) h2]; frame_out; exact (add_zero _).symm
          · rw [if_neg h2, outsAt0_B m c t h h4 (by omega) h2]; frame_out; exact (add_zero _).symm)
      (le_of_eq N_0) t0_15 rfl j, zero_add]
  exact sum_blocks _ _ N_0 fun t h => gain_point m c t h j

end Cert.UpNormIdeal.Hand

end
-- ==== Proof.UpNormClaim.lean ====
/-
  The claims about the feed-forward layer's norm gradient with the up projection's product.
-/
module

public import proofs.«01_k».proof.Defs
public import proofs.«01_k».proof.Proof.Gen.UpNorm.Frame
public import proofs.«01_k».proof.Proof.UpNormValue
public import Idealize.ShloMosaic.Lib.Quiescent

@[expose] public section

set_option maxRecDepth 16384

noncomputable section

namespace Cert.UpNormRefIdeal.Hand

open Cert.UpNormRefIdeal Cert.UpNormRefIdeal.Value Idealize.ShloMosaic Idealize.ShloMosaic.TcCoe Idealize.SL.Sem

/-- The reference's rows: the derivative of the norm's lines, read entry by entry. -/
theorem dx_result (m : (ℓ : Loc nD τ sig) → Buf (Elt Ideal) ℓ) (c : Dev nD) : res_main_v43 m c
    = UpNormIdeal.Hand.DX (m ((c : Thread nD τ).loc main_arg0)) (m ((c : Thread nD τ).loc main_arg1)) (m ((c : Thread nD τ).loc main_arg2)) (m ((c : Thread nD τ).loc main_arg3)) (m ((c : Thread nD τ).loc main_arg4)) := by
  refine funext fun (i : S4096x1024.Idx) => ?_
  obtain ⟨r, l, rfl⟩ : ∃ (r : Fin 4096) (l : Fin 1024), i = ix2 r l := ⟨i 0, i 1, eq_ix2 i⟩
  rw [UpNormIdeal.Hand.DX_apply]
  unfold res_main_v43
  pointwise
  simp only [Finset.univ_unique, Finset.sum_singleton]
  rfl

end Cert.UpNormRefIdeal.Hand

namespace Cert.Proof.UpNorm

open Idealize.ShloMosaic Idealize.ShloMosaic.TcCoe Idealize.SL.Sem

theorem frame : Cert.quiescent_UpNorm := fun m ρ _ => Cert.UpNorm.Gen.frame m ρ
theorem frameIdeal : Cert.quiescent_UpNormIdeal := fun m ρ _ => Cert.UpNormIdeal.Gen.frame m ρ
theorem frameRef : Cert.quiescent_UpNormRefIdeal := fun m ρ _ =>
  (θ_run Cert.UpNormRefIdeal.defs _ _).mono (fun r h => ⟨fun c => (h c).2.2, sem_eq_zero_of_no_sems (by decide) r.2⟩)
    (Cert.UpNormRefIdeal.Value.run (F := Ideal) m ρ)
theorem preserves : Cert.preserves_UpNorm_UpNormIdeal := trivial

theorem algebraic : Cert.algebraic_UpNormIdeal_UpNormRefIdeal := by
  intro m ρ m' ρ' _ hagree
  refine ⟨fun c => Cert.UpNormIdeal.Hand.DX _ _ _ _ _, fun c => Cert.UpNormIdeal.Hand.DG _ _ _,
    (θ_run Cert.UpNormIdeal.defs _ _).mono (fun _ h c => ⟨(h c).1.trans (Cert.UpNormIdeal.Hand.dx_array m c),
      (h c).2.1.trans (Cert.UpNormIdeal.Hand.dg_array m c), (h c).2.2⟩) (Cert.UpNormIdeal.Value.run_blocks (F := Ideal) m ρ),
    (θ_run Cert.UpNormRefIdeal.defs _ _).mono (fun _ h c => ⟨(h c).1.trans ?_, (h c).2.1.trans ?_, (h c).2.2⟩)
      (Cert.UpNormRefIdeal.Value.run (F := Ideal) m' ρ')⟩
  · rw [Cert.UpNormRefIdeal.Hand.dx_result, (hagree c).1, (hagree c).2.1, (hagree c).2.2.1, (hagree c).2.2.2.1, (hagree c).2.2.2.2]
  · rw [(hagree c).1, (hagree c).2.1, (hagree c).2.2.1]
    refine funext fun (i : Cert.UpNormRefIdeal.S1x1024.Idx) => ?_
    unfold Cert.UpNormIdeal.Hand.DG Cert.UpNormIdeal.Hand.rowG Cert.UpNormIdeal.Hand.DH Cert.UpNormIdeal.Hand.DHterm
    pointwise
    simp only [Finset.univ_unique, Finset.sum_singleton]
    exact Finset.sum_congr rfl fun r _ => mul_comm _ _

end Cert.Proof.UpNorm

end
-- ==== Proof.LossValue.lean ====
/-
  The loss and the final norm's gradient (`Loss`), entry by entry: of the error of the normed row against its target, the
  cotangent is the error over the width, the row's gradient the norm's own (`RmsGrad.dx`), and the two column sums run over all
  rows. No precondition: the chain rule's `½/n · (2·err)` is `err · 1/n` of every extended real.
-/
module

public import proofs.«01_k».proof.Proof.Gen.LossIdeal.Value
public import proofs.«01_k».proof.Proof.Gen.LossRefIdeal.Run
public import proofs.«01_k».proof.Proof.RmsGrad
public import Idealize.ShloMosaic.Lib.Pointwise
public import Idealize.ShloMosaic.Lib.Pipeline.ValueKit

@[expose] public section

set_option maxRecDepth 16384

noncomputable section

namespace Cert.LossIdeal.Hand

open Cert.LossIdeal Cert.LossIdeal.Gen Idealize.ShloMosaic Idealize.ShloMosaic.TcCoe Idealize.SL.Sem
open scoped BigOperators

/-- The error of a normed row. -/
def err (x g t : Fin 1024 → EReal) (l : Fin 1024) : EReal := x l * RmsGrad.inv x * g l - t l

/-- The loss's cotangent: the error over the width. -/
def dy (x g t : Fin 1024 → EReal) (l : Fin 1024) : EReal := err x g t l * Ideal.ofBits .f32 981467136#32

/-- 1/1024 -/
theorem word_inv : Ideal.ofBits .f32 981467136#32 = ((1 / 1024 : ℝ) : EReal) := by
  simp [Ideal.ofBits, Ideal.ieee, -EReal.coe_mul]; norm_num

/-- 0.5 -/
theorem word_half : Ideal.ofBits .f32 1056964608#32 = ((1 / 2 : ℝ) : EReal) := by
  simp [Ideal.ofBits, Ideal.ieee, -EReal.coe_mul]; norm_num

/-- 2.0 -/
theorem word_two : Ideal.ofBits .f32 1073741824#32 = ((2 : ℝ) : EReal) := by
  simp [Ideal.ofBits, Ideal.ieee, -EReal.coe_mul]; norm_num

/-- The chain rule's cotangent: half the width's share of twice the error. -/
def chain (x g t : Fin 1024 → EReal) (l : Fin 1024) : EReal :=
  Ideal.div (Ideal.ofBits .f32 1056964608#32) (Ideal.ofBits .f32 1149239296#32) * (Ideal.ofBits .f32 1073741824#32 * err x g t l)

theorem dy_eq (x g t : Fin 1024 → EReal) (l : Fin 1024) : dy x g t l = chain x g t l := by
  rw [dy, chain, word_inv, word_half, word_two, RmsGrad.word_1024, Ideal.div_coe (by norm_num), ← mul_assoc, ← EReal.coe_mul, mul_comm]
  norm_num
  rw [← EReal.coe_mul]
  norm_num

/-- The gradient of the rows. -/
def DX (x : Vec Ideal S4096x1024 .f32) (g : Vec Ideal S1x1024 .f32) (t : Vec Ideal S4096x1024 .f32) : Vec Ideal S4096x1024 .f32 := fun i =>
  RmsGrad.dx (fun k : Fin 1024 => x (ix2 (i 0) k))
    (fun k => dy (fun k : Fin 1024 => x (ix2 (i 0) k)) (fun k => g (ix2 0 k)) (fun k => t (ix2 (i 0) k)) k * g (ix2 0 k)) (i 1)

/-- The gradient of the gain. -/
def DG (x : Vec Ideal S4096x1024 .f32) (g : Vec Ideal S1x1024 .f32) (t : Vec Ideal S4096x1024 .f32) : Vec Ideal S1x1024 .f32 := fun i =>
  ∑ r : Fin 4096, dy (fun k : Fin 1024 => x (ix2 r k)) (fun k => g (ix2 0 k)) (fun k => t (ix2 r k)) (i 1)
    * (x (ix2 r (i 1)) * RmsGrad.inv fun k : Fin 1024 => x (ix2 r k))

/-- The columns' squared errors. -/
def L (x : Vec Ideal S4096x1024 .f32) (g : Vec Ideal S1x1024 .f32) (t : Vec Ideal S4096x1024 .f32) : Vec Ideal S1x1024 .f32 := fun i =>
  ∑ r : Fin 4096, err (fun k : Fin 1024 => x (ix2 r k)) (fun k => g (ix2 0 k)) (fun k => t (ix2 r k)) (i 1)
    * err (fun k : Fin 1024 => x (ix2 r k)) (fun k => g (ix2 0 k)) (fun k => t (ix2 r k)) (i 1)

/-- An entry of `DX` as the chain rule spells it. -/
theorem DX_apply (x : Vec Ideal S4096x1024 .f32) (g : Vec Ideal S1x1024 .f32) (t : Vec Ideal S4096x1024 .f32)
    (r : Fin 4096) (l : Fin 1024) : DX x g t (ix2 r l)
      = chain (fun k : Fin 1024 => x (ix2 r k)) (fun k => g (ix2 0 k)) (fun k => t (ix2 r k)) l * g (ix2 0 l)
          * RmsGrad.inv (fun k : Fin 1024 => x (ix2 r k))
        + x (ix2 r l) * RmsGrad.half (fun k : Fin 1024 => x (ix2 r k))
          (fun k => chain (fun k : Fin 1024 => x (ix2 r k)) (fun k => g (ix2 0 k)) (fun k => t (ix2 r k)) k * g (ix2 0 k))
        + RmsGrad.half (fun k : Fin 1024 => x (ix2 r k))
          (fun k => chain (fun k : Fin 1024 => x (ix2 r k)) (fun k => g (ix2 0 k)) (fun k => t (ix2 r k)) k * g (ix2 0 k)) * x (ix2 r l) := by
  simp only [← dy_eq]
  exact RmsGrad.dx_eq (fun k : Fin 1024 => x (ix2 r k)) _ l

/-- A summand of `DG` as the chain rule spells it. -/
theorem DG_apply (x : Vec Ideal S4096x1024 .f32) (g : Vec Ideal S1x1024 .f32) (t : Vec Ideal S4096x1024 .f32) (l : Fin 1024) :
    DG x g t (ix2 0 l) = ∑ r : Fin 4096, x (ix2 r l) * RmsGrad.inv (fun k : Fin 1024 => x (ix2 r k))
      * chain (fun k : Fin 1024 => x (ix2 r k)) (fun k => g (ix2 0 k)) (fun k => t (ix2 r k)) l := by
  simp only [← dy_eq]
  exact Finset.sum_congr rfl fun r _ => mul_comm _ _

/-- An entry of `L`. -/
theorem L_apply (x : Vec Ideal S4096x1024 .f32) (g : Vec Ideal S1x1024 .f32) (t : Vec Ideal S4096x1024 .f32) (l : Fin 1024) :
    L x g t (ix2 0 l) = ∑ r : Fin 4096,
      (x (ix2 r l) * RmsGrad.inv (fun k : Fin 1024 => x (ix2 r k)) * g (ix2 0 l) - t (ix2 r l))
      * (x (ix2 r l) * RmsGrad.inv (fun k : Fin 1024 => x (ix2 r k)) * g (ix2 0 l) - t (ix2 r l)) := rfl

variable (m : (ℓ : Loc nD τ sig) → Buf (Elt Ideal) ℓ)

theorem idx : ∀ t, win0_0.index t = ![t.val, 0] ∧ win0_1.index t = ![0, 0] ∧ win0_2.index t = ![t.val, 0]
    ∧ win0_3.index t = ![t.val, 0] ∧ win0_4.index t = ![0, 0] ∧ win0_5.index t = ![0, 0] := by decide +kernel

theorem pay_dx (x t : Vec Ideal S512x1024 .f32) (g : Vec Ideal S1x1024 .f32) (r : Fin 512) (l : Fin 1024) :
    k0_pay1 (k0_pay2 x) (k0_pay3 x) (k0_pay8 x g t) g (ix2 r l)
      = RmsGrad.dx (fun k : Fin 1024 => x (ix2 r k))
          (fun k => dy (fun k : Fin 1024 => x (ix2 r k)) (fun k => g (ix2 0 k)) (fun k => t (ix2 r k)) k * g (ix2 0 k)) l := by
  pointwise [k0_pay1, k0_pay2, k0_pay3, k0_pay8, k0_pay4]
  rfl

theorem pay_dg (x t : Vec Ideal S512x1024 .f32) (g acc : Vec Ideal S1x1024 .f32) (y : S1x1024.Idx) :
    k0_pay9 x g t acc y = acc y + ∑ r : Fin 512, dy (fun k : Fin 1024 => x (ix2 r k)) (fun k => g (ix2 0 k)) (fun k => t (ix2 r k)) (y 1)
      * (x (ix2 r (y 1)) * RmsGrad.inv fun k : Fin 1024 => x (ix2 r k)) := by
  pointwise [k0_pay9, k0_pay2, k0_pay3, k0_pay8, k0_pay4]
  rfl

theorem pay_l (x t : Vec Ideal S512x1024 .f32) (g acc : Vec Ideal S1x1024 .f32) (y : S1x1024.Idx) :
    k0_pay7 x g t acc y = acc y + ∑ r : Fin 512, err (fun k : Fin 1024 => x (ix2 r k)) (fun k => g (ix2 0 k)) (fun k => t (ix2 r k)) (y 1)
      * err (fun k : Fin 1024 => x (ix2 r k)) (fun k => g (ix2 0 k)) (fun k => t (ix2 r k)) (y 1) := by
  pointwise [k0_pay7, k0_pay2, k0_pay3, k0_pay4]
  rfl

theorem dx_array (c : Dev nD) : (dats m 0 c).arrAt 3 cfg0.N
    = DX (m ((c : Thread nD τ).loc main_arg0)) (m ((c : Thread nD τ).loc main_arg1)) (m ((c : Thread nD τ).loc main_arg2)) := by
  refine (dats m 0 c).arrAt_eq_of_covers 3 _ (by decide +kernel) fun t hf (y : S512x1024.Idx) => ?_
  blk_simp
  rw [after0_3]
  have e : (outsAt0 m c t.val t.isLt).1
      = k0_pay1 (k0_pay2 (iblk m c 0 t)) (k0_pay3 (iblk m c 0 t)) (k0_pay8 (iblk m c 0 t) (iblk m c 1 t) (iblk m c 2 t)) (iblk m c 1 t) := by
    by_cases h : t.val % 8 = 0
    · rw [outsAt0_A m c t h]; frame_out
    · rw [outsAt0_B m c t h]; frame_out
  obtain ⟨r, l, rfl⟩ : ∃ (r : Fin 512) (l : Fin 1024), y = ix2 r l := ⟨y 0, y 1, eq_ix2 y⟩
  rw [e, pay_dx]
  unfold DX
  blk_point [iblk, V, idx t]

theorem dg_array (c : Dev nD) : (dats m 0 c).arrAt 4 cfg0.N
    = DG (m ((c : Thread nD τ).loc main_arg0)) (m ((c : Thread nD τ).loc main_arg1)) (m ((c : Thread nD τ).loc main_arg2)) := by
  refine (dats m 0 c).arrAt_eq_of_after_last 4 t0_7 (by decide +kernel) _ fun j => ?_
  blk_simp
  rw [after0_4, Pipeline.eq_sum_fin_of_reset_step_apply_last (fun n h => (outsAt0 m c n h).2.1) 8 (fun _ => 0) _
      (fun t h j => by rw [outsAt0_A m c t h]; frame_out; rw [pay_dg]; pointwise [k0_pay5]; rfl)
      (fun t h j => by rw [outsAt0_B m c t h]; frame_out; rw [pay_dg])
      (le_of_eq N_0) t0_7 rfl j, zero_add]
  unfold DG
  refine Fin.sum_mul_add_congr (S := 8) (n := 512) fun t r ht => ?_
  blk_point [iblk, V, idx t]

theorem l_array (c : Dev nD) : (dats m 0 c).arrAt 5 cfg0.N
    = L (m ((c : Thread nD τ).loc main_arg0)) (m ((c : Thread nD τ).loc main_arg1)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0) _
      (fun t h j => by rw [outsAt0_A m c t h]; frame_out; rw [pay_l]; pointwise [k0_pay6]; rfl)
      (fun t h j => by rw [outsAt0_B m c t h]; frame_out; rw [pay_l])
      (le_of_eq N_0) t0_7 rfl j, zero_add]
  unfold L
  refine Fin.sum_mul_add_congr (S := 8) (n := 512) fun t r ht => ?_
  blk_point [iblk, V, idx t]

end Cert.LossIdeal.Hand

end
-- ==== Proof.LossClaim.lean ====
/-
  The claims about the loss head.
-/
module

public import proofs.«01_k».proof.Defs
public import proofs.«01_k».proof.Proof.Gen.Loss.Frame
public import proofs.«01_k».proof.Proof.LossValue
public import Idealize.ShloMosaic.Lib.Quiescent

@[expose] public section

set_option maxRecDepth 16384

noncomputable section

namespace Cert.LossRefIdeal.Hand

open Cert.LossRefIdeal Cert.LossRefIdeal.Value Idealize.ShloMosaic Idealize.ShloMosaic.TcCoe Idealize.SL.Sem

/-- The reference's rows: the derivative of the loss through the norm, read entry by entry. -/
theorem dx_result (m : (ℓ : Loc nD τ sig) → Buf (Elt Ideal) ℓ) (c : Dev nD) : res_main_v53 m c
    = LossIdeal.Hand.DX (m ((c : Thread nD τ).loc main_arg0)) (m ((c : Thread nD τ).loc main_arg1)) (m ((c : Thread nD τ).loc main_arg2)) := by
  refine funext fun (i : S4096x1024.Idx) => ?_
  obtain ⟨r, l, rfl⟩ : ∃ (r : Fin 4096) (l : Fin 1024), i = ix2 r l := ⟨i 0, i 1, eq_ix2 i⟩
  rw [LossIdeal.Hand.DX_apply]
  unfold res_main_v53
  pointwise
  simp only [Finset.univ_unique, Finset.sum_singleton]
  rfl

/-- The reference's error array. -/
def errs (x : FVec Ideal S4096x1024 .f32) (g : FVec Ideal S1x1024 .f32) (t : FVec Ideal S4096x1024 .f32) : FVec Ideal S4096x1024 .f32 :=
  subf (mulf (mulf x (broadcastInDim S4096x1024 ![0, 1] Cert.LossRefIdeal.Gen.bcast_S4096x1_S4096x1024_0_1 (Host.rsqrt (addf
    (Host.divf (broadcastInDim S4096x1 ![0] Cert.LossRefIdeal.Gen.bcast_S4096_S4096x1_0 (Host.reduceAdd (mulf x x) (constant S_ .f32 0x00000000#32)
      Cert.LossRefIdeal.Gen.reducesTo_S4096x1024_S4096_d1 Cert.LossRefIdeal.Gen.h_S_))
      (broadcastInDim S4096x1 ![] Cert.LossRefIdeal.Gen.bcast_S_S4096x1 (constant S_ .f32 0x44800000#32)))
    (broadcastInDim S4096x1 ![] Cert.LossRefIdeal.Gen.bcast_S_S4096x1 (constant S_ .f32 0x358637BD#32))))))
    (broadcastInDim S4096x1024 ![0, 1] Cert.LossRefIdeal.Gen.bcast_S1x1024_S4096x1024_0_1 (broadcastInDim S1x1024 ![1]
      Cert.LossRefIdeal.Gen.bcast_S1024_S1x1024_1 (shapeCast _ g Cert.LossRefIdeal.Gen.shapeCasts_S1x1024_S1024)))) t

theorem errs_apply (x : FVec Ideal S4096x1024 .f32) (g : FVec Ideal S1x1024 .f32) (t : FVec Ideal S4096x1024 .f32) (r : Fin 4096) (l : Fin 1024) :
    errs x g t (ix2 r l) = x (ix2 r l) * RmsGrad.inv (fun k : Fin 1024 => x (ix2 r k)) * g (ix2 0 l) - t (ix2 r l) := by
  unfold errs
  pointwise
  rfl

/-- A column's sum of squares. -/
theorem col_squares (E : FVec Ideal S4096x1024 .f32) (l : Fin 1024) :
    broadcastInDim S1x1024 ![1] Cert.LossRefIdeal.Gen.bcast_S1024_S1x1024_1
      (Host.reduceAdd (mulf E E) (constant S_ .f32 0x00000000#32) Cert.LossRefIdeal.Gen.reducesTo_S4096x1024_S1024_d0 Cert.LossRefIdeal.Gen.h_S_) (ix2 0 l)
      = ∑ r : Fin 4096, E (ix2 r l) * E (ix2 r l) := by
  pointwise

end Cert.LossRefIdeal.Hand

namespace Cert.Proof.Loss

open Idealize.ShloMosaic Idealize.ShloMosaic.TcCoe Idealize.SL.Sem

theorem frame : Cert.quiescent_Loss := fun m ρ _ => Cert.Loss.Gen.frame m ρ
theorem frameIdeal : Cert.quiescent_LossIdeal := fun m ρ _ => Cert.LossIdeal.Gen.frame m ρ
theorem frameRef : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)
theorem preserves : Cert.preserves_Loss_LossIdeal := trivial

theorem algebraic : Cert.algebraic_LossIdeal_LossRefIdeal := by
  intro m ρ m' ρ' _ hagree
  refine ⟨fun c => Cert.LossIdeal.Hand.DX _ _ _, fun c => Cert.LossIdeal.Hand.DG _ _ _, fun c => Cert.LossIdeal.Hand.L _ _ _,
    (θ_run Cert.LossIdeal.defs _ _).mono (fun _ h c => ⟨(h c).1.trans (Cert.LossIdeal.Hand.dx_array m c),
      (h c).2.1.trans (Cert.LossIdeal.Hand.dg_array m c), (h c).2.2.1.trans (Cert.LossIdeal.Hand.l_array m c), (h c).2.2.2⟩)
      (Cert.LossIdeal.Value.run_blocks (F := Ideal) m ρ),
    (θ_run Cert.LossRefIdeal.defs _ _).mono (fun _ h c => ⟨(h c).1.trans ?_, (h c).2.1.trans ?_, (h c).2.2.1.trans ?_, (h c).2.2.2⟩)
      (Cert.LossRefIdeal.Value.run (F := Ideal) m' ρ')⟩
  · rw [Cert.LossRefIdeal.Hand.dx_result, (hagree c).1, (hagree c).2.1, (hagree c).2.2]
  · rw [(hagree c).1, (hagree c).2.1, (hagree c).2.2]
    refine funext fun (i : Cert.LossRefIdeal.S1x1024.Idx) => ?_
    obtain ⟨l, rfl⟩ : ∃ l : Fin 1024, i = ix2 (0 : Fin 1) l := ⟨i 1, (eq_ix2 i).trans (congrArg (ix2 · (i 1)) (Subsingleton.elim _ _))⟩
    refine Eq.trans ?_ (Cert.LossIdeal.Hand.DG_apply _ _ _ l).symm
    pointwise
    simp only [Finset.univ_unique, Finset.sum_singleton]
    rfl
  · rw [(hagree c).1, (hagree c).2.1, (hagree c).2.2]
    refine funext fun (i : Cert.LossRefIdeal.S1x1024.Idx) => ?_
    obtain ⟨l, rfl⟩ : ∃ l : Fin 1024, i = ix2 (0 : Fin 1) l := ⟨i 1, (eq_ix2 i).trans (congrArg (ix2 · (i 1)) (Subsingleton.elim _ _))⟩
    refine Eq.trans (Cert.LossRefIdeal.Hand.col_squares _ l) (Eq.trans ?_ (Cert.LossIdeal.Hand.L_apply _ _ _ l).symm)
    refine Finset.sum_congr rfl fun r _ => congrArg (fun e : EReal => e * e) ?_
    exact Cert.LossRefIdeal.Hand.errs_apply _ _ _ r l

end Cert.Proof.Loss

end
-- ==== Proof.PoolProjValue.lean ====
/-
  The pooling layer's group projection and channel scale (`PoolProj`), the gradient, entry by entry: the four groups are four
  column bands, each stored by itself, and the weight's and the scale's gradients accumulate over the row blocks.
-/
module

public import proofs.«01_k».proof.Proof.Gen.PoolProjIdeal.Value
public import proofs.«01_k».proof.Proof.Gen.PoolProjRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.PoolProjIdeal.Hand

open Cert.PoolProjIdeal Cert.PoolProjIdeal.Gen Idealize.ShloMosaic Idealize.ShloMosaic.TcCoe Idealize.SL.Sem
open scoped BigOperators

/-- Column `j` of channel `l`'s group. -/
def at' (l : Fin 1024) (j : Fin 256) : Fin 1024 := ⟨l.val / 256 * 256 + j.val, by omega⟩

/-- The gradient of the mixed row, at one entry: the scaled cotangent of the group against the group's weight. -/
def dmRow (dy s : Fin 1024 → EReal) (w : Fin 256 → EReal) (l : Fin 1024) : EReal :=
  ∑ d : Fin 256, dy (at' l d) * s (at' l d) * w d

/-- A block's share of the weight's gradient. -/
def dwGain {R : ℕ} (dy mx : Fin R → Fin 1024 → EReal) (s : Fin 1024 → EReal) (g : Fin 4) (a b : Fin 256) : EReal :=
  ∑ r : Fin R, mx r ⟨g.val * 256 + a.val, by omega⟩ * (dy r ⟨g.val * 256 + b.val, by omega⟩ * s ⟨g.val * 256 + b.val, by omega⟩)

/-- A block's share of the scale's gradient. -/
def dsGain {R : ℕ} (dy mx : Fin R → Fin 1024 → EReal) (w : Fin 256 → EReal) (l : Fin 1024) : EReal :=
  ∑ r : Fin R, dy r l * ∑ a : Fin 256, mx r (at' l a) * w a

/-- The group of a column, and its place there. -/
def grp (l : Fin 1024) : Fin 4 := ⟨l.val / 256, by omega⟩
def plc (l : Fin 1024) : Fin 256 := ⟨l.val % 256, by omega⟩

theorem dmRow_congr {dy dy' s s' : Fin 1024 → EReal} {w w' : Fin 256 → EReal} {l l' : Fin 1024} (h₁ : ∀ d, dy (at' l d) = dy' (at' l' d))
    (h₂ : ∀ d, s (at' l d) = s' (at' l' d)) (h₃ : ∀ d, w d = w' d) : dmRow dy s w l = dmRow dy' s' w' l' :=
  Finset.sum_congr rfl fun d _ => congrArg₂ (fun a b : EReal => a * b) (congrArg₂ (fun a b : EReal => a * b) (h₁ d) (h₂ d)) (h₃ d)

/-- The gradient of the mixed rows. -/
def DM (dy : Vec Ideal S4096x1024 .f32) (w : Vec Ideal S4x256x256 .bf16) (s : Vec Ideal S1x1024 .f32) : Vec Ideal S4096x1024 .f32 := fun i =>
  dmRow (fun k => dy (ix2 (i 0) k)) (fun k => s (ix2 0 k)) (fun d => w (ix3 (grp (i 1)) (plc (i 1)) d)) (i 1)

/-- The gradient of the weight. -/
def DW (dy : Vec Ideal S4096x1024 .f32) (mx : Vec Ideal S4096x1024 .bf16) (s : Vec Ideal S1x1024 .f32) : Vec Ideal S4x256x256 .f32 := fun i =>
  dwGain (R := 4096) (fun r k => dy (ix2 r k)) (fun r k => mx (ix2 r k)) (fun k => s (ix2 0 k)) (i 0) (i 1) (i 2)

/-- The gradient of the scale. -/
def DS (dy : Vec Ideal S4096x1024 .f32) (mx : Vec Ideal S4096x1024 .bf16) (w : Vec Ideal S4x256x256 .bf16) : Vec Ideal S1x1024 .f32 := fun i =>
  dsGain (R := 4096) (fun r k => dy (ix2 r k)) (fun r k => mx (ix2 r k)) (fun a => w (ix3 (grp (i 1)) a (plc (i 1)))) (i 1)

variable (m : (ℓ : Loc nD τ sig) → Buf (Elt Ideal) ℓ)

theorem dm_point (c : Dev nD) (t : Fin cfg0.N) (y : S512x1024.Idx) : (outsAt0 m c t.val t.isLt).1 y
    = dmRow (fun k => (iblk m c 0 t : Vec Ideal S512x1024 .f32) (ix2 (y 0) k)) (fun k => (iblk m c 3 t : Vec Ideal S1x1024 .f32) (ix2 0 k))
      (fun d => (iblk m c 2 t : Vec Ideal S4x256x256 .bf16) (ix3 (grp (y 1)) (plc (y 1)) d)) (y 1) := by
  by_cases hh : t.val % 8 = 0
  · rw [outsAt0_A m c t hh]; frame_open
    simp (disch := decide) only [↓ View.readCov_skip, ↓ View.readCov_cons_toLoadRect, ↓ View.readCov_fill]
    frame_out
    clear hh
    canon_tiles x h
    all_goals
      open_payloads
      pointwise [dmRow, at', grp, plc]
      refine Finset.sum_congr rfl fun d _ => congrArg₂ (fun a b : EReal => a * b) (congrArg₂ (fun a b : EReal => a * b) ?_ ?_) ?_ <;> blk_ext
  · rw [outsAt0_B m c t hh]; frame_open
    simp (disch := decide) only [↓ View.readCov_skip, ↓ View.readCov_cons_toLoadRect, ↓ View.readCov_fill]
    frame_out
    clear hh
    canon_tiles x h
    all_goals
      open_payloads
      pointwise [dmRow, at', grp, plc]
      refine Finset.sum_congr rfl fun d _ => congrArg₂ (fun a b : EReal => a * b) (congrArg₂ (fun a b : EReal => a * b) ?_ ?_) ?_ <;> blk_ext

theorem dw_reset (c : Dev nD) (t : Fin cfg0.N) (hh : t.val % 8 = 0) (y : S4x256x256.Idx) : (outsAt0 m c t.val t.isLt).2.1 y
    = 0 + dwGain (fun r k => (iblk m c 0 t : Vec Ideal S512x1024 .f32) (ix2 r k)) (fun r k => (iblk m c 1 t : Vec Ideal S512x1024 .bf16) (ix2 r k))
      (fun k => (iblk m c 3 t : Vec Ideal S1x1024 .f32) (ix2 0 k)) (y 0) (y 1) (y 2) := by
  rw [outsAt0_A m c t hh]; frame_open
  simp (disch := decide) only [↓ View.readCov_skip, ↓ View.readCov_cons_toLoadRect, ↓ View.readCov_fill]
  frame_out
  clear hh
  refine View.canon_append_of_piecesOf (Val := Elt Ideal) (e := .f32) (fun y : S4x256x256.Idx => (0 + dwGain (fun r k => (iblk m c 0 t : Vec Ideal S512x1024 .f32) (ix2 r k)) (fun r k => (iblk m c 1 t : Vec Ideal S512x1024 .bf16) (ix2 r k))
      (fun k => (iblk m c 3 t : Vec Ideal S1x1024 .f32) (ix2 0 k)) (y 0) (y 1) (y 2) : EReal)) [_] [_, _, _, _] ⟨?_, ?_, ?_, ?_, trivial⟩ y
    (View.cover_of_tiledL (s := S4x256x256) _ S1x256x256.size (by sl_kernel_rfl) y)
  all_goals intro x
  all_goals
    pointwise [dwGain, k0_pay1, k0_pay2, k0_pay5, k0_pay7, k0_pay8, k0_pay10, k0_pay12, k0_pay13, k0_pay15, k0_pay17, k0_pay19, k0_pay21]
    refine Finset.sum_congr rfl fun r _ => congrArg₂ (fun a b : EReal => a * b) ?_ (congrArg₂ (fun a b : EReal => a * b) ?_ ?_) <;> blk_ext

theorem dw_step (c : Dev nD) (t : Fin cfg0.N) (hh : ¬ t.val % 8 = 0) (y : S4x256x256.Idx) : (outsAt0 m c t.val t.isLt).2.1 y
    = (outsAt0 m c (t.val - 1) (Nat.lt_of_le_of_lt (Nat.sub_le _ _) t.isLt)).2.1 y
      + dwGain (fun r k => (iblk m c 0 t : Vec Ideal S512x1024 .f32) (ix2 r k)) (fun r k => (iblk m c 1 t : Vec Ideal S512x1024 .bf16) (ix2 r k))
      (fun k => (iblk m c 3 t : Vec Ideal S1x1024 .f32) (ix2 0 k)) (y 0) (y 1) (y 2) := by
  rw [outsAt0_B m c t hh]; frame_open
  simp (disch := decide) only [↓ View.readCov_skip, ↓ View.readCov_cons_toLoadRect, ↓ View.readCov_fill]
  frame_out
  clear hh
  canon_tiles x h
  all_goals
    open_payloads
    pointwise [dwGain]
    refine congrArg₂ (fun a b : EReal => a + b) ?_ (Finset.sum_congr rfl fun r _ => congrArg₂ (fun a b : EReal => a * b) ?_ (congrArg₂ (fun a b : EReal => a * b) ?_ ?_)) <;> blk_ext

theorem ds_step (c : Dev nD) (t : Fin cfg0.N) (hh : ¬ t.val % 8 = 0) (y : S1x1024.Idx) : (outsAt0 m c t.val t.isLt).2.2 y
    = (outsAt0 m c (t.val - 1) (Nat.lt_of_le_of_lt (Nat.sub_le _ _) t.isLt)).2.2 y
      + dsGain (fun r k => (iblk m c 0 t : Vec Ideal S512x1024 .f32) (ix2 r k)) (fun r k => (iblk m c 1 t : Vec Ideal S512x1024 .bf16) (ix2 r k))
      (fun a => (iblk m c 2 t : Vec Ideal S4x256x256 .bf16) (ix3 (grp (y 1)) a (plc (y 1)))) (y 1) := by
  rw [outsAt0_B m c t hh]; frame_open
  simp (disch := decide) only [↓ View.readCov_skip, ↓ View.readCov_cons_toLoadRect, ↓ View.readCov_fill]
  frame_out
  clear hh
  canon_tiles x h
  all_goals
    open_payloads
    pointwise [dsGain, at', grp, plc]
    refine congrArg₂ (fun a b : EReal => a + b) ?_ (Finset.sum_congr rfl fun r _ => congrArg₂ (fun a b : EReal => a * b) ?_ (Finset.sum_congr rfl fun a _ => congrArg₂ (fun a b : EReal => a * b) ?_ ?_)) <;> blk_ext

theorem ds_reset (c : Dev nD) (t : Fin cfg0.N) (hh : t.val % 8 = 0) (y : S1x1024.Idx) : (outsAt0 m c t.val t.isLt).2.2 y
    = 0 + dsGain (fun r k => (iblk m c 0 t : Vec Ideal S512x1024 .f32) (ix2 r k)) (fun r k => (iblk m c 1 t : Vec Ideal S512x1024 .bf16) (ix2 r k))
      (fun a => (iblk m c 2 t : Vec Ideal S4x256x256 .bf16) (ix3 (grp (y 1)) a (plc (y 1)))) (y 1) := by
  rw [outsAt0_A m c t hh]; frame_open
  simp (disch := decide) only [↓ View.readCov_skip, ↓ View.readCov_cons_toLoadRect, ↓ View.readCov_fill]
  frame_out
  clear hh
  refine View.canon_append_of_piecesOf (Val := Elt Ideal) (e := .f32) (fun y : S1x1024.Idx => (0 + dsGain (fun r k => (iblk m c 0 t : Vec Ideal S512x1024 .f32) (ix2 r k)) (fun r k => (iblk m c 1 t : Vec Ideal S512x1024 .bf16) (ix2 r k))
      (fun a => (iblk m c 2 t : Vec Ideal S4x256x256 .bf16) (ix3 (grp (y 1)) a (plc (y 1)))) (y 1) : EReal)) [_] [_, _, _, _] ⟨?_, ?_, ?_, ?_, trivial⟩ y
    (View.cover_of_tiledL (s := S1x1024) _ S1x256.size (by sl_kernel_rfl) y)
  all_goals intro x
  all_goals
    pointwise [dsGain, k0_pay3, k0_pay4, k0_pay9, k0_pay14, k0_pay18, at', grp, plc]
    refine Finset.sum_congr rfl fun r _ => congrArg₂ (fun a b : EReal => a * b) ?_ (Finset.sum_congr rfl fun a _ => congrArg₂ (fun a b : EReal => a * b) ?_ ?_) <;> blk_ext

theorem idx : ∀ t, win0_0.index t = ![t.val, 0] ∧ win0_1.index t = ![t.val, 0] ∧ win0_2.index t = ![0, 0, 0]
    ∧ win0_3.index t = ![0, 0] ∧ win0_4.index t = ![t.val, 0] ∧ win0_5.index t = ![0, 0, 0] ∧ win0_6.index t = ![0, 0] := by decide +kernel

theorem dm_array (c : Dev nD) : (dats m 0 c).arrAt 4 cfg0.N = DM (m ((c : Thread nD τ).loc main_arg0)) (m ((c : Thread nD τ).loc main_arg2)) (m ((c : Thread nD τ).loc main_arg3)) := by
  refine (dats m 0 c).arrAt_eq_of_covers 4 _ (by decide +kernel) fun t hf (y : S512x1024.Idx) => ?_
  blk_simp
  rw [after0_4, dm_point]
  unfold DM
  refine dmRow_congr (fun d => ?_) (fun d => ?_) fun d => ?_
  all_goals try unfold at'
  all_goals blk_point [iblk, V, grp, plc, idx t]

theorem dw_array (c : Dev nD) : (dats m 0 c).arrAt 5 cfg0.N = DW (m ((c : Thread nD τ).loc main_arg0)) (m ((c : Thread nD τ).loc main_arg1)) (m ((c : Thread nD τ).loc main_arg3)) := by
  refine (dats m 0 c).arrAt_eq_of_after_last 5 t0_7 (by decide +kernel) _ fun j => ?_
  blk_simp
  rw [after0_5, Pipeline.eq_sum_fin_of_reset_step_apply_last (fun n h => (outsAt0 m c n h).2.1) 8 (fun _ => 0) _
      (fun t h j => dw_reset m c t h j) (fun t h j => dw_step m c t h j) (le_of_eq N_0) t0_7 rfl j, zero_add]
  unfold DW dwGain
  refine Fin.sum_mul_add_congr (S := 8) (n := 512) fun t r ht => congrArg₂ (fun a b : EReal => a * b) ?_ (congrArg₂ (fun a b : EReal => a * b) ?_ ?_) <;>
  blk_point [iblk, V, idx t]

theorem ds_array (c : Dev nD) : (dats m 0 c).arrAt 6 cfg0.N = DS (m ((c : Thread nD τ).loc main_arg0)) (m ((c : Thread nD τ).loc main_arg1)) (m ((c : Thread nD τ).loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0) _
      (fun t h j => ds_reset m c t h j) (fun t h j => ds_step m c t h j) (le_of_eq N_0) t0_7 rfl j, zero_add]
  unfold DS dsGain at' grp plc
  refine Fin.sum_mul_add_congr (S := 8) (n := 512) fun t r ht => congrArg₂ (fun a b : EReal => a * b) ?_ (Finset.sum_congr rfl fun a _ => congrArg₂ (fun a b : EReal => a * b) ?_ ?_) <;>
  blk_point [iblk, V, idx t]

end Cert.PoolProjIdeal.Hand

end
-- ==== Proof.PoolProjClaim.lean ====
/-
  The claims about the pooling layer's group projection.
-/
module

public import proofs.«01_k».proof.Defs
public import proofs.«01_k».proof.Proof.Gen.PoolProj.Frame
public import proofs.«01_k».proof.Proof.PoolProjValue
public import Idealize.ShloMosaic.Lib.Quiescent

@[expose] public section

set_option maxRecDepth 16384

noncomputable section

namespace Cert.Proof.PoolProj

open Idealize.ShloMosaic Idealize.ShloMosaic.TcCoe Idealize.SL.Sem

theorem frame : Cert.quiescent_PoolProj := fun m ρ _ => Cert.PoolProj.Gen.frame m ρ
theorem frameIdeal : Cert.quiescent_PoolProjIdeal := fun m ρ _ => Cert.PoolProjIdeal.Gen.frame m ρ
theorem frameRef : Cert.quiescent_PoolProjRefIdeal := fun m ρ _ =>
  (θ_run Cert.PoolProjRefIdeal.defs _ _).mono (fun r h => ⟨fun c => (h c).2.2.2, sem_eq_zero_of_no_sems (by decide) r.2⟩)
    (Cert.PoolProjRefIdeal.Value.run (F := Ideal) m ρ)
theorem preserves : Cert.preserves_PoolProj_PoolProjIdeal := trivial

theorem algebraic : Cert.algebraic_PoolProjIdeal_PoolProjRefIdeal := by
  intro m ρ m' ρ' _ hagree
  refine ⟨fun c => Cert.PoolProjIdeal.Hand.DM _ _ _, fun c => Cert.PoolProjIdeal.Hand.DW _ _ _, fun c => Cert.PoolProjIdeal.Hand.DS _ _ _,
    (θ_run Cert.PoolProjIdeal.defs _ _).mono (fun _ h c => ⟨(h c).1.trans (Cert.PoolProjIdeal.Hand.dm_array m c),
      (h c).2.1.trans (Cert.PoolProjIdeal.Hand.dw_array m c), (h c).2.2.1.trans (Cert.PoolProjIdeal.Hand.ds_array m c), (h c).2.2.2⟩)
      (Cert.PoolProjIdeal.Value.run_blocks (F := Ideal) m ρ),
    (θ_run Cert.PoolProjRefIdeal.defs _ _).mono (fun _ h c => ⟨(h c).1.trans ?_, (h c).2.1.trans ?_, (h c).2.2.1.trans ?_, (h c).2.2.2⟩)
      (Cert.PoolProjRefIdeal.Value.run (F := Ideal) m' ρ')⟩
  · rw [(hagree c).1, (hagree c).2.2.1, (hagree c).2.2.2]
    refine funext fun (i : Cert.PoolProjRefIdeal.S4096x1024.Idx) => ?_
    unfold Cert.PoolProjIdeal.Hand.DM Cert.PoolProjIdeal.Hand.dmRow Cert.PoolProjIdeal.Hand.at' Cert.PoolProjIdeal.Hand.grp Cert.PoolProjIdeal.Hand.plc
    pointwise
    blk_ext
  · rw [(hagree c).1, (hagree c).2.1, (hagree c).2.2.2]
    refine funext fun (i : Cert.PoolProjRefIdeal.S4x256x256.Idx) => ?_
    unfold Cert.PoolProjIdeal.Hand.DW Cert.PoolProjIdeal.Hand.dwGain
    pointwise
    exact Finset.sum_congr rfl fun r _ => mul_comm _ _
  · rw [(hagree c).1, (hagree c).2.1, (hagree c).2.2.1]
    refine funext fun (i : Cert.PoolProjRefIdeal.S1x1024.Idx) => ?_
    unfold Cert.PoolProjIdeal.Hand.DS Cert.PoolProjIdeal.Hand.dsGain Cert.PoolProjIdeal.Hand.at' Cert.PoolProjIdeal.Hand.grp Cert.PoolProjIdeal.Hand.plc
    pointwise
    refine Finset.sum_congr rfl fun r _ => (mul_comm _ _).trans (congrArg₂ (fun a b : EReal => a * b) rfl ?_)
    exact Finset.sum_congr rfl fun d _ => mul_comm _ _

end Cert.Proof.PoolProj

end
-- ==== Proof.XattnReal.lean ====
module

public import proofs.«01_k».proof.Proof.SoftmaxReal

/-
  One head of the cross-attention over the reals, query by query: a row of 256 query entries against 256 memory tokens, and what the
  row's cotangent makes of it.
-/

@[expose] public section

noncomputable section

namespace XattnReal

open Idealize.ShloMosaic
open scoped BigOperators

variable (q : Fin 256 → ℝ) (k v : Fin 256 → Fin 256 → ℝ) (ct : Fin 256 → ℝ)

/-- The query's score on a memory token. -/
def s (j : Fin 256) : ℝ := (∑ d, q d * k j d) * (1 / 16)

/-- Its weight. -/
def w (j : Fin 256) : ℝ := Real.exp (s q k j) / ∑ j', Real.exp (s q k j')

/-- The output. -/
def out (d : Fin 256) : ℝ := ∑ j, w q k j * v j d

/-- The weight's gradient. -/
def dw (j : Fin 256) : ℝ := ∑ d, ct d * v j d

/-- The score's gradient. -/
def ds (j : Fin 256) : ℝ := w q k j * (dw v ct j - ∑ j', w q k j' * dw v ct j')

/-- The query's gradient, and what the query adds to the gradients of a memory token's key and value. -/
def dq (d : Fin 256) : ℝ := ∑ j, ds q k v ct j * (1 / 16) * k j d
def dk (j d : Fin 256) : ℝ := ds q k v ct j * (1 / 16) * q d
def dv (j d : Fin 256) : ℝ := w q k j * ct d

/-- The weight from exponentials shifted by any number. -/
theorem w_shift (M : ℝ) (j : Fin 256) : Real.exp (s q k j - M) / ∑ j', Real.exp (s q k j' - M) = w q k j := by
  simp only [Real.exp_sub, ← Finset.sum_div]
  exact div_div_div_cancel_right₀ (Real.exp_pos M).ne' _ _

/-- The score's gradient as the quotient rule gives it from shifted exponentials. -/
theorem ds_shift (M : ℝ) (j : Fin 256) :
    (dw v ct j / ∑ j', Real.exp (s q k j' - M)
      + -∑ j', dw v ct j' * (1 / ((∑ j', Real.exp (s q k j' - M)) * ∑ j', Real.exp (s q k j' - M))) * Real.exp (s q k j' - M))
      * Real.exp (s q k j - M) = ds q k v ct j := by
  unfold ds
  simp only [← w_shift q k M]
  have hL : ∑ j', Real.exp (s q k j' - M) ≠ 0 := (SoftmaxReal.sum_exp_pos _).ne'
  generalize ∑ j', Real.exp (s q k j' - M) = L at hL ⊢
  have e : ∑ j', dw v ct j' * (1 / (L * L)) * Real.exp (s q k j' - M) = (∑ j', Real.exp (s q k j' - M) / L * dw v ct j') / L := by
    rw [Finset.sum_div]
    exact Finset.sum_congr rfl fun j' _ => by field_simp
  rw [e]
  field_simp
  ring

/-- Entry `d` of head `h` among all columns. -/
abbrev hd (h : Fin 4) (d : Fin 256) : Fin 1024 := ⟨h.val * 256 + d.val, by omega⟩
/-- The head's keys and values among the stacked ones. -/
abbrev kh (h : Fin 4) : Fin 8 := ⟨h.val, by omega⟩
abbrev vh (h : Fin 4) : Fin 8 := ⟨4 + h.val, by omega⟩

/-- What `n` queries add to a memory token's key or value. -/
def gain {n : ℕ} (Q : Fin n → Fin 1024 → ℝ) (KV : Fin 8 → Fin 256 → Fin 256 → ℝ) (C : Fin n → Fin 1024 → ℝ) (g : Fin 8) (j d : Fin 256) : ℝ :=
  if h : g.val < 4 then
    ∑ r, dk (fun d => Q r (hd ⟨g.val, h⟩ d)) (KV (kh ⟨g.val, h⟩)) (KV (vh ⟨g.val, h⟩)) (fun d => C r (hd ⟨g.val, h⟩ d)) j d
  else ∑ r, dv (fun d => Q r (hd ⟨g.val - 4, by omega⟩ d)) (KV (kh ⟨g.val - 4, by omega⟩)) (fun d => C r (hd ⟨g.val - 4, by omega⟩ d)) j d

/-- A query's gradient at column `l` of all. -/
def grad (Q : Fin 1024 → ℝ) (KV : Fin 8 → Fin 256 → Fin 256 → ℝ) (C : Fin 1024 → ℝ) (h : Fin 4) (d : Fin 256) : ℝ :=
  dq (fun d => Q (hd h d)) (KV (kh h)) (KV (vh h)) (fun d => C (hd h d)) d

end XattnReal
-- ==== Proof.XattnHead.lean ====
module

public import proofs.«01_k».proof.Proof.Gen.XattnIdeal.Value
public import Idealize.ShloMosaic.Lib.Pipeline.ValueKit
public import proofs.«01_k».proof.Proof.XattnReal

/-
  One head of one block of queries: what the kernel's vector arithmetic gives at real entries.
-/

@[expose] public section

set_option maxRecDepth 16384
set_option maxHeartbeats 2000000

noncomputable section

namespace Cert.XattnIdeal.Hand

open Cert.XattnIdeal Cert.XattnIdeal.Gen Cert.XattnIdeal.Value Idealize.ShloMosaic Idealize.ShloMosaic.TcCoe Idealize.SL.Sem
open scoped BigOperators

theorem word_sixteenth : (Ideal.ofBits FTy.f32 0x3D800000#32 : EReal) = ((1 / 16 : ℝ) : EReal) := by
  simp [Ideal.ofBits, Ideal.ieee, -EReal.coe_mul]
  norm_num

theorem col (u : Vec Ideal S512 .f32) (r : Fin 512) : (shapeCast S512x1 u shapeCasts_S512_S512x1 : FVec Ideal S512x1 .f32) (ix2 r 0) = u (ix1 r) := by
  pointwise []

theorem lift_row (r : Fin 512) (j : Fin 256) : reduces_S512x256_S512.lift (ix1 r) j = ix2 r j := by
  funext a
  fin_cases a <;> rfl

/-- The sum of a row, as a column's entry. -/
abbrev rowSum (x : Vec Ideal S512x256 .f32) : FVec Ideal S512x1 .f32 :=
  shapeCast S512x1 (multiReduction (F := Ideal) (φ := .f32) .add [1] S512 x 0x00000000#32 reduces_S512x256_S512 (.inl rfl) rfl) shapeCasts_S512_S512x1

/-- The largest entry of a row. -/
abbrev rowTop (x : Vec Ideal S512x256 .f32) : FVec Ideal S512x1 .f32 :=
  shapeCast S512x1 (multiReduction (F := Ideal) (φ := .f32) .maximumf [1] S512 x 0xFF800000#32 reduces_S512x256_S512 (.inl rfl) rfl) shapeCasts_S512_S512x1

theorem rowSum_apply (x : Vec Ideal S512x256 .f32) (r : Fin 512) : rowSum x (ix2 r 0) = ∑ j : Fin 256, x (ix2 r j) :=
  (col _ r).trans ((Ideal.multiReduction_add_single x 0x00000000#32 reduces_S512x256_S512 (.inl rfl) rfl (ix1 r)).trans
    (Finset.sum_congr rfl fun j _ => congrArg x (lift_row r j)))

theorem word_bot : (FloatOps.ofBits (F := Ideal) FTy.f32 0xFF800000#32 : EReal) = ⊥ := by
  simp [Ideal.ofBits, Ideal.ieee]

theorem rowTop_real (x : Vec Ideal S512x256 .f32) (r : Fin 512) (σ : Fin 256 → ℝ) (h : ∀ j, x (ix2 r j) = σ j) : ∃ M : ℝ, rowTop x (ix2 r 0) = M := by
  obtain ⟨M, hM⟩ := SoftmaxReal.fold_max (ι := Fin 256) (fun j => x (ix2 r j)) σ h Finset.univ Finset.univ_nonempty
  refine ⟨M, (col _ r).trans ((Ideal.multiReduction_maximumf_single (φ := .f32) x 0xFF800000#32 reduces_S512x256_S512 (.inl rfl) rfl (ix1 r)).trans ?_)⟩
  have e : x ∘ reduces_S512x256_S512.lift (ix1 r) = fun j => x (ix2 r j) := funext fun j => congrArg x (lift_row r j)
  rw [e, word_bot]
  exact hM

/-- The scores of a block of queries. -/
abbrev scores (q : Vec Ideal S512x256 .bf16) (k : Vec Ideal S1x256x256 .bf16) : FVec Ideal S512x256 .f32 :=
  mulf (matmul (F := Ideal) (φ₁ := .bf16) (φ₂ := .bf16) dot_S512x256_S256x256_S512x256_1_1_0_0_n_n none q (k0_pay6 k) (constant S512x256 .f32 0x00000000#32))
    (broadcast S512x256 (Scalar.ofBits (F := Ideal) .f32 0x3D800000#32))

/-- The exponentials of the scores less the row's largest. -/
abbrev exps (x : FVec Ideal S512x256 .f32) : FVec Ideal S512x256 .f32 := exp (subf x (broadcastTo S512x256 (rowTop x) broadcasts_S512x1_S512x256))

theorem exps_apply (x : FVec Ideal S512x256 .f32) (r : Fin 512) (j : Fin 256) : exps x (ix2 r j) = Ideal.exp (x (ix2 r j) - rowTop x (ix2 r 0)) := by
  unfold exps
  generalize rowTop x = u
  pointwise []

theorem weights_eq (q : Vec Ideal S512x256 .bf16) (k : Vec Ideal S1x256x256 .bf16) :
    k0_pay7 q k = divf (exps (scores q k)) (broadcastTo S512x256 (rowSum (exps (scores q k))) broadcasts_S512x1_S512x256) := rfl

/-- The weights' gradients. -/
abbrev dots (v : Vec Ideal S1x256x256 .bf16) (d : Vec Ideal S512x256 .bf16) : FVec Ideal S512x256 .f32 :=
  matmul (F := Ideal) (φ₁ := .bf16) (φ₂ := .bf16) dot_S512x256_S256x256_S512x256_1_1_0_0_n_n none d (shapeCast S256x256 v shapeCasts_S1x256x256_S256x256 : FVec Ideal S256x256 .bf16) (constant S512x256 .f32 0x00000000#32)

theorem back_eq (q : Vec Ideal S512x256 .bf16) (k v : Vec Ideal S1x256x256 .bf16) (d : Vec Ideal S512x256 .bf16) :
    k0_pay26 q k v d = truncf .bf16 (mulf (mulf (k0_pay7 q k) (subf (dots v d) (broadcastTo S512x256 (rowSum (mulf (k0_pay7 q k) (dots v d))) broadcasts_S512x1_S512x256)))
      (broadcast S512x256 (Scalar.ofBits (F := Ideal) .f32 0x3D800000#32))) bitsLt_bf16_f32 := rfl

variable {q : Vec Ideal S512x256 .bf16} {k v : Vec Ideal S1x256x256 .bf16} {d : Vec Ideal S512x256 .bf16}
  {a : Fin 512 → Fin 256 → ℝ} {b c : Fin 256 → Fin 256 → ℝ} {e : Fin 512 → Fin 256 → ℝ}

theorem score_real (hq : ∀ r l, q (ix2 r l) = a r l) (hk : ∀ j l, k (ix3 0 j l) = b j l) (r : Fin 512) (j : Fin 256) :
    scores q k (ix2 r j) = (XattnReal.s (a r) b j : EReal) := by
  have h : scores q k (ix2 r j) = (∑ l : Fin 256, q (ix2 r l) * k (ix3 0 j l) : EReal) * Ideal.ofBits FTy.f32 0x3D800000#32 := by
    unfold scores
    pointwise [k0_pay6]
  rw [h, word_sixteenth]
  simp only [hq, hk, ← EReal.coe_mul, ← SoftmaxReal.coe_sum]
  rfl

theorem weight_real (hq : ∀ r l, q (ix2 r l) = a r l) (hk : ∀ j l, k (ix3 0 j l) = b j l) (r : Fin 512) (j : Fin 256) :
    k0_pay7 q k (ix2 r j) = (XattnReal.w (a r) b j : EReal) := by
  have hs := score_real hq hk r
  rw [weights_eq]
  generalize scores q k = x at hs ⊢
  obtain ⟨M, hM⟩ := rowTop_real x r _ hs
  have he (j : Fin 256) : exps x (ix2 r j) = (Real.exp (XattnReal.s (a r) b j - M) : EReal) := by
    rw [exps_apply, hs, hM, SoftmaxReal.exp_sub]
  have hl : rowSum (exps x) (ix2 r 0) = ((∑ j, Real.exp (XattnReal.s (a r) b j - M) : ℝ) : EReal) := by
    rw [rowSum_apply]
    simp only [he, ← SoftmaxReal.coe_sum]
  have h : (divf (exps x) (broadcastTo S512x256 (rowSum (exps x)) broadcasts_S512x1_S512x256) : FVec Ideal S512x256 .f32) (ix2 r j)
      = Ideal.div (exps x (ix2 r j)) (rowSum (exps x) (ix2 r 0)) := by
    generalize rowSum (exps x) = u
    generalize exps x = y
    pointwise []
  rw [h, he, hl, SoftmaxReal.div_real _ (SoftmaxReal.sum_exp_pos _).ne', XattnReal.w_shift]

theorem dot_real (hv : ∀ j l, v (ix3 0 j l) = c j l) (hd : ∀ r l, d (ix2 r l) = e r l) (r : Fin 512) (j : Fin 256) :
    dots v d (ix2 r j) = (XattnReal.dw c (e r) j : EReal) := by
  have h : dots v d (ix2 r j) = (∑ l : Fin 256, d (ix2 r l) * v (ix3 0 j l) : EReal) := by
    unfold dots
    pointwise []
  rw [h]
  simp only [hv, hd, ← EReal.coe_mul, ← SoftmaxReal.coe_sum]
  rfl

theorem back_real (hq : ∀ r l, q (ix2 r l) = a r l) (hk : ∀ j l, k (ix3 0 j l) = b j l) (hv : ∀ j l, v (ix3 0 j l) = c j l) (hd : ∀ r l, d (ix2 r l) = e r l)
    (r : Fin 512) (j : Fin 256) : k0_pay26 q k v d (ix2 r j) = ((XattnReal.ds (a r) b c (e r) j * (1 / 16) : ℝ) : EReal) := by
  have hw := weight_real hq hk r
  have hx := dot_real hv hd r
  rw [back_eq]
  generalize k0_pay7 q k = p at hw ⊢
  generalize dots v d = x at hx ⊢
  have hl : rowSum (mulf p x) (ix2 r 0) = ((∑ j, XattnReal.w (a r) b j * XattnReal.dw c (e r) j : ℝ) : EReal) := by
    rw [rowSum_apply, SoftmaxReal.coe_sum]
    refine Finset.sum_congr rfl fun j _ => ?_
    rw [EReal.coe_mul, ← hw, ← hx]
    pointwise []
  have h : (truncf .bf16 (mulf (mulf p (subf x (broadcastTo S512x256 (rowSum (mulf p x)) broadcasts_S512x1_S512x256)))
      (broadcast S512x256 (Scalar.ofBits (F := Ideal) .f32 0x3D800000#32))) bitsLt_bf16_f32 : FVec Ideal S512x256 .bf16) (ix2 r j)
      = (p (ix2 r j) * (x (ix2 r j) - rowSum (mulf p x) (ix2 r 0)) : EReal) * Ideal.ofBits FTy.f32 0x3D800000#32 := by
    generalize rowSum (mulf p x) = u
    pointwise []
  rw [h, hw, hx, hl, word_sixteenth, ← EReal.coe_sub, ← EReal.coe_mul, ← EReal.coe_mul]
  rfl

theorem query_real (hq : ∀ r l, q (ix2 r l) = a r l) (hk : ∀ j l, k (ix3 0 j l) = b j l) (hv : ∀ j l, v (ix3 0 j l) = c j l) (hd : ∀ r l, d (ix2 r l) = e r l)
    (r : Fin 512) (l : Fin 256) : k0_pay27 q k v d (ix2 r l) = (XattnReal.dq (a r) b c (e r) l : EReal) := by
  have hb := back_real hq hk hv hd r
  unfold k0_pay27
  generalize k0_pay26 q k v d = x at hb ⊢
  pointwise [k0_pay23]
  simp only [hb, hk, ← EReal.coe_mul, ← SoftmaxReal.coe_sum]
  rfl

theorem key_real (hq : ∀ r l, q (ix2 r l) = a r l) (hk : ∀ j l, k (ix3 0 j l) = b j l) (hv : ∀ j l, v (ix3 0 j l) = c j l) (hd : ∀ r l, d (ix2 r l) = e r l)
    (p : Vec Ideal S1x256x256 .f32) (y : S1x256x256.Idx) :
    k0_pay28 q (k0_pay26 q k v d) p y = (p y : EReal) + ((∑ r, XattnReal.dk (a r) b c (e r) (y 1) (y 2) : ℝ) : EReal) := by
  obtain ⟨j, l, rfl⟩ : ∃ j l : Fin 256, y = ix3 (0 : Fin 1) j l := ⟨y 1, y 2, (eq_ix3 y).trans (congrArg (ix3 · (y 1) (y 2)) (Subsingleton.elim _ _))⟩
  have hb := fun r => back_real hq hk hv hd r j
  generalize k0_pay26 q k v d = x at hb ⊢
  pointwise [k0_pay28]
  simp only [hb, hq, ← EReal.coe_mul, ← SoftmaxReal.coe_sum]
  rfl

theorem value_real (hq : ∀ r l, q (ix2 r l) = a r l) (hk : ∀ j l, k (ix3 0 j l) = b j l) (hd : ∀ r l, d (ix2 r l) = e r l)
    (p : Vec Ideal S1x256x256 .f32) (y : S1x256x256.Idx) :
    k0_pay8 q k d p y = (p y : EReal) + ((∑ r, XattnReal.dv (a r) b (e r) (y 1) (y 2) : ℝ) : EReal) := by
  obtain ⟨j, l, rfl⟩ : ∃ j l : Fin 256, y = ix3 (0 : Fin 1) j l := ⟨y 1, y 2, (eq_ix3 y).trans (congrArg (ix3 · (y 1) (y 2)) (Subsingleton.elim _ _))⟩
  have hw := fun r => weight_real hq hk r j
  unfold k0_pay8
  generalize k0_pay7 q k = x at hw ⊢
  pointwise []
  simp only [hw, hd, ← EReal.coe_mul, ← SoftmaxReal.coe_sum]
  rfl

end Cert.XattnIdeal.Hand
-- ==== Proof.XattnValue.lean ====
module

public import proofs.«01_k».proof.Proof.XattnHead
public import Idealize.ShloMosaic.Lib.Pipeline.ReadBack

/-
  The cross-attention's gradient at real arguments: a block of 512 queries gives the queries' gradient, and all eight blocks add up to
  the gradients of the keys and values.
-/

@[expose] public section

set_option maxRecDepth 16384
set_option maxHeartbeats 2000000

noncomputable section

namespace Cert.XattnIdeal.Hand

open Cert.XattnIdeal Cert.XattnIdeal.Gen Cert.XattnIdeal.Value Idealize.ShloMosaic Idealize.ShloMosaic.TcCoe Idealize.SL.Sem
open XattnReal (hd kh vh gain grad)
open scoped BigOperators

/-- A band of 256 columns read back. -/
theorem ld_band (X : Vec Ideal S512x1024 .bf16) (o : ℕ) (inb) (r : Fin 512) (l : Fin 256) (ho : o + l.val < 1024) :
    View.ld X (Rect.unit (s := S512x1024) ![0, o] S512x256.size inb) (ix2 r l) = X (ix2 r ⟨o + l.val, ho⟩) := by
  refine congrArg X (funext fun a => Fin.ext ?_)
  fin_cases a
  · exact (ValueKit.rect_emb_unit_val _ _ _ _ _).trans (Nat.zero_add _)
  · exact ValueKit.rect_emb_unit_val _ _ _ _ _

/-- One of the eight stacked matrices read back. -/
theorem ld_mat (X : Vec Ideal S8x256x256 .bf16) (o : ℕ) (inb) (j l : Fin 256) (ho : o < 8) :
    View.ld X (Rect.unit (s := S8x256x256) ![o, 0, 0] S1x256x256.size inb) (ix3 0 j l) = X (ix3 ⟨o, ho⟩ j l) := by
  refine congrArg X (funext fun a => Fin.ext ?_)
  fin_cases a
  · exact (ValueKit.rect_emb_unit_val _ _ _ _ _).trans (Nat.add_zero _)
  · exact (ValueKit.rect_emb_unit_val _ _ _ _ _).trans (Nat.zero_add _)
  · exact (ValueKit.rect_emb_unit_val _ _ _ _ _).trans (Nat.zero_add _)

theorem ld_acc (X : Vec Ideal S8x256x256 .f32) (o : ℕ) (inb) (x : S1x256x256.Idx) (ho : o < 8) :
    View.ld X (Rect.unit (s := S8x256x256) ![o, 0, 0] S1x256x256.size inb) x = X (ix3 ⟨o, ho⟩ (x 1) (x 2)) := by
  refine congrArg X (funext fun a => Fin.ext ?_)
  fin_cases a
  · exact (ValueKit.rect_emb_unit_val _ _ _ _ _).trans (show o + (x 0).val = o by have : (x 0).val < 1 := (x 0).isLt; omega)
  · exact (ValueKit.rect_emb_unit_val _ _ _ _ _).trans (Nat.zero_add _)
  · exact (ValueKit.rect_emb_unit_val _ _ _ _ _).trans (Nat.zero_add _)

section Head

variable {X D : Vec Ideal S512x1024 .bf16} {Y : Vec Ideal S8x256x256 .bf16}
  {Q C : Fin 512 → Fin 1024 → ℝ} {KV : Fin 8 → Fin 256 → Fin 256 → ℝ}
  (hX : ∀ r l, X (ix2 r l) = (Q r l : EReal)) (hY : ∀ h j l, Y (ix3 h j l) = (KV h j l : EReal)) (hD : ∀ r l, D (ix2 r l) = (C r l : EReal))

include hX in
theorem band_real (h : Fin 4) (inb) (r : Fin 512) (l : Fin 256) :
    View.ld X (Rect.unit (s := S512x1024) ![0, h.val * 256] S512x256.size inb) (ix2 r l) = (Q r (hd h l) : EReal) :=
  (ld_band X _ inb r l (hd h l).isLt).trans (hX _ _)

include hY in
theorem mat_real (g : Fin 8) (inb) (j l : Fin 256) :
    View.ld Y (Rect.unit (s := S8x256x256) ![g.val, 0, 0] S1x256x256.size inb) (ix3 0 j l) = (KV g j l : EReal) :=
  (ld_mat Y _ inb j l g.isLt).trans (hY _ _ _)

include hX hY hD in
/-- The queries' gradient of one head. -/
theorem query_head (h : Fin 4) (iq) (ik) (iv) (id) (x : S512x256.Idx) :
    k0_pay27 (View.ld X (Rect.unit (s := S512x1024) ![0, h.val * 256] S512x256.size iq)) (View.ld Y (Rect.unit (s := S8x256x256) ![(kh h).val, 0, 0] S1x256x256.size ik))
      (View.ld Y (Rect.unit (s := S8x256x256) ![(vh h).val, 0, 0] S1x256x256.size iv)) (View.ld D (Rect.unit (s := S512x1024) ![0, h.val * 256] S512x256.size id)) x
      = (grad (Q (x 0)) KV (C (x 0)) h (x 1) : EReal) := by
  obtain ⟨r, l, rfl⟩ : ∃ (r : Fin 512) (l : Fin 256), x = ix2 r l := ⟨x 0, x 1, eq_ix2 x⟩
  exact query_real (a := fun r l => Q r (hd h l)) (e := fun r l => C r (hd h l)) (band_real hX h iq) (mat_real hY (kh h) ik) (mat_real hY (vh h) iv) (band_real hD h id) r l

include hX hY hD in
/-- A head's keys' gradient added to what is there. -/
theorem key_head (h : Fin 4) (iq) (ik) (iv) (id) (p : Vec Ideal S1x256x256 .f32) (x : S1x256x256.Idx) :
    k0_pay28 (View.ld X (Rect.unit (s := S512x1024) ![0, h.val * 256] S512x256.size iq))
      (k0_pay26 (View.ld X (Rect.unit (s := S512x1024) ![0, h.val * 256] S512x256.size iq)) (View.ld Y (Rect.unit (s := S8x256x256) ![(kh h).val, 0, 0] S1x256x256.size ik))
        (View.ld Y (Rect.unit (s := S8x256x256) ![(vh h).val, 0, 0] S1x256x256.size iv)) (View.ld D (Rect.unit (s := S512x1024) ![0, h.val * 256] S512x256.size id))) p x
      = (p x : EReal) + (gain Q KV C (kh h) (x 1) (x 2) : EReal) := by
  refine (key_real (a := fun r l => Q r (hd h l)) (e := fun r l => C r (hd h l)) (band_real hX h iq) (mat_real hY (kh h) ik) (mat_real hY (vh h) iv) (band_real hD h id) p x).trans ?_
  exact congrArg (fun r : ℝ => (p x : EReal) + (r : EReal)) (show gain Q KV C (kh h) (x 1) (x 2) = _ from dif_pos h.isLt).symm

include hX hY hD in
/-- A head's values' gradient added to what is there. -/
theorem value_head (h : Fin 4) (iq) (ik) (id) (p : Vec Ideal S1x256x256 .f32) (x : S1x256x256.Idx) :
    k0_pay8 (View.ld X (Rect.unit (s := S512x1024) ![0, h.val * 256] S512x256.size iq)) (View.ld Y (Rect.unit (s := S8x256x256) ![(kh h).val, 0, 0] S1x256x256.size ik))
      (View.ld D (Rect.unit (s := S512x1024) ![0, h.val * 256] S512x256.size id)) p x
      = (p x : EReal) + (gain Q KV C (vh h) (x 1) (x 2) : EReal) := by
  refine (value_real (a := fun r l => Q r (hd h l)) (e := fun r l => C r (hd h l)) (band_real hX h iq) (mat_real hY (kh h) ik) (band_real hD h id) p x).trans ?_
  refine congrArg (fun r : ℝ => (p x : EReal) + (r : EReal)) (Eq.symm ((dif_neg (show ¬ 4 + h.val < 4 by omega)).trans ?_))
  have e : (⟨4 + h.val - 4, by omega⟩ : Fin 4) = h := Fin.ext (Nat.add_sub_cancel_left 4 h.val)
  exact congrArg (fun h : Fin 4 => ∑ r, XattnReal.dv (fun d => Q r (hd h d)) (KV (kh h)) (fun d => C r (hd h d)) (x 1) (x 2)) e

end Head

variable (m : (ℓ : Loc nD τ sig) → Buf (Elt Ideal) ℓ)

/-- A block of queries, at real entries. -/
abbrev Real (c : Dev nD) (t : Fin cfg0.N) (Q C : Fin 512 → Fin 1024 → ℝ) (KV : Fin 8 → Fin 256 → Fin 256 → ℝ) : Prop :=
  (∀ r l, (iblk m c 0 t : Vec Ideal S512x1024 .bf16) (ix2 r l) = (Q r l : EReal)) ∧ (∀ h j l, (iblk m c 1 t : Vec Ideal S8x256x256 .bf16) (ix3 h j l) = (KV h j l : EReal))
    ∧ ∀ r l, (iblk m c 2 t : Vec Ideal S512x1024 .bf16) (ix2 r l) = (C r l : EReal)

variable {m} {c : Dev nD} {t : Fin cfg0.N} {Q C : Fin 512 → Fin 1024 → ℝ} {KV : Fin 8 → Fin 256 → Fin 256 → ℝ}

/-- A head and a place in it, of a column. -/
abbrev hOf (l : Fin 1024) : Fin 4 := ⟨l.val / 256, by omega⟩
abbrev pOf (l : Fin 1024) : Fin 256 := ⟨l.val % 256, by omega⟩

theorem grad_at {i i' : Fin 512} {h h' : Fin 4} {d d' : Fin 256} (hi : i.val = i'.val) (hh : h.val = h'.val) (hd : d.val = d'.val) :
    (grad (Q i) KV (C i) h d : EReal) = (grad (Q i') KV (C i') h' d' : EReal) := by
  rw [Fin.ext hi, Fin.ext hh, Fin.ext hd]

theorem dq_point (hr : Real m c t Q C KV) (y : S512x1024.Idx) : (outsAt0 m c t.val t.isLt).1 y = (grad (Q (y 0)) KV (C (y 0)) (hOf (y 1)) (pOf (y 1)) : EReal) := by
  obtain ⟨hX, hY, hD⟩ := hr
  by_cases hh : t.val % 8 = 0
  · rw [outsAt0_A m c t hh]; frame_open
    simp (disch := decide) only [↓ View.readCov_skip, ↓ View.readCov_cons_toLoadRect, ↓ View.readCov_fill]
    frame_out
    clear hh
    canon_tiles x a
    · exact (query_head hX hY hD 3 _ _ _ _ x).trans (grad_at (by omega) (by show 3 = (y 1).val / 256; omega) (by show (x 1).val = (y 1).val % 256; omega))
    · exact (query_head hX hY hD 2 _ _ _ _ x).trans (grad_at (by omega) (by show 2 = (y 1).val / 256; omega) (by show (x 1).val = (y 1).val % 256; omega))
    · exact (query_head hX hY hD 1 _ _ _ _ x).trans (grad_at (by omega) (by show 1 = (y 1).val / 256; omega) (by show (x 1).val = (y 1).val % 256; omega))
    · exact (query_head hX hY hD 0 _ _ _ _ x).trans (grad_at (by omega) (by show 0 = (y 1).val / 256; omega) (by show (x 1).val = (y 1).val % 256; omega))
  · rw [outsAt0_B m c t hh]; frame_open
    simp (disch := decide) only [↓ View.readCov_skip, ↓ View.readCov_cons_toLoadRect, ↓ View.readCov_fill]
    frame_out
    clear hh
    canon_tiles x a
    · exact (query_head hX hY hD 3 _ _ _ _ x).trans (grad_at (by omega) (by show 3 = (y 1).val / 256; omega) (by show (x 1).val = (y 1).val % 256; omega))
    · exact (query_head hX hY hD 2 _ _ _ _ x).trans (grad_at (by omega) (by show 2 = (y 1).val / 256; omega) (by show (x 1).val = (y 1).val % 256; omega))
    · exact (query_head hX hY hD 1 _ _ _ _ x).trans (grad_at (by omega) (by show 1 = (y 1).val / 256; omega) (by show (x 1).val = (y 1).val % 256; omega))
    · exact (query_head hX hY hD 0 _ _ _ _ x).trans (grad_at (by omega) (by show 0 = (y 1).val / 256; omega) (by show (x 1).val = (y 1).val % 256; omega))

theorem acc_at (P : Vec Ideal S8x256x256 .f32) (g : Fin 8) (inb) (x : S1x256x256.Idx) (y : S8x256x256.Idx) (h0 : (y 0).val = g.val) (h1 : (y 1).val = (x 1).val)
    (h2 : (y 2).val = (x 2).val) :
    (View.ld P (Rect.unit (s := S8x256x256) ![g.val, 0, 0] S1x256x256.size inb) x : EReal) + (gain Q KV C g (x 1) (x 2) : EReal)
      = (P y : EReal) + (gain Q KV C (y 0) (y 1) (y 2) : EReal) := by
  obtain rfl : y = ix3 g (x 1) (x 2) := (eq_ix3 y).trans (by rw [show y 0 = g from Fin.ext h0, show y 1 = x 1 from Fin.ext h1, show y 2 = x 2 from Fin.ext h2]; rfl)
  exact congrArg (fun r : EReal => r + (gain Q KV C g (x 1) (x 2) : EReal)) (ld_acc P g.val inb x g.isLt)

/-- The same at the entry where the piece lies. -/
theorem acc_in (P : Vec Ideal S8x256x256 .f32) (g : Fin 8) (inb) (x : S1x256x256.Idx) :
    (View.ld P (Rect.unit (s := S8x256x256) ![g.val, 0, 0] S1x256x256.size inb) x : EReal) + (gain Q KV C g (x 1) (x 2) : EReal)
      = (P ((Rect.unit (s := S8x256x256) ![g.val, 0, 0] S1x256x256.size inb).emb x) : EReal)
        + (gain Q KV C ((Rect.unit (s := S8x256x256) ![g.val, 0, 0] S1x256x256.size inb).emb x 0) ((Rect.unit (s := S8x256x256) ![g.val, 0, 0] S1x256x256.size inb).emb x 1)
          ((Rect.unit (s := S8x256x256) ![g.val, 0, 0] S1x256x256.size inb).emb x 2) : EReal) :=
  acc_at P g inb x _ ((ValueKit.rect_emb_unit_val _ _ _ _ _).trans (show g.val + (x 0).val = g.val by have : (x 0).val < 1 := (x 0).isLt; omega))
    ((ValueKit.rect_emb_unit_val _ _ _ _ _).trans (Nat.zero_add _)) ((ValueKit.rect_emb_unit_val _ _ _ _ _).trans (Nat.zero_add _))

theorem dkv_step (hr : Real m c t Q C KV) (hh : ¬ t.val % 8 = 0) (y : S8x256x256.Idx) : (outsAt0 m c t.val t.isLt).2 y
    = ((outsAt0 m c (t.val - 1) (Nat.lt_of_le_of_lt (Nat.sub_le _ _) t.isLt)).2 y : EReal) + (gain Q KV C (y 0) (y 1) (y 2) : EReal) := by
  obtain ⟨hX, hY, hD⟩ := hr
  rw [outsAt0_B m c t hh]; frame_open
  simp (disch := decide) only [↓ View.readCov_skip, ↓ View.readCov_cons_toLoadRect, ↓ View.readCov_fill]
  frame_out
  clear hh
  generalize (outsAt0 m c (t.val - 1) _).2 = P
  canon_tiles x a
  · exact (key_head hX hY hD 3 _ _ _ _ _ x).trans (acc_at P 3 _ x y (by show (y 0).val = 3; omega) (by omega) (by omega))
  · exact (value_head hX hY hD 3 _ _ _ _ x).trans (acc_at P 7 _ x y (by show (y 0).val = 7; omega) (by omega) (by omega))
  · exact (key_head hX hY hD 2 _ _ _ _ _ x).trans (acc_at P 2 _ x y (by show (y 0).val = 2; omega) (by omega) (by omega))
  · exact (value_head hX hY hD 2 _ _ _ _ x).trans (acc_at P 6 _ x y (by show (y 0).val = 6; omega) (by omega) (by omega))
  · exact (key_head hX hY hD 1 _ _ _ _ _ x).trans (acc_at P 1 _ x y (by show (y 0).val = 1; omega) (by omega) (by omega))
  · exact (value_head hX hY hD 1 _ _ _ _ x).trans (acc_at P 5 _ x y (by show (y 0).val = 5; omega) (by omega) (by omega))
  · exact (key_head hX hY hD 0 _ _ _ _ _ x).trans (acc_at P 0 _ x y (by show (y 0).val = 0; omega) (by omega) (by omega))
  · exact (value_head hX hY hD 0 _ _ _ _ x).trans (acc_at P 4 _ x y (by show (y 0).val = 4; omega) (by omega) (by omega))

theorem start_zero (y : S8x256x256.Idx) : (k0_pay5 (F := Ideal) y : EReal) = 0 := Ideal.ofBits_zero_f32

theorem dkv_reset (hr : Real m c t Q C KV) (hh : t.val % 8 = 0) (y : S8x256x256.Idx) : (outsAt0 m c t.val t.isLt).2 y
    = (0 : EReal) + (gain Q KV C (y 0) (y 1) (y 2) : EReal) := by
  obtain ⟨hX, hY, hD⟩ := hr
  rw [outsAt0_A m c t hh]; frame_open
  simp (disch := decide) only [↓ View.readCov_skip, ↓ View.readCov_cons_toLoadRect, ↓ View.readCov_fill]
  frame_out
  clear hh
  rw [← start_zero y]
  refine View.canon_append_of_piecesOf (Val := Elt Ideal) (e := .f32) (fun y : S8x256x256.Idx => ((k0_pay5 (F := Ideal) y : EReal) + (gain Q KV C (y 0) (y 1) (y 2) : EReal) : EReal)) [_] [_, _, _, _, _, _, _, _] ⟨?_, ?_, ?_, ?_, ?_, ?_, ?_, ?_, trivial⟩ y
    (View.cover_of_tiledL (s := S8x256x256) _ S1x256x256.size (by sl_kernel_rfl) y)
  · exact fun x => (key_head hX hY hD 3 _ _ _ _ _ x).trans (acc_in _ 3 _ x)
  · exact fun x => (value_head hX hY hD 3 _ _ _ _ x).trans (acc_in _ 7 _ x)
  · exact fun x => (key_head hX hY hD 2 _ _ _ _ _ x).trans (acc_in _ 2 _ x)
  · exact fun x => (value_head hX hY hD 2 _ _ _ _ x).trans (acc_in _ 6 _ x)
  · exact fun x => (key_head hX hY hD 1 _ _ _ _ _ x).trans (acc_in _ 1 _ x)
  · exact fun x => (value_head hX hY hD 1 _ _ _ _ x).trans (acc_in _ 5 _ x)
  · exact fun x => (key_head hX hY hD 0 _ _ _ _ _ x).trans (acc_in _ 0 _ x)
  · exact fun x => (value_head hX hY hD 0 _ _ _ _ x).trans (acc_in _ 4 _ x)

/-- The gradients of the keys and values, block by block. -/
theorem gain_sum (q ct : Fin 4096 → Fin 1024 → ℝ) (g : Fin 8) (j d : Fin 256) :
    ∑ t : Fin 8, gain (fun r : Fin 512 => q ⟨t.val * 512 + r.val, by omega⟩) KV (fun r : Fin 512 => ct ⟨t.val * 512 + r.val, by omega⟩) g j d = gain q KV ct g j d := by
  unfold gain
  split_ifs with hg
  · exact Fin.sum_mul_add_fin 8 512 fun r => XattnReal.dk (fun d => q r (hd ⟨g.val, hg⟩ d)) (KV (kh ⟨g.val, hg⟩)) (KV (vh ⟨g.val, hg⟩)) (fun d => ct r (hd ⟨g.val, hg⟩ d)) j d
  · exact Fin.sum_mul_add_fin 8 512 fun r => XattnReal.dv (fun d => q r (hd ⟨g.val - 4, by omega⟩ d)) (KV (kh ⟨g.val - 4, by omega⟩)) (fun d => ct r (hd ⟨g.val - 4, by omega⟩ d)) j d

variable {q ct : Fin 4096 → Fin 1024 → ℝ} {kv : Fin 256 → Fin 2048 → ℝ}

/-- The stacked keys and values of all heads. -/
abbrev stack (kv : Fin 256 → Fin 2048 → ℝ) (h : Fin 8) (j l : Fin 256) : ℝ := kv j ⟨h.val * 256 + l.val, by omega⟩

/-- The arguments' entries are the given reals. -/
structure Args (m : (ℓ : Loc nD τ sig) → Buf (Elt Ideal) ℓ) (c : Dev nD) (q ct : Fin 4096 → Fin 1024 → ℝ) (kv : Fin 256 → Fin 2048 → ℝ) : Prop where
  q : ∀ i l, m ((c : Thread nD τ).loc main_arg0) (ix2 i l) = (q i l : EReal)
  kv : ∀ j l, m ((c : Thread nD τ).loc main_arg1) (ix2 j l) = (kv j l : EReal)
  ct : ∀ i l, m ((c : Thread nD τ).loc main_arg2) (ix2 i l) = (ct i l : EReal)

theorem idx : ∀ t : Fin cfg0.N, win0_0.index t = ![t.val, 0] ∧ win0_1.index t = ![0, 0, 0] ∧ win0_2.index t = ![t.val, 0] ∧ win0_3.index t = ![t.val, 0] ∧ win0_4.index t = ![0, 0, 0] := by decide +kernel

theorem real_block (h : Args m c q ct kv) (t : Fin cfg0.N) :
    Real m c t (fun r => q ⟨t.val * 512 + r.val, by have : t.val < 8 := lt_of_lt_of_eq t.isLt N_0; omega⟩) (fun r => ct ⟨t.val * 512 + r.val, by have : t.val < 8 := lt_of_lt_of_eq t.isLt N_0; omega⟩) (stack kv) := by
  refine ⟨fun r l => ?_, fun g j l => ?_, fun r l => ?_⟩
  · rw [← h.q]
    blk_point [iblk, V, idx t]
  · unfold stack
    rw [← h.kv]
    blk_point [iblk, V, idx t]
  · rw [← h.ct]
    blk_point [iblk, V, idx t]

/-- The two results. -/
def DQ (q ct : Fin 4096 → Fin 1024 → ℝ) (kv : Fin 256 → Fin 2048 → ℝ) : FVec Ideal S4096x1024 .bf16 := fun y => (grad (q (y 0)) (stack kv) (ct (y 0)) (hOf (y 1)) (pOf (y 1)) : EReal)
def DKV (q ct : Fin 4096 → Fin 1024 → ℝ) (kv : Fin 256 → Fin 2048 → ℝ) : FVec Ideal S8x256x256 .f32 := fun y => (gain q (stack kv) ct (y 0) (y 1) (y 2) : EReal)

theorem dq_array (h : Args m c q ct kv) : (dats m 0 c).arrAt 3 cfg0.N = DQ q ct kv := by
  refine (dats m 0 c).arrAt_eq_of_covers 3 _ (by decide +kernel) fun t hf (y : S512x1024.Idx) => ?_
  blk_simp
  rw [after0_3, dq_point (real_block h t)]
  have e0 : ((win0_3.blk t).view.emb y 0).val = t.val * 512 + (y 0).val := by blk_simp [idx t] <;> omega
  have e1 : ((win0_3.blk t).view.emb y 1).val = (y 1).val := by blk_simp [idx t] <;> omega
  have b : t.val < 8 := lt_of_lt_of_eq t.isLt N_0
  have f0 : (win0_3.blk t).view.emb y 0 = (⟨t.val * 512 + (y 0).val, by have : (y 0).val < 512 := (y 0).isLt; omega⟩ : Fin 4096) := Fin.ext e0
  have f1 : (win0_3.blk t).view.emb y 1 = (⟨(y 1).val, (y 1).isLt⟩ : Fin 1024) := Fin.ext e1
  unfold DQ
  rw [f0, f1]

theorem dkv_array (h : Args m c q ct kv) : (dats m 0 c).arrAt 4 cfg0.N = DKV q ct kv := by
  refine (dats m 0 c).arrAt_eq_of_after_last 4 t0_7 (by decide +kernel) _ fun j => ?_
  blk_simp
  rw [after0_4, Pipeline.eq_sum_fin_of_reset_step_apply_last (fun n h => (outsAt0 m c n h).2) 8 (fun _ => 0) _
      (fun t ht j => dkv_reset (real_block h t) ht j) (fun t ht j => dkv_step (real_block h t) ht j) (le_of_eq N_0) t0_7 rfl j, zero_add]
  unfold DKV
  rw [← SoftmaxReal.coe_sum]
  refine congrArg (fun r : ℝ => (r : EReal)) ((gain_sum (KV := stack kv) q ct _ _ _).trans ?_)
  blk_ext

end Cert.XattnIdeal.Hand
-- ==== Proof.XattnRefReal.lean ====
module

public import proofs.«01_k».proof.Proof.Gen.XattnRefIdeal.Read
public import proofs.«01_k».proof.Proof.XattnReal

/-
  The cross-attention's reference at finite arguments: its two gradients are those of `XattnReal`.
-/

@[expose] public section

set_option maxRecDepth 16384
set_option maxHeartbeats 2000000

noncomputable section

namespace Cert.XattnRefIdeal.Hand

open Cert.XattnRefIdeal Cert.XattnRefIdeal.Gen Cert.XattnRefIdeal.Read Idealize.ShloMosaic Idealize.ShloMosaic.TcCoe Idealize.SL.Sem
open XattnReal (hd kh vh gain grad)
open scoped BigOperators

variable {x0 x2 : Vec Ideal S4096x1024 .bf16} {x1 : Vec Ideal S256x2048 .bf16} {q ct : Fin 4096 → Fin 1024 → ℝ} {kv : Fin 8 → Fin 256 → Fin 256 → ℝ}

theorem word_sixteenth : (Ideal.ofBits FTy.f32 0x3D800000#32 : EReal) = ((1 / 16 : ℝ) : EReal) := by
  simp [Ideal.ofBits, Ideal.ieee, -EReal.coe_mul]
  norm_num

theorem query_real (hq : ∀ i l, x0 (ix2 i l) = q i l) (i : Fin 4096) (h : Fin 4) (d : Fin 256) :
    val_main_v5 x0 (ix3 i h d) = ((q i (hd h d) * (1 / 16) : ℝ) : EReal) := by
  pointwise [val_main_v5, val_main_v4, val_main_v3, val_main_v0, val_main_cst]
  rw [word_sixteenth, EReal.coe_mul, ← hq]

theorem key_real (hk : ∀ g j l, x1 (ix2 j (⟨g.val * 256 + l.val, by omega⟩ : Fin 2048)) = kv g j l) (j : Fin 256) (h : Fin 4) (d : Fin 256) :
    val_main_v7 x1 (ix3 j h d) = (kv (kh h) j d : EReal) := by
  rw [← hk]
  pointwise [val_main_v7, val_main_v6, val_main_v1]

theorem value_real (hk : ∀ g j l, x1 (ix2 j (⟨g.val * 256 + l.val, by omega⟩ : Fin 2048)) = kv g j l) (j : Fin 256) (h : Fin 4) (d : Fin 256) :
    val_main_v9 x1 (ix3 j h d) = (kv (vh h) j d : EReal) := by
  rw [← hk]
  pointwise [val_main_v9, val_main_v8, val_main_v1]
  exact congrArg x1 (congrArg (ix2 j) (Fin.ext (by show 1024 + (h.val * 256 + d.val) = (4 + h.val) * 256 + d.val; omega)))

theorem score_real (hq : ∀ i l, x0 (ix2 i l) = q i l) (hk : ∀ g j l, x1 (ix2 j (⟨g.val * 256 + l.val, by omega⟩ : Fin 2048)) = kv g j l) (h : Fin 4) (i : Fin 4096) (j : Fin 256) :
    val_main_v10 x0 x1 (ix3 h i j) = (XattnReal.s (fun d => q i (hd h d)) (kv (kh h)) j : EReal) := by
  pointwise [val_main_v10]
  simp only [query_real hq, key_real hk, ← EReal.coe_mul, ← SoftmaxReal.coe_sum]
  refine congrArg (fun r : ℝ => (r : EReal)) ((Finset.sum_congr rfl fun d _ => mul_right_comm _ _ _).trans (Finset.sum_mul _ _ _).symm)

/-- The maximum over the memory tokens, as a fold. -/
theorem fold_keys (y : Vec Ideal S4x4096x256 .f32) (z : Vec Ideal S_ .f32) (h : Fin 4) (i : Fin 4096) :
    (Host.reduce (FloatOps.maximumf (F := Ideal) (φ := .f32)) y z reducesTo_S4x4096x256_S4x4096_d2 h_S_ : FVec Ideal S4x4096 .f32) (ix2 h i)
      = Finset.fold (α := Fin 256) (β := EReal) max (z (Shape.Idx.first h_S_) : EReal) (fun j => (y (ix3 h i j) : EReal)) Finset.univ := by
  have hr : S4x4096x256.Reduces [2] S4x4096 := by decide
  have e : (fun j => y (hr.lift (ix2 h i) j)) = fun j => y (ix3 h i j) :=
    funext fun j => congrArg y (funext fun a => Fin.ext (by match a with | ⟨0, _⟩ => rfl | ⟨1, _⟩ => rfl | ⟨2, _⟩ => rfl))
  have r := Host.reduce_eq_fold_single (FloatOps.maximumf (F := Ideal) (φ := .f32)) y z reducesTo_S4x4096x256_S4x4096_d2 hr h_S_ (ix2 h i)
  exact r.trans (congrArg (fun f => Finset.fold (α := Fin 256) (β := EReal) max (z (Shape.Idx.first h_S_) : EReal) f Finset.univ) e)

/-- The row's maximum is some real. -/
theorem max_real (hq : ∀ i l, x0 (ix2 i l) = q i l) (hk : ∀ g j l, x1 (ix2 j (⟨g.val * 256 + l.val, by omega⟩ : Fin 2048)) = kv g j l) (h : Fin 4) (i : Fin 4096) :
    ∃ M : ℝ, val_main_v18 x0 x1 (ix2 h i) = M := by
  obtain ⟨M, hM⟩ := SoftmaxReal.fold_max (ι := Fin 256) (fun j => val_main_v10 x0 x1 (ix3 h i j)) _ (score_real hq hk h i) Finset.univ Finset.univ_nonempty
  have hbot : (Ideal.ofBits FTy.f32 0xFF800000#32 : EReal) = ⊥ := by simp [Ideal.ofBits, Ideal.ieee]
  have htop : val_main_v11 x0 x1 (ix2 h i) = (M : EReal) := by
    unfold val_main_v11
    rw [fold_keys, show (val_main_cst_0 (F := Ideal) (Shape.Idx.first h_S_) : EReal) = ⊥ from hbot]
    exact hM
  refine ⟨M, ?_⟩
  rw [val_main_v18_apply, htop, val_main_v17_apply, val_main_cst_2_apply]
  exact (congrArg (max · (M : EReal)) hbot).trans (max_eq_right bot_le)

/-- The exponentials, shifted by one real for the row, and their sum. -/
theorem exp_real (hq : ∀ i l, x0 (ix2 i l) = q i l) (hk : ∀ g j l, x1 (ix2 j (⟨g.val * 256 + l.val, by omega⟩ : Fin 2048)) = kv g j l) (h : Fin 4) (i : Fin 4096) :
    ∃ M : ℝ, (∀ j, val_main_v31 x0 x1 (ix3 h i j) = (Real.exp (XattnReal.s (fun d => q i (hd h d)) (kv (kh h)) j - M) : EReal))
      ∧ val_main_v33 x0 x1 (ix3 h i 0) = ((∑ j, Real.exp (XattnReal.s (fun d => q i (hd h d)) (kv (kh h)) j - M) : ℝ) : EReal) := by
  obtain ⟨M, hM⟩ := max_real hq hk h i
  have he (j : Fin 256) : val_main_v31 x0 x1 (ix3 h i j) = (Real.exp (XattnReal.s (fun d => q i (hd h d)) (kv (kh h)) j - M) : EReal) := by
    rw [← SoftmaxReal.exp_sub, ← hM, ← score_real hq hk]
    pointwise [val_main_v31, val_main_v30, val_main_v29, val_main_v28]
  refine ⟨M, he, ?_⟩
  pointwise [val_main_v33, val_main_v32, val_main_cst_8]
  simp only [he, ← SoftmaxReal.coe_sum, Ideal.ofBits_zero_f32, zero_add]

theorem weight_real (hq : ∀ i l, x0 (ix2 i l) = q i l) (hk : ∀ g j l, x1 (ix2 j (⟨g.val * 256 + l.val, by omega⟩ : Fin 2048)) = kv g j l) (h : Fin 4) (i : Fin 4096) (j : Fin 256) :
    val_main_v35 x0 x1 (ix3 h i j) = (XattnReal.w (fun d => q i (hd h d)) (kv (kh h)) j : EReal) := by
  obtain ⟨M, he, hl⟩ := exp_real hq hk h i
  rw [← XattnReal.w_shift _ _ M, ← SoftmaxReal.div_real _ (SoftmaxReal.sum_exp_pos _).ne', ← hl, ← he]
  pointwise [val_main_v35, val_main_v34]

theorem cot_real (hc : ∀ i l, x2 (ix2 i l) = ct i l) (h : Fin 4) (d : Fin 256) (i : Fin 4096) : val_main_v43 x2 (ix3 h d i) = (ct i (hd h d) : EReal) := by
  rw [← hc]
  pointwise [val_main_v43, val_main_v42, val_main_v2]

theorem dw_real (hk : ∀ g j l, x1 (ix2 j (⟨g.val * 256 + l.val, by omega⟩ : Fin 2048)) = kv g j l) (hc : ∀ i l, x2 (ix2 i l) = ct i l) (h : Fin 4) (i : Fin 4096) (j : Fin 256) :
    val_main_v44 x1 x2 (ix3 h i j) = (XattnReal.dw (kv (vh h)) (fun d => ct i (hd h d)) j : EReal) := by
  pointwise [val_main_v44]
  simp only [value_real hk, cot_real hc, ← EReal.coe_mul, ← SoftmaxReal.coe_sum]
  rfl

theorem ds_real (hq : ∀ i l, x0 (ix2 i l) = q i l) (hk : ∀ g j l, x1 (ix2 j (⟨g.val * 256 + l.val, by omega⟩ : Fin 2048)) = kv g j l) (hc : ∀ i l, x2 (ix2 i l) = ct i l)
    (h : Fin 4) (i : Fin 4096) (j : Fin 256) :
    val_main_v58 x0 x1 x2 (ix3 h i j) = (XattnReal.ds (fun d => q i (hd h d)) (kv (kh h)) (kv (vh h)) (fun d => ct i (hd h d)) j : EReal) := by
  obtain ⟨M, he, hl⟩ := exp_real hq hk h i
  have hL := (SoftmaxReal.sum_exp_pos fun j => XattnReal.s (fun d => q i (hd h d)) (kv (kh h)) j - M).ne'
  rw [← XattnReal.ds_shift _ _ _ _ M]
  pointwise [val_main_v58, val_main_v57, val_main_v56, val_main_v55, val_main_v54, val_main_v53, val_main_v52, val_main_v51, val_main_v50, val_main_v49, val_main_v48, val_main_v47, val_main_v38, val_main_v37, val_main_v36, val_main_cst_9, val_main_cst_10, val_main_cst_11]
  simp only [he, hl, dw_real hk hc, Ideal.ofBits_zero_f32, Ideal.ofBits_one_f32, zero_add, Finset.univ_unique, Finset.sum_singleton, ← EReal.coe_mul]
  rw [← EReal.coe_one]
  simp only [SoftmaxReal.div_real _ hL, SoftmaxReal.div_real _ (mul_ne_zero hL hL), ← EReal.coe_mul, ← SoftmaxReal.coe_sum, ← EReal.coe_neg, ← EReal.coe_add]

theorem dq_real (hq : ∀ i l, x0 (ix2 i l) = q i l) (hk : ∀ g j l, x1 (ix2 j (⟨g.val * 256 + l.val, by omega⟩ : Fin 2048)) = kv g j l) (hc : ∀ i l, x2 (ix2 i l) = ct i l)
    (i : Fin 4096) (l : Fin 1024) : val_main_v71 x0 x1 x2 (ix2 i l) = (grad (q i) kv (ct i) ⟨l.val / 256, by omega⟩ ⟨l.val % 256, by omega⟩ : EReal) := by
  pointwise [val_main_v71, val_main_v70, val_main_v69, val_main_v68, val_main_v62, val_main_v61, val_main_cst_14]
  simp only [ds_real hq hk hc, key_real hk, word_sixteenth, ← EReal.coe_mul, ← SoftmaxReal.coe_sum]
  refine congrArg (fun r : ℝ => (r : EReal)) ((Finset.sum_mul _ _ _).trans (Finset.sum_congr rfl fun j _ => mul_right_comm _ _ _))

theorem dkv_real (hq : ∀ i l, x0 (ix2 i l) = q i l) (hk : ∀ g j l, x1 (ix2 j (⟨g.val * 256 + l.val, by omega⟩ : Fin 2048)) = kv g j l) (hc : ∀ i l, x2 (ix2 i l) = ct i l)
    (g : Fin 8) (j d : Fin 256) : val_main_v73 x0 x1 x2 (ix3 g j d) = (gain q kv ct g j d : EReal) := by
  pointwise [val_main_v73, val_main_v72, val_main_v67, val_main_v66, val_main_v65, val_main_v64, val_main_v63, val_main_v60, val_main_v59, val_main_v46, val_main_v45, val_main_cst_12, val_main_cst_13]
  simp only [ds_real hq hk hc, query_real hq, weight_real hq hk, cot_real hc, word_sixteenth, ← EReal.coe_mul, ← SoftmaxReal.coe_sum]
  have bg := g.isLt
  have bd := d.isLt
  by_cases h : g.val < 4
  · have c1 : ¬(1024 ≤ g.val * 256 + d.val ∧ g.val * 256 + d.val - 1024 < 1024) := by omega
    have c2 : g.val * 256 + d.val < 1024 := by omega
    have a1 : (g.val * 256 + d.val) / 256 = g.val := by omega
    rw [dif_neg c1, dif_pos c2, zero_add]
    refine congrArg (fun r : ℝ => (r : EReal)) (Eq.trans ?_ (dif_pos h).symm)
    simp only [a1]
    exact Finset.sum_congr rfl fun i _ => by unfold XattnReal.dk; ring
  · have c1 : 1024 ≤ g.val * 256 + d.val ∧ g.val * 256 + d.val - 1024 < 1024 := by omega
    have c2 : ¬ g.val * 256 + d.val < 1024 := by omega
    have a1 : (g.val * 256 + d.val - 1024) / 256 = g.val - 4 := by omega
    have a2 : (g.val * 256 + d.val - 1024) % 256 = d.val := by omega
    rw [dif_pos c1, dif_neg c2, add_zero]
    refine congrArg (fun r : ℝ => (r : EReal)) (Eq.trans ?_ (dif_neg h).symm)
    simp only [a1, a2]
    exact Finset.sum_congr rfl fun i _ => mul_comm _ _

end Cert.XattnRefIdeal.Hand
-- ==== Proof.XattnClaim.lean ====
/-
  The claims about the cross-attention's gradients, at finite arguments.
-/
module

public import proofs.«01_k».proof.Defs
public import proofs.«01_k».proof.Proof.Gen.Xattn.Frame
public import proofs.«01_k».proof.Proof.Gen.XattnRefIdeal.Run
public import proofs.«01_k».proof.Proof.XattnValue
public import proofs.«01_k».proof.Proof.XattnRefReal
public import proofs.«01_k».proof.Proof.FiniteReal
public import Idealize.ShloMosaic.Lib.Quiescent

@[expose] public section

set_option maxRecDepth 16384
set_option maxHeartbeats 1000000

noncomputable section

namespace Cert.Proof.Xattn

open Idealize.ShloMosaic Idealize.ShloMosaic.TcCoe Idealize.SL.Sem

theorem pre_facts : Cert.Pre_xattn_finite.Facts where
  bitsLt_bf16_f32 := by decide
  bcast_S_S4096x1024 := by decide
  bcast_S_S256x2048 := by decide

theorem frame : Cert.quiescent_Xattn := fun m ρ _ => Cert.Xattn.Gen.frame m ρ
theorem frameIdeal : Cert.quiescent_XattnIdeal := fun m ρ _ => Cert.XattnIdeal.Gen.frame m ρ
theorem frameIdealPre : Cert.quiescent_XattnIdeal_pre_xattn_finite (hPre_xattn_finite := pre_facts) := fun m ρ _ => Cert.XattnIdeal.Gen.frame m ρ
theorem frameRef : Cert.quiescent_XattnRefIdeal := fun m ρ _ =>
  (θ_run Cert.XattnRefIdeal.defs _ _).mono (fun r h => ⟨fun c => (h c).2.2, sem_eq_zero_of_no_sems (by decide) r.2⟩)
    (Cert.XattnRefIdeal.Value.run (F := Ideal) m ρ)
theorem frameRefPre : Cert.quiescent_XattnRefIdeal_pre_xattn_finite (hPre_xattn_finite := pre_facts) := fun m ρ _ => frameRef m ρ trivial
theorem preserves : Cert.preserves_Xattn_XattnIdeal := trivial

open Cert.XattnIdeal Cert.XattnIdeal.Hand in
/-- The precondition says that every entry of the three arguments is real. -/
theorem reals (m : (ℓ : Loc nD τ sig) → Buf (Elt Ideal) ℓ) (c : Dev nD) (h : Cert.Pre_XattnIdeal_xattn_finite (hPre_xattn_finite := pre_facts) m) :
    ∃ (q ct : Fin 4096 → Fin 1024 → ℝ) (kv : Fin 256 → Fin 2048 → ℝ), Args m c q ct kv := by
  obtain ⟨h0, h1, h2⟩ := h c
  have r0 : ∀ y, ∃ r : ℝ, m ((c : Thread nD τ).loc main_arg0) y = (r : EReal) := fun y => FiniteReal.real_of_cmp (congrFun h0 y)
  have r1 : ∀ y, ∃ r : ℝ, m ((c : Thread nD τ).loc main_arg1) y = (r : EReal) := fun y => FiniteReal.real_of_cmp (congrFun h1 y)
  have r2 : ∀ y, ∃ r : ℝ, m ((c : Thread nD τ).loc main_arg2) y = (r : EReal) := fun y => FiniteReal.real_of_cmp (congrFun h2 y)
  choose q hq using r0
  choose kv hkv using r1
  choose ct hct using r2
  exact ⟨fun i l => q (ix2 i l), fun i l => ct (ix2 i l), fun j l => kv (ix2 j l), ⟨fun i l => hq _, fun j l => hkv _, fun i l => hct _⟩⟩

open Cert.XattnIdeal.Hand Cert.XattnRefIdeal.Hand in
theorem algebraic : Cert.algebraic_XattnIdeal_XattnRefIdeal_pre_xattn_finite (hPre_xattn_finite := pre_facts) := by
  intro m ρ m' ρ' hpre hagree
  choose q ct kv hA using fun c => reals m c hpre
  refine ⟨fun c => DQ (q c) (ct c) (kv c), fun c => DKV (q c) (ct c) (kv c),
    (θ_run Cert.XattnIdeal.defs _ _).mono (fun _ h c => ⟨(h c).1.trans (dq_array (hA c)), (h c).2.1.trans (dkv_array (hA c)), (h c).2.2⟩)
      (Cert.XattnIdeal.Value.run_blocks (F := Ideal) m ρ),
    (θ_run Cert.XattnRefIdeal.defs _ _).mono (fun _ h c => ⟨(h c).1.trans ?_, (h c).2.1.trans ?_, (h c).2.2⟩)
      (Cert.XattnRefIdeal.Value.run (F := Ideal) m' ρ')⟩
  · rw [Cert.XattnRefIdeal.Read.val_main_v71_eq, (hagree c).1, (hagree c).2.1, (hagree c).2.2]
    refine funext fun (y : Cert.XattnRefIdeal.S4096x1024.Idx) => ?_
    obtain ⟨i, l, rfl⟩ : ∃ (i : Fin 4096) (l : Fin 1024), y = ix2 i l := ⟨y 0, y 1, eq_ix2 y⟩
    exact dq_real (hA c).q (kv := stack (kv c)) (fun g j l => (hA c).kv j _) (hA c).ct i l
  · rw [Cert.XattnRefIdeal.Read.val_main_v73_eq, (hagree c).1, (hagree c).2.1, (hagree c).2.2]
    refine funext fun (y : Cert.XattnRefIdeal.S8x256x256.Idx) => ?_
    obtain ⟨g, j, d, rfl⟩ : ∃ (g : Fin 8) (j d : Fin 256), y = ix3 g j d := ⟨y 0, y 1, y 2, eq_ix3 y⟩
    exact dkv_real (hA c).q (kv := stack (kv c)) (fun g j l => (hA c).kv j _) (hA c).ct g j d

end Cert.Proof.Xattn

end
-- ==== Proof.FfnReal.lean ====
module

public import proofs.«01_k».proof.Proof.SoftmaxReal

/-
  The gated convolution layer's gradient over the reals, column by column: rows of a sequence are counted from 8 and everything outside
  the sequence is zero.
-/

@[expose] public section

noncomputable section

namespace FfnReal

open Idealize.ShloMosaic
open scoped BigOperators

/-- A sequence as a function of every row number, shifted by eight. -/
def pad {n : ℕ} (f : Fin n → ℝ) (k : ℕ) : ℝ := if h : 8 ≤ k ∧ k - 8 < n then f ⟨k - 8, h.2⟩ else 0

theorem pad_in {n : ℕ} (f : Fin n → ℝ) (t : Fin n) : pad f (t.val + 8) = f t := by
  have h : 8 ≤ t.val + 8 ∧ t.val + 8 - 8 < n := ⟨by omega, by have := t.isLt; omega⟩
  unfold pad
  rw [dif_pos h]
  exact congrArg f (Fin.ext (by show t.val + 8 - 8 = t.val; omega))

theorem pad_out {n : ℕ} (f : Fin n → ℝ) {k : ℕ} (h : ¬(8 ≤ k ∧ k - 8 < n)) : pad f k = 0 := dif_neg h

/-- The convolution of three rows. -/
def conv (w : Fin 3 → ℝ) (b : ℝ) (e : ℕ → ℝ) (k : ℕ) : ℝ := e (k - 1) * w 0 + e k * w 1 + e (k + 1) * w 2 + b

def sg (x : ℝ) : ℝ := 1 / (1 + Real.exp (-x))

theorem sg_pos (x : ℝ) : 0 < 1 + Real.exp (-x) := by positivity

/-- The gradients of the gate's and the value's half. -/
def dgate (g a b : ℝ) : ℝ := g * b * (sg a * (1 + a * (1 - sg a)))
def dval (g a : ℝ) : ℝ := g * (a * sg a)

/-- The convolution's gradient to its argument, from the gradient of its result. -/
def back (w : Fin 3 → ℝ) (d : ℕ → ℝ) (k : ℕ) : ℝ := d (k + 1) * w 0 + d k * w 1 + d (k - 1) * w 2

/-- The rows' share in the gradient of the three weights and of the bias. -/
def stat {n : ℕ} (d e : ℕ → ℝ) (k : Fin n → ℕ) (q : ℕ) : ℝ :=
  if q = 0 then ∑ r, d (k r) * e (k r - 1) else if q = 1 then ∑ r, d (k r) * e (k r) else if q = 2 then ∑ r, d (k r) * e (k r + 1)
    else if q = 3 then ∑ r, d (k r) else 0

end FfnReal
-- ==== Proof.FfnPay.lean ====
module

public import proofs.«01_k».proof.Proof.Gen.FfnIdeal.Value
public import Idealize.ShloMosaic.Lib.Pipeline.ValueKit
public import proofs.«01_k».proof.Proof.FfnReal

/-
  One block of rows of the gated convolution layer: what the kernel's vector arithmetic gives at real entries.
-/

@[expose] public section

set_option maxRecDepth 16384
set_option maxHeartbeats 2000000

noncomputable section

namespace Cert.FfnIdeal.Hand

open Cert.FfnIdeal Cert.FfnIdeal.Gen Cert.FfnIdeal.Value Idealize.ShloMosaic Idealize.ShloMosaic.TcCoe Idealize.SL.Sem
open FfnReal (conv sg dgate dval back stat)
open scoped BigOperators

/-- A choice by the number of the block. -/
theorem first_mask {α : Type} (n : Fin 8) (a b : α) : Scalar.select (Scalar.cmpi .eq (BitVec.ofNat 32 n.val) 0#32) a b = if n.val = 0 then a else b := by
  fin_cases n <;> rfl
theorem last_mask {α : Type} (n : Fin 8) (a b : α) : Scalar.select (Scalar.cmpi .eq (BitVec.ofNat 32 n.val) 7#32) a b = if n.val = 7 then a else b := by
  fin_cases n <;> rfl

theorem word_zero : (Ideal.ofBits FTy.f32 0x00000000#32 : EReal) = ((0 : ℝ) : EReal) := Ideal.ofBits_zero_f32
theorem word_one : (Ideal.ofBits FTy.f32 0x3F800000#32 : EReal) = ((1 : ℝ) : EReal) := Ideal.ofBits_one_f32

/-- Three pieces of rows, one after the other. -/
theorem join {P Q : Fin 8 → EReal} {U : Fin 512 → EReal} {e : ℕ → ℝ} (hp : ∀ r, P r = (e r.val : EReal)) (hu : ∀ r, U r = (e (8 + r.val) : EReal))
    (hq : ∀ r, Q r = (e (520 + r.val) : EReal)) (r : Fin 528) :
    (if h : r.val < 8 then P ⟨r.val, h⟩ else if h' : r.val - 8 < 512 then U ⟨r.val - 8, h'⟩ else Q ⟨r.val - 8 - 512, by omega⟩) = (e r.val : EReal) := by
  split_ifs with h h'
  · exact hp _
  · rw [hu]; exact congrArg (fun k => (e k : EReal)) (by show 8 + (r.val - 8) = r.val; omega)
  · rw [hq]; exact congrArg (fun k => (e k : EReal)) (by show 520 + (r.val - 8 - 512) = r.val; omega)

section Rows

variable {i : grid0.Coords} {n : Fin 8}

/-- The rows of a gate's block with eight rows at each side. -/
theorem gate_rows {p q : Vec Ideal S1x1x8x704 .f32} {u : Vec Ideal S1x1x512x704 .f32} {e : ℕ → Fin 704 → ℝ}
    (hp : ∀ (r : Fin 8) l, (if n.val = 0 then (0 : EReal) else p (ix4 0 0 r l)) = (e r.val l : EReal))
    (hu : ∀ (r : Fin 512) l, u (ix4 0 0 r l) = (e (8 + r.val) l : EReal))
    (hq : ∀ (r : Fin 8) l, (if n.val = 7 then (0 : EReal) else q (ix4 0 0 r l)) = (e (520 + r.val) l : EReal)) (hi : (i 1).val = n.val) (r : Fin 528) (l : Fin 704) :
    k0_pay7 (k0_pay4 u) (k0_pay5 q) (k0_pay6 i p) (Scalar.cmpi .eq (BitVec.ofNat 32 (i 1).val) 7#32) (Scalar.ofBits (F := Ideal) .f32 0x00000000#32) (ix2 r l) = (e r.val l : EReal) := by
  pointwise [k0_pay7, k0_pay4, k0_pay5, k0_pay6]
  rw [hi]
  simp only [first_mask, last_mask, Ideal.ofBits_zero_f32]
  exact join (e := fun k => e k l) (fun r => hp r l) (fun r => hu r l) (fun r => hq r l) r

/-- The same of a value's block. -/
theorem value_rows {p q : Vec Ideal S1x1x8x704 .f32} {u : Vec Ideal S1x1x512x704 .f32} {e : ℕ → Fin 704 → ℝ}
    (hp : ∀ (r : Fin 8) l, (if n.val = 0 then (0 : EReal) else p (ix4 0 0 r l)) = (e r.val l : EReal))
    (hu : ∀ (r : Fin 512) l, u (ix4 0 0 r l) = (e (8 + r.val) l : EReal))
    (hq : ∀ (r : Fin 8) l, (if n.val = 7 then (0 : EReal) else q (ix4 0 0 r l)) = (e (520 + r.val) l : EReal)) (hi : (i 1).val = n.val) (r : Fin 528) (l : Fin 704) :
    k0_pay14 (k0_pay11 u) (k0_pay12 (BitVec.ofNat 32 (i 1).val) p) (k0_pay13 (BitVec.ofNat 32 (i 1).val) q) (ix2 r l) = (e r.val l : EReal) := by
  pointwise [k0_pay14, k0_pay11, k0_pay12, k0_pay13]
  rw [hi]
  simp only [first_mask, last_mask, Ideal.ofBits_zero_f32]
  exact join (e := fun k => e k l) (fun r => hp r l) (fun r => hu r l) (fun r => hq r l) r

/-- The product of the cotangent's rows with the weight. -/
theorem down_rows {p q : Vec Ideal S8x1024 .f32} {u : Vec Ideal S512x1024 .f32} {w : Vec Ideal S704x1024 .bf16} {e : ℕ → Fin 1024 → ℝ} {f : Fin 704 → Fin 1024 → ℝ}
    (hp : ∀ (r : Fin 8) l, (if n.val = 0 then (0 : EReal) else p (ix2 r l)) = (e r.val l : EReal))
    (hu : ∀ (r : Fin 512) l, u (ix2 r l) = (e (8 + r.val) l : EReal))
    (hq : ∀ (r : Fin 8) l, (if n.val = 7 then (0 : EReal) else q (ix2 r l)) = (e (520 + r.val) l : EReal)) (hw : ∀ l d, w (ix2 l d) = (f l d : EReal))
    (hi : (i 1).val = n.val) (r : Fin 528) (l : Fin 704) :
    k0_pay3 i p u q w (ix2 r l) = ((∑ d, e r.val d * f l d : ℝ) : EReal) := by
  pointwise [k0_pay3]
  rw [hi]
  simp only [first_mask, last_mask, Ideal.ofBits_zero_f32]
  rw [SoftmaxReal.coe_sum]
  refine Finset.sum_congr rfl fun d _ => ?_
  rw [EReal.coe_mul, hw]
  exact congrArg (fun a : EReal => a * (f l d : EReal)) (join (e := fun k => e k d) (fun r => hp r d) (fun r => hu r d) (fun r => hq r d) r)

end Rows

/-- A row's place after turning by one row down or up. -/
theorem down_one (r : Fin 528) (h : 1 ≤ r.val) : (r.val + 528 - 1) % 528 = r.val - 1 := by omega
theorem up_one (r : Fin 528) (h : r.val ≤ 526) : (r.val + 528 - 527) % 528 = r.val + 1 := by omega

theorem sg_real (x : ℝ) : Ideal.div (1 : EReal) ((1 : EReal) + Ideal.exp ((0 : EReal) - (x : EReal))) = (sg x : EReal) := by
  rw [← EReal.coe_one, ← EReal.coe_zero, SoftmaxReal.exp_sub, ← EReal.coe_add, zero_sub, SoftmaxReal.div_real _ (FfnReal.sg_pos x).ne']
  rfl

section Conv

variable {e : ℕ → Fin 704 → ℝ} {w : Vec Ideal S1x1x3x704 .f32} {b : Vec Ideal S1x1x1x704 .f32} {W : Fin 3 → Fin 704 → ℝ} {B : Fin 704 → ℝ}
  (hw : ∀ q l, w (ix4 0 0 q l) = (W q l : EReal)) (hb : ∀ l, b (ix4 0 0 0 l) = (B l : EReal))

include hw hb in
theorem gate_conv {x : FVec Ideal S512x704 .f32} {y z : FVec Ideal S8x704 .f32} {v : BitVec 1} {o : EReal}
    (hX : ∀ (r : Fin 528) l, k0_pay7 (F := Ideal) x y z v o (ix2 r l) = (e r.val l : EReal)) (r : Fin 528) (l : Fin 704) (h1 : 1 ≤ r.val) (h2 : r.val ≤ 526) :
    k0_pay10 (F := Ideal) x y z v o w b (ix2 r l) = (conv (fun q => W q l) (B l) (fun k => e k l) r.val : EReal) := by
  unfold k0_pay10 k0_pay8 k0_pay9
  generalize k0_pay7 (F := Ideal) x y z v o = X at hX ⊢
  pointwise []
  simp only [hX, hw, hb, down_one r h1, up_one r h2, ← EReal.coe_mul, ← EReal.coe_add]
  rfl

theorem sigmoid_row {v : FVec Ideal S528x704 .f32} {r : Fin 528} {l : Fin 704} {a : ℝ} (hv : v (ix2 r l) = (a : EReal)) : k0_pay17 v (ix2 r l) = (sg a : EReal) := by
  pointwise [k0_pay17]
  rw [hv]
  exact sg_real a

theorem value_grad {d v : FVec Ideal S528x704 .f32} {r : Fin 528} {l : Fin 704} {g a : ℝ} (hd : d (ix2 r l) = (g : EReal)) (hv : v (ix2 r l) = (a : EReal)) :
    k0_pay19 d v (ix2 r l) = (dval g a : EReal) := by
  have hs := sigmoid_row hv
  unfold k0_pay19
  generalize k0_pay17 v = s at hs ⊢
  pointwise []
  rw [hd, hv, hs, ← EReal.coe_mul, ← EReal.coe_mul]
  rfl

include hw hb in
theorem gate_grad {d v : FVec Ideal S528x704 .f32} {x : FVec Ideal S512x704 .f32} {y z : FVec Ideal S8x704 .f32}
    (hX : ∀ (r : Fin 528) l, k0_pay14 (F := Ideal) x y z (ix2 r l) = (e r.val l : EReal)) {r : Fin 528} {l : Fin 704} {g a : ℝ} (h1 : 1 ≤ r.val) (h2 : r.val ≤ 526)
    (hd : d (ix2 r l) = (g : EReal)) (hv : v (ix2 r l) = (a : EReal)) :
    k0_pay18 (F := Ideal) d v x y z w b (ix2 r l) = (dgate g a (conv (fun q => W q l) (B l) (fun k => e k l) r.val) : EReal) := by
  have hs := sigmoid_row hv
  unfold k0_pay18 k0_pay15 k0_pay16
  generalize k0_pay14 (F := Ideal) x y z = X at hX ⊢
  generalize k0_pay17 v = s at hs ⊢
  pointwise []
  simp only [hX, hw, hb, hd, hv, hs, down_one r h1, up_one r h2, word_one, ← EReal.coe_mul, ← EReal.coe_add, ← EReal.coe_sub]
  rfl

end Conv

section Back

variable {d : ℕ → Fin 704 → ℝ} {D : FVec Ideal S528x704 .f32} (hD : ∀ (r : Fin 528) l, 1 ≤ r.val → r.val ≤ 526 → D (ix2 r l) = (d r.val l : EReal))
  {w : Vec Ideal S1x1x3x704 .f32} {W : Fin 3 → Fin 704 → ℝ} (hw : ∀ q l, w (ix4 0 0 q l) = (W q l : EReal))

include hD in
/-- The rows of a block, and those one row up and down. -/
theorem rows_mid (r : Fin 512) (l : Fin 704) (h) (h') (h'') : D (ix2 ⟨8 + r.val, h⟩ l) = (d (8 + r.val) l : EReal)
    ∧ D (ix2 ⟨(8 + r.val + 528 - 527) % 528, h'⟩ l) = (d (8 + r.val + 1) l : EReal) ∧ D (ix2 ⟨(8 + r.val + 528 - 1) % 528, h''⟩ l) = (d (8 + r.val - 1) l : EReal) := by
  have a1 : (8 + r.val + 528 - 527) % 528 = 8 + r.val + 1 := by omega
  have a2 : (8 + r.val + 528 - 1) % 528 = 8 + r.val - 1 := by omega
  refine ⟨hD _ l (by show 1 ≤ 8 + r.val; omega) (by show 8 + r.val ≤ 526; omega), ?_, ?_⟩
  · exact (hD _ l (by show 1 ≤ (8 + r.val + 528 - 527) % 528; omega) (by show (8 + r.val + 528 - 527) % 528 ≤ 526; omega)).trans (congrArg (fun k => (d k l : EReal)) a1)
  · exact (hD _ l (by show 1 ≤ (8 + r.val + 528 - 1) % 528; omega) (by show (8 + r.val + 528 - 1) % 528 ≤ 526; omega)).trans (congrArg (fun k => (d k l : EReal)) a2)

include hD hw in
theorem value_back (r : Fin 512) (l : Fin 704) : k0_pay33 (F := Ideal) D w (ix4 0 0 r l) = (back (fun q => W q l) (fun k => d k l) (8 + r.val) : EReal) := by
  pointwise [k0_pay33, k0_pay32]
  rw [(rows_mid hD r l _ (by omega) (by omega)).1, (rows_mid hD r l (by omega) _ (by omega)).2.1, (rows_mid hD r l (by omega) (by omega) _).2.2, hw, hw, hw]
  simp only [← EReal.coe_mul, ← EReal.coe_add]
  rfl

include hD hw in
theorem gate_back (r : Fin 512) (l : Fin 704) :
    k0_pay22 (F := Ideal) D (k0_pay20 w) (extractStridedSlice S512x704 ![8, 0] D slices_S528x704_o8_0_S512x704) (ix4 0 0 r l)
      = (back (fun q => W q l) (fun k => d k l) (8 + r.val) : EReal) := by
  pointwise [k0_pay22, k0_pay20]
  rw [(rows_mid hD r l _ (by omega) (by omega)).1, (rows_mid hD r l (by omega) _ (by omega)).2.1, (rows_mid hD r l (by omega) (by omega) _).2.2, hw, hw, hw]
  simp only [← EReal.coe_mul, ← EReal.coe_add]
  rfl

variable {e : ℕ → Fin 704 → ℝ}

/-- A choice by the row's number. -/
theorem row_mask (q : Fin 8) (a b c f o : EReal) :
    Scalar.select (IntOp.cmpi CmpIPredicate.eq (BitVec.ofNat 32 q.val) 0#32) a (Scalar.select (IntOp.cmpi CmpIPredicate.eq (BitVec.ofNat 32 q.val) 1#32) b
      (Scalar.select (IntOp.cmpi CmpIPredicate.eq (BitVec.ofNat 32 q.val) 2#32) c (Scalar.select (IntOp.cmpi CmpIPredicate.eq (BitVec.ofNat 32 q.val) 3#32) f o)))
      = if q.val = 0 then a else if q.val = 1 then b else if q.val = 2 then c else if q.val = 3 then f else o := by
  fin_cases q <;> rfl

include hD in
/-- The sums that the statistics are made of. -/
theorem stat_sums {X : FVec Ideal S528x704 .f32} (hX : ∀ (r : Fin 528) l, X (ix2 r l) = (e r.val l : EReal)) (q : Fin 8) (l : Fin 704) :
    (if q.val = 0 then ∑ r : Fin 512, (D (ix2 ⟨8 + r.val, by omega⟩ l) * X (ix2 ⟨(8 + r.val + 528 - 1) % 528, by omega⟩ l) : EReal)
      else if q.val = 1 then ∑ r : Fin 512, (D (ix2 ⟨8 + r.val, by omega⟩ l) * X (ix2 ⟨8 + r.val, by omega⟩ l) : EReal)
      else if q.val = 2 then ∑ r : Fin 512, (D (ix2 ⟨8 + r.val, by omega⟩ l) * X (ix2 ⟨(8 + r.val + 528 - 527) % 528, by omega⟩ l) : EReal)
      else if q.val = 3 then ∑ r : Fin 512, (D (ix2 ⟨8 + r.val, by omega⟩ l) : EReal) else 0)
      = (stat (fun k => d k l) (fun k => e k l) (fun r : Fin 512 => 8 + r.val) q.val : EReal) := by
  have hE : ∀ (r : Fin 528) l, 1 ≤ r.val → r.val ≤ 526 → X (ix2 r l) = (e r.val l : EReal) := fun r l _ _ => hX r l
  have a (r : Fin 512) := (rows_mid hD r l (by omega) (by omega) (by omega)).1
  have b (r : Fin 512) := rows_mid hE r l (by omega) (by omega) (by omega)
  unfold stat
  split_ifs
  · rw [SoftmaxReal.coe_sum]
    exact Finset.sum_congr rfl fun r _ => by rw [a, (b r).2.2, EReal.coe_mul]
  · rw [SoftmaxReal.coe_sum]
    exact Finset.sum_congr rfl fun r _ => by rw [a, (b r).1, EReal.coe_mul]
  · rw [SoftmaxReal.coe_sum]
    exact Finset.sum_congr rfl fun r _ => by rw [a, (b r).2.1, EReal.coe_mul]
  · rw [SoftmaxReal.coe_sum]
    exact Finset.sum_congr rfl fun r _ => a r
  · rfl

include hD in
theorem gate_stat {x : FVec Ideal S512x704 .f32} {y z : FVec Ideal S8x704 .f32} {v : BitVec 1} {o : EReal}
    (hX : ∀ (r : Fin 528) l, k0_pay7 (F := Ideal) x y z v o (ix2 r l) = (e r.val l : EReal)) (P : Vec Ideal S1x1x8x704 .f32) (q : Fin 8) (l : Fin 704) :
    k0_pay31 (iota .tc S8x704 32 [0] iota_S8x704_d0_w32)
        (k0_pay23 (k0_pay8 (F := Ideal) x y z v o) (extractStridedSlice S512x704 ![8, 0] D slices_S528x704_o8_0_S512x704))
        (k0_pay24 (k0_pay7 (F := Ideal) x y z v o) (extractStridedSlice S512x704 ![8, 0] D slices_S528x704_o8_0_S512x704))
        (k0_pay25 (k0_pay9 (F := Ideal) x y z v o) (extractStridedSlice S512x704 ![8, 0] D slices_S528x704_o8_0_S512x704))
        (k0_pay26 (extractStridedSlice S512x704 ![8, 0] D slices_S528x704_o8_0_S512x704)) (k0_pay27 P)
        (k0_pay28 (iota .tc S8x704 32 [0] iota_S8x704_d0_w32)) (k0_pay29 (iota .tc S8x704 32 [0] iota_S8x704_d0_w32)) (k0_pay30 (iota .tc S8x704 32 [0] iota_S8x704_d0_w32)) 3#32
        (ix4 0 0 q l)
      = (P (ix4 0 0 q l) : EReal) + (stat (fun k => d k l) (fun k => e k l) (fun r : Fin 512 => 8 + r.val) q.val : EReal) := by
  unfold k0_pay8 k0_pay9
  generalize k0_pay7 (F := Ideal) x y z v o = X at hX ⊢
  pointwise [k0_pay31, k0_pay23, k0_pay24, k0_pay25, k0_pay26, k0_pay27, k0_pay28, k0_pay29, k0_pay30]
  rw [row_mask]
  exact congrArg (fun x : EReal => (P (ix4 0 0 q l) : EReal) + x) (stat_sums hD hX q l)

include hD in
theorem value_stat {x : FVec Ideal S512x704 .f32} {y z : FVec Ideal S8x704 .f32}
    (hX : ∀ (r : Fin 528) l, k0_pay14 (F := Ideal) x y z (ix2 r l) = (e r.val l : EReal)) (P : Vec Ideal S1x1x8x704 .f32) (q : Fin 8) (l : Fin 704) :
    k0_pay1 (k0_pay35 (k0_pay14 (F := Ideal) x y z) (k0_pay16 (F := Ideal) x y z) (iota .tc S8x704 32 [0] iota_S8x704_d0_w32) (k0_pay32 D)
        (k0_pay34 (k0_pay15 (F := Ideal) x y z) D) P) (ix4 0 0 q l)
      = (P (ix4 0 0 q l) : EReal) + (stat (fun k => d k l) (fun k => e k l) (fun r : Fin 512 => 8 + r.val) q.val : EReal) := by
  unfold k0_pay15 k0_pay16
  generalize k0_pay14 (F := Ideal) x y z = X at hX ⊢
  pointwise [k0_pay1, k0_pay35, k0_pay34, k0_pay32]
  rw [row_mask]
  exact congrArg (fun x : EReal => (P (ix4 0 0 q l) : EReal) + x) (stat_sums hD hX q l)

end Back

end Cert.FfnIdeal.Hand
-- ==== Proof.FfnValue.lean ====
module

public import proofs.«01_k».proof.Proof.FfnPay
public import Idealize.ShloMosaic.Lib.Pipeline.ReadBack

/-
  The gated convolution layer's gradient at real arguments: a block of 512 rows and 704 columns gives the gradient of its rows, and the
  eight blocks of rows add up to the gradients of the convolution's weights and bias.
-/

@[expose] public section

set_option maxRecDepth 16384
set_option maxHeartbeats 2000000

noncomputable section

namespace Cert.FfnIdeal.Hand

open Cert.FfnIdeal Cert.FfnIdeal.Gen Cert.FfnIdeal.Value Idealize.ShloMosaic Idealize.ShloMosaic.TcCoe Idealize.SL.Sem
open FfnReal (pad conv dgate dval back stat)
open scoped BigOperators

/-- A half read back. -/
theorem ld_half {ε : EltTy} {n : ℕ} (X : Vec Ideal ⟨4, ![2, 1, n, 704]⟩ ε) (h : Fin 2) (inb) (r : Fin n) (l : Fin 704) :
    View.ld X (Rect.unit (s := ⟨4, ![2, 1, n, 704]⟩) ![h.val, 0, 0, 0] (⟨4, ![1, 1, n, 704]⟩ : Shape).size inb) (ix4 0 0 r l) = X (ix4 h 0 r l) := by
  refine congrArg X (funext fun a => Fin.ext ?_)
  fin_cases a
  · exact (ValueKit.rect_emb_unit_val _ _ _ _ _).trans (Nat.add_zero _)
  · exact (ValueKit.rect_emb_unit_val _ _ _ _ _).trans (Nat.add_zero _)
  · exact (ValueKit.rect_emb_unit_val _ _ _ _ _).trans (Nat.zero_add _)
  · exact (ValueKit.rect_emb_unit_val _ _ _ _ _).trans (Nat.zero_add _)

/-- The gradient of the convolution's result in a block. -/
def dl (e : Fin 2 → ℕ → Fin 704 → ℝ) (W : Fin 2 → Fin 3 → Fin 704 → ℝ) (B : Fin 2 → Fin 704 → ℝ) (G : ℕ → Fin 1024 → ℝ) (W' : Fin 704 → Fin 1024 → ℝ)
    (h : Fin 2) (k : ℕ) (l : Fin 704) : ℝ :=
  if h = 0 then dgate (∑ d, G k d * W' l d) (conv (fun q => W 0 q l) (B 0 l) (fun k => e 0 k l) k) (conv (fun q => W 1 q l) (B 1 l) (fun k => e 1 k l) k)
  else dval (∑ d, G k d * W' l d) (conv (fun q => W 0 q l) (B 0 l) (fun k => e 0 k l) k)

/-- A block's arguments at real entries, with eight rows at each side. -/
structure Blk (i : grid0.Coords) (n : Fin 8) (x0 : Vec Ideal S2x1x512x704 .f32) (x1 x2 : Vec Ideal S2x1x8x704 .f32) (x3 : Vec Ideal S512x1024 .f32) (x4 x5 : Vec Ideal S8x1024 .f32)
    (x6 : Vec Ideal S704x1024 .bf16) (x7 : Vec Ideal S2x1x3x704 .f32) (x8 : Vec Ideal S2x1x1x704 .f32)
    (e : Fin 2 → ℕ → Fin 704 → ℝ) (W : Fin 2 → Fin 3 → Fin 704 → ℝ) (B : Fin 2 → Fin 704 → ℝ) (G : ℕ → Fin 1024 → ℝ) (W' : Fin 704 → Fin 1024 → ℝ) : Prop where
  pos : (i 1).val = n.val
  u : ∀ h (r : Fin 512) l, x0 (ix4 h 0 r l) = (e h (8 + r.val) l : EReal)
  up : ∀ h (r : Fin 8) l, (if n.val = 0 then (0 : EReal) else x1 (ix4 h 0 r l)) = (e h r.val l : EReal)
  un : ∀ h (r : Fin 8) l, (if n.val = 7 then (0 : EReal) else x2 (ix4 h 0 r l)) = (e h (520 + r.val) l : EReal)
  g : ∀ (r : Fin 512) d, x3 (ix2 r d) = (G (8 + r.val) d : EReal)
  gp : ∀ (r : Fin 8) d, (if n.val = 0 then (0 : EReal) else x4 (ix2 r d)) = (G r.val d : EReal)
  gn : ∀ (r : Fin 8) d, (if n.val = 7 then (0 : EReal) else x5 (ix2 r d)) = (G (520 + r.val) d : EReal)
  wd : ∀ l d, x6 (ix2 l d) = (W' l d : EReal)
  w : ∀ h q l, x7 (ix4 h 0 q l) = (W h q l : EReal)
  b : ∀ h l, x8 (ix4 h 0 0 l) = (B h l : EReal)

section Block

variable {i : grid0.Coords} {n : Fin 8} {x0 : Vec Ideal S2x1x512x704 .f32} {x1 x2 : Vec Ideal S2x1x8x704 .f32} {x3 : Vec Ideal S512x1024 .f32} {x4 x5 : Vec Ideal S8x1024 .f32}
  {x6 : Vec Ideal S704x1024 .bf16} {x7 : Vec Ideal S2x1x3x704 .f32} {x8 : Vec Ideal S2x1x1x704 .f32}
  {e : Fin 2 → ℕ → Fin 704 → ℝ} {W : Fin 2 → Fin 3 → Fin 704 → ℝ} {B : Fin 2 → Fin 704 → ℝ} {G : ℕ → Fin 1024 → ℝ} {W' : Fin 704 → Fin 1024 → ℝ}
  (hr : Blk i n x0 x1 x2 x3 x4 x5 x6 x7 x8 e W B G W')

theorem half_in {n : ℕ} (h : Fin 2) : ∀ a, (![h.val, 0, 0, 0] : Fin 4 → ℕ) a + (⟨4, ![1, 1, n, 704]⟩ : Shape).size a ≤ (⟨4, ![2, 1, n, 704]⟩ : Shape).size a := by
  intro a
  fin_cases a
  · show h.val + 1 ≤ 2; omega
  · exact le_refl 1
  · show 0 + n ≤ n; omega
  · exact le_refl 704

/-- One half of a block. -/
abbrev main (X : Vec Ideal S2x1x512x704 .f32) (h : Fin 2) : Vec Ideal S1x1x512x704 .f32 := View.ld X (Rect.unit (s := S2x1x512x704) ![h.val, 0, 0, 0] S1x1x512x704.size (half_in (n := 512) h))
abbrev side (X : Vec Ideal S2x1x8x704 .f32) (h : Fin 2) : Vec Ideal S1x1x8x704 .f32 := View.ld X (Rect.unit (s := S2x1x8x704) ![h.val, 0, 0, 0] S1x1x8x704.size (half_in (n := 8) h))
abbrev wgt (X : Vec Ideal S2x1x3x704 .f32) (h : Fin 2) : Vec Ideal S1x1x3x704 .f32 := View.ld X (Rect.unit (s := S2x1x3x704) ![h.val, 0, 0, 0] S1x1x3x704.size (half_in (n := 3) h))
abbrev bias (X : Vec Ideal S2x1x1x704 .f32) (h : Fin 2) : Vec Ideal S1x1x1x704 .f32 := View.ld X (Rect.unit (s := S2x1x1x704) ![h.val, 0, 0, 0] S1x1x1x704.size (half_in (n := 1) h))

include hr in
theorem e0_rows (r : Fin 528) (l : Fin 704) :
    k0_pay7 (k0_pay4 (main x0 0)) (k0_pay5 (side x2 0)) (k0_pay6 i (side x1 0)) (Scalar.cmpi .eq (BitVec.ofNat 32 (i 1).val) 7#32)
      (Scalar.ofBits (F := Ideal) .f32 0x00000000#32) (ix2 r l) = (e 0 r.val l : EReal) :=
  gate_rows (e := e 0) (fun r l => (congrArg (fun a : EReal => if n.val = 0 then (0 : EReal) else a) (ld_half x1 0 _ r l)).trans (hr.up 0 r l))
    (fun r l => (ld_half x0 0 _ r l).trans (hr.u 0 r l))
    (fun r l => (congrArg (fun a : EReal => if n.val = 7 then (0 : EReal) else a) (ld_half x2 0 _ r l)).trans (hr.un 0 r l)) hr.pos r l

include hr in
theorem e1_rows (r : Fin 528) (l : Fin 704) :
    k0_pay14 (k0_pay11 (main x0 1)) (k0_pay12 (BitVec.ofNat 32 (i 1).val) (side x1 1)) (k0_pay13 (BitVec.ofNat 32 (i 1).val) (side x2 1)) (ix2 r l)
      = (e 1 r.val l : EReal) :=
  value_rows (e := e 1) (fun r l => (congrArg (fun a : EReal => if n.val = 0 then (0 : EReal) else a) (ld_half x1 1 _ r l)).trans (hr.up 1 r l))
    (fun r l => (ld_half x0 1 _ r l).trans (hr.u 1 r l))
    (fun r l => (congrArg (fun a : EReal => if n.val = 7 then (0 : EReal) else a) (ld_half x2 1 _ r l)).trans (hr.un 1 r l)) hr.pos r l

include hr in
theorem c0_rows (r : Fin 528) (l : Fin 704) (h1 : 1 ≤ r.val) (h2 : r.val ≤ 526) :
    k0_pay10 (k0_pay4 (main x0 0)) (k0_pay5 (side x2 0)) (k0_pay6 i (side x1 0)) (Scalar.cmpi .eq (BitVec.ofNat 32 (i 1).val) 7#32)
      (Scalar.ofBits (F := Ideal) .f32 0x00000000#32) (wgt x7 0) (bias x8 0) (ix2 r l)
      = (conv (fun q => W 0 q l) (B 0 l) (fun k => e 0 k l) r.val : EReal) :=
  gate_conv (W := W 0) (B := B 0) (fun q l => (ld_half x7 0 _ q l).trans (hr.w 0 q l)) (fun l => (ld_half x8 0 _ 0 l).trans (hr.b 0 l))
    (e0_rows hr) r l h1 h2

/-- The gradient of the value's half of the convolution, and of the gate's. -/
abbrev D1 (i : grid0.Coords) (x0 : Vec Ideal S2x1x512x704 .f32) (x1 x2 : Vec Ideal S2x1x8x704 .f32) (x3 : Vec Ideal S512x1024 .f32) (x4 x5 : Vec Ideal S8x1024 .f32)
    (x6 : Vec Ideal S704x1024 .bf16) (x7 : Vec Ideal S2x1x3x704 .f32) (x8 : Vec Ideal S2x1x1x704 .f32) : FVec Ideal S528x704 .f32 :=
  k0_pay19 (k0_pay3 i x4 x3 x5 x6) (k0_pay10 (k0_pay4 (main x0 0)) (k0_pay5 (side x2 0)) (k0_pay6 i (side x1 0)) (Scalar.cmpi .eq (BitVec.ofNat 32 (i 1).val) 7#32)
      (Scalar.ofBits (F := Ideal) .f32 0x00000000#32) (wgt x7 0) (bias x8 0))
abbrev D0 (i : grid0.Coords) (x0 : Vec Ideal S2x1x512x704 .f32) (x1 x2 : Vec Ideal S2x1x8x704 .f32) (x3 : Vec Ideal S512x1024 .f32) (x4 x5 : Vec Ideal S8x1024 .f32)
    (x6 : Vec Ideal S704x1024 .bf16) (x7 : Vec Ideal S2x1x3x704 .f32) (x8 : Vec Ideal S2x1x1x704 .f32) : FVec Ideal S528x704 .f32 :=
  k0_pay18 (k0_pay3 i x4 x3 x5 x6) (k0_pay10 (k0_pay4 (main x0 0)) (k0_pay5 (side x2 0)) (k0_pay6 i (side x1 0)) (Scalar.cmpi .eq (BitVec.ofNat 32 (i 1).val) 7#32)
      (Scalar.ofBits (F := Ideal) .f32 0x00000000#32) (wgt x7 0) (bias x8 0))
    (k0_pay11 (main x0 1)) (k0_pay12 (BitVec.ofNat 32 (i 1).val) (side x1 1)) (k0_pay13 (BitVec.ofNat 32 (i 1).val) (side x2 1)) (wgt x7 1) (bias x8 1)

include hr in
theorem d1_rows (r : Fin 528) (l : Fin 704) (h1 : 1 ≤ r.val) (h2 : r.val ≤ 526) :
    D1 i x0 x1 x2 x3 x4 x5 x6 x7 x8 (ix2 r l) = (dl e W B G W' 1 r.val l : EReal) :=
  value_grad (down_rows (e := G) (f := W') hr.gp hr.g hr.gn hr.wd hr.pos r l) (c0_rows hr r l h1 h2)

include hr in
theorem d0_rows (r : Fin 528) (l : Fin 704) (h1 : 1 ≤ r.val) (h2 : r.val ≤ 526) :
    D0 i x0 x1 x2 x3 x4 x5 x6 x7 x8 (ix2 r l) = (dl e W B G W' 0 r.val l : EReal) :=
  gate_grad (W := W 1) (B := B 1) (e := e 1) (fun q l => (ld_half x7 1 _ q l).trans (hr.w 1 q l)) (fun l => (ld_half x8 1 _ 0 l).trans (hr.b 1 l)) (e1_rows hr) h1 h2
    (down_rows (e := G) (f := W') hr.gp hr.g hr.gn hr.wd hr.pos r l) (c0_rows hr r l h1 h2)

theorem row512 (x : S1x1x512x704.Idx) : x = ix4 0 0 (x 2) (x 3) := (eq_ix4 x).trans (by
  rw [show x 0 = (0 : Fin 1) from Subsingleton.elim (α := Fin 1) _ _, show x 1 = (0 : Fin 1) from Subsingleton.elim (α := Fin 1) _ _]; rfl)

/-- The result at an entry, from the half and the place in it. -/
theorem du_at {h : Fin 2} {r : Fin 512} {l : Fin 704} {y : S2x1x512x704.Idx} (y0 : (y 0).val = h.val) (y2 : (y 2).val = r.val) (y3 : (y 3).val = l.val) :
    (back (fun q => W h q l) (fun k => dl e W B G W' h k l) (8 + r.val) : EReal)
      = (back (fun q => W (y 0) q (y 3)) (fun k => dl e W B G W' (y 0) k (y 3)) (8 + (y 2).val) : EReal) := by
  rw [show y 0 = h from Fin.ext y0, show y 3 = l from Fin.ext y3, y2]

include hr in
theorem du_value (x : S1x1x512x704.Idx) {y : S2x1x512x704.Idx} (y0 : (y 0).val = 1) (y2 : (y 2).val = (x 2).val) (y3 : (y 3).val = (x 3).val) :
    k0_pay33 (D1 i x0 x1 x2 x3 x4 x5 x6 x7 x8) (wgt x7 1) x
      = (back (fun q => W (y 0) q (y 3)) (fun k => dl e W B G W' (y 0) k (y 3)) (8 + (y 2).val) : EReal) := by
  obtain ⟨r, l, rfl⟩ : ∃ (r : Fin 512) (l : Fin 704), x = ix4 0 0 r l := ⟨x 2, x 3, by exact row512 x⟩
  exact (value_back (d := dl e W B G W' 1) (W := W 1) (d1_rows hr) (fun q l => (ld_half x7 1 _ q l).trans (hr.w 1 q l)) r l).trans (du_at y0 y2 y3)

include hr in
theorem du_gate (x : S1x1x512x704.Idx) {y : S2x1x512x704.Idx} (y0 : (y 0).val = 0) (y2 : (y 2).val = (x 2).val) (y3 : (y 3).val = (x 3).val) :
    k0_pay22 (D0 i x0 x1 x2 x3 x4 x5 x6 x7 x8) (k0_pay20 (wgt x7 0))
        (extractStridedSlice S512x704 ![8, 0] (D0 i x0 x1 x2 x3 x4 x5 x6 x7 x8) slices_S528x704_o8_0_S512x704) x
      = (back (fun q => W (y 0) q (y 3)) (fun k => dl e W B G W' (y 0) k (y 3)) (8 + (y 2).val) : EReal) := by
  obtain ⟨r, l, rfl⟩ : ∃ (r : Fin 512) (l : Fin 704), x = ix4 0 0 r l := ⟨x 2, x 3, by exact row512 x⟩
  exact (gate_back (d := dl e W B G W' 0) (W := W 0) (d0_rows hr) (fun q l => (ld_half x7 0 _ q l).trans (hr.w 0 q l)) r l).trans (du_at y0 y2 y3)

/-- The accumulated sums at an entry, from the half and the place in it. -/
theorem st_at (P : Vec Ideal S2x1x8x704 .f32) (h : Fin 2) (x : S1x1x8x704.Idx) (y : S2x1x8x704.Idx) (y0 : (y 0).val = h.val) (y2 : (y 2).val = (x 2).val) (y3 : (y 3).val = (x 3).val) :
    (side P h (ix4 0 0 (x 2) (x 3)) : EReal) + (stat (fun k => dl e W B G W' h k (x 3)) (fun k => e h k (x 3)) (fun r : Fin 512 => 8 + r.val) (x 2).val : EReal)
      = (P y : EReal) + (stat (fun k => dl e W B G W' (y 0) k (y 3)) (fun k => e (y 0) k (y 3)) (fun r : Fin 512 => 8 + r.val) (y 2).val : EReal) := by
  obtain rfl : y = ix4 h 0 (x 2) (x 3) := (eq_ix4 y).trans (by
    rw [show y 0 = h from Fin.ext y0, show y 1 = (0 : Fin 1) from Subsingleton.elim (α := Fin 1) _ _, show y 2 = x 2 from Fin.ext y2, show y 3 = x 3 from Fin.ext y3]; rfl)
  exact congrArg (fun a : EReal => a + (stat (fun k => dl e W B G W' h k (x 3)) (fun k => e h k (x 3)) (fun r : Fin 512 => 8 + r.val) (x 2).val : EReal)) (ld_half P h _ (x 2) (x 3))

/-- The same at the entry where the piece lies. -/
theorem st_in (P : Vec Ideal S2x1x8x704 .f32) (h : Fin 2) (x : S1x1x8x704.Idx) :
    (side P h (ix4 0 0 (x 2) (x 3)) : EReal) + (stat (fun k => dl e W B G W' h k (x 3)) (fun k => e h k (x 3)) (fun r : Fin 512 => 8 + r.val) (x 2).val : EReal)
      = (P ((Rect.unit (s := S2x1x8x704) ![h.val, 0, 0, 0] S1x1x8x704.size (half_in (n := 8) h)).emb x) : EReal)
        + (stat (fun k => dl e W B G W' ((Rect.unit (s := S2x1x8x704) ![h.val, 0, 0, 0] S1x1x8x704.size (half_in (n := 8) h)).emb x 0) k ((Rect.unit (s := S2x1x8x704) ![h.val, 0, 0, 0] S1x1x8x704.size (half_in (n := 8) h)).emb x 3))
            (fun k => e ((Rect.unit (s := S2x1x8x704) ![h.val, 0, 0, 0] S1x1x8x704.size (half_in (n := 8) h)).emb x 0) k ((Rect.unit (s := S2x1x8x704) ![h.val, 0, 0, 0] S1x1x8x704.size (half_in (n := 8) h)).emb x 3))
            (fun r : Fin 512 => 8 + r.val) ((Rect.unit (s := S2x1x8x704) ![h.val, 0, 0, 0] S1x1x8x704.size (half_in (n := 8) h)).emb x 2).val : EReal) :=
  st_at P h x _ ((ValueKit.rect_emb_unit_val _ _ _ _ _).trans (show h.val + (x 0).val = h.val by have : (x 0).val < 1 := (x 0).isLt; omega))
    ((ValueKit.rect_emb_unit_val _ _ _ _ _).trans (Nat.zero_add _)) ((ValueKit.rect_emb_unit_val _ _ _ _ _).trans (Nat.zero_add _))

theorem row_piece (x : S1x1x8x704.Idx) : x = ix4 0 0 (x 2) (x 3) := (eq_ix4 x).trans (by
  rw [show x 0 = (0 : Fin 1) from Subsingleton.elim (α := Fin 1) _ _, show x 1 = (0 : Fin 1) from Subsingleton.elim (α := Fin 1) _ _]; rfl)

include hr in
theorem st_value (P : Vec Ideal S1x1x8x704 .f32) (x : S1x1x8x704.Idx) :
    k0_pay1 (k0_pay35 (k0_pay14 (k0_pay11 (main x0 1)) (k0_pay12 (BitVec.ofNat 32 (i 1).val) (side x1 1)) (k0_pay13 (BitVec.ofNat 32 (i 1).val) (side x2 1)))
        (k0_pay16 (k0_pay11 (main x0 1)) (k0_pay12 (BitVec.ofNat 32 (i 1).val) (side x1 1)) (k0_pay13 (BitVec.ofNat 32 (i 1).val) (side x2 1)))
        (iota .tc S8x704 32 [0] iota_S8x704_d0_w32) (k0_pay32 (D1 i x0 x1 x2 x3 x4 x5 x6 x7 x8))
        (k0_pay34 (k0_pay15 (k0_pay11 (main x0 1)) (k0_pay12 (BitVec.ofNat 32 (i 1).val) (side x1 1)) (k0_pay13 (BitVec.ofNat 32 (i 1).val) (side x2 1)))
          (D1 i x0 x1 x2 x3 x4 x5 x6 x7 x8)) P) x
      = (P (ix4 0 0 (x 2) (x 3)) : EReal) + (stat (fun k => dl e W B G W' 1 k (x 3)) (fun k => e 1 k (x 3)) (fun r : Fin 512 => 8 + r.val) (x 2).val : EReal) :=
  (congrArg _ (row_piece x)).trans (value_stat (d := dl e W B G W' 1) (e := e 1) (d1_rows hr) (e1_rows hr) P (x 2) (x 3))

include hr in
theorem st_gate (P : Vec Ideal S1x1x8x704 .f32) (x : S1x1x8x704.Idx) :
    k0_pay31 (iota .tc S8x704 32 [0] iota_S8x704_d0_w32)
        (k0_pay23 (k0_pay8 (k0_pay4 (main x0 0)) (k0_pay5 (side x2 0)) (k0_pay6 i (side x1 0)) (Scalar.cmpi .eq (BitVec.ofNat 32 (i 1).val) 7#32) (Scalar.ofBits (F := Ideal) .f32 0x00000000#32))
          (extractStridedSlice S512x704 ![8, 0] (D0 i x0 x1 x2 x3 x4 x5 x6 x7 x8) slices_S528x704_o8_0_S512x704))
        (k0_pay24 (k0_pay7 (k0_pay4 (main x0 0)) (k0_pay5 (side x2 0)) (k0_pay6 i (side x1 0)) (Scalar.cmpi .eq (BitVec.ofNat 32 (i 1).val) 7#32) (Scalar.ofBits (F := Ideal) .f32 0x00000000#32))
          (extractStridedSlice S512x704 ![8, 0] (D0 i x0 x1 x2 x3 x4 x5 x6 x7 x8) slices_S528x704_o8_0_S512x704))
        (k0_pay25 (k0_pay9 (k0_pay4 (main x0 0)) (k0_pay5 (side x2 0)) (k0_pay6 i (side x1 0)) (Scalar.cmpi .eq (BitVec.ofNat 32 (i 1).val) 7#32) (Scalar.ofBits (F := Ideal) .f32 0x00000000#32))
          (extractStridedSlice S512x704 ![8, 0] (D0 i x0 x1 x2 x3 x4 x5 x6 x7 x8) slices_S528x704_o8_0_S512x704))
        (k0_pay26 (extractStridedSlice S512x704 ![8, 0] (D0 i x0 x1 x2 x3 x4 x5 x6 x7 x8) slices_S528x704_o8_0_S512x704)) (k0_pay27 P)
        (k0_pay28 (iota .tc S8x704 32 [0] iota_S8x704_d0_w32)) (k0_pay29 (iota .tc S8x704 32 [0] iota_S8x704_d0_w32)) (k0_pay30 (iota .tc S8x704 32 [0] iota_S8x704_d0_w32)) 3#32 x
      = (P (ix4 0 0 (x 2) (x 3)) : EReal) + (stat (fun k => dl e W B G W' 0 k (x 3)) (fun k => e 0 k (x 3)) (fun r : Fin 512 => 8 + r.val) (x 2).val : EReal) :=
  (congrArg _ (row_piece x)).trans (gate_stat (d := dl e W B G W' 0) (e := e 0) (d0_rows hr) (e0_rows hr) P (x 2) (x 3))

end Block

variable (m : (ℓ : Loc nD τ sig) → Buf (Elt Ideal) ℓ)

/-- The blocks of a grid point at real entries. -/
abbrev Real (c : Dev nD) (t : Fin cfg0.N) (n : Fin 8) (e : Fin 2 → ℕ → Fin 704 → ℝ) (W : Fin 2 → Fin 3 → Fin 704 → ℝ) (B : Fin 2 → Fin 704 → ℝ) (G : ℕ → Fin 1024 → ℝ)
    (W' : Fin 704 → Fin 1024 → ℝ) : Prop :=
  Blk (grid0.coords t) n (iblk m c 0 t) (iblk m c 1 t) (iblk m c 2 t) (iblk m c 3 t) (iblk m c 4 t) (iblk m c 5 t) (iblk m c 6 t) (iblk m c 7 t) (iblk m c 8 t) e W B G W'

variable {m} {c : Dev nD} {t : Fin cfg0.N} {n : Fin 8} {e : Fin 2 → ℕ → Fin 704 → ℝ} {W : Fin 2 → Fin 3 → Fin 704 → ℝ} {B : Fin 2 → Fin 704 → ℝ} {G : ℕ → Fin 1024 → ℝ}
  {W' : Fin 704 → Fin 1024 → ℝ}

theorem du_point (hr : Real m c t n e W B G W') (y : S2x1x512x704.Idx) :
    (outsAt0 m c t.val t.isLt).1 y = (back (fun q => W (y 0) q (y 3)) (fun k => dl e W B G W' (y 0) k (y 3)) (8 + (y 2).val) : EReal) := by
  by_cases hh : t.val % 8 = 0
  · rw [outsAt0_A m c t hh]; frame_open
    simp (disch := decide) only [↓ View.readCov_skip, ↓ View.readCov_cons_toLoadRect, ↓ View.readCov_fill]
    frame_out
    clear hh
    canon_tiles x a
    · exact du_value hr x (by omega) a2 a3
    · exact du_gate hr x (by omega) a2 a3
  · rw [outsAt0_B m c t hh]; frame_open
    simp (disch := decide) only [↓ View.readCov_skip, ↓ View.readCov_cons_toLoadRect, ↓ View.readCov_fill]
    frame_out
    clear hh
    canon_tiles x a
    · exact du_value hr x (by omega) a2 a3
    · exact du_gate hr x (by omega) a2 a3

theorem st_step (hr : Real m c t n e W B G W') (hh : ¬ t.val % 8 = 0) (y : S2x1x8x704.Idx) : (outsAt0 m c t.val t.isLt).2 y
    = ((outsAt0 m c (t.val - 1) (Nat.lt_of_le_of_lt (Nat.sub_le _ _) t.isLt)).2 y : EReal)
      + (stat (fun k => dl e W B G W' (y 0) k (y 3)) (fun k => e (y 0) k (y 3)) (fun r : Fin 512 => 8 + r.val) (y 2).val : EReal) := by
  rw [outsAt0_B m c t hh]; frame_open
  simp (disch := decide) only [↓ View.readCov_skip, ↓ View.readCov_cons_toLoadRect, ↓ View.readCov_fill]
  frame_out
  clear hh
  generalize (outsAt0 m c (t.val - 1) _).2 = P
  canon_tiles x a
  · exact (st_value hr _ x).trans (st_at P 1 x y (by show (y 0).val = 1; omega) a2 a3)
  · exact (st_gate hr _ x).trans (st_at P 0 x y (by show (y 0).val = 0; omega) a2 a3)

theorem start_zero (y : S2x1x8x704.Idx) : (k0_pay2 (F := Ideal) y : EReal) = 0 := Ideal.ofBits_zero_f32

theorem st_reset (hr : Real m c t n e W B G W') (hh : t.val % 8 = 0) (y : S2x1x8x704.Idx) : (outsAt0 m c t.val t.isLt).2 y
    = (0 : EReal) + (stat (fun k => dl e W B G W' (y 0) k (y 3)) (fun k => e (y 0) k (y 3)) (fun r : Fin 512 => 8 + r.val) (y 2).val : EReal) := by
  rw [outsAt0_A m c t hh]; frame_open
  simp (disch := decide) only [↓ View.readCov_skip, ↓ View.readCov_cons_toLoadRect, ↓ View.readCov_fill]
  frame_out
  clear hh
  rw [← start_zero y]
  refine View.canon_append_of_piecesOf (Val := Elt Ideal) (e := .f32) (fun y : S2x1x8x704.Idx => ((k0_pay2 (F := Ideal) y : EReal)
    + (stat (fun k => dl e W B G W' (y 0) k (y 3)) (fun k => e (y 0) k (y 3)) (fun r : Fin 512 => 8 + r.val) (y 2).val : EReal) : EReal)) [_] [_, _] ⟨?_, ?_, trivial⟩ y
    (View.cover_of_tiledL (s := S2x1x8x704) _ S1x1x8x704.size (by sl_kernel_rfl) y)
  · exact fun x => (st_value hr _ x).trans (st_in _ 1 x)
  · exact fun x => (st_gate hr _ x).trans (st_in _ 0 x)

end Cert.FfnIdeal.Hand
-- ==== Proof.FfnBlocks.lean ====
module

public import proofs.«01_k».proof.Proof.FfnValue
public import proofs.«01_k».proof.Proof.SoftmaxReal

/-
  The gated convolution layer's gradient from the arrays: what the blocks hold, and the two results as functions of real arguments.
-/

@[expose] public section

set_option maxRecDepth 16384
set_option maxHeartbeats 2000000

noncomputable section

namespace Cert.FfnIdeal.Hand

open Cert.FfnIdeal Cert.FfnIdeal.Gen Cert.FfnIdeal.Value Idealize.ShloMosaic Idealize.ShloMosaic.TcCoe Idealize.SL.Sem
open FfnReal (pad pad_in pad_out conv dgate dval back stat)
open scoped BigOperators

/-- Column l of block j in half h, and the row of the weight. -/
def col (h : Fin 2) (j : Fin 4) (l : Fin 704) : Fin 5632 := ⟨h.val * 2816 + j.val * 704 + l.val, by omega⟩
def low (j : Fin 4) (l : Fin 704) : Fin 2816 := ⟨j.val * 704 + l.val, by omega⟩

variable {m : (ℓ : Loc nD τ sig) → Buf (Elt Ideal) ℓ} {c : Dev nD} {u : Fin 4096 → Fin 5632 → ℝ} {w : Fin 3 → Fin 5632 → ℝ} {b : Fin 5632 → ℝ} {wd : Fin 2816 → Fin 1024 → ℝ}
  {ct : Fin 4096 → Fin 1024 → ℝ}

/-- The arguments' entries are the given reals. -/
structure Args (m : (ℓ : Loc nD τ sig) → Buf (Elt Ideal) ℓ) (c : Dev nD) (u : Fin 4096 → Fin 5632 → ℝ) (w : Fin 3 → Fin 5632 → ℝ) (b : Fin 5632 → ℝ) (wd : Fin 2816 → Fin 1024 → ℝ)
    (ct : Fin 4096 → Fin 1024 → ℝ) : Prop where
  u : ∀ i l, m ((c : Thread nD τ).loc main_arg0) (ix2 i l) = (u i l : EReal)
  w : ∀ q l, m ((c : Thread nD τ).loc main_arg1) (ix2 q l) = (w q l : EReal)
  b : ∀ l, m ((c : Thread nD τ).loc main_arg2) (ix1 l) = (b l : EReal)
  wd : ∀ i l, m ((c : Thread nD τ).loc main_arg3) (ix2 i l) = (wd i l : EReal)
  ct : ∀ i l, m ((c : Thread nD τ).loc main_arg4) (ix2 i l) = (ct i l : EReal)

theorem idx : ∀ t : Fin cfg0.N, win0_0.index t = ![0, t.val / 8, t.val % 8, 0] ∧ win0_1.index t = ![0, t.val / 8, t.val % 8 * 64 - 1, 0]
    ∧ win0_2.index t = ![0, t.val / 8, min ((t.val % 8 + 1) * 64) 511, 0] ∧ win0_3.index t = ![t.val % 8, 0] ∧ win0_4.index t = ![t.val % 8 * 64 - 1, 0]
    ∧ win0_5.index t = ![min ((t.val % 8 + 1) * 64) 511, 0] ∧ win0_6.index t = ![t.val / 8, 0] ∧ win0_7.index t = ![0, t.val / 8, 0, 0]
    ∧ win0_8.index t = ![0, t.val / 8, 0, 0] ∧ win0_9.index t = ![0, t.val / 8, t.val % 8, 0] ∧ win0_10.index t = ![0, t.val / 8, 0, 0] := by decide +kernel

theorem coord : ∀ t : Fin cfg0.N, (grid0.coords t 1).val = t.val % 8 := by decide +kernel

/-- Rows and columns of a block of the arrays, from row 512 i on, shifted by eight. -/
abbrev rows (u : Fin 4096 → Fin 5632 → ℝ) (j : Fin 4) (s : ℕ) (h : Fin 2) (k : ℕ) (l : Fin 704) : ℝ := pad (fun i => u i (col h j l)) (s + k)
abbrev down (ct : Fin 4096 → Fin 1024 → ℝ) (s : ℕ) (k : ℕ) (d : Fin 1024) : ℝ := pad (fun i => ct i d) (s + k)

/-- An entry of a sequence at a shifted place. -/
theorem at_pad {a : EReal} {n : ℕ} {f : Fin n → ℝ} {k : ℕ} (i : Fin n) (h : a = (f i : EReal)) (hk : k = i.val + 8) : a = (pad f k : EReal) := by
  subst hk
  rw [pad_in, h]

theorem none_pad {a : EReal} {n : ℕ} {f : Fin n → ℝ} {k : ℕ} (h : a = 0) (hk : ¬(8 ≤ k ∧ k - 8 < n)) : a = (pad f k : EReal) := by
  rw [pad_out f hk, h, EReal.coe_zero]

/-- A point's blocks. -/
abbrev jOf (t : Fin cfg0.N) : Fin 4 := ⟨t.val / 8, by have : t.val < 32 := lt_of_lt_of_eq t.isLt N_0; omega⟩
abbrev nOf (t : Fin cfg0.N) : Fin 8 := ⟨t.val % 8, Nat.mod_lt _ (by omega)⟩

theorem real_block (h : Args m c u w b wd ct) (t : Fin cfg0.N) :
    Real m c t (nOf t) (rows u (jOf t) (t.val % 8 * 512)) (fun h q l => w q (col h (jOf t) l)) (fun h l => b (col h (jOf t) l)) (down ct (t.val % 8 * 512)) (fun l d => wd (low (jOf t) l) d) := by
  have bt : t.val < 32 := lt_of_lt_of_eq t.isLt N_0
  refine ⟨?_, fun g r l => ?_, fun g r l => ?_, fun g r l => ?_, fun r d => ?_, fun r d => ?_, fun r d => ?_, fun l d => ?_, fun g q l => ?_, fun g l => ?_⟩
  · exact coord t
  · refine at_pad (⟨t.val % 8 * 512 + r.val, by omega⟩ : Fin 4096) ?_ (by show _ = t.val % 8 * 512 + r.val + 8; omega)
    rw [← h.u]
    unfold col
    blk_point [iblk, V, idx t]
  · by_cases h0 : t.val % 8 = 0
    · exact none_pad (if_pos h0) (by omega)
    · refine at_pad (⟨t.val % 8 * 512 + r.val - 8, by omega⟩ : Fin 4096) ((if_neg h0).trans ?_) (by show _ = t.val % 8 * 512 + r.val - 8 + 8; omega)
      rw [← h.u]
      unfold col
      blk_point [iblk, V, idx t]
  · by_cases h0 : t.val % 8 = 7
    · exact none_pad (if_pos h0) (by omega)
    · refine at_pad (⟨t.val % 8 * 512 + 512 + r.val, by omega⟩ : Fin 4096) ((if_neg h0).trans ?_) (by show _ = t.val % 8 * 512 + 512 + r.val + 8; omega)
      rw [← h.u]
      unfold col
      blk_point [iblk, V, idx t]
  · refine at_pad (⟨t.val % 8 * 512 + r.val, by omega⟩ : Fin 4096) ?_ (by show _ = t.val % 8 * 512 + r.val + 8; omega)
    rw [← h.ct]
    blk_point [iblk, V, idx t]
  · by_cases h0 : t.val % 8 = 0
    · exact none_pad (if_pos h0) (by omega)
    · refine at_pad (⟨t.val % 8 * 512 + r.val - 8, by omega⟩ : Fin 4096) ((if_neg h0).trans ?_) (by show _ = t.val % 8 * 512 + r.val - 8 + 8; omega)
      rw [← h.ct]
      blk_point [iblk, V, idx t]
  · by_cases h0 : t.val % 8 = 7
    · exact none_pad (if_pos h0) (by omega)
    · refine at_pad (⟨t.val % 8 * 512 + 512 + r.val, by omega⟩ : Fin 4096) ((if_neg h0).trans ?_) (by show _ = t.val % 8 * 512 + 512 + r.val + 8; omega)
      rw [← h.ct]
      blk_point [iblk, V, idx t]
  · rw [← h.wd]
    unfold low
    blk_point [iblk, V, idx t]
  · rw [← h.w]
    unfold col
    blk_point [iblk, V, idx t]
  · rw [← h.b]
    unfold col
    blk_point [iblk, V, idx t]

/-- The gradient of the convolution's result over all rows, and the two results. -/
abbrev all (u : Fin 4096 → Fin 5632 → ℝ) (w : Fin 3 → Fin 5632 → ℝ) (b : Fin 5632 → ℝ) (wd : Fin 2816 → Fin 1024 → ℝ) (ct : Fin 4096 → Fin 1024 → ℝ) (j : Fin 4) (s : ℕ) :
    Fin 2 → ℕ → Fin 704 → ℝ := dl (rows u j s) (fun h q l => w q (col h j l)) (fun h l => b (col h j l)) (down ct s) (fun l d => wd (low j l) d)

def DU (u : Fin 4096 → Fin 5632 → ℝ) (w : Fin 3 → Fin 5632 → ℝ) (b : Fin 5632 → ℝ) (wd : Fin 2816 → Fin 1024 → ℝ) (ct : Fin 4096 → Fin 1024 → ℝ) : FVec Ideal S2x4x4096x704 .bf16 :=
  fun y => (back (fun q => w q (col (y 0) (y 1) (y 3))) (fun k => all u w b wd ct (y 1) 0 (y 0) k (y 3)) ((y 2).val + 8) : EReal)

def ST (u : Fin 4096 → Fin 5632 → ℝ) (w : Fin 3 → Fin 5632 → ℝ) (b : Fin 5632 → ℝ) (wd : Fin 2816 → Fin 1024 → ℝ) (ct : Fin 4096 → Fin 1024 → ℝ) : FVec Ideal S2x4x8x704 .f32 :=
  fun y => (stat (fun k => all u w b wd ct (y 1) 0 (y 0) k (y 3)) (fun k => rows u (y 1) 0 (y 0) k (y 3)) (fun r : Fin 4096 => r.val + 8) (y 2).val : EReal)

/-- A block's rows are the array's rows. -/
theorem conv_shift (j : Fin 4) (s : ℕ) (g : Fin 2) (k : ℕ) (l : Fin 704) (x : Fin 3 → ℝ) (y : ℝ) (hk : 1 ≤ k) :
    conv x y (fun k => rows u j s g k l) k = conv x y (fun k => rows u j 0 g k l) (s + k) := by
  unfold conv rows
  beta_reduce
  rw [show 0 + (s + k - 1) = s + (k - 1) by omega, show 0 + (s + k) = s + k by omega, show 0 + (s + k + 1) = s + (k + 1) by omega]

theorem all_shift (j : Fin 4) (s : ℕ) (g : Fin 2) (k : ℕ) (l : Fin 704) (hk : 1 ≤ k) : all u w b wd ct j s g k l = all u w b wd ct j 0 g (s + k) l := by
  unfold all dl
  rw [conv_shift j s 0 k l _ _ hk, conv_shift j s 1 k l _ _ hk]
  unfold down
  rw [Nat.zero_add]

theorem back_shift (j : Fin 4) (s : ℕ) (g : Fin 2) (r : ℕ) (l : Fin 704) (x : Fin 3 → ℝ) :
    back x (fun k => all u w b wd ct j s g k l) (8 + r) = back x (fun k => all u w b wd ct j 0 g k l) (s + r + 8) := by
  unfold back
  beta_reduce
  rw [all_shift j s g _ l (by omega), all_shift j s g _ l (by omega), all_shift j s g _ l (by omega), show s + (8 + r + 1) = s + r + 8 + 1 by omega,
    show s + (8 + r) = s + r + 8 by omega, show s + (8 + r - 1) = s + r + 8 - 1 by omega]

theorem stat_sum (j : Fin 4) (g : Fin 2) (l : Fin 704) (q : ℕ) :
    ∑ t : Fin 8, stat (fun k => all u w b wd ct j (t.val * 512) g k l) (fun k => rows u j (t.val * 512) g k l) (fun r : Fin 512 => 8 + r.val) q
      = stat (fun k => all u w b wd ct j 0 g k l) (fun k => rows u j 0 g k l) (fun r : Fin 4096 => r.val + 8) q := by
  have ha : ∀ (t : Fin 8) (r : Fin 512), all u w b wd ct j (t.val * 512) g (8 + r.val) l = all u w b wd ct j 0 g (t.val * 512 + r.val + 8) l := fun t r =>
    (all_shift j _ g _ l (by omega)).trans (by rw [show t.val * 512 + (8 + r.val) = t.val * 512 + r.val + 8 by omega])
  unfold stat
  split_ifs
  · exact Fin.sum_mul_add_congr (S := 8) (n := 512) fun t r hl => congrArg₂ (fun x y : ℝ => x * y) (ha t r)
      (congrArg (pad _) (show t.val * 512 + (8 + r.val - 1) = 0 + (t.val * 512 + r.val + 8 - 1) by omega))
  · exact Fin.sum_mul_add_congr (S := 8) (n := 512) fun t r hl => congrArg₂ (fun x y : ℝ => x * y) (ha t r)
      (congrArg (pad _) (show t.val * 512 + (8 + r.val) = 0 + (t.val * 512 + r.val + 8) by omega))
  · exact Fin.sum_mul_add_congr (S := 8) (n := 512) fun t r hl => congrArg₂ (fun x y : ℝ => x * y) (ha t r)
      (congrArg (pad _) (show t.val * 512 + (8 + r.val + 1) = 0 + (t.val * 512 + r.val + 8 + 1) by omega))
  · exact Fin.sum_mul_add_congr (S := 8) (n := 512) fun t r hl => ha t r
  · exact Finset.sum_const_zero

theorem du_array (h : Args m c u w b wd ct) : (dats m 0 c).arrAt 9 cfg0.N = DU u w b wd ct := by
  refine (dats m 0 c).arrAt_eq_of_covers 9 _ (by decide +kernel) fun t hf (y : S2x1x512x704.Idx) => ?_
  blk_simp
  rw [after0_9, du_point (real_block h t)]
  have bt : t.val < 32 := lt_of_lt_of_eq t.isLt N_0
  have b1 : (y 1).val < 1 := (y 1).isLt
  have b2 : (y 2).val < 512 := (y 2).isLt
  have e0 : ((win0_9.blk t).view.emb y 0).val = (y 0).val := by blk_simp [idx t] <;> omega
  have e1 : ((win0_9.blk t).view.emb y 1).val = t.val / 8 := by blk_simp [idx t] <;> omega
  have e2 : ((win0_9.blk t).view.emb y 2).val = t.val % 8 * 512 + (y 2).val := by blk_simp [idx t] <;> omega
  have e3 : ((win0_9.blk t).view.emb y 3).val = (y 3).val := by blk_simp [idx t] <;> omega
  have f0 : (win0_9.blk t).view.emb y 0 = (⟨(y 0).val, (y 0).isLt⟩ : Fin 2) := Fin.ext e0
  have f1 : (win0_9.blk t).view.emb y 1 = jOf t := Fin.ext e1
  have f3 : (win0_9.blk t).view.emb y 3 = (⟨(y 3).val, (y 3).isLt⟩ : Fin 704) := Fin.ext e3
  unfold DU
  rw [f0, f1, f3, e2]
  exact congrArg (fun r : ℝ => (r : EReal)) (back_shift _ _ _ _ _ _)

theorem st_array (h : Args m c u w b wd ct) : (dats m 0 c).arrAt 10 cfg0.N = ST u w b wd ct := by
  refine (dats m 0 c).arrAt_eq_of_covers 10 _ (by decide +kernel) fun t hf (y : S2x1x8x704.Idx) => ?_
  blk_simp
  rw [after0_10, Pipeline.eq_sum_fin_of_reset_step_apply_of_flush (fun n h => (outsAt0 m c n h).2) 8 (fun _ => 0) _
    (fun t ht j => st_reset (real_block h t) ht j) (fun t ht j => st_step (real_block h t) ht j) t ((flush0_10 t).mp hf) _, zero_add]
  have bt : t.val < 32 := lt_of_lt_of_eq t.isLt N_0
  have b1 : (y 1).val < 1 := (y 1).isLt
  have e0 : ((win0_10.blk t).view.emb y 0).val = (y 0).val := by blk_simp [idx t] <;> omega
  have e1 : ((win0_10.blk t).view.emb y 1).val = t.val / 8 := by blk_simp [idx t] <;> omega
  have e2 : ((win0_10.blk t).view.emb y 2).val = (y 2).val := by blk_simp [idx t] <;> omega
  have e3 : ((win0_10.blk t).view.emb y 3).val = (y 3).val := by blk_simp [idx t] <;> omega
  have f0 : (win0_10.blk t).view.emb y 0 = (⟨(y 0).val, (y 0).isLt⟩ : Fin 2) := Fin.ext e0
  have f1 : (win0_10.blk t).view.emb y 1 = jOf t := Fin.ext e1
  have f3 : (win0_10.blk t).view.emb y 3 = (⟨(y 3).val, (y 3).isLt⟩ : Fin 704) := Fin.ext e3
  unfold ST
  rw [f0, f1, f3, e2, ← stat_sum, SoftmaxReal.coe_sum]
  refine Fin.sum_fin_congr fun s => ?_
  exact congrArg₂ (fun (j : Fin 4) (n : ℕ) => ((stat (fun k => all u w b wd ct j (n * 512) (y 0) k (y 3)) (fun k => rows u j (n * 512) (y 0) k (y 3)) (fun r : Fin 512 => 8 + r.val) (y 2).val : ℝ) : EReal))
    (Fin.ext (show (8 * (t.val / 8) + s.val) / 8 = t.val / 8 by omega) : jOf ⟨8 * (t.val / 8) + s.val, lt_of_lt_of_eq (by omega : _ < 32) N_0.symm⟩ = jOf t)
    (show (8 * (t.val / 8) + s.val) % 8 = s.val by omega)

end Cert.FfnIdeal.Hand
-- ==== Proof.FfnRefReal.lean ====
module

public import proofs.«01_k».proof.Proof.Gen.FfnRefIdeal.Read
public import proofs.«01_k».proof.Proof.FfnBlocks

/-
  The reference's gradients of the gated convolution layer at real arguments.
-/

@[expose] public section

set_option maxRecDepth 16384
set_option maxHeartbeats 2000000

noncomputable section

namespace Cert.FfnRefIdeal.Hand

open Cert.FfnRefIdeal Cert.FfnRefIdeal.Gen Cert.FfnRefIdeal.Read Idealize.ShloMosaic Idealize.ShloMosaic.TcCoe Idealize.SL.Sem
open FfnReal (pad_in pad_out conv dgate dval back stat sg sg_pos)
open Cert.FfnIdeal.Hand (all rows col low dl at_pad none_pad)
open scoped BigOperators

variable {x0 : Vec Ideal S4096x5632 .f32} {x1 : Vec Ideal S3x5632 .f32} {x2 : Vec Ideal S5632 .f32} {x3 : Vec Ideal S2816x1024 .bf16} {x4 : Vec Ideal S4096x1024 .f32}
  {u : Fin 4096 → Fin 5632 → ℝ} {w : Fin 3 → Fin 5632 → ℝ} {b : Fin 5632 → ℝ} {wd : Fin 2816 → Fin 1024 → ℝ} {ct : Fin 4096 → Fin 1024 → ℝ}

theorem edge_real (hu : ∀ i L, x0 (ix2 i L) = u i L) (k : Fin 4098) (L : Fin 5632) : val_main_v2 x0 (ix2 k L) = (FfnReal.pad (fun i => u i L) (k.val + 7) : EReal) := by
  have bk := k.isLt
  by_cases h0 : 1 ≤ k.val ∧ k.val ≤ 4096
  · refine at_pad (⟨k.val - 1, by omega⟩ : Fin 4096) ?_ (by show k.val + 7 = k.val - 1 + 8; omega)
    rw [← hu]
    pointwise [val_main_v2, val_main_v1, val_main_cst]
    rw [dif_neg (by omega), dif_pos (by omega)]
  · refine none_pad ?_ (by omega)
    pointwise [val_main_v2, val_main_v1, val_main_cst]
    by_cases h1 : k.val < 1
    · rw [dif_pos h1]
    · rw [dif_neg h1, dif_neg (by omega)]

theorem conv_real (hu : ∀ i L, x0 (ix2 i L) = u i L) (hw : ∀ q L, x1 (ix2 q L) = w q L) (hb : ∀ L, x2 (ix1 L) = b L) (i : Fin 4096) (L : Fin 5632) :
    val_main_v27 x0 x1 x2 (ix2 i L) = (conv (fun q => w q L) (b L) (fun k => FfnReal.pad (fun i => u i L) k) (i.val + 8) : EReal) := by
  unfold conv
  beta_reduce
  simp only [EReal.coe_add, EReal.coe_mul]
  rw [← hw, ← hw, ← hw, ← hb, show i.val + 8 - 1 = i.val + 7 by omega, show i.val + 8 = (1 + i.val) + 7 by omega, show 1 + i.val + 7 + 1 = (2 + i.val) + 7 by omega]
  have e0 := edge_real hu ⟨i.val, by omega⟩ L
  have e1 := edge_real hu ⟨1 + i.val, by omega⟩ L
  have e2 := edge_real hu ⟨2 + i.val, by omega⟩ L
  rw [← e0, ← e1, ← e2]
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5]

theorem sigmoid_real (hu : ∀ i L, x0 (ix2 i L) = u i L) (hw : ∀ q L, x1 (ix2 q L) = w q L) (hb : ∀ L, x2 (ix1 L) = b L) (i : Fin 4096) (L : Fin 2816) :
    val_main_v30_2 x0 x1 x2 (ix2 i L) = (sg (conv (fun q => w q ⟨L.val, by omega⟩) (b ⟨L.val, by omega⟩) (fun k => FfnReal.pad (fun i => u i ⟨L.val, by omega⟩) k) (i.val + 8)) : EReal) := by
  pointwise [val_main_v30_2, val_main_call0_v4, val_main_call0_v3, val_main_call0_v2, val_main_call0_v1, val_main_call0_v0, val_main_v28, val_main_call0_cst, val_main_call0_cst_0]
  rw [conv_real hu hw hb]
  rw [← zero_sub]
  exact Cert.FfnIdeal.Hand.sg_real _

theorem down_real (hd : ∀ i d, x3 (ix2 i d) = wd i d) (hc : ∀ i d, x4 (ix2 i d) = ct i d) (i : Fin 4096) (L : Fin 2816) :
    val_main_v33 x3 x4 (ix2 i L) = ((∑ d, ct i d * wd L d : ℝ) : EReal) := by
  pointwise [val_main_v33, val_main_v0]
  simp only [hd, hc, ← EReal.coe_mul, ← SoftmaxReal.coe_sum]

/-- The gradient of the convolution's result: the gate's columns, then the value's. -/
theorem dconv_real (hu : ∀ i L, x0 (ix2 i L) = u i L) (hw : ∀ q L, x1 (ix2 q L) = w q L) (hb : ∀ L, x2 (ix1 L) = b L) (hd : ∀ i d, x3 (ix2 i d) = wd i d)
    (hc : ∀ i d, x4 (ix2 i d) = ct i d) (h : Fin 2) (j : Fin 4) (l : Fin 704) (i : Fin 4096) :
    val_main_v39 x0 x1 x2 x3 x4 (ix2 i (col h j l)) = (all u w b wd ct j 0 h (i.val + 8) l : EReal) := by
  have bj := j.isLt
  have bl := l.isLt
  pointwise [val_main_v39, val_main_v38, val_main_v37, val_main_cst_2, val_main_cst_3, val_main_v36, val_main_v35, val_main_v34, val_main_call1_v2, val_main_call1_v1, val_main_call1_v0, val_main_v30_1, val_main_v30_0, val_main_call0_v7, val_main_call0_v6, val_main_call0_cst_1, val_main_v28, val_main_v29]
  simp only [sigmoid_real hu hw hb, conv_real hu hw hb, down_real hd hc]
  rw [← EReal.coe_one]
  obtain rfl | rfl : h = 0 ∨ h = 1 := by omega
  · have v : (col 0 j l).val = j.val * 704 + l.val := by show 0 * 2816 + j.val * 704 + l.val = _; omega
    have k1 : ∀ p, (⟨(col 0 j l).val, p⟩ : Fin 2816) = low j l := fun p => Fin.ext v
    have k2 : ∀ p, (⟨2816 + (col 0 j l).val, p⟩ : Fin 5632) = col 1 j l := fun p => Fin.ext (by show 2816 + (col 0 j l).val = 1 * 2816 + j.val * 704 + l.val; omega)
    rw [dif_neg (by omega), dif_pos (by omega), zero_add]
    simp only [k1, k2, Fin.eta, ← EReal.coe_mul, ← EReal.coe_sub, ← EReal.coe_add]
    refine congrArg (fun r : ℝ => (r : EReal)) ?_
    unfold all dl rows Cert.FfnIdeal.Hand.down
    rw [if_pos rfl]
    simp only [zero_add, pad_in]
    unfold dgate
    ring
  · have v : (col 1 j l).val = 2816 + j.val * 704 + l.val := by show 1 * 2816 + j.val * 704 + l.val = _; omega
    have k1 : ∀ p, (⟨(col 1 j l).val - 2816, p⟩ : Fin 2816) = low j l := fun p => Fin.ext (by show (col 1 j l).val - 2816 = j.val * 704 + l.val; omega)
    have k2 : ∀ p, (⟨(col 1 j l).val - 2816, p⟩ : Fin 5632) = col 0 j l := fun p => Fin.ext (by show (col 1 j l).val - 2816 = 0 * 2816 + j.val * 704 + l.val; omega)
    rw [dif_pos (by omega), dif_neg (by omega), add_zero]
    simp only [k1, k2, ← EReal.coe_mul]
    refine congrArg (fun r : ℝ => (r : EReal)) ?_
    unfold all dl rows Cert.FfnIdeal.Hand.down
    rw [if_neg (by decide)]
    simp only [zero_add, pad_in]
    unfold dval
    ring

/-- Outside the rows the gradient is zero. -/
theorem all_out {h : Fin 2} {j : Fin 4} {l : Fin 704} {k : ℕ} (hk : ¬(8 ≤ k ∧ k - 8 < 4096)) : all u w b wd ct j 0 h k l = 0 := by
  unfold all dl rows Cert.FfnIdeal.Hand.down dgate dval
  simp only [zero_add, pad_out _ hk, zero_mul, Finset.sum_const_zero, ite_self]

/-- A term that is left out where the row lies outside. -/
theorem term_real {c : Prop} [Decidable c] {r ω : ℝ} {x : c → EReal} (h1 : ∀ hc, x hc = (r : EReal) * (ω : EReal)) (h0 : ¬c → r = 0) :
    (dite c x fun _ => 0) = ((r * ω : ℝ) : EReal) := by
  by_cases hc : c
  · rw [dif_pos hc, h1 hc, EReal.coe_mul]
  · rw [dif_neg hc, h0 hc, zero_mul, EReal.coe_zero]

theorem du_real (hu : ∀ i L, x0 (ix2 i L) = u i L) (hw : ∀ q L, x1 (ix2 q L) = w q L) (hb : ∀ L, x2 (ix1 L) = b L) (hd : ∀ i d, x3 (ix2 i d) = wd i d)
    (hc : ∀ i d, x4 (ix2 i d) = ct i d) (h : Fin 2) (j : Fin 4) (i : Fin 4096) (l : Fin 704) :
    val_main_v82 x0 x1 x2 x3 x4 (ix4 h j i l) = (back (fun q => w q (col h j l)) (fun k => all u w b wd ct j 0 h k l) (i.val + 8) : EReal) := by
  pointwise [val_main_v82, val_main_v81, val_main_v80, val_main_v75, val_main_v73, val_main_v72, val_main_v67, val_main_v66, val_main_v62, val_main_v61, val_main_v56, val_main_v55, val_main_v51, val_main_v47, val_main_v46, val_main_cst_9, val_main_cst_13, val_main_cst_17, val_main_v21, val_main_v20, val_main_v19, val_main_v14, val_main_v13, val_main_v12, val_main_v8, val_main_v7, val_main_v6]
  have bi := i.isLt
  have bj := j.isLt
  have bl := l.isLt
  have bh := h.isLt
  have k : ∀ p, (⟨h.val * 2816 + j.val * 704 + l.val, p⟩ : Fin 5632) = col h j l := fun p => rfl
  simp only [k, dconv_real hu hw hb hd hc, hw]
  refine (congrArg₂ (fun a b : EReal => a + b) (congrArg₂ (fun a b : EReal => a + b)
    (term_real (r := all u w b wd ct j 0 h (i.val + 8 - 1) l) (ω := w 2 (col h j l)) (fun hc => by rw [show 1 + i.val - 2 + 8 = i.val + 8 - 1 by omega]) (fun hc => all_out (by omega)))
    (term_real (r := all u w b wd ct j 0 h (i.val + 8) l) (ω := w 1 (col h j l)) (fun hc => rfl) (fun hc => all_out (by omega))))
    (term_real (r := all u w b wd ct j 0 h (i.val + 8 + 1) l) (ω := w 0 (col h j l)) (fun hc => by rw [show 1 + i.val + 8 = i.val + 8 + 1 by omega]) (fun hc => all_out (by omega)))).trans ?_
  beta_reduce
  rw [← EReal.coe_add, ← EReal.coe_add]
  refine congrArg (fun r : ℝ => (r : EReal)) ?_
  unfold back
  ring

theorem st_real (hu : ∀ i L, x0 (ix2 i L) = u i L) (hw : ∀ q L, x1 (ix2 q L) = w q L) (hb : ∀ L, x2 (ix1 L) = b L) (hd : ∀ i d, x3 (ix2 i d) = wd i d)
    (hc : ∀ i d, x4 (ix2 i d) = ct i d) (h : Fin 2) (j : Fin 4) (q : Fin 8) (l : Fin 704) :
    val_main_v84 x0 x1 x2 x3 x4 (ix4 h j q l) = (stat (fun k => all u w b wd ct j 0 h k l) (fun k => rows u j 0 h k l) (fun r : Fin 4096 => r.val + 8) q.val : EReal) := by
  pointwise [val_main_v84, val_main_v83, val_main_v79, val_main_v78, val_main_cst_18, val_main_v77, val_main_v42, val_main_cst_5, val_main_v41, val_main_v40, val_main_cst_4, val_main_v71, val_main_v70, val_main_cst_16, val_main_v69, val_main_v68, val_main_cst_15, val_main_v65, val_main_v64, val_main_cst_14, val_main_v63, val_main_v60, val_main_v59, val_main_cst_12, val_main_v58, val_main_v57, val_main_cst_11, val_main_v54, val_main_v53, val_main_cst_10, val_main_v52, val_main_v50, val_main_cst_8, val_main_v49, val_main_v48, val_main_cst_7, val_main_v45, val_main_v44, val_main_cst_6, val_main_v43, val_main_v18, val_main_v11, val_main_v5]
  have bj := j.isLt
  have bl := l.isLt
  have bh := h.isLt
  have k : ∀ p, (⟨h.val * 2816 + j.val * 704 + l.val, p⟩ : Fin 5632) = col h j l := fun p => rfl
  simp only [k, edge_real hu, dconv_real hu hw hb hd hc, ← EReal.coe_mul, ← SoftmaxReal.coe_sum, Finset.univ_unique, Finset.sum_singleton]
  unfold stat rows
  simp only [zero_add]
  split_ifs <;> first | omega | skip
  · rw [add_zero, add_zero]
    exact congrArg (fun r : ℝ => (r : EReal)) (Finset.sum_congr rfl fun r _ => (mul_comm _ _).trans (by rw [show 2 + r.val + 7 = r.val + 8 + 1 by omega]))
  · rw [zero_add, add_zero]
    exact congrArg (fun r : ℝ => (r : EReal)) (Finset.sum_congr rfl fun r _ => (mul_comm _ _).trans (by rw [show 1 + r.val + 7 = r.val + 8 by omega]))
  · rw [zero_add, zero_add]
    exact congrArg (fun r : ℝ => (r : EReal)) (Finset.sum_congr rfl fun r _ => (mul_comm _ _).trans (by rw [show r.val + 7 = r.val + 8 - 1 by omega]))
  · rfl
  · exact EReal.coe_zero.symm

end Cert.FfnRefIdeal.Hand
-- ==== Proof.FfnClaim.lean ====
/-
  The claims about the gated convolution layer's gradients, at finite arguments.
-/
module

public import proofs.«01_k».proof.Defs
public import proofs.«01_k».proof.Proof.Gen.Ffn.Frame
public import proofs.«01_k».proof.Proof.Gen.FfnRefIdeal.Run
public import proofs.«01_k».proof.Proof.FfnValue
public import proofs.«01_k».proof.Proof.FfnRefReal
public import proofs.«01_k».proof.Proof.FiniteReal
public import Idealize.ShloMosaic.Lib.Quiescent

@[expose] public section

set_option maxRecDepth 16384
set_option maxHeartbeats 1000000

noncomputable section

namespace Cert.Proof.Ffn

open Idealize.ShloMosaic Idealize.ShloMosaic.TcCoe Idealize.SL.Sem

theorem pre_facts : Cert.Pre_ffn_finite.Facts where
  bcast_S_S4096x5632 := by decide
  bcast_S_S3x5632 := by decide
  bcast_S_S5632 := by decide
  bitsLt_bf16_f32 := by decide
  bcast_S_S2816x1024 := by decide
  bcast_S_S4096x1024 := by decide

theorem frame : Cert.quiescent_Ffn := fun m ρ _ => Cert.Ffn.Gen.frame m ρ
theorem frameIdeal : Cert.quiescent_FfnIdeal := fun m ρ _ => Cert.FfnIdeal.Gen.frame m ρ
theorem frameIdealPre : Cert.quiescent_FfnIdeal_pre_ffn_finite (hPre_ffn_finite := pre_facts) := fun m ρ _ => Cert.FfnIdeal.Gen.frame m ρ
theorem frameRef : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)
theorem frameRefPre : Cert.quiescent_FfnRefIdeal_pre_ffn_finite (hPre_ffn_finite := pre_facts) := fun m ρ _ => frameRef m ρ trivial
theorem preserves : Cert.preserves_Ffn_FfnIdeal := trivial

open Cert.FfnIdeal Cert.FfnIdeal.Hand in
/-- The precondition says that every entry of the five arguments is real. -/
theorem reals (m : (ℓ : Loc nD τ sig) → Buf (Elt Ideal) ℓ) (c : Dev nD) (h : Cert.Pre_FfnIdeal_ffn_finite (hPre_ffn_finite := pre_facts) m) :
    ∃ u w b wd ct, Args m c u w b wd ct := by
  obtain ⟨h0, h1, h2, h3, h4⟩ := h c
  have r0 : ∀ y, ∃ r : ℝ, m ((c : Thread nD τ).loc main_arg0) y = (r : EReal) := fun y => FiniteReal.real_of_cmp (congrFun h0 y)
  have r1 : ∀ y, ∃ r : ℝ, m ((c : Thread nD τ).loc main_arg1) y = (r : EReal) := fun y => FiniteReal.real_of_cmp (congrFun h1 y)
  have r2 : ∀ y, ∃ r : ℝ, m ((c : Thread nD τ).loc main_arg2) y = (r : EReal) := fun y => FiniteReal.real_of_cmp (congrFun h2 y)
  have r3 : ∀ y, ∃ r : ℝ, m ((c : Thread nD τ).loc main_arg3) y = (r : EReal) := fun y => FiniteReal.real_of_cmp (congrFun h3 y)
  have r4 : ∀ y, ∃ r : ℝ, m ((c : Thread nD τ).loc main_arg4) y = (r : EReal) := fun y => FiniteReal.real_of_cmp (congrFun h4 y)
  choose u hu using r0
  choose w hw using r1
  choose b hb using r2
  choose wd hwd using r3
  choose ct hct using r4
  exact ⟨fun i l => u (ix2 i l), fun i l => w (ix2 i l), fun l => b (ix1 l), fun i l => wd (ix2 i l), fun i l => ct (ix2 i l),
    ⟨fun i l => hu _, fun i l => hw _, fun l => hb _, fun i l => hwd _, fun i l => hct _⟩⟩

open Cert.FfnIdeal.Hand Cert.FfnRefIdeal.Hand in
theorem algebraic : Cert.algebraic_FfnIdeal_FfnRefIdeal_pre_ffn_finite (hPre_ffn_finite := pre_facts) := by
  intro m ρ m' ρ' hpre hagree
  have args (c : Dev Cert.FfnRefIdeal.nD) : (StableHlo.launchContents m' c (Proc.devRef .tc Cert.FfnRefIdeal.main_arg0) = m ((c.tc : Thread Cert.FfnIdeal.nD Cert.FfnIdeal.τ).loc Cert.FfnIdeal.main_arg0))
      ∧ (StableHlo.launchContents m' c (Proc.devRef .tc Cert.FfnRefIdeal.main_arg1) = m ((c.tc : Thread Cert.FfnIdeal.nD Cert.FfnIdeal.τ).loc Cert.FfnIdeal.main_arg1))
      ∧ (StableHlo.launchContents m' c (Proc.devRef .tc Cert.FfnRefIdeal.main_arg2) = m ((c.tc : Thread Cert.FfnIdeal.nD Cert.FfnIdeal.τ).loc Cert.FfnIdeal.main_arg2))
      ∧ (StableHlo.launchContents m' c (Proc.devRef .tc Cert.FfnRefIdeal.main_arg3) = m ((c.tc : Thread Cert.FfnIdeal.nD Cert.FfnIdeal.τ).loc Cert.FfnIdeal.main_arg3))
      ∧ (StableHlo.launchContents m' c (Proc.devRef .tc Cert.FfnRefIdeal.main_arg4) = m ((c.tc : Thread Cert.FfnIdeal.nD Cert.FfnIdeal.τ).loc Cert.FfnIdeal.main_arg4)) := hagree c
  choose u w b wd ct hA using fun c => reals m c hpre
  refine ⟨fun c => DU (u c) (w c) (b c) (wd c) (ct c), fun c => ST (u c) (w c) (b c) (wd c) (ct c),
    (θ_run Cert.FfnIdeal.defs _ _).mono (fun _ h c => ⟨(h c).1.trans (du_array (hA c)), (h c).2.1.trans (st_array (hA c)), (h c).2.2⟩)
      (Cert.FfnIdeal.Value.run_blocks (F := Ideal) m ρ),
    (θ_run Cert.FfnRefIdeal.defs _ _).mono (fun _ h c => ⟨(h c).1.trans ?_, (h c).2.1.trans ?_, (h c).2.2⟩)
      (Cert.FfnRefIdeal.Value.run (F := Ideal) m' ρ')⟩
  · rw [Cert.FfnRefIdeal.Read.val_main_v82_eq, (args c).1, (args c).2.1, (args c).2.2.1, (args c).2.2.2.1, (args c).2.2.2.2]
    refine funext fun (y : Cert.FfnRefIdeal.S2x4x4096x704.Idx) => ?_
    obtain ⟨g, j, i, l, rfl⟩ : ∃ (g : Fin 2) (j : Fin 4) (i : Fin 4096) (l : Fin 704), y = ix4 g j i l := ⟨y 0, y 1, y 2, y 3, eq_ix4 y⟩
    exact du_real (hA c).u (hA c).w (hA c).b (hA c).wd (hA c).ct g j i l
  · rw [Cert.FfnRefIdeal.Read.val_main_v84_eq, (args c).1, (args c).2.1, (args c).2.2.1, (args c).2.2.2.1, (args c).2.2.2.2]
    refine funext fun (y : Cert.FfnRefIdeal.S2x4x8x704.Idx) => ?_
    obtain ⟨g, j, q, l, rfl⟩ : ∃ (g : Fin 2) (j : Fin 4) (q : Fin 8) (l : Fin 704), y = ix4 g j q l := ⟨y 0, y 1, y 2, y 3, eq_ix4 y⟩
    exact st_real (hA c).u (hA c).w (hA c).b (hA c).wd (hA c).ct g j q l

end Cert.Proof.Ffn

end
-- ==== Proof.PoolWinReal.lean ====
module

public import Idealize.ShloMosaic.Lib.Pointwise
public import Mathlib.Algebra.BigOperators.Intervals
public import proofs.«01_k».proof.Proof.SoftmaxReal

/-
  Sums over windows of a column: doubling a sum of the last entries by adding it to itself shifted, and what such a sum is over a column with
  sixteen zeros at each end.
-/

@[expose] public section

noncomputable section

namespace PoolWinReal

open Idealize.ShloMosaic
open scoped BigOperators

/-- A column of 4096 entries between sixteen zeros at each end. -/
def padded (f : ℕ → EReal) (i : ℕ) : EReal := if 16 ≤ i ∧ i < 4112 then f (i - 16) else 0

/-- The sum of the w entries that end at place p. -/
def trail (f : ℕ → EReal) (w p : ℕ) : EReal := ∑ j ∈ Finset.range w, f (p - j)

theorem trail_one (f : ℕ → EReal) (p : ℕ) : trail f 1 p = f p := by simp [trail]

theorem trail_double (f : ℕ → EReal) (w p : ℕ) : trail f w p + trail f w (p - w) = trail f (w + w) p := by
  unfold trail
  rw [Finset.sum_range_add]
  simp only [Nat.sub_sub]

/-- What row r receives: the entries of the rows whose window it lies in. -/
def win (h : ℕ) (f : ℕ → EReal) (r : ℕ) : EReal := ∑ t ∈ (Finset.range 4096).filter (fun t => t - h ≤ r ∧ r < t + h), f t

theorem trail_padded (f : ℕ → EReal) {h r : ℕ} (hh : h ≤ 8) (hr : r < 4096) : trail (padded f) (h + h) (r + 16 + h) = win h f r := by
  unfold trail padded win
  rw [← Finset.sum_filter]
  refine Finset.sum_nbij' (fun j => r + h - j) (fun t => r + h - t) ?_ ?_ ?_ ?_ ?_
  all_goals intro j hj; simp only [Finset.mem_filter, Finset.mem_range] at hj ⊢
  · omega
  · omega
  · omega
  · omega
  · congr 1; omega

/-- The number of rows in the window of row t. -/
def rows (h t : ℕ) : ℕ := min (t + h) 4096 - (t - h)

/-- The windows' ends in words, where half a window is a power of two below sixteen; clipped from below alone, and on both sides. -/
theorem lo_word : ∀ (g : Fin 4) (t : Fin 4096), IntOp.maxsi (IntOp.subi (BitVec.ofNat 32 t.val) (BitVec.ofNat 32 (2 ^ g.val))) 0#32 = BitVec.ofNat 32 (t.val - 2 ^ g.val) := by
  decide +kernel

theorem hi_word : ∀ (g : Fin 4) (t : Fin 4096),
    IntOp.minsi (IntOp.subi (IntOp.addi (BitVec.ofNat 32 t.val) (BitVec.ofNat 32 (2 * 2 ^ g.val))) (BitVec.ofNat 32 (2 ^ g.val))) 4096#32 = BitVec.ofNat 32 (min (t.val + 2 ^ g.val) 4096) := by
  decide +kernel

theorem lo_clip : ∀ (g : Fin 4) (t : Fin 4096),
    IntOp.minsi 4096#32 (IntOp.maxsi 0#32 (IntOp.subi (BitVec.ofNat 32 t.val) (BitVec.ofNat 32 (2 ^ g.val)))) = BitVec.ofNat 32 (t.val - 2 ^ g.val) := by
  decide +kernel

theorem hi_clip : ∀ (g : Fin 4) (t : Fin 4096),
    IntOp.minsi 4096#32 (IntOp.maxsi 0#32 (IntOp.subi (IntOp.addi (BitVec.ofNat 32 t.val) (BitVec.ofNat 32 (2 * 2 ^ g.val))) (BitVec.ofNat 32 (2 ^ g.val))))
      = BitVec.ofNat 32 (min (t.val + 2 ^ g.val) 4096) := by
  decide +kernel

/-- A row count in words, and as a number. -/
theorem rows_word (h t : ℕ) (ht : t < 4096) : IntOp.subi (BitVec.ofNat 32 (min (t + h) 4096)) (BitVec.ofNat 32 (t - h)) = BitVec.ofNat 32 (rows h t) := by
  show BitVec.ofNat 32 _ - BitVec.ofNat 32 _ = _
  refine BitVec.eq_of_toNat_eq ?_
  rw [BitVec.toNat_sub, BitVec.toNat_ofNat, BitVec.toNat_ofNat, BitVec.toNat_ofNat]
  unfold rows
  omega

theorem rows_real (h t : ℕ) : FloatOps.sitofp (F := Ideal) .f32 (BitVec.ofNat 32 (rows h t)) = (((rows h t : ℕ) : ℝ) : EReal) := by
  have : rows h t ≤ 4096 := by unfold rows; omega
  show (((BitVec.ofNat 32 (rows h t)).toInt : ℝ) : EReal) = _
  rw [BitVec.toInt_eq_toNat_of_lt (by rw [BitVec.toNat_ofNat]; omega), BitVec.toNat_ofNat, Nat.mod_eq_of_lt (by omega)]
  rfl

end PoolWinReal
-- ==== Proof.PoolWinValue.lean ====
module

public import proofs.«01_k».proof.Proof.Gen.PoolWinIdeal.Value
public import proofs.«01_k».proof.Proof.PoolWinReal
public import Idealize.ShloMosaic.Lib.Pointwise
public import Idealize.ShloMosaic.Lib.Pipeline.ValueKit
public import Idealize.ShloMosaic.Lib.Pipeline.ReadBack

/-
  The pooling windows' gradient: every block of 128 columns is divided by its windows' row counts between sixteen zero rows at each end, and summed
  over the windows by doubling.
-/

@[expose] public section

set_option maxRecDepth 16384
set_option maxHeartbeats 2000000

noncomputable section

namespace Cert.PoolWinIdeal.Hand

open Cert.PoolWinIdeal Cert.PoolWinIdeal.Gen Cert.PoolWinIdeal.Value Idealize.ShloMosaic Idealize.ShloMosaic.TcCoe Idealize.SL.Sem
open PoolWinReal
open scoped BigOperators

/-- An array whose rows from row w - 1 on hold the sums of the w rows that end there. -/
def Trails (X : ℕ → Fin 128 → EReal) (w : ℕ) (v : Vec Ideal S4128x128 .f32) : Prop :=
  ∀ (p : Fin 4128) (l : Fin 128), w ≤ p.val + 1 → v (ix2 p l) = trail (fun i => X i l) w p.val

/-- A rotation of the rows, read where it does not wrap around. -/
theorem rotated (v : Vec Ideal S4128x128 .f32) (k : BitVec 32) (hk : k.toNat < 4128) (p : Fin 4128) (l : Fin 128) (q : Fin 4128) (hq : (p.val + 4128 - k.toNat) % 4128 = q.val) :
    dynamicRotate 0 k none v rotates_S4128x128_d0 (ix2 p l) = v (ix2 q l) := by
  unfold dynamicRotate
  refine congrArg v (funext fun a => Fin.ext ?_)
  fin_cases a
  · show (p.val + 4128 - (k.toNat + 0) % 4128) % 4128 = q.val
    rw [Nat.add_zero]
    omega
  · rfl

theorem Trails.double {X : ℕ → Fin 128 → EReal} {w : ℕ} {v : Vec Ideal S4128x128 .f32} (hv : Trails X w v) (k : BitVec 32) (hk : k.toNat = w) (hw : w < 2064) :
    Trails X (w + w) (addf (F := Ideal) (φ := .f32) v (dynamicRotate 0 k none v rotates_S4128x128_d0)) := by
  intro p l hp
  have := p.isLt
  show v (ix2 p l) + dynamicRotate 0 k none v rotates_S4128x128_d0 (ix2 p l) = _
  rw [rotated v k (by omega) p l ⟨p.val - w, by omega⟩ (by rw [hk]; show _ = p.val - w; omega), hv p l (by omega), hv _ l (by show w ≤ p.val - w + 1; omega)]
  exact trail_double _ w p.val

/-- The rows that the last rotation brings to the middle. -/
theorem Trails.middle {X : ℕ → Fin 128 → EReal} {w : ℕ} {v : Vec Ideal S4128x128 .f32} (hv : Trails X w v) (k : BitVec 32) (h : ℕ) (hk : k.toNat + h = 4128) (h0 : 0 < h) (h8 : h ≤ 8)
    (hw : w ≤ 16) (r : Fin 4096) (l : Fin 128) :
    extractStridedSlice S4096x128 ![16, 0] (dynamicRotate 0 k none v rotates_S4128x128_d0) slices_S4128x128_o16_0_S4096x128 (ix2 r l) = trail (fun i => X i l) w (r.val + 16 + h) := by
  have hr := r.isLt
  unfold extractStridedSlice
  refine Eq.trans (congrArg _ (funext fun a => Fin.ext ?_ : _ = ix2 ⟨r.val + 16, by omega⟩ l)) ((rotated v k (by omega) ⟨r.val + 16, by omega⟩ l ⟨r.val + 16 + h, by omega⟩ (by
    show (r.val + 16 + 4128 - k.toNat) % 4128 = r.val + 16 + h
    omega)).trans (hv _ l (by show w ≤ r.val + 16 + h + 1; omega)))
  fin_cases a
  · exact Nat.add_comm 16 r.val
  · exact Nat.zero_add l.val

/-- A column of a block of rows. -/
def col (P : Vec Ideal S4096x128 .f32) (t : ℕ) (l : Fin 128) : EReal := if h : t < 4096 then P (ix2 ⟨t, h⟩ l) else 0

theorem col_at (P : Vec Ideal S4096x128 .f32) (x : S4096x128.Idx) (k : ℕ) (l : Fin 128) (hk : k = (x 0).val) (hl : l.val = (x 1).val) : col P k l = P x := by
  subst hk
  unfold col
  rw [dif_pos (show (x 0).val < 4096 from (x 0).isLt)]
  exact congrArg P (funext fun b => Fin.ext (by fin_cases b; exacts [rfl, hl]))

/-- The zero rows. -/
theorem zero_top (y : S16x128.Idx) : (k0_pay3 (F := Ideal) y : EReal) = 0 := Ideal.ofBits_zero_f32
theorem zero_bottom (y : S16x128.Idx) : (k0_pay4 (F := Ideal) y : EReal) = 0 := Ideal.ofBits_zero_f32

/-- A block between its zero rows. -/
def framed (P : Vec Ideal S4096x128 .f32) : Vec Ideal S4128x128 .f32 :=
  View.canon (s := S4128x128) (Val := Elt Ideal) (e := .f32) [⟨Rect.unit ![16, 0] ![4096, 128] inb_S4128x128_S4096x128_16_0, P⟩,
    ⟨Rect.unit ![4112, 0] ![16, 128] inb_S4128x128_S16x128_4112_0, k0_pay4 (F := Ideal)⟩,
    ⟨Rect.unit ![0, 0] ![16, 128] inb_S4128x128_S16x128_0_0, k0_pay3 (F := Ideal)⟩]

/-- A place of a piece of rows. -/
theorem mem_rows {o n : ℕ} (inb) (y : S4128x128.Idx) (h : o ≤ (y 0).val) (h' : (y 0).val < o + n) : y ∈ (Rect.unit (s := S4128x128) ![o, 0] ![n, 128] inb).set := by
  rw [← Rect.map_emb_univ]
  refine Finset.mem_map.mpr ⟨(ix2 (⟨(y 0).val - o, by omega⟩ : Fin n) (y 1 : Fin 128) : (⟨2, ![n, 128]⟩ : Shape).Idx), Finset.mem_univ _, funext fun a => Fin.ext ?_⟩
  fin_cases a
  · exact (ValueKit.rect_emb_unit_val _ _ _ _ _).trans (Nat.add_sub_of_le h)
  · exact (ValueKit.rect_emb_unit_val _ _ _ _ _).trans (Nat.zero_add _)

theorem framed_at (P : Vec Ideal S4096x128 .f32) (y : S4128x128.Idx) : framed P y = padded (fun t => col P t (y 1)) (y 0).val := by
  unfold framed
  have hc : ∃ p ∈ ([⟨Rect.unit ![16, 0] ![4096, 128] inb_S4128x128_S4096x128_16_0, P⟩,
    ⟨Rect.unit ![4112, 0] ![16, 128] inb_S4128x128_S16x128_4112_0, k0_pay4 (F := Ideal)⟩,
    ⟨Rect.unit ![0, 0] ![16, 128] inb_S4128x128_S16x128_0_0, k0_pay3 (F := Ideal)⟩] : List (View.Piece (Elt Ideal) S4128x128 .f32)), y ∈ p.1.set := by
    have hy : (y 0).val < 4128 := (y 0).isLt
    rcases lt_or_ge (y 0).val 16 with h | h
    · exact ⟨_, List.mem_cons_of_mem _ (List.mem_cons_of_mem _ List.mem_cons_self), mem_rows inb_S4128x128_S16x128_0_0 y (Nat.zero_le _) (by omega)⟩
    rcases lt_or_ge (y 0).val 4112 with h' | h'
    · exact ⟨_, List.mem_cons_self, mem_rows inb_S4128x128_S4096x128_16_0 y h h'⟩
    · exact ⟨_, List.mem_cons_of_mem _ List.mem_cons_self, mem_rows inb_S4128x128_S16x128_4112_0 y h' (by omega)⟩
  canon_tiles x a using hc
  · unfold padded
    rw [if_pos (by omega)]
    exact (col_at P x _ _ (by omega) a1).symm
  · unfold padded
    rw [if_neg (by omega)]
    exact zero_bottom x
  · unfold padded
    rw [if_neg (by omega)]
    exact zero_top x

theorem framed_trails (P : Vec Ideal S4096x128 .f32) : Trails (fun i l => padded (fun t => col P t l) i) 1 (framed P) := by
  intro p l _
  rw [trail_one]
  exact framed_at P (ix2 p l)

/-- The whole scratch read back. -/
theorem whole (j : S4128x128.Idx) : (Rect.unit (s := S4128x128) ![0, 0] ![4128, 128] inb_S4128x128_S4128x128_0_0).toLoadRect.idx j = j := by
  refine funext fun a => Fin.ext ?_
  fin_cases a
  · exact (ValueKit.rect_emb_unit_val _ _ _ _ _).trans (Nat.zero_add _)
  · exact (ValueKit.rect_emb_unit_val _ _ _ _ _).trans (Nat.zero_add _)

/-- A block's column over its row counts. -/
def Quot (h : ℕ) (x : Vec Ideal S4096x128 .f32) (l : Fin 128) (t : ℕ) : EReal :=
  if ht : t < 4096 then Ideal.div (x (ix2 ⟨t, ht⟩ l)) (((rows h t : ℕ) : ℝ) : EReal) else 0

/-- What a block's result holds. -/
def Res (h : ℕ) (x : Vec Ideal S4096x128 .f32) (r : Fin 4096) (l : Fin 128) : EReal := win h (Quot h x l) r.val - x (ix2 r l)

/-- An array of quotients. -/
theorem col_quot {g : Fin 4} {x P : Vec Ideal S4096x128 .f32} (hP : ∀ (t : Fin 4096) (l : Fin 128), P (ix2 t l) = Ideal.div (x (ix2 t l))
      (FloatOps.sitofp (F := Ideal) .f32 (IntOp.subi (IntOp.minsi (IntOp.subi (IntOp.addi (BitVec.ofNat 32 t.val) (BitVec.ofNat 32 (2 * 2 ^ g.val))) (BitVec.ofNat 32 (2 ^ g.val))) 4096#32)
        (IntOp.maxsi (IntOp.subi (BitVec.ofNat 32 t.val) (BitVec.ofNat 32 (2 ^ g.val))) 0#32)))) (l : Fin 128) :
    (fun t => col P t l) = Quot (2 ^ g.val) x l := by
  funext t
  unfold col Quot
  split
  · next ht => rw [hP, hi_word g ⟨t, ht⟩, lo_word g ⟨t, ht⟩, rows_word _ _ ht, rows_real]
  · rfl

theorem div_one (x : Vec Ideal S4096x128 .f32) (l : Fin 128) : (fun t => col (k0_pay5 x) t l) = Quot 1 x l :=
  col_quot (g := 0) (by intro t l; pointwise [k0_pay5]; rfl) l
theorem div_two (x : Vec Ideal S4096x128 .f32) (l : Fin 128) : (fun t => col (k0_pay7 x) t l) = Quot 2 x l :=
  col_quot (g := 1) (by intro t l; pointwise [k0_pay7]; rfl) l
theorem div_four (x : Vec Ideal S4096x128 .f32) (l : Fin 128) : (fun t => col (k0_pay9 x) t l) = Quot 4 x l :=
  col_quot (g := 2) (by intro t l; pointwise [k0_pay9]; rfl) l
theorem div_eight (x : Vec Ideal S4096x128 .f32) (l : Fin 128) : (fun t => col (k0_pay1 (iota .tc S4096x128 32 [0] iota_S4096x128_d0_w32) x) t l) = Quot 8 x l :=
  col_quot (g := 3) (by intro t l; pointwise [k0_pay1]; rfl) l

/-- The windows of a block of quotients. -/
theorem windows {h : ℕ} {x P : Vec Ideal S4096x128 .f32} (hP : ∀ l, (fun t => col P t l) = Quot h x l) {v : Vec Ideal S4128x128 .f32}
    (hv : Trails (fun i l => padded (fun t => col P t l) i) (h + h) v) (k : BitVec 32) (hk : k.toNat + h = 4128) (h0 : 0 < h) (h8 : h ≤ 8) (r : Fin 4096) (l : Fin 128) :
    (extractStridedSlice S4096x128 ![16, 0] (dynamicRotate 0 k none v rotates_S4128x128_d0) slices_S4128x128_o16_0_S4096x128 (ix2 r l) - x (ix2 r l) : EReal) = Res h x r l := by
  rw [hv.middle k h hk h0 h8 (by omega) r l, trail_padded _ h8 r.isLt, hP]
  rfl

theorem pay_one (x : Vec Ideal S4096x128 .f32) (r : Fin 4096) (l : Fin 128) : k0_pay6 x (framed (k0_pay5 x)) (ix2 r l) = Res 1 x r l :=
  windows (div_one x) ((framed_trails _).double 1#32 rfl (by norm_num)) 4127#32 rfl (by norm_num) (by norm_num) r l
theorem pay_two (x : Vec Ideal S4096x128 .f32) (r : Fin 4096) (l : Fin 128) : k0_pay8 x (framed (k0_pay7 x)) (ix2 r l) = Res 2 x r l :=
  windows (div_two x) (((framed_trails _).double 1#32 rfl (by norm_num)).double 2#32 rfl (by norm_num)) 4126#32 rfl (by norm_num) (by norm_num) r l
theorem pay_four (x : Vec Ideal S4096x128 .f32) (r : Fin 4096) (l : Fin 128) : k0_pay10 x (framed (k0_pay9 x)) (ix2 r l) = Res 4 x r l :=
  windows (div_four x) ((((framed_trails _).double 1#32 rfl (by norm_num)).double 2#32 rfl (by norm_num)).double 4#32 rfl (by norm_num)) 4124#32 rfl (by norm_num) (by norm_num) r l
theorem pay_eight (x : Vec Ideal S4096x128 .f32) (r : Fin 4096) (l : Fin 128) :
    k0_pay2 x (framed (k0_pay1 (iota .tc S4096x128 32 [0] iota_S4096x128_d0_w32) x)) (ix2 r l) = Res 8 x r l :=
  windows (div_eight x) (((((framed_trails _).double 1#32 rfl (by norm_num)).double 2#32 rfl (by norm_num)).double 4#32 rfl (by norm_num)).double 8#32 rfl (by norm_num)) 4120#32 rfl
    (by norm_num) (by norm_num) r l

variable (m : (ℓ : Loc nD τ sig) → Buf (Elt Ideal) ℓ)

theorem idx : ∀ t : Fin cfg0.N, win0_0.index t = ![0, t.val] ∧ win0_1.index t = ![0, t.val] := by decide +kernel

/-- What a grid point leaves: half the window of its columns' group is 2 to the group. -/
theorem point (c : Dev nD) (t : Fin cfg0.N) (r : Fin 4096) (l : Fin 128) : outsAt0 m c t.val t.isLt (ix2 r l) = Res (2 ^ (t.val / 2)) (iblk m c 0 t) r l := by
  have ht : t.val < 8 := lt_of_lt_of_eq t.isLt N_0
  rcases (by omega : t.val / 2 = 0 ∨ t.val / 2 = 1 ∨ t.val / 2 = 2 ∨ t.val / 2 = 3) with h | h | h | h <;> rw [h]
  · rw [outsAt0_A m c t (by omega) (by omega) (by omega) (by omega)]; frame_open
    simp (disch := decide) only [↓ View.readCov_cons_toLoadRect, View.readCov_eq_canon']
    frame_out
    exact (congrArg (fun Z => k0_pay6 (iblk m c 0 t) Z (ix2 r l)) (funext fun j => congrArg _ (whole j))).trans (pay_one _ r l)
  · rw [outsAt0_B m c t (by omega) (by omega) (by omega) (by omega)]; frame_open
    simp (disch := decide) only [↓ View.readCov_cons_toLoadRect, View.readCov_eq_canon']
    frame_out
    exact (congrArg (fun Z => k0_pay8 (iblk m c 0 t) Z (ix2 r l)) (funext fun j => congrArg _ (whole j))).trans (pay_two _ r l)
  · rw [outsAt0_C m c t (by omega) (by omega) (by omega) (by omega)]; frame_open
    simp (disch := decide) only [↓ View.readCov_cons_toLoadRect, View.readCov_eq_canon']
    frame_out
    exact (congrArg (fun Z => k0_pay10 (iblk m c 0 t) Z (ix2 r l)) (funext fun j => congrArg _ (whole j))).trans (pay_four _ r l)
  · rw [outsAt0_D m c t (by omega) (by omega) (by omega) (by omega)]; frame_open
    simp (disch := decide) only [↓ View.readCov_cons_toLoadRect, View.readCov_eq_canon']
    frame_out
    exact (congrArg (fun Z => k0_pay2 (iblk m c 0 t) Z (ix2 r l)) (funext fun j => congrArg _ (whole j))).trans (pay_eight _ r l)

/-- The gradient: column d of group d / 256. -/
def OUT (x : Vec Ideal S4096x1024 .f32) (r : Fin 4096) (d : Fin 1024) : EReal :=
  win (2 ^ (d.val / 256)) (fun t => if ht : t < 4096 then Ideal.div (x (ix2 ⟨t, ht⟩ d)) (((rows (2 ^ (d.val / 256)) t : ℕ) : ℝ) : EReal) else 0) r.val - x (ix2 r d)

theorem block (c : Dev nD) (t : Fin cfg0.N) (r : Fin 4096) (l : Fin 128) (h : t.val * 128 + l.val < 1024) :
    iblk m c 0 t (ix2 r l) = m ((c : Thread nD τ).loc main_arg0) (ix2 r ⟨t.val * 128 + l.val, h⟩) := by
  blk_point [iblk, V, idx t]

theorem array (c : Dev nD) : (dats m 0 c).arrAt 1 cfg0.N = fun i => OUT (m ((c : Thread nD τ).loc main_arg0)) (i 0) (i 1) := by
  refine (dats m 0 c).arrAt_eq_of_covers 1 _ (by decide +kernel) fun t hf (y : S4096x128.Idx) => ?_
  blk_simp
  have ht : t.val < 8 := lt_of_lt_of_eq t.isLt N_0
  obtain ⟨r, l, rfl⟩ : ∃ r l, y = ix2 r l := ⟨y 0, y 1, eq_ix2 y⟩
  rw [after0_1, point]
  have e0 : ((win0_1.blk t).view.emb (ix2 r l) 0).val = r.val := by blk_simp [idx t] <;> omega
  have e1 : ((win0_1.blk t).view.emb (ix2 r l) 1).val = t.val * 128 + l.val := by blk_simp [idx t] <;> omega
  have f0 : (win0_1.blk t).view.emb (ix2 r l) 0 = r := Fin.ext e0
  have f1 : (win0_1.blk t).view.emb (ix2 r l) 1 = (⟨t.val * 128 + l.val, by omega⟩ : Fin 1024) := Fin.ext e1
  rw [f0, f1]
  unfold Res OUT Quot
  simp only [block m c t _ l (by omega)]
  rw [show (t.val * 128 + l.val) / 256 = t.val / 2 by omega]

end Cert.PoolWinIdeal.Hand
-- ==== Proof.PoolWinTables.lean ====
module

public import proofs.«01_k».proof.Proof.Gen.PoolWinRefIdeal.Read
public import proofs.«01_k».proof.Proof.PoolWinReal
public import Idealize.ShloMosaic.Lib.Routing.OpsPair

/-
  The reference's tables of row numbers: where every row's window starts and ends, as words.
-/

@[expose] public section

set_option maxRecDepth 16384
set_option maxHeartbeats 2000000

noncomputable section

namespace Cert.PoolWinRefIdeal.Hand

open Cert.PoolWinRefIdeal Cert.PoolWinRefIdeal.Gen Cert.PoolWinRefIdeal.Read Idealize.ShloMosaic Idealize.ShloMosaic.TcCoe Idealize.SL.Sem
open PoolWinReal
open scoped BigOperators

/-- Where the windows start. -/
theorem lo_at (t : Fin 4096) (g : Fin 4) : val_main_v20 (F := Ideal) (ix2 t g) = BitVec.ofNat 32 (t.val - 2 ^ g.val) := by
  rw [← lo_clip g t]
  fin_cases g <;> pointwise [val_main_v20, val_main_v10, val_main_call1_v4, val_main_call1_v3, val_main_c_3, val_main_call1_v2, val_main_call1_v1, val_main_call1_v0, val_main_c_2, val_main_v9, val_main_v7, val_main_v6, val_main_v8, val_main_c, val_main_v13, val_main_call2_v4, val_main_call2_v3, val_main_c_6, val_main_call2_v2, val_main_call2_v1, val_main_call2_v0, val_main_c_5, val_main_v12, val_main_v11, val_main_c_4, val_main_v16, val_main_call3_v4, val_main_call3_v3, val_main_c_9, val_main_call3_v2, val_main_call3_v1, val_main_call3_v0, val_main_c_8, val_main_v15, val_main_v14, val_main_c_7, val_main_v19, val_main_call4_v4, val_main_call4_v3, val_main_c_12, val_main_call4_v2, val_main_call4_v1, val_main_call4_v0, val_main_c_11, val_main_v18, val_main_v17, val_main_c_10] <;> rfl

/-- Where they end. -/
theorem hi_at (t : Fin 4096) (g : Fin 4) : val_main_v41 (F := Ideal) (ix2 t g) = BitVec.ofNat 32 (min (t.val + 2 ^ g.val) 4096) := by
  rw [← hi_clip g t]
  fin_cases g <;> pointwise [val_main_v41, val_main_v25, val_main_call5_v4, val_main_call5_v3, val_main_c_16, val_main_call5_v2, val_main_call5_v1, val_main_call5_v0, val_main_c_15, val_main_v24, val_main_v22, val_main_v7, val_main_v6, val_main_v21, val_main_c_13, val_main_v23, val_main_c_14, val_main_v30, val_main_call6_v4, val_main_call6_v3, val_main_c_20, val_main_call6_v2, val_main_call6_v1, val_main_call6_v0, val_main_c_19, val_main_v29, val_main_v27, val_main_v26, val_main_c_17, val_main_v28, val_main_c_18, val_main_v35, val_main_call7_v4, val_main_call7_v3, val_main_c_24, val_main_call7_v2, val_main_call7_v1, val_main_call7_v0, val_main_c_23, val_main_v34, val_main_v32, val_main_v31, val_main_c_21, val_main_v33, val_main_c_22, val_main_v40, val_main_call8_v4, val_main_call8_v3, val_main_c_28, val_main_call8_v2, val_main_call8_v1, val_main_call8_v0, val_main_c_27, val_main_v39, val_main_v37, val_main_v36, val_main_c_25, val_main_v38, val_main_c_26] <;> rfl

/-- A row number is not negative, so it is not wrapped around. -/
theorem wrapped {w a : BitVec 32} {n : ℕ} (hw : w = BitVec.ofNat 32 n) (hn : n ≤ 4096) : Scalar.select (IntOp.cmpi .slt w 0#32) a w = BitVec.ofNat 32 n := by
  subst hw
  exact Routing.wrap_of_lt _ _ (by rw [BitVec.toNat_ofNat]; omega)

/-- What a table of pairs holds: a row number and the group. -/
structure Pairs (T : IVec S4096x2 32) (p : ℕ → ℕ) (g : ℕ) : Prop where
  row : ∀ t : Fin 4096, T (ix2 t 0) = BitVec.ofNat 32 (p t.val)
  group : ∀ t : Fin 4096, T (ix2 t 1) = BitVec.ofNat 32 g
  le : ∀ t : Fin 4096, p t.val ≤ 4096

/-- The first and the last row of a window. -/
abbrev lo (h t : ℕ) : ℕ := t - h
abbrev hi (h t : ℕ) : ℕ := min (t + h) 4096

theorem lo_le (h : ℕ) (t : Fin 4096) : lo h t.val ≤ 4096 := by have := t.isLt; unfold lo; omega
theorem hi_le (h : ℕ) (t : Fin 4096) : hi h t.val ≤ 4096 := by unfold hi; omega

theorem lo_3 : Pairs (val_main_v149 (F := Ideal)) (lo (2 ^ 3)) 3 where
  row t := by
    pointwise [val_main_v149, val_main_v147, val_main_v144, val_main_v141, val_main_v139, val_main_v138, val_main_v140, val_main_c_50, val_main_v143, val_main_v142, val_main_c_51, val_main_v148, val_main_v146, val_main_v145, val_main_c_52]
    exact wrapped (lo_at t 3) (lo_le _ t)
  group t := by pointwise [val_main_v149, val_main_v147, val_main_v144, val_main_v141, val_main_v139, val_main_v138, val_main_v140, val_main_c_50, val_main_v143, val_main_v142, val_main_c_51, val_main_v148, val_main_v146, val_main_v145, val_main_c_52]; rfl
  le := lo_le _

theorem lo_2 : Pairs (val_main_v136 (F := Ideal)) (lo (2 ^ 2)) 2 where
  row t := by
    pointwise [val_main_v136, val_main_v134, val_main_v131, val_main_v128, val_main_v126, val_main_v125, val_main_v127, val_main_c_47, val_main_v130, val_main_v129, val_main_c_48, val_main_v135, val_main_v133, val_main_v132, val_main_c_49]
    exact wrapped (lo_at t 2) (lo_le _ t)
  group t := by pointwise [val_main_v136, val_main_v134, val_main_v131, val_main_v128, val_main_v126, val_main_v125, val_main_v127, val_main_c_47, val_main_v130, val_main_v129, val_main_c_48, val_main_v135, val_main_v133, val_main_v132, val_main_c_49]; rfl
  le := lo_le _

theorem lo_1 : Pairs (val_main_v123 (F := Ideal)) (lo (2 ^ 1)) 1 where
  row t := by
    pointwise [val_main_v123, val_main_v121, val_main_v118, val_main_v115, val_main_v113, val_main_v112, val_main_v114, val_main_c_44, val_main_v117, val_main_v116, val_main_c_45, val_main_v122, val_main_v120, val_main_v119, val_main_c_46]
    exact wrapped (lo_at t 1) (lo_le _ t)
  group t := by pointwise [val_main_v123, val_main_v121, val_main_v118, val_main_v115, val_main_v113, val_main_v112, val_main_v114, val_main_c_44, val_main_v117, val_main_v116, val_main_c_45, val_main_v122, val_main_v120, val_main_v119, val_main_c_46]; rfl
  le := lo_le _

theorem lo_0 : Pairs (val_main_v110 (F := Ideal)) (lo (2 ^ 0)) 0 where
  row t := by
    pointwise [val_main_v110, val_main_v108, val_main_v105, val_main_v102, val_main_v100, val_main_v99, val_main_v101, val_main_c_41, val_main_v104, val_main_v103, val_main_c_42, val_main_v109, val_main_v107, val_main_v106, val_main_c_43]
    exact wrapped (lo_at t 0) (lo_le _ t)
  group t := by pointwise [val_main_v110, val_main_v108, val_main_v105, val_main_v102, val_main_v100, val_main_v99, val_main_v101, val_main_c_41, val_main_v104, val_main_v103, val_main_c_42, val_main_v109, val_main_v107, val_main_v106, val_main_c_43]; rfl
  le := lo_le _

theorem hi_3 : Pairs (val_main_v92 (F := Ideal)) (hi (2 ^ 3)) 3 where
  row t := by
    pointwise [val_main_v92, val_main_v90, val_main_v87, val_main_v84, val_main_v82, val_main_v81, val_main_v83, val_main_c_38, val_main_v86, val_main_v85, val_main_c_39, val_main_v91, val_main_v89, val_main_v88, val_main_c_40]
    exact wrapped (hi_at t 3) (hi_le _ t)
  group t := by pointwise [val_main_v92, val_main_v90, val_main_v87, val_main_v84, val_main_v82, val_main_v81, val_main_v83, val_main_c_38, val_main_v86, val_main_v85, val_main_c_39, val_main_v91, val_main_v89, val_main_v88, val_main_c_40]; rfl
  le := hi_le _

theorem hi_2 : Pairs (val_main_v79 (F := Ideal)) (hi (2 ^ 2)) 2 where
  row t := by
    pointwise [val_main_v79, val_main_v77, val_main_v74, val_main_v71, val_main_v69, val_main_v68, val_main_v70, val_main_c_35, val_main_v73, val_main_v72, val_main_c_36, val_main_v78, val_main_v76, val_main_v75, val_main_c_37]
    exact wrapped (hi_at t 2) (hi_le _ t)
  group t := by pointwise [val_main_v79, val_main_v77, val_main_v74, val_main_v71, val_main_v69, val_main_v68, val_main_v70, val_main_c_35, val_main_v73, val_main_v72, val_main_c_36, val_main_v78, val_main_v76, val_main_v75, val_main_c_37]; rfl
  le := hi_le _

theorem hi_1 : Pairs (val_main_v66 (F := Ideal)) (hi (2 ^ 1)) 1 where
  row t := by
    pointwise [val_main_v66, val_main_v64, val_main_v61, val_main_v58, val_main_v56, val_main_v55, val_main_v57, val_main_c_32, val_main_v60, val_main_v59, val_main_c_33, val_main_v65, val_main_v63, val_main_v62, val_main_c_34]
    exact wrapped (hi_at t 1) (hi_le _ t)
  group t := by pointwise [val_main_v66, val_main_v64, val_main_v61, val_main_v58, val_main_v56, val_main_v55, val_main_v57, val_main_c_32, val_main_v60, val_main_v59, val_main_c_33, val_main_v65, val_main_v63, val_main_v62, val_main_c_34]; rfl
  le := hi_le _

theorem hi_0 : Pairs (val_main_v53 (F := Ideal)) (hi (2 ^ 0)) 0 where
  row t := by
    pointwise [val_main_v53, val_main_v51, val_main_v48, val_main_v45, val_main_v43, val_main_v42, val_main_v44, val_main_c_29, val_main_v47, val_main_v46, val_main_c_30, val_main_v52, val_main_v50, val_main_v49, val_main_c_31]
    exact wrapped (hi_at t 0) (hi_le _ t)
  group t := by pointwise [val_main_v53, val_main_v51, val_main_v48, val_main_v45, val_main_v43, val_main_v42, val_main_v44, val_main_c_29, val_main_v47, val_main_v46, val_main_c_30, val_main_v52, val_main_v50, val_main_v49, val_main_c_31]; rfl
  le := hi_le _

end Cert.PoolWinRefIdeal.Hand
-- ==== Proof.PoolWinSums.lean ====
/-
  The two sums of the reference, at any contents: the scatter of one column per row into the rows a table names, and the sum of every later row.
-/
module

public import proofs.«01_k».proof.Proof.PoolWinTables
public import Idealize.ShloMosaic.Lib.Pointwise

@[expose] public section

set_option maxRecDepth 16384
set_option maxHeartbeats 2000000

noncomputable section

namespace Cert.PoolWinRefIdeal.Hand

open Cert.PoolWinRefIdeal Cert.PoolWinRefIdeal.Gen Cert.PoolWinRefIdeal.Read Idealize.ShloMosaic Idealize.ShloMosaic.TcCoe Idealize.SL.Sem
open PoolWinReal
open scoped BigOperators

/-- Where the pairs of a table send the updates. -/
abbrev dims := scatter_S4097x4x256_S4096x2_S4096x256_1_01_01_1

/-- Entry (t, c') of the updates lands in row k, group g, column c exactly where the table's pair is (k, g) and the column is c. -/
theorem lands (T : IVec S4096x2 32) (t : Fin 4096) (c' : Fin 256) (k : Fin 4097) (g : Fin 4) (c : Fin 256) :
    dims.resultIdx? (ix2 t c') T = some (ix3 k g c) ↔ (T (ix2 t 0)).toInt = k.val ∧ (T (ix2 t 1)).toInt = g.val ∧ c' = c := by
  rw [Routing.resultIdx?_eq_some]
  have s0 : dims.start (ix2 t c') T 0 = (T (ix2 t 0)).toInt := by
    unfold ScatterDims.start
    rw [dif_pos (by decide)]
    congr 2
    funext b
    fin_cases b <;> rfl
  have s1 : dims.start (ix2 t c') T 1 = (T (ix2 t 1)).toInt := by
    unfold ScatterDims.start
    rw [dif_pos (by decide)]
    congr 2
    funext b
    fin_cases b <;> rfl
  have s2 : dims.start (ix2 t c') T 2 = 0 := by
    unfold ScatterDims.start
    rw [dif_neg (by decide)]
  have w0 : dims.window (ix2 t c') 0 = 0 := by unfold ScatterDims.window; rw [dif_neg (by decide)]
  have w1 : dims.window (ix2 t c') 1 = 0 := by unfold ScatterDims.window; rw [dif_neg (by decide)]
  have w2 : dims.window (ix2 t c') 2 = c'.val := by unfold ScatterDims.window; rw [dif_pos (by decide)]; rfl
  constructor
  · intro h
    have h0 := h 0
    have h1 := h 1
    have h2 := h 2
    rw [s0, w0] at h0
    rw [s1, w1] at h1
    rw [s2, w2] at h2
    refine ⟨by simpa using h0, by simpa using h1, Fin.ext ?_⟩
    have : ((c'.val : ℕ) : ℤ) = c.val := by simpa using h2
    exact_mod_cast this
  · rintro ⟨h0, h1, rfl⟩ a
    match a with
    | ⟨0, _⟩ => exact (by rw [s0, w0]; simpa using h0 : dims.start (ix2 t c') T 0 + (dims.window (ix2 t c') 0 : ℤ) = k.val)
    | ⟨1, _⟩ => exact (by rw [s1, w1]; simpa using h1 : dims.start (ix2 t c') T 1 + (dims.window (ix2 t c') 1 : ℤ) = g.val)
    | ⟨2, _⟩ => exact (by rw [s2, w2]; simp : dims.start (ix2 t c') T 2 + (dims.window (ix2 t c') 2 : ℤ) = c'.val)

theorem small_word {n : ℕ} (h : n ≤ 4096) : (BitVec.ofNat 32 n).toInt = (n : ℤ) := by
  rw [BitVec.toInt_eq_toNat_of_lt (by rw [BitVec.toNat_ofNat]; omega), BitVec.toNat_ofNat, Nat.mod_eq_of_lt (by omega)]

/-- The scatter into zeros by a table of pairs: row k of the table's group adds up the rows whose number is k. -/
theorem scattered {T : IVec S4096x2 32} {p : ℕ → ℕ} {j : ℕ} (hT : Pairs T p j) (hj : j ≤ 4096) (z : Vec Ideal S4097x4x256 .f32) (hz : ∀ i, z i = (0 : EReal))
    (u : Vec Ideal S4096x256 .f32) (k : Fin 4097) (g : Fin 4) (c : Fin 256) :
    (Host.scatterAdd (F := Ideal) (φ := .f32) dims z T u (ix3 k g c) : EReal) = if g.val = j then ∑ t : Fin 4096, (if p t.val = k.val then u (ix2 t c) else (0 : EReal)) else 0 := by
  show z (ix3 k g c) + ∑ i ∈ Finset.univ.filter (fun i => dims.resultIdx? i T = some (ix3 k g c)), u i = _
  rw [hz, zero_add, Finset.sum_filter, sum_idx2]
  have e (t : Fin 4096) (c' : Fin 256) : (if dims.resultIdx? (ix2 t c') T = some (ix3 k g c) then u (ix2 t c') else (0 : EReal))
      = if c' = c then (if g.val = j then (if p t.val = k.val then u (ix2 t c) else (0 : EReal)) else 0) else 0 := by
    have hl := lands T t c' k g c
    rw [hT.row, hT.group, small_word (hT.le t), small_word hj] at hl
    by_cases hc : c' = c
    · subst hc
      rw [if_pos rfl, ← ite_and]
      refine if_congr (hl.trans ⟨fun h => ⟨?_, ?_⟩, fun h => ⟨?_, ?_, rfl⟩⟩) rfl rfl
      · exact_mod_cast h.2.1.symm
      · exact_mod_cast h.1
      · exact_mod_cast h.2
      · exact_mod_cast h.1.symm
    · rw [if_neg hc, if_neg fun h => hc (hl.1 h).2.2]
  simp only [e, Finset.sum_ite_eq', Finset.mem_univ, if_true]
  by_cases hg : g.val = j
  · simp only [hg, if_true]
  · simp only [hg, if_false, Finset.sum_const_zero]

theorem foldl_add {α : Type*} (l : List α) (f : α → EReal) (v : EReal) : l.foldl (fun r n => r + f n) v = v + (l.map f).sum := by
  induction l generalizing v with
  | nil => simp
  | cons a l ih => rw [List.foldl_cons, ih, List.map_cons, List.sum_cons, add_assoc]

/-- The running sum from below, at any extents: row r adds up itself and every later row. -/
theorem suffix_sum {N M A B : ℕ} (x : Vec Ideal ⟨3, ![N, A, B]⟩ .f32) (w : EReal) (hw : w = 0)
    (h : (⟨3, ![N, A, B]⟩ : Shape).ReduceWindows (![N, 1, 1] : Fin 3 → ℕ) ![1, 1, 1] ![0, 0, 0] ![M, 0, 0] ⟨3, ![N, A, B]⟩) (hu : 0 < (⟨0, ![]⟩ : Shape).numel)
    (r : Fin N) (g : Fin A) (c : Fin B) :
    (Host.reduceWindow (fun a b : EReal => a + b) ![N, 1, 1] ![1, 1, 1] ![0, 0, 0] ![M, 0, 0] x (fun _ : (⟨0, ![]⟩ : Shape).Idx => w) h hu (ix3 r g c) : EReal)
      = ∑ k : Fin N, if h : r.val + k.val < N then x (ix3 ⟨r.val + k.val, h⟩ g c) else (0 : EReal) := by
  subst hw
  unfold Host.reduceWindow
  dsimp only
  rw [foldl_add, zero_add, ← Fin.sum_univ_def]
  let F : (⟨3, ![N, 1, 1]⟩ : Shape).Idx → EReal := fun i => if h : r.val + (i 0).val < N then x (ix3 ⟨r.val + (i 0).val, h⟩ g c) else 0
  refine (Finset.sum_congr rfl fun n _ => ?_ : _ = ∑ n, F ((⟨3, ![N, 1, 1]⟩ : Shape).rowMajor.symm n)).trans ?_
  · let i : (⟨3, ![N, 1, 1]⟩ : Shape).Idx := (⟨3, ![N, 1, 1]⟩ : Shape).rowMajor.symm n
    have i1 : (i 1).val = 0 := by have : (i 1).val < 1 := (i 1).isLt; omega
    have i2 : (i 2).val = 0 := by have : (i 2).val < 1 := (i 2).isLt; omega
    show _ = if h : r.val + (i 0).val < N then x (ix3 ⟨r.val + (i 0).val, h⟩ g c) else 0
    by_cases h : r.val + (i 0).val < N
    · rw [dif_pos h, dif_pos fun a => by
        match a with
        | ⟨0, _⟩ => exact ⟨Nat.zero_le _, (by omega : r.val * 1 + (i 0).val - 0 < N)⟩
        | ⟨1, _⟩ => exact ⟨Nat.zero_le _, (by have := g.isLt; omega : g.val * 1 + (i 1).val - 0 < A)⟩
        | ⟨2, _⟩ => exact ⟨Nat.zero_le _, (by have := c.isLt; omega : c.val * 1 + (i 2).val - 0 < B)⟩]
      congr 1
      funext a
      match a with
      | ⟨0, _⟩ => exact Fin.ext (by omega : r.val * 1 + (i 0).val - 0 = r.val + (i 0).val)
      | ⟨1, _⟩ => exact Fin.ext (by omega : g.val * 1 + (i 1).val - 0 = g.val)
      | ⟨2, _⟩ => exact Fin.ext (by omega : c.val * 1 + (i 2).val - 0 = c.val)
    · rw [dif_neg h, dif_neg fun hin => h (by have := (hin 0).2; have e : r.val * 1 + (i 0).val - 0 < N := this; omega)]
  · rw [Equiv.sum_comp (⟨3, ![N, 1, 1]⟩ : Shape).rowMajor.symm F, sum_idx3]
    refine Finset.sum_congr rfl fun k _ => ?_
    rw [Fin.sum_univ_one, Fin.sum_univ_one]
    rfl

/-- The reference's own. -/
theorem suffix (x0 : Vec Ideal S4096x1024 .f32) (r : Fin 4096) (g : Fin 4) (c : Fin 256) :
    (val_main_v210 (F := Ideal) x0 (ix3 r g c) : EReal) = ∑ k : Fin 4096, if h : r.val + k.val < 4096 then val_main_v209 (F := Ideal) x0 (ix3 ⟨r.val + k.val, h⟩ g c) else (0 : EReal) := by
  refine Eq.trans ?_ (suffix_sum (N := 4096) (M := 4095) (A := 4) (B := 256) (val_main_v209 (F := Ideal) x0) (val_main_call9_call0_v0 (F := Ideal) (Shape.Idx.first h_S_)) ?_ reduceWindows_S4096x4x256_S4096x4x256_w4096s1p0_4095_w1s1p0_0_w1s1p0_0 (by decide) r g c)
  · unfold val_main_v210 Host.reduceWindowAdd
    dsimp only [FloatOps.hostReduceWindowAdd, Ideal.hostReduceWindowAdd]
  · pointwise [val_main_call9_call0_v0, val_main_call9_call0_cst]

/-- Summed over the later rows, the rows a table names leave every entry whose row number is later. -/
theorem suffix_named {p : ℕ} (hp : p ≤ 4096) (a : ℝ) {r : ℕ} (hr : r < 4096) :
    ∑ k : Fin 4096, (if r + k.val < 4096 then (if p = 1 + (r + k.val) then a else 0) else 0) = if r < p then a else 0 := by
  by_cases h : r < p
  · rw [if_pos h, Finset.sum_eq_single (⟨p - r - 1, by omega⟩ : Fin 4096)]
    · rw [if_pos (show r + (p - r - 1) < 4096 by omega), if_pos (show p = 1 + (r + (p - r - 1)) by omega)]
    · intro k _ hk
      by_cases hl : r + k.val < 4096
      · rw [if_pos hl, if_neg fun e => hk (Fin.ext (by show k.val = p - r - 1; omega))]
      · rw [if_neg hl]
    · intro hn
      exact absurd (Finset.mem_univ _) hn
  · rw [if_neg h]
    refine Finset.sum_eq_zero fun k _ => ?_
    by_cases hl : r + k.val < 4096
    · rw [if_pos hl, if_neg (by omega)]
    · rw [if_neg hl]

/-- Adding each entry from its window's last row downwards and taking it off again below its first leaves it in its window. -/
theorem windowed (e : ℕ → ℝ) (h : ℕ) {r : ℕ} (hr : r < 4096) :
    ∑ k : Fin 4096, (if r + k.val < 4096 then (∑ t : Fin 4096, (if lo h t.val = 1 + (r + k.val) then -e t.val else 0)) + ∑ t : Fin 4096, (if hi h t.val = 1 + (r + k.val) then e t.val else 0) else 0)
      = ∑ t ∈ (Finset.range 4096).filter (fun t => t - h ≤ r ∧ r < t + h), e t := by
  have split (k : Fin 4096) : (if r + k.val < 4096 then (∑ t : Fin 4096, (if lo h t.val = 1 + (r + k.val) then -e t.val else 0)) + ∑ t : Fin 4096, (if hi h t.val = 1 + (r + k.val) then e t.val else 0) else 0)
      = ∑ t : Fin 4096, ((if r + k.val < 4096 then (if lo h t.val = 1 + (r + k.val) then -e t.val else 0) else 0) + (if r + k.val < 4096 then (if hi h t.val = 1 + (r + k.val) then e t.val else 0) else 0)) := by
    by_cases hl : r + k.val < 4096
    · simp only [if_pos hl, Finset.sum_add_distrib]
    · simp only [if_neg hl, add_zero, Finset.sum_const_zero]
  simp only [split]
  rw [Finset.sum_comm, Finset.sum_filter, ← Fin.sum_univ_eq_sum_range (fun t => if t - h ≤ r ∧ r < t + h then e t else 0) 4096]
  refine Finset.sum_congr rfl fun t _ => ?_
  rw [Finset.sum_add_distrib, suffix_named (lo_le h t) _ hr, suffix_named (hi_le h t) _ hr]
  have ht := t.isLt
  have hw : r < hi h t.val ↔ r < t.val + h := by unfold hi; omega
  have hv : r < lo h t.val ↔ ¬ t.val - h ≤ r := by unfold lo; omega
  by_cases h1 : t.val - h ≤ r <;> by_cases h2 : r < t.val + h <;> simp [hw, hv, h1, h2]
  omega

end Cert.PoolWinRefIdeal.Hand

end
-- ==== Proof.PoolWinRefReal.lean ====
/-
  The reference's gradient at real arguments: what every row receives from the windows it lies in, less its own entry.
-/
module

public import proofs.«01_k».proof.Proof.PoolWinSums
public import proofs.«01_k».proof.Proof.PoolWinValue
public import proofs.«01_k».proof.Proof.SoftmaxReal

@[expose] public section

set_option maxRecDepth 16384
set_option maxHeartbeats 2000000

noncomputable section

namespace Cert.PoolWinRefIdeal.Hand

open Cert.PoolWinRefIdeal Cert.PoolWinRefIdeal.Gen Cert.PoolWinRefIdeal.Read Idealize.ShloMosaic Idealize.ShloMosaic.TcCoe Idealize.SL.Sem
open PoolWinReal SoftmaxReal
open scoped BigOperators

/-- The column of group g that stands at place c of it. -/
def col (g : Fin 4) (c : Fin 256) : Fin 1024 := ⟨g.val * 256 + c.val, by have := g.isLt; have := c.isLt; omega⟩

/-- What row t spreads over its window, in column d. -/
def E (X : Fin 4096 → Fin 1024 → ℝ) (g : Fin 4) (c : Fin 256) (t : ℕ) : ℝ := if ht : t < 4096 then X ⟨t, ht⟩ (col g c) / (rows (2 ^ g.val) t : ℝ) else 0

theorem rows_ne {h t : ℕ} (hh : 0 < h) (ht : t < 4096) : ((rows h t : ℕ) : ℝ) ≠ 0 := by
  have : rows h t ≠ 0 := by unfold rows; omega
  exact_mod_cast this

variable {x0 : Vec Ideal S4096x1024 .f32} {X : Fin 4096 → Fin 1024 → ℝ} (hX : ∀ t d, x0 (ix2 t d) = (X t d : EReal))

theorem own (t : Fin 4096) (g : Fin 4) (c : Fin 256) : val_main_v164 (F := Ideal) x0 (ix3 t g c) = x0 (ix2 t (col g c)) := by
  pointwise [val_main_v164]
  rfl

theorem counts (t : Fin 4096) (g : Fin 4) (c : Fin 256) : (val_main_v166 (F := Ideal) (ix3 t g c) : EReal) = ((rows (2 ^ g.val) t.val : ℕ) : ℝ) := by
  rw [← rows_real, ← rows_word _ _ t.isLt, ← lo_at, ← hi_at]
  pointwise [val_main_v166, val_main_v158, val_main_v157, val_main_v156]

include hX in
theorem spread (t : Fin 4096) (g : Fin 4) (c : Fin 256) : (val_main_v167 (F := Ideal) x0 (ix3 t g c) : EReal) = (E X g c t.val : ℝ) := by
  rw [val_main_v167_apply]
  show Ideal.div (val_main_v164 (F := Ideal) x0 (ix3 t g c)) (val_main_v166 (F := Ideal) (ix3 t g c)) = _
  rw [own, counts, hX, div_real _ (rows_ne (by positivity) t.isLt)]
  unfold E
  rw [dif_pos t.isLt]

include hX in
theorem spread_neg (t : Fin 4096) (g : Fin 4) (c : Fin 256) : (val_main_v168 (F := Ideal) x0 (ix3 t g c) : EReal) = (-E X g c t.val : ℝ) := by
  rw [val_main_v168_apply]
  show -(val_main_v167 (F := Ideal) x0 (ix3 t g c) : EReal) = _
  rw [spread hX, EReal.coe_neg]

theorem zeros (i : S4097x4x256.Idx) : (val_main_v177 (F := Ideal) i : EReal) = 0 := by
  obtain ⟨a, b, c, rfl⟩ : ∃ (a : Fin 4097) (b : Fin 4) (c : Fin 256), i = ix3 a b c := ⟨i 0, i 1, i 2, eq_ix3 i⟩
  pointwise [val_main_v177, val_main_cst_53]

/-- A table scatters one group's columns; where the entry's group is the table's, those are its own group's. -/
theorem group {T : IVec S4096x2 32} {p : ℕ → ℕ} {j : Fin 4} (hT : Pairs T p j.val) (u : Vec Ideal S4096x256 .f32) (v : Vec Ideal S4096x4x256 .f32)
    (hu : ∀ (t : Fin 4096) (c : Fin 256), u (ix2 t c) = v (ix3 t j c)) (k : Fin 4097) (g : Fin 4) (c : Fin 256) :
    (Host.scatterAdd (F := Ideal) (φ := .f32) dims (val_main_v177 (F := Ideal)) T u (ix3 k g c) : EReal)
      = if g = j then ∑ t : Fin 4096, (if p t.val = k.val then v (ix3 t g c) else (0 : EReal)) else 0 := by
  rw [scattered hT (by have := j.isLt; omega) _ zeros]
  by_cases hg : g = j
  · subst hg
    simp only [if_true, hu]
  · rw [if_neg hg, if_neg fun e => hg (Fin.ext e)]

/-- The scattered entries: row k takes off what the windows that begin there spread and adds what those that end there do. -/
theorem both (k : Fin 4097) (g : Fin 4) (c : Fin 256) : (val_main_v207 (F := Ideal) x0 (ix3 k g c) : EReal)
    = (∑ t : Fin 4096, if lo (2 ^ g.val) t.val = k.val then val_main_v168 (F := Ideal) x0 (ix3 t g c) else (0 : EReal))
      + ∑ t : Fin 4096, if hi (2 ^ g.val) t.val = k.val then val_main_v167 (F := Ideal) x0 (ix3 t g c) else (0 : EReal) := by
  have l3 : (val_main_v178 (F := Ideal) x0 (ix3 k g c) : EReal) = _ := group (j := 3) lo_3 _ (val_main_v168 (F := Ideal) x0) (fun t c => by pointwise [val_main_v176, val_main_v175]) k g c
  have l2 : (val_main_v180 (F := Ideal) x0 (ix3 k g c) : EReal) = _ := group (j := 2) lo_2 _ (val_main_v168 (F := Ideal) x0) (fun t c => by pointwise [val_main_v174, val_main_v173]) k g c
  have l1 : (val_main_v183 (F := Ideal) x0 (ix3 k g c) : EReal) = _ := group (j := 1) lo_1 _ (val_main_v168 (F := Ideal) x0) (fun t c => by pointwise [val_main_v172, val_main_v171]) k g c
  have l0 : (val_main_v186 (F := Ideal) x0 (ix3 k g c) : EReal) = _ := group (j := 0) lo_0 _ (val_main_v168 (F := Ideal) x0) (fun t c => by pointwise [val_main_v170, val_main_v169]) k g c
  have h3 : (val_main_v197 (F := Ideal) x0 (ix3 k g c) : EReal) = _ := group (j := 3) hi_3 _ (val_main_v167 (F := Ideal) x0) (fun t c => by pointwise [val_main_v195, val_main_v194]) k g c
  have h2 : (val_main_v200 (F := Ideal) x0 (ix3 k g c) : EReal) = _ := group (j := 2) hi_2 _ (val_main_v167 (F := Ideal) x0) (fun t c => by pointwise [val_main_v193, val_main_v192]) k g c
  have h1 : (val_main_v203 (F := Ideal) x0 (ix3 k g c) : EReal) = _ := group (j := 1) hi_1 _ (val_main_v167 (F := Ideal) x0) (fun t c => by pointwise [val_main_v191, val_main_v190]) k g c
  have h0 : (val_main_v206 (F := Ideal) x0 (ix3 k g c) : EReal) = _ := group (j := 0) hi_0 _ (val_main_v167 (F := Ideal) x0) (fun t c => by pointwise [val_main_v189, val_main_v188]) k g c
  show (((((((val_main_v178 (F := Ideal) x0 (ix3 k g c) : EReal) + val_main_v180 (F := Ideal) x0 (ix3 k g c)) + val_main_v183 (F := Ideal) x0 (ix3 k g c)) + val_main_v186 (F := Ideal) x0 (ix3 k g c))
    + val_main_v197 (F := Ideal) x0 (ix3 k g c)) + val_main_v200 (F := Ideal) x0 (ix3 k g c)) + val_main_v203 (F := Ideal) x0 (ix3 k g c)) + val_main_v206 (F := Ideal) x0 (ix3 k g c) = _
  rw [l3, l2, l1, l0, h3, h2, h1, h0]
  fin_cases g <;> simp

include hX in
/-- The running sum of them is what the row's windows bring. -/
theorem brought (r : Fin 4096) (g : Fin 4) (c : Fin 256) : (val_main_v210 (F := Ideal) x0 (ix3 r g c) : EReal) = win (2 ^ g.val) (fun t => ((E X g c t : ℝ) : EReal)) r.val := by
  unfold win
  rw [suffix, ← coe_sum, ← windowed _ _ r.isLt, coe_sum]
  refine Finset.sum_congr rfl fun k _ => ?_
  by_cases h : r.val + k.val < 4096
  · rw [dif_pos h, if_pos h, EReal.coe_add, coe_sum, coe_sum]
    have hs : val_main_v209 (F := Ideal) x0 (ix3 ⟨r.val + k.val, h⟩ g c) = val_main_v207 (F := Ideal) x0 (ix3 (⟨1 + (r.val + k.val), by omega⟩ : Fin 4097) g c) := by
      pointwise [val_main_v209]
    rw [hs, both]
    simp only [spread hX, spread_neg hX, apply_ite (fun a : ℝ => (a : EReal)), EReal.coe_zero]
  · rw [dif_neg h, if_neg h, EReal.coe_zero]

include hX in
theorem result (r : Fin 4096) (d : Fin 1024) : (val_main_v212 (F := Ideal) x0 (ix2 r d) : EReal) = Cert.PoolWinIdeal.Hand.OUT x0 r d := by
  obtain ⟨g, c, rfl⟩ : ∃ (g : Fin 4) (c : Fin 256), d = col g c := by
    have := d.isLt
    exact ⟨⟨d.val / 256, by omega⟩, ⟨d.val % 256, by omega⟩, Fin.ext (by show d.val = d.val / 256 * 256 + d.val % 256; omega)⟩
  have hg : (col g c).val / 256 = g.val := by have := c.isLt; show (g.val * 256 + c.val) / 256 = g.val; omega
  have hs : val_main_v212 (F := Ideal) x0 (ix2 r (col g c)) = val_main_v211 (F := Ideal) x0 (ix3 r g c) := by
    pointwise [val_main_v212]
    congr 2
    · exact Fin.ext hg
    · exact Fin.ext (by have := c.isLt; show (g.val * 256 + c.val) % 256 = c.val; omega)
  rw [hs]
  show -(val_main_v164 (F := Ideal) x0 (ix3 r g c) : EReal) + val_main_v210 (F := Ideal) x0 (ix3 r g c) = _
  rw [own, brought hX, add_comm, ← sub_eq_add_neg]
  unfold Cert.PoolWinIdeal.Hand.OUT
  rw [hg]
  congr 2
  funext t
  unfold E
  by_cases ht : t < 4096
  · rw [dif_pos ht, dif_pos ht, hX, div_real _ (rows_ne (by positivity) ht)]
  · rw [dif_neg ht, dif_neg ht, EReal.coe_zero]

end Cert.PoolWinRefIdeal.Hand

end
-- ==== Proof.PoolWinClaim.lean ====
/-
  The claims about the pooling windows' gradient, at a finite argument.
-/
module

public import proofs.«01_k».proof.Defs
public import proofs.«01_k».proof.Proof.Gen.PoolWin.Frame
public import proofs.«01_k».proof.Proof.Gen.PoolWinRefIdeal.Run
public import proofs.«01_k».proof.Proof.PoolWinValue
public import proofs.«01_k».proof.Proof.PoolWinRefReal
public import proofs.«01_k».proof.Proof.FiniteReal
public import Idealize.ShloMosaic.Lib.Quiescent

@[expose] public section

set_option maxRecDepth 16384
set_option maxHeartbeats 1000000

noncomputable section

namespace Cert.Proof.PoolWin

open Idealize.ShloMosaic Idealize.ShloMosaic.TcCoe Idealize.SL.Sem

theorem pre_facts : Cert.Pre_poolwin_finite.Facts where
  bcast_S_S4096x1024 := by decide

theorem frame : Cert.quiescent_PoolWin := fun m ρ _ => Cert.PoolWin.Gen.frame m ρ
theorem frameIdeal : Cert.quiescent_PoolWinIdeal := fun m ρ _ => Cert.PoolWinIdeal.Gen.frame m ρ
theorem frameIdealPre : Cert.quiescent_PoolWinIdeal_pre_poolwin_finite (hPre_poolwin_finite := pre_facts) := fun m ρ _ => Cert.PoolWinIdeal.Gen.frame m ρ
theorem frameRef : Cert.quiescent_PoolWinRefIdeal := fun m ρ _ =>
  (θ_run Cert.PoolWinRefIdeal.defs _ _).mono (fun r h => ⟨fun c => (h c).2, sem_eq_zero_of_no_sems (by decide) r.2⟩)
    (Cert.PoolWinRefIdeal.Value.run (F := Ideal) m ρ)
theorem frameRefPre : Cert.quiescent_PoolWinRefIdeal_pre_poolwin_finite (hPre_poolwin_finite := pre_facts) := fun m ρ _ => frameRef m ρ trivial
theorem preserves : Cert.preserves_PoolWin_PoolWinIdeal := trivial

open Cert.PoolWinIdeal.Hand Cert.PoolWinRefIdeal.Hand in
theorem algebraic : Cert.algebraic_PoolWinIdeal_PoolWinRefIdeal_pre_poolwin_finite (hPre_poolwin_finite := pre_facts) := by
  intro m ρ m' ρ' hpre hagree
  have args (c : Dev Cert.PoolWinRefIdeal.nD) : StableHlo.launchContents m' c (Proc.devRef .tc Cert.PoolWinRefIdeal.main_arg0) = m ((c.tc : Thread Cert.PoolWinIdeal.nD Cert.PoolWinIdeal.τ).loc Cert.PoolWinIdeal.main_arg0) := hagree c
  choose X hX using fun c y => FiniteReal.real_of_cmp (congrFun (hpre c) y)
  refine ⟨fun c i => OUT (m ((c.tc : Thread Cert.PoolWinIdeal.nD Cert.PoolWinIdeal.τ).loc Cert.PoolWinIdeal.main_arg0)) (i 0) (i 1),
    (θ_run Cert.PoolWinIdeal.defs _ _).mono (fun _ h c => ⟨(h c).1.trans (array m c), (h c).2⟩) (Cert.PoolWinIdeal.Value.run_blocks (F := Ideal) m ρ),
    (θ_run Cert.PoolWinRefIdeal.defs _ _).mono (fun _ h c => ⟨(h c).1.trans ?_, (h c).2⟩) (Cert.PoolWinRefIdeal.Value.run (F := Ideal) m' ρ')⟩
  rw [Cert.PoolWinRefIdeal.Read.val_main_v212_eq, args c]
  refine funext fun (y : Cert.PoolWinRefIdeal.S4096x1024.Idx) => ?_
  obtain ⟨r, d, rfl⟩ : ∃ (r : Fin 4096) (d : Fin 1024), y = ix2 r d := ⟨y 0, y 1, eq_ix2 y⟩
  exact result (X := fun t d => X c (ix2 t d)) (fun t d => hX c _) r d

end Cert.Proof.PoolWin

end
-- ==== Proof.NormFwdValue.lean ====
/-
  The norm, forward (`NormFwd`): a row times the inverse of its root mean square, times the gain; the kernel does it in
  blocks of 512 rows.
-/
module

public import proofs.«01_k».proof.Proof.Gen.NormFwdIdeal.Value
public import proofs.«01_k».proof.Proof.RmsGrad
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormFwdIdeal.Hand

open Cert.NormFwdIdeal Cert.NormFwdIdeal.Gen Idealize.ShloMosaic Idealize.ShloMosaic.TcCoe Idealize.SL.Sem
open scoped BigOperators

/-- The normed rows. -/
def H (x : Vec Ideal S4096x1024 .f32) (g : Vec Ideal S1x1024 .f32) : Vec Ideal S4096x1024 .bf16 := fun i =>
  x (ix2 (i 0) (i 1)) * RmsGrad.inv (fun k : Fin 1024 => x (ix2 (i 0) k)) * g (ix2 0 (i 1))

variable (m : (ℓ : Loc nD τ sig) → Buf (Elt Ideal) ℓ)

theorem idx : ∀ t, win0_0.index t = ![t.val, 0] ∧ win0_1.index t = ![0, 0] ∧ win0_2.index t = ![t.val, 0] := by decide +kernel

theorem pay_h (x : Vec Ideal S512x1024 .f32) (g : Vec Ideal S1x1024 .f32) (r : Fin 512) (l : Fin 1024) :
    k0_pay1 x g (ix2 r l) = x (ix2 r l) * RmsGrad.inv (fun k : Fin 1024 => x (ix2 r k)) * g (ix2 0 l) := by
  pointwise [k0_pay1]
  rfl

theorem h_array (c : Dev nD) : (dats m 0 c).arrAt 2 cfg0.N
    = H (m ((c : Thread nD τ).loc main_arg0)) (m ((c : Thread nD τ).loc main_arg1)) := by
  refine (dats m 0 c).arrAt_eq_of_covers 2 _ (by decide +kernel) fun t hf (y : S512x1024.Idx) => ?_
  blk_simp
  rw [after0_2]
  unfold out0_2
  frame_out
  obtain ⟨r, l, rfl⟩ : ∃ (r : Fin 512) (l : Fin 1024), y = ix2 r l := ⟨y 0, y 1, eq_ix2 y⟩
  rw [pay_h]
  unfold H
  blk_point [iblk, V, idx t]

end Cert.NormFwdIdeal.Hand

end
-- ==== Proof.NormFwdClaim.lean ====
/-
  The claims about the norm, forward.
-/
module

public import proofs.«01_k».proof.Defs
public import proofs.«01_k».proof.Proof.Gen.NormFwd.Frame
public import proofs.«01_k».proof.Proof.Gen.NormFwdRefIdeal.Run
public import proofs.«01_k».proof.Proof.NormFwdValue
public import Idealize.ShloMosaic.Lib.Quiescent

@[expose] public section

set_option maxRecDepth 16384

noncomputable section

namespace Cert.Proof.NormFwd

open Idealize.ShloMosaic Idealize.ShloMosaic.TcCoe Idealize.SL.Sem

theorem frame : Cert.quiescent_NormFwd := fun m ρ _ => Cert.NormFwd.Gen.frame m ρ
theorem frameIdeal : Cert.quiescent_NormFwdIdeal := fun m ρ _ => Cert.NormFwdIdeal.Gen.frame m ρ
theorem frameRef : Cert.quiescent_NormFwdRefIdeal := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)
theorem preserves : Cert.preserves_NormFwd_NormFwdIdeal := trivial

theorem algebraic : Cert.algebraic_NormFwdIdeal_NormFwdRefIdeal := by
  intro m ρ m' ρ' _ hagree
  refine ⟨fun c => Cert.NormFwdIdeal.Hand.H _ _,
    (θ_run Cert.NormFwdIdeal.defs _ _).mono (fun _ h c => ⟨(h c).1.trans (Cert.NormFwdIdeal.Hand.h_array m c), (h c).2⟩)
      (Cert.NormFwdIdeal.Value.run_blocks (F := Ideal) m ρ),
    (θ_run Cert.NormFwdRefIdeal.defs _ _).mono (fun _ h c => ⟨(h c).1.trans ?_, (h c).2⟩)
      (Cert.NormFwdRefIdeal.Value.run (F := Ideal) m' ρ')⟩
  rw [(hagree c).1, (hagree c).2]
  refine funext fun (i : Cert.NormFwdRefIdeal.S4096x1024.Idx) => ?_
  unfold Cert.NormFwdIdeal.Hand.H
  obtain ⟨r, l, rfl⟩ : ∃ (r : Fin 4096) (l : Fin 1024), i = ix2 r l := ⟨i 0, i 1, eq_ix2 i⟩
  pointwise
  rfl

end Cert.Proof.NormFwd

end
-- ==== Proof.ResNormValue.lean ====
/-
  A projection with its residual and the next layer's norm, forward (`ResNorm`): the rows `res + o·w`, and those rows
  normed; the kernel does both in blocks of 1024 rows.
-/
module

public import proofs.«01_k».proof.Proof.Gen.ResNormIdeal.Value
public import proofs.«01_k».proof.Proof.RmsGrad
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ResNormIdeal.Hand

open Cert.ResNormIdeal Cert.ResNormIdeal.Gen Idealize.ShloMosaic Idealize.ShloMosaic.TcCoe Idealize.SL.Sem
open scoped BigOperators

/-- The rows with their residual. -/
def X (o : Vec Ideal S4096x1024 .bf16) (w : Vec Ideal S1024x1024 .bf16) (res : Vec Ideal S4096x1024 .f32) : Vec Ideal S4096x1024 .f32 :=
  fun i => res (ix2 (i 0) (i 1)) + ∑ j : Fin 1024, o (ix2 (i 0) j) * w (ix2 j (i 1))

/-- Those rows, normed. -/
def H (o : Vec Ideal S4096x1024 .bf16) (w : Vec Ideal S1024x1024 .bf16) (res : Vec Ideal S4096x1024 .f32) (g : Vec Ideal S1x1024 .f32) :
    Vec Ideal S4096x1024 .bf16 := fun i =>
  X o w res (ix2 (i 0) (i 1)) * RmsGrad.inv (fun k : Fin 1024 => X o w res (ix2 (i 0) k)) * g (ix2 0 (i 1))

variable (m : (ℓ : Loc nD τ sig) → Buf (Elt Ideal) ℓ)

theorem idx : ∀ t, win0_0.index t = ![t.val, 0] ∧ win0_1.index t = ![0, 0] ∧ win0_2.index t = ![t.val, 0]
    ∧ win0_3.index t = ![0, 0] ∧ win0_4.index t = ![t.val, 0] ∧ win0_5.index t = ![t.val, 0] := by decide +kernel

theorem pay_x (res : Vec Ideal S1024x1024 .f32) (o w : Vec Ideal S1024x1024 .bf16) (r l : Fin 1024) :
    k0_pay1 res o w (ix2 r l) = res (ix2 r l) + ∑ j : Fin 1024, o (ix2 r j) * w (ix2 j l) := by
  pointwise [k0_pay1]

theorem pay_h (res : Vec Ideal S1024x1024 .f32) (o w : Vec Ideal S1024x1024 .bf16) (g : Vec Ideal S1x1024 .f32) (r l : Fin 1024) :
    k0_pay2 res o w g (ix2 r l) = (res (ix2 r l) + ∑ j : Fin 1024, o (ix2 r j) * w (ix2 j l))
      * RmsGrad.inv (fun k : Fin 1024 => res (ix2 r k) + ∑ j : Fin 1024, o (ix2 r j) * w (ix2 j k)) * g (ix2 0 l) := by
  pointwise [k0_pay2, k0_pay1]
  rfl

theorem x_array (c : Dev nD) : (dats m 0 c).arrAt 4 cfg0.N
    = X (m ((c : Thread nD τ).loc main_arg0)) (m ((c : Thread nD τ).loc main_arg1)) (m ((c : Thread nD τ).loc main_arg2)) := by
  refine (dats m 0 c).arrAt_eq_of_covers 4 _ (by decide +kernel) fun t hf (y : S1024x1024.Idx) => ?_
  blk_simp
  rw [after0_4]
  unfold out0_4
  frame_out
  obtain ⟨r, l, rfl⟩ : ∃ (r l : Fin 1024), y = ix2 r l := ⟨y 0, y 1, eq_ix2 y⟩
  rw [pay_x]
  unfold X
  blk_point [iblk, V, idx t]

theorem h_array (c : Dev nD) : (dats m 0 c).arrAt 5 cfg0.N
    = H (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf (y : S1024x1024.Idx) => ?_
  blk_simp
  rw [after0_5]
  unfold out0_5
  frame_out
  obtain ⟨r, l, rfl⟩ : ∃ (r l : Fin 1024), y = ix2 r l := ⟨y 0, y 1, eq_ix2 y⟩
  rw [pay_h]
  unfold H X
  blk_point [iblk, V, idx t]

end Cert.ResNormIdeal.Hand

end
-- ==== Proof.ResNormClaim.lean ====
/-
  The claims about a projection with its residual and the next layer's norm, forward.
-/
module

public import proofs.«01_k».proof.Defs
public import proofs.«01_k».proof.Proof.Gen.ResNorm.Frame
public import proofs.«01_k».proof.Proof.Gen.ResNormRefIdeal.Run
public import proofs.«01_k».proof.Proof.ResNormValue
public import Idealize.ShloMosaic.Lib.Quiescent

@[expose] public section

set_option maxRecDepth 16384

noncomputable section

namespace Cert.Proof.ResNorm

open Idealize.ShloMosaic Idealize.ShloMosaic.TcCoe Idealize.SL.Sem

theorem frame : Cert.quiescent_ResNorm := fun m ρ _ => Cert.ResNorm.Gen.frame m ρ
theorem frameIdeal : Cert.quiescent_ResNormIdeal := fun m ρ _ => Cert.ResNormIdeal.Gen.frame m ρ
theorem frameRef : Cert.quiescent_ResNormRefIdeal := fun m ρ _ =>
  (θ_run Cert.ResNormRefIdeal.defs _ _).mono (fun r h => ⟨fun c => (h c).2.2, sem_eq_zero_of_no_sems (by decide) r.2⟩)
    (Cert.ResNormRefIdeal.Value.run (F := Ideal) m ρ)
theorem preserves : Cert.preserves_ResNorm_ResNormIdeal := trivial

theorem algebraic : Cert.algebraic_ResNormIdeal_ResNormRefIdeal := by
  intro m ρ m' ρ' _ hagree
  refine ⟨fun c => Cert.ResNormIdeal.Hand.X _ _ _, fun c => Cert.ResNormIdeal.Hand.H _ _ _ _,
    (θ_run Cert.ResNormIdeal.defs _ _).mono (fun _ h c => ⟨(h c).1.trans (Cert.ResNormIdeal.Hand.x_array m c),
      (h c).2.1.trans (Cert.ResNormIdeal.Hand.h_array m c), (h c).2.2⟩) (Cert.ResNormIdeal.Value.run_blocks (F := Ideal) m ρ),
    (θ_run Cert.ResNormRefIdeal.defs _ _).mono (fun _ h c => ⟨(h c).1.trans ?_, (h c).2.1.trans ?_, (h c).2.2⟩)
      (Cert.ResNormRefIdeal.Value.run (F := Ideal) m' ρ')⟩
  · rw [(hagree c).1, (hagree c).2.1, (hagree c).2.2.1]
    refine funext fun (i : Cert.ResNormRefIdeal.S4096x1024.Idx) => ?_
    unfold Cert.ResNormIdeal.Hand.X
    obtain ⟨r, l, rfl⟩ : ∃ (r : Fin 4096) (l : Fin 1024), i = ix2 r l := ⟨i 0, i 1, eq_ix2 i⟩
    pointwise
  · rw [(hagree c).1, (hagree c).2.1, (hagree c).2.2.1, (hagree c).2.2.2]
    refine funext fun (i : Cert.ResNormRefIdeal.S4096x1024.Idx) => ?_
    unfold Cert.ResNormIdeal.Hand.H Cert.ResNormIdeal.Hand.X
    obtain ⟨r, l, rfl⟩ : ∃ (r : Fin 4096) (l : Fin 1024), i = ix2 r l := ⟨i 0, i 1, eq_ix2 i⟩
    pointwise
    rfl

end Cert.Proof.ResNorm

end
-- ==== Proof.PoolOutValue.lean ====
/-
  The pooling layer's group projection and channel scale with the residual, forward (`PoolOut`): each entry is the
  residual plus the scaled product of the row's own group of 256 channels with that group's weight. The kernel does the
  four groups of a block of 512 rows one after another.
-/
module

public import proofs.«01_k».proof.Proof.Gen.PoolOutIdeal.Value
public import Idealize.ShloMosaic.Lib.Pointwise
public import Idealize.ShloMosaic.Lib.Pipeline.ValueKit

@[expose] public section

set_option maxRecDepth 16384

noncomputable section

namespace Cert.PoolOutIdeal.Hand

open Cert.PoolOutIdeal Cert.PoolOutIdeal.Gen Idealize.ShloMosaic Idealize.ShloMosaic.TcCoe Idealize.SL.Sem
open scoped BigOperators

/-- The group of a channel, its place there, and channel `j` of its group. -/
def grp (l : Fin 1024) : Fin 4 := ⟨l.val / 256, by omega⟩
def plc (l : Fin 1024) : Fin 256 := ⟨l.val % 256, by omega⟩
def mate (l : Fin 1024) (j : Fin 256) : Fin 1024 := ⟨l.val / 256 * 256 + j.val, by omega⟩

/-- The projected rows with their residual. -/
def Y (mx : Vec Ideal S4096x1024 .bf16) (w : Vec Ideal S4x256x256 .bf16) (s : Vec Ideal S1x1024 .f32) (res : Vec Ideal S4096x1024 .f32) :
    Vec Ideal S4096x1024 .f32 := fun i =>
  res (ix2 (i 0) (i 1)) + (∑ j : Fin 256, mx (ix2 (i 0) (mate (i 1) j)) * w (ix3 (grp (i 1)) j (plc (i 1)))) * s (ix2 0 (i 1))

variable (m : (ℓ : Loc nD τ sig) → Buf (Elt Ideal) ℓ)

theorem idx : ∀ t, win0_0.index t = ![t.val, 0] ∧ win0_1.index t = ![0, 0, 0] ∧ win0_2.index t = ![0, 0]
    ∧ win0_3.index t = ![t.val, 0] ∧ win0_4.index t = ![t.val, 0] := by decide +kernel

theorem point (mx : Vec Ideal S512x1024 .bf16) (w : Vec Ideal S4x256x256 .bf16) (s : Vec Ideal S1x1024 .f32)
    (res : Vec Ideal S512x1024 .f32) (y : S512x1024.Idx) : out0_4 mx w s res y
    = res (ix2 (y 0) (y 1)) + (∑ j : Fin 256, mx (ix2 (y 0) (mate (y 1) j)) * w (ix3 (grp (y 1)) j (plc (y 1)))) * s (ix2 0 (y 1)) := by
  unfold out0_4
  canon_tiles x h
  all_goals
    open_payloads
    pointwise [mate, grp, plc]
    refine congrArg₂ (fun a b : EReal => a + b) ?_ (congrArg₂ (fun a b : EReal => a * b) (Finset.sum_congr rfl fun d _ =>
      congrArg₂ (fun a b : EReal => a * b) ?_ ?_) ?_) <;> blk_ext

theorem y_array (c : Dev nD) : (dats m 0 c).arrAt 4 cfg0.N
    = Y (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf (y : S512x1024.Idx) => ?_
  blk_simp
  rw [after0_4, point]
  unfold Y mate grp plc
  blk_point [iblk, V, idx t]

end Cert.PoolOutIdeal.Hand

end
-- ==== Proof.PoolOutClaim.lean ====
/-
  The claims about the pooling layer's group projection, forward.
-/
module

public import proofs.«01_k».proof.Defs
public import proofs.«01_k».proof.Proof.Gen.PoolOut.Frame
public import proofs.«01_k».proof.Proof.Gen.PoolOutRefIdeal.Run
public import proofs.«01_k».proof.Proof.PoolOutValue
public import Idealize.ShloMosaic.Lib.Quiescent

@[expose] public section

set_option maxRecDepth 16384

noncomputable section

namespace Cert.Proof.PoolOut

open Idealize.ShloMosaic Idealize.ShloMosaic.TcCoe Idealize.SL.Sem

theorem frame : Cert.quiescent_PoolOut := fun m ρ _ => Cert.PoolOut.Gen.frame m ρ
theorem frameIdeal : Cert.quiescent_PoolOutIdeal := fun m ρ _ => Cert.PoolOutIdeal.Gen.frame m ρ
theorem frameRef : Cert.quiescent_PoolOutRefIdeal := fun m ρ _ =>
  (θ_run Cert.PoolOutRefIdeal.defs _ _).mono (fun r h => ⟨fun c => (h c).2, sem_eq_zero_of_no_sems (by decide) r.2⟩)
    (Cert.PoolOutRefIdeal.Value.run (F := Ideal) m ρ)
theorem preserves : Cert.preserves_PoolOut_PoolOutIdeal := trivial

theorem algebraic : Cert.algebraic_PoolOutIdeal_PoolOutRefIdeal := by
  intro m ρ m' ρ' _ hagree
  refine ⟨fun c => Cert.PoolOutIdeal.Hand.Y _ _ _ _,
    (θ_run Cert.PoolOutIdeal.defs _ _).mono (fun _ h c => ⟨(h c).1.trans (Cert.PoolOutIdeal.Hand.y_array m c), (h c).2⟩)
      (Cert.PoolOutIdeal.Value.run_blocks (F := Ideal) m ρ),
    (θ_run Cert.PoolOutRefIdeal.defs _ _).mono (fun _ h c => ⟨(h c).1.trans ?_, (h c).2⟩)
      (Cert.PoolOutRefIdeal.Value.run (F := Ideal) m' ρ')⟩
  rw [(hagree c).1, (hagree c).2.1, (hagree c).2.2.1, (hagree c).2.2.2]
  refine funext fun (i : Cert.PoolOutRefIdeal.S4096x1024.Idx) => ?_
  unfold Cert.PoolOutIdeal.Hand.Y
  obtain ⟨r, l, rfl⟩ : ∃ (r : Fin 4096) (l : Fin 1024), i = ix2 r l := ⟨i 0, i 1, eq_ix2 i⟩
  pointwise
  exact congrArg (fun s : EReal => _ + s * _) (Finset.sum_congr rfl fun j _ => mul_comm _ _)

end Cert.Proof.PoolOut

end
-- ==== Proof.XattnOutValue.lean ====
/-
  The memory cross-attention, forward (`XattnOut`), at real arguments: each head of each block of 512 queries sums the
  values by their exponentials and divides by the exponentials' sum. The scores, the exponentials and the readings of a
  block are those of the gradient's modules.
-/
module

public import proofs.«01_k».proof.Proof.Gen.XattnOutIdeal.Value
public import proofs.«01_k».proof.Proof.XattnValue

@[expose] public section

set_option maxRecDepth 16384
set_option maxHeartbeats 2000000

noncomputable section

namespace Cert.XattnOutIdeal.Hand

open Cert.XattnOutIdeal Cert.XattnOutIdeal.Gen Idealize.ShloMosaic Idealize.ShloMosaic.TcCoe Idealize.SL.Sem
open XattnReal (hd kh vh)
open Cert.XattnIdeal.Hand (scores exps rowSum rowTop rowSum_apply rowTop_real exps_apply score_real band_real mat_real hOf pOf stack)
open scoped BigOperators

/-- One head's output from its queries, keys and values. -/
abbrev mix (q : Vec Ideal S512x256 .bf16) (k v : Vec Ideal S1x256x256 .bf16) : FVec Ideal S512x256 .bf16 :=
  truncf .bf16 (divf (matmul (F := Ideal) (φ₁ := .bf16) (φ₂ := .bf16) dot_S512x256_S256x256_S512x256_1_0_0_1_n_n none
      (truncf .bf16 (exps (scores q k)) bitsLt_bf16_f32 : FVec Ideal S512x256 .bf16)
      (shapeCast S256x256 v shapeCasts_S1x256x256_S256x256 : FVec Ideal S256x256 .bf16) (constant S512x256 .f32 0x00000000#32))
    (broadcastTo S512x256 (rowSum (exps (scores q k))) broadcasts_S512x1_S512x256)) bitsLt_bf16_f32

theorem mix_apply (x : FVec Ideal S512x256 .f32) (u : FVec Ideal S512x1 .f32) (v : Vec Ideal S1x256x256 .bf16) (r : Fin 512) (l : Fin 256) :
    (truncf .bf16 (divf (matmul (F := Ideal) (φ₁ := .bf16) (φ₂ := .bf16) dot_S512x256_S256x256_S512x256_1_0_0_1_n_n none
      (truncf .bf16 x bitsLt_bf16_f32 : FVec Ideal S512x256 .bf16)
      (shapeCast S256x256 v shapeCasts_S1x256x256_S256x256 : FVec Ideal S256x256 .bf16) (constant S512x256 .f32 0x00000000#32))
    (broadcastTo S512x256 u broadcasts_S512x1_S512x256)) bitsLt_bf16_f32 : FVec Ideal S512x256 .bf16) (ix2 r l)
      = Ideal.div (∑ j : Fin 256, x (ix2 r j) * v (ix3 0 j l) : EReal) (u (ix2 r 0)) := by
  pointwise []

variable {q : Vec Ideal S512x256 .bf16} {k v : Vec Ideal S1x256x256 .bf16} {a : Fin 512 → Fin 256 → ℝ} {b c : Fin 256 → Fin 256 → ℝ}

theorem mix_real (hq : ∀ r l, q (ix2 r l) = a r l) (hk : ∀ j l, k (ix3 0 j l) = b j l) (hv : ∀ j l, v (ix3 0 j l) = c j l)
    (r : Fin 512) (l : Fin 256) : mix q k v (ix2 r l) = (XattnReal.out (a r) b c l : EReal) := by
  have hs := score_real hq hk r
  unfold mix
  rw [mix_apply]
  generalize scores q k = x at hs ⊢
  obtain ⟨M, hM⟩ := rowTop_real x r _ hs
  have he (j : Fin 256) : exps x (ix2 r j) = (Real.exp (XattnReal.s (a r) b j - M) : EReal) := by
    rw [exps_apply, hs, hM, SoftmaxReal.exp_sub]
  rw [rowSum_apply]
  simp only [he, hv, ← EReal.coe_mul, ← SoftmaxReal.coe_sum]
  rw [SoftmaxReal.div_real _ (SoftmaxReal.sum_exp_pos _).ne', Finset.sum_div]
  refine congrArg (fun r : ℝ => (r : EReal)) (Finset.sum_congr rfl fun j _ => ?_)
  rw [← XattnReal.w_shift _ _ M, div_mul_eq_mul_div]

/-- A query's output at place `d` of head `h`. -/
def mean (Q : Fin 1024 → ℝ) (KV : Fin 8 → Fin 256 → Fin 256 → ℝ) (h : Fin 4) (d : Fin 256) : ℝ :=
  XattnReal.out (fun d => Q (hd h d)) (KV (kh h)) (KV (vh h)) d

section Block

variable {X : Vec Ideal S512x1024 .bf16} {Y : Vec Ideal S8x256x256 .bf16} {Q : Fin 512 → Fin 1024 → ℝ} {KV : Fin 8 → Fin 256 → Fin 256 → ℝ}
  (hX : ∀ r l, X (ix2 r l) = (Q r l : EReal)) (hY : ∀ h j l, Y (ix3 h j l) = (KV h j l : EReal))

include hX hY in
/-- A head's stored band, at the entry where it lies. -/
theorem head (h : Fin 4) (iq) (ik) (iv) (x : S512x256.Idx) (y : S512x1024.Idx) (h0 : (y 0).val = (x 0).val) (h1 : (y 1).val = h.val * 256 + (x 1).val) :
    mix (View.ld X (Rect.unit (s := S512x1024) ![0, h.val * 256] S512x256.size iq)) (View.ld Y (Rect.unit (s := S8x256x256) ![(kh h).val, 0, 0] S1x256x256.size ik))
      (View.ld Y (Rect.unit (s := S8x256x256) ![(vh h).val, 0, 0] S1x256x256.size iv)) x
      = (mean (Q (y 0)) KV (hOf (y 1)) (pOf (y 1)) : EReal) := by
  obtain ⟨r, l, rfl⟩ : ∃ (r : Fin 512) (l : Fin 256), x = ix2 r l := ⟨x 0, x 1, eq_ix2 x⟩
  have e0 : y 0 = r := Fin.ext h0
  have e1 : (y 1).val = h.val * 256 + l.val := h1
  have e2 : hOf (y 1) = h := Fin.ext (by show (y 1).val / 256 = h.val; omega)
  have e3 : pOf (y 1) = l := Fin.ext (by show (y 1).val % 256 = l.val; omega)
  rw [e2, e3, e0]
  exact mix_real (a := fun r l => Q r (hd h l)) (band_real hX h iq) (mat_real hY (kh h) ik) (mat_real hY (vh h) iv) r l

include hX hY in
theorem point (y : S512x1024.Idx) : out0_2 X Y y = (mean (Q (y 0)) KV (hOf (y 1)) (pOf (y 1)) : EReal) := by
  unfold out0_2
  canon_tiles x a
  · exact head hX hY 3 _ _ _ x _ (by omega) (by show _ = 3 * 256 + _; omega)
  · exact head hX hY 2 _ _ _ x _ (by omega) (by show _ = 2 * 256 + _; omega)
  · exact head hX hY 1 _ _ _ x _ (by omega) (by show _ = 1 * 256 + _; omega)
  · exact head hX hY 0 _ _ _ x _ (by omega) (by show _ = 0 * 256 + _; omega)

end Block

variable (m : (ℓ : Loc nD τ sig) → Buf (Elt Ideal) ℓ) (cd : Dev nD)

theorem idx : ∀ t, win0_0.index t = ![t.val, 0] ∧ win0_1.index t = ![0, 0, 0] ∧ win0_2.index t = ![t.val, 0] := by decide +kernel

/-- The output at real arguments. -/
def O (q : Fin 4096 → Fin 1024 → ℝ) (kv : Fin 256 → Fin 2048 → ℝ) : FVec Ideal S4096x1024 .bf16 := fun y =>
  (mean (q (y 0)) (stack kv) (hOf (y 1)) (pOf (y 1)) : EReal)

theorem o_array (q : Fin 4096 → Fin 1024 → ℝ) (kv : Fin 256 → Fin 2048 → ℝ)
    (hq : ∀ i l, m ((cd : Thread nD τ).loc main_arg0) (ix2 i l) = (q i l : EReal))
    (hk : ∀ j l, m ((cd : Thread nD τ).loc main_arg1) (ix2 j l) = (kv j l : EReal)) : (dats m 0 cd).arrAt 2 cfg0.N = O q kv := by
  refine (dats m 0 cd).arrAt_eq_of_covers 2 _ (by decide +kernel) fun t hf (y : S512x1024.Idx) => ?_
  blk_simp
  have b : t.val < 8 := lt_of_lt_of_eq t.isLt N_0
  rw [after0_2, point (Q := fun r l => q ⟨t.val * 512 + r.val, by omega⟩ l) (KV := stack kv) (fun r l => by
      rw [← hq]
      blk_point [iblk, V, idx t]) (fun g j l => by
      unfold stack
      rw [← hk]
      blk_point [iblk, V, idx t])]
  have e0 : ((win0_2.blk t).view.emb y 0).val = t.val * 512 + (y 0).val := by blk_simp [idx t] <;> omega
  have e1 : ((win0_2.blk t).view.emb y 1).val = (y 1).val := by blk_simp [idx t] <;> omega
  have f0 : (win0_2.blk t).view.emb y 0 = (⟨t.val * 512 + (y 0).val, by have : (y 0).val < 512 := (y 0).isLt; omega⟩ : Fin 4096) := Fin.ext e0
  have f1 : (win0_2.blk t).view.emb y 1 = (⟨(y 1).val, (y 1).isLt⟩ : Fin 1024) := Fin.ext e1
  unfold O
  rw [f0, f1]

end Cert.XattnOutIdeal.Hand

end
-- ==== Proof.XattnOutClaim.lean ====
/-
  The claims about the memory cross-attention, forward, at finite arguments. The reference's weights are the ones its
  derivative works with.
-/
module

public import proofs.«01_k».proof.Defs
public import proofs.«01_k».proof.Proof.Gen.XattnOut.Frame
public import proofs.«01_k».proof.Proof.Gen.XattnOutRefIdeal.Run
public import proofs.«01_k».proof.Proof.Gen.XattnOutRefIdeal.Read
public import proofs.«01_k».proof.Proof.XattnOutValue
public import proofs.«01_k».proof.Proof.XattnRefReal
public import proofs.«01_k».proof.Proof.FiniteReal
public import Idealize.ShloMosaic.Lib.Quiescent

@[expose] public section

set_option maxRecDepth 16384
set_option maxHeartbeats 1000000

noncomputable section

namespace Cert.XattnOutRefIdeal.Hand

open Cert.XattnOutRefIdeal Cert.XattnOutRefIdeal.Gen Cert.XattnOutRefIdeal.Read Idealize.ShloMosaic Idealize.ShloMosaic.TcCoe Idealize.SL.Sem
open XattnReal (hd kh vh)
open Cert.XattnRefIdeal.Hand (weight_real value_real)

variable {x0 : Vec Ideal S4096x1024 .bf16} {x1 : Vec Ideal S256x2048 .bf16} {q : Fin 4096 → Fin 1024 → ℝ} {kv : Fin 8 → Fin 256 → Fin 256 → ℝ}

theorem weights (i : S4x4096x256.Idx) : val_main_v20 (F := Ideal) x0 x1 i = Cert.XattnRefIdeal.Read.val_main_v35 (F := Ideal) x0 x1 i := rfl
theorem values (i : S256x4x256.Idx) : val_main_v8 (F := Ideal) x1 i = Cert.XattnRefIdeal.Read.val_main_v9 (F := Ideal) x1 i := rfl

theorem out_real (hq : ∀ i l, x0 (ix2 i l) = q i l) (hk : ∀ g j l, x1 (ix2 j (⟨g.val * 256 + l.val, by omega⟩ : Fin 2048)) = kv g j l)
    (i : Fin 4096) (l : Fin 1024) : val_main_v24 x0 x1 (ix2 i l)
      = (XattnOutIdeal.Hand.mean (q i) kv ⟨l.val / 256, by omega⟩ ⟨l.val % 256, by omega⟩ : EReal) := by
  pointwise [val_main_v24, val_main_v23, val_main_v22, val_main_v21]
  simp only [weights, values, weight_real hq hk, value_real hk, ← EReal.coe_mul, ← SoftmaxReal.coe_sum]
  exact congrArg (fun r : ℝ => (r : EReal)) (Finset.sum_congr rfl fun j _ => mul_comm _ _)

end Cert.XattnOutRefIdeal.Hand

namespace Cert.Proof.XattnOut

open Idealize.ShloMosaic Idealize.ShloMosaic.TcCoe Idealize.SL.Sem

theorem pre_facts : Cert.Pre_xattnout_finite.Facts where
  bitsLt_bf16_f32 := by decide
  bcast_S_S4096x1024 := by decide
  bcast_S_S256x2048 := by decide

theorem frame : Cert.quiescent_XattnOut := fun m ρ _ => Cert.XattnOut.Gen.frame m ρ
theorem frameIdeal : Cert.quiescent_XattnOutIdeal := fun m ρ _ => Cert.XattnOutIdeal.Gen.frame m ρ
theorem frameIdealPre : Cert.quiescent_XattnOutIdeal_pre_xattnout_finite (hPre_xattnout_finite := pre_facts) := fun m ρ _ => Cert.XattnOutIdeal.Gen.frame m ρ
theorem frameRef : Cert.quiescent_XattnOutRefIdeal := fun m ρ _ =>
  (θ_run Cert.XattnOutRefIdeal.defs _ _).mono (fun r h => ⟨fun c => (h c).2, sem_eq_zero_of_no_sems (by decide) r.2⟩)
    (Cert.XattnOutRefIdeal.Value.run (F := Ideal) m ρ)
theorem frameRefPre : Cert.quiescent_XattnOutRefIdeal_pre_xattnout_finite (hPre_xattnout_finite := pre_facts) := fun m ρ _ => frameRef m ρ trivial
theorem preserves : Cert.preserves_XattnOut_XattnOutIdeal := trivial

open Cert.XattnOutIdeal in
/-- The precondition says that every entry of the two arguments is real. -/
theorem reals (m : (ℓ : Loc nD τ sig) → Buf (Elt Ideal) ℓ) (c : Dev nD) (h : Cert.Pre_XattnOutIdeal_xattnout_finite (hPre_xattnout_finite := pre_facts) m) :
    ∃ (q : Fin 4096 → Fin 1024 → ℝ) (kv : Fin 256 → Fin 2048 → ℝ), (∀ i l, m ((c : Thread nD τ).loc main_arg0) (ix2 i l) = (q i l : EReal))
      ∧ ∀ j l, m ((c : Thread nD τ).loc main_arg1) (ix2 j l) = (kv j l : EReal) := by
  obtain ⟨h0, h1⟩ := h c
  have r0 : ∀ y, ∃ r : ℝ, m ((c : Thread nD τ).loc main_arg0) y = (r : EReal) := fun y => FiniteReal.real_of_cmp (congrFun h0 y)
  have r1 : ∀ y, ∃ r : ℝ, m ((c : Thread nD τ).loc main_arg1) y = (r : EReal) := fun y => FiniteReal.real_of_cmp (congrFun h1 y)
  choose q hq using r0
  choose kv hkv using r1
  exact ⟨fun i l => q (ix2 i l), fun j l => kv (ix2 j l), fun i l => hq _, fun j l => hkv _⟩

open Cert.XattnOutIdeal.Hand in
theorem algebraic : Cert.algebraic_XattnOutIdeal_XattnOutRefIdeal_pre_xattnout_finite (hPre_xattnout_finite := pre_facts) := by
  intro m ρ m' ρ' hpre hagree
  choose q kv hq hk using fun c => reals m c hpre
  refine ⟨fun c => O (q c) (kv c),
    (θ_run Cert.XattnOutIdeal.defs _ _).mono (fun _ h c => ⟨(h c).1.trans (o_array m c (q c) (kv c) (hq c) (hk c)), (h c).2⟩)
      (Cert.XattnOutIdeal.Value.run_blocks (F := Ideal) m ρ),
    (θ_run Cert.XattnOutRefIdeal.defs _ _).mono (fun _ h c => ⟨(h c).1.trans ?_, (h c).2⟩)
      (Cert.XattnOutRefIdeal.Value.run (F := Ideal) m' ρ')⟩
  rw [Cert.XattnOutRefIdeal.Read.val_main_v24_eq, (hagree c).1, (hagree c).2]
  refine funext fun (y : Cert.XattnOutRefIdeal.S4096x1024.Idx) => ?_
  obtain ⟨i, l, rfl⟩ : ∃ (i : Fin 4096) (l : Fin 1024), y = ix2 i l := ⟨y 0, y 1, eq_ix2 y⟩
  exact Cert.XattnOutRefIdeal.Hand.out_real (hq c) (kv := Cert.XattnIdeal.Hand.stack (kv c)) (fun g j l => hk c j _) i l

end Cert.Proof.XattnOut

end
-- ==== Proof.PoolMeanValue.lean ====
/-
  The pooling windows, forward (`PoolMean`): every row becomes the mean of the rows in its window less itself. The kernel adds up shifted columns in
  doubling steps over the padded block of the gradient's modules.
-/
module

public import proofs.«01_k».proof.Proof.Gen.PoolMeanIdeal.Value
public import proofs.«01_k».proof.Proof.PoolWinValue

@[expose] public section

set_option maxRecDepth 16384
set_option maxHeartbeats 2000000

noncomputable section

namespace Cert.PoolMeanIdeal.Hand

open Cert.PoolMeanIdeal Cert.PoolMeanIdeal.Gen Cert.PoolMeanIdeal.Value Idealize.ShloMosaic Idealize.ShloMosaic.TcCoe Idealize.SL.Sem
open PoolWinReal
open Cert.PoolWinIdeal.Hand (Trails col framed framed_trails whole rotated)
open scoped BigOperators

/-- The sum of the rows in row r's window. -/
def near (h : ℕ) (f : ℕ → EReal) (r : ℕ) : EReal := ∑ t ∈ (Finset.range 4096).filter (fun t => r - h ≤ t ∧ t < r + h), f t

theorem trail_near (f : ℕ → EReal) {h r : ℕ} (h0 : 0 < h) (hh : h ≤ 8) (hr : r < 4096) : trail (padded f) (h + h) (r + 16 + (h - 1)) = near h f r := by
  unfold trail padded near
  rw [← Finset.sum_filter]
  refine Finset.sum_nbij' (fun j => r + h - 1 - j) (fun t => r + h - 1 - t) ?_ ?_ ?_ ?_ ?_
  all_goals intro j hj; simp only [Finset.mem_filter, Finset.mem_range] at hj ⊢
  · omega
  · omega
  · omega
  · omega
  · congr 1; omega

/-- What a block's result holds. -/
def Res (h : ℕ) (x : Vec Ideal S4096x128 .f32) (r : Fin 4096) (l : Fin 128) : EReal :=
  Ideal.div (near h (fun t => col x t l) r.val) (((rows h r.val : ℕ) : ℝ) : EReal) - x (ix2 r l)

theorem row_word (r : Fin 4096) (l : Fin 128) : iota .tc S4096x128 32 [0] iota_S4096x128_d0_w32 (ix2 r l) = BitVec.ofNat 32 r.val := by
  pointwise []

/-- A window's sum over the number of its rows, as words, less the row. -/
theorem mean {g : Fin 4} {x s : FVec Ideal S4096x128 .f32} (hs : ∀ (r : Fin 4096) (l : Fin 128), s (ix2 r l) = near (2 ^ g.val) (fun t => col x t l) r.val)
    {a b : BitVec 32} (ha : a = BitVec.ofNat 32 (2 * 2 ^ g.val)) (hb : b = BitVec.ofNat 32 (2 ^ g.val)) (r : Fin 4096) (l : Fin 128) :
    (truncf .bf16 (subf (divf s (sitofp .f32 (subi (minsi (subi (addi (iota .tc S4096x128 32 [0] iota_S4096x128_d0_w32) (broadcast S4096x128 a)) (broadcast S4096x128 b)) (broadcast S4096x128 4096#32))
      (maxsi (subi (iota .tc S4096x128 32 [0] iota_S4096x128_d0_w32) (broadcast S4096x128 b)) (broadcast S4096x128 0#32))))) x) bitsLt_bf16_f32 : FVec Ideal S4096x128 .bf16) (ix2 r l) = Res (2 ^ g.val) x r l := by
  show (Ideal.div (s (ix2 r l)) (FloatOps.sitofp (F := Ideal) .f32 (IntOp.subi
        (IntOp.minsi (IntOp.subi (IntOp.addi (iota .tc S4096x128 32 [0] iota_S4096x128_d0_w32 (ix2 r l)) a) b) 4096#32)
        (IntOp.maxsi (IntOp.subi (iota .tc S4096x128 32 [0] iota_S4096x128_d0_w32 (ix2 r l)) b) 0#32))) - x (ix2 r l) : EReal) = _
  rw [row_word, ha, hb, hs, hi_word g r, lo_word g r, rows_word _ _ r.isLt, rows_real]
  rfl

/-- The rows that the last rotation brings to the middle. -/
theorem turned {x P : Vec Ideal S4096x128 .f32} (hP : P = x) {h : ℕ} {v : Vec Ideal S4128x128 .f32} (hv : Trails (fun i l => padded (fun t => col P t l) i) (h + h) v)
    (k : BitVec 32) (hk : k.toNat + (h - 1) = 4128) (h1 : 1 < h) (h8 : h ≤ 8) (r : Fin 4096) (l : Fin 128) :
    extractStridedSlice S4096x128 ![16, 0] (dynamicRotate 0 k none v rotates_S4128x128_d0) slices_S4128x128_o16_0_S4096x128 (ix2 r l) = near h (fun t => col x t l) r.val := by
  subst hP
  exact (hv.middle k (h - 1) hk (by omega) (by omega) (by omega) r l).trans (trail_near _ (by omega) h8 r.isLt)

/-- Windows of two rows need no rotation back. -/
theorem unturned {x P : Vec Ideal S4096x128 .f32} (hP : P = x) {v : Vec Ideal S4128x128 .f32} (hv : Trails (fun i l => padded (fun t => col P t l) i) (1 + 1) v) (r : Fin 4096) (l : Fin 128) :
    extractStridedSlice S4096x128 ![16, 0] v slices_S4128x128_o16_0_S4096x128 (ix2 r l) = near 1 (fun t => col x t l) r.val := by
  subst hP
  have hr := r.isLt
  unfold extractStridedSlice
  refine Eq.trans (congrArg _ (funext fun a => Fin.ext ?_ : _ = ix2 (⟨r.val + 16, by omega⟩ : Fin 4128) l)) ((hv _ l (by show 1 + 1 ≤ r.val + 16 + 1; omega)).trans (trail_near _ (h := 1) (by omega) (by omega) hr))
  fin_cases a
  · exact Nat.add_comm 16 r.val
  · exact Nat.zero_add l.val

theorem same (x : Vec Ideal S4096x128 .f32) : (shapeCast S4096x128 x shapeCasts_S4096x128_S4096x128 : FVec Ideal S4096x128 .f32) = x := by
  refine funext fun (y : S4096x128.Idx) => ?_
  obtain ⟨r, l, rfl⟩ : ∃ (r : Fin 4096) (l : Fin 128), y = ix2 r l := ⟨y 0, y 1, eq_ix2 y⟩
  pointwise []

theorem pay_one (x : Vec Ideal S4096x128 .f32) (r : Fin 4096) (l : Fin 128) : k0_pay6 x (framed (k0_pay5 x)) (ix2 r l) = Res 1 x r l := by
  have h := (framed_trails (k0_pay5 x)).double 1#32 rfl (by norm_num)
  generalize framed (k0_pay5 x) = Z at h ⊢
  unfold k0_pay6
  exact mean (g := 0) (unturned (same x) h) rfl rfl r l
theorem pay_two (x : Vec Ideal S4096x128 .f32) (r : Fin 4096) (l : Fin 128) : k0_pay8 x (framed (k0_pay7 x)) (ix2 r l) = Res 2 x r l := by
  have h := ((framed_trails (k0_pay7 x)).double 1#32 rfl (by norm_num)).double 2#32 rfl (by norm_num)
  generalize framed (k0_pay7 x) = Z at h ⊢
  unfold k0_pay8
  exact mean (g := 1) (turned (same x) (h := 2) h 4127#32 rfl (by norm_num) (by norm_num)) rfl rfl r l
theorem pay_four (x : Vec Ideal S4096x128 .f32) (r : Fin 4096) (l : Fin 128) : k0_pay10 x (framed (k0_pay9 x)) (ix2 r l) = Res 4 x r l := by
  have h := (((framed_trails (k0_pay9 x)).double 1#32 rfl (by norm_num)).double 2#32 rfl (by norm_num)).double 4#32 rfl (by norm_num)
  generalize framed (k0_pay9 x) = Z at h ⊢
  unfold k0_pay10
  exact mean (g := 2) (turned (same x) (h := 4) h 4125#32 rfl (by norm_num) (by norm_num)) rfl rfl r l
theorem pay_eight (x : Vec Ideal S4096x128 .f32) (r : Fin 4096) (l : Fin 128) :
    k0_pay2 (iota .tc S4096x128 32 [0] iota_S4096x128_d0_w32) x (framed (k0_pay1 x)) (ix2 r l) = Res 8 x r l := by
  have h := ((((framed_trails (k0_pay1 x)).double 1#32 rfl (by norm_num)).double 2#32 rfl (by norm_num)).double 4#32 rfl (by norm_num)).double 8#32 rfl (by norm_num)
  generalize framed (k0_pay1 x) = Z at h ⊢
  unfold k0_pay2
  exact mean (g := 3) (turned (same x) (h := 8) h 4121#32 rfl (by norm_num) (by norm_num)) rfl rfl r l

variable (m : (ℓ : Loc nD τ sig) → Buf (Elt Ideal) ℓ)

theorem idx : ∀ t : Fin cfg0.N, win0_0.index t = ![0, t.val] ∧ win0_1.index t = ![0, t.val] := by decide +kernel

/-- What a grid point leaves: half the window of its columns' group is 2 to the group. -/
theorem point (c : Dev nD) (t : Fin cfg0.N) (r : Fin 4096) (l : Fin 128) : outsAt0 m c t.val t.isLt (ix2 r l) = Res (2 ^ (t.val / 2)) (iblk m c 0 t) r l := by
  have ht : t.val < 8 := lt_of_lt_of_eq t.isLt N_0
  rcases (by omega : t.val / 2 = 0 ∨ t.val / 2 = 1 ∨ t.val / 2 = 2 ∨ t.val / 2 = 3) with h | h | h | h <;> rw [h]
  · rw [outsAt0_A m c t (by omega) (by omega) (by omega) (by omega)]; frame_open
    simp (disch := decide) only [↓ View.readCov_cons_toLoadRect, View.readCov_eq_canon']
    frame_out
    exact (congrArg (fun Z => k0_pay6 (iblk m c 0 t) Z (ix2 r l)) (funext fun j => congrArg _ (whole j))).trans (pay_one _ r l)
  · rw [outsAt0_B m c t (by omega) (by omega) (by omega) (by omega)]; frame_open
    simp (disch := decide) only [↓ View.readCov_cons_toLoadRect, View.readCov_eq_canon']
    frame_out
    exact (congrArg (fun Z => k0_pay8 (iblk m c 0 t) Z (ix2 r l)) (funext fun j => congrArg _ (whole j))).trans (pay_two _ r l)
  · rw [outsAt0_C m c t (by omega) (by omega) (by omega) (by omega)]; frame_open
    simp (disch := decide) only [↓ View.readCov_cons_toLoadRect, View.readCov_eq_canon']
    frame_out
    exact (congrArg (fun Z => k0_pay10 (iblk m c 0 t) Z (ix2 r l)) (funext fun j => congrArg _ (whole j))).trans (pay_four _ r l)
  · rw [outsAt0_D m c t (by omega) (by omega) (by omega) (by omega)]; frame_open
    simp (disch := decide) only [↓ View.readCov_cons_toLoadRect, View.readCov_eq_canon']
    frame_out
    exact (congrArg (fun Z => k0_pay2 (iota .tc S4096x128 32 [0] iota_S4096x128_d0_w32) (iblk m c 0 t) Z (ix2 r l)) (funext fun j => congrArg _ (whole j))).trans (pay_eight _ r l)

/-- A column of the whole array. -/
def column (x : Vec Ideal S4096x1024 .f32) (d : Fin 1024) (t : ℕ) : EReal := if h : t < 4096 then x (ix2 ⟨t, h⟩ d) else 0

/-- The means less the rows: column d of group d / 256. -/
def OUT (x : Vec Ideal S4096x1024 .f32) (r : Fin 4096) (d : Fin 1024) : EReal :=
  Ideal.div (near (2 ^ (d.val / 256)) (column x d) r.val) (((rows (2 ^ (d.val / 256)) r.val : ℕ) : ℝ) : EReal) - x (ix2 r d)

theorem block (c : Dev nD) (t : Fin cfg0.N) (r : Fin 4096) (l : Fin 128) (h : t.val * 128 + l.val < 1024) :
    iblk m c 0 t (ix2 r l) = m ((c : Thread nD τ).loc main_arg0) (ix2 r ⟨t.val * 128 + l.val, h⟩) := by
  blk_point [iblk, V, idx t]

theorem array (c : Dev nD) : (dats m 0 c).arrAt 1 cfg0.N = fun i => OUT (m ((c : Thread nD τ).loc main_arg0)) (i 0) (i 1) := by
  refine (dats m 0 c).arrAt_eq_of_covers 1 _ (by decide +kernel) fun t hf (y : S4096x128.Idx) => ?_
  blk_simp
  have ht : t.val < 8 := lt_of_lt_of_eq t.isLt N_0
  obtain ⟨r, l, rfl⟩ : ∃ r l, y = ix2 r l := ⟨y 0, y 1, eq_ix2 y⟩
  rw [after0_1, point]
  have e0 : ((win0_1.blk t).view.emb (ix2 r l) 0).val = r.val := by blk_simp [idx t] <;> omega
  have e1 : ((win0_1.blk t).view.emb (ix2 r l) 1).val = t.val * 128 + l.val := by blk_simp [idx t] <;> omega
  have f0 : (win0_1.blk t).view.emb (ix2 r l) 0 = r := Fin.ext e0
  have f1 : (win0_1.blk t).view.emb (ix2 r l) 1 = (⟨t.val * 128 + l.val, by omega⟩ : Fin 1024) := Fin.ext e1
  rw [f0, f1]
  unfold Res OUT col column
  simp only [block m c t _ l (by omega)]
  rw [show (t.val * 128 + l.val) / 256 = t.val / 2 by omega]

end Cert.PoolMeanIdeal.Hand

end
-- ==== Proof.PoolMeanRefReal.lean ====
/-
  The reference's windows, forward: running sums of the rows, read at the ends of every row's window, as the tables of the gradient's modules name them.
-/
module

public import proofs.«01_k».proof.Proof.Gen.PoolMeanRefIdeal.Read
public import proofs.«01_k».proof.Proof.PoolWinRefReal
public import proofs.«01_k».proof.Proof.PoolMeanValue

@[expose] public section

set_option maxRecDepth 16384
set_option maxHeartbeats 2000000

noncomputable section

namespace Cert.PoolMeanRefIdeal.Hand

open Cert.PoolMeanRefIdeal Cert.PoolMeanRefIdeal.Gen Cert.PoolMeanRefIdeal.Read Idealize.ShloMosaic Idealize.ShloMosaic.TcCoe Idealize.SL.Sem
open PoolWinReal SoftmaxReal
open Cert.PoolWinRefIdeal.Hand (Pairs lo hi col foldl_add small_word rows_ne)
open Cert.PoolMeanIdeal.Hand (near column OUT)
open scoped BigOperators

/-- The running sum from above, at any extents: row r adds up itself and every earlier row. -/
theorem prefix_sum {N A B : ℕ} (x : Vec Ideal ⟨3, ![N, A, B]⟩ .f32) (w : EReal) (hw : w = 0)
    (h : (⟨3, ![N, A, B]⟩ : Shape).ReduceWindows (![N, 1, 1] : Fin 3 → ℕ) ![1, 1, 1] ![N - 1, 0, 0] ![0, 0, 0] ⟨3, ![N, A, B]⟩) (hu : 0 < (⟨0, ![]⟩ : Shape).numel)
    (r : Fin N) (g : Fin A) (c : Fin B) :
    (Host.reduceWindow (fun a b : EReal => a + b) ![N, 1, 1] ![1, 1, 1] ![N - 1, 0, 0] ![0, 0, 0] x (fun _ : (⟨0, ![]⟩ : Shape).Idx => w) h hu (ix3 r g c) : EReal)
      = ∑ k : Fin N, if h : N - 1 ≤ r.val + k.val then x (ix3 ⟨r.val + k.val - (N - 1), by omega⟩ g c) else (0 : EReal) := by
  subst hw
  unfold Host.reduceWindow
  dsimp only
  rw [foldl_add, zero_add, ← Fin.sum_univ_def]
  let F : (⟨3, ![N, 1, 1]⟩ : Shape).Idx → EReal := fun i => if h : N - 1 ≤ r.val + (i 0).val then x (ix3 ⟨r.val + (i 0).val - (N - 1), by
    have : (i 0).val < N := (i 0).isLt; omega⟩ g c) else 0
  refine (Finset.sum_congr rfl fun n _ => ?_ : _ = ∑ n, F ((⟨3, ![N, 1, 1]⟩ : Shape).rowMajor.symm n)).trans ?_
  · let i : (⟨3, ![N, 1, 1]⟩ : Shape).Idx := (⟨3, ![N, 1, 1]⟩ : Shape).rowMajor.symm n
    have i0 : (i 0).val < N := (i 0).isLt
    have i1 : (i 1).val = 0 := by have : (i 1).val < 1 := (i 1).isLt; omega
    have i2 : (i 2).val = 0 := by have : (i 2).val < 1 := (i 2).isLt; omega
    have hg := g.isLt
    have hc := c.isLt
    show _ = if h : N - 1 ≤ r.val + (i 0).val then x (ix3 ⟨r.val + (i 0).val - (N - 1), by omega⟩ g c) else 0
    by_cases h : N - 1 ≤ r.val + (i 0).val
    · rw [dif_pos h, dif_pos fun a => by
        match a with
        | ⟨0, _⟩ => exact ⟨(by omega : N - 1 ≤ r.val * 1 + (i 0).val), (by omega : r.val * 1 + (i 0).val - (N - 1) < N)⟩
        | ⟨1, _⟩ => exact ⟨Nat.zero_le _, (by omega : g.val * 1 + (i 1).val - 0 < A)⟩
        | ⟨2, _⟩ => exact ⟨Nat.zero_le _, (by omega : c.val * 1 + (i 2).val - 0 < B)⟩]
      congr 1
      funext a
      match a with
      | ⟨0, _⟩ => exact Fin.ext (by omega : r.val * 1 + (i 0).val - (N - 1) = r.val + (i 0).val - (N - 1))
      | ⟨1, _⟩ => exact Fin.ext (by omega : g.val * 1 + (i 1).val - 0 = g.val)
      | ⟨2, _⟩ => exact Fin.ext (by omega : c.val * 1 + (i 2).val - 0 = c.val)
    · rw [dif_neg h, dif_neg fun hin => h (by have := (hin 0).1; have e : N - 1 ≤ r.val * 1 + (i 0).val := this; omega)]
  · rw [Equiv.sum_comp (⟨3, ![N, 1, 1]⟩ : Shape).rowMajor.symm F, sum_idx3]
    refine Finset.sum_congr rfl fun k _ => ?_
    rw [Fin.sum_univ_one, Fin.sum_univ_one]
    rfl

/-- Which rows those are. -/
theorem earlier (f : ℕ → EReal) {r : ℕ} (hr : r < 4096) : (∑ k : Fin 4096, if 4095 ≤ r + k.val then f (r + k.val - 4095) else 0) = ∑ t ∈ Finset.range (r + 1), f t := by
  rw [Fin.sum_univ_eq_sum_range (fun k => if 4095 ≤ r + k then f (r + k - 4095) else 0), ← Finset.sum_filter]
  refine Finset.sum_nbij' (fun k => r + k - 4095) (fun t => t + 4095 - r) ?_ ?_ ?_ ?_ ?_
  all_goals intro j hj; simp only [Finset.mem_filter, Finset.mem_range] at hj ⊢ <;> omega

variable {x0 : Vec Ideal S4096x1024 .f32}

theorem own (t : Fin 4096) (g : Fin 4) (c : Fin 256) : val_main_v0 (F := Ideal) x0 (ix3 t g c) = x0 (ix2 t (col g c)) := by
  pointwise [val_main_v0]
  rfl

theorem running (r : Fin 4096) (g : Fin 4) (c : Fin 256) : (val_main_v2 (F := Ideal) x0 (ix3 r g c) : EReal) = ∑ t ∈ Finset.range (r.val + 1), column x0 (col g c) t := by
  rw [← earlier _ r.isLt]
  refine Eq.trans (Eq.trans ?_ (prefix_sum (N := 4096) (A := 4) (B := 256) (val_main_v0 (F := Ideal) x0) (val_main_call0_call0_v0 (F := Ideal) (Shape.Idx.first h_S_)) ?_
    reduceWindows_S4096x4x256_S4096x4x256_w4096s1p4095_0_w1s1p0_0_w1s1p0_0 h_S_ r g c)) ?_
  · unfold val_main_v2 Host.reduceWindowAdd
    dsimp only [FloatOps.hostReduceWindowAdd, Ideal.hostReduceWindowAdd]
  · pointwise [val_main_call0_call0_v0, val_main_call0_call0_cst]
  · refine Finset.sum_congr rfl fun k _ => ?_
    by_cases h : 4095 ≤ r.val + k.val
    · rw [dif_pos (show 4096 - 1 ≤ r.val + k.val from h), if_pos h, own]
      unfold column
      rw [dif_pos (by omega)]
    · rw [dif_neg (show ¬ 4096 - 1 ≤ r.val + k.val from h), if_neg h]

/-- The running sums with a row of zeros before them. -/
theorem sums (k : Fin 4097) (g : Fin 4) (c : Fin 256) : (val_main_v3 (F := Ideal) x0 (ix3 k g c) : EReal) = ∑ t ∈ Finset.range k.val, column x0 (col g c) t := by
  rcases k with ⟨_ | k, hk⟩
  · rw [Finset.sum_range_zero]
    pointwise [val_main_v3, val_main_v1, val_main_cst]
  · have : val_main_v3 (F := Ideal) x0 (ix3 ⟨k + 1, hk⟩ g c) = val_main_v2 (F := Ideal) x0 (ix3 (⟨k, by omega⟩ : Fin 4096) g c) := by
      pointwise [val_main_v3]
      rw [dif_neg (by omega)]
      rfl
    rw [this, running]

abbrev dims := gather_S4097x4x256_S4096x2_S4096x256_1_01_n_n_01_1_11256

/-- The rows that a table of pairs names. -/
theorem gathered {T : IVec S4096x2 32} {p : ℕ → ℕ} {j : Fin 4} (hT : Pairs T p j.val) (x : Vec Ideal S4097x4x256 .f32) (t : Fin 4096) (c : Fin 256) :
    Host.gather dims x T (ix2 t c) = x (ix3 (⟨p t.val, Nat.lt_succ_of_le (hT.le t)⟩ : Fin 4097) j c) := by
  unfold Host.gather
  refine congrArg x (funext fun a => Fin.ext ?_)
  have hp := hT.le t
  have hj := j.isLt
  show dims.start (ix2 t c) T a + dims.batchCoord (ix2 t c) a + dims.offCoord (ix2 t c) a = _
  rw [GatherDims.batchCoord_eq_zero _ _ _ (List.not_mem_nil)]
  match a with
  | ⟨0, _⟩ =>
    have s0 : dims.start (ix2 t c) T 0 = min (T (ix2 t 0)).toInt.toNat 4096 := by
      unfold GatherDims.start
      rw [dif_pos (by decide)]
      congr 4
      funext b
      fin_cases b <;> rfl
    have o0 : dims.offCoord (ix2 t c) 0 = 0 := GatherDims.offCoord_eq_zero _ _ _ (by decide)
    refine (congrArg₂ (fun a b => a + 0 + b) s0 o0).trans ?_
    rw [hT.row, small_word hp]
    show min ((p t.val : ℤ)).toNat 4096 + 0 + 0 = p t.val
    omega
  | ⟨1, _⟩ =>
    have s1 : dims.start (ix2 t c) T 1 = min (T (ix2 t 1)).toInt.toNat 3 := by
      unfold GatherDims.start
      rw [dif_pos (by decide)]
      congr 4
      funext b
      fin_cases b <;> rfl
    have o1 : dims.offCoord (ix2 t c) 1 = 0 := GatherDims.offCoord_eq_zero _ _ _ (by decide)
    refine (congrArg₂ (fun a b => a + 0 + b) s1 o1).trans ?_
    rw [hT.group, small_word (by omega)]
    show min ((j.val : ℤ)).toNat 3 + 0 + 0 = j.val
    omega
  | ⟨2, _⟩ =>
    have s2 : dims.start (ix2 t c) T 2 = 0 := by
      unfold GatherDims.start
      rw [dif_neg (by decide)]
    have o2 : dims.offCoord (ix2 t c) 2 = c.val := by
      unfold GatherDims.offCoord
      rw [dif_pos (by decide)]
      rfl
    exact (congrArg₂ (fun a b => a + 0 + b) s2 o2).trans (by simp)

theorem upper (t : Fin 4096) (g : Fin 4) (c : Fin 256) :
    (val_main_v96 (F := Ideal) x0 (ix3 t g c) : EReal) = ∑ i ∈ Finset.range (hi (2 ^ g.val) t.val), column x0 (col g c) i := by
  fin_cases g
  · refine Eq.trans ?_ (sums ⟨hi (2 ^ 0) t.val, Nat.lt_succ_of_le (Cert.PoolWinRefIdeal.Hand.hi_le _ t)⟩ 0 c)
    pointwise [val_main_v96, val_main_v92, val_main_v52]
    exact gathered (j := 0) Cert.PoolWinRefIdeal.Hand.hi_0 _ t c
  · refine Eq.trans ?_ (sums ⟨hi (2 ^ 1) t.val, Nat.lt_succ_of_le (Cert.PoolWinRefIdeal.Hand.hi_le _ t)⟩ 1 c)
    pointwise [val_main_v96, val_main_v93, val_main_v65]
    exact gathered (j := 1) Cert.PoolWinRefIdeal.Hand.hi_1 _ t c
  · refine Eq.trans ?_ (sums ⟨hi (2 ^ 2) t.val, Nat.lt_succ_of_le (Cert.PoolWinRefIdeal.Hand.hi_le _ t)⟩ 2 c)
    pointwise [val_main_v96, val_main_v94, val_main_v78]
    exact gathered (j := 2) Cert.PoolWinRefIdeal.Hand.hi_2 _ t c
  · refine Eq.trans ?_ (sums ⟨hi (2 ^ 3) t.val, Nat.lt_succ_of_le (Cert.PoolWinRefIdeal.Hand.hi_le _ t)⟩ 3 c)
    pointwise [val_main_v96, val_main_v95, val_main_v91]
    exact gathered (j := 3) Cert.PoolWinRefIdeal.Hand.hi_3 _ t c

theorem lower (t : Fin 4096) (g : Fin 4) (c : Fin 256) :
    (val_main_v153 (F := Ideal) x0 (ix3 t g c) : EReal) = ∑ i ∈ Finset.range (lo (2 ^ g.val) t.val), column x0 (col g c) i := by
  fin_cases g
  · refine Eq.trans ?_ (sums ⟨lo (2 ^ 0) t.val, Nat.lt_succ_of_le (Cert.PoolWinRefIdeal.Hand.lo_le _ t)⟩ 0 c)
    pointwise [val_main_v153, val_main_v149, val_main_v109]
    exact gathered (j := 0) Cert.PoolWinRefIdeal.Hand.lo_0 _ t c
  · refine Eq.trans ?_ (sums ⟨lo (2 ^ 1) t.val, Nat.lt_succ_of_le (Cert.PoolWinRefIdeal.Hand.lo_le _ t)⟩ 1 c)
    pointwise [val_main_v153, val_main_v150, val_main_v122]
    exact gathered (j := 1) Cert.PoolWinRefIdeal.Hand.lo_1 _ t c
  · refine Eq.trans ?_ (sums ⟨lo (2 ^ 2) t.val, Nat.lt_succ_of_le (Cert.PoolWinRefIdeal.Hand.lo_le _ t)⟩ 2 c)
    pointwise [val_main_v153, val_main_v151, val_main_v135]
    exact gathered (j := 2) Cert.PoolWinRefIdeal.Hand.lo_2 _ t c
  · refine Eq.trans ?_ (sums ⟨lo (2 ^ 3) t.val, Nat.lt_succ_of_le (Cert.PoolWinRefIdeal.Hand.lo_le _ t)⟩ 3 c)
    pointwise [val_main_v153, val_main_v152, val_main_v148]
    exact gathered (j := 3) Cert.PoolWinRefIdeal.Hand.lo_3 _ t c

theorem counts (t : Fin 4096) (g : Fin 4) (c : Fin 256) : (val_main_v158 (F := Ideal) (ix3 t g c) : EReal) = ((rows (2 ^ g.val) t.val : ℕ) : ℝ) :=
  Cert.PoolWinRefIdeal.Hand.counts t g c

/-- Two running sums differ by the rows between. -/
theorem between (e : ℕ → ℝ) (h r : ℕ) (h0 : 0 < h) (hr : r < 4096) :
    ((∑ i ∈ Finset.range (hi h r), (e i : EReal)) - ∑ i ∈ Finset.range (lo h r), (e i : EReal) : EReal) = near h (fun t => (e t : EReal)) r := by
  have hl : lo h r = r - h := rfl
  have hu : hi h r = min (r + h) 4096 := rfl
  unfold near
  rw [← coe_sum, ← coe_sum, ← coe_sum, ← EReal.coe_sub, ← Finset.sum_Ico_eq_sub _ (by omega : lo h r ≤ hi h r)]
  refine congrArg (fun a : ℝ => (a : EReal)) (Finset.sum_congr (Finset.ext fun t => ?_) fun _ _ => rfl)
  simp only [Finset.mem_Ico, Finset.mem_filter, Finset.mem_range]
  omega

theorem result {X : Fin 4096 → Fin 1024 → ℝ} (hX : ∀ t d, x0 (ix2 t d) = (X t d : EReal)) (r : Fin 4096) (d : Fin 1024) :
    (val_main_v162 (F := Ideal) x0 (ix2 r d) : EReal) = OUT x0 r d := by
  obtain ⟨g, c, rfl⟩ : ∃ (g : Fin 4) (c : Fin 256), d = col g c := by
    have := d.isLt
    exact ⟨⟨d.val / 256, by omega⟩, ⟨d.val % 256, by omega⟩, Fin.ext (by show d.val = d.val / 256 * 256 + d.val % 256; omega)⟩
  have hg : (col g c).val / 256 = g.val := by have := c.isLt; show (g.val * 256 + c.val) / 256 = g.val; omega
  have hs : val_main_v162 (F := Ideal) x0 (ix2 r (col g c)) = val_main_v160 (F := Ideal) x0 (ix3 r g c) := by
    pointwise [val_main_v162, val_main_v161]
    congr 2
    · exact Fin.ext hg
    · exact Fin.ext (by have := c.isLt; show (g.val * 256 + c.val) % 256 = c.val; omega)
  rw [hs]
  show Ideal.div (val_main_v96 (F := Ideal) x0 (ix3 r g c) - val_main_v153 (F := Ideal) x0 (ix3 r g c) : EReal) (val_main_v158 (F := Ideal) (ix3 r g c)) - val_main_v0 (F := Ideal) x0 (ix3 r g c) = _
  have he : column x0 (col g c) = fun t => (((if h : t < 4096 then X ⟨t, h⟩ (col g c) else 0 : ℝ)) : EReal) := by
    funext t
    unfold column
    by_cases h : t < 4096
    · rw [dif_pos h, dif_pos h, hX]
    · rw [dif_neg h, dif_neg h, EReal.coe_zero]
  unfold OUT
  rw [hg, own, counts, upper, lower, he, between _ _ _ (Nat.two_pow_pos _) r.isLt]

end Cert.PoolMeanRefIdeal.Hand

end
-- ==== Proof.PoolMeanClaim.lean ====
/-
  The claims about the pooling windows, forward, at a finite argument.
-/
module

public import proofs.«01_k».proof.Defs
public import proofs.«01_k».proof.Proof.Gen.PoolMean.Frame
public import proofs.«01_k».proof.Proof.Gen.PoolMeanRefIdeal.Run
public import proofs.«01_k».proof.Proof.PoolMeanValue
public import proofs.«01_k».proof.Proof.PoolMeanRefReal
public import proofs.«01_k».proof.Proof.FiniteReal
public import Idealize.ShloMosaic.Lib.Quiescent

@[expose] public section

set_option maxRecDepth 16384
set_option maxHeartbeats 1000000

noncomputable section

namespace Cert.Proof.PoolMean

open Idealize.ShloMosaic Idealize.ShloMosaic.TcCoe Idealize.SL.Sem

theorem pre_facts : Cert.Pre_poolmean_finite.Facts where
  bcast_S_S4096x1024 := by decide

theorem frame : Cert.quiescent_PoolMean := fun m ρ _ => Cert.PoolMean.Gen.frame m ρ
theorem frameIdeal : Cert.quiescent_PoolMeanIdeal := fun m ρ _ => Cert.PoolMeanIdeal.Gen.frame m ρ
theorem frameIdealPre : Cert.quiescent_PoolMeanIdeal_pre_poolmean_finite (hPre_poolmean_finite := pre_facts) := fun m ρ _ => Cert.PoolMeanIdeal.Gen.frame m ρ
theorem frameRef : Cert.quiescent_PoolMeanRefIdeal := fun m ρ _ =>
  (θ_run Cert.PoolMeanRefIdeal.defs _ _).mono (fun r h => ⟨fun c => (h c).2, sem_eq_zero_of_no_sems (by decide) r.2⟩)
    (Cert.PoolMeanRefIdeal.Value.run (F := Ideal) m ρ)
theorem frameRefPre : Cert.quiescent_PoolMeanRefIdeal_pre_poolmean_finite (hPre_poolmean_finite := pre_facts) := fun m ρ _ => frameRef m ρ trivial
theorem preserves : Cert.preserves_PoolMean_PoolMeanIdeal := trivial

open Cert.PoolMeanIdeal.Hand Cert.PoolMeanRefIdeal.Hand in
theorem algebraic : Cert.algebraic_PoolMeanIdeal_PoolMeanRefIdeal_pre_poolmean_finite (hPre_poolmean_finite := pre_facts) := by
  intro m ρ m' ρ' hpre hagree
  have args (c : Dev Cert.PoolMeanRefIdeal.nD) : StableHlo.launchContents m' c (Proc.devRef .tc Cert.PoolMeanRefIdeal.main_arg0) = m ((c.tc : Thread Cert.PoolMeanIdeal.nD Cert.PoolMeanIdeal.τ).loc Cert.PoolMeanIdeal.main_arg0) := hagree c
  choose X hX using fun c y => FiniteReal.real_of_cmp (congrFun (hpre c) y)
  refine ⟨fun c i => OUT (m ((c.tc : Thread Cert.PoolMeanIdeal.nD Cert.PoolMeanIdeal.τ).loc Cert.PoolMeanIdeal.main_arg0)) (i 0) (i 1),
    (θ_run Cert.PoolMeanIdeal.defs _ _).mono (fun _ h c => ⟨(h c).1.trans (array m c), (h c).2⟩) (Cert.PoolMeanIdeal.Value.run_blocks (F := Ideal) m ρ),
    (θ_run Cert.PoolMeanRefIdeal.defs _ _).mono (fun _ h c => ⟨(h c).1.trans ?_, (h c).2⟩) (Cert.PoolMeanRefIdeal.Value.run (F := Ideal) m' ρ')⟩
  rw [Cert.PoolMeanRefIdeal.Read.val_main_v162_eq, args c]
  refine funext fun (y : Cert.PoolMeanRefIdeal.S4096x1024.Idx) => ?_
  obtain ⟨r, d, rfl⟩ : ∃ (r : Fin 4096) (d : Fin 1024), y = ix2 r d := ⟨y 0, y 1, eq_ix2 y⟩
  exact result (X := fun t d => X c (ix2 t d)) (fun t d => hX c _) r d

end Cert.Proof.PoolMean

end
-- ==== Proof.FfnActValue.lean ====
module

public import proofs.«01_k».proof.Proof.Gen.FfnActIdeal.Value
public import proofs.«01_k».proof.Proof.FfnBlocks

/-
  The gated convolution layer, forward: a block of 512 rows and 704 columns, with sixteen rows of the input at each side, gives the rows of the
  up projection and of the gated convolution.
-/

@[expose] public section

set_option maxRecDepth 16384
set_option maxHeartbeats 2000000

noncomputable section

namespace Cert.FfnActIdeal.Hand

open Cert.FfnActIdeal Cert.FfnActIdeal.Gen Cert.FfnActIdeal.Value Idealize.ShloMosaic Idealize.ShloMosaic.TcCoe Idealize.SL.Sem
open Cert.FfnIdeal.Hand (col first_mask last_mask ld_half)
open scoped BigOperators

/-- The input's rows, counted from sixteen on, with rows of zeros around them. -/
def wide (x : Vec Ideal S4096x1024 .bf16) (k : ℕ) (d : Fin 1024) : EReal := if h : 16 ≤ k ∧ k - 16 < 4096 then x (ix2 ⟨k - 16, h.2⟩ d) else 0

/-- A row of the projection onto one column. -/
def proj (e : ℕ → Fin 1024 → EReal) (f : Fin 1024 → EReal) (k : ℕ) : EReal := ∑ d, e k d * f d

/-- The convolution over three rows of the projection. -/
def mix (e : ℕ → Fin 1024 → EReal) (f : Fin 1024 → EReal) (q : Fin 3 → EReal) (b : EReal) (k : ℕ) : EReal :=
  proj e f (k - 1) * q 0 + proj e f k * q 1 + proj e f (k + 1) * q 2 + b

/-- The gate. -/
def gate (g v : EReal) : EReal := g * Ideal.div (1 : EReal) ((1 : EReal) + Ideal.exp ((0 : EReal) - g)) * v

section Rows

variable {i : grid0.Coords} {n : Fin 8} {e : ℕ → Fin 1024 → EReal}

/-- The rows of a block with its neighbours. -/
theorem joined {p q : Vec Ideal S16x1024 .bf16} {u : Vec Ideal S512x1024 .bf16} (hi : (i 1).val = n.val)
    (hp : ∀ (r : Fin 16) d, (if n.val = 0 then (0 : EReal) else p (ix2 r d)) = e r.val d) (hu : ∀ (r : Fin 512) d, u (ix2 r d) = e (16 + r.val) d)
    (hq : ∀ (r : Fin 16) d, (if n.val = 7 then (0 : EReal) else q (ix2 r d)) = e (528 + r.val) d) (r : Fin 544) (d : Fin 1024) : k0_pay2 i p u q (ix2 r d) = e r.val d := by
  pointwise [k0_pay2]
  rw [hi]
  simp only [first_mask, last_mask, Ideal.ofBits_zero_bf16]
  by_cases h : r.val < 16
  · rw [dif_pos h]
    exact hp ⟨r.val, h⟩ d
  · rw [dif_neg h]
    by_cases h' : r.val - 16 < 512
    · rw [dif_pos h']
      exact (hu _ d).trans (congrArg (fun k => e k d) (by show 16 + (r.val - 16) = r.val; omega))
    · rw [dif_neg h']
      exact (hq ⟨r.val - 16 - 512, by omega⟩ d).trans (congrArg (fun k => e k d) (by show 528 + (r.val - 16 - 512) = r.val; omega))

variable {v : FVec Ideal S544x1024 .bf16} (hv : ∀ r d, v (ix2 r d) = e r.val d) {w : Vec Ideal S1x1x1024x704 .bf16} {f : Fin 1024 → Fin 704 → EReal} (hw : ∀ d l, w (ix4 0 0 d l) = f d l)

include hv hw in
theorem projected (r : Fin 544) (l : Fin 704) : k0_pay8 v w (ix2 r l) = proj e (fun d => f d l) r.val := by
  pointwise [k0_pay8]
  simp only [hv, hw]
  rfl

include hv hw in
theorem stored (r : Fin 512) (l : Fin 704) : k0_pay10 v w (ix4 0 0 r l) = proj e (fun d => f d l) (16 + r.val) := by
  have h := projected hv hw
  unfold k0_pay10 k0_pay9
  generalize k0_pay8 v w = X at h ⊢
  pointwise []
  exact h _ l

include hv hw in
theorem mixed {c : Vec Ideal S1x1x3x704 .f32} {q : Fin 3 → Fin 704 → EReal} (hc : ∀ k l, c (ix4 0 0 k l) = q k l) {b : Vec Ideal S1x1x1x704 .f32} {o : Fin 704 → EReal}
    (hb : ∀ l, b (ix4 0 0 0 l) = o l) (r : Fin 512) (l : Fin 704) : k0_pay11 v w c b (ix2 r l) = mix e (fun d => f d l) (fun k => q k l) (o l) (16 + r.val) := by
  have h := projected hv hw
  have a1 : (16 + r.val + 544 - 543) % 544 = 16 + r.val + 1 := by omega
  have a2 : (16 + r.val + 544 - 1) % 544 = 16 + r.val - 1 := by omega
  unfold k0_pay11 k0_pay9
  generalize k0_pay8 v w = X at h ⊢
  pointwise []
  simp only [h, hc, hb, a1, a2]
  rfl

theorem gate_same (p q : Vec Ideal S16x1024 .bf16) (u : Vec Ideal S512x1024 .bf16) (w : Vec Ideal S1x1x1024x704 .bf16) (c : Vec Ideal S1x1x3x704 .f32) (b : Vec Ideal S1x1x1x704 .f32) :
    k0_pay7 (k0_pay6 i p u q w c) b = k0_pay11 (k0_pay2 i p u q) w c b := rfl

theorem gated (x : FVec Ideal S512x704 .f32) (b : Vec Ideal S1x1x1x704 .f32) (V : FVec Ideal S512x704 .f32) (r : Fin 512) (l : Fin 704) :
    k0_pay1 (k0_pay7 x b) V (k0_pay12 x b) (ix3 0 r l) = gate (k0_pay7 x b (ix2 r l)) (V (ix2 r l)) := by
  unfold k0_pay12
  generalize k0_pay7 x b = G
  pointwise [k0_pay1]
  rfl

end Rows

/-- A block's arguments. -/
structure Blk (i : grid0.Coords) (n : Fin 8) (x0 : Vec Ideal S512x1024 .bf16) (x1 x2 : Vec Ideal S16x1024 .bf16) (x3 : Vec Ideal S2x1x1024x704 .bf16) (x4 : Vec Ideal S2x1x3x704 .f32)
    (x5 : Vec Ideal S2x1x1x704 .f32) (e : ℕ → Fin 1024 → EReal) (f : Fin 2 → Fin 1024 → Fin 704 → EReal) (q : Fin 2 → Fin 3 → Fin 704 → EReal) (o : Fin 2 → Fin 704 → EReal) : Prop where
  pos : (i 1).val = n.val
  mid : ∀ (r : Fin 512) d, x0 (ix2 r d) = e (16 + r.val) d
  up : ∀ (r : Fin 16) d, (if n.val = 0 then (0 : EReal) else x1 (ix2 r d)) = e r.val d
  down : ∀ (r : Fin 16) d, (if n.val = 7 then (0 : EReal) else x2 (ix2 r d)) = e (528 + r.val) d
  w : ∀ h d l, x3 (ix4 h 0 d l) = f h d l
  c : ∀ h k l, x4 (ix4 h 0 k l) = q h k l
  b : ∀ h l, x5 (ix4 h 0 0 l) = o h l

section Block

variable {i : grid0.Coords} {n : Fin 8} {x0 : Vec Ideal S512x1024 .bf16} {x1 x2 : Vec Ideal S16x1024 .bf16} {x3 : Vec Ideal S2x1x1024x704 .bf16} {x4 : Vec Ideal S2x1x3x704 .f32}
  {x5 : Vec Ideal S2x1x1x704 .f32} {e : ℕ → Fin 1024 → EReal} {f : Fin 2 → Fin 1024 → Fin 704 → EReal} {q : Fin 2 → Fin 3 → Fin 704 → EReal} {o : Fin 2 → Fin 704 → EReal}
  (hr : Blk i n x0 x1 x2 x3 x4 x5 e f q o)

theorem place (x : S1x1x512x704.Idx) : ∃ (r : Fin 512) (l : Fin 704), x = ix4 0 0 r l := ⟨x 2, x 3, Cert.FfnIdeal.Hand.row512 x⟩

include hr in
theorem u_point (y : S2x1x512x704.Idx) : out0_6 i x0 x1 x2 x3 x4 x5 y = proj e (fun d => f (y 0) d (y 3)) (16 + (y 2).val) := by
  have hv := joined hr.pos hr.up hr.mid hr.down
  unfold out0_6 k0_pay13
  frame_out
  canon_tiles x a
  · have a0 : (y 0).val = 1 := by omega
    obtain ⟨r, l, rfl⟩ := place x
    rw [show y 0 = (1 : Fin 2) from Fin.ext a0, show y 3 = l from Fin.ext a3, a2]
    exact stored hv (fun d l => (ld_half x3 1 _ d l).trans (hr.w 1 d l)) r l
  · have a0 : (y 0).val = 0 := by omega
    obtain ⟨r, l, rfl⟩ := place x
    rw [show y 0 = (0 : Fin 2) from Fin.ext a0, show y 3 = l from Fin.ext a3, a2]
    exact stored hv (fun d l => (ld_half x3 0 _ d l).trans (hr.w 0 d l)) r l

include hr in
theorem act_point (r : Fin 512) (l : Fin 704) : out0_7 i x0 x1 x2 x3 x4 x5 (ix3 0 r l)
    = gate (mix e (fun d => f 0 d l) (fun k => q 0 k l) (o 0 l) (16 + r.val)) (mix e (fun d => f 1 d l) (fun k => q 1 k l) (o 1 l) (16 + r.val)) := by
  have hv := joined hr.pos hr.up hr.mid hr.down
  unfold out0_7 k0_pay14 k0_pay13
  frame_out
  refine (gated _ _ _ r l).trans (congrArg₂ gate ?_ ?_)
  · rw [gate_same]
    exact mixed hv (fun d l => (ld_half x3 0 _ d l).trans (hr.w 0 d l)) (fun k l => (ld_half x4 0 _ k l).trans (hr.c 0 k l)) (fun l => (ld_half x5 0 _ 0 l).trans (hr.b 0 l)) r l
  · exact mixed hv (fun d l => (ld_half x3 1 _ d l).trans (hr.w 1 d l)) (fun k l => (ld_half x4 1 _ k l).trans (hr.c 1 k l)) (fun l => (ld_half x5 1 _ 0 l).trans (hr.b 1 l)) r l

end Block

variable (x : Vec Ideal S4096x1024 .bf16) (w : Vec Ideal S1024x5632 .bf16) (q : Vec Ideal S3x5632 .f32) (b : Vec Ideal S5632 .f32)

/-- The projection, and the convolution of a column, over all rows. -/
abbrev up (k : ℕ) (L : Fin 5632) : EReal := proj (wide x) (fun d => w (ix2 d L)) k
abbrev cv (k : ℕ) (L : Fin 5632) : EReal := mix (wide x) (fun d => w (ix2 d L)) (fun k => q (ix2 k L)) (b (ix1 L)) k

def U : FVec Ideal S2x4x4096x704 .f32 := fun y => up x w (16 + (y 2).val) (col (y 0) (y 1) (y 3))
def A : FVec Ideal S4x4096x704 .bf16 := fun y => gate (cv x w q b (16 + (y 1).val) (col 0 (y 0) (y 2))) (cv x w q b (16 + (y 1).val) (col 1 (y 0) (y 2)))

variable {x w q b}

theorem shifted {e' : ℕ → Fin 1024 → EReal} {s k k' : ℕ} (f : Fin 1024 → EReal) (h : s + k = k') : proj (fun k => e' (s + k)) f k = proj e' f k' := by
  subst h
  rfl

theorem mix_shift {e e' : ℕ → Fin 1024 → EReal} {s : ℕ} (h : ∀ k, e k = e' (s + k)) (f q' : _) (o : EReal) (k : ℕ) (hk : 1 ≤ k) : mix e f q' o k = mix e' f q' o (s + k) := by
  unfold mix proj
  rw [h, h, h, show s + (k - 1) = s + k - 1 by omega, show s + (k + 1) = s + k + 1 by omega]

variable {m : (ℓ : Loc nD τ sig) → Buf (Elt Ideal) ℓ} {c : Dev nD}

theorem idx : ∀ t : Fin cfg0.N, win0_0.index t = ![t.val % 8, 0] ∧ win0_1.index t = ![t.val % 8 * 32 - 1, 0] ∧ win0_2.index t = ![min ((t.val % 8 + 1) * 32) 255, 0]
    ∧ win0_3.index t = ![0, t.val / 8, 0, 0] ∧ win0_4.index t = ![0, t.val / 8, 0, 0] ∧ win0_5.index t = ![0, t.val / 8, 0, 0]
    ∧ win0_6.index t = ![0, t.val / 8, t.val % 8, 0] ∧ win0_7.index t = ![t.val / 8, t.val % 8, 0] := by decide +kernel

theorem coord : ∀ t : Fin cfg0.N, (grid0.coords t 1).val = t.val % 8 := by decide +kernel

abbrev jOf (t : Fin cfg0.N) : Fin 4 := ⟨t.val / 8, by have : t.val < 32 := lt_of_lt_of_eq t.isLt N_0; omega⟩
abbrev nOf (t : Fin cfg0.N) : Fin 8 := ⟨t.val % 8, Nat.mod_lt _ (by omega)⟩

/-- A row inside, and one outside. -/
theorem wide_in {a : EReal} (r : Fin 4096) {k : ℕ} {d : Fin 1024} (h : a = x (ix2 r d)) (hk : k = r.val + 16) : a = wide x k d := by
  subst hk
  unfold wide
  rw [dif_pos ⟨by omega, by omega⟩, h]
  exact congrArg (fun s : Fin 4096 => x (ix2 s d)) (Fin.ext (by show r.val = r.val + 16 - 16; omega))

theorem wide_out {a : EReal} {k : ℕ} {d : Fin 1024} (h : a = 0) (hk : ¬(16 ≤ k ∧ k - 16 < 4096)) : a = wide x k d := by
  unfold wide
  rw [dif_neg hk, h]

theorem block (t : Fin cfg0.N) : Blk (grid0.coords t) (nOf t) (iblk m c 0 t) (iblk m c 1 t) (iblk m c 2 t) (iblk m c 3 t) (iblk m c 4 t) (iblk m c 5 t)
    (fun k => wide (m ((c : Thread nD τ).loc main_arg0)) (t.val % 8 * 512 + k)) (fun h d l => m ((c : Thread nD τ).loc main_arg1) (ix2 d (col h (jOf t) l)))
    (fun h k l => m ((c : Thread nD τ).loc main_arg2) (ix2 k (col h (jOf t) l))) (fun h l => m ((c : Thread nD τ).loc main_arg3) (ix1 (col h (jOf t) l))) := by
  have bt : t.val < 32 := lt_of_lt_of_eq t.isLt N_0
  refine ⟨coord t, fun r d => ?_, fun r d => ?_, fun r d => ?_, fun h d l => ?_, fun h k l => ?_, fun h l => ?_⟩
  · refine wide_in (⟨t.val % 8 * 512 + r.val, by omega⟩ : Fin 4096) ?_ (by show t.val % 8 * 512 + (16 + r.val) = t.val % 8 * 512 + r.val + 16; omega)
    blk_point [iblk, V, idx t]
  · by_cases h0 : t.val % 8 = 0
    · exact wide_out (if_pos h0) (by omega)
    · refine wide_in (⟨t.val % 8 * 512 + r.val - 16, by omega⟩ : Fin 4096) ((if_neg h0).trans ?_) (by show t.val % 8 * 512 + r.val = t.val % 8 * 512 + r.val - 16 + 16; omega)
      blk_point [iblk, V, idx t]
  · by_cases h0 : t.val % 8 = 7
    · exact wide_out (if_pos h0) (by omega)
    · refine wide_in (⟨t.val % 8 * 512 + 512 + r.val, by omega⟩ : Fin 4096) ((if_neg h0).trans ?_) (by show t.val % 8 * 512 + (528 + r.val) = t.val % 8 * 512 + 512 + r.val + 16; omega)
      blk_point [iblk, V, idx t]
  · unfold col
    blk_point [iblk, V, idx t]
  · unfold col
    blk_point [iblk, V, idx t]
  · unfold col
    blk_point [iblk, V, idx t]

theorem u_array : (dats m 0 c).arrAt 6 cfg0.N = U (m ((c : Thread nD τ).loc main_arg0)) (m ((c : Thread nD τ).loc main_arg1)) := by
  refine (dats m 0 c).arrAt_eq_of_covers 6 _ (by decide +kernel) fun t hf (y : S2x1x512x704.Idx) => ?_
  blk_simp
  rw [after0_6, u_point (block t)]
  have bt : t.val < 32 := lt_of_lt_of_eq t.isLt N_0
  have b1 : (y 1).val < 1 := (y 1).isLt
  have e0 : ((win0_6.blk t).view.emb y 0).val = (y 0).val := by blk_simp [idx t] <;> omega
  have e1 : ((win0_6.blk t).view.emb y 1).val = t.val / 8 := by blk_simp [idx t] <;> omega
  have e2 : ((win0_6.blk t).view.emb y 2).val = t.val % 8 * 512 + (y 2).val := by blk_simp [idx t] <;> omega
  have e3 : ((win0_6.blk t).view.emb y 3).val = (y 3).val := by blk_simp [idx t] <;> omega
  have f0 : (win0_6.blk t).view.emb y 0 = (⟨(y 0).val, (y 0).isLt⟩ : Fin 2) := Fin.ext e0
  have f1 : (win0_6.blk t).view.emb y 1 = jOf t := Fin.ext e1
  have f3 : (win0_6.blk t).view.emb y 3 = (⟨(y 3).val, (y 3).isLt⟩ : Fin 704) := Fin.ext e3
  unfold U
  rw [f0, f1, f3, e2]
  exact shifted (e' := wide (m ((c : Thread nD τ).loc main_arg0))) _ (by omega)

theorem act_array : (dats m 0 c).arrAt 7 cfg0.N
    = A (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf (y : S1x512x704.Idx) => ?_
  blk_simp
  obtain ⟨r, l, rfl⟩ : ∃ (r : Fin 512) (l : Fin 704), y = ix3 0 r l := ⟨y 1, y 2, (eq_ix3 y).trans (by
    rw [show y 0 = (0 : Fin 1) from Subsingleton.elim (α := Fin 1) _ _])⟩
  rw [after0_7, act_point (block t)]
  have bt : t.val < 32 := lt_of_lt_of_eq t.isLt N_0
  have e0 : ((win0_7.blk t).view.emb (ix3 0 r l) 0).val = t.val / 8 := by blk_simp [idx t] <;> omega
  have e1 : ((win0_7.blk t).view.emb (ix3 0 r l) 1).val = t.val % 8 * 512 + r.val := by blk_simp [idx t] <;> omega
  have e2 : ((win0_7.blk t).view.emb (ix3 0 r l) 2).val = l.val := by blk_simp [idx t] <;> omega
  have f0 : (win0_7.blk t).view.emb (ix3 0 r l) 0 = jOf t := Fin.ext e0
  have f2 : (win0_7.blk t).view.emb (ix3 0 r l) 2 = l := Fin.ext e2
  unfold A
  rw [f0, f2, e1, mix_shift (fun k => rfl) _ _ _ _ (by omega), mix_shift (fun k => rfl) _ _ _ _ (by omega),
    show t.val % 8 * 512 + (16 + r.val) = 16 + (t.val % 8 * 512 + r.val) by omega]

end Cert.FfnActIdeal.Hand

end
-- ==== Proof.FfnActRefReal.lean ====
module

public import proofs.«01_k».proof.Proof.Gen.FfnActRefIdeal.Read
public import proofs.«01_k».proof.Proof.FfnActValue

/-
  The reference's gated convolution layer, forward, entry by entry.
-/

@[expose] public section

set_option maxRecDepth 16384
set_option maxHeartbeats 2000000

noncomputable section

namespace Cert.FfnActRefIdeal.Hand

open Cert.FfnActRefIdeal Cert.FfnActRefIdeal.Gen Cert.FfnActRefIdeal.Read Idealize.ShloMosaic Idealize.ShloMosaic.TcCoe Idealize.SL.Sem
open Cert.FfnIdeal.Hand (col)
open Cert.FfnActIdeal.Hand (wide wide_in wide_out proj mix gate up cv)
open scoped BigOperators

variable {x0 : Vec Ideal S4096x1024 .bf16} {x1 : Vec Ideal S1024x5632 .bf16} {x2 : Vec Ideal S3x5632 .f32} {x3 : Vec Ideal S5632 .f32}

theorem product (i : Fin 4096) (L : Fin 5632) : val_main_v2 (F := Ideal) x0 x1 (ix2 i L) = up x0 x1 (16 + i.val) L := by
  pointwise [val_main_v2, val_main_v1, val_main_v0]
  exact Finset.sum_congr rfl fun d _ => congrArg (fun a : EReal => a * x1 (ix2 d L)) (wide_in i rfl (Nat.add_comm _ _))

/-- The product with a row of zeros at each side. -/
theorem framed (k : Fin 4098) (L : Fin 5632) : val_main_v3 (F := Ideal) x0 x1 (ix2 k L) = up x0 x1 (15 + k.val) L := by
  have bk := k.isLt
  have bL := L.isLt
  by_cases h0 : 1 ≤ k.val ∧ k.val ≤ 4096
  · refine Eq.trans ?_ ((product (⟨k.val - 1, by omega⟩ : Fin 4096) L).trans (congrArg (fun n => up x0 x1 n L) (by show 16 + (k.val - 1) = 15 + k.val; omega)))
    unfold val_main_v3 pad
    rw [dif_pos (fun a => match a with
      | ⟨0, _⟩ => by show 1 ≤ k.val ∧ (k.val - 1) % 1 = 0 ∧ (k.val - 1) / 1 < 4096; omega
      | ⟨1, _⟩ => by show 0 ≤ L.val ∧ (L.val - 0) % 1 = 0 ∧ (L.val - 0) / 1 < 5632; omega)]
    refine congrArg (val_main_v2 (F := Ideal) x0 x1) (funext fun a => ?_)
    match a with
    | ⟨0, _⟩ => exact Fin.ext (by show (k.val - 1) / 1 = k.val - 1; omega)
    | ⟨1, _⟩ => exact Fin.ext (by show (L.val - 0) / 1 = L.val; omega)
  · have hz : up x0 x1 (15 + k.val) L = 0 := Finset.sum_eq_zero fun d _ => by
      rw [← wide_out (x := x0) (k := 15 + k.val) (d := d) rfl (by omega), zero_mul]
    rw [hz]
    unfold val_main_v3 pad
    rw [dif_neg (fun h => h0 (by
      have e : 1 ≤ k.val ∧ (k.val - 1) % 1 = 0 ∧ (k.val - 1) / 1 < 4096 := h (0 : Fin 2)
      omega))]
    rw [val_main_call0_v0_apply, val_main_c_apply]
    show (((0 : BitVec 32).toInt : ℝ) : EReal) = 0
    simp

theorem convolved (i : Fin 4096) (L : Fin 5632) : val_main_v26 (F := Ideal) x0 x1 x2 x3 (ix2 i L) = cv x0 x1 x2 x3 (16 + i.val) L := by
  have e0 := framed (x0 := x0) (x1 := x1) ⟨i.val, by omega⟩ L
  have e1 := framed (x0 := x0) (x1 := x1) ⟨1 + i.val, by omega⟩ L
  have e2 := framed (x0 := x0) (x1 := x1) ⟨2 + i.val, by omega⟩ L
  unfold cv mix
  rw [show 16 + i.val - 1 = 15 + i.val by omega, show 16 + i.val + 1 = 15 + (2 + i.val) by omega, show 16 + i.val = 15 + (1 + i.val) by omega]
  unfold up at e0 e1 e2
  rw [← e0, ← e1, ← e2]
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4]

theorem u_result (g : Fin 2) (j : Fin 4) (i : Fin 4096) (l : Fin 704) : val_main_v32 (F := Ideal) x0 x1 (ix4 g j i l) = up x0 x1 (16 + i.val) (col g j l) := by
  rw [← product]
  pointwise [val_main_v32, val_main_v31]
  rfl

theorem act_result (j : Fin 4) (i : Fin 4096) (l : Fin 704) : val_main_v35 (F := Ideal) x0 x1 x2 x3 (ix3 j i l)
    = gate (cv x0 x1 x2 x3 (16 + i.val) (col 0 j l)) (cv x0 x1 x2 x3 (16 + i.val) (col 1 j l)) := by
  rw [← convolved, ← convolved]
  pointwise [val_main_v35, val_main_v34, val_main_v33, val_main_v30, val_main_v29, val_main_call1_v5, val_main_call1_v4, val_main_call1_v3, val_main_call1_v2, val_main_call1_v1, val_main_call1_v0, val_main_call1_cst, val_main_call1_cst_0, val_main_v28, val_main_v27]
  have c0 : ∀ p, (⟨j.val * 704 + l.val, p⟩ : Fin 5632) = col 0 j l := fun p => Fin.ext (by show j.val * 704 + l.val = 0 * 2816 + j.val * 704 + l.val; omega)
  have c1 : ∀ p, (⟨2816 + (j.val * 704 + l.val), p⟩ : Fin 5632) = col 1 j l := fun p => Fin.ext (by show 2816 + (j.val * 704 + l.val) = 1 * 2816 + j.val * 704 + l.val; omega)
  unfold gate
  rw [zero_sub, c0, c1]

end Cert.FfnActRefIdeal.Hand

end
-- ==== Proof.FfnActClaim.lean ====
/-
  The claims about the gated convolution layer, forward.
-/
module

public import proofs.«01_k».proof.Defs
public import proofs.«01_k».proof.Proof.Gen.FfnAct.Frame
public import proofs.«01_k».proof.Proof.Gen.FfnActRefIdeal.Run
public import proofs.«01_k».proof.Proof.FfnActRefReal
public import Idealize.ShloMosaic.Lib.Quiescent

@[expose] public section

set_option maxRecDepth 16384
set_option maxHeartbeats 1000000

noncomputable section

namespace Cert.Proof.FfnAct

open Idealize.ShloMosaic Idealize.ShloMosaic.TcCoe Idealize.SL.Sem

theorem frame : Cert.quiescent_FfnAct := fun m ρ _ => Cert.FfnAct.Gen.frame m ρ
theorem frameIdeal : Cert.quiescent_FfnActIdeal := fun m ρ _ => Cert.FfnActIdeal.Gen.frame m ρ
theorem frameRef : Cert.quiescent_FfnActRefIdeal := fun m ρ _ =>
  (θ_run Cert.FfnActRefIdeal.defs _ _).mono (fun r h => ⟨fun c => (h c).2.2, sem_eq_zero_of_no_sems (by decide) r.2⟩)
    (Cert.FfnActRefIdeal.Value.run (F := Ideal) m ρ)
theorem preserves : Cert.preserves_FfnAct_FfnActIdeal := trivial

open Cert.FfnActIdeal.Hand Cert.FfnActRefIdeal.Hand in
theorem algebraic : Cert.algebraic_FfnActIdeal_FfnActRefIdeal := by
  intro m ρ m' ρ' hpre hagree
  refine ⟨fun c => U (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)),
    fun c => A (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1))
      (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)),
    (θ_run Cert.FfnActIdeal.defs _ _).mono (fun _ h c => ⟨(h c).1.trans u_array, (h c).2.1.trans act_array, (h c).2.2⟩) (Cert.FfnActIdeal.Value.run_blocks (F := Ideal) m ρ),
    (θ_run Cert.FfnActRefIdeal.defs _ _).mono (fun _ h c => ⟨(h c).1.trans ?_, (h c).2.1.trans ?_, (h c).2.2⟩) (Cert.FfnActRefIdeal.Value.run (F := Ideal) m' ρ')⟩
  · rw [Cert.FfnActRefIdeal.Read.val_main_v32_eq, (hagree c).1, (hagree c).2.1]
    refine funext fun (y : Cert.FfnActRefIdeal.S2x4x4096x704.Idx) => ?_
    obtain ⟨g, j, i, l, rfl⟩ : ∃ (g : Fin 2) (j : Fin 4) (i : Fin 4096) (l : Fin 704), y = ix4 g j i l := ⟨y 0, y 1, y 2, y 3, eq_ix4 y⟩
    exact u_result g j i l
  · rw [Cert.FfnActRefIdeal.Read.val_main_v35_eq, (hagree c).1, (hagree c).2.1, (hagree c).2.2.1, (hagree c).2.2.2]
    refine funext fun (y : Cert.FfnActRefIdeal.S4x4096x704.Idx) => ?_
    obtain ⟨j, i, l, rfl⟩ : ∃ (j : Fin 4) (i : Fin 4096) (l : Fin 704), y = ix3 j i l := ⟨y 0, y 1, y 2, eq_ix3 y⟩
    exact act_result j i l

end Cert.Proof.FfnAct

end
-- ==== Proof.MmNnValue.lean ====
/-
  The attention's qkv projection: rows times columns, in blocks of 1024 rows and 768 columns.
-/
module

public import proofs.«01_k».proof.Proof.Gen.MmNnIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MmNnIdeal.Hand

open Cert.MmNnIdeal Cert.MmNnIdeal.Gen Idealize.ShloMosaic Idealize.ShloMosaic.TcCoe Idealize.SL.Sem
open scoped BigOperators

/-- The projected rows. -/
def P (h : Vec Ideal S4096x1024 .bf16) (w : Vec Ideal S1024x1536 .bf16) : Vec Ideal S4096x1536 .f32 :=
  fun i => ∑ j : Fin 1024, h (ix2 (i 0) j) * w (ix2 j (i 1))

variable (m : (ℓ : Loc nD τ sig) → Buf (Elt Ideal) ℓ)

theorem idx : ∀ t, win0_0.index t = ![t.val / 2, 0] ∧ win0_1.index t = ![0, t.val % 2] ∧ win0_2.index t = ![t.val / 2, t.val % 2] := by
  decide +kernel

theorem pay (h : Vec Ideal S1024x1024 .bf16) (w : Vec Ideal S1024x768 .bf16) (r : Fin 1024) (l : Fin 768) :
    k0_pay1 h w (ix2 r l) = ∑ j : Fin 1024, h (ix2 r j) * w (ix2 j l) := by
  pointwise [k0_pay1]

theorem array (c : Dev nD) : (dats m 0 c).arrAt 2 cfg0.N = P (m ((c : Thread nD τ).loc main_arg0)) (m ((c : Thread nD τ).loc main_arg1)) := by
  refine (dats m 0 c).arrAt_eq_of_covers 2 _ (by decide +kernel) fun t hf (y : S1024x768.Idx) => ?_
  blk_simp
  rw [after0_2]
  unfold out0_2
  frame_out
  obtain ⟨r, l, rfl⟩ : ∃ (r : Fin 1024) (l : Fin 768), y = ix2 r l := ⟨y 0, y 1, eq_ix2 y⟩
  rw [pay]
  unfold P
  blk_point [iblk, V, idx t]

end Cert.MmNnIdeal.Hand

end
-- ==== Proof.MmNnClaim.lean ====
/-
  The claims about the attention's qkv projection.
-/
module

public import proofs.«01_k».proof.Defs
public import proofs.«01_k».proof.Proof.Gen.MmNn.Frame
public import proofs.«01_k».proof.Proof.Gen.MmNnRefIdeal.Run
public import proofs.«01_k».proof.Proof.Gen.MmNnRefIdeal.Read
public import proofs.«01_k».proof.Proof.MmNnValue
public import Idealize.ShloMosaic.Lib.Quiescent

@[expose] public section

set_option maxRecDepth 16384

noncomputable section

namespace Cert.Proof.MmNn

open Idealize.ShloMosaic Idealize.ShloMosaic.TcCoe Idealize.SL.Sem

theorem frame : Cert.quiescent_MmNn := fun m ρ _ => Cert.MmNn.Gen.frame m ρ
theorem frameIdeal : Cert.quiescent_MmNnIdeal := fun m ρ _ => Cert.MmNnIdeal.Gen.frame m ρ
theorem frameRef : Cert.quiescent_MmNnRefIdeal := fun m ρ _ =>
  (θ_run Cert.MmNnRefIdeal.defs _ _).mono (fun r h => ⟨fun c => (h c).2, sem_eq_zero_of_no_sems (by decide) r.2⟩)
    (Cert.MmNnRefIdeal.Value.run (F := Ideal) m ρ)
theorem preserves : Cert.preserves_MmNn_MmNnIdeal := trivial

theorem algebraic : Cert.algebraic_MmNnIdeal_MmNnRefIdeal := by
  intro m ρ m' ρ' _ hagree
  refine ⟨fun c => Cert.MmNnIdeal.Hand.P _ _,
    (θ_run Cert.MmNnIdeal.defs _ _).mono (fun _ h c => ⟨(h c).1.trans (Cert.MmNnIdeal.Hand.array m c), (h c).2⟩)
      (Cert.MmNnIdeal.Value.run_blocks (F := Ideal) m ρ),
    (θ_run Cert.MmNnRefIdeal.defs _ _).mono (fun _ h c => ⟨(h c).1.trans ?_, (h c).2⟩)
      (Cert.MmNnRefIdeal.Value.run (F := Ideal) m' ρ')⟩
  rw [(hagree c).1, (hagree c).2]
  refine funext fun (i : Cert.MmNnRefIdeal.S4096x1536.Idx) => ?_
  obtain ⟨r, l, rfl⟩ : ∃ (r : Fin 4096) (l : Fin 1536), i = ix2 r l := ⟨i 0, i 1, eq_ix2 i⟩
  unfold Cert.MmNnIdeal.Hand.P
  pointwise

end Cert.Proof.MmNn

end
-- ==== Proof.MmNtValue.lean ====
/-
  The gradient that goes back through the attention's output projection: the rows times the matrix' rows.
-/
module

public import proofs.«01_k».proof.Proof.Gen.MmNtIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MmNtIdeal.Hand

open Cert.MmNtIdeal Cert.MmNtIdeal.Gen Idealize.ShloMosaic Idealize.ShloMosaic.TcCoe Idealize.SL.Sem
open scoped BigOperators

/-- The rows sent back. -/
def P (g : Vec Ideal S4096x1024 .f32) (w : Vec Ideal S1024x1024 .bf16) : Vec Ideal S4096x1024 .bf16 :=
  fun i => ∑ j : Fin 1024, g (ix2 (i 0) j) * w (ix2 (i 1) j)

variable (m : (ℓ : Loc nD τ sig) → Buf (Elt Ideal) ℓ)

theorem idx : ∀ t, win0_0.index t = ![t.val, 0] ∧ win0_1.index t = ![0, 0] ∧ win0_2.index t = ![t.val, 0] := by
  decide +kernel

theorem pay (g : Vec Ideal S1024x1024 .f32) (w : Vec Ideal S1024x1024 .bf16) (r l : Fin 1024) :
    k0_pay1 g w (ix2 r l) = ∑ j : Fin 1024, g (ix2 r j) * w (ix2 l j) := by
  pointwise [k0_pay1]

theorem array (c : Dev nD) : (dats m 0 c).arrAt 2 cfg0.N = P (m ((c : Thread nD τ).loc main_arg0)) (m ((c : Thread nD τ).loc main_arg1)) := by
  refine (dats m 0 c).arrAt_eq_of_covers 2 _ (by decide +kernel) fun t hf (y : S1024x1024.Idx) => ?_
  blk_simp
  rw [after0_2]
  unfold out0_2
  frame_out
  obtain ⟨r, l, rfl⟩ : ∃ (r l : Fin 1024), y = ix2 r l := ⟨y 0, y 1, eq_ix2 y⟩
  rw [pay]
  unfold P
  blk_point [iblk, V, idx t]

end Cert.MmNtIdeal.Hand

end
-- ==== Proof.MmNtClaim.lean ====
/-
  The claims about the gradient through the attention's output projection.
-/
module

public import proofs.«01_k».proof.Defs
public import proofs.«01_k».proof.Proof.Gen.MmNt.Frame
public import proofs.«01_k».proof.Proof.Gen.MmNtRefIdeal.Run
public import proofs.«01_k».proof.Proof.Gen.MmNtRefIdeal.Read
public import proofs.«01_k».proof.Proof.MmNtValue
public import Idealize.ShloMosaic.Lib.Quiescent

@[expose] public section

set_option maxRecDepth 16384

noncomputable section

namespace Cert.Proof.MmNt

open Idealize.ShloMosaic Idealize.ShloMosaic.TcCoe Idealize.SL.Sem

theorem frame : Cert.quiescent_MmNt := fun m ρ _ => Cert.MmNt.Gen.frame m ρ
theorem frameIdeal : Cert.quiescent_MmNtIdeal := fun m ρ _ => Cert.MmNtIdeal.Gen.frame m ρ
theorem frameRef : Cert.quiescent_MmNtRefIdeal := fun m ρ _ =>
  (θ_run Cert.MmNtRefIdeal.defs _ _).mono (fun r h => ⟨fun c => (h c).2, sem_eq_zero_of_no_sems (by decide) r.2⟩)
    (Cert.MmNtRefIdeal.Value.run (F := Ideal) m ρ)
theorem preserves : Cert.preserves_MmNt_MmNtIdeal := trivial

theorem algebraic : Cert.algebraic_MmNtIdeal_MmNtRefIdeal := by
  intro m ρ m' ρ' _ hagree
  refine ⟨fun c => Cert.MmNtIdeal.Hand.P _ _,
    (θ_run Cert.MmNtIdeal.defs _ _).mono (fun _ h c => ⟨(h c).1.trans (Cert.MmNtIdeal.Hand.array m c), (h c).2⟩)
      (Cert.MmNtIdeal.Value.run_blocks (F := Ideal) m ρ),
    (θ_run Cert.MmNtRefIdeal.defs _ _).mono (fun _ h c => ⟨(h c).1.trans ?_, (h c).2⟩)
      (Cert.MmNtRefIdeal.Value.run (F := Ideal) m' ρ')⟩
  rw [(hagree c).1, (hagree c).2]
  refine funext fun (i : Cert.MmNtRefIdeal.S4096x1024.Idx) => ?_
  obtain ⟨r, l, rfl⟩ : ∃ (r : Fin 4096) (l : Fin 1024), i = ix2 r l := ⟨i 0, i 1, eq_ix2 i⟩
  unfold Cert.MmNtIdeal.Hand.P
  pointwise

end Cert.Proof.MmNt

end
-- ==== Proof.MmKvValue.lean ====
/-
  The memory's key and value projection, one block of 256 columns at a time.
-/
module

public import proofs.«01_k».proof.Proof.Gen.MmKvIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MmKvIdeal.Hand

open Cert.MmKvIdeal Cert.MmKvIdeal.Gen Idealize.ShloMosaic Idealize.ShloMosaic.TcCoe Idealize.SL.Sem
open scoped BigOperators

/-- One entry of the projected memory: row `r`, column `l` of the column block `b`. -/
def cell (x : Vec Ideal S256x1024 .bf16) (w : Vec Ideal S1024x2048 .bf16) (b : Fin 8) (r l : Fin 256) : EReal :=
  ∑ j : Fin 1024, x (ix2 r j) * w (ix2 j ⟨b.val * 256 + l.val, by omega⟩)

theorem cell_of {x : Vec Ideal S256x1024 .bf16} {w : Vec Ideal S1024x2048 .bf16} {b : Fin 8} {r l : Fin 256} {p q : Fin 1024 → EReal}
    (h : ∀ j, p j = x (ix2 r j) ∧ q j = w (ix2 j ⟨b.val * 256 + l.val, by omega⟩)) : ∑ j, p j * q j = cell x w b r l :=
  Finset.sum_congr rfl fun j _ => congrArg₂ (fun a b : EReal => a * b) (h j).1 (h j).2

/-- The projected memory, a column block at a time. -/
def P (x : Vec Ideal S256x1024 .bf16) (w : Vec Ideal S1024x2048 .bf16) : Vec Ideal S8x256x256 .bf16 := fun i => cell x w (i 0) (i 1) (i 2)

variable (m : (ℓ : Loc nD τ sig) → Buf (Elt Ideal) ℓ)

theorem idx : ∀ t, win0_0.index t = ![0, 0] ∧ win0_1.index t = ![t.val, 0, 0] ∧ win0_2.index t = ![t.val, 0, 0] := by
  decide +kernel

theorem pay (x : Vec Ideal S256x1024 .bf16) (w : Vec Ideal S1x1024x256 .bf16) (r l : Fin 256) :
    k0_pay1 x w (ix3 (0 : Fin 1) r l) = ∑ j : Fin 1024, x (ix2 r j) * w (ix3 (0 : Fin 1) j l) := by
  pointwise [k0_pay1]

/-- The second operand's array: the matrix' column blocks. -/
theorem w_eq (c : Dev nD) (b : Fin 8) (k : Fin 1024) (l : Fin 256) : V m c main_v1 (ix3 b k l)
    = m ((c : Thread nD τ).loc main_arg1) (ix2 k ⟨b.val * 256 + l.val, by omega⟩) := by
  have e : V m c main_v1 = StableHlo.after hostOps0 (fun b => m (c, b)) (Proc.devRef .tc main_v1) := rfl
  rw [e]
  after_results_simp
  pointwise []

def bOf (t : Fin cfg0.N) : Fin 8 := ⟨t.val, lt_of_lt_of_eq t.isLt N_0⟩

/-- The point's blocks of the operands. -/
theorem entry (c : Dev nD) (t : Fin cfg0.N) (r l : Fin 256) (j : Fin 1024) : iblk m c 0 t (ix2 r j) = m ((c : Thread nD τ).loc main_arg0) (ix2 r j)
    ∧ iblk m c 1 t (ix3 0 j l) = m ((c : Thread nD τ).loc main_arg1) (ix2 j ⟨(bOf t).val * 256 + l.val, by omega⟩) := by
  constructor
  · blk_point [iblk, V, idx t]
  · refine Eq.trans ?_ (w_eq m c (bOf t) j l)
    blk_point [iblk, idx t, bOf]

theorem array (c : Dev nD) : (dats m 0 c).arrAt 2 cfg0.N = P (m ((c : Thread nD τ).loc main_arg0)) (m ((c : Thread nD τ).loc main_arg1)) := by
  refine (dats m 0 c).arrAt_eq_of_covers 2 _ (by decide +kernel) fun t hf (y : S1x256x256.Idx) => ?_
  blk_simp
  rw [after0_2]
  unfold out0_2
  frame_out
  obtain ⟨r, l, rfl⟩ : ∃ (r l : Fin 256), y = ix3 0 r l := ⟨y 1, y 2, (eq_ix3 y).trans (by
    rw [show y 0 = (0 : Fin 1) from Subsingleton.elim (α := Fin 1) _ _])⟩
  rw [pay]
  have f0 : (win0_2.blk t).view.emb (ix3 0 r l) 0 = bOf t := Fin.ext (show _ = t.val by blk_simp [idx t] <;> omega)
  have f1 : (win0_2.blk t).view.emb (ix3 0 r l) 1 = r := Fin.ext (by blk_simp [idx t] <;> omega)
  have f2 : (win0_2.blk t).view.emb (ix3 0 r l) 2 = l := Fin.ext (by blk_simp [idx t] <;> omega)
  unfold P
  rw [f0, f1, f2]
  exact cell_of fun j => entry m c t r l j

end Cert.MmKvIdeal.Hand

end
-- ==== Proof.MmKvClaim.lean ====
/-
  The claims about the memory's key and value projection.
-/
module

public import proofs.«01_k».proof.Defs
public import proofs.«01_k».proof.Proof.Gen.MmKv.Frame
public import proofs.«01_k».proof.Proof.Gen.MmKvRefIdeal.Run
public import proofs.«01_k».proof.Proof.Gen.MmKvRefIdeal.Read
public import proofs.«01_k».proof.Proof.MmKvValue
public import Idealize.ShloMosaic.Lib.Quiescent

@[expose] public section

set_option maxRecDepth 16384

noncomputable section

namespace Cert.Proof.MmKv

open Idealize.ShloMosaic Idealize.ShloMosaic.TcCoe Idealize.SL.Sem

theorem frame : Cert.quiescent_MmKv := fun m ρ _ => Cert.MmKv.Gen.frame m ρ
theorem frameIdeal : Cert.quiescent_MmKvIdeal := fun m ρ _ => Cert.MmKvIdeal.Gen.frame m ρ
theorem frameRef : Cert.quiescent_MmKvRefIdeal := fun m ρ _ =>
  (θ_run Cert.MmKvRefIdeal.defs _ _).mono (fun r h => ⟨fun c => (h c).2, sem_eq_zero_of_no_sems (by decide) r.2⟩)
    (Cert.MmKvRefIdeal.Value.run (F := Ideal) m ρ)
theorem preserves : Cert.preserves_MmKv_MmKvIdeal := trivial

theorem algebraic : Cert.algebraic_MmKvIdeal_MmKvRefIdeal := by
  intro m ρ m' ρ' _ hagree
  refine ⟨fun c => Cert.MmKvIdeal.Hand.P _ _,
    (θ_run Cert.MmKvIdeal.defs _ _).mono (fun _ h c => ⟨(h c).1.trans (Cert.MmKvIdeal.Hand.array m c), (h c).2⟩)
      (Cert.MmKvIdeal.Value.run_blocks (F := Ideal) m ρ),
    (θ_run Cert.MmKvRefIdeal.defs _ _).mono (fun _ h c => ⟨(h c).1.trans ?_, (h c).2⟩)
      (Cert.MmKvRefIdeal.Value.run (F := Ideal) m' ρ')⟩
  rw [(hagree c).1, (hagree c).2]
  refine funext fun (i : Cert.MmKvRefIdeal.S8x256x256.Idx) => ?_
  obtain ⟨b, r, l, rfl⟩ : ∃ (b : Fin 8) (r l : Fin 256), i = ix3 b r l := ⟨i 0, i 1, i 2, eq_ix3 i⟩
  unfold Cert.MmKvIdeal.Hand.P Cert.MmKvIdeal.Hand.cell
  pointwise

end Cert.Proof.MmKv

end
-- ==== Proof.MmDownValue.lean ====
/-
  The down projection with its residual: the kernel adds up the products of four stacked blocks of 704 columns.
-/
module

public import proofs.«01_k».proof.Proof.Gen.MmDownIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MmDownIdeal.Hand

open Cert.MmDownIdeal Cert.MmDownIdeal.Gen Idealize.ShloMosaic Idealize.ShloMosaic.TcCoe Idealize.SL.Sem
open scoped BigOperators

/-- One entry: the residual and the row times the column. -/
def cell (a : Vec Ideal S4096x2816 .bf16) (w : Vec Ideal S2816x1024 .bf16) (res : Vec Ideal S4096x1024 .f32) (r : Fin 4096) (l : Fin 1024) : EReal :=
  res (ix2 r l) + ∑ j : Fin 2816, a (ix2 r j) * w (ix2 j l)

/-- The projected rows with their residual. -/
def P (a : Vec Ideal S4096x2816 .bf16) (w : Vec Ideal S2816x1024 .bf16) (res : Vec Ideal S4096x1024 .f32) : Vec Ideal S4096x1024 .f32 :=
  fun i => cell a w res (i 0) (i 1)

variable (m : (ℓ : Loc nD τ sig) → Buf (Elt Ideal) ℓ)

theorem idx : ∀ t, win0_0.index t = ![0, t.val, 0] ∧ win0_1.index t = ![0, 0] ∧ win0_2.index t = ![t.val, 0] ∧ win0_3.index t = ![t.val, 0] := by
  decide +kernel

def at' (s : Fin 4) (j : Fin 704) : Fin 2816 := ⟨s.val * 704 + j.val, by omega⟩

theorem point (a : Vec Ideal S4x1024x704 .bf16) (w : Vec Ideal S2816x1024 .bf16) (res : Vec Ideal S1024x1024 .f32) (y : S1024x1024.Idx) :
    out0_3 a w res y = (0 + (∑ j, a (ix3 0 (y 0) j) * w (ix2 (at' 0 j) (y 1))) + (∑ j, a (ix3 1 (y 0) j) * w (ix2 (at' 1 j) (y 1)))
      + (∑ j, a (ix3 2 (y 0) j) * w (ix2 (at' 2 j) (y 1))) + ∑ j, a (ix3 3 (y 0) j) * w (ix2 (at' 3 j) (y 1))) + res (ix2 (y 0) (y 1)) := by
  unfold out0_3
  canon_tiles x h
  all_goals
    open_payloads
    pointwise [at']
    obtain rfl : x = y := (eq_ix2 x).trans ((congrArg₂ ix2 (Fin.ext h0.symm) (Fin.ext h1.symm)).trans (eq_ix2 y).symm)
    rfl

/-- The first operand's array: the rows' column blocks, one after another. -/
theorem a_eq (c : Dev nD) (s : Fin 4) (r : Fin 4096) (j : Fin 704) : V m c main_v1 (ix3 s r j)
    = m ((c : Thread nD τ).loc main_arg0) (ix2 r (at' s j)) := by
  have e : V m c main_v1 = StableHlo.after hostOps0 (fun b => m (c, b)) (Proc.devRef .tc main_v1) := rfl
  rw [e]
  after_results_simp
  pointwise [at']

def rOf (t : Fin cfg0.N) (r : Fin 1024) : Fin 4096 := ⟨t.val * 1024 + r.val, by have := lt_of_lt_of_eq t.isLt (show cfg0.N = 4 from N_0); omega⟩

/-- The point's blocks of the operands. -/
theorem entry (c : Dev nD) (t : Fin cfg0.N) (r l : Fin 1024) (s : Fin 4) (j : Fin 704) :
    iblk m c 0 t (ix3 s r j) = m ((c : Thread nD τ).loc main_arg0) (ix2 (rOf t r) (at' s j))
    ∧ iblk m c 1 t (ix2 (at' s j) l) = m ((c : Thread nD τ).loc main_arg1) (ix2 (at' s j) l)
    ∧ iblk m c 2 t (ix2 r l) = m ((c : Thread nD τ).loc main_arg2) (ix2 (rOf t r) l) := by
  refine ⟨(?_ : _ = _).trans (a_eq m c s (rOf t r) j), ?_, ?_⟩
  · blk_point [iblk, idx t, rOf]
  · blk_point [iblk, V, idx t]
  · blk_point [iblk, V, idx t, rOf]

/-- The four blocks' products are the whole row's. -/
theorem cell_of {a : Vec Ideal S4096x2816 .bf16} {w : Vec Ideal S2816x1024 .bf16} {res : Vec Ideal S4096x1024 .f32} {r : Fin 4096} {l : Fin 1024}
    {p q : Fin 4 → Fin 704 → EReal} {u : EReal} (h : ∀ s j, p s j = a (ix2 r (at' s j)) ∧ q s j = w (ix2 (at' s j) l) ∧ u = res (ix2 r l)) :
    (0 + (∑ j, p 0 j * q 0 j) + (∑ j, p 1 j * q 1 j) + (∑ j, p 2 j * q 2 j) + ∑ j, p 3 j * q 3 j) + u = cell a w res r l := by
  rw [zero_add, add_comm _ u, (h 0 0).2.2]
  refine congrArg (fun x : EReal => res (ix2 r l) + x) ?_
  refine (Fin.sum_univ_four fun s => ∑ j, p s j * q s j).symm.trans (Eq.trans (Finset.sum_congr rfl fun s _ => Finset.sum_congr rfl fun j _ => ?_)
    (Fin.sum_mul_add_fin 4 704 fun j : Fin (4 * 704) => (a (ix2 r j) * w (ix2 j l) : EReal)))
  exact congrArg₂ (fun a b : EReal => a * b) (h s j).1 (h s j).2.1

theorem array (c : Dev nD) : (dats m 0 c).arrAt 3 cfg0.N
    = P (m ((c : Thread nD τ).loc main_arg0)) (m ((c : Thread nD τ).loc main_arg1)) (m ((c : Thread nD τ).loc main_arg2)) := by
  refine (dats m 0 c).arrAt_eq_of_covers 3 _ (by decide +kernel) fun t hf (y : S1024x1024.Idx) => ?_
  blk_simp
  obtain ⟨r, l, rfl⟩ : ∃ (r l : Fin 1024), y = ix2 r l := ⟨y 0, y 1, eq_ix2 y⟩
  rw [after0_3, point]
  have f0 : (win0_3.blk t).view.emb (ix2 r l) 0 = rOf t r := Fin.ext (show _ = t.val * 1024 + r.val by blk_simp [idx t] <;> omega)
  have f1 : (win0_3.blk t).view.emb (ix2 r l) 1 = l := Fin.ext (by blk_simp [idx t] <;> omega)
  unfold P
  rw [f0, f1]
  exact cell_of (p := fun s j => iblk m c 0 t (ix3 s r j)) (q := fun s j => iblk m c 1 t (ix2 (at' s j) l)) fun s j => entry m c t r l s j

end Cert.MmDownIdeal.Hand

end
-- ==== Proof.MmDownClaim.lean ====
/-
  The claims about the down projection with its residual.
-/
module

public import proofs.«01_k».proof.Defs
public import proofs.«01_k».proof.Proof.Gen.MmDown.Frame
public import proofs.«01_k».proof.Proof.Gen.MmDownRefIdeal.Run
public import proofs.«01_k».proof.Proof.Gen.MmDownRefIdeal.Read
public import proofs.«01_k».proof.Proof.MmDownValue
public import Idealize.ShloMosaic.Lib.Quiescent

@[expose] public section

set_option maxRecDepth 16384

noncomputable section

namespace Cert.Proof.MmDown

open Idealize.ShloMosaic Idealize.ShloMosaic.TcCoe Idealize.SL.Sem

theorem frame : Cert.quiescent_MmDown := fun m ρ _ => Cert.MmDown.Gen.frame m ρ
theorem frameIdeal : Cert.quiescent_MmDownIdeal := fun m ρ _ => Cert.MmDownIdeal.Gen.frame m ρ
theorem frameRef : Cert.quiescent_MmDownRefIdeal := fun m ρ _ =>
  (θ_run Cert.MmDownRefIdeal.defs _ _).mono (fun r h => ⟨fun c => (h c).2, sem_eq_zero_of_no_sems (by decide) r.2⟩)
    (Cert.MmDownRefIdeal.Value.run (F := Ideal) m ρ)
theorem preserves : Cert.preserves_MmDown_MmDownIdeal := trivial

theorem algebraic : Cert.algebraic_MmDownIdeal_MmDownRefIdeal := by
  intro m ρ m' ρ' _ hagree
  refine ⟨fun c => Cert.MmDownIdeal.Hand.P _ _ _,
    (θ_run Cert.MmDownIdeal.defs _ _).mono (fun _ h c => ⟨(h c).1.trans (Cert.MmDownIdeal.Hand.array m c), (h c).2⟩)
      (Cert.MmDownIdeal.Value.run_blocks (F := Ideal) m ρ),
    (θ_run Cert.MmDownRefIdeal.defs _ _).mono (fun _ h c => ⟨(h c).1.trans ?_, (h c).2⟩)
      (Cert.MmDownRefIdeal.Value.run (F := Ideal) m' ρ')⟩
  rw [(hagree c).1, (hagree c).2.1, (hagree c).2.2]
  refine funext fun (i : Cert.MmDownRefIdeal.S4096x1024.Idx) => ?_
  obtain ⟨r, l, rfl⟩ : ∃ (r : Fin 4096) (l : Fin 1024), i = ix2 r l := ⟨i 0, i 1, eq_ix2 i⟩
  unfold Cert.MmDownIdeal.Hand.P Cert.MmDownIdeal.Hand.cell
  pointwise

end Cert.Proof.MmDown

end
-- ==== Proof.MmTnValue.lean ====
/-
  The weight gradient of the cross-attention's query projection: columns times columns, summed over the rows.
-/
module

public import proofs.«01_k».proof.Proof.Gen.MmTnIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MmTnIdeal.Hand

open Cert.MmTnIdeal Cert.MmTnIdeal.Gen Idealize.ShloMosaic Idealize.ShloMosaic.TcCoe Idealize.SL.Sem
open scoped BigOperators

/-- The weight gradient. -/
def P (h q : Vec Ideal S4096x1024 .bf16) : Vec Ideal S1024x1024 .f32 := fun i => ∑ p : Fin 4096, h (ix2 p (i 0)) * q (ix2 p (i 1))

variable (m : (ℓ : Loc nD τ sig) → Buf (Elt Ideal) ℓ)

theorem idx : ∀ t, win0_0.index t = ![0, 0] ∧ win0_1.index t = ![0, 0] ∧ win0_2.index t = ![0, 0] := by decide +kernel

theorem pay (h q : Vec Ideal S4096x1024 .bf16) (k l : Fin 1024) : k0_pay1 h q (ix2 k l) = ∑ p : Fin 4096, h (ix2 p k) * q (ix2 p l) := by
  pointwise [k0_pay1]

theorem array (c : Dev nD) : (dats m 0 c).arrAt 2 cfg0.N = P (m ((c : Thread nD τ).loc main_arg0)) (m ((c : Thread nD τ).loc main_arg1)) := by
  refine (dats m 0 c).arrAt_eq_of_covers 2 _ (by decide +kernel) fun t hf (y : S1024x1024.Idx) => ?_
  blk_simp
  rw [after0_2]
  unfold out0_2
  frame_out
  obtain ⟨k, l, rfl⟩ : ∃ (k l : Fin 1024), y = ix2 k l := ⟨y 0, y 1, eq_ix2 y⟩
  rw [pay]
  unfold P
  blk_point [iblk, V, idx t]

end Cert.MmTnIdeal.Hand

end
-- ==== Proof.MmTnClaim.lean ====
/-
  The claims about the weight gradient of the cross-attention's query projection.
-/
module

public import proofs.«01_k».proof.Defs
public import proofs.«01_k».proof.Proof.Gen.MmTn.Frame
public import proofs.«01_k».proof.Proof.Gen.MmTnRefIdeal.Run
public import proofs.«01_k».proof.Proof.Gen.MmTnRefIdeal.Read
public import proofs.«01_k».proof.Proof.MmTnValue
public import Idealize.ShloMosaic.Lib.Quiescent

@[expose] public section

set_option maxRecDepth 16384

noncomputable section

namespace Cert.Proof.MmTn

open Idealize.ShloMosaic Idealize.ShloMosaic.TcCoe Idealize.SL.Sem

theorem frame : Cert.quiescent_MmTn := fun m ρ _ => Cert.MmTn.Gen.frame m ρ
theorem frameIdeal : Cert.quiescent_MmTnIdeal := fun m ρ _ => Cert.MmTnIdeal.Gen.frame m ρ
theorem frameRef : Cert.quiescent_MmTnRefIdeal := fun m ρ _ =>
  (θ_run Cert.MmTnRefIdeal.defs _ _).mono (fun r h => ⟨fun c => (h c).2, sem_eq_zero_of_no_sems (by decide) r.2⟩)
    (Cert.MmTnRefIdeal.Value.run (F := Ideal) m ρ)
theorem preserves : Cert.preserves_MmTn_MmTnIdeal := trivial

theorem algebraic : Cert.algebraic_MmTnIdeal_MmTnRefIdeal := by
  intro m ρ m' ρ' _ hagree
  refine ⟨fun c => Cert.MmTnIdeal.Hand.P _ _,
    (θ_run Cert.MmTnIdeal.defs _ _).mono (fun _ h c => ⟨(h c).1.trans (Cert.MmTnIdeal.Hand.array m c), (h c).2⟩)
      (Cert.MmTnIdeal.Value.run_blocks (F := Ideal) m ρ),
    (θ_run Cert.MmTnRefIdeal.defs _ _).mono (fun _ h c => ⟨(h c).1.trans ?_, (h c).2⟩)
      (Cert.MmTnRefIdeal.Value.run (F := Ideal) m' ρ')⟩
  rw [(hagree c).1, (hagree c).2]
  refine funext fun (i : Cert.MmTnRefIdeal.S1024x1024.Idx) => ?_
  obtain ⟨r, l, rfl⟩ : ∃ (r l : Fin 1024), i = ix2 r l := ⟨i 0, i 1, eq_ix2 i⟩
  unfold Cert.MmTnIdeal.Hand.P
  pointwise
  exact Finset.sum_congr rfl fun p _ => mul_comm _ _

end Cert.Proof.MmTn

end
-- ==== Proof.MmKvDwValue.lean ====
/-
  The weight gradient of the memory's key and value projection, one block of 256 columns at a time.
-/
module

public import proofs.«01_k».proof.Proof.Gen.MmKvDwIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MmKvDwIdeal.Hand

open Cert.MmKvDwIdeal Cert.MmKvDwIdeal.Gen Idealize.ShloMosaic Idealize.ShloMosaic.TcCoe Idealize.SL.Sem
open scoped BigOperators

/-- One entry of the weight gradient: row `k`, column `l` of the column block `b`. -/
def cell (x : Vec Ideal S256x1024 .bf16) (d : Vec Ideal S256x2048 .bf16) (b : Fin 8) (k : Fin 1024) (l : Fin 256) : EReal :=
  ∑ p : Fin 256, x (ix2 p k) * d (ix2 p ⟨b.val * 256 + l.val, by omega⟩)

theorem cell_of {x : Vec Ideal S256x1024 .bf16} {d : Vec Ideal S256x2048 .bf16} {b : Fin 8} {k : Fin 1024} {l : Fin 256} {u v : Fin 256 → EReal}
    (h : ∀ p, u p = x (ix2 p k) ∧ v p = d (ix2 p ⟨b.val * 256 + l.val, by omega⟩)) : ∑ p, u p * v p = cell x d b k l :=
  Finset.sum_congr rfl fun p _ => congrArg₂ (fun a b : EReal => a * b) (h p).1 (h p).2

/-- The weight gradient, a column block at a time. -/
def P (x : Vec Ideal S256x1024 .bf16) (d : Vec Ideal S256x2048 .bf16) : Vec Ideal S8x1024x256 .f32 := fun i => cell x d (i 0) (i 1) (i 2)

variable (m : (ℓ : Loc nD τ sig) → Buf (Elt Ideal) ℓ)

theorem idx : ∀ t, win0_0.index t = ![0, 0] ∧ win0_1.index t = ![t.val, 0, 0] ∧ win0_2.index t = ![t.val, 0, 0] := by
  decide +kernel

theorem pay (x : Vec Ideal S256x1024 .bf16) (d : Vec Ideal S1x256x256 .bf16) (k : Fin 1024) (l : Fin 256) :
    k0_pay1 x d (ix3 (0 : Fin 1) k l) = ∑ p : Fin 256, x (ix2 p k) * d (ix3 (0 : Fin 1) p l) := by
  pointwise [k0_pay1]

/-- The second operand's array: the cotangent's column blocks. -/
theorem d_eq (c : Dev nD) (b : Fin 8) (p l : Fin 256) : V m c main_v1 (ix3 b p l)
    = m ((c : Thread nD τ).loc main_arg1) (ix2 p ⟨b.val * 256 + l.val, by omega⟩) := by
  have e : V m c main_v1 = StableHlo.after hostOps0 (fun b => m (c, b)) (Proc.devRef .tc main_v1) := rfl
  rw [e]
  after_results_simp
  pointwise []

def bOf (t : Fin cfg0.N) : Fin 8 := ⟨t.val, lt_of_lt_of_eq t.isLt N_0⟩

/-- The point's blocks of the operands. -/
theorem entry (c : Dev nD) (t : Fin cfg0.N) (p l : Fin 256) (k : Fin 1024) : iblk m c 0 t (ix2 p k) = m ((c : Thread nD τ).loc main_arg0) (ix2 p k)
    ∧ iblk m c 1 t (ix3 0 p l) = m ((c : Thread nD τ).loc main_arg1) (ix2 p ⟨(bOf t).val * 256 + l.val, by omega⟩) := by
  constructor
  · blk_point [iblk, V, idx t]
  · refine Eq.trans ?_ (d_eq m c (bOf t) p l)
    blk_point [iblk, idx t, bOf]

theorem array (c : Dev nD) : (dats m 0 c).arrAt 2 cfg0.N = P (m ((c : Thread nD τ).loc main_arg0)) (m ((c : Thread nD τ).loc main_arg1)) := by
  refine (dats m 0 c).arrAt_eq_of_covers 2 _ (by decide +kernel) fun t hf (y : S1x1024x256.Idx) => ?_
  blk_simp
  rw [after0_2]
  unfold out0_2
  frame_out
  obtain ⟨k, l, rfl⟩ : ∃ (k : Fin 1024) (l : Fin 256), y = ix3 0 k l := ⟨y 1, y 2, (eq_ix3 y).trans (by
    rw [show y 0 = (0 : Fin 1) from Subsingleton.elim (α := Fin 1) _ _])⟩
  rw [pay]
  have f0 : (win0_2.blk t).view.emb (ix3 0 k l) 0 = bOf t := Fin.ext (show _ = t.val by blk_simp [idx t] <;> omega)
  have f1 : (win0_2.blk t).view.emb (ix3 0 k l) 1 = k := Fin.ext (by blk_simp [idx t] <;> omega)
  have f2 : (win0_2.blk t).view.emb (ix3 0 k l) 2 = l := Fin.ext (by blk_simp [idx t] <;> omega)
  unfold P
  rw [f0, f1, f2]
  exact cell_of fun p => entry m c t p l k

end Cert.MmKvDwIdeal.Hand

end
-- ==== Proof.MmKvDwClaim.lean ====
/-
  The claims about the weight gradient of the memory's key and value projection.
-/
module

public import proofs.«01_k».proof.Defs
public import proofs.«01_k».proof.Proof.Gen.MmKvDw.Frame
public import proofs.«01_k».proof.Proof.Gen.MmKvDwRefIdeal.Run
public import proofs.«01_k».proof.Proof.Gen.MmKvDwRefIdeal.Read
public import proofs.«01_k».proof.Proof.MmKvDwValue
public import Idealize.ShloMosaic.Lib.Quiescent

@[expose] public section

set_option maxRecDepth 16384

noncomputable section

namespace Cert.Proof.MmKvDw

open Idealize.ShloMosaic Idealize.ShloMosaic.TcCoe Idealize.SL.Sem

theorem frame : Cert.quiescent_MmKvDw := fun m ρ _ => Cert.MmKvDw.Gen.frame m ρ
theorem frameIdeal : Cert.quiescent_MmKvDwIdeal := fun m ρ _ => Cert.MmKvDwIdeal.Gen.frame m ρ
theorem frameRef : Cert.quiescent_MmKvDwRefIdeal := fun m ρ _ =>
  (θ_run Cert.MmKvDwRefIdeal.defs _ _).mono (fun r h => ⟨fun c => (h c).2, sem_eq_zero_of_no_sems (by decide) r.2⟩)
    (Cert.MmKvDwRefIdeal.Value.run (F := Ideal) m ρ)
theorem preserves : Cert.preserves_MmKvDw_MmKvDwIdeal := trivial

theorem algebraic : Cert.algebraic_MmKvDwIdeal_MmKvDwRefIdeal := by
  intro m ρ m' ρ' _ hagree
  refine ⟨fun c => Cert.MmKvDwIdeal.Hand.P _ _,
    (θ_run Cert.MmKvDwIdeal.defs _ _).mono (fun _ h c => ⟨(h c).1.trans (Cert.MmKvDwIdeal.Hand.array m c), (h c).2⟩)
      (Cert.MmKvDwIdeal.Value.run_blocks (F := Ideal) m ρ),
    (θ_run Cert.MmKvDwRefIdeal.defs _ _).mono (fun _ h c => ⟨(h c).1.trans ?_, (h c).2⟩)
      (Cert.MmKvDwRefIdeal.Value.run (F := Ideal) m' ρ')⟩
  rw [(hagree c).1, (hagree c).2]
  refine funext fun (i : Cert.MmKvDwRefIdeal.S8x1024x256.Idx) => ?_
  obtain ⟨b, r, l, rfl⟩ : ∃ (b : Fin 8) (r : Fin 1024) (l : Fin 256), i = ix3 b r l := ⟨i 0, i 1, i 2, eq_ix3 i⟩
  unfold Cert.MmKvDwIdeal.Hand.P Cert.MmKvDwIdeal.Hand.cell
  pointwise
  exact Finset.sum_congr rfl fun p _ => mul_comm _ _

end Cert.Proof.MmKvDw

end
-- ==== Proof.AdamWValue.lean ====
/-
  The optimiser's update of one weight, entry by entry: the step, and the two moments.
-/
module

public import proofs.«01_k».proof.Proof.Gen.AdamWIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamWIdeal.Hand

open Cert.AdamWIdeal Cert.AdamWIdeal.Gen Idealize.ShloMosaic Idealize.ShloMosaic.TcCoe Idealize.SL.Sem
open scoped BigOperators

/-- The first moment. -/
def mean (g a : EReal) : EReal := Ideal.ofBits .f32 0x3F666666#32 * a + Ideal.ofBits .f32 0x3DCCCCCD#32 * g
/-- The second moment. -/
def square (g b : EReal) : EReal := Ideal.ofBits .f32 0x3F7FBE77#32 * b + Ideal.ofBits .f32 0x3A83126F#32 * (g * g)
/-- The step: the corrected moments' quotient, and the weight's decay. -/
def delta (w g a b : EReal) : EReal :=
  Ideal.ofBits .f32 0xBA83126F#32 * (Ideal.div (Ideal.div (mean g a) (Ideal.ofBits .f32 0x3F26BD02#32))
    (Ideal.sqrt (Ideal.div (square g b) (Ideal.ofBits .f32 0x3C231ACC#32)) + Ideal.ofBits .f32 0x322BCC77#32)
    + Ideal.ofBits .f32 0x3C23D70A#32 * w)

/-- The three results. -/
def M (g a : Vec Ideal S1024x192 .f32) : Vec Ideal S1024x192 .f32 := fun i => mean (g i) (a i)
def S (g b : Vec Ideal S1024x192 .f32) : Vec Ideal S1024x192 .f32 := fun i => square (g i) (b i)
def D (w g a b : Vec Ideal S1024x192 .f32) : Vec Ideal S1024x192 .f32 := fun i => delta (w i) (g i) (a i) (b i)

variable (m : (ℓ : Loc nD τ sig) → Buf (Elt Ideal) ℓ)

theorem idx : ∀ t, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem pay_m (g a : Vec Ideal S512x192 .f32) (y : S512x192.Idx) : k0_pay1 g a y = mean (g y) (a y) := rfl
theorem pay_s (g b : Vec Ideal S512x192 .f32) (y : S512x192.Idx) : k0_pay2 g b y = square (g y) (b y) := rfl
theorem pay_d (g a b w : Vec Ideal S512x192 .f32) (y : S512x192.Idx) : k0_pay3 g a b w y = delta (w y) (g y) (a y) (b y) := rfl

theorem d_array (c : Dev nD) : (dats m 0 c).arrAt 4 cfg0.N = D (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf (y : S512x192.Idx) => ?_
  blk_simp
  rw [after0_4]
  unfold out0_4
  frame_out
  rw [pay_d]
  unfold D
  blk_point [iblk, V, idx t]

theorem m_array (c : Dev nD) : (dats m 0 c).arrAt 5 cfg0.N = M (m ((c : Thread nD τ).loc main_arg1)) (m ((c : Thread nD τ).loc main_arg2)) := by
  refine (dats m 0 c).arrAt_eq_of_covers 5 _ (by decide +kernel) fun t hf (y : S512x192.Idx) => ?_
  blk_simp
  rw [after0_5]
  unfold out0_5
  frame_out
  rw [pay_m]
  unfold M
  blk_point [iblk, V, idx t]

theorem s_array (c : Dev nD) : (dats m 0 c).arrAt 6 cfg0.N = S (m ((c : Thread nD τ).loc main_arg1)) (m ((c : Thread nD τ).loc main_arg3)) := by
  refine (dats m 0 c).arrAt_eq_of_covers 6 _ (by decide +kernel) fun t hf (y : S512x192.Idx) => ?_
  blk_simp
  rw [after0_6]
  unfold out0_6
  frame_out
  rw [pay_s]
  unfold S
  blk_point [iblk, V, idx t]

end Cert.AdamWIdeal.Hand

end
-- ==== Proof.AdamWClaim.lean ====
/-
  The claims about the optimiser's update.
-/
module

public import proofs.«01_k».proof.Defs
public import proofs.«01_k».proof.Proof.Gen.AdamW.Frame
public import proofs.«01_k».proof.Proof.Gen.AdamWRefIdeal.Run
public import proofs.«01_k».proof.Proof.Gen.AdamWRefIdeal.Read
public import proofs.«01_k».proof.Proof.AdamWValue
public import Idealize.ShloMosaic.Lib.Quiescent

@[expose] public section

set_option maxRecDepth 16384

noncomputable section

namespace Cert.Proof.AdamW

open Idealize.ShloMosaic Idealize.ShloMosaic.TcCoe Idealize.SL.Sem

theorem frame : Cert.quiescent_AdamW := fun m ρ _ => Cert.AdamW.Gen.frame m ρ
theorem frameIdeal : Cert.quiescent_AdamWIdeal := fun m ρ _ => Cert.AdamWIdeal.Gen.frame m ρ
theorem frameRef : Cert.quiescent_AdamWRefIdeal := fun m ρ _ =>
  (θ_run Cert.AdamWRefIdeal.defs _ _).mono (fun r h => ⟨fun c => (h c).2.2.2, sem_eq_zero_of_no_sems (by decide) r.2⟩)
    (Cert.AdamWRefIdeal.Value.run (F := Ideal) m ρ)
theorem preserves : Cert.preserves_AdamW_AdamWIdeal := trivial

open Cert.AdamWIdeal.Hand in
theorem algebraic : Cert.algebraic_AdamWIdeal_AdamWRefIdeal := by
  intro m ρ m' ρ' _ hagree
  refine ⟨fun c => D _ _ _ _, fun c => M _ _, fun c => S _ _,
    (θ_run Cert.AdamWIdeal.defs _ _).mono (fun _ h c => ⟨(h c).1.trans (d_array m c), (h c).2.1.trans (m_array m c), (h c).2.2.1.trans (s_array m c), (h c).2.2.2⟩)
      (Cert.AdamWIdeal.Value.run_blocks (F := Ideal) m ρ),
    (θ_run Cert.AdamWRefIdeal.defs _ _).mono (fun _ h c => ⟨(h c).1.trans ?_, (h c).2.1.trans ?_, (h c).2.2.1.trans ?_, (h c).2.2.2⟩)
      (Cert.AdamWRefIdeal.Value.run (F := Ideal) m' ρ')⟩
  · rw [(hagree c).1, (hagree c).2.1, (hagree c).2.2.1, (hagree c).2.2.2]
    rfl
  · rw [(hagree c).2.1, (hagree c).2.2.1]
    rfl
  · rw [(hagree c).2.1, (hagree c).2.2.2]
    rfl

end Cert.Proof.AdamW

end
-- ==== Proof.lean ====
/-
  The claims about the calls of the training step: for each call the frames of the kernel, of the kernel over the reals and
  of the reference, and that the kernel over the reals computes what the reference does.
-/
module

public import proofs.«01_k».proof.Defs
public import proofs.«01_k».proof.Proof.Gen.AdamW.Frame
public import proofs.«01_k».proof.Proof.Gen.AdamWIdeal.Value
public import proofs.«01_k».proof.Proof.Gen.AdamWRefIdeal.Read
public import proofs.«01_k».proof.Proof.Gen.AdamWRefIdeal.Run
public import proofs.«01_k».proof.Proof.Gen.Attn.Frame
public import proofs.«01_k».proof.Proof.Gen.AttnIdeal.Frame
public import proofs.«01_k».proof.Proof.Gen.AttnRefIdeal.Read
public import proofs.«01_k».proof.Proof.Gen.AttnRefIdeal.Run
public import proofs.«01_k».proof.Proof.Gen.Ffn.Frame
public import proofs.«01_k».proof.Proof.Gen.FfnAct.Frame
public import proofs.«01_k».proof.Proof.Gen.FfnActIdeal.Value
public import proofs.«01_k».proof.Proof.Gen.FfnActRefIdeal.Read
public import proofs.«01_k».proof.Proof.Gen.FfnActRefIdeal.Run
public import proofs.«01_k».proof.Proof.Gen.FfnIdeal.Value
public import proofs.«01_k».proof.Proof.Gen.FfnRefIdeal.Read
public import proofs.«01_k».proof.Proof.Gen.FfnRefIdeal.Run
public import proofs.«01_k».proof.Proof.Gen.Loss.Frame
public import proofs.«01_k».proof.Proof.Gen.LossIdeal.Value
public import proofs.«01_k».proof.Proof.Gen.LossRefIdeal.Run
public import proofs.«01_k».proof.Proof.Gen.MmDown.Frame
public import proofs.«01_k».proof.Proof.Gen.MmDownIdeal.Value
public import proofs.«01_k».proof.Proof.Gen.MmDownRefIdeal.Read
public import proofs.«01_k».proof.Proof.Gen.MmDownRefIdeal.Run
public import proofs.«01_k».proof.Proof.Gen.MmKv.Frame
public import proofs.«01_k».proof.Proof.Gen.MmKvDw.Frame
public import proofs.«01_k».proof.Proof.Gen.MmKvDwIdeal.Value
public import proofs.«01_k».proof.Proof.Gen.MmKvDwRefIdeal.Read
public import proofs.«01_k».proof.Proof.Gen.MmKvDwRefIdeal.Run
public import proofs.«01_k».proof.Proof.Gen.MmKvIdeal.Value
public import proofs.«01_k».proof.Proof.Gen.MmKvRefIdeal.Read
public import proofs.«01_k».proof.Proof.Gen.MmKvRefIdeal.Run
public import proofs.«01_k».proof.Proof.Gen.MmNn.Frame
public import proofs.«01_k».proof.Proof.Gen.MmNnIdeal.Value
public import proofs.«01_k».proof.Proof.Gen.MmNnRefIdeal.Read
public import proofs.«01_k».proof.Proof.Gen.MmNnRefIdeal.Run
public import proofs.«01_k».proof.Proof.Gen.MmNt.Frame
public import proofs.«01_k».proof.Proof.Gen.MmNtIdeal.Value
public import proofs.«01_k».proof.Proof.Gen.MmNtRefIdeal.Read
public import proofs.«01_k».proof.Proof.Gen.MmNtRefIdeal.Run
public import proofs.«01_k».proof.Proof.Gen.MmTn.Frame
public import proofs.«01_k».proof.Proof.Gen.MmTnIdeal.Value
public import proofs.«01_k».proof.Proof.Gen.MmTnRefIdeal.Read
public import proofs.«01_k».proof.Proof.Gen.MmTnRefIdeal.Run
public import proofs.«01_k».proof.Proof.Gen.NormFwd.Frame
public import proofs.«01_k».proof.Proof.Gen.NormFwdIdeal.Value
public import proofs.«01_k».proof.Proof.Gen.NormFwdRefIdeal.Run
public import proofs.«01_k».proof.Proof.Gen.NormMem.Frame
public import proofs.«01_k».proof.Proof.Gen.NormMemIdeal.Value
public import proofs.«01_k».proof.Proof.Gen.NormMemRefIdeal.Run
public import proofs.«01_k».proof.Proof.Gen.NormRes.Frame
public import proofs.«01_k».proof.Proof.Gen.NormResIdeal.Value
public import proofs.«01_k».proof.Proof.Gen.NormResRefIdeal.Run
public import proofs.«01_k».proof.Proof.Gen.PoolMean.Frame
public import proofs.«01_k».proof.Proof.Gen.PoolMeanIdeal.Value
public import proofs.«01_k».proof.Proof.Gen.PoolMeanRefIdeal.Read
public import proofs.«01_k».proof.Proof.Gen.PoolMeanRefIdeal.Run
public import proofs.«01_k».proof.Proof.Gen.PoolOut.Frame
public import proofs.«01_k».proof.Proof.Gen.PoolOutIdeal.Value
public import proofs.«01_k».proof.Proof.Gen.PoolOutRefIdeal.Run
public import proofs.«01_k».proof.Proof.Gen.PoolProj.Frame
public import proofs.«01_k».proof.Proof.Gen.PoolProjIdeal.Value
public import proofs.«01_k».proof.Proof.Gen.PoolProjRefIdeal.Run
public import proofs.«01_k».proof.Proof.Gen.PoolWin.Frame
public import proofs.«01_k».proof.Proof.Gen.PoolWinIdeal.Value
public import proofs.«01_k».proof.Proof.Gen.PoolWinRefIdeal.Read
public import proofs.«01_k».proof.Proof.Gen.PoolWinRefIdeal.Run
public import proofs.«01_k».proof.Proof.Gen.QNorm.Frame
public import proofs.«01_k».proof.Proof.Gen.QNormIdeal.Value
public import proofs.«01_k».proof.Proof.Gen.QNormRefIdeal.Run
public import proofs.«01_k».proof.Proof.Gen.QkvNorm.Frame
public import proofs.«01_k».proof.Proof.Gen.QkvNormIdeal.Value
public import proofs.«01_k».proof.Proof.Gen.QkvNormRefIdeal.Run
public import proofs.«01_k».proof.Proof.Gen.ResNorm.Frame
public import proofs.«01_k».proof.Proof.Gen.ResNormIdeal.Value
public import proofs.«01_k».proof.Proof.Gen.ResNormRefIdeal.Run
public import proofs.«01_k».proof.Proof.Gen.UpNorm.Frame
public import proofs.«01_k».proof.Proof.Gen.UpNormIdeal.Value
public import proofs.«01_k».proof.Proof.Gen.UpNormRefIdeal.Run
public import proofs.«01_k».proof.Proof.Gen.Xattn.Frame
public import proofs.«01_k».proof.Proof.Gen.XattnIdeal.Value
public import proofs.«01_k».proof.Proof.Gen.XattnOut.Frame
public import proofs.«01_k».proof.Proof.Gen.XattnOutIdeal.Value
public import proofs.«01_k».proof.Proof.Gen.XattnOutRefIdeal.Read
public import proofs.«01_k».proof.Proof.Gen.XattnOutRefIdeal.Run
public import proofs.«01_k».proof.Proof.Gen.XattnRefIdeal.Read
public import proofs.«01_k».proof.Proof.Gen.XattnRefIdeal.Run
public import proofs.«01_k».proof.Proof.AttnClaim
public import proofs.«01_k».proof.Proof.NormResClaim
public import proofs.«01_k».proof.Proof.NormMemClaim
public import proofs.«01_k».proof.Proof.QNormClaim
public import proofs.«01_k».proof.Proof.QkvNormClaim
public import proofs.«01_k».proof.Proof.UpNormClaim
public import proofs.«01_k».proof.Proof.LossClaim
public import proofs.«01_k».proof.Proof.PoolProjClaim
public import proofs.«01_k».proof.Proof.XattnClaim
public import proofs.«01_k».proof.Proof.FfnClaim
public import proofs.«01_k».proof.Proof.PoolWinClaim
public import proofs.«01_k».proof.Proof.NormFwdClaim
public import proofs.«01_k».proof.Proof.ResNormClaim
public import proofs.«01_k».proof.Proof.PoolOutClaim
public import proofs.«01_k».proof.Proof.XattnOutClaim
public import proofs.«01_k».proof.Proof.PoolMeanClaim
public import proofs.«01_k».proof.Proof.FfnActClaim
public import proofs.«01_k».proof.Proof.MmNnClaim
public import proofs.«01_k».proof.Proof.MmNtClaim
public import proofs.«01_k».proof.Proof.MmKvClaim
public import proofs.«01_k».proof.Proof.MmDownClaim
public import proofs.«01_k».proof.Proof.MmTnClaim
public import proofs.«01_k».proof.Proof.MmKvDwClaim
public import proofs.«01_k».proof.Proof.AdamWClaim

@[expose] public section

noncomputable section

namespace Cert.Proof

theorem claim : Cert.Claim :=
  ⟨Cert.Attn.Gen.facts, Cert.AttnIdeal.Gen.facts, Cert.AttnRefIdeal.Gen.facts,
    Cert.NormRes.Gen.facts, Cert.NormResIdeal.Gen.facts, Cert.NormResRefIdeal.Gen.facts,
    Cert.NormMem.Gen.facts, Cert.NormMemIdeal.Gen.facts, Cert.NormMemRefIdeal.Gen.facts,
    Cert.QNorm.Gen.facts, Cert.QNormIdeal.Gen.facts, Cert.QNormRefIdeal.Gen.facts,
    Cert.QkvNorm.Gen.facts, Cert.QkvNormIdeal.Gen.facts, Cert.QkvNormRefIdeal.Gen.facts,
    Cert.UpNorm.Gen.facts, Cert.UpNormIdeal.Gen.facts, Cert.UpNormRefIdeal.Gen.facts,
    Cert.Loss.Gen.facts, Cert.LossIdeal.Gen.facts, Cert.LossRefIdeal.Gen.facts,
    Cert.PoolProj.Gen.facts, Cert.PoolProjIdeal.Gen.facts, Cert.PoolProjRefIdeal.Gen.facts,
    Cert.Xattn.Gen.facts, Cert.XattnIdeal.Gen.facts, Cert.XattnRefIdeal.Gen.facts,
    Cert.Ffn.Gen.facts, Cert.FfnIdeal.Gen.facts, Cert.FfnRefIdeal.Gen.facts,
    Cert.PoolWin.Gen.facts, Cert.PoolWinIdeal.Gen.facts, Cert.PoolWinRefIdeal.Gen.facts,
    Cert.NormFwd.Gen.facts, Cert.NormFwdIdeal.Gen.facts, Cert.NormFwdRefIdeal.Gen.facts,
    Cert.ResNorm.Gen.facts, Cert.ResNormIdeal.Gen.facts, Cert.ResNormRefIdeal.Gen.facts,
    Cert.PoolOut.Gen.facts, Cert.PoolOutIdeal.Gen.facts, Cert.PoolOutRefIdeal.Gen.facts,
    Cert.XattnOut.Gen.facts, Cert.XattnOutIdeal.Gen.facts, Cert.XattnOutRefIdeal.Gen.facts,
    Cert.PoolMean.Gen.facts, Cert.PoolMeanIdeal.Gen.facts, Cert.PoolMeanRefIdeal.Gen.facts,
    Cert.FfnAct.Gen.facts, Cert.FfnActIdeal.Gen.facts, Cert.FfnActRefIdeal.Gen.facts,
    Cert.MmNn.Gen.facts, Cert.MmNnIdeal.Gen.facts, Cert.MmNnRefIdeal.Gen.facts,
    Cert.MmNt.Gen.facts, Cert.MmNtIdeal.Gen.facts, Cert.MmNtRefIdeal.Gen.facts,
    Cert.MmKv.Gen.facts, Cert.MmKvIdeal.Gen.facts, Cert.MmKvRefIdeal.Gen.facts,
    Cert.MmDown.Gen.facts, Cert.MmDownIdeal.Gen.facts, Cert.MmDownRefIdeal.Gen.facts,
    Cert.MmTn.Gen.facts, Cert.MmTnIdeal.Gen.facts, Cert.MmTnRefIdeal.Gen.facts,
    Cert.MmKvDw.Gen.facts, Cert.MmKvDwIdeal.Gen.facts, Cert.MmKvDwRefIdeal.Gen.facts,
    Cert.AdamW.Gen.facts, Cert.AdamWIdeal.Gen.facts, Cert.AdamWRefIdeal.Gen.facts,
    Attn.pre_facts, Xattn.pre_facts, Ffn.pre_facts,
    PoolWin.pre_facts, XattnOut.pre_facts, PoolMean.pre_facts,
    Attn.frame, Attn.frameIdeal, Attn.frameIdealPre,
    Attn.frameRef, Attn.frameRefPre, NormRes.frame,
    NormRes.frameIdeal, NormRes.frameRef, NormMem.frame,
    NormMem.frameIdeal, NormMem.frameRef, QNorm.frame,
    QNorm.frameIdeal, QNorm.frameRef, QkvNorm.frame,
    QkvNorm.frameIdeal, QkvNorm.frameRef, UpNorm.frame,
    UpNorm.frameIdeal, UpNorm.frameRef, Loss.frame,
    Loss.frameIdeal, Loss.frameRef, PoolProj.frame,
    PoolProj.frameIdeal, PoolProj.frameRef, Xattn.frame,
    Xattn.frameIdeal, Xattn.frameIdealPre, Xattn.frameRef,
    Xattn.frameRefPre, Ffn.frame, Ffn.frameIdeal,
    Ffn.frameIdealPre, Ffn.frameRef, Ffn.frameRefPre,
    PoolWin.frame, PoolWin.frameIdeal, PoolWin.frameIdealPre,
    PoolWin.frameRef, PoolWin.frameRefPre, NormFwd.frame,
    NormFwd.frameIdeal, NormFwd.frameRef, ResNorm.frame,
    ResNorm.frameIdeal, ResNorm.frameRef, PoolOut.frame,
    PoolOut.frameIdeal, PoolOut.frameRef, XattnOut.frame,
    XattnOut.frameIdeal, XattnOut.frameIdealPre, XattnOut.frameRef,
    XattnOut.frameRefPre, PoolMean.frame, PoolMean.frameIdeal,
    PoolMean.frameIdealPre, PoolMean.frameRef, PoolMean.frameRefPre,
    FfnAct.frame, FfnAct.frameIdeal, FfnAct.frameRef,
    MmNn.frame, MmNn.frameIdeal, MmNn.frameRef,
    MmNt.frame, MmNt.frameIdeal, MmNt.frameRef,
    MmKv.frame, MmKv.frameIdeal, MmKv.frameRef,
    MmDown.frame, MmDown.frameIdeal, MmDown.frameRef,
    MmTn.frame, MmTn.frameIdeal, MmTn.frameRef,
    MmKvDw.frame, MmKvDw.frameIdeal, MmKvDw.frameRef,
    AdamW.frame, AdamW.frameIdeal, AdamW.frameRef,
    Attn.preserves, Attn.algebraic, NormRes.preserves,
    NormRes.algebraic, NormMem.preserves, NormMem.algebraic,
    QNorm.preserves, QNorm.algebraic, QkvNorm.preserves,
    QkvNorm.algebraic, UpNorm.preserves, UpNorm.algebraic,
    Loss.preserves, Loss.algebraic, PoolProj.preserves,
    PoolProj.algebraic, Xattn.preserves, Xattn.algebraic,
    Ffn.preserves, Ffn.algebraic, PoolWin.preserves,
    PoolWin.algebraic, NormFwd.preserves, NormFwd.algebraic,
    ResNorm.preserves, ResNorm.algebraic, PoolOut.preserves,
    PoolOut.algebraic, XattnOut.preserves, XattnOut.algebraic,
    PoolMean.preserves, PoolMean.algebraic, FfnAct.preserves,
    FfnAct.algebraic, MmNn.preserves, MmNn.algebraic,
    MmNt.preserves, MmNt.algebraic, MmKv.preserves,
    MmKv.algebraic, MmDown.preserves, MmDown.algebraic,
    MmTn.preserves, MmTn.algebraic, MmKvDw.preserves,
    MmKvDw.algebraic, AdamW.preserves, AdamW.algebraic⟩

end Cert.Proof

end
